-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_arange_sizes_finite [hPre_arange_sizes_finite : Cert.Pre_arange_sizes_finite.Facts] (m : (ℓ : Loc Cert.KernelIdeal.nD Cert.KernelIdeal.τ Cert.KernelIdeal.sig) → Buf (Elt Ideal) ℓ) : Prop :=
  ∀ c : Dev Cert.KernelIdeal.nD,
    (Cert.Pre_arange_sizes_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_arange_sizes_finite [hPre_arange_sizes_finite : Cert.Pre_arange_sizes_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_arange_sizes_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_arange_sizes_finite [hKernelIdeal : Cert.KernelIdeal.Facts] [hPre_arange_sizes_finite : Cert.Pre_arange_sizes_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_arange_sizes_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_arange_sizes_finite [hReferenceIdeal : Cert.ReferenceIdeal.Facts] [hPre_arange_sizes_finite : Cert.Pre_arange_sizes_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_arange_sizes_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_arange_sizes_finite [hKernelIdeal : Cert.KernelIdeal.Facts] [hReferenceIdeal : Cert.ReferenceIdeal.Facts] [hPre_arange_sizes_finite : Cert.Pre_arange_sizes_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_arange_sizes_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_arange_sizes_finite : Cert.Pre_arange_sizes_finite.Facts),
    quiescent_Kernel (hKernel := hKernel)
    ∧ quiescent_KernelIdeal (hKernelIdeal := hKernelIdeal)
    ∧ quiescent_KernelIdeal_pre_arange_sizes_finite (hKernelIdeal := hKernelIdeal) (hPre_arange_sizes_finite := hPre_arange_sizes_finite)
    ∧ quiescent_ReferenceIdeal (hReferenceIdeal := hReferenceIdeal)
    ∧ quiescent_ReferenceIdeal_pre_arange_sizes_finite (hReferenceIdeal := hReferenceIdeal) (hPre_arange_sizes_finite := hPre_arange_sizes_finite)
    ∧ preserves_Kernel_KernelIdeal
    ∧ algebraic_KernelIdeal_ReferenceIdeal_pre_arange_sizes_finite (hKernelIdeal := hKernelIdeal) (hReferenceIdeal := hReferenceIdeal) (hPre_arange_sizes_finite := hPre_arange_sizes_finite)
-- ==== Pre_arange_sizes_finite.lean ====
abbrev S319600x128 : Shape := ⟨2, ![319600, 128]⟩
abbrev S800 : Shape := ⟨1, ![800]⟩
abbrev S128x1 : Shape := ⟨2, ![128, 1]⟩
abbrev S_ : Shape := ⟨0, ![]⟩

class Facts : Prop where
  reducesTo_S800_S_d0 : S800.ReducesTo [0] S_
  h_S_ : 0 < S_.numel
  bcast_S_S319600x128 : S_.BroadcastsInDim S319600x128 (![] : Fin 0 → Fin S319600x128.rank)
  reducesTo_S319600x128_S_d0_1 : S319600x128.ReducesTo [0, 1] S_
  bcast_S_S128x1 : S_.BroadcastsInDim S128x1 (![] : Fin 0 → Fin S128x1.rank)
  reducesTo_S128x1_S_d0_1 : S128x1.ReducesTo [0, 1] S_

variable [Facts]

def fn {F : FTy → Type} [FloatOps F] (main_arg0 : FVec F S319600x128 .f32) (main_arg1 : IVec S800 32) (main_arg2 : FVec F S128x1 .f32) : IVec S_ 1 :=
  let main_v0 : IVec S800 32 := iotaInDim S800 32 0
  let main_v1 : IVec S800 1 := cmpi .eq main_arg1 main_v0
  let main_c : IVec S_ 1 := constantI S_ 1 1#1
  let main_v2 : IVec S_ 1 := (fun x v => Host.reduce IntOp.andi x v reducesTo_S800_S_d0 h_S_) main_v1 main_c
  let main_v3 : FVec F S319600x128 .f32 := Host.absf main_arg0
  let main_cst : FVec F S_ .f32 := constant S_ .f32 0x7F800000#32
  let main_v4 : FVec F S319600x128 .f32 := broadcastInDim S319600x128 ![] bcast_S_S319600x128 main_cst
  let main_v5 : IVec S319600x128 1 := cmpf .olt main_v3 main_v4
  let main_c_0 : IVec S_ 1 := constantI S_ 1 1#1
  let main_v6 : IVec S_ 1 := (fun x v => Host.reduce IntOp.andi x v reducesTo_S319600x128_S_d0_1 h_S_) main_v5 main_c_0
  let main_v7 : IVec S_ 1 := andi main_v2 main_v6
  let main_v8 : FVec F S128x1 .f32 := Host.absf main_arg2
  let main_cst_1 : FVec F S_ .f32 := constant S_ .f32 0x7F800000#32
  let main_v9 : FVec F S128x1 .f32 := broadcastInDim S128x1 ![] bcast_S_S128x1 main_cst_1
  let main_v10 : IVec S128x1 1 := cmpf .olt main_v8 main_v9
  let main_c_2 : IVec S_ 1 := constantI S_ 1 1#1
  let main_v11 : IVec S_ 1 := (fun x v => Host.reduce IntOp.andi x v reducesTo_S128x1_S_d0_1 h_S_) main_v10 main_c_2
  let main_v12 : IVec S_ 1 := andi main_v7 main_v11
  main_v12
-- ==== Kernel.lean ====
abbrev S319600x128 : Shape := ⟨2, ![319600, 128]⟩
abbrev S800 : Shape := ⟨1, ![800]⟩
abbrev S128x1 : Shape := ⟨2, ![128, 1]⟩
abbrev S40908800 : Shape := ⟨1, ![40908800]⟩
abbrev S128 : Shape := ⟨1, ![128]⟩
abbrev S102400 : Shape := ⟨1, ![102400]⟩
abbrev S34816 : Shape := ⟨1, ![34816]⟩
abbrev S19456 : Shape := ⟨1, ![19456]⟩
abbrev S_ : Shape := ⟨0, ![]⟩
abbrev S16 : Shape := ⟨1, ![16]⟩
abbrev S15 : Shape := ⟨1, ![15]⟩
abbrev S1 : Shape := ⟨1, ![1]⟩
abbrev S14 : Shape := ⟨1, ![14]⟩
abbrev S2 : Shape := ⟨1, ![2]⟩
abbrev S12 : Shape := ⟨1, ![12]⟩
abbrev S4 : Shape := ⟨1, ![4]⟩
abbrev S8 : Shape := ⟨1, ![8]⟩
abbrev S800x128 : Shape := ⟨2, ![800, 128]⟩

abbrev nBuf : Table → Nat
  | .hbm => 7
  | .local .scVector .vmem => 4
  | _ => 0

abbrev bufTy : (tb : Table) → Fin (nBuf tb) → BufTy
  | .hbm, ⟨0, _⟩ => ⟨S319600x128, .f32⟩
  | .hbm, ⟨1, _⟩ => ⟨S800, .i32⟩
  | .hbm, ⟨2, _⟩ => ⟨S128x1, .f32⟩
  | .hbm, ⟨3, _⟩ => ⟨S40908800, .f32⟩
  | .hbm, ⟨4, _⟩ => ⟨S128, .f32⟩
  | .hbm, ⟨5, _⟩ => ⟨S102400, .f32⟩
  | .hbm, ⟨6, _⟩ => ⟨S800x128, .f32⟩
  | .local .scVector .vmem, ⟨0, _⟩ => ⟨S34816, .f32⟩
  | .local .scVector .vmem, ⟨1, _⟩ => ⟨S34816, .f32⟩
  | .local .scVector .vmem, ⟨2, _⟩ => ⟨S128, .f32⟩
  | .local .scVector .vmem, ⟨3, _⟩ => ⟨S19456, .f32⟩
  | _, _ => ⟨S319600x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_17 : BitVec 32 := 0#32
  let c800_i32 : BitVec 32 := 800#32
  let v55 : BitVec 32 := Scalar.addi c0_i32_17 c800_i32
  let c1_i32_18 : BitVec 32 := 1#32
  ⟨c0_i32_17, v55, c1_i32_18⟩
def k0_off1 (v56_1 : BitVec 32) : Fin 1 → Nat :=
  let c0_i32_76 : BitVec 32 := 0#32
  let v217 : BitVec 32 := Scalar.addi v56_1 c0_i32_76
  let c319328_i32 : BitVec 32 := 319328#32
  let v218 : BitVec 32 := Scalar.minsi v217 c319328_i32
  let c128_i32_77 : BitVec 32 := 128#32
  let v219 : BitVec 32 := Scalar.muli v218 c128_i32_77
  ![v219.toNat]
def k0_cond1 (v56_3 : BitVec 32) (v56_1 : BitVec 32) : BitVec 1 :=
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c0_i32_34 : BitVec 32 := 0#32
  let v96 : BitVec 1 := Scalar.cmpi .sgt v76 c0_i32_34
  let v97 : BitVec 32 := Scalar.extui v96
  let c0_i32_35 : BitVec 32 := 0#32
  let v98 : BitVec 1 := Scalar.cmpi .ne v97 c0_i32_35
  v98

def k0_off2 (v56_1 : BitVec 32) : Fin 1 → Nat :=
  let c272_i32_76 : BitVec 32 := 272#32
  let v217 : BitVec 32 := Scalar.addi v56_1 c272_i32_76
  let c319328_i32 : BitVec 32 := 319328#32
  let v218 : BitVec 32 := Scalar.minsi v217 c319328_i32
  let c128_i32_77 : BitVec 32 := 128#32
  let v219 : BitVec 32 := Scalar.muli v218 c128_i32_77
  ![v219.toNat]
def k0_cond2 (v56_3 : BitVec 32) (v56_1 : BitVec 32) : BitVec 1 :=
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_36 : BitVec 32 := 1#32
  let v99 : BitVec 1 := Scalar.cmpi .sgt v76 c1_i32_36
  let v100 : BitVec 32 := Scalar.extui v99
  let c0_i32_37 : BitVec 32 := 0#32
  let v101 : BitVec 1 := Scalar.cmpi .ne v100 c0_i32_37
  v101

@[reducible] def k0_t2_loop (v56_3 : BitVec 32) (v56_1 : BitVec 32) : Scf.Loop 32 :=
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_48 : BitVec 32 := 1#32
  ⟨c0_i32_46, v124, c1_i32_48⟩
@[reducible] def k0_t3_loop (v56_3 : BitVec 32) (v56_1 : BitVec 32) (k0_t2 : Fin (k0_t2_loop v56_3 v56_1).trips) : Scf.Loop 32 :=
  let c0_i32_90 : BitVec 32 := 0#32
  let c2_i32_76 : BitVec 32 := 2#32
  let c0_i32_46 : BitVec 32 := 0#32
  let c1_i32_48 : BitVec 32 := 1#32
  let arg12 : BitVec 32 := Scf.iv c0_i32_46 c1_i32_48 k0_t2
  let v217 : BitVec 32 := Scalar.muli c2_i32_76 arg12
  let c272_i32_81 : BitVec 32 := 272#32
  let v222 : BitVec 32 := Scalar.muli v217 c272_i32_81
  let v223 : BitVec 32 := Scalar.addi v56_1 v222
  let c272_i32_82 : BitVec 32 := 272#32
  let v225 : BitVec 32 := Scalar.addi v223 c272_i32_82
  let v226 : BitVec 32 := Scalar.minsi v225 v56_3
  let v227 : BitVec 32 := Scalar.subi v226 v223
  let c0_i32_83 : BitVec 32 := 0#32
  let v228 : BitVec 32 := Scalar.maxsi v227 c0_i32_83
  let c0_i32_84 : BitVec 32 := 0#32
  let v230 : BitVec 1 := Scalar.cmpi .sgt v228 c0_i32_84
  let v231 : BitVec 32 := Scalar.extui v230
  let c0_i32_85 : BitVec 32 := 0#32
  let v232 : BitVec 1 := Scalar.cmpi .slt v228 c0_i32_85
  let v233 : BitVec 32 := Scalar.extui v232
  let v234 : BitVec 32 := Scalar.subi v231 v233
  let c6_i32 : BitVec 32 := 6#32
  let c0_i32_86 : BitVec 32 := 0#32
  let v235 : BitVec 1 := Scalar.cmpi .sgt c6_i32 c0_i32_86
  let v236 : BitVec 32 := Scalar.extui v235
  let c0_i32_87 : BitVec 32 := 0#32
  let v237 : BitVec 1 := Scalar.cmpi .slt c6_i32 c0_i32_87
  let v238 : BitVec 32 := Scalar.extui v237
  let v239 : BitVec 32 := Scalar.subi v236 v238
  let v240 : BitVec 1 := Scalar.cmpi .ne v234 v239
  let v241 : BitVec 32 := Scalar.remsi v228 c6_i32
  let c0_i32_88 : BitVec 32 := 0#32
  let v242 : BitVec 1 := Scalar.cmpi .ne v241 c0_i32_88
  let v243 : BitVec 1 := Scalar.andi v240 v242
  let v229 : BitVec 32 := Scalar.divsi v228 c6_i32
  let c1_i32_89 : BitVec 32 := 1#32
  let v244 : BitVec 32 := Scalar.subi v229 c1_i32_89
  let v245 : BitVec 32 := Scalar.select v243 v244 v229
  let v246 : BitVec 32 := Scalar.subi v245 c0_i32_90
  let c1_i32_91 : BitVec 32 := 1#32
  let v248 : BitVec 32 := Scalar.divsi v246 c1_i32_91
  let v249 : BitVec 32 := Scalar.muli v248 c1_i32_91
  let v250 : BitVec 32 := Scalar.addi c0_i32_90 v249
  let c1_i32_92 : BitVec 32 := 1#32
  ⟨c0_i32_90, v250, c1_i32_92⟩
def k0_off3 (v56_3 : BitVec 32) (v56_1 : BitVec 32) (k0_t2 : Fin (k0_t2_loop v56_3 v56_1).trips) (k0_t3 : Fin (k0_t3_loop v56_3 v56_1 k0_t2).trips) (c0_i32_123 : BitVec 32) (c0_i32_125 : BitVec 32) : Fin 1 → Nat :=
  let c2_i32_76 : BitVec 32 := 2#32
  let c0_i32_46 : BitVec 32 := 0#32
  let c1_i32_48 : BitVec 32 := 1#32
  let arg12 : BitVec 32 := Scf.iv c0_i32_46 c1_i32_48 k0_t2
  let v217 : BitVec 32 := Scalar.muli c2_i32_76 arg12
  let c272_i32_81 : BitVec 32 := 272#32
  let v222 : BitVec 32 := Scalar.muli v217 c272_i32_81
  let v223 : BitVec 32 := Scalar.addi v56_1 v222
  let c0_i32_90 : BitVec 32 := 0#32
  let c1_i32_92 : BitVec 32 := 1#32
  let arg24 : BitVec 32 := Scf.iv c0_i32_90 c1_i32_92 k0_t3
  let c6_i32_122 : BitVec 32 := 6#32
  let v315 : BitVec 32 := Scalar.muli arg24 c6_i32_122
  let v316 : BitVec 32 := Scalar.addi v223 v315
  let c319328_i32 : BitVec 32 := 319328#32
  let v224 : BitVec 32 := Scalar.minsi v223 c319328_i32
  let v317 : BitVec 32 := Scalar.subi v316 v224
  let v318 : BitVec 32 := Scalar.addi v317 c0_i32_123
  let c128_i32_124 : BitVec 32 := 128#32
  let v319 : BitVec 32 := Scalar.muli v318 c128_i32_124
  let v320 : BitVec 32 := Scalar.addi v319 c0_i32_125
  let v321 : Index := Scalar.indexCast v320
  ![v321.toNat]
def k0_off4 (v56_0 : BitVec 32) (arg34 : BitVec 32) (c0_i32_251 : BitVec 32) : Fin 1 → Nat :=
  let v1025 : BitVec 32 := Scalar.subi arg34 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond3 (v56_3 : BitVec 32) (v56_1 : BitVec 32) (k0_t2 : Fin (k0_t2_loop v56_3 v56_1).trips) (k0_t3 : Fin (k0_t3_loop v56_3 v56_1 k0_t2).trips) (arg35 : BitVec 32) : BitVec 1 :=
  let c2_i32_76 : BitVec 32 := 2#32
  let c0_i32_46 : BitVec 32 := 0#32
  let c1_i32_48 : BitVec 32 := 1#32
  let arg12 : BitVec 32 := Scf.iv c0_i32_46 c1_i32_48 k0_t2
  let v217 : BitVec 32 := Scalar.muli c2_i32_76 arg12
  let c272_i32_81 : BitVec 32 := 272#32
  let v222 : BitVec 32 := Scalar.muli v217 c272_i32_81
  let v223 : BitVec 32 := Scalar.addi v56_1 v222
  let c0_i32_90 : BitVec 32 := 0#32
  let c1_i32_92 : BitVec 32 := 1#32
  let arg24 : BitVec 32 := Scf.iv c0_i32_90 c1_i32_92 k0_t3
  let c6_i32_122 : BitVec 32 := 6#32
  let v315 : BitVec 32 := Scalar.muli arg24 c6_i32_122
  let v316 : BitVec 32 := Scalar.addi v223 v315
  let c0_i32_235 : BitVec 32 := 0#32
  let v887 : BitVec 32 := Scalar.addi v316 c0_i32_235
  let v888 : BitVec 1 := Scalar.cmpi .eq v887 arg35
  let v889 : BitVec 32 := Scalar.extui v888
  let c0_i32_236 : BitVec 32 := 0#32
  let v890 : BitVec 1 := Scalar.cmpi .ne v889 c0_i32_236
  v890

def k0_chk2 (v56_3 : BitVec 32) (v56_1 : BitVec 32) (v56_0 : BitVec 32) (k0_t2 : Fin (k0_t2_loop v56_3 v56_1).trips) (k0_t3 : Fin (k0_t3_loop v56_3 v56_1 k0_t2).trips) (arg34 : BitVec 32) (arg35 : BitVec 32) : Prop :=
  (∀ (k0_h3 : k0_cond3 v56_3 v56_1 k0_t2 k0_t3 arg35 = 1#1), ∀ (r : Fin 8), ∀ a, (k0_off4 v56_0 arg34 (BitVec.ofNat 32 (16 * r.val))) a + S16.size a ≤ S19456.size a)
theorem k0_off4_inb : ∀ (v56_3 : BitVec 32) (v56_1 : BitVec 32) (v56_0 : BitVec 32) (k0_t2 : Fin (k0_t2_loop v56_3 v56_1).trips) (k0_t3 : Fin (k0_t3_loop v56_3 v56_1 k0_t2).trips) (arg34 : BitVec 32) (arg35 : BitVec 32) (k0_hw2 : k0_chk2 v56_3 v56_1 v56_0 k0_t2 k0_t3 arg34 arg35), ∀ (k0_h3 : k0_cond3 v56_3 v56_1 k0_t2 k0_t3 arg35 = 1#1), ∀ (r : Fin 8), ∀ a, (k0_off4 v56_0 arg34 (BitVec.ofNat 32 (16 * r.val))) a + S16.size a ≤ S19456.size a := fun v56_3 v56_1 v56_0 k0_t2 k0_t3 arg34 arg35 k0_hw2 k0_h3 r => k0_hw2 k0_h3 r

def k0_off5 (v56_0 : BitVec 32) (v891_9 : BitVec 32) (c0_i32_251 : BitVec 32) : Fin 1 → Nat :=
  let v1025 : BitVec 32 := Scalar.subi v891_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond4 (v56_3 : BitVec 32) (v56_1 : BitVec 32) (k0_t2 : Fin (k0_t2_loop v56_3 v56_1).trips) (k0_t3 : Fin (k0_t3_loop v56_3 v56_1 k0_t2).trips) (v891_10 : BitVec 32) : BitVec 1 :=
  let c2_i32_76 : BitVec 32 := 2#32
  let c0_i32_46 : BitVec 32 := 0#32
  let c1_i32_48 : BitVec 32 := 1#32
  let arg12 : BitVec 32 := Scf.iv c0_i32_46 c1_i32_48 k0_t2
  let v217 : BitVec 32 := Scalar.muli c2_i32_76 arg12
  let c272_i32_81 : BitVec 32 := 272#32
  let v222 : BitVec 32 := Scalar.muli v217 c272_i32_81
  let v223 : BitVec 32 := Scalar.addi v56_1 v222
  let c0_i32_90 : BitVec 32 := 0#32
  let c1_i32_92 : BitVec 32 := 1#32
  let arg24 : BitVec 32 := Scf.iv c0_i32_90 c1_i32_92 k0_t3
  let c6_i32_122 : BitVec 32 := 6#32
  let v315 : BitVec 32 := Scalar.muli arg24 c6_i32_122
  let v316 : BitVec 32 := Scalar.addi v223 v315
  let c1_i32_237 : BitVec 32 := 1#32
  let v909 : BitVec 32 := Scalar.addi v316 c1_i32_237
  let v910 : BitVec 1 := Scalar.cmpi .eq v909 v891_10
  let v911 : BitVec 32 := Scalar.extui v910
  let c0_i32_238 : BitVec 32 := 0#32
  let v912 : BitVec 1 := Scalar.cmpi .ne v911 c0_i32_238
  v912

def k0_chk3 (v56_3 : BitVec 32) (v56_1 : BitVec 32) (v56_0 : BitVec 32) (k0_t2 : Fin (k0_t2_loop v56_3 v56_1).trips) (k0_t3 : Fin (k0_t3_loop v56_3 v56_1 k0_t2).trips) (v891_10 : BitVec 32) (v891_9 : BitVec 32) : Prop :=
  (∀ (k0_h4 : k0_cond4 v56_3 v56_1 k0_t2 k0_t3 v891_10 = 1#1), ∀ (r : Fin 8), ∀ a, (k0_off5 v56_0 v891_9 (BitVec.ofNat 32 (16 * r.val))) a + S16.size a ≤ S19456.size a)
theorem k0_off5_inb : ∀ (v56_3 : BitVec 32) (v56_1 : BitVec 32) (v56_0 : BitVec 32) (k0_t2 : Fin (k0_t2_loop v56_3 v56_1).trips) (k0_t3 : Fin (k0_t3_loop v56_3 v56_1 k0_t2).trips) (v891_10 : BitVec 32) (v891_9 : BitVec 32) (k0_hw3 : k0_chk3 v56_3 v56_1 v56_0 k0_t2 k0_t3 v891_10 v891_9), ∀ (k0_h4 : k0_cond4 v56_3 v56_1 k0_t2 k0_t3 v891_10 = 1#1), ∀ (r : Fin 8), ∀ a, (k0_off5 v56_0 v891_9 (BitVec.ofNat 32 (16 * r.val))) a + S16.size a ≤ S19456.size a := fun v56_3 v56_1 v56_0 k0_t2 k0_t3 v891_10 v891_9 k0_hw3 k0_h4 r => k0_hw3 k0_h4 r

def k0_off6 (v56_0 : BitVec 32) (v913_9 : BitVec 32) (c0_i32_251 : BitVec 32) : Fin 1 → Nat :=
  let v1025 : BitVec 32 := Scalar.subi v913_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond5 (v56_3 : BitVec 32) (v56_1 : BitVec 32) (k0_t2 : Fin (k0_t2_loop v56_3 v56_1).trips) (k0_t3 : Fin (k0_t3_loop v56_3 v56_1 k0_t2).trips) (v913_10 : BitVec 32) : BitVec 1 :=
  let c2_i32_76 : BitVec 32 := 2#32
  let c0_i32_46 : BitVec 32 := 0#32
  let c1_i32_48 : BitVec 32 := 1#32
  let arg12 : BitVec 32 := Scf.iv c0_i32_46 c1_i32_48 k0_t2
  let v217 : BitVec 32 := Scalar.muli c2_i32_76 arg12
  let c272_i32_81 : BitVec 32 := 272#32
  let v222 : BitVec 32 := Scalar.muli v217 c272_i32_81
  let v223 : BitVec 32 := Scalar.addi v56_1 v222
  let c0_i32_90 : BitVec 32 := 0#32
  let c1_i32_92 : BitVec 32 := 1#32
  let arg24 : BitVec 32 := Scf.iv c0_i32_90 c1_i32_92 k0_t3
  let c6_i32_122 : BitVec 32 := 6#32
  let v315 : BitVec 32 := Scalar.muli arg24 c6_i32_122
  let v316 : BitVec 32 := Scalar.addi v223 v315
  let c2_i32_239 : BitVec 32 := 2#32
  let v931 : BitVec 32 := Scalar.addi v316 c2_i32_239
  let v932 : BitVec 1 := Scalar.cmpi .eq v931 v913_10
  let v933 : BitVec 32 := Scalar.extui v932
  let c0_i32_240 : BitVec 32 := 0#32
  let v934 : BitVec 1 := Scalar.cmpi .ne v933 c0_i32_240
  v934

def k0_chk4 (v56_3 : BitVec 32) (v56_1 : BitVec 32) (v56_0 : BitVec 32) (k0_t2 : Fin (k0_t2_loop v56_3 v56_1).trips) (k0_t3 : Fin (k0_t3_loop v56_3 v56_1 k0_t2).trips) (v913_10 : BitVec 32) (v913_9 : BitVec 32) : Prop :=
  (∀ (k0_h5 : k0_cond5 v56_3 v56_1 k0_t2 k0_t3 v913_10 = 1#1), ∀ (r : Fin 8), ∀ a, (k0_off6 v56_0 v913_9 (BitVec.ofNat 32 (16 * r.val))) a + S16.size a ≤ S19456.size a)
theorem k0_off6_inb : ∀ (v56_3 : BitVec 32) (v56_1 : BitVec 32) (v56_0 : BitVec 32) (k0_t2 : Fin (k0_t2_loop v56_3 v56_1).trips) (k0_t3 : Fin (k0_t3_loop v56_3 v56_1 k0_t2).trips) (v913_10 : BitVec 32) (v913_9 : BitVec 32) (k0_hw4 : k0_chk4 v56_3 v56_1 v56_0 k0_t2 k0_t3 v913_10 v913_9), ∀ (k0_h5 : k0_cond5 v56_3 v56_1 k0_t2 k0_t3 v913_10 = 1#1), ∀ (r : Fin 8), ∀ a, (k0_off6 v56_0 v913_9 (BitVec.ofNat 32 (16 * r.val))) a + S16.size a ≤ S19456.size a := fun v56_3 v56_1 v56_0 k0_t2 k0_t3 v913_10 v913_9 k0_hw4 k0_h5 r => k0_hw4 k0_h5 r

def k0_off7 (v56_0 : BitVec 32) (v935_9 : BitVec 32) (c0_i32_251 : BitVec 32) : Fin 1 → Nat :=
  let v1025 : BitVec 32 := Scalar.subi v935_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond6 (v56_3 : BitVec 32) (v56_1 : BitVec 32) (k0_t2 : Fin (k0_t2_loop v56_3 v56_1).trips) (k0_t3 : Fin (k0_t3_loop v56_3 v56_1 k0_t2).trips) (v935_10 : BitVec 32) : BitVec 1 :=
  let c2_i32_76 : BitVec 32 := 2#32
  let c0_i32_46 : BitVec 32 := 0#32
  let c1_i32_48 : BitVec 32 := 1#32
  let arg12 : BitVec 32 := Scf.iv c0_i32_46 c1_i32_48 k0_t2
  let v217 : BitVec 32 := Scalar.muli c2_i32_76 arg12
  let c272_i32_81 : BitVec 32 := 272#32
  let v222 : BitVec 32 := Scalar.muli v217 c272_i32_81
  let v223 : BitVec 32 := Scalar.addi v56_1 v222
  let c0_i32_90 : BitVec 32 := 0#32
  let c1_i32_92 : BitVec 32 := 1#32
  let arg24 : BitVec 32 := Scf.iv c0_i32_90 c1_i32_92 k0_t3
  let c6_i32_122 : BitVec 32 := 6#32
  let v315 : BitVec 32 := Scalar.muli arg24 c6_i32_122
  let v316 : BitVec 32 := Scalar.addi v223 v315
  let c3_i32_241 : BitVec 32 := 3#32
  let v953 : BitVec 32 := Scalar.addi v316 c3_i32_241
  let v954 : BitVec 1 := Scalar.cmpi .eq v953 v935_10
  let v955 : BitVec 32 := Scalar.extui v954
  let c0_i32_242 : BitVec 32 := 0#32
  let v956 : BitVec 1 := Scalar.cmpi .ne v955 c0_i32_242
  v956

def k0_chk5 (v56_3 : BitVec 32) (v56_1 : BitVec 32) (v56_0 : BitVec 32) (k0_t2 : Fin (k0_t2_loop v56_3 v56_1).trips) (k0_t3 : Fin (k0_t3_loop v56_3 v56_1 k0_t2).trips) (v935_10 : BitVec 32) (v935_9 : BitVec 32) : Prop :=
  (∀ (k0_h6 : k0_cond6 v56_3 v56_1 k0_t2 k0_t3 v935_10 = 1#1), ∀ (r : Fin 8), ∀ a, (k0_off7 v56_0 v935_9 (BitVec.ofNat 32 (16 * r.val))) a + S16.size a ≤ S19456.size a)
theorem k0_off7_inb : ∀ (v56_3 : BitVec 32) (v56_1 : BitVec 32) (v56_0 : BitVec 32) (k0_t2 : Fin (k0_t2_loop v56_3 v56_1).trips) (k0_t3 : Fin (k0_t3_loop v56_3 v56_1 k0_t2).trips) (v935_10 : BitVec 32) (v935_9 : BitVec 32) (k0_hw5 : k0_chk5 v56_3 v56_1 v56_0 k0_t2 k0_t3 v935_10 v935_9), ∀ (k0_h6 : k0_cond6 v56_3 v56_1 k0_t2 k0_t3 v935_10 = 1#1), ∀ (r : Fin 8), ∀ a, (k0_off7 v56_0 v935_9 (BitVec.ofNat 32 (16 * r.val))) a + S16.size a ≤ S19456.size a := fun v56_3 v56_1 v56_0 k0_t2 k0_t3 v935_10 v935_9 k0_hw5 k0_h6 r => k0_hw5 k0_h6 r

def k0_off8 (v56_0 : BitVec 32) (v957_9 : BitVec 32) (c0_i32_251 : BitVec 32) : Fin 1 → Nat :=
  let v1025 : BitVec 32 := Scalar.subi v957_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond7 (v56_3 : BitVec 32) (v56_1 : BitVec 32) (k0_t2 : Fin (k0_t2_loop v56_3 v56_1).trips) (k0_t3 : Fin (k0_t3_loop v56_3 v56_1 k0_t2).trips) (v957_10 : BitVec 32) : BitVec 1 :=
  let c2_i32_76 : BitVec 32 := 2#32
  let c0_i32_46 : BitVec 32 := 0#32
  let c1_i32_48 : BitVec 32 := 1#32
  let arg12 : BitVec 32 := Scf.iv c0_i32_46 c1_i32_48 k0_t2
  let v217 : BitVec 32 := Scalar.muli c2_i32_76 arg12
  let c272_i32_81 : BitVec 32 := 272#32
  let v222 : BitVec 32 := Scalar.muli v217 c272_i32_81
  let v223 : BitVec 32 := Scalar.addi v56_1 v222
  let c0_i32_90 : BitVec 32 := 0#32
  let c1_i32_92 : BitVec 32 := 1#32
  let arg24 : BitVec 32 := Scf.iv c0_i32_90 c1_i32_92 k0_t3
  let c6_i32_122 : BitVec 32 := 6#32
  let v315 : BitVec 32 := Scalar.muli arg24 c6_i32_122
  let v316 : BitVec 32 := Scalar.addi v223 v315
  let c4_i32_243 : BitVec 32 := 4#32
  let v975 : BitVec 32 := Scalar.addi v316 c4_i32_243
  let v976 : BitVec 1 := Scalar.cmpi .eq v975 v957_10
  let v977 : BitVec 32 := Scalar.extui v976
  let c0_i32_244 : BitVec 32 := 0#32
  let v978 : BitVec 1 := Scalar.cmpi .ne v977 c0_i32_244
  v978

def k0_chk6 (v56_3 : BitVec 32) (v56_1 : BitVec 32) (v56_0 : BitVec 32) (k0_t2 : Fin (k0_t2_loop v56_3 v56_1).trips) (k0_t3 : Fin (k0_t3_loop v56_3 v56_1 k0_t2).trips) (v957_10 : BitVec 32) (v957_9 : BitVec 32) : Prop :=
  (∀ (k0_h7 : k0_cond7 v56_3 v56_1 k0_t2 k0_t3 v957_10 = 1#1), ∀ (r : Fin 8), ∀ a, (k0_off8 v56_0 v957_9 (BitVec.ofNat 32 (16 * r.val))) a + S16.size a ≤ S19456.size a)
theorem k0_off8_inb : ∀ (v56_3 : BitVec 32) (v56_1 : BitVec 32) (v56_0 : BitVec 32) (k0_t2 : Fin (k0_t2_loop v56_3 v56_1).trips) (k0_t3 : Fin (k0_t3_loop v56_3 v56_1 k0_t2).trips) (v957_10 : BitVec 32) (v957_9 : BitVec 32) (k0_hw6 : k0_chk6 v56_3 v56_1 v56_0 k0_t2 k0_t3 v957_10 v957_9), ∀ (k0_h7 : k0_cond7 v56_3 v56_1 k0_t2 k0_t3 v957_10 = 1#1), ∀ (r : Fin 8), ∀ a, (k0_off8 v56_0 v957_9 (BitVec.ofNat 32 (16 * r.val))) a + S16.size a ≤ S19456.size a := fun v56_3 v56_1 v56_0 k0_t2 k0_t3 v957_10 v957_9 k0_hw6 k0_h7 r => k0_hw6 k0_h7 r

def k0_off9 (v56_0 : BitVec 32) (v979_9 : BitVec 32) (c0_i32_251 : BitVec 32) : Fin 1 → Nat :=
  let v1025 : BitVec 32 := Scalar.subi v979_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond8 (v56_3 : BitVec 32) (v56_1 : BitVec 32) (k0_t2 : Fin (k0_t2_loop v56_3 v56_1).trips) (k0_t3 : Fin (k0_t3_loop v56_3 v56_1 k0_t2).trips) (v979_10 : BitVec 32) : BitVec 1 :=
  let c2_i32_76 : BitVec 32 := 2#32
  let c0_i32_46 : BitVec 32 := 0#32
  let c1_i32_48 : BitVec 32 := 1#32
  let arg12 : BitVec 32 := Scf.iv c0_i32_46 c1_i32_48 k0_t2
  let v217 : BitVec 32 := Scalar.muli c2_i32_76 arg12
  let c272_i32_81 : BitVec 32 := 272#32
  let v222 : BitVec 32 := Scalar.muli v217 c272_i32_81
  let v223 : BitVec 32 := Scalar.addi v56_1 v222
  let c0_i32_90 : BitVec 32 := 0#32
  let c1_i32_92 : BitVec 32 := 1#32
  let arg24 : BitVec 32 := Scf.iv c0_i32_90 c1_i32_92 k0_t3
  let c6_i32_122 : BitVec 32 := 6#32
  let v315 : BitVec 32 := Scalar.muli arg24 c6_i32_122
  let v316 : BitVec 32 := Scalar.addi v223 v315
  let c5_i32_245 : BitVec 32 := 5#32
  let v997 : BitVec 32 := Scalar.addi v316 c5_i32_245
  let v998 : BitVec 1 := Scalar.cmpi .eq v997 v979_10
  let v999 : BitVec 32 := Scalar.extui v998
  let c0_i32_246 : BitVec 32 := 0#32
  let v1000 : BitVec 1 := Scalar.cmpi .ne v999 c0_i32_246
  v1000

def k0_chk7 (v56_3 : BitVec 32) (v56_1 : BitVec 32) (v56_0 : BitVec 32) (k0_t2 : Fin (k0_t2_loop v56_3 v56_1).trips) (k0_t3 : Fin (k0_t3_loop v56_3 v56_1 k0_t2).trips) (v979_10 : BitVec 32) (v979_9 : BitVec 32) : Prop :=
  (∀ (k0_h8 : k0_cond8 v56_3 v56_1 k0_t2 k0_t3 v979_10 = 1#1), ∀ (r : Fin 8), ∀ a, (k0_off9 v56_0 v979_9 (BitVec.ofNat 32 (16 * r.val))) a + S16.size a ≤ S19456.size a)
theorem k0_off9_inb : ∀ (v56_3 : BitVec 32) (v56_1 : BitVec 32) (v56_0 : BitVec 32) (k0_t2 : Fin (k0_t2_loop v56_3 v56_1).trips) (k0_t3 : Fin (k0_t3_loop v56_3 v56_1 k0_t2).trips) (v979_10 : BitVec 32) (v979_9 : BitVec 32) (k0_hw7 : k0_chk7 v56_3 v56_1 v56_0 k0_t2 k0_t3 v979_10 v979_9), ∀ (k0_h8 : k0_cond8 v56_3 v56_1 k0_t2 k0_t3 v979_10 = 1#1), ∀ (r : Fin 8), ∀ a, (k0_off9 v56_0 v979_9 (BitVec.ofNat 32 (16 * r.val))) a + S16.size a ≤ S19456.size a := fun v56_3 v56_1 v56_0 k0_t2 k0_t3 v979_10 v979_9 k0_hw7 k0_h8 r => k0_hw7 k0_h8 r

@[reducible] def k0_t4_loop (v56_3 : BitVec 32) (v56_1 : BitVec 32) (k0_t2 : Fin (k0_t2_loop v56_3 v56_1).trips) : Scf.Loop 32 :=
  let c0_i32_90 : BitVec 32 := 0#32
  let c2_i32_76 : BitVec 32 := 2#32
  let c0_i32_46 : BitVec 32 := 0#32
  let c1_i32_48 : BitVec 32 := 1#32
  let arg12 : BitVec 32 := Scf.iv c0_i32_46 c1_i32_48 k0_t2
  let v217 : BitVec 32 := Scalar.muli c2_i32_76 arg12
  let c272_i32_81 : BitVec 32 := 272#32
  let v222 : BitVec 32 := Scalar.muli v217 c272_i32_81
  let v223 : BitVec 32 := Scalar.addi v56_1 v222
  let c272_i32_82 : BitVec 32 := 272#32
  let v225 : BitVec 32 := Scalar.addi v223 c272_i32_82
  let v226 : BitVec 32 := Scalar.minsi v225 v56_3
  let v227 : BitVec 32 := Scalar.subi v226 v223
  let c0_i32_83 : BitVec 32 := 0#32
  let v228 : BitVec 32 := Scalar.maxsi v227 c0_i32_83
  let c0_i32_84 : BitVec 32 := 0#32
  let v230 : BitVec 1 := Scalar.cmpi .sgt v228 c0_i32_84
  let v231 : BitVec 32 := Scalar.extui v230
  let c0_i32_85 : BitVec 32 := 0#32
  let v232 : BitVec 1 := Scalar.cmpi .slt v228 c0_i32_85
  let v233 : BitVec 32 := Scalar.extui v232
  let v234 : BitVec 32 := Scalar.subi v231 v233
  let c6_i32 : BitVec 32 := 6#32
  let c0_i32_86 : BitVec 32 := 0#32
  let v235 : BitVec 1 := Scalar.cmpi .sgt c6_i32 c0_i32_86
  let v236 : BitVec 32 := Scalar.extui v235
  let c0_i32_87 : BitVec 32 := 0#32
  let v237 : BitVec 1 := Scalar.cmpi .slt c6_i32 c0_i32_87
  let v238 : BitVec 32 := Scalar.extui v237
  let v239 : BitVec 32 := Scalar.subi v236 v238
  let v240 : BitVec 1 := Scalar.cmpi .ne v234 v239
  let v241 : BitVec 32 := Scalar.remsi v228 c6_i32
  let c0_i32_88 : BitVec 32 := 0#32
  let v242 : BitVec 1 := Scalar.cmpi .ne v241 c0_i32_88
  let v243 : BitVec 1 := Scalar.andi v240 v242
  let v229 : BitVec 32 := Scalar.divsi v228 c6_i32
  let c1_i32_89 : BitVec 32 := 1#32
  let v244 : BitVec 32 := Scalar.subi v229 c1_i32_89
  let v245 : BitVec 32 := Scalar.select v243 v244 v229
  let v246 : BitVec 32 := Scalar.subi v245 c0_i32_90
  let c1_i32_91 : BitVec 32 := 1#32
  let v248 : BitVec 32 := Scalar.divsi v246 c1_i32_91
  let v249 : BitVec 32 := Scalar.muli v248 c1_i32_91
  let v250 : BitVec 32 := Scalar.addi c0_i32_90 v249
  let v247 : BitVec 32 := Scalar.addi c0_i32_90 v246
  let c1_i32_93 : BitVec 32 := 1#32
  ⟨v250, v247, c1_i32_93⟩
def k0_off10 (v56_3 : BitVec 32) (v56_1 : BitVec 32) (k0_t2 : Fin (k0_t2_loop v56_3 v56_1).trips) (k0_t4 : Fin (k0_t4_loop v56_3 v56_1 k0_t2).trips) (c0_i32_123 : BitVec 32) (c0_i32_125 : BitVec 32) : Fin 1 → Nat :=
  let c2_i32_76 : BitVec 32 := 2#32
  let c0_i32_46 : BitVec 32 := 0#32
  let c1_i32_48 : BitVec 32 := 1#32
  let arg12 : BitVec 32 := Scf.iv c0_i32_46 c1_i32_48 k0_t2
  let v217 : BitVec 32 := Scalar.muli c2_i32_76 arg12
  let c272_i32_81 : BitVec 32 := 272#32
  let v222 : BitVec 32 := Scalar.muli v217 c272_i32_81
  let v223 : BitVec 32 := Scalar.addi v56_1 v222
  let c0_i32_90 : BitVec 32 := 0#32
  let c272_i32_82 : BitVec 32 := 272#32
  let v225 : BitVec 32 := Scalar.addi v223 c272_i32_82
  let v226 : BitVec 32 := Scalar.minsi v225 v56_3
  let v227 : BitVec 32 := Scalar.subi v226 v223
  let c0_i32_83 : BitVec 32 := 0#32
  let v228 : BitVec 32 := Scalar.maxsi v227 c0_i32_83
  let c0_i32_84 : BitVec 32 := 0#32
  let v230 : BitVec 1 := Scalar.cmpi .sgt v228 c0_i32_84
  let v231 : BitVec 32 := Scalar.extui v230
  let c0_i32_85 : BitVec 32 := 0#32
  let v232 : BitVec 1 := Scalar.cmpi .slt v228 c0_i32_85
  let v233 : BitVec 32 := Scalar.extui v232
  let v234 : BitVec 32 := Scalar.subi v231 v233
  let c6_i32 : BitVec 32 := 6#32
  let c0_i32_86 : BitVec 32 := 0#32
  let v235 : BitVec 1 := Scalar.cmpi .sgt c6_i32 c0_i32_86
  let v236 : BitVec 32 := Scalar.extui v235
  let c0_i32_87 : BitVec 32 := 0#32
  let v237 : BitVec 1 := Scalar.cmpi .slt c6_i32 c0_i32_87
  let v238 : BitVec 32 := Scalar.extui v237
  let v239 : BitVec 32 := Scalar.subi v236 v238
  let v240 : BitVec 1 := Scalar.cmpi .ne v234 v239
  let v241 : BitVec 32 := Scalar.remsi v228 c6_i32
  let c0_i32_88 : BitVec 32 := 0#32
  let v242 : BitVec 1 := Scalar.cmpi .ne v241 c0_i32_88
  let v243 : BitVec 1 := Scalar.andi v240 v242
  let v229 : BitVec 32 := Scalar.divsi v228 c6_i32
  let c1_i32_89 : BitVec 32 := 1#32
  let v244 : BitVec 32 := Scalar.subi v229 c1_i32_89
  let v245 : BitVec 32 := Scalar.select v243 v244 v229
  let v246 : BitVec 32 := Scalar.subi v245 c0_i32_90
  let c1_i32_91 : BitVec 32 := 1#32
  let v248 : BitVec 32 := Scalar.divsi v246 c1_i32_91
  let v249 : BitVec 32 := Scalar.muli v248 c1_i32_91
  let v250 : BitVec 32 := Scalar.addi c0_i32_90 v249
  let c1_i32_93 : BitVec 32 := 1#32
  let arg24 : BitVec 32 := Scf.iv v250 c1_i32_93 k0_t4
  let c6_i32_122 : BitVec 32 := 6#32
  let v315 : BitVec 32 := Scalar.muli arg24 c6_i32_122
  let v316 : BitVec 32 := Scalar.addi v223 v315
  let c319328_i32 : BitVec 32 := 319328#32
  let v224 : BitVec 32 := Scalar.minsi v223 c319328_i32
  let v317 : BitVec 32 := Scalar.subi v316 v224
  let v318 : BitVec 32 := Scalar.addi v317 c0_i32_123
  let c128_i32_124 : BitVec 32 := 128#32
  let v319 : BitVec 32 := Scalar.muli v318 c128_i32_124
  let v320 : BitVec 32 := Scalar.addi v319 c0_i32_125
  let v321 : Index := Scalar.indexCast v320
  ![v321.toNat]
def k0_off11 (v56_0 : BitVec 32) (arg34 : BitVec 32) (c0_i32_251 : BitVec 32) : Fin 1 → Nat :=
  let v1025 : BitVec 32 := Scalar.subi arg34 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond9 (v56_3 : BitVec 32) (v56_1 : BitVec 32) (k0_t2 : Fin (k0_t2_loop v56_3 v56_1).trips) (k0_t4 : Fin (k0_t4_loop v56_3 v56_1 k0_t2).trips) (arg35 : BitVec 32) : BitVec 1 :=
  let c2_i32_76 : BitVec 32 := 2#32
  let c0_i32_46 : BitVec 32 := 0#32
  let c1_i32_48 : BitVec 32 := 1#32
  let arg12 : BitVec 32 := Scf.iv c0_i32_46 c1_i32_48 k0_t2
  let v217 : BitVec 32 := Scalar.muli c2_i32_76 arg12
  let c272_i32_81 : BitVec 32 := 272#32
  let v222 : BitVec 32 := Scalar.muli v217 c272_i32_81
  let v223 : BitVec 32 := Scalar.addi v56_1 v222
  let c0_i32_90 : BitVec 32 := 0#32
  let c272_i32_82 : BitVec 32 := 272#32
  let v225 : BitVec 32 := Scalar.addi v223 c272_i32_82
  let v226 : BitVec 32 := Scalar.minsi v225 v56_3
  let v227 : BitVec 32 := Scalar.subi v226 v223
  let c0_i32_83 : BitVec 32 := 0#32
  let v228 : BitVec 32 := Scalar.maxsi v227 c0_i32_83
  let c0_i32_84 : BitVec 32 := 0#32
  let v230 : BitVec 1 := Scalar.cmpi .sgt v228 c0_i32_84
  let v231 : BitVec 32 := Scalar.extui v230
  let c0_i32_85 : BitVec 32 := 0#32
  let v232 : BitVec 1 := Scalar.cmpi .slt v228 c0_i32_85
  let v233 : BitVec 32 := Scalar.extui v232
  let v234 : BitVec 32 := Scalar.subi v231 v233
  let c6_i32 : BitVec 32 := 6#32
  let c0_i32_86 : BitVec 32 := 0#32
  let v235 : BitVec 1 := Scalar.cmpi .sgt c6_i32 c0_i32_86
  let v236 : BitVec 32 := Scalar.extui v235
  let c0_i32_87 : BitVec 32 := 0#32
  let v237 : BitVec 1 := Scalar.cmpi .slt c6_i32 c0_i32_87
  let v238 : BitVec 32 := Scalar.extui v237
  let v239 : BitVec 32 := Scalar.subi v236 v238
  let v240 : BitVec 1 := Scalar.cmpi .ne v234 v239
  let v241 : BitVec 32 := Scalar.remsi v228 c6_i32
  let c0_i32_88 : BitVec 32 := 0#32
  let v242 : BitVec 1 := Scalar.cmpi .ne v241 c0_i32_88
  let v243 : BitVec 1 := Scalar.andi v240 v242
  let v229 : BitVec 32 := Scalar.divsi v228 c6_i32
  let c1_i32_89 : BitVec 32 := 1#32
  let v244 : BitVec 32 := Scalar.subi v229 c1_i32_89
  let v245 : BitVec 32 := Scalar.select v243 v244 v229
  let v246 : BitVec 32 := Scalar.subi v245 c0_i32_90
  let c1_i32_91 : BitVec 32 := 1#32
  let v248 : BitVec 32 := Scalar.divsi v246 c1_i32_91
  let v249 : BitVec 32 := Scalar.muli v248 c1_i32_91
  let v250 : BitVec 32 := Scalar.addi c0_i32_90 v249
  let c1_i32_93 : BitVec 32 := 1#32
  let arg24 : BitVec 32 := Scf.iv v250 c1_i32_93 k0_t4
  let c6_i32_122 : BitVec 32 := 6#32
  let v315 : BitVec 32 := Scalar.muli arg24 c6_i32_122
  let v316 : BitVec 32 := Scalar.addi v223 v315
  let c0_i32_235 : BitVec 32 := 0#32
  let v887 : BitVec 32 := Scalar.addi v316 c0_i32_235
  let v888 : BitVec 1 := Scalar.cmpi .eq v887 arg35
  let v889 : BitVec 32 := Scalar.extui v888
  let c0_i32_236 : BitVec 32 := 0#32
  let v890 : BitVec 1 := Scalar.cmpi .ne v889 c0_i32_236
  v890

def k0_chk8 (v56_3 : BitVec 32) (v56_1 : BitVec 32) (v56_0 : BitVec 32) (k0_t2 : Fin (k0_t2_loop v56_3 v56_1).trips) (k0_t4 : Fin (k0_t4_loop v56_3 v56_1 k0_t2).trips) (arg34 : BitVec 32) (arg35 : BitVec 32) : Prop :=
  (∀ (k0_h9 : k0_cond9 v56_3 v56_1 k0_t2 k0_t4 arg35 = 1#1), ∀ (r : Fin 8), ∀ a, (k0_off11 v56_0 arg34 (BitVec.ofNat 32 (16 * r.val))) a + S16.size a ≤ S19456.size a)
theorem k0_off11_inb : ∀ (v56_3 : BitVec 32) (v56_1 : BitVec 32) (v56_0 : BitVec 32) (k0_t2 : Fin (k0_t2_loop v56_3 v56_1).trips) (k0_t4 : Fin (k0_t4_loop v56_3 v56_1 k0_t2).trips) (arg34 : BitVec 32) (arg35 : BitVec 32) (k0_hw8 : k0_chk8 v56_3 v56_1 v56_0 k0_t2 k0_t4 arg34 arg35), ∀ (k0_h9 : k0_cond9 v56_3 v56_1 k0_t2 k0_t4 arg35 = 1#1), ∀ (r : Fin 8), ∀ a, (k0_off11 v56_0 arg34 (BitVec.ofNat 32 (16 * r.val))) a + S16.size a ≤ S19456.size a := fun v56_3 v56_1 v56_0 k0_t2 k0_t4 arg34 arg35 k0_hw8 k0_h9 r => k0_hw8 k0_h9 r

def k0_off12 (v56_0 : BitVec 32) (v891_9 : BitVec 32) (c0_i32_251 : BitVec 32) : Fin 1 → Nat :=
  let v1025 : BitVec 32 := Scalar.subi v891_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond10 (v56_3 : BitVec 32) (v56_1 : BitVec 32) (k0_t2 : Fin (k0_t2_loop v56_3 v56_1).trips) (k0_t4 : Fin (k0_t4_loop v56_3 v56_1 k0_t2).trips) (v891_10 : BitVec 32) : BitVec 1 :=
  let c2_i32_76 : BitVec 32 := 2#32
  let c0_i32_46 : BitVec 32 := 0#32
  let c1_i32_48 : BitVec 32 := 1#32
  let arg12 : BitVec 32 := Scf.iv c0_i32_46 c1_i32_48 k0_t2
  let v217 : BitVec 32 := Scalar.muli c2_i32_76 arg12
  let c272_i32_81 : BitVec 32 := 272#32
  let v222 : BitVec 32 := Scalar.muli v217 c272_i32_81
  let v223 : BitVec 32 := Scalar.addi v56_1 v222
  let c0_i32_90 : BitVec 32 := 0#32
  let c272_i32_82 : BitVec 32 := 272#32
  let v225 : BitVec 32 := Scalar.addi v223 c272_i32_82
  let v226 : BitVec 32 := Scalar.minsi v225 v56_3
  let v227 : BitVec 32 := Scalar.subi v226 v223
  let c0_i32_83 : BitVec 32 := 0#32
  let v228 : BitVec 32 := Scalar.maxsi v227 c0_i32_83
  let c0_i32_84 : BitVec 32 := 0#32
  let v230 : BitVec 1 := Scalar.cmpi .sgt v228 c0_i32_84
  let v231 : BitVec 32 := Scalar.extui v230
  let c0_i32_85 : BitVec 32 := 0#32
  let v232 : BitVec 1 := Scalar.cmpi .slt v228 c0_i32_85
  let v233 : BitVec 32 := Scalar.extui v232
  let v234 : BitVec 32 := Scalar.subi v231 v233
  let c6_i32 : BitVec 32 := 6#32
  let c0_i32_86 : BitVec 32 := 0#32
  let v235 : BitVec 1 := Scalar.cmpi .sgt c6_i32 c0_i32_86
  let v236 : BitVec 32 := Scalar.extui v235
  let c0_i32_87 : BitVec 32 := 0#32
  let v237 : BitVec 1 := Scalar.cmpi .slt c6_i32 c0_i32_87
  let v238 : BitVec 32 := Scalar.extui v237
  let v239 : BitVec 32 := Scalar.subi v236 v238
  let v240 : BitVec 1 := Scalar.cmpi .ne v234 v239
  let v241 : BitVec 32 := Scalar.remsi v228 c6_i32
  let c0_i32_88 : BitVec 32 := 0#32
  let v242 : BitVec 1 := Scalar.cmpi .ne v241 c0_i32_88
  let v243 : BitVec 1 := Scalar.andi v240 v242
  let v229 : BitVec 32 := Scalar.divsi v228 c6_i32
  let c1_i32_89 : BitVec 32 := 1#32
  let v244 : BitVec 32 := Scalar.subi v229 c1_i32_89
  let v245 : BitVec 32 := Scalar.select v243 v244 v229
  let v246 : BitVec 32 := Scalar.subi v245 c0_i32_90
  let c1_i32_91 : BitVec 32 := 1#32
  let v248 : BitVec 32 := Scalar.divsi v246 c1_i32_91
  let v249 : BitVec 32 := Scalar.muli v248 c1_i32_91
  let v250 : BitVec 32 := Scalar.addi c0_i32_90 v249
  let c1_i32_93 : BitVec 32 := 1#32
  let arg24 : BitVec 32 := Scf.iv v250 c1_i32_93 k0_t4
  let c6_i32_122 : BitVec 32 := 6#32
  let v315 : BitVec 32 := Scalar.muli arg24 c6_i32_122
  let v316 : BitVec 32 := Scalar.addi v223 v315
  let c1_i32_237 : BitVec 32 := 1#32
  let v909 : BitVec 32 := Scalar.addi v316 c1_i32_237
  let v910 : BitVec 1 := Scalar.cmpi .eq v909 v891_10
  let v911 : BitVec 32 := Scalar.extui v910
  let c0_i32_238 : BitVec 32 := 0#32
  let v912 : BitVec 1 := Scalar.cmpi .ne v911 c0_i32_238
  v912

def k0_chk9 (v56_3 : BitVec 32) (v56_1 : BitVec 32) (v56_0 : BitVec 32) (k0_t2 : Fin (k0_t2_loop v56_3 v56_1).trips) (k0_t4 : Fin (k0_t4_loop v56_3 v56_1 k0_t2).trips) (v891_10 : BitVec 32) (v891_9 : BitVec 32) : Prop :=
  (∀ (k0_h10 : k0_cond10 v56_3 v56_1 k0_t2 k0_t4 v891_10 = 1#1), ∀ (r : Fin 8), ∀ a, (k0_off12 v56_0 v891_9 (BitVec.ofNat 32 (16 * r.val))) a + S16.size a ≤ S19456.size a)
theorem k0_off12_inb : ∀ (v56_3 : BitVec 32) (v56_1 : BitVec 32) (v56_0 : BitVec 32) (k0_t2 : Fin (k0_t2_loop v56_3 v56_1).trips) (k0_t4 : Fin (k0_t4_loop v56_3 v56_1 k0_t2).trips) (v891_10 : BitVec 32) (v891_9 : BitVec 32) (k0_hw9 : k0_chk9 v56_3 v56_1 v56_0 k0_t2 k0_t4 v891_10 v891_9), ∀ (k0_h10 : k0_cond10 v56_3 v56_1 k0_t2 k0_t4 v891_10 = 1#1), ∀ (r : Fin 8), ∀ a, (k0_off12 v56_0 v891_9 (BitVec.ofNat 32 (16 * r.val))) a + S16.size a ≤ S19456.size a := fun v56_3 v56_1 v56_0 k0_t2 k0_t4 v891_10 v891_9 k0_hw9 k0_h10 r => k0_hw9 k0_h10 r

def k0_off13 (v56_0 : BitVec 32) (v913_9 : BitVec 32) (c0_i32_251 : BitVec 32) : Fin 1 → Nat :=
  let v1025 : BitVec 32 := Scalar.subi v913_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond11 (v56_3 : BitVec 32) (v56_1 : BitVec 32) (k0_t2 : Fin (k0_t2_loop v56_3 v56_1).trips) (k0_t4 : Fin (k0_t4_loop v56_3 v56_1 k0_t2).trips) (v913_10 : BitVec 32) : BitVec 1 :=
  let c2_i32_76 : BitVec 32 := 2#32
  let c0_i32_46 : BitVec 32 := 0#32
  let c1_i32_48 : BitVec 32 := 1#32
  let arg12 : BitVec 32 := Scf.iv c0_i32_46 c1_i32_48 k0_t2
  let v217 : BitVec 32 := Scalar.muli c2_i32_76 arg12
  let c272_i32_81 : BitVec 32 := 272#32
  let v222 : BitVec 32 := Scalar.muli v217 c272_i32_81
  let v223 : BitVec 32 := Scalar.addi v56_1 v222
  let c0_i32_90 : BitVec 32 := 0#32
  let c272_i32_82 : BitVec 32 := 272#32
  let v225 : BitVec 32 := Scalar.addi v223 c272_i32_82
  let v226 : BitVec 32 := Scalar.minsi v225 v56_3
  let v227 : BitVec 32 := Scalar.subi v226 v223
  let c0_i32_83 : BitVec 32 := 0#32
  let v228 : BitVec 32 := Scalar.maxsi v227 c0_i32_83
  let c0_i32_84 : BitVec 32 := 0#32
  let v230 : BitVec 1 := Scalar.cmpi .sgt v228 c0_i32_84
  let v231 : BitVec 32 := Scalar.extui v230
  let c0_i32_85 : BitVec 32 := 0#32
  let v232 : BitVec 1 := Scalar.cmpi .slt v228 c0_i32_85
  let v233 : BitVec 32 := Scalar.extui v232
  let v234 : BitVec 32 := Scalar.subi v231 v233
  let c6_i32 : BitVec 32 := 6#32
  let c0_i32_86 : BitVec 32 := 0#32
  let v235 : BitVec 1 := Scalar.cmpi .sgt c6_i32 c0_i32_86
  let v236 : BitVec 32 := Scalar.extui v235
  let c0_i32_87 : BitVec 32 := 0#32
  let v237 : BitVec 1 := Scalar.cmpi .slt c6_i32 c0_i32_87
  let v238 : BitVec 32 := Scalar.extui v237
  let v239 : BitVec 32 := Scalar.subi v236 v238
  let v240 : BitVec 1 := Scalar.cmpi .ne v234 v239
  let v241 : BitVec 32 := Scalar.remsi v228 c6_i32
  let c0_i32_88 : BitVec 32 := 0#32
  let v242 : BitVec 1 := Scalar.cmpi .ne v241 c0_i32_88
  let v243 : BitVec 1 := Scalar.andi v240 v242
  let v229 : BitVec 32 := Scalar.divsi v228 c6_i32
  let c1_i32_89 : BitVec 32 := 1#32
  let v244 : BitVec 32 := Scalar.subi v229 c1_i32_89
  let v245 : BitVec 32 := Scalar.select v243 v244 v229
  let v246 : BitVec 32 := Scalar.subi v245 c0_i32_90
  let c1_i32_91 : BitVec 32 := 1#32
  let v248 : BitVec 32 := Scalar.divsi v246 c1_i32_91
  let v249 : BitVec 32 := Scalar.muli v248 c1_i32_91
  let v250 : BitVec 32 := Scalar.addi c0_i32_90 v249
  let c1_i32_93 : BitVec 32 := 1#32
  let arg24 : BitVec 32 := Scf.iv v250 c1_i32_93 k0_t4
  let c6_i32_122 : BitVec 32 := 6#32
  let v315 : BitVec 32 := Scalar.muli arg24 c6_i32_122
  let v316 : BitVec 32 := Scalar.addi v223 v315
  let c2_i32_239 : BitVec 32 := 2#32
  let v931 : BitVec 32 := Scalar.addi v316 c2_i32_239
  let v932 : BitVec 1 := Scalar.cmpi .eq v931 v913_10
  let v933 : BitVec 32 := Scalar.extui v932
  let c0_i32_240 : BitVec 32 := 0#32
  let v934 : BitVec 1 := Scalar.cmpi .ne v933 c0_i32_240
  v934

def k0_chk10 (v56_3 : BitVec 32) (v56_1 : BitVec 32) (v56_0 : BitVec 32) (k0_t2 : Fin (k0_t2_loop v56_3 v56_1).trips) (k0_t4 : Fin (k0_t4_loop v56_3 v56_1 k0_t2).trips) (v913_10 : BitVec 32) (v913_9 : BitVec 32) : Prop :=
  (∀ (k0_h11 : k0_cond11 v56_3 v56_1 k0_t2 k0_t4 v913_10 = 1#1), ∀ (r : Fin 8), ∀ a, (k0_off13 v56_0 v913_9 (BitVec.ofNat 32 (16 * r.val))) a + S16.size a ≤ S19456.size a)
theorem k0_off13_inb : ∀ (v56_3 : BitVec 32) (v56_1 : BitVec 32) (v56_0 : BitVec 32) (k0_t2 : Fin (k0_t2_loop v56_3 v56_1).trips) (k0_t4 : Fin (k0_t4_loop v56_3 v56_1 k0_t2).trips) (v913_10 : BitVec 32) (v913_9 : BitVec 32) (k0_hw10 : k0_chk10 v56_3 v56_1 v56_0 k0_t2 k0_t4 v913_10 v913_9), ∀ (k0_h11 : k0_cond11 v56_3 v56_1 k0_t2 k0_t4 v913_10 = 1#1), ∀ (r : Fin 8), ∀ a, (k0_off13 v56_0 v913_9 (BitVec.ofNat 32 (16 * r.val))) a + S16.size a ≤ S19456.size a := fun v56_3 v56_1 v56_0 k0_t2 k0_t4 v913_10 v913_9 k0_hw10 k0_h11 r => k0_hw10 k0_h11 r

def k0_off14 (v56_0 : BitVec 32) (v935_9 : BitVec 32) (c0_i32_251 : BitVec 32) : Fin 1 → Nat :=
  let v1025 : BitVec 32 := Scalar.subi v935_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond12 (v56_3 : BitVec 32) (v56_1 : BitVec 32) (k0_t2 : Fin (k0_t2_loop v56_3 v56_1).trips) (k0_t4 : Fin (k0_t4_loop v56_3 v56_1 k0_t2).trips) (v935_10 : BitVec 32) : BitVec 1 :=
  let c2_i32_76 : BitVec 32 := 2#32
  let c0_i32_46 : BitVec 32 := 0#32
  let c1_i32_48 : BitVec 32 := 1#32
  let arg12 : BitVec 32 := Scf.iv c0_i32_46 c1_i32_48 k0_t2
  let v217 : BitVec 32 := Scalar.muli c2_i32_76 arg12
  let c272_i32_81 : BitVec 32 := 272#32
  let v222 : BitVec 32 := Scalar.muli v217 c272_i32_81
  let v223 : BitVec 32 := Scalar.addi v56_1 v222
  let c0_i32_90 : BitVec 32 := 0#32
  let c272_i32_82 : BitVec 32 := 272#32
  let v225 : BitVec 32 := Scalar.addi v223 c272_i32_82
  let v226 : BitVec 32 := Scalar.minsi v225 v56_3
  let v227 : BitVec 32 := Scalar.subi v226 v223
  let c0_i32_83 : BitVec 32 := 0#32
  let v228 : BitVec 32 := Scalar.maxsi v227 c0_i32_83
  let c0_i32_84 : BitVec 32 := 0#32
  let v230 : BitVec 1 := Scalar.cmpi .sgt v228 c0_i32_84
  let v231 : BitVec 32 := Scalar.extui v230
  let c0_i32_85 : BitVec 32 := 0#32
  let v232 : BitVec 1 := Scalar.cmpi .slt v228 c0_i32_85
  let v233 : BitVec 32 := Scalar.extui v232
  let v234 : BitVec 32 := Scalar.subi v231 v233
  let c6_i32 : BitVec 32 := 6#32
  let c0_i32_86 : BitVec 32 := 0#32
  let v235 : BitVec 1 := Scalar.cmpi .sgt c6_i32 c0_i32_86
  let v236 : BitVec 32 := Scalar.extui v235
  let c0_i32_87 : BitVec 32 := 0#32
  let v237 : BitVec 1 := Scalar.cmpi .slt c6_i32 c0_i32_87
  let v238 : BitVec 32 := Scalar.extui v237
  let v239 : BitVec 32 := Scalar.subi v236 v238
  let v240 : BitVec 1 := Scalar.cmpi .ne v234 v239
  let v241 : BitVec 32 := Scalar.remsi v228 c6_i32
  let c0_i32_88 : BitVec 32 := 0#32
  let v242 : BitVec 1 := Scalar.cmpi .ne v241 c0_i32_88
  let v243 : BitVec 1 := Scalar.andi v240 v242
  let v229 : BitVec 32 := Scalar.divsi v228 c6_i32
  let c1_i32_89 : BitVec 32 := 1#32
  let v244 : BitVec 32 := Scalar.subi v229 c1_i32_89
  let v245 : BitVec 32 := Scalar.select v243 v244 v229
  let v246 : BitVec 32 := Scalar.subi v245 c0_i32_90
  let c1_i32_91 : BitVec 32 := 1#32
  let v248 : BitVec 32 := Scalar.divsi v246 c1_i32_91
  let v249 : BitVec 32 := Scalar.muli v248 c1_i32_91
  let v250 : BitVec 32 := Scalar.addi c0_i32_90 v249
  let c1_i32_93 : BitVec 32 := 1#32
  let arg24 : BitVec 32 := Scf.iv v250 c1_i32_93 k0_t4
  let c6_i32_122 : BitVec 32 := 6#32
  let v315 : BitVec 32 := Scalar.muli arg24 c6_i32_122
  let v316 : BitVec 32 := Scalar.addi v223 v315
  let c3_i32_241 : BitVec 32 := 3#32
  let v953 : BitVec 32 := Scalar.addi v316 c3_i32_241
  let v954 : BitVec 1 := Scalar.cmpi .eq v953 v935_10
  let v955 : BitVec 32 := Scalar.extui v954
  let c0_i32_242 : BitVec 32 := 0#32
  let v956 : BitVec 1 := Scalar.cmpi .ne v955 c0_i32_242
  v956

def k0_chk11 (v56_3 : BitVec 32) (v56_1 : BitVec 32) (v56_0 : BitVec 32) (k0_t2 : Fin (k0_t2_loop v56_3 v56_1).trips) (k0_t4 : Fin (k0_t4_loop v56_3 v56_1 k0_t2).trips) (v935_10 : BitVec 32) (v935_9 : BitVec 32) : Prop :=
  (∀ (k0_h12 : k0_cond12 v56_3 v56_1 k0_t2 k0_t4 v935_10 = 1#1), ∀ (r : Fin 8), ∀ a, (k0_off14 v56_0 v935_9 (BitVec.ofNat 32 (16 * r.val))) a + S16.size a ≤ S19456.size a)
theorem k0_off14_inb : ∀ (v56_3 : BitVec 32) (v56_1 : BitVec 32) (v56_0 : BitVec 32) (k0_t2 : Fin (k0_t2_loop v56_3 v56_1).trips) (k0_t4 : Fin (k0_t4_loop v56_3 v56_1 k0_t2).trips) (v935_10 : BitVec 32) (v935_9 : BitVec 32) (k0_hw11 : k0_chk11 v56_3 v56_1 v56_0 k0_t2 k0_t4 v935_10 v935_9), ∀ (k0_h12 : k0_cond12 v56_3 v56_1 k0_t2 k0_t4 v935_10 = 1#1), ∀ (r : Fin 8), ∀ a, (k0_off14 v56_0 v935_9 (BitVec.ofNat 32 (16 * r.val))) a + S16.size a ≤ S19456.size a := fun v56_3 v56_1 v56_0 k0_t2 k0_t4 v935_10 v935_9 k0_hw11 k0_h12 r => k0_hw11 k0_h12 r

def k0_off15 (v56_0 : BitVec 32) (v957_9 : BitVec 32) (c0_i32_251 : BitVec 32) : Fin 1 → Nat :=
  let v1025 : BitVec 32 := Scalar.subi v957_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond13 (v56_3 : BitVec 32) (v56_1 : BitVec 32) (k0_t2 : Fin (k0_t2_loop v56_3 v56_1).trips) (k0_t4 : Fin (k0_t4_loop v56_3 v56_1 k0_t2).trips) (v957_10 : BitVec 32) : BitVec 1 :=
  let c2_i32_76 : BitVec 32 := 2#32
  let c0_i32_46 : BitVec 32 := 0#32
  let c1_i32_48 : BitVec 32 := 1#32
  let arg12 : BitVec 32 := Scf.iv c0_i32_46 c1_i32_48 k0_t2
  let v217 : BitVec 32 := Scalar.muli c2_i32_76 arg12
  let c272_i32_81 : BitVec 32 := 272#32
  let v222 : BitVec 32 := Scalar.muli v217 c272_i32_81
  let v223 : BitVec 32 := Scalar.addi v56_1 v222
  let c0_i32_90 : BitVec 32 := 0#32
  let c272_i32_82 : BitVec 32 := 272#32
  let v225 : BitVec 32 := Scalar.addi v223 c272_i32_82
  let v226 : BitVec 32 := Scalar.minsi v225 v56_3
  let v227 : BitVec 32 := Scalar.subi v226 v223
  let c0_i32_83 : BitVec 32 := 0#32
  let v228 : BitVec 32 := Scalar.maxsi v227 c0_i32_83
  let c0_i32_84 : BitVec 32 := 0#32
  let v230 : BitVec 1 := Scalar.cmpi .sgt v228 c0_i32_84
  let v231 : BitVec 32 := Scalar.extui v230
  let c0_i32_85 : BitVec 32 := 0#32
  let v232 : BitVec 1 := Scalar.cmpi .slt v228 c0_i32_85
  let v233 : BitVec 32 := Scalar.extui v232
  let v234 : BitVec 32 := Scalar.subi v231 v233
  let c6_i32 : BitVec 32 := 6#32
  let c0_i32_86 : BitVec 32 := 0#32
  let v235 : BitVec 1 := Scalar.cmpi .sgt c6_i32 c0_i32_86
  let v236 : BitVec 32 := Scalar.extui v235
  let c0_i32_87 : BitVec 32 := 0#32
  let v237 : BitVec 1 := Scalar.cmpi .slt c6_i32 c0_i32_87
  let v238 : BitVec 32 := Scalar.extui v237
  let v239 : BitVec 32 := Scalar.subi v236 v238
  let v240 : BitVec 1 := Scalar.cmpi .ne v234 v239
  let v241 : BitVec 32 := Scalar.remsi v228 c6_i32
  let c0_i32_88 : BitVec 32 := 0#32
  let v242 : BitVec 1 := Scalar.cmpi .ne v241 c0_i32_88
  let v243 : BitVec 1 := Scalar.andi v240 v242
  let v229 : BitVec 32 := Scalar.divsi v228 c6_i32
  let c1_i32_89 : BitVec 32 := 1#32
  let v244 : BitVec 32 := Scalar.subi v229 c1_i32_89
  let v245 : BitVec 32 := Scalar.select v243 v244 v229
  let v246 : BitVec 32 := Scalar.subi v245 c0_i32_90
  let c1_i32_91 : BitVec 32 := 1#32
  let v248 : BitVec 32 := Scalar.divsi v246 c1_i32_91
  let v249 : BitVec 32 := Scalar.muli v248 c1_i32_91
  let v250 : BitVec 32 := Scalar.addi c0_i32_90 v249
  let c1_i32_93 : BitVec 32 := 1#32
  let arg24 : BitVec 32 := Scf.iv v250 c1_i32_93 k0_t4
  let c6_i32_122 : BitVec 32 := 6#32
  let v315 : BitVec 32 := Scalar.muli arg24 c6_i32_122
  let v316 : BitVec 32 := Scalar.addi v223 v315
  let c4_i32_243 : BitVec 32 := 4#32
  let v975 : BitVec 32 := Scalar.addi v316 c4_i32_243
  let v976 : BitVec 1 := Scalar.cmpi .eq v975 v957_10
  let v977 : BitVec 32 := Scalar.extui v976
  let c0_i32_244 : BitVec 32 := 0#32
  let v978 : BitVec 1 := Scalar.cmpi .ne v977 c0_i32_244
  v978

def k0_chk12 (v56_3 : BitVec 32) (v56_1 : BitVec 32) (v56_0 : BitVec 32) (k0_t2 : Fin (k0_t2_loop v56_3 v56_1).trips) (k0_t4 : Fin (k0_t4_loop v56_3 v56_1 k0_t2).trips) (v957_10 : BitVec 32) (v957_9 : BitVec 32) : Prop :=
  (∀ (k0_h13 : k0_cond13 v56_3 v56_1 k0_t2 k0_t4 v957_10 = 1#1), ∀ (r : Fin 8), ∀ a, (k0_off15 v56_0 v957_9 (BitVec.ofNat 32 (16 * r.val))) a + S16.size a ≤ S19456.size a)
theorem k0_off15_inb : ∀ (v56_3 : BitVec 32) (v56_1 : BitVec 32) (v56_0 : BitVec 32) (k0_t2 : Fin (k0_t2_loop v56_3 v56_1).trips) (k0_t4 : Fin (k0_t4_loop v56_3 v56_1 k0_t2).trips) (v957_10 : BitVec 32) (v957_9 : BitVec 32) (k0_hw12 : k0_chk12 v56_3 v56_1 v56_0 k0_t2 k0_t4 v957_10 v957_9), ∀ (k0_h13 : k0_cond13 v56_3 v56_1 k0_t2 k0_t4 v957_10 = 1#1), ∀ (r : Fin 8), ∀ a, (k0_off15 v56_0 v957_9 (BitVec.ofNat 32 (16 * r.val))) a + S16.size a ≤ S19456.size a := fun v56_3 v56_1 v56_0 k0_t2 k0_t4 v957_10 v957_9 k0_hw12 k0_h13 r => k0_hw12 k0_h13 r

def k0_off16 (v56_0 : BitVec 32) (v979_9 : BitVec 32) (c0_i32_251 : BitVec 32) : Fin 1 → Nat :=
  let v1025 : BitVec 32 := Scalar.subi v979_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond14 (v56_3 : BitVec 32) (v56_1 : BitVec 32) (k0_t2 : Fin (k0_t2_loop v56_3 v56_1).trips) (k0_t4 : Fin (k0_t4_loop v56_3 v56_1 k0_t2).trips) (v979_10 : BitVec 32) : BitVec 1 :=
  let c2_i32_76 : BitVec 32 := 2#32
  let c0_i32_46 : BitVec 32 := 0#32
  let c1_i32_48 : BitVec 32 := 1#32
  let arg12 : BitVec 32 := Scf.iv c0_i32_46 c1_i32_48 k0_t2
  let v217 : BitVec 32 := Scalar.muli c2_i32_76 arg12
  let c272_i32_81 : BitVec 32 := 272#32
  let v222 : BitVec 32 := Scalar.muli v217 c272_i32_81
  let v223 : BitVec 32 := Scalar.addi v56_1 v222
  let c0_i32_90 : BitVec 32 := 0#32
  let c272_i32_82 : BitVec 32 := 272#32
  let v225 : BitVec 32 := Scalar.addi v223 c272_i32_82
  let v226 : BitVec 32 := Scalar.minsi v225 v56_3
  let v227 : BitVec 32 := Scalar.subi v226 v223
  let c0_i32_83 : BitVec 32 := 0#32
  let v228 : BitVec 32 := Scalar.maxsi v227 c0_i32_83
  let c0_i32_84 : BitVec 32 := 0#32
  let v230 : BitVec 1 := Scalar.cmpi .sgt v228 c0_i32_84
  let v231 : BitVec 32 := Scalar.extui v230
  let c0_i32_85 : BitVec 32 := 0#32
  let v232 : BitVec 1 := Scalar.cmpi .slt v228 c0_i32_85
  let v233 : BitVec 32 := Scalar.extui v232
  let v234 : BitVec 32 := Scalar.subi v231 v233
  let c6_i32 : BitVec 32 := 6#32
  let c0_i32_86 : BitVec 32 := 0#32
  let v235 : BitVec 1 := Scalar.cmpi .sgt c6_i32 c0_i32_86
  let v236 : BitVec 32 := Scalar.extui v235
  let c0_i32_87 : BitVec 32 := 0#32
  let v237 : BitVec 1 := Scalar.cmpi .slt c6_i32 c0_i32_87
  let v238 : BitVec 32 := Scalar.extui v237
  let v239 : BitVec 32 := Scalar.subi v236 v238
  let v240 : BitVec 1 := Scalar.cmpi .ne v234 v239
  let v241 : BitVec 32 := Scalar.remsi v228 c6_i32
  let c0_i32_88 : BitVec 32 := 0#32
  let v242 : BitVec 1 := Scalar.cmpi .ne v241 c0_i32_88
  let v243 : BitVec 1 := Scalar.andi v240 v242
  let v229 : BitVec 32 := Scalar.divsi v228 c6_i32
  let c1_i32_89 : BitVec 32 := 1#32
  let v244 : BitVec 32 := Scalar.subi v229 c1_i32_89
  let v245 : BitVec 32 := Scalar.select v243 v244 v229
  let v246 : BitVec 32 := Scalar.subi v245 c0_i32_90
  let c1_i32_91 : BitVec 32 := 1#32
  let v248 : BitVec 32 := Scalar.divsi v246 c1_i32_91
  let v249 : BitVec 32 := Scalar.muli v248 c1_i32_91
  let v250 : BitVec 32 := Scalar.addi c0_i32_90 v249
  let c1_i32_93 : BitVec 32 := 1#32
  let arg24 : BitVec 32 := Scf.iv v250 c1_i32_93 k0_t4
  let c6_i32_122 : BitVec 32 := 6#32
  let v315 : BitVec 32 := Scalar.muli arg24 c6_i32_122
  let v316 : BitVec 32 := Scalar.addi v223 v315
  let c5_i32_245 : BitVec 32 := 5#32
  let v997 : BitVec 32 := Scalar.addi v316 c5_i32_245
  let v998 : BitVec 1 := Scalar.cmpi .eq v997 v979_10
  let v999 : BitVec 32 := Scalar.extui v998
  let c0_i32_246 : BitVec 32 := 0#32
  let v1000 : BitVec 1 := Scalar.cmpi .ne v999 c0_i32_246
  v1000

def k0_chk13 (v56_3 : BitVec 32) (v56_1 : BitVec 32) (v56_0 : BitVec 32) (k0_t2 : Fin (k0_t2_loop v56_3 v56_1).trips) (k0_t4 : Fin (k0_t4_loop v56_3 v56_1 k0_t2).trips) (v979_10 : BitVec 32) (v979_9 : BitVec 32) : Prop :=
  (∀ (k0_h14 : k0_cond14 v56_3 v56_1 k0_t2 k0_t4 v979_10 = 1#1), ∀ (r : Fin 8), ∀ a, (k0_off16 v56_0 v979_9 (BitVec.ofNat 32 (16 * r.val))) a + S16.size a ≤ S19456.size a)
theorem k0_off16_inb : ∀ (v56_3 : BitVec 32) (v56_1 : BitVec 32) (v56_0 : BitVec 32) (k0_t2 : Fin (k0_t2_loop v56_3 v56_1).trips) (k0_t4 : Fin (k0_t4_loop v56_3 v56_1 k0_t2).trips) (v979_10 : BitVec 32) (v979_9 : BitVec 32) (k0_hw13 : k0_chk13 v56_3 v56_1 v56_0 k0_t2 k0_t4 v979_10 v979_9), ∀ (k0_h14 : k0_cond14 v56_3 v56_1 k0_t2 k0_t4 v979_10 = 1#1), ∀ (r : Fin 8), ∀ a, (k0_off16 v56_0 v979_9 (BitVec.ofNat 32 (16 * r.val))) a + S16.size a ≤ S19456.size a := fun v56_3 v56_1 v56_0 k0_t2 k0_t4 v979_10 v979_9 k0_hw13 k0_h14 r => k0_hw13 k0_h14 r

@[reducible] def k0_t5_loop (v56_3 : BitVec 32) (v56_1 : BitVec 32) (k0_t2 : Fin (k0_t2_loop v56_3 v56_1).trips) : Scf.Loop 32 :=
  let c2_i32_76 : BitVec 32 := 2#32
  let c0_i32_46 : BitVec 32 := 0#32
  let c1_i32_48 : BitVec 32 := 1#32
  let arg12 : BitVec 32 := Scf.iv c0_i32_46 c1_i32_48 k0_t2
  let v217 : BitVec 32 := Scalar.muli c2_i32_76 arg12
  let c272_i32_81 : BitVec 32 := 272#32
  let v222 : BitVec 32 := Scalar.muli v217 c272_i32_81
  let v223 : BitVec 32 := Scalar.addi v56_1 v222
  let c272_i32_82 : BitVec 32 := 272#32
  let v225 : BitVec 32 := Scalar.addi v223 c272_i32_82
  let v226 : BitVec 32 := Scalar.minsi v225 v56_3
  let v227 : BitVec 32 := Scalar.subi v226 v223
  let c0_i32_83 : BitVec 32 := 0#32
  let v228 : BitVec 32 := Scalar.maxsi v227 c0_i32_83
  let c0_i32_84 : BitVec 32 := 0#32
  let v230 : BitVec 1 := Scalar.cmpi .sgt v228 c0_i32_84
  let v231 : BitVec 32 := Scalar.extui v230
  let c0_i32_85 : BitVec 32 := 0#32
  let v232 : BitVec 1 := Scalar.cmpi .slt v228 c0_i32_85
  let v233 : BitVec 32 := Scalar.extui v232
  let v234 : BitVec 32 := Scalar.subi v231 v233
  let c6_i32 : BitVec 32 := 6#32
  let c0_i32_86 : BitVec 32 := 0#32
  let v235 : BitVec 1 := Scalar.cmpi .sgt c6_i32 c0_i32_86
  let v236 : BitVec 32 := Scalar.extui v235
  let c0_i32_87 : BitVec 32 := 0#32
  let v237 : BitVec 1 := Scalar.cmpi .slt c6_i32 c0_i32_87
  let v238 : BitVec 32 := Scalar.extui v237
  let v239 : BitVec 32 := Scalar.subi v236 v238
  let v240 : BitVec 1 := Scalar.cmpi .ne v234 v239
  let v241 : BitVec 32 := Scalar.remsi v228 c6_i32
  let c0_i32_88 : BitVec 32 := 0#32
  let v242 : BitVec 1 := Scalar.cmpi .ne v241 c0_i32_88
  let v243 : BitVec 1 := Scalar.andi v240 v242
  let v229 : BitVec 32 := Scalar.divsi v228 c6_i32
  let c1_i32_89 : BitVec 32 := 1#32
  let v244 : BitVec 32 := Scalar.subi v229 c1_i32_89
  let v245 : BitVec 32 := Scalar.select v243 v244 v229
  let c6_i32_94 : BitVec 32 := 6#32
  let v253 : BitVec 32 := Scalar.muli v245 c6_i32_94
  let v254 : BitVec 32 := Scalar.addi v223 v253
  let v255 : BitVec 32 := Scalar.addi v223 v228
  let v256 : BitVec 32 := Scalar.subi v255 v254
  let c1_i32_95 : BitVec 32 := 1#32
  let v258 : BitVec 32 := Scalar.divsi v256 c1_i32_95
  let v259 : BitVec 32 := Scalar.muli v258 c1_i32_95
  let v260 : BitVec 32 := Scalar.addi v254 v259
  let c1_i32_96 : BitVec 32 := 1#32
  ⟨v254, v260, c1_i32_96⟩
def k0_off17 (v56_0 : BitVec 32) (arg34 : BitVec 32) (c0_i32_145 : BitVec 32) : Fin 1 → Nat :=
  let v436 : BitVec 32 := Scalar.subi arg34 v56_0
  let c128_i32_144 : BitVec 32 := 128#32
  let v438 : BitVec 32 := Scalar.muli v436 c128_i32_144
  let v439 : BitVec 32 := Scalar.addi v438 c0_i32_145
  let v440 : Index := Scalar.indexCast v439
  ![v440.toNat]
def k0_cond15 (v56_3 : BitVec 32) (v56_1 : BitVec 32) (k0_t2 : Fin (k0_t2_loop v56_3 v56_1).trips) (k0_t5 : Fin (k0_t5_loop v56_3 v56_1 k0_t2).trips) (arg35 : BitVec 32) : BitVec 1 :=
  let c2_i32_76 : BitVec 32 := 2#32
  let c0_i32_46 : BitVec 32 := 0#32
  let c1_i32_48 : BitVec 32 := 1#32
  let arg12 : BitVec 32 := Scf.iv c0_i32_46 c1_i32_48 k0_t2
  let v217 : BitVec 32 := Scalar.muli c2_i32_76 arg12
  let c272_i32_81 : BitVec 32 := 272#32
  let v222 : BitVec 32 := Scalar.muli v217 c272_i32_81
  let v223 : BitVec 32 := Scalar.addi v56_1 v222
  let c272_i32_82 : BitVec 32 := 272#32
  let v225 : BitVec 32 := Scalar.addi v223 c272_i32_82
  let v226 : BitVec 32 := Scalar.minsi v225 v56_3
  let v227 : BitVec 32 := Scalar.subi v226 v223
  let c0_i32_83 : BitVec 32 := 0#32
  let v228 : BitVec 32 := Scalar.maxsi v227 c0_i32_83
  let c0_i32_84 : BitVec 32 := 0#32
  let v230 : BitVec 1 := Scalar.cmpi .sgt v228 c0_i32_84
  let v231 : BitVec 32 := Scalar.extui v230
  let c0_i32_85 : BitVec 32 := 0#32
  let v232 : BitVec 1 := Scalar.cmpi .slt v228 c0_i32_85
  let v233 : BitVec 32 := Scalar.extui v232
  let v234 : BitVec 32 := Scalar.subi v231 v233
  let c6_i32 : BitVec 32 := 6#32
  let c0_i32_86 : BitVec 32 := 0#32
  let v235 : BitVec 1 := Scalar.cmpi .sgt c6_i32 c0_i32_86
  let v236 : BitVec 32 := Scalar.extui v235
  let c0_i32_87 : BitVec 32 := 0#32
  let v237 : BitVec 1 := Scalar.cmpi .slt c6_i32 c0_i32_87
  let v238 : BitVec 32 := Scalar.extui v237
  let v239 : BitVec 32 := Scalar.subi v236 v238
  let v240 : BitVec 1 := Scalar.cmpi .ne v234 v239
  let v241 : BitVec 32 := Scalar.remsi v228 c6_i32
  let c0_i32_88 : BitVec 32 := 0#32
  let v242 : BitVec 1 := Scalar.cmpi .ne v241 c0_i32_88
  let v243 : BitVec 1 := Scalar.andi v240 v242
  let v229 : BitVec 32 := Scalar.divsi v228 c6_i32
  let c1_i32_89 : BitVec 32 := 1#32
  let v244 : BitVec 32 := Scalar.subi v229 c1_i32_89
  let v245 : BitVec 32 := Scalar.select v243 v244 v229
  let c6_i32_94 : BitVec 32 := 6#32
  let v253 : BitVec 32 := Scalar.muli v245 c6_i32_94
  let v254 : BitVec 32 := Scalar.addi v223 v253
  let c1_i32_96 : BitVec 32 := 1#32
  let arg24 : BitVec 32 := Scf.iv v254 c1_i32_96 k0_t5
  let v315 : BitVec 1 := Scalar.cmpi .eq arg24 arg35
  let v316 : BitVec 32 := Scalar.extui v315
  let c0_i32_122 : BitVec 32 := 0#32
  let v317 : BitVec 1 := Scalar.cmpi .ne v316 c0_i32_122
  v317

def k0_chk14 (v56_3 : BitVec 32) (v56_1 : BitVec 32) (v56_0 : BitVec 32) (k0_t2 : Fin (k0_t2_loop v56_3 v56_1).trips) (k0_t5 : Fin (k0_t5_loop v56_3 v56_1 k0_t2).trips) (arg34 : BitVec 32) (arg35 : BitVec 32) : Prop :=
  (∀ (k0_h15 : k0_cond15 v56_3 v56_1 k0_t2 k0_t5 arg35 = 1#1), ∀ (r : Fin 8), ∀ a, (k0_off17 v56_0 arg34 (BitVec.ofNat 32 (16 * r.val))) a + S16.size a ≤ S19456.size a)
theorem k0_off17_inb : ∀ (v56_3 : BitVec 32) (v56_1 : BitVec 32) (v56_0 : BitVec 32) (k0_t2 : Fin (k0_t2_loop v56_3 v56_1).trips) (k0_t5 : Fin (k0_t5_loop v56_3 v56_1 k0_t2).trips) (arg34 : BitVec 32) (arg35 : BitVec 32) (k0_hw14 : k0_chk14 v56_3 v56_1 v56_0 k0_t2 k0_t5 arg34 arg35), ∀ (k0_h15 : k0_cond15 v56_3 v56_1 k0_t2 k0_t5 arg35 = 1#1), ∀ (r : Fin 8), ∀ a, (k0_off17 v56_0 arg34 (BitVec.ofNat 32 (16 * r.val))) a + S16.size a ≤ S19456.size a := fun v56_3 v56_1 v56_0 k0_t2 k0_t5 arg34 arg35 k0_hw14 k0_h15 r => k0_hw14 k0_h15 r

def k0_off18 (v56_3 : BitVec 32) (v56_1 : BitVec 32) (k0_t2 : Fin (k0_t2_loop v56_3 v56_1).trips) (k0_t5 : Fin (k0_t5_loop v56_3 v56_1 k0_t2).trips) (c0_i32_124 : BitVec 32) : Fin 1 → Nat :=
  let c2_i32_76 : BitVec 32 := 2#32
  let c0_i32_46 : BitVec 32 := 0#32
  let c1_i32_48 : BitVec 32 := 1#32
  let arg12 : BitVec 32 := Scf.iv c0_i32_46 c1_i32_48 k0_t2
  let v217 : BitVec 32 := Scalar.muli c2_i32_76 arg12
  let c272_i32_81 : BitVec 32 := 272#32
  let v222 : BitVec 32 := Scalar.muli v217 c272_i32_81
  let v223 : BitVec 32 := Scalar.addi v56_1 v222
  let c272_i32_82 : BitVec 32 := 272#32
  let v225 : BitVec 32 := Scalar.addi v223 c272_i32_82
  let v226 : BitVec 32 := Scalar.minsi v225 v56_3
  let v227 : BitVec 32 := Scalar.subi v226 v223
  let c0_i32_83 : BitVec 32 := 0#32
  let v228 : BitVec 32 := Scalar.maxsi v227 c0_i32_83
  let c0_i32_84 : BitVec 32 := 0#32
  let v230 : BitVec 1 := Scalar.cmpi .sgt v228 c0_i32_84
  let v231 : BitVec 32 := Scalar.extui v230
  let c0_i32_85 : BitVec 32 := 0#32
  let v232 : BitVec 1 := Scalar.cmpi .slt v228 c0_i32_85
  let v233 : BitVec 32 := Scalar.extui v232
  let v234 : BitVec 32 := Scalar.subi v231 v233
  let c6_i32 : BitVec 32 := 6#32
  let c0_i32_86 : BitVec 32 := 0#32
  let v235 : BitVec 1 := Scalar.cmpi .sgt c6_i32 c0_i32_86
  let v236 : BitVec 32 := Scalar.extui v235
  let c0_i32_87 : BitVec 32 := 0#32
  let v237 : BitVec 1 := Scalar.cmpi .slt c6_i32 c0_i32_87
  let v238 : BitVec 32 := Scalar.extui v237
  let v239 : BitVec 32 := Scalar.subi v236 v238
  let v240 : BitVec 1 := Scalar.cmpi .ne v234 v239
  let v241 : BitVec 32 := Scalar.remsi v228 c6_i32
  let c0_i32_88 : BitVec 32 := 0#32
  let v242 : BitVec 1 := Scalar.cmpi .ne v241 c0_i32_88
  let v243 : BitVec 1 := Scalar.andi v240 v242
  let v229 : BitVec 32 := Scalar.divsi v228 c6_i32
  let c1_i32_89 : BitVec 32 := 1#32
  let v244 : BitVec 32 := Scalar.subi v229 c1_i32_89
  let v245 : BitVec 32 := Scalar.select v243 v244 v229
  let c6_i32_94 : BitVec 32 := 6#32
  let v253 : BitVec 32 := Scalar.muli v245 c6_i32_94
  let v254 : BitVec 32 := Scalar.addi v223 v253
  let c1_i32_96 : BitVec 32 := 1#32
  let arg24 : BitVec 32 := Scf.iv v254 c1_i32_96 k0_t5
  let c319328_i32 : BitVec 32 := 319328#32
  let v224 : BitVec 32 := Scalar.minsi v223 c319328_i32
  let v319 : BitVec 32 := Scalar.subi arg24 v224
  let c128_i32_123 : BitVec 32 := 128#32
  let v320 : BitVec 32 := Scalar.muli v319 c128_i32_123
  let v321 : BitVec 32 := Scalar.addi v320 c0_i32_124
  let v322 : Index := Scalar.indexCast v321
  ![v322.toNat]
@[reducible] def k0_t6_loop (v56_3 : BitVec 32) (v56_1 : BitVec 32) (k0_t2 : Fin (k0_t2_loop v56_3 v56_1).trips) : Scf.Loop 32 :=
  let c2_i32_76 : BitVec 32 := 2#32
  let c0_i32_46 : BitVec 32 := 0#32
  let c1_i32_48 : BitVec 32 := 1#32
  let arg12 : BitVec 32 := Scf.iv c0_i32_46 c1_i32_48 k0_t2
  let v217 : BitVec 32 := Scalar.muli c2_i32_76 arg12
  let c272_i32_81 : BitVec 32 := 272#32
  let v222 : BitVec 32 := Scalar.muli v217 c272_i32_81
  let v223 : BitVec 32 := Scalar.addi v56_1 v222
  let c272_i32_82 : BitVec 32 := 272#32
  let v225 : BitVec 32 := Scalar.addi v223 c272_i32_82
  let v226 : BitVec 32 := Scalar.minsi v225 v56_3
  let v227 : BitVec 32 := Scalar.subi v226 v223
  let c0_i32_83 : BitVec 32 := 0#32
  let v228 : BitVec 32 := Scalar.maxsi v227 c0_i32_83
  let c0_i32_84 : BitVec 32 := 0#32
  let v230 : BitVec 1 := Scalar.cmpi .sgt v228 c0_i32_84
  let v231 : BitVec 32 := Scalar.extui v230
  let c0_i32_85 : BitVec 32 := 0#32
  let v232 : BitVec 1 := Scalar.cmpi .slt v228 c0_i32_85
  let v233 : BitVec 32 := Scalar.extui v232
  let v234 : BitVec 32 := Scalar.subi v231 v233
  let c6_i32 : BitVec 32 := 6#32
  let c0_i32_86 : BitVec 32 := 0#32
  let v235 : BitVec 1 := Scalar.cmpi .sgt c6_i32 c0_i32_86
  let v236 : BitVec 32 := Scalar.extui v235
  let c0_i32_87 : BitVec 32 := 0#32
  let v237 : BitVec 1 := Scalar.cmpi .slt c6_i32 c0_i32_87
  let v238 : BitVec 32 := Scalar.extui v237
  let v239 : BitVec 32 := Scalar.subi v236 v238
  let v240 : BitVec 1 := Scalar.cmpi .ne v234 v239
  let v241 : BitVec 32 := Scalar.remsi v228 c6_i32
  let c0_i32_88 : BitVec 32 := 0#32
  let v242 : BitVec 1 := Scalar.cmpi .ne v241 c0_i32_88
  let v243 : BitVec 1 := Scalar.andi v240 v242
  let v229 : BitVec 32 := Scalar.divsi v228 c6_i32
  let c1_i32_89 : BitVec 32 := 1#32
  let v244 : BitVec 32 := Scalar.subi v229 c1_i32_89
  let v245 : BitVec 32 := Scalar.select v243 v244 v229
  let c6_i32_94 : BitVec 32 := 6#32
  let v253 : BitVec 32 := Scalar.muli v245 c6_i32_94
  let v254 : BitVec 32 := Scalar.addi v223 v253
  let v255 : BitVec 32 := Scalar.addi v223 v228
  let v256 : BitVec 32 := Scalar.subi v255 v254
  let c1_i32_95 : BitVec 32 := 1#32
  let v258 : BitVec 32 := Scalar.divsi v256 c1_i32_95
  let v259 : BitVec 32 := Scalar.muli v258 c1_i32_95
  let v260 : BitVec 32 := Scalar.addi v254 v259
  let v257 : BitVec 32 := Scalar.addi v254 v256
  let c1_i32_97 : BitVec 32 := 1#32
  ⟨v260, v257, c1_i32_97⟩
def k0_off19 (v56_0 : BitVec 32) (arg34 : BitVec 32) (c0_i32_145 : BitVec 32) : Fin 1 → Nat :=
  let v436 : BitVec 32 := Scalar.subi arg34 v56_0
  let c128_i32_144 : BitVec 32 := 128#32
  let v438 : BitVec 32 := Scalar.muli v436 c128_i32_144
  let v439 : BitVec 32 := Scalar.addi v438 c0_i32_145
  let v440 : Index := Scalar.indexCast v439
  ![v440.toNat]
def k0_cond16 (v56_3 : BitVec 32) (v56_1 : BitVec 32) (k0_t2 : Fin (k0_t2_loop v56_3 v56_1).trips) (k0_t6 : Fin (k0_t6_loop v56_3 v56_1 k0_t2).trips) (arg35 : BitVec 32) : BitVec 1 :=
  let c2_i32_76 : BitVec 32 := 2#32
  let c0_i32_46 : BitVec 32 := 0#32
  let c1_i32_48 : BitVec 32 := 1#32
  let arg12 : BitVec 32 := Scf.iv c0_i32_46 c1_i32_48 k0_t2
  let v217 : BitVec 32 := Scalar.muli c2_i32_76 arg12
  let c272_i32_81 : BitVec 32 := 272#32
  let v222 : BitVec 32 := Scalar.muli v217 c272_i32_81
  let v223 : BitVec 32 := Scalar.addi v56_1 v222
  let c272_i32_82 : BitVec 32 := 272#32
  let v225 : BitVec 32 := Scalar.addi v223 c272_i32_82
  let v226 : BitVec 32 := Scalar.minsi v225 v56_3
  let v227 : BitVec 32 := Scalar.subi v226 v223
  let c0_i32_83 : BitVec 32 := 0#32
  let v228 : BitVec 32 := Scalar.maxsi v227 c0_i32_83
  let c0_i32_84 : BitVec 32 := 0#32
  let v230 : BitVec 1 := Scalar.cmpi .sgt v228 c0_i32_84
  let v231 : BitVec 32 := Scalar.extui v230
  let c0_i32_85 : BitVec 32 := 0#32
  let v232 : BitVec 1 := Scalar.cmpi .slt v228 c0_i32_85
  let v233 : BitVec 32 := Scalar.extui v232
  let v234 : BitVec 32 := Scalar.subi v231 v233
  let c6_i32 : BitVec 32 := 6#32
  let c0_i32_86 : BitVec 32 := 0#32
  let v235 : BitVec 1 := Scalar.cmpi .sgt c6_i32 c0_i32_86
  let v236 : BitVec 32 := Scalar.extui v235
  let c0_i32_87 : BitVec 32 := 0#32
  let v237 : BitVec 1 := Scalar.cmpi .slt c6_i32 c0_i32_87
  let v238 : BitVec 32 := Scalar.extui v237
  let v239 : BitVec 32 := Scalar.subi v236 v238
  let v240 : BitVec 1 := Scalar.cmpi .ne v234 v239
  let v241 : BitVec 32 := Scalar.remsi v228 c6_i32
  let c0_i32_88 : BitVec 32 := 0#32
  let v242 : BitVec 1 := Scalar.cmpi .ne v241 c0_i32_88
  let v243 : BitVec 1 := Scalar.andi v240 v242
  let v229 : BitVec 32 := Scalar.divsi v228 c6_i32
  let c1_i32_89 : BitVec 32 := 1#32
  let v244 : BitVec 32 := Scalar.subi v229 c1_i32_89
  let v245 : BitVec 32 := Scalar.select v243 v244 v229
  let c6_i32_94 : BitVec 32 := 6#32
  let v253 : BitVec 32 := Scalar.muli v245 c6_i32_94
  let v254 : BitVec 32 := Scalar.addi v223 v253
  let v255 : BitVec 32 := Scalar.addi v223 v228
  let v256 : BitVec 32 := Scalar.subi v255 v254
  let c1_i32_95 : BitVec 32 := 1#32
  let v258 : BitVec 32 := Scalar.divsi v256 c1_i32_95
  let v259 : BitVec 32 := Scalar.muli v258 c1_i32_95
  let v260 : BitVec 32 := Scalar.addi v254 v259
  let c1_i32_97 : BitVec 32 := 1#32
  let arg24 : BitVec 32 := Scf.iv v260 c1_i32_97 k0_t6
  let v315 : BitVec 1 := Scalar.cmpi .eq arg24 arg35
  let v316 : BitVec 32 := Scalar.extui v315
  let c0_i32_122 : BitVec 32 := 0#32
  let v317 : BitVec 1 := Scalar.cmpi .ne v316 c0_i32_122
  v317

def k0_chk15 (v56_3 : BitVec 32) (v56_1 : BitVec 32) (v56_0 : BitVec 32) (k0_t2 : Fin (k0_t2_loop v56_3 v56_1).trips) (k0_t6 : Fin (k0_t6_loop v56_3 v56_1 k0_t2).trips) (arg34 : BitVec 32) (arg35 : BitVec 32) : Prop :=
  (∀ (k0_h16 : k0_cond16 v56_3 v56_1 k0_t2 k0_t6 arg35 = 1#1), ∀ (r : Fin 8), ∀ a, (k0_off19 v56_0 arg34 (BitVec.ofNat 32 (16 * r.val))) a + S16.size a ≤ S19456.size a)
theorem k0_off19_inb : ∀ (v56_3 : BitVec 32) (v56_1 : BitVec 32) (v56_0 : BitVec 32) (k0_t2 : Fin (k0_t2_loop v56_3 v56_1).trips) (k0_t6 : Fin (k0_t6_loop v56_3 v56_1 k0_t2).trips) (arg34 : BitVec 32) (arg35 : BitVec 32) (k0_hw15 : k0_chk15 v56_3 v56_1 v56_0 k0_t2 k0_t6 arg34 arg35), ∀ (k0_h16 : k0_cond16 v56_3 v56_1 k0_t2 k0_t6 arg35 = 1#1), ∀ (r : Fin 8), ∀ a, (k0_off19 v56_0 arg34 (BitVec.ofNat 32 (16 * r.val))) a + S16.size a ≤ S19456.size a := fun v56_3 v56_1 v56_0 k0_t2 k0_t6 arg34 arg35 k0_hw15 k0_h16 r => k0_hw15 k0_h16 r

def k0_off20 (v56_3 : BitVec 32) (v56_1 : BitVec 32) (k0_t2 : Fin (k0_t2_loop v56_3 v56_1).trips) (k0_t6 : Fin (k0_t6_loop v56_3 v56_1 k0_t2).trips) (c0_i32_124 : BitVec 32) : Fin 1 → Nat :=
  let c2_i32_76 : BitVec 32 := 2#32
  let c0_i32_46 : BitVec 32 := 0#32
  let c1_i32_48 : BitVec 32 := 1#32
  let arg12 : BitVec 32 := Scf.iv c0_i32_46 c1_i32_48 k0_t2
  let v217 : BitVec 32 := Scalar.muli c2_i32_76 arg12
  let c272_i32_81 : BitVec 32 := 272#32
  let v222 : BitVec 32 := Scalar.muli v217 c272_i32_81
  let v223 : BitVec 32 := Scalar.addi v56_1 v222
  let c272_i32_82 : BitVec 32 := 272#32
  let v225 : BitVec 32 := Scalar.addi v223 c272_i32_82
  let v226 : BitVec 32 := Scalar.minsi v225 v56_3
  let v227 : BitVec 32 := Scalar.subi v226 v223
  let c0_i32_83 : BitVec 32 := 0#32
  let v228 : BitVec 32 := Scalar.maxsi v227 c0_i32_83
  let c0_i32_84 : BitVec 32 := 0#32
  let v230 : BitVec 1 := Scalar.cmpi .sgt v228 c0_i32_84
  let v231 : BitVec 32 := Scalar.extui v230
  let c0_i32_85 : BitVec 32 := 0#32
  let v232 : BitVec 1 := Scalar.cmpi .slt v228 c0_i32_85
  let v233 : BitVec 32 := Scalar.extui v232
  let v234 : BitVec 32 := Scalar.subi v231 v233
  let c6_i32 : BitVec 32 := 6#32
  let c0_i32_86 : BitVec 32 := 0#32
  let v235 : BitVec 1 := Scalar.cmpi .sgt c6_i32 c0_i32_86
  let v236 : BitVec 32 := Scalar.extui v235
  let c0_i32_87 : BitVec 32 := 0#32
  let v237 : BitVec 1 := Scalar.cmpi .slt c6_i32 c0_i32_87
  let v238 : BitVec 32 := Scalar.extui v237
  let v239 : BitVec 32 := Scalar.subi v236 v238
  let v240 : BitVec 1 := Scalar.cmpi .ne v234 v239
  let v241 : BitVec 32 := Scalar.remsi v228 c6_i32
  let c0_i32_88 : BitVec 32 := 0#32
  let v242 : BitVec 1 := Scalar.cmpi .ne v241 c0_i32_88
  let v243 : BitVec 1 := Scalar.andi v240 v242
  let v229 : BitVec 32 := Scalar.divsi v228 c6_i32
  let c1_i32_89 : BitVec 32 := 1#32
  let v244 : BitVec 32 := Scalar.subi v229 c1_i32_89
  let v245 : BitVec 32 := Scalar.select v243 v244 v229
  let c6_i32_94 : BitVec 32 := 6#32
  let v253 : BitVec 32 := Scalar.muli v245 c6_i32_94
  let v254 : BitVec 32 := Scalar.addi v223 v253
  let v255 : BitVec 32 := Scalar.addi v223 v228
  let v256 : BitVec 32 := Scalar.subi v255 v254
  let c1_i32_95 : BitVec 32 := 1#32
  let v258 : BitVec 32 := Scalar.divsi v256 c1_i32_95
  let v259 : BitVec 32 := Scalar.muli v258 c1_i32_95
  let v260 : BitVec 32 := Scalar.addi v254 v259
  let c1_i32_97 : BitVec 32 := 1#32
  let arg24 : BitVec 32 := Scf.iv v260 c1_i32_97 k0_t6
  let c319328_i32 : BitVec 32 := 319328#32
  let v224 : BitVec 32 := Scalar.minsi v223 c319328_i32
  let v319 : BitVec 32 := Scalar.subi arg24 v224
  let c128_i32_123 : BitVec 32 := 128#32
  let v320 : BitVec 32 := Scalar.muli v319 c128_i32_123
  let v321 : BitVec 32 := Scalar.addi v320 c0_i32_124
  let v322 : Index := Scalar.indexCast v321
  ![v322.toNat]
def k0_off21 (v56_3 : BitVec 32) (v56_1 : BitVec 32) (k0_t2 : Fin (k0_t2_loop v56_3 v56_1).trips) : Fin 1 → Nat :=
  let c2_i32_76 : BitVec 32 := 2#32
  let c0_i32_46 : BitVec 32 := 0#32
  let c1_i32_48 : BitVec 32 := 1#32
  let arg12 : BitVec 32 := Scf.iv c0_i32_46 c1_i32_48 k0_t2
  let v217 : BitVec 32 := Scalar.muli c2_i32_76 arg12
  let c2_i32_98 : BitVec 32 := 2#32
  let v263 : BitVec 32 := Scalar.addi v217 c2_i32_98
  let c272_i32_122 : BitVec 32 := 272#32
  let v315 : BitVec 32 := Scalar.muli v263 c272_i32_122
  let v316 : BitVec 32 := Scalar.addi v56_1 v315
  let c319328_i32_123 : BitVec 32 := 319328#32
  let v317 : BitVec 32 := Scalar.minsi v316 c319328_i32_123
  let c128_i32_124 : BitVec 32 := 128#32
  let v318 : BitVec 32 := Scalar.muli v317 c128_i32_124
  ![v318.toNat]
def k0_cond17 (v56_3 : BitVec 32) (v56_1 : BitVec 32) (k0_t2 : Fin (k0_t2_loop v56_3 v56_1).trips) : BitVec 1 :=
  let c2_i32_76 : BitVec 32 := 2#32
  let c0_i32_46 : BitVec 32 := 0#32
  let c1_i32_48 : BitVec 32 := 1#32
  let arg12 : BitVec 32 := Scf.iv c0_i32_46 c1_i32_48 k0_t2
  let v217 : BitVec 32 := Scalar.muli c2_i32_76 arg12
  let c2_i32_98 : BitVec 32 := 2#32
  let v263 : BitVec 32 := Scalar.addi v217 c2_i32_98
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let v264 : BitVec 1 := Scalar.cmpi .slt v263 v76
  let v265 : BitVec 32 := Scalar.extui v264
  let c0_i32_99 : BitVec 32 := 0#32
  let v266 : BitVec 1 := Scalar.cmpi .ne v265 c0_i32_99
  v266

@[reducible] def k0_t7_loop (v56_3 : BitVec 32) (v56_1 : BitVec 32) (k0_t2 : Fin (k0_t2_loop v56_3 v56_1).trips) : Scf.Loop 32 :=
  let c0_i32_112 : BitVec 32 := 0#32
  let c2_i32_77 : BitVec 32 := 2#32
  let c0_i32_46 : BitVec 32 := 0#32
  let c1_i32_48 : BitVec 32 := 1#32
  let arg12 : BitVec 32 := Scf.iv c0_i32_46 c1_i32_48 k0_t2
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c272_i32_103 : BitVec 32 := 272#32
  let v273 : BitVec 32 := Scalar.addi v271 c272_i32_103
  let v274 : BitVec 32 := Scalar.minsi v273 v56_3
  let v275 : BitVec 32 := Scalar.subi v274 v271
  let c0_i32_104 : BitVec 32 := 0#32
  let v276 : BitVec 32 := Scalar.maxsi v275 c0_i32_104
  let c0_i32_106 : BitVec 32 := 0#32
  let v278 : BitVec 1 := Scalar.cmpi .sgt v276 c0_i32_106
  let v279 : BitVec 32 := Scalar.extui v278
  let c0_i32_107 : BitVec 32 := 0#32
  let v280 : BitVec 1 := Scalar.cmpi .slt v276 c0_i32_107
  let v281 : BitVec 32 := Scalar.extui v280
  let v282 : BitVec 32 := Scalar.subi v279 v281
  let c6_i32_105 : BitVec 32 := 6#32
  let c0_i32_108 : BitVec 32 := 0#32
  let v283 : BitVec 1 := Scalar.cmpi .sgt c6_i32_105 c0_i32_108
  let v284 : BitVec 32 := Scalar.extui v283
  let c0_i32_109 : BitVec 32 := 0#32
  let v285 : BitVec 1 := Scalar.cmpi .slt c6_i32_105 c0_i32_109
  let v286 : BitVec 32 := Scalar.extui v285
  let v287 : BitVec 32 := Scalar.subi v284 v286
  let v288 : BitVec 1 := Scalar.cmpi .ne v282 v287
  let v289 : BitVec 32 := Scalar.remsi v276 c6_i32_105
  let c0_i32_110 : BitVec 32 := 0#32
  let v290 : BitVec 1 := Scalar.cmpi .ne v289 c0_i32_110
  let v291 : BitVec 1 := Scalar.andi v288 v290
  let v277 : BitVec 32 := Scalar.divsi v276 c6_i32_105
  let c1_i32_111 : BitVec 32 := 1#32
  let v292 : BitVec 32 := Scalar.subi v277 c1_i32_111
  let v293 : BitVec 32 := Scalar.select v291 v292 v277
  let v294 : BitVec 32 := Scalar.subi v293 c0_i32_112
  let c1_i32_113 : BitVec 32 := 1#32
  let v296 : BitVec 32 := Scalar.divsi v294 c1_i32_113
  let v297 : BitVec 32 := Scalar.muli v296 c1_i32_113
  let v298 : BitVec 32 := Scalar.addi c0_i32_112 v297
  let c1_i32_114 : BitVec 32 := 1#32
  ⟨c0_i32_112, v298, c1_i32_114⟩
def k0_off22 (v56_3 : BitVec 32) (v56_1 : BitVec 32) (k0_t2 : Fin (k0_t2_loop v56_3 v56_1).trips) (k0_t7 : Fin (k0_t7_loop v56_3 v56_1 k0_t2).trips) (c0_i32_123 : BitVec 32) (c0_i32_125 : BitVec 32) : Fin 1 → Nat :=
  let c2_i32_77 : BitVec 32 := 2#32
  let c0_i32_46 : BitVec 32 := 0#32
  let c1_i32_48 : BitVec 32 := 1#32
  let arg12 : BitVec 32 := Scf.iv c0_i32_46 c1_i32_48 k0_t2
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c0_i32_112 : BitVec 32 := 0#32
  let c1_i32_114 : BitVec 32 := 1#32
  let arg24 : BitVec 32 := Scf.iv c0_i32_112 c1_i32_114 k0_t7
  let c6_i32_122 : BitVec 32 := 6#32
  let v315 : BitVec 32 := Scalar.muli arg24 c6_i32_122
  let v316 : BitVec 32 := Scalar.addi v271 v315
  let c319328_i32_102 : BitVec 32 := 319328#32
  let v272 : BitVec 32 := Scalar.minsi v271 c319328_i32_102
  let v317 : BitVec 32 := Scalar.subi v316 v272
  let v318 : BitVec 32 := Scalar.addi v317 c0_i32_123
  let c128_i32_124 : BitVec 32 := 128#32
  let v319 : BitVec 32 := Scalar.muli v318 c128_i32_124
  let v320 : BitVec 32 := Scalar.addi v319 c0_i32_125
  let v321 : Index := Scalar.indexCast v320
  ![v321.toNat]
def k0_off23 (v56_0 : BitVec 32) (arg34 : BitVec 32) (c0_i32_251 : BitVec 32) : Fin 1 → Nat :=
  let v1025 : BitVec 32 := Scalar.subi arg34 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond19 (v56_3 : BitVec 32) (v56_1 : BitVec 32) (k0_t2 : Fin (k0_t2_loop v56_3 v56_1).trips) (k0_t7 : Fin (k0_t7_loop v56_3 v56_1 k0_t2).trips) (arg35 : BitVec 32) : BitVec 1 :=
  let c2_i32_77 : BitVec 32 := 2#32
  let c0_i32_46 : BitVec 32 := 0#32
  let c1_i32_48 : BitVec 32 := 1#32
  let arg12 : BitVec 32 := Scf.iv c0_i32_46 c1_i32_48 k0_t2
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c0_i32_112 : BitVec 32 := 0#32
  let c1_i32_114 : BitVec 32 := 1#32
  let arg24 : BitVec 32 := Scf.iv c0_i32_112 c1_i32_114 k0_t7
  let c6_i32_122 : BitVec 32 := 6#32
  let v315 : BitVec 32 := Scalar.muli arg24 c6_i32_122
  let v316 : BitVec 32 := Scalar.addi v271 v315
  let c0_i32_235 : BitVec 32 := 0#32
  let v887 : BitVec 32 := Scalar.addi v316 c0_i32_235
  let v888 : BitVec 1 := Scalar.cmpi .eq v887 arg35
  let v889 : BitVec 32 := Scalar.extui v888
  let c0_i32_236 : BitVec 32 := 0#32
  let v890 : BitVec 1 := Scalar.cmpi .ne v889 c0_i32_236
  v890

def k0_chk16 (v56_3 : BitVec 32) (v56_1 : BitVec 32) (v56_0 : BitVec 32) (k0_t2 : Fin (k0_t2_loop v56_3 v56_1).trips) (k0_t7 : Fin (k0_t7_loop v56_3 v56_1 k0_t2).trips) (arg34 : BitVec 32) (arg35 : BitVec 32) : Prop :=
  (∀ (k0_h19 : k0_cond19 v56_3 v56_1 k0_t2 k0_t7 arg35 = 1#1), ∀ (r : Fin 8), ∀ a, (k0_off23 v56_0 arg34 (BitVec.ofNat 32 (16 * r.val))) a + S16.size a ≤ S19456.size a)
theorem k0_off23_inb : ∀ (v56_3 : BitVec 32) (v56_1 : BitVec 32) (v56_0 : BitVec 32) (k0_t2 : Fin (k0_t2_loop v56_3 v56_1).trips) (k0_t7 : Fin (k0_t7_loop v56_3 v56_1 k0_t2).trips) (arg34 : BitVec 32) (arg35 : BitVec 32) (k0_hw16 : k0_chk16 v56_3 v56_1 v56_0 k0_t2 k0_t7 arg34 arg35), ∀ (k0_h19 : k0_cond19 v56_3 v56_1 k0_t2 k0_t7 arg35 = 1#1), ∀ (r : Fin 8), ∀ a, (k0_off23 v56_0 arg34 (BitVec.ofNat 32 (16 * r.val))) a + S16.size a ≤ S19456.size a := fun v56_3 v56_1 v56_0 k0_t2 k0_t7 arg34 arg35 k0_hw16 k0_h19 r => k0_hw16 k0_h19 r

def k0_off24 (v56_0 : BitVec 32) (v891_9 : BitVec 32) (c0_i32_251 : BitVec 32) : Fin 1 → Nat :=
  let v1025 : BitVec 32 := Scalar.subi v891_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond20 (v56_3 : BitVec 32) (v56_1 : BitVec 32) (k0_t2 : Fin (k0_t2_loop v56_3 v56_1).trips) (k0_t7 : Fin (k0_t7_loop v56_3 v56_1 k0_t2).trips) (v891_10 : BitVec 32) : BitVec 1 :=
  let c2_i32_77 : BitVec 32 := 2#32
  let c0_i32_46 : BitVec 32 := 0#32
  let c1_i32_48 : BitVec 32 := 1#32
  let arg12 : BitVec 32 := Scf.iv c0_i32_46 c1_i32_48 k0_t2
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c0_i32_112 : BitVec 32 := 0#32
  let c1_i32_114 : BitVec 32 := 1#32
  let arg24 : BitVec 32 := Scf.iv c0_i32_112 c1_i32_114 k0_t7
  let c6_i32_122 : BitVec 32 := 6#32
  let v315 : BitVec 32 := Scalar.muli arg24 c6_i32_122
  let v316 : BitVec 32 := Scalar.addi v271 v315
  let c1_i32_237 : BitVec 32 := 1#32
  let v909 : BitVec 32 := Scalar.addi v316 c1_i32_237
  let v910 : BitVec 1 := Scalar.cmpi .eq v909 v891_10
  let v911 : BitVec 32 := Scalar.extui v910
  let c0_i32_238 : BitVec 32 := 0#32
  let v912 : BitVec 1 := Scalar.cmpi .ne v911 c0_i32_238
  v912

def k0_chk17 (v56_3 : BitVec 32) (v56_1 : BitVec 32) (v56_0 : BitVec 32) (k0_t2 : Fin (k0_t2_loop v56_3 v56_1).trips) (k0_t7 : Fin (k0_t7_loop v56_3 v56_1 k0_t2).trips) (v891_10 : BitVec 32) (v891_9 : BitVec 32) : Prop :=
  (∀ (k0_h20 : k0_cond20 v56_3 v56_1 k0_t2 k0_t7 v891_10 = 1#1), ∀ (r : Fin 8), ∀ a, (k0_off24 v56_0 v891_9 (BitVec.ofNat 32 (16 * r.val))) a + S16.size a ≤ S19456.size a)
theorem k0_off24_inb : ∀ (v56_3 : BitVec 32) (v56_1 : BitVec 32) (v56_0 : BitVec 32) (k0_t2 : Fin (k0_t2_loop v56_3 v56_1).trips) (k0_t7 : Fin (k0_t7_loop v56_3 v56_1 k0_t2).trips) (v891_10 : BitVec 32) (v891_9 : BitVec 32) (k0_hw17 : k0_chk17 v56_3 v56_1 v56_0 k0_t2 k0_t7 v891_10 v891_9), ∀ (k0_h20 : k0_cond20 v56_3 v56_1 k0_t2 k0_t7 v891_10 = 1#1), ∀ (r : Fin 8), ∀ a, (k0_off24 v56_0 v891_9 (BitVec.ofNat 32 (16 * r.val))) a + S16.size a ≤ S19456.size a := fun v56_3 v56_1 v56_0 k0_t2 k0_t7 v891_10 v891_9 k0_hw17 k0_h20 r => k0_hw17 k0_h20 r

def k0_off25 (v56_0 : BitVec 32) (v913_9 : BitVec 32) (c0_i32_251 : BitVec 32) : Fin 1 → Nat :=
  let v1025 : BitVec 32 := Scalar.subi v913_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond21 (v56_3 : BitVec 32) (v56_1 : BitVec 32) (k0_t2 : Fin (k0_t2_loop v56_3 v56_1).trips) (k0_t7 : Fin (k0_t7_loop v56_3 v56_1 k0_t2).trips) (v913_10 : BitVec 32) : BitVec 1 :=
  let c2_i32_77 : BitVec 32 := 2#32
  let c0_i32_46 : BitVec 32 := 0#32
  let c1_i32_48 : BitVec 32 := 1#32
  let arg12 : BitVec 32 := Scf.iv c0_i32_46 c1_i32_48 k0_t2
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c0_i32_112 : BitVec 32 := 0#32
  let c1_i32_114 : BitVec 32 := 1#32
  let arg24 : BitVec 32 := Scf.iv c0_i32_112 c1_i32_114 k0_t7
  let c6_i32_122 : BitVec 32 := 6#32
  let v315 : BitVec 32 := Scalar.muli arg24 c6_i32_122
  let v316 : BitVec 32 := Scalar.addi v271 v315
  let c2_i32_239 : BitVec 32 := 2#32
  let v931 : BitVec 32 := Scalar.addi v316 c2_i32_239
  let v932 : BitVec 1 := Scalar.cmpi .eq v931 v913_10
  let v933 : BitVec 32 := Scalar.extui v932
  let c0_i32_240 : BitVec 32 := 0#32
  let v934 : BitVec 1 := Scalar.cmpi .ne v933 c0_i32_240
  v934

def k0_chk18 (v56_3 : BitVec 32) (v56_1 : BitVec 32) (v56_0 : BitVec 32) (k0_t2 : Fin (k0_t2_loop v56_3 v56_1).trips) (k0_t7 : Fin (k0_t7_loop v56_3 v56_1 k0_t2).trips) (v913_10 : BitVec 32) (v913_9 : BitVec 32) : Prop :=
  (∀ (k0_h21 : k0_cond21 v56_3 v56_1 k0_t2 k0_t7 v913_10 = 1#1), ∀ (r : Fin 8), ∀ a, (k0_off25 v56_0 v913_9 (BitVec.ofNat 32 (16 * r.val))) a + S16.size a ≤ S19456.size a)
theorem k0_off25_inb : ∀ (v56_3 : BitVec 32) (v56_1 : BitVec 32) (v56_0 : BitVec 32) (k0_t2 : Fin (k0_t2_loop v56_3 v56_1).trips) (k0_t7 : Fin (k0_t7_loop v56_3 v56_1 k0_t2).trips) (v913_10 : BitVec 32) (v913_9 : BitVec 32) (k0_hw18 : k0_chk18 v56_3 v56_1 v56_0 k0_t2 k0_t7 v913_10 v913_9), ∀ (k0_h21 : k0_cond21 v56_3 v56_1 k0_t2 k0_t7 v913_10 = 1#1), ∀ (r : Fin 8), ∀ a, (k0_off25 v56_0 v913_9 (BitVec.ofNat 32 (16 * r.val))) a + S16.size a ≤ S19456.size a := fun v56_3 v56_1 v56_0 k0_t2 k0_t7 v913_10 v913_9 k0_hw18 k0_h21 r => k0_hw18 k0_h21 r

def k0_off26 (v56_0 : BitVec 32) (v935_9 : BitVec 32) (c0_i32_251 : BitVec 32) : Fin 1 → Nat :=
  let v1025 : BitVec 32 := Scalar.subi v935_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond22 (v56_3 : BitVec 32) (v56_1 : BitVec 32) (k0_t2 : Fin (k0_t2_loop v56_3 v56_1).trips) (k0_t7 : Fin (k0_t7_loop v56_3 v56_1 k0_t2).trips) (v935_10 : BitVec 32) : BitVec 1 :=
  let c2_i32_77 : BitVec 32 := 2#32
  let c0_i32_46 : BitVec 32 := 0#32
  let c1_i32_48 : BitVec 32 := 1#32
  let arg12 : BitVec 32 := Scf.iv c0_i32_46 c1_i32_48 k0_t2
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c0_i32_112 : BitVec 32 := 0#32
  let c1_i32_114 : BitVec 32 := 1#32
  let arg24 : BitVec 32 := Scf.iv c0_i32_112 c1_i32_114 k0_t7
  let c6_i32_122 : BitVec 32 := 6#32
  let v315 : BitVec 32 := Scalar.muli arg24 c6_i32_122
  let v316 : BitVec 32 := Scalar.addi v271 v315
  let c3_i32_241 : BitVec 32 := 3#32
  let v953 : BitVec 32 := Scalar.addi v316 c3_i32_241
  let v954 : BitVec 1 := Scalar.cmpi .eq v953 v935_10
  let v955 : BitVec 32 := Scalar.extui v954
  let c0_i32_242 : BitVec 32 := 0#32
  let v956 : BitVec 1 := Scalar.cmpi .ne v955 c0_i32_242
  v956

def k0_chk19 (v56_3 : BitVec 32) (v56_1 : BitVec 32) (v56_0 : BitVec 32) (k0_t2 : Fin (k0_t2_loop v56_3 v56_1).trips) (k0_t7 : Fin (k0_t7_loop v56_3 v56_1 k0_t2).trips) (v935_10 : BitVec 32) (v935_9 : BitVec 32) : Prop :=
  (∀ (k0_h22 : k0_cond22 v56_3 v56_1 k0_t2 k0_t7 v935_10 = 1#1), ∀ (r : Fin 8), ∀ a, (k0_off26 v56_0 v935_9 (BitVec.ofNat 32 (16 * r.val))) a + S16.size a ≤ S19456.size a)
theorem k0_off26_inb : ∀ (v56_3 : BitVec 32) (v56_1 : BitVec 32) (v56_0 : BitVec 32) (k0_t2 : Fin (k0_t2_loop v56_3 v56_1).trips) (k0_t7 : Fin (k0_t7_loop v56_3 v56_1 k0_t2).trips) (v935_10 : BitVec 32) (v935_9 : BitVec 32) (k0_hw19 : k0_chk19 v56_3 v56_1 v56_0 k0_t2 k0_t7 v935_10 v935_9), ∀ (k0_h22 : k0_cond22 v56_3 v56_1 k0_t2 k0_t7 v935_10 = 1#1), ∀ (r : Fin 8), ∀ a, (k0_off26 v56_0 v935_9 (BitVec.ofNat 32 (16 * r.val))) a + S16.size a ≤ S19456.size a := fun v56_3 v56_1 v56_0 k0_t2 k0_t7 v935_10 v935_9 k0_hw19 k0_h22 r => k0_hw19 k0_h22 r

def k0_off27 (v56_0 : BitVec 32) (v957_9 : BitVec 32) (c0_i32_251 : BitVec 32) : Fin 1 → Nat :=
  let v1025 : BitVec 32 := Scalar.subi v957_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond23 (v56_3 : BitVec 32) (v56_1 : BitVec 32) (k0_t2 : Fin (k0_t2_loop v56_3 v56_1).trips) (k0_t7 : Fin (k0_t7_loop v56_3 v56_1 k0_t2).trips) (v957_10 : BitVec 32) : BitVec 1 :=
  let c2_i32_77 : BitVec 32 := 2#32
  let c0_i32_46 : BitVec 32 := 0#32
  let c1_i32_48 : BitVec 32 := 1#32
  let arg12 : BitVec 32 := Scf.iv c0_i32_46 c1_i32_48 k0_t2
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c0_i32_112 : BitVec 32 := 0#32
  let c1_i32_114 : BitVec 32 := 1#32
  let arg24 : BitVec 32 := Scf.iv c0_i32_112 c1_i32_114 k0_t7
  let c6_i32_122 : BitVec 32 := 6#32
  let v315 : BitVec 32 := Scalar.muli arg24 c6_i32_122
  let v316 : BitVec 32 := Scalar.addi v271 v315
  let c4_i32_243 : BitVec 32 := 4#32
  let v975 : BitVec 32 := Scalar.addi v316 c4_i32_243
  let v976 : BitVec 1 := Scalar.cmpi .eq v975 v957_10
  let v977 : BitVec 32 := Scalar.extui v976
  let c0_i32_244 : BitVec 32 := 0#32
  let v978 : BitVec 1 := Scalar.cmpi .ne v977 c0_i32_244
  v978

def k0_chk20 (v56_3 : BitVec 32) (v56_1 : BitVec 32) (v56_0 : BitVec 32) (k0_t2 : Fin (k0_t2_loop v56_3 v56_1).trips) (k0_t7 : Fin (k0_t7_loop v56_3 v56_1 k0_t2).trips) (v957_10 : BitVec 32) (v957_9 : BitVec 32) : Prop :=
  (∀ (k0_h23 : k0_cond23 v56_3 v56_1 k0_t2 k0_t7 v957_10 = 1#1), ∀ (r : Fin 8), ∀ a, (k0_off27 v56_0 v957_9 (BitVec.ofNat 32 (16 * r.val))) a + S16.size a ≤ S19456.size a)
theorem k0_off27_inb : ∀ (v56_3 : BitVec 32) (v56_1 : BitVec 32) (v56_0 : BitVec 32) (k0_t2 : Fin (k0_t2_loop v56_3 v56_1).trips) (k0_t7 : Fin (k0_t7_loop v56_3 v56_1 k0_t2).trips) (v957_10 : BitVec 32) (v957_9 : BitVec 32) (k0_hw20 : k0_chk20 v56_3 v56_1 v56_0 k0_t2 k0_t7 v957_10 v957_9), ∀ (k0_h23 : k0_cond23 v56_3 v56_1 k0_t2 k0_t7 v957_10 = 1#1), ∀ (r : Fin 8), ∀ a, (k0_off27 v56_0 v957_9 (BitVec.ofNat 32 (16 * r.val))) a + S16.size a ≤ S19456.size a := fun v56_3 v56_1 v56_0 k0_t2 k0_t7 v957_10 v957_9 k0_hw20 k0_h23 r => k0_hw20 k0_h23 r

def k0_off28 (v56_0 : BitVec 32) (v979_9 : BitVec 32) (c0_i32_251 : BitVec 32) : Fin 1 → Nat :=
  let v1025 : BitVec 32 := Scalar.subi v979_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond24 (v56_3 : BitVec 32) (v56_1 : BitVec 32) (k0_t2 : Fin (k0_t2_loop v56_3 v56_1).trips) (k0_t7 : Fin (k0_t7_loop v56_3 v56_1 k0_t2).trips) (v979_10 : BitVec 32) : BitVec 1 :=
  let c2_i32_77 : BitVec 32 := 2#32
  let c0_i32_46 : BitVec 32 := 0#32
  let c1_i32_48 : BitVec 32 := 1#32
  let arg12 : BitVec 32 := Scf.iv c0_i32_46 c1_i32_48 k0_t2
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c0_i32_112 : BitVec 32 := 0#32
  let c1_i32_114 : BitVec 32 := 1#32
  let arg24 : BitVec 32 := Scf.iv c0_i32_112 c1_i32_114 k0_t7
  let c6_i32_122 : BitVec 32 := 6#32
  let v315 : BitVec 32 := Scalar.muli arg24 c6_i32_122
  let v316 : BitVec 32 := Scalar.addi v271 v315
  let c5_i32_245 : BitVec 32 := 5#32
  let v997 : BitVec 32 := Scalar.addi v316 c5_i32_245
  let v998 : BitVec 1 := Scalar.cmpi .eq v997 v979_10
  let v999 : BitVec 32 := Scalar.extui v998
  let c0_i32_246 : BitVec 32 := 0#32
  let v1000 : BitVec 1 := Scalar.cmpi .ne v999 c0_i32_246
  v1000

def k0_chk21 (v56_3 : BitVec 32) (v56_1 : BitVec 32) (v56_0 : BitVec 32) (k0_t2 : Fin (k0_t2_loop v56_3 v56_1).trips) (k0_t7 : Fin (k0_t7_loop v56_3 v56_1 k0_t2).trips) (v979_10 : BitVec 32) (v979_9 : BitVec 32) : Prop :=
  (∀ (k0_h24 : k0_cond24 v56_3 v56_1 k0_t2 k0_t7 v979_10 = 1#1), ∀ (r : Fin 8), ∀ a, (k0_off28 v56_0 v979_9 (BitVec.ofNat 32 (16 * r.val))) a + S16.size a ≤ S19456.size a)
theorem k0_off28_inb : ∀ (v56_3 : BitVec 32) (v56_1 : BitVec 32) (v56_0 : BitVec 32) (k0_t2 : Fin (k0_t2_loop v56_3 v56_1).trips) (k0_t7 : Fin (k0_t7_loop v56_3 v56_1 k0_t2).trips) (v979_10 : BitVec 32) (v979_9 : BitVec 32) (k0_hw21 : k0_chk21 v56_3 v56_1 v56_0 k0_t2 k0_t7 v979_10 v979_9), ∀ (k0_h24 : k0_cond24 v56_3 v56_1 k0_t2 k0_t7 v979_10 = 1#1), ∀ (r : Fin 8), ∀ a, (k0_off28 v56_0 v979_9 (BitVec.ofNat 32 (16 * r.val))) a + S16.size a ≤ S19456.size a := fun v56_3 v56_1 v56_0 k0_t2 k0_t7 v979_10 v979_9 k0_hw21 k0_h24 r => k0_hw21 k0_h24 r

@[reducible] def k0_t8_loop (v56_3 : BitVec 32) (v56_1 : BitVec 32) (k0_t2 : Fin (k0_t2_loop v56_3 v56_1).trips) : Scf.Loop 32 :=
  let c0_i32_112 : BitVec 32 := 0#32
  let c2_i32_77 : BitVec 32 := 2#32
  let c0_i32_46 : BitVec 32 := 0#32
  let c1_i32_48 : BitVec 32 := 1#32
  let arg12 : BitVec 32 := Scf.iv c0_i32_46 c1_i32_48 k0_t2
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c272_i32_103 : BitVec 32 := 272#32
  let v273 : BitVec 32 := Scalar.addi v271 c272_i32_103
  let v274 : BitVec 32 := Scalar.minsi v273 v56_3
  let v275 : BitVec 32 := Scalar.subi v274 v271
  let c0_i32_104 : BitVec 32 := 0#32
  let v276 : BitVec 32 := Scalar.maxsi v275 c0_i32_104
  let c0_i32_106 : BitVec 32 := 0#32
  let v278 : BitVec 1 := Scalar.cmpi .sgt v276 c0_i32_106
  let v279 : BitVec 32 := Scalar.extui v278
  let c0_i32_107 : BitVec 32 := 0#32
  let v280 : BitVec 1 := Scalar.cmpi .slt v276 c0_i32_107
  let v281 : BitVec 32 := Scalar.extui v280
  let v282 : BitVec 32 := Scalar.subi v279 v281
  let c6_i32_105 : BitVec 32 := 6#32
  let c0_i32_108 : BitVec 32 := 0#32
  let v283 : BitVec 1 := Scalar.cmpi .sgt c6_i32_105 c0_i32_108
  let v284 : BitVec 32 := Scalar.extui v283
  let c0_i32_109 : BitVec 32 := 0#32
  let v285 : BitVec 1 := Scalar.cmpi .slt c6_i32_105 c0_i32_109
  let v286 : BitVec 32 := Scalar.extui v285
  let v287 : BitVec 32 := Scalar.subi v284 v286
  let v288 : BitVec 1 := Scalar.cmpi .ne v282 v287
  let v289 : BitVec 32 := Scalar.remsi v276 c6_i32_105
  let c0_i32_110 : BitVec 32 := 0#32
  let v290 : BitVec 1 := Scalar.cmpi .ne v289 c0_i32_110
  let v291 : BitVec 1 := Scalar.andi v288 v290
  let v277 : BitVec 32 := Scalar.divsi v276 c6_i32_105
  let c1_i32_111 : BitVec 32 := 1#32
  let v292 : BitVec 32 := Scalar.subi v277 c1_i32_111
  let v293 : BitVec 32 := Scalar.select v291 v292 v277
  let v294 : BitVec 32 := Scalar.subi v293 c0_i32_112
  let c1_i32_113 : BitVec 32 := 1#32
  let v296 : BitVec 32 := Scalar.divsi v294 c1_i32_113
  let v297 : BitVec 32 := Scalar.muli v296 c1_i32_113
  let v298 : BitVec 32 := Scalar.addi c0_i32_112 v297
  let v295 : BitVec 32 := Scalar.addi c0_i32_112 v294
  let c1_i32_115 : BitVec 32 := 1#32
  ⟨v298, v295, c1_i32_115⟩
def k0_off29 (v56_3 : BitVec 32) (v56_1 : BitVec 32) (k0_t2 : Fin (k0_t2_loop v56_3 v56_1).trips) (k0_t8 : Fin (k0_t8_loop v56_3 v56_1 k0_t2).trips) (c0_i32_123 : BitVec 32) (c0_i32_125 : BitVec 32) : Fin 1 → Nat :=
  let c2_i32_77 : BitVec 32 := 2#32
  let c0_i32_46 : BitVec 32 := 0#32
  let c1_i32_48 : BitVec 32 := 1#32
  let arg12 : BitVec 32 := Scf.iv c0_i32_46 c1_i32_48 k0_t2
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c0_i32_112 : BitVec 32 := 0#32
  let c272_i32_103 : BitVec 32 := 272#32
  let v273 : BitVec 32 := Scalar.addi v271 c272_i32_103
  let v274 : BitVec 32 := Scalar.minsi v273 v56_3
  let v275 : BitVec 32 := Scalar.subi v274 v271
  let c0_i32_104 : BitVec 32 := 0#32
  let v276 : BitVec 32 := Scalar.maxsi v275 c0_i32_104
  let c0_i32_106 : BitVec 32 := 0#32
  let v278 : BitVec 1 := Scalar.cmpi .sgt v276 c0_i32_106
  let v279 : BitVec 32 := Scalar.extui v278
  let c0_i32_107 : BitVec 32 := 0#32
  let v280 : BitVec 1 := Scalar.cmpi .slt v276 c0_i32_107
  let v281 : BitVec 32 := Scalar.extui v280
  let v282 : BitVec 32 := Scalar.subi v279 v281
  let c6_i32_105 : BitVec 32 := 6#32
  let c0_i32_108 : BitVec 32 := 0#32
  let v283 : BitVec 1 := Scalar.cmpi .sgt c6_i32_105 c0_i32_108
  let v284 : BitVec 32 := Scalar.extui v283
  let c0_i32_109 : BitVec 32 := 0#32
  let v285 : BitVec 1 := Scalar.cmpi .slt c6_i32_105 c0_i32_109
  let v286 : BitVec 32 := Scalar.extui v285
  let v287 : BitVec 32 := Scalar.subi v284 v286
  let v288 : BitVec 1 := Scalar.cmpi .ne v282 v287
  let v289 : BitVec 32 := Scalar.remsi v276 c6_i32_105
  let c0_i32_110 : BitVec 32 := 0#32
  let v290 : BitVec 1 := Scalar.cmpi .ne v289 c0_i32_110
  let v291 : BitVec 1 := Scalar.andi v288 v290
  let v277 : BitVec 32 := Scalar.divsi v276 c6_i32_105
  let c1_i32_111 : BitVec 32 := 1#32
  let v292 : BitVec 32 := Scalar.subi v277 c1_i32_111
  let v293 : BitVec 32 := Scalar.select v291 v292 v277
  let v294 : BitVec 32 := Scalar.subi v293 c0_i32_112
  let c1_i32_113 : BitVec 32 := 1#32
  let v296 : BitVec 32 := Scalar.divsi v294 c1_i32_113
  let v297 : BitVec 32 := Scalar.muli v296 c1_i32_113
  let v298 : BitVec 32 := Scalar.addi c0_i32_112 v297
  let c1_i32_115 : BitVec 32 := 1#32
  let arg24 : BitVec 32 := Scf.iv v298 c1_i32_115 k0_t8
  let c6_i32_122 : BitVec 32 := 6#32
  let v315 : BitVec 32 := Scalar.muli arg24 c6_i32_122
  let v316 : BitVec 32 := Scalar.addi v271 v315
  let c319328_i32_102 : BitVec 32 := 319328#32
  let v272 : BitVec 32 := Scalar.minsi v271 c319328_i32_102
  let v317 : BitVec 32 := Scalar.subi v316 v272
  let v318 : BitVec 32 := Scalar.addi v317 c0_i32_123
  let c128_i32_124 : BitVec 32 := 128#32
  let v319 : BitVec 32 := Scalar.muli v318 c128_i32_124
  let v320 : BitVec 32 := Scalar.addi v319 c0_i32_125
  let v321 : Index := Scalar.indexCast v320
  ![v321.toNat]
def k0_off30 (v56_0 : BitVec 32) (arg34 : BitVec 32) (c0_i32_251 : BitVec 32) : Fin 1 → Nat :=
  let v1025 : BitVec 32 := Scalar.subi arg34 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond25 (v56_3 : BitVec 32) (v56_1 : BitVec 32) (k0_t2 : Fin (k0_t2_loop v56_3 v56_1).trips) (k0_t8 : Fin (k0_t8_loop v56_3 v56_1 k0_t2).trips) (arg35 : BitVec 32) : BitVec 1 :=
  let c2_i32_77 : BitVec 32 := 2#32
  let c0_i32_46 : BitVec 32 := 0#32
  let c1_i32_48 : BitVec 32 := 1#32
  let arg12 : BitVec 32 := Scf.iv c0_i32_46 c1_i32_48 k0_t2
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c0_i32_112 : BitVec 32 := 0#32
  let c272_i32_103 : BitVec 32 := 272#32
  let v273 : BitVec 32 := Scalar.addi v271 c272_i32_103
  let v274 : BitVec 32 := Scalar.minsi v273 v56_3
  let v275 : BitVec 32 := Scalar.subi v274 v271
  let c0_i32_104 : BitVec 32 := 0#32
  let v276 : BitVec 32 := Scalar.maxsi v275 c0_i32_104
  let c0_i32_106 : BitVec 32 := 0#32
  let v278 : BitVec 1 := Scalar.cmpi .sgt v276 c0_i32_106
  let v279 : BitVec 32 := Scalar.extui v278
  let c0_i32_107 : BitVec 32 := 0#32
  let v280 : BitVec 1 := Scalar.cmpi .slt v276 c0_i32_107
  let v281 : BitVec 32 := Scalar.extui v280
  let v282 : BitVec 32 := Scalar.subi v279 v281
  let c6_i32_105 : BitVec 32 := 6#32
  let c0_i32_108 : BitVec 32 := 0#32
  let v283 : BitVec 1 := Scalar.cmpi .sgt c6_i32_105 c0_i32_108
  let v284 : BitVec 32 := Scalar.extui v283
  let c0_i32_109 : BitVec 32 := 0#32
  let v285 : BitVec 1 := Scalar.cmpi .slt c6_i32_105 c0_i32_109
  let v286 : BitVec 32 := Scalar.extui v285
  let v287 : BitVec 32 := Scalar.subi v284 v286
  let v288 : BitVec 1 := Scalar.cmpi .ne v282 v287
  let v289 : BitVec 32 := Scalar.remsi v276 c6_i32_105
  let c0_i32_110 : BitVec 32 := 0#32
  let v290 : BitVec 1 := Scalar.cmpi .ne v289 c0_i32_110
  let v291 : BitVec 1 := Scalar.andi v288 v290
  let v277 : BitVec 32 := Scalar.divsi v276 c6_i32_105
  let c1_i32_111 : BitVec 32 := 1#32
  let v292 : BitVec 32 := Scalar.subi v277 c1_i32_111
  let v293 : BitVec 32 := Scalar.select v291 v292 v277
  let v294 : BitVec 32 := Scalar.subi v293 c0_i32_112
  let c1_i32_113 : BitVec 32 := 1#32
  let v296 : BitVec 32 := Scalar.divsi v294 c1_i32_113
  let v297 : BitVec 32 := Scalar.muli v296 c1_i32_113
  let v298 : BitVec 32 := Scalar.addi c0_i32_112 v297
  let c1_i32_115 : BitVec 32 := 1#32
  let arg24 : BitVec 32 := Scf.iv v298 c1_i32_115 k0_t8
  let c6_i32_122 : BitVec 32 := 6#32
  let v315 : BitVec 32 := Scalar.muli arg24 c6_i32_122
  let v316 : BitVec 32 := Scalar.addi v271 v315
  let c0_i32_235 : BitVec 32 := 0#32
  let v887 : BitVec 32 := Scalar.addi v316 c0_i32_235
  let v888 : BitVec 1 := Scalar.cmpi .eq v887 arg35
  let v889 : BitVec 32 := Scalar.extui v888
  let c0_i32_236 : BitVec 32 := 0#32
  let v890 : BitVec 1 := Scalar.cmpi .ne v889 c0_i32_236
  v890

def k0_chk22 (v56_3 : BitVec 32) (v56_1 : BitVec 32) (v56_0 : BitVec 32) (k0_t2 : Fin (k0_t2_loop v56_3 v56_1).trips) (k0_t8 : Fin (k0_t8_loop v56_3 v56_1 k0_t2).trips) (arg34 : BitVec 32) (arg35 : BitVec 32) : Prop :=
  (∀ (k0_h25 : k0_cond25 v56_3 v56_1 k0_t2 k0_t8 arg35 = 1#1), ∀ (r : Fin 8), ∀ a, (k0_off30 v56_0 arg34 (BitVec.ofNat 32 (16 * r.val))) a + S16.size a ≤ S19456.size a)
theorem k0_off30_inb : ∀ (v56_3 : BitVec 32) (v56_1 : BitVec 32) (v56_0 : BitVec 32) (k0_t2 : Fin (k0_t2_loop v56_3 v56_1).trips) (k0_t8 : Fin (k0_t8_loop v56_3 v56_1 k0_t2).trips) (arg34 : BitVec 32) (arg35 : BitVec 32) (k0_hw22 : k0_chk22 v56_3 v56_1 v56_0 k0_t2 k0_t8 arg34 arg35), ∀ (k0_h25 : k0_cond25 v56_3 v56_1 k0_t2 k0_t8 arg35 = 1#1), ∀ (r : Fin 8), ∀ a, (k0_off30 v56_0 arg34 (BitVec.ofNat 32 (16 * r.val))) a + S16.size a ≤ S19456.size a := fun v56_3 v56_1 v56_0 k0_t2 k0_t8 arg34 arg35 k0_hw22 k0_h25 r => k0_hw22 k0_h25 r

def k0_off31 (v56_0 : BitVec 32) (v891_9 : BitVec 32) (c0_i32_251 : BitVec 32) : Fin 1 → Nat :=
  let v1025 : BitVec 32 := Scalar.subi v891_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond26 (v56_3 : BitVec 32) (v56_1 : BitVec 32) (k0_t2 : Fin (k0_t2_loop v56_3 v56_1).trips) (k0_t8 : Fin (k0_t8_loop v56_3 v56_1 k0_t2).trips) (v891_10 : BitVec 32) : BitVec 1 :=
  let c2_i32_77 : BitVec 32 := 2#32
  let c0_i32_46 : BitVec 32 := 0#32
  let c1_i32_48 : BitVec 32 := 1#32
  let arg12 : BitVec 32 := Scf.iv c0_i32_46 c1_i32_48 k0_t2
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c0_i32_112 : BitVec 32 := 0#32
  let c272_i32_103 : BitVec 32 := 272#32
  let v273 : BitVec 32 := Scalar.addi v271 c272_i32_103
  let v274 : BitVec 32 := Scalar.minsi v273 v56_3
  let v275 : BitVec 32 := Scalar.subi v274 v271
  let c0_i32_104 : BitVec 32 := 0#32
  let v276 : BitVec 32 := Scalar.maxsi v275 c0_i32_104
  let c0_i32_106 : BitVec 32 := 0#32
  let v278 : BitVec 1 := Scalar.cmpi .sgt v276 c0_i32_106
  let v279 : BitVec 32 := Scalar.extui v278
  let c0_i32_107 : BitVec 32 := 0#32
  let v280 : BitVec 1 := Scalar.cmpi .slt v276 c0_i32_107
  let v281 : BitVec 32 := Scalar.extui v280
  let v282 : BitVec 32 := Scalar.subi v279 v281
  let c6_i32_105 : BitVec 32 := 6#32
  let c0_i32_108 : BitVec 32 := 0#32
  let v283 : BitVec 1 := Scalar.cmpi .sgt c6_i32_105 c0_i32_108
  let v284 : BitVec 32 := Scalar.extui v283
  let c0_i32_109 : BitVec 32 := 0#32
  let v285 : BitVec 1 := Scalar.cmpi .slt c6_i32_105 c0_i32_109
  let v286 : BitVec 32 := Scalar.extui v285
  let v287 : BitVec 32 := Scalar.subi v284 v286
  let v288 : BitVec 1 := Scalar.cmpi .ne v282 v287
  let v289 : BitVec 32 := Scalar.remsi v276 c6_i32_105
  let c0_i32_110 : BitVec 32 := 0#32
  let v290 : BitVec 1 := Scalar.cmpi .ne v289 c0_i32_110
  let v291 : BitVec 1 := Scalar.andi v288 v290
  let v277 : BitVec 32 := Scalar.divsi v276 c6_i32_105
  let c1_i32_111 : BitVec 32 := 1#32
  let v292 : BitVec 32 := Scalar.subi v277 c1_i32_111
  let v293 : BitVec 32 := Scalar.select v291 v292 v277
  let v294 : BitVec 32 := Scalar.subi v293 c0_i32_112
  let c1_i32_113 : BitVec 32 := 1#32
  let v296 : BitVec 32 := Scalar.divsi v294 c1_i32_113
  let v297 : BitVec 32 := Scalar.muli v296 c1_i32_113
  let v298 : BitVec 32 := Scalar.addi c0_i32_112 v297
  let c1_i32_115 : BitVec 32 := 1#32
  let arg24 : BitVec 32 := Scf.iv v298 c1_i32_115 k0_t8
  let c6_i32_122 : BitVec 32 := 6#32
  let v315 : BitVec 32 := Scalar.muli arg24 c6_i32_122
  let v316 : BitVec 32 := Scalar.addi v271 v315
  let c1_i32_237 : BitVec 32 := 1#32
  let v909 : BitVec 32 := Scalar.addi v316 c1_i32_237
  let v910 : BitVec 1 := Scalar.cmpi .eq v909 v891_10
  let v911 : BitVec 32 := Scalar.extui v910
  let c0_i32_238 : BitVec 32 := 0#32
  let v912 : BitVec 1 := Scalar.cmpi .ne v911 c0_i32_238
  v912

def k0_chk23 (v56_3 : BitVec 32) (v56_1 : BitVec 32) (v56_0 : BitVec 32) (k0_t2 : Fin (k0_t2_loop v56_3 v56_1).trips) (k0_t8 : Fin (k0_t8_loop v56_3 v56_1 k0_t2).trips) (v891_10 : BitVec 32) (v891_9 : BitVec 32) : Prop :=
  (∀ (k0_h26 : k0_cond26 v56_3 v56_1 k0_t2 k0_t8 v891_10 = 1#1), ∀ (r : Fin 8), ∀ a, (k0_off31 v56_0 v891_9 (BitVec.ofNat 32 (16 * r.val))) a + S16.size a ≤ S19456.size a)
theorem k0_off31_inb : ∀ (v56_3 : BitVec 32) (v56_1 : BitVec 32) (v56_0 : BitVec 32) (k0_t2 : Fin (k0_t2_loop v56_3 v56_1).trips) (k0_t8 : Fin (k0_t8_loop v56_3 v56_1 k0_t2).trips) (v891_10 : BitVec 32) (v891_9 : BitVec 32) (k0_hw23 : k0_chk23 v56_3 v56_1 v56_0 k0_t2 k0_t8 v891_10 v891_9), ∀ (k0_h26 : k0_cond26 v56_3 v56_1 k0_t2 k0_t8 v891_10 = 1#1), ∀ (r : Fin 8), ∀ a, (k0_off31 v56_0 v891_9 (BitVec.ofNat 32 (16 * r.val))) a + S16.size a ≤ S19456.size a := fun v56_3 v56_1 v56_0 k0_t2 k0_t8 v891_10 v891_9 k0_hw23 k0_h26 r => k0_hw23 k0_h26 r

def k0_off32 (v56_0 : BitVec 32) (v913_9 : BitVec 32) (c0_i32_251 : BitVec 32) : Fin 1 → Nat :=
  let v1025 : BitVec 32 := Scalar.subi v913_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond27 (v56_3 : BitVec 32) (v56_1 : BitVec 32) (k0_t2 : Fin (k0_t2_loop v56_3 v56_1).trips) (k0_t8 : Fin (k0_t8_loop v56_3 v56_1 k0_t2).trips) (v913_10 : BitVec 32) : BitVec 1 :=
  let c2_i32_77 : BitVec 32 := 2#32
  let c0_i32_46 : BitVec 32 := 0#32
  let c1_i32_48 : BitVec 32 := 1#32
  let arg12 : BitVec 32 := Scf.iv c0_i32_46 c1_i32_48 k0_t2
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c0_i32_112 : BitVec 32 := 0#32
  let c272_i32_103 : BitVec 32 := 272#32
  let v273 : BitVec 32 := Scalar.addi v271 c272_i32_103
  let v274 : BitVec 32 := Scalar.minsi v273 v56_3
  let v275 : BitVec 32 := Scalar.subi v274 v271
  let c0_i32_104 : BitVec 32 := 0#32
  let v276 : BitVec 32 := Scalar.maxsi v275 c0_i32_104
  let c0_i32_106 : BitVec 32 := 0#32
  let v278 : BitVec 1 := Scalar.cmpi .sgt v276 c0_i32_106
  let v279 : BitVec 32 := Scalar.extui v278
  let c0_i32_107 : BitVec 32 := 0#32
  let v280 : BitVec 1 := Scalar.cmpi .slt v276 c0_i32_107
  let v281 : BitVec 32 := Scalar.extui v280
  let v282 : BitVec 32 := Scalar.subi v279 v281
  let c6_i32_105 : BitVec 32 := 6#32
  let c0_i32_108 : BitVec 32 := 0#32
  let v283 : BitVec 1 := Scalar.cmpi .sgt c6_i32_105 c0_i32_108
  let v284 : BitVec 32 := Scalar.extui v283
  let c0_i32_109 : BitVec 32 := 0#32
  let v285 : BitVec 1 := Scalar.cmpi .slt c6_i32_105 c0_i32_109
  let v286 : BitVec 32 := Scalar.extui v285
  let v287 : BitVec 32 := Scalar.subi v284 v286
  let v288 : BitVec 1 := Scalar.cmpi .ne v282 v287
  let v289 : BitVec 32 := Scalar.remsi v276 c6_i32_105
  let c0_i32_110 : BitVec 32 := 0#32
  let v290 : BitVec 1 := Scalar.cmpi .ne v289 c0_i32_110
  let v291 : BitVec 1 := Scalar.andi v288 v290
  let v277 : BitVec 32 := Scalar.divsi v276 c6_i32_105
  let c1_i32_111 : BitVec 32 := 1#32
  let v292 : BitVec 32 := Scalar.subi v277 c1_i32_111
  let v293 : BitVec 32 := Scalar.select v291 v292 v277
  let v294 : BitVec 32 := Scalar.subi v293 c0_i32_112
  let c1_i32_113 : BitVec 32 := 1#32
  let v296 : BitVec 32 := Scalar.divsi v294 c1_i32_113
  let v297 : BitVec 32 := Scalar.muli v296 c1_i32_113
  let v298 : BitVec 32 := Scalar.addi c0_i32_112 v297
  let c1_i32_115 : BitVec 32 := 1#32
  let arg24 : BitVec 32 := Scf.iv v298 c1_i32_115 k0_t8
  let c6_i32_122 : BitVec 32 := 6#32
  let v315 : BitVec 32 := Scalar.muli arg24 c6_i32_122
  let v316 : BitVec 32 := Scalar.addi v271 v315
  let c2_i32_239 : BitVec 32 := 2#32
  let v931 : BitVec 32 := Scalar.addi v316 c2_i32_239
  let v932 : BitVec 1 := Scalar.cmpi .eq v931 v913_10
  let v933 : BitVec 32 := Scalar.extui v932
  let c0_i32_240 : BitVec 32 := 0#32
  let v934 : BitVec 1 := Scalar.cmpi .ne v933 c0_i32_240
  v934

def k0_chk24 (v56_3 : BitVec 32) (v56_1 : BitVec 32) (v56_0 : BitVec 32) (k0_t2 : Fin (k0_t2_loop v56_3 v56_1).trips) (k0_t8 : Fin (k0_t8_loop v56_3 v56_1 k0_t2).trips) (v913_10 : BitVec 32) (v913_9 : BitVec 32) : Prop :=
  (∀ (k0_h27 : k0_cond27 v56_3 v56_1 k0_t2 k0_t8 v913_10 = 1#1), ∀ (r : Fin 8), ∀ a, (k0_off32 v56_0 v913_9 (BitVec.ofNat 32 (16 * r.val))) a + S16.size a ≤ S19456.size a)
theorem k0_off32_inb : ∀ (v56_3 : BitVec 32) (v56_1 : BitVec 32) (v56_0 : BitVec 32) (k0_t2 : Fin (k0_t2_loop v56_3 v56_1).trips) (k0_t8 : Fin (k0_t8_loop v56_3 v56_1 k0_t2).trips) (v913_10 : BitVec 32) (v913_9 : BitVec 32) (k0_hw24 : k0_chk24 v56_3 v56_1 v56_0 k0_t2 k0_t8 v913_10 v913_9), ∀ (k0_h27 : k0_cond27 v56_3 v56_1 k0_t2 k0_t8 v913_10 = 1#1), ∀ (r : Fin 8), ∀ a, (k0_off32 v56_0 v913_9 (BitVec.ofNat 32 (16 * r.val))) a + S16.size a ≤ S19456.size a := fun v56_3 v56_1 v56_0 k0_t2 k0_t8 v913_10 v913_9 k0_hw24 k0_h27 r => k0_hw24 k0_h27 r

def k0_off33 (v56_0 : BitVec 32) (v935_9 : BitVec 32) (c0_i32_251 : BitVec 32) : Fin 1 → Nat :=
  let v1025 : BitVec 32 := Scalar.subi v935_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond28 (v56_3 : BitVec 32) (v56_1 : BitVec 32) (k0_t2 : Fin (k0_t2_loop v56_3 v56_1).trips) (k0_t8 : Fin (k0_t8_loop v56_3 v56_1 k0_t2).trips) (v935_10 : BitVec 32) : BitVec 1 :=
  let c2_i32_77 : BitVec 32 := 2#32
  let c0_i32_46 : BitVec 32 := 0#32
  let c1_i32_48 : BitVec 32 := 1#32
  let arg12 : BitVec 32 := Scf.iv c0_i32_46 c1_i32_48 k0_t2
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c0_i32_112 : BitVec 32 := 0#32
  let c272_i32_103 : BitVec 32 := 272#32
  let v273 : BitVec 32 := Scalar.addi v271 c272_i32_103
  let v274 : BitVec 32 := Scalar.minsi v273 v56_3
  let v275 : BitVec 32 := Scalar.subi v274 v271
  let c0_i32_104 : BitVec 32 := 0#32
  let v276 : BitVec 32 := Scalar.maxsi v275 c0_i32_104
  let c0_i32_106 : BitVec 32 := 0#32
  let v278 : BitVec 1 := Scalar.cmpi .sgt v276 c0_i32_106
  let v279 : BitVec 32 := Scalar.extui v278
  let c0_i32_107 : BitVec 32 := 0#32
  let v280 : BitVec 1 := Scalar.cmpi .slt v276 c0_i32_107
  let v281 : BitVec 32 := Scalar.extui v280
  let v282 : BitVec 32 := Scalar.subi v279 v281
  let c6_i32_105 : BitVec 32 := 6#32
  let c0_i32_108 : BitVec 32 := 0#32
  let v283 : BitVec 1 := Scalar.cmpi .sgt c6_i32_105 c0_i32_108
  let v284 : BitVec 32 := Scalar.extui v283
  let c0_i32_109 : BitVec 32 := 0#32
  let v285 : BitVec 1 := Scalar.cmpi .slt c6_i32_105 c0_i32_109
  let v286 : BitVec 32 := Scalar.extui v285
  let v287 : BitVec 32 := Scalar.subi v284 v286
  let v288 : BitVec 1 := Scalar.cmpi .ne v282 v287
  let v289 : BitVec 32 := Scalar.remsi v276 c6_i32_105
  let c0_i32_110 : BitVec 32 := 0#32
  let v290 : BitVec 1 := Scalar.cmpi .ne v289 c0_i32_110
  let v291 : BitVec 1 := Scalar.andi v288 v290
  let v277 : BitVec 32 := Scalar.divsi v276 c6_i32_105
  let c1_i32_111 : BitVec 32 := 1#32
  let v292 : BitVec 32 := Scalar.subi v277 c1_i32_111
  let v293 : BitVec 32 := Scalar.select v291 v292 v277
  let v294 : BitVec 32 := Scalar.subi v293 c0_i32_112
  let c1_i32_113 : BitVec 32 := 1#32
  let v296 : BitVec 32 := Scalar.divsi v294 c1_i32_113
  let v297 : BitVec 32 := Scalar.muli v296 c1_i32_113
  let v298 : BitVec 32 := Scalar.addi c0_i32_112 v297
  let c1_i32_115 : BitVec 32 := 1#32
  let arg24 : BitVec 32 := Scf.iv v298 c1_i32_115 k0_t8
  let c6_i32_122 : BitVec 32 := 6#32
  let v315 : BitVec 32 := Scalar.muli arg24 c6_i32_122
  let v316 : BitVec 32 := Scalar.addi v271 v315
  let c3_i32_241 : BitVec 32 := 3#32
  let v953 : BitVec 32 := Scalar.addi v316 c3_i32_241
  let v954 : BitVec 1 := Scalar.cmpi .eq v953 v935_10
  let v955 : BitVec 32 := Scalar.extui v954
  let c0_i32_242 : BitVec 32 := 0#32
  let v956 : BitVec 1 := Scalar.cmpi .ne v955 c0_i32_242
  v956

def k0_chk25 (v56_3 : BitVec 32) (v56_1 : BitVec 32) (v56_0 : BitVec 32) (k0_t2 : Fin (k0_t2_loop v56_3 v56_1).trips) (k0_t8 : Fin (k0_t8_loop v56_3 v56_1 k0_t2).trips) (v935_10 : BitVec 32) (v935_9 : BitVec 32) : Prop :=
  (∀ (k0_h28 : k0_cond28 v56_3 v56_1 k0_t2 k0_t8 v935_10 = 1#1), ∀ (r : Fin 8), ∀ a, (k0_off33 v56_0 v935_9 (BitVec.ofNat 32 (16 * r.val))) a + S16.size a ≤ S19456.size a)
theorem k0_off33_inb : ∀ (v56_3 : BitVec 32) (v56_1 : BitVec 32) (v56_0 : BitVec 32) (k0_t2 : Fin (k0_t2_loop v56_3 v56_1).trips) (k0_t8 : Fin (k0_t8_loop v56_3 v56_1 k0_t2).trips) (v935_10 : BitVec 32) (v935_9 : BitVec 32) (k0_hw25 : k0_chk25 v56_3 v56_1 v56_0 k0_t2 k0_t8 v935_10 v935_9), ∀ (k0_h28 : k0_cond28 v56_3 v56_1 k0_t2 k0_t8 v935_10 = 1#1), ∀ (r : Fin 8), ∀ a, (k0_off33 v56_0 v935_9 (BitVec.ofNat 32 (16 * r.val))) a + S16.size a ≤ S19456.size a := fun v56_3 v56_1 v56_0 k0_t2 k0_t8 v935_10 v935_9 k0_hw25 k0_h28 r => k0_hw25 k0_h28 r

def k0_off34 (v56_0 : BitVec 32) (v957_9 : BitVec 32) (c0_i32_251 : BitVec 32) : Fin 1 → Nat :=
  let v1025 : BitVec 32 := Scalar.subi v957_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond29 (v56_3 : BitVec 32) (v56_1 : BitVec 32) (k0_t2 : Fin (k0_t2_loop v56_3 v56_1).trips) (k0_t8 : Fin (k0_t8_loop v56_3 v56_1 k0_t2).trips) (v957_10 : BitVec 32) : BitVec 1 :=
  let c2_i32_77 : BitVec 32 := 2#32
  let c0_i32_46 : BitVec 32 := 0#32
  let c1_i32_48 : BitVec 32 := 1#32
  let arg12 : BitVec 32 := Scf.iv c0_i32_46 c1_i32_48 k0_t2
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c0_i32_112 : BitVec 32 := 0#32
  let c272_i32_103 : BitVec 32 := 272#32
  let v273 : BitVec 32 := Scalar.addi v271 c272_i32_103
  let v274 : BitVec 32 := Scalar.minsi v273 v56_3
  let v275 : BitVec 32 := Scalar.subi v274 v271
  let c0_i32_104 : BitVec 32 := 0#32
  let v276 : BitVec 32 := Scalar.maxsi v275 c0_i32_104
  let c0_i32_106 : BitVec 32 := 0#32
  let v278 : BitVec 1 := Scalar.cmpi .sgt v276 c0_i32_106
  let v279 : BitVec 32 := Scalar.extui v278
  let c0_i32_107 : BitVec 32 := 0#32
  let v280 : BitVec 1 := Scalar.cmpi .slt v276 c0_i32_107
  let v281 : BitVec 32 := Scalar.extui v280
  let v282 : BitVec 32 := Scalar.subi v279 v281
  let c6_i32_105 : BitVec 32 := 6#32
  let c0_i32_108 : BitVec 32 := 0#32
  let v283 : BitVec 1 := Scalar.cmpi .sgt c6_i32_105 c0_i32_108
  let v284 : BitVec 32 := Scalar.extui v283
  let c0_i32_109 : BitVec 32 := 0#32
  let v285 : BitVec 1 := Scalar.cmpi .slt c6_i32_105 c0_i32_109
  let v286 : BitVec 32 := Scalar.extui v285
  let v287 : BitVec 32 := Scalar.subi v284 v286
  let v288 : BitVec 1 := Scalar.cmpi .ne v282 v287
  let v289 : BitVec 32 := Scalar.remsi v276 c6_i32_105
  let c0_i32_110 : BitVec 32 := 0#32
  let v290 : BitVec 1 := Scalar.cmpi .ne v289 c0_i32_110
  let v291 : BitVec 1 := Scalar.andi v288 v290
  let v277 : BitVec 32 := Scalar.divsi v276 c6_i32_105
  let c1_i32_111 : BitVec 32 := 1#32
  let v292 : BitVec 32 := Scalar.subi v277 c1_i32_111
  let v293 : BitVec 32 := Scalar.select v291 v292 v277
  let v294 : BitVec 32 := Scalar.subi v293 c0_i32_112
  let c1_i32_113 : BitVec 32 := 1#32
  let v296 : BitVec 32 := Scalar.divsi v294 c1_i32_113
  let v297 : BitVec 32 := Scalar.muli v296 c1_i32_113
  let v298 : BitVec 32 := Scalar.addi c0_i32_112 v297
  let c1_i32_115 : BitVec 32 := 1#32
  let arg24 : BitVec 32 := Scf.iv v298 c1_i32_115 k0_t8
  let c6_i32_122 : BitVec 32 := 6#32
  let v315 : BitVec 32 := Scalar.muli arg24 c6_i32_122
  let v316 : BitVec 32 := Scalar.addi v271 v315
  let c4_i32_243 : BitVec 32 := 4#32
  let v975 : BitVec 32 := Scalar.addi v316 c4_i32_243
  let v976 : BitVec 1 := Scalar.cmpi .eq v975 v957_10
  let v977 : BitVec 32 := Scalar.extui v976
  let c0_i32_244 : BitVec 32 := 0#32
  let v978 : BitVec 1 := Scalar.cmpi .ne v977 c0_i32_244
  v978

def k0_chk26 (v56_3 : BitVec 32) (v56_1 : BitVec 32) (v56_0 : BitVec 32) (k0_t2 : Fin (k0_t2_loop v56_3 v56_1).trips) (k0_t8 : Fin (k0_t8_loop v56_3 v56_1 k0_t2).trips) (v957_10 : BitVec 32) (v957_9 : BitVec 32) : Prop :=
  (∀ (k0_h29 : k0_cond29 v56_3 v56_1 k0_t2 k0_t8 v957_10 = 1#1), ∀ (r : Fin 8), ∀ a, (k0_off34 v56_0 v957_9 (BitVec.ofNat 32 (16 * r.val))) a + S16.size a ≤ S19456.size a)
theorem k0_off34_inb : ∀ (v56_3 : BitVec 32) (v56_1 : BitVec 32) (v56_0 : BitVec 32) (k0_t2 : Fin (k0_t2_loop v56_3 v56_1).trips) (k0_t8 : Fin (k0_t8_loop v56_3 v56_1 k0_t2).trips) (v957_10 : BitVec 32) (v957_9 : BitVec 32) (k0_hw26 : k0_chk26 v56_3 v56_1 v56_0 k0_t2 k0_t8 v957_10 v957_9), ∀ (k0_h29 : k0_cond29 v56_3 v56_1 k0_t2 k0_t8 v957_10 = 1#1), ∀ (r : Fin 8), ∀ a, (k0_off34 v56_0 v957_9 (BitVec.ofNat 32 (16 * r.val))) a + S16.size a ≤ S19456.size a := fun v56_3 v56_1 v56_0 k0_t2 k0_t8 v957_10 v957_9 k0_hw26 k0_h29 r => k0_hw26 k0_h29 r

def k0_off35 (v56_0 : BitVec 32) (v979_9 : BitVec 32) (c0_i32_251 : BitVec 32) : Fin 1 → Nat :=
  let v1025 : BitVec 32 := Scalar.subi v979_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond30 (v56_3 : BitVec 32) (v56_1 : BitVec 32) (k0_t2 : Fin (k0_t2_loop v56_3 v56_1).trips) (k0_t8 : Fin (k0_t8_loop v56_3 v56_1 k0_t2).trips) (v979_10 : BitVec 32) : BitVec 1 :=
  let c2_i32_77 : BitVec 32 := 2#32
  let c0_i32_46 : BitVec 32 := 0#32
  let c1_i32_48 : BitVec 32 := 1#32
  let arg12 : BitVec 32 := Scf.iv c0_i32_46 c1_i32_48 k0_t2
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c0_i32_112 : BitVec 32 := 0#32
  let c272_i32_103 : BitVec 32 := 272#32
  let v273 : BitVec 32 := Scalar.addi v271 c272_i32_103
  let v274 : BitVec 32 := Scalar.minsi v273 v56_3
  let v275 : BitVec 32 := Scalar.subi v274 v271
  let c0_i32_104 : BitVec 32 := 0#32
  let v276 : BitVec 32 := Scalar.maxsi v275 c0_i32_104
  let c0_i32_106 : BitVec 32 := 0#32
  let v278 : BitVec 1 := Scalar.cmpi .sgt v276 c0_i32_106
  let v279 : BitVec 32 := Scalar.extui v278
  let c0_i32_107 : BitVec 32 := 0#32
  let v280 : BitVec 1 := Scalar.cmpi .slt v276 c0_i32_107
  let v281 : BitVec 32 := Scalar.extui v280
  let v282 : BitVec 32 := Scalar.subi v279 v281
  let c6_i32_105 : BitVec 32 := 6#32
  let c0_i32_108 : BitVec 32 := 0#32
  let v283 : BitVec 1 := Scalar.cmpi .sgt c6_i32_105 c0_i32_108
  let v284 : BitVec 32 := Scalar.extui v283
  let c0_i32_109 : BitVec 32 := 0#32
  let v285 : BitVec 1 := Scalar.cmpi .slt c6_i32_105 c0_i32_109
  let v286 : BitVec 32 := Scalar.extui v285
  let v287 : BitVec 32 := Scalar.subi v284 v286
  let v288 : BitVec 1 := Scalar.cmpi .ne v282 v287
  let v289 : BitVec 32 := Scalar.remsi v276 c6_i32_105
  let c0_i32_110 : BitVec 32 := 0#32
  let v290 : BitVec 1 := Scalar.cmpi .ne v289 c0_i32_110
  let v291 : BitVec 1 := Scalar.andi v288 v290
  let v277 : BitVec 32 := Scalar.divsi v276 c6_i32_105
  let c1_i32_111 : BitVec 32 := 1#32
  let v292 : BitVec 32 := Scalar.subi v277 c1_i32_111
  let v293 : BitVec 32 := Scalar.select v291 v292 v277
  let v294 : BitVec 32 := Scalar.subi v293 c0_i32_112
  let c1_i32_113 : BitVec 32 := 1#32
  let v296 : BitVec 32 := Scalar.divsi v294 c1_i32_113
  let v297 : BitVec 32 := Scalar.muli v296 c1_i32_113
  let v298 : BitVec 32 := Scalar.addi c0_i32_112 v297
  let c1_i32_115 : BitVec 32 := 1#32
  let arg24 : BitVec 32 := Scf.iv v298 c1_i32_115 k0_t8
  let c6_i32_122 : BitVec 32 := 6#32
  let v315 : BitVec 32 := Scalar.muli arg24 c6_i32_122
  let v316 : BitVec 32 := Scalar.addi v271 v315
  let c5_i32_245 : BitVec 32 := 5#32
  let v997 : BitVec 32 := Scalar.addi v316 c5_i32_245
  let v998 : BitVec 1 := Scalar.cmpi .eq v997 v979_10
  let v999 : BitVec 32 := Scalar.extui v998
  let c0_i32_246 : BitVec 32 := 0#32
  let v1000 : BitVec 1 := Scalar.cmpi .ne v999 c0_i32_246
  v1000

def k0_chk27 (v56_3 : BitVec 32) (v56_1 : BitVec 32) (v56_0 : BitVec 32) (k0_t2 : Fin (k0_t2_loop v56_3 v56_1).trips) (k0_t8 : Fin (k0_t8_loop v56_3 v56_1 k0_t2).trips) (v979_10 : BitVec 32) (v979_9 : BitVec 32) : Prop :=
  (∀ (k0_h30 : k0_cond30 v56_3 v56_1 k0_t2 k0_t8 v979_10 = 1#1), ∀ (r : Fin 8), ∀ a, (k0_off35 v56_0 v979_9 (BitVec.ofNat 32 (16 * r.val))) a + S16.size a ≤ S19456.size a)
theorem k0_off35_inb : ∀ (v56_3 : BitVec 32) (v56_1 : BitVec 32) (v56_0 : BitVec 32) (k0_t2 : Fin (k0_t2_loop v56_3 v56_1).trips) (k0_t8 : Fin (k0_t8_loop v56_3 v56_1 k0_t2).trips) (v979_10 : BitVec 32) (v979_9 : BitVec 32) (k0_hw27 : k0_chk27 v56_3 v56_1 v56_0 k0_t2 k0_t8 v979_10 v979_9), ∀ (k0_h30 : k0_cond30 v56_3 v56_1 k0_t2 k0_t8 v979_10 = 1#1), ∀ (r : Fin 8), ∀ a, (k0_off35 v56_0 v979_9 (BitVec.ofNat 32 (16 * r.val))) a + S16.size a ≤ S19456.size a := fun v56_3 v56_1 v56_0 k0_t2 k0_t8 v979_10 v979_9 k0_hw27 k0_h30 r => k0_hw27 k0_h30 r

@[reducible] def k0_t9_loop (v56_3 : BitVec 32) (v56_1 : BitVec 32) (k0_t2 : Fin (k0_t2_loop v56_3 v56_1).trips) : Scf.Loop 32 :=
  let c2_i32_77 : BitVec 32 := 2#32
  let c0_i32_46 : BitVec 32 := 0#32
  let c1_i32_48 : BitVec 32 := 1#32
  let arg12 : BitVec 32 := Scf.iv c0_i32_46 c1_i32_48 k0_t2
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c272_i32_103 : BitVec 32 := 272#32
  let v273 : BitVec 32 := Scalar.addi v271 c272_i32_103
  let v274 : BitVec 32 := Scalar.minsi v273 v56_3
  let v275 : BitVec 32 := Scalar.subi v274 v271
  let c0_i32_104 : BitVec 32 := 0#32
  let v276 : BitVec 32 := Scalar.maxsi v275 c0_i32_104
  let c0_i32_106 : BitVec 32 := 0#32
  let v278 : BitVec 1 := Scalar.cmpi .sgt v276 c0_i32_106
  let v279 : BitVec 32 := Scalar.extui v278
  let c0_i32_107 : BitVec 32 := 0#32
  let v280 : BitVec 1 := Scalar.cmpi .slt v276 c0_i32_107
  let v281 : BitVec 32 := Scalar.extui v280
  let v282 : BitVec 32 := Scalar.subi v279 v281
  let c6_i32_105 : BitVec 32 := 6#32
  let c0_i32_108 : BitVec 32 := 0#32
  let v283 : BitVec 1 := Scalar.cmpi .sgt c6_i32_105 c0_i32_108
  let v284 : BitVec 32 := Scalar.extui v283
  let c0_i32_109 : BitVec 32 := 0#32
  let v285 : BitVec 1 := Scalar.cmpi .slt c6_i32_105 c0_i32_109
  let v286 : BitVec 32 := Scalar.extui v285
  let v287 : BitVec 32 := Scalar.subi v284 v286
  let v288 : BitVec 1 := Scalar.cmpi .ne v282 v287
  let v289 : BitVec 32 := Scalar.remsi v276 c6_i32_105
  let c0_i32_110 : BitVec 32 := 0#32
  let v290 : BitVec 1 := Scalar.cmpi .ne v289 c0_i32_110
  let v291 : BitVec 1 := Scalar.andi v288 v290
  let v277 : BitVec 32 := Scalar.divsi v276 c6_i32_105
  let c1_i32_111 : BitVec 32 := 1#32
  let v292 : BitVec 32 := Scalar.subi v277 c1_i32_111
  let v293 : BitVec 32 := Scalar.select v291 v292 v277
  let c6_i32_116 : BitVec 32 := 6#32
  let v301 : BitVec 32 := Scalar.muli v293 c6_i32_116
  let v302 : BitVec 32 := Scalar.addi v271 v301
  let v303 : BitVec 32 := Scalar.addi v271 v276
  let v304 : BitVec 32 := Scalar.subi v303 v302
  let c1_i32_117 : BitVec 32 := 1#32
  let v306 : BitVec 32 := Scalar.divsi v304 c1_i32_117
  let v307 : BitVec 32 := Scalar.muli v306 c1_i32_117
  let v308 : BitVec 32 := Scalar.addi v302 v307
  let c1_i32_118 : BitVec 32 := 1#32
  ⟨v302, v308, c1_i32_118⟩
def k0_off36 (v56_0 : BitVec 32) (arg34 : BitVec 32) (c0_i32_145 : BitVec 32) : Fin 1 → Nat :=
  let v436 : BitVec 32 := Scalar.subi arg34 v56_0
  let c128_i32_144 : BitVec 32 := 128#32
  let v438 : BitVec 32 := Scalar.muli v436 c128_i32_144
  let v439 : BitVec 32 := Scalar.addi v438 c0_i32_145
  let v440 : Index := Scalar.indexCast v439
  ![v440.toNat]
def k0_cond31 (v56_3 : BitVec 32) (v56_1 : BitVec 32) (k0_t2 : Fin (k0_t2_loop v56_3 v56_1).trips) (k0_t9 : Fin (k0_t9_loop v56_3 v56_1 k0_t2).trips) (arg35 : BitVec 32) : BitVec 1 :=
  let c2_i32_77 : BitVec 32 := 2#32
  let c0_i32_46 : BitVec 32 := 0#32
  let c1_i32_48 : BitVec 32 := 1#32
  let arg12 : BitVec 32 := Scf.iv c0_i32_46 c1_i32_48 k0_t2
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c272_i32_103 : BitVec 32 := 272#32
  let v273 : BitVec 32 := Scalar.addi v271 c272_i32_103
  let v274 : BitVec 32 := Scalar.minsi v273 v56_3
  let v275 : BitVec 32 := Scalar.subi v274 v271
  let c0_i32_104 : BitVec 32 := 0#32
  let v276 : BitVec 32 := Scalar.maxsi v275 c0_i32_104
  let c0_i32_106 : BitVec 32 := 0#32
  let v278 : BitVec 1 := Scalar.cmpi .sgt v276 c0_i32_106
  let v279 : BitVec 32 := Scalar.extui v278
  let c0_i32_107 : BitVec 32 := 0#32
  let v280 : BitVec 1 := Scalar.cmpi .slt v276 c0_i32_107
  let v281 : BitVec 32 := Scalar.extui v280
  let v282 : BitVec 32 := Scalar.subi v279 v281
  let c6_i32_105 : BitVec 32 := 6#32
  let c0_i32_108 : BitVec 32 := 0#32
  let v283 : BitVec 1 := Scalar.cmpi .sgt c6_i32_105 c0_i32_108
  let v284 : BitVec 32 := Scalar.extui v283
  let c0_i32_109 : BitVec 32 := 0#32
  let v285 : BitVec 1 := Scalar.cmpi .slt c6_i32_105 c0_i32_109
  let v286 : BitVec 32 := Scalar.extui v285
  let v287 : BitVec 32 := Scalar.subi v284 v286
  let v288 : BitVec 1 := Scalar.cmpi .ne v282 v287
  let v289 : BitVec 32 := Scalar.remsi v276 c6_i32_105
  let c0_i32_110 : BitVec 32 := 0#32
  let v290 : BitVec 1 := Scalar.cmpi .ne v289 c0_i32_110
  let v291 : BitVec 1 := Scalar.andi v288 v290
  let v277 : BitVec 32 := Scalar.divsi v276 c6_i32_105
  let c1_i32_111 : BitVec 32 := 1#32
  let v292 : BitVec 32 := Scalar.subi v277 c1_i32_111
  let v293 : BitVec 32 := Scalar.select v291 v292 v277
  let c6_i32_116 : BitVec 32 := 6#32
  let v301 : BitVec 32 := Scalar.muli v293 c6_i32_116
  let v302 : BitVec 32 := Scalar.addi v271 v301
  let c1_i32_118 : BitVec 32 := 1#32
  let arg24 : BitVec 32 := Scf.iv v302 c1_i32_118 k0_t9
  let v315 : BitVec 1 := Scalar.cmpi .eq arg24 arg35
  let v316 : BitVec 32 := Scalar.extui v315
  let c0_i32_122 : BitVec 32 := 0#32
  let v317 : BitVec 1 := Scalar.cmpi .ne v316 c0_i32_122
  v317

def k0_chk28 (v56_3 : BitVec 32) (v56_1 : BitVec 32) (v56_0 : BitVec 32) (k0_t2 : Fin (k0_t2_loop v56_3 v56_1).trips) (k0_t9 : Fin (k0_t9_loop v56_3 v56_1 k0_t2).trips) (arg34 : BitVec 32) (arg35 : BitVec 32) : Prop :=
  (∀ (k0_h31 : k0_cond31 v56_3 v56_1 k0_t2 k0_t9 arg35 = 1#1), ∀ (r : Fin 8), ∀ a, (k0_off36 v56_0 arg34 (BitVec.ofNat 32 (16 * r.val))) a + S16.size a ≤ S19456.size a)
theorem k0_off36_inb : ∀ (v56_3 : BitVec 32) (v56_1 : BitVec 32) (v56_0 : BitVec 32) (k0_t2 : Fin (k0_t2_loop v56_3 v56_1).trips) (k0_t9 : Fin (k0_t9_loop v56_3 v56_1 k0_t2).trips) (arg34 : BitVec 32) (arg35 : BitVec 32) (k0_hw28 : k0_chk28 v56_3 v56_1 v56_0 k0_t2 k0_t9 arg34 arg35), ∀ (k0_h31 : k0_cond31 v56_3 v56_1 k0_t2 k0_t9 arg35 = 1#1), ∀ (r : Fin 8), ∀ a, (k0_off36 v56_0 arg34 (BitVec.ofNat 32 (16 * r.val))) a + S16.size a ≤ S19456.size a := fun v56_3 v56_1 v56_0 k0_t2 k0_t9 arg34 arg35 k0_hw28 k0_h31 r => k0_hw28 k0_h31 r

def k0_off37 (v56_3 : BitVec 32) (v56_1 : BitVec 32) (k0_t2 : Fin (k0_t2_loop v56_3 v56_1).trips) (k0_t9 : Fin (k0_t9_loop v56_3 v56_1 k0_t2).trips) (c0_i32_124 : BitVec 32) : Fin 1 → Nat :=
  let c2_i32_77 : BitVec 32 := 2#32
  let c0_i32_46 : BitVec 32 := 0#32
  let c1_i32_48 : BitVec 32 := 1#32
  let arg12 : BitVec 32 := Scf.iv c0_i32_46 c1_i32_48 k0_t2
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c272_i32_103 : BitVec 32 := 272#32
  let v273 : BitVec 32 := Scalar.addi v271 c272_i32_103
  let v274 : BitVec 32 := Scalar.minsi v273 v56_3
  let v275 : BitVec 32 := Scalar.subi v274 v271
  let c0_i32_104 : BitVec 32 := 0#32
  let v276 : BitVec 32 := Scalar.maxsi v275 c0_i32_104
  let c0_i32_106 : BitVec 32 := 0#32
  let v278 : BitVec 1 := Scalar.cmpi .sgt v276 c0_i32_106
  let v279 : BitVec 32 := Scalar.extui v278
  let c0_i32_107 : BitVec 32 := 0#32
  let v280 : BitVec 1 := Scalar.cmpi .slt v276 c0_i32_107
  let v281 : BitVec 32 := Scalar.extui v280
  let v282 : BitVec 32 := Scalar.subi v279 v281
  let c6_i32_105 : BitVec 32 := 6#32
  let c0_i32_108 : BitVec 32 := 0#32
  let v283 : BitVec 1 := Scalar.cmpi .sgt c6_i32_105 c0_i32_108
  let v284 : BitVec 32 := Scalar.extui v283
  let c0_i32_109 : BitVec 32 := 0#32
  let v285 : BitVec 1 := Scalar.cmpi .slt c6_i32_105 c0_i32_109
  let v286 : BitVec 32 := Scalar.extui v285
  let v287 : BitVec 32 := Scalar.subi v284 v286
  let v288 : BitVec 1 := Scalar.cmpi .ne v282 v287
  let v289 : BitVec 32 := Scalar.remsi v276 c6_i32_105
  let c0_i32_110 : BitVec 32 := 0#32
  let v290 : BitVec 1 := Scalar.cmpi .ne v289 c0_i32_110
  let v291 : BitVec 1 := Scalar.andi v288 v290
  let v277 : BitVec 32 := Scalar.divsi v276 c6_i32_105
  let c1_i32_111 : BitVec 32 := 1#32
  let v292 : BitVec 32 := Scalar.subi v277 c1_i32_111
  let v293 : BitVec 32 := Scalar.select v291 v292 v277
  let c6_i32_116 : BitVec 32 := 6#32
  let v301 : BitVec 32 := Scalar.muli v293 c6_i32_116
  let v302 : BitVec 32 := Scalar.addi v271 v301
  let c1_i32_118 : BitVec 32 := 1#32
  let arg24 : BitVec 32 := Scf.iv v302 c1_i32_118 k0_t9
  let c319328_i32_102 : BitVec 32 := 319328#32
  let v272 : BitVec 32 := Scalar.minsi v271 c319328_i32_102
  let v319 : BitVec 32 := Scalar.subi arg24 v272
  let c128_i32_123 : BitVec 32 := 128#32
  let v320 : BitVec 32 := Scalar.muli v319 c128_i32_123
  let v321 : BitVec 32 := Scalar.addi v320 c0_i32_124
  let v322 : Index := Scalar.indexCast v321
  ![v322.toNat]
@[reducible] def k0_t10_loop (v56_3 : BitVec 32) (v56_1 : BitVec 32) (k0_t2 : Fin (k0_t2_loop v56_3 v56_1).trips) : Scf.Loop 32 :=
  let c2_i32_77 : BitVec 32 := 2#32
  let c0_i32_46 : BitVec 32 := 0#32
  let c1_i32_48 : BitVec 32 := 1#32
  let arg12 : BitVec 32 := Scf.iv c0_i32_46 c1_i32_48 k0_t2
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c272_i32_103 : BitVec 32 := 272#32
  let v273 : BitVec 32 := Scalar.addi v271 c272_i32_103
  let v274 : BitVec 32 := Scalar.minsi v273 v56_3
  let v275 : BitVec 32 := Scalar.subi v274 v271
  let c0_i32_104 : BitVec 32 := 0#32
  let v276 : BitVec 32 := Scalar.maxsi v275 c0_i32_104
  let c0_i32_106 : BitVec 32 := 0#32
  let v278 : BitVec 1 := Scalar.cmpi .sgt v276 c0_i32_106
  let v279 : BitVec 32 := Scalar.extui v278
  let c0_i32_107 : BitVec 32 := 0#32
  let v280 : BitVec 1 := Scalar.cmpi .slt v276 c0_i32_107
  let v281 : BitVec 32 := Scalar.extui v280
  let v282 : BitVec 32 := Scalar.subi v279 v281
  let c6_i32_105 : BitVec 32 := 6#32
  let c0_i32_108 : BitVec 32 := 0#32
  let v283 : BitVec 1 := Scalar.cmpi .sgt c6_i32_105 c0_i32_108
  let v284 : BitVec 32 := Scalar.extui v283
  let c0_i32_109 : BitVec 32 := 0#32
  let v285 : BitVec 1 := Scalar.cmpi .slt c6_i32_105 c0_i32_109
  let v286 : BitVec 32 := Scalar.extui v285
  let v287 : BitVec 32 := Scalar.subi v284 v286
  let v288 : BitVec 1 := Scalar.cmpi .ne v282 v287
  let v289 : BitVec 32 := Scalar.remsi v276 c6_i32_105
  let c0_i32_110 : BitVec 32 := 0#32
  let v290 : BitVec 1 := Scalar.cmpi .ne v289 c0_i32_110
  let v291 : BitVec 1 := Scalar.andi v288 v290
  let v277 : BitVec 32 := Scalar.divsi v276 c6_i32_105
  let c1_i32_111 : BitVec 32 := 1#32
  let v292 : BitVec 32 := Scalar.subi v277 c1_i32_111
  let v293 : BitVec 32 := Scalar.select v291 v292 v277
  let c6_i32_116 : BitVec 32 := 6#32
  let v301 : BitVec 32 := Scalar.muli v293 c6_i32_116
  let v302 : BitVec 32 := Scalar.addi v271 v301
  let v303 : BitVec 32 := Scalar.addi v271 v276
  let v304 : BitVec 32 := Scalar.subi v303 v302
  let c1_i32_117 : BitVec 32 := 1#32
  let v306 : BitVec 32 := Scalar.divsi v304 c1_i32_117
  let v307 : BitVec 32 := Scalar.muli v306 c1_i32_117
  let v308 : BitVec 32 := Scalar.addi v302 v307
  let v305 : BitVec 32 := Scalar.addi v302 v304
  let c1_i32_119 : BitVec 32 := 1#32
  ⟨v308, v305, c1_i32_119⟩
def k0_off38 (v56_0 : BitVec 32) (arg34 : BitVec 32) (c0_i32_145 : BitVec 32) : Fin 1 → Nat :=
  let v436 : BitVec 32 := Scalar.subi arg34 v56_0
  let c128_i32_144 : BitVec 32 := 128#32
  let v438 : BitVec 32 := Scalar.muli v436 c128_i32_144
  let v439 : BitVec 32 := Scalar.addi v438 c0_i32_145
  let v440 : Index := Scalar.indexCast v439
  ![v440.toNat]
def k0_cond32 (v56_3 : BitVec 32) (v56_1 : BitVec 32) (k0_t2 : Fin (k0_t2_loop v56_3 v56_1).trips) (k0_t10 : Fin (k0_t10_loop v56_3 v56_1 k0_t2).trips) (arg35 : BitVec 32) : BitVec 1 :=
  let c2_i32_77 : BitVec 32 := 2#32
  let c0_i32_46 : BitVec 32 := 0#32
  let c1_i32_48 : BitVec 32 := 1#32
  let arg12 : BitVec 32 := Scf.iv c0_i32_46 c1_i32_48 k0_t2
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c272_i32_103 : BitVec 32 := 272#32
  let v273 : BitVec 32 := Scalar.addi v271 c272_i32_103
  let v274 : BitVec 32 := Scalar.minsi v273 v56_3
  let v275 : BitVec 32 := Scalar.subi v274 v271
  let c0_i32_104 : BitVec 32 := 0#32
  let v276 : BitVec 32 := Scalar.maxsi v275 c0_i32_104
  let c0_i32_106 : BitVec 32 := 0#32
  let v278 : BitVec 1 := Scalar.cmpi .sgt v276 c0_i32_106
  let v279 : BitVec 32 := Scalar.extui v278
  let c0_i32_107 : BitVec 32 := 0#32
  let v280 : BitVec 1 := Scalar.cmpi .slt v276 c0_i32_107
  let v281 : BitVec 32 := Scalar.extui v280
  let v282 : BitVec 32 := Scalar.subi v279 v281
  let c6_i32_105 : BitVec 32 := 6#32
  let c0_i32_108 : BitVec 32 := 0#32
  let v283 : BitVec 1 := Scalar.cmpi .sgt c6_i32_105 c0_i32_108
  let v284 : BitVec 32 := Scalar.extui v283
  let c0_i32_109 : BitVec 32 := 0#32
  let v285 : BitVec 1 := Scalar.cmpi .slt c6_i32_105 c0_i32_109
  let v286 : BitVec 32 := Scalar.extui v285
  let v287 : BitVec 32 := Scalar.subi v284 v286
  let v288 : BitVec 1 := Scalar.cmpi .ne v282 v287
  let v289 : BitVec 32 := Scalar.remsi v276 c6_i32_105
  let c0_i32_110 : BitVec 32 := 0#32
  let v290 : BitVec 1 := Scalar.cmpi .ne v289 c0_i32_110
  let v291 : BitVec 1 := Scalar.andi v288 v290
  let v277 : BitVec 32 := Scalar.divsi v276 c6_i32_105
  let c1_i32_111 : BitVec 32 := 1#32
  let v292 : BitVec 32 := Scalar.subi v277 c1_i32_111
  let v293 : BitVec 32 := Scalar.select v291 v292 v277
  let c6_i32_116 : BitVec 32 := 6#32
  let v301 : BitVec 32 := Scalar.muli v293 c6_i32_116
  let v302 : BitVec 32 := Scalar.addi v271 v301
  let v303 : BitVec 32 := Scalar.addi v271 v276
  let v304 : BitVec 32 := Scalar.subi v303 v302
  let c1_i32_117 : BitVec 32 := 1#32
  let v306 : BitVec 32 := Scalar.divsi v304 c1_i32_117
  let v307 : BitVec 32 := Scalar.muli v306 c1_i32_117
  let v308 : BitVec 32 := Scalar.addi v302 v307
  let c1_i32_119 : BitVec 32 := 1#32
  let arg24 : BitVec 32 := Scf.iv v308 c1_i32_119 k0_t10
  let v315 : BitVec 1 := Scalar.cmpi .eq arg24 arg35
  let v316 : BitVec 32 := Scalar.extui v315
  let c0_i32_122 : BitVec 32 := 0#32
  let v317 : BitVec 1 := Scalar.cmpi .ne v316 c0_i32_122
  v317

def k0_chk29 (v56_3 : BitVec 32) (v56_1 : BitVec 32) (v56_0 : BitVec 32) (k0_t2 : Fin (k0_t2_loop v56_3 v56_1).trips) (k0_t10 : Fin (k0_t10_loop v56_3 v56_1 k0_t2).trips) (arg34 : BitVec 32) (arg35 : BitVec 32) : Prop :=
  (∀ (k0_h32 : k0_cond32 v56_3 v56_1 k0_t2 k0_t10 arg35 = 1#1), ∀ (r : Fin 8), ∀ a, (k0_off38 v56_0 arg34 (BitVec.ofNat 32 (16 * r.val))) a + S16.size a ≤ S19456.size a)
theorem k0_off38_inb : ∀ (v56_3 : BitVec 32) (v56_1 : BitVec 32) (v56_0 : BitVec 32) (k0_t2 : Fin (k0_t2_loop v56_3 v56_1).trips) (k0_t10 : Fin (k0_t10_loop v56_3 v56_1 k0_t2).trips) (arg34 : BitVec 32) (arg35 : BitVec 32) (k0_hw29 : k0_chk29 v56_3 v56_1 v56_0 k0_t2 k0_t10 arg34 arg35), ∀ (k0_h32 : k0_cond32 v56_3 v56_1 k0_t2 k0_t10 arg35 = 1#1), ∀ (r : Fin 8), ∀ a, (k0_off38 v56_0 arg34 (BitVec.ofNat 32 (16 * r.val))) a + S16.size a ≤ S19456.size a := fun v56_3 v56_1 v56_0 k0_t2 k0_t10 arg34 arg35 k0_hw29 k0_h32 r => k0_hw29 k0_h32 r

def k0_off39 (v56_3 : BitVec 32) (v56_1 : BitVec 32) (k0_t2 : Fin (k0_t2_loop v56_3 v56_1).trips) (k0_t10 : Fin (k0_t10_loop v56_3 v56_1 k0_t2).trips) (c0_i32_124 : BitVec 32) : Fin 1 → Nat :=
  let c2_i32_77 : BitVec 32 := 2#32
  let c0_i32_46 : BitVec 32 := 0#32
  let c1_i32_48 : BitVec 32 := 1#32
  let arg12 : BitVec 32 := Scf.iv c0_i32_46 c1_i32_48 k0_t2
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c272_i32_103 : BitVec 32 := 272#32
  let v273 : BitVec 32 := Scalar.addi v271 c272_i32_103
  let v274 : BitVec 32 := Scalar.minsi v273 v56_3
  let v275 : BitVec 32 := Scalar.subi v274 v271
  let c0_i32_104 : BitVec 32 := 0#32
  let v276 : BitVec 32 := Scalar.maxsi v275 c0_i32_104
  let c0_i32_106 : BitVec 32 := 0#32
  let v278 : BitVec 1 := Scalar.cmpi .sgt v276 c0_i32_106
  let v279 : BitVec 32 := Scalar.extui v278
  let c0_i32_107 : BitVec 32 := 0#32
  let v280 : BitVec 1 := Scalar.cmpi .slt v276 c0_i32_107
  let v281 : BitVec 32 := Scalar.extui v280
  let v282 : BitVec 32 := Scalar.subi v279 v281
  let c6_i32_105 : BitVec 32 := 6#32
  let c0_i32_108 : BitVec 32 := 0#32
  let v283 : BitVec 1 := Scalar.cmpi .sgt c6_i32_105 c0_i32_108
  let v284 : BitVec 32 := Scalar.extui v283
  let c0_i32_109 : BitVec 32 := 0#32
  let v285 : BitVec 1 := Scalar.cmpi .slt c6_i32_105 c0_i32_109
  let v286 : BitVec 32 := Scalar.extui v285
  let v287 : BitVec 32 := Scalar.subi v284 v286
  let v288 : BitVec 1 := Scalar.cmpi .ne v282 v287
  let v289 : BitVec 32 := Scalar.remsi v276 c6_i32_105
  let c0_i32_110 : BitVec 32 := 0#32
  let v290 : BitVec 1 := Scalar.cmpi .ne v289 c0_i32_110
  let v291 : BitVec 1 := Scalar.andi v288 v290
  let v277 : BitVec 32 := Scalar.divsi v276 c6_i32_105
  let c1_i32_111 : BitVec 32 := 1#32
  let v292 : BitVec 32 := Scalar.subi v277 c1_i32_111
  let v293 : BitVec 32 := Scalar.select v291 v292 v277
  let c6_i32_116 : BitVec 32 := 6#32
  let v301 : BitVec 32 := Scalar.muli v293 c6_i32_116
  let v302 : BitVec 32 := Scalar.addi v271 v301
  let v303 : BitVec 32 := Scalar.addi v271 v276
  let v304 : BitVec 32 := Scalar.subi v303 v302
  let c1_i32_117 : BitVec 32 := 1#32
  let v306 : BitVec 32 := Scalar.divsi v304 c1_i32_117
  let v307 : BitVec 32 := Scalar.muli v306 c1_i32_117
  let v308 : BitVec 32 := Scalar.addi v302 v307
  let c1_i32_119 : BitVec 32 := 1#32
  let arg24 : BitVec 32 := Scf.iv v308 c1_i32_119 k0_t10
  let c319328_i32_102 : BitVec 32 := 319328#32
  let v272 : BitVec 32 := Scalar.minsi v271 c319328_i32_102
  let v319 : BitVec 32 := Scalar.subi arg24 v272
  let c128_i32_123 : BitVec 32 := 128#32
  let v320 : BitVec 32 := Scalar.muli v319 c128_i32_123
  let v321 : BitVec 32 := Scalar.addi v320 c0_i32_124
  let v322 : Index := Scalar.indexCast v321
  ![v322.toNat]
def k0_off40 (v56_3 : BitVec 32) (v56_1 : BitVec 32) (k0_t2 : Fin (k0_t2_loop v56_3 v56_1).trips) : Fin 1 → Nat :=
  let c2_i32_77 : BitVec 32 := 2#32
  let c0_i32_46 : BitVec 32 := 0#32
  let c1_i32_48 : BitVec 32 := 1#32
  let arg12 : BitVec 32 := Scf.iv c0_i32_46 c1_i32_48 k0_t2
  let v218 : BitVec 32 := Scalar.muli c2_i32_77 arg12
  let c1_i32_78 : BitVec 32 := 1#32
  let v219 : BitVec 32 := Scalar.addi v218 c1_i32_78
  let c2_i32_120 : BitVec 32 := 2#32
  let v311 : BitVec 32 := Scalar.addi v219 c2_i32_120
  let c272_i32_122 : BitVec 32 := 272#32
  let v315 : BitVec 32 := Scalar.muli v311 c272_i32_122
  let v316 : BitVec 32 := Scalar.addi v56_1 v315
  let c319328_i32_123 : BitVec 32 := 319328#32
  let v317 : BitVec 32 := Scalar.minsi v316 c319328_i32_123
  let c128_i32_124 : BitVec 32 := 128#32
  let v318 : BitVec 32 := Scalar.muli v317 c128_i32_124
  ![v318.toNat]
def k0_cond33 (v56_3 : BitVec 32) (v56_1 : BitVec 32) (k0_t2 : Fin (k0_t2_loop v56_3 v56_1).trips) : BitVec 1 :=
  let c2_i32_77 : BitVec 32 := 2#32
  let c0_i32_46 : BitVec 32 := 0#32
  let c1_i32_48 : BitVec 32 := 1#32
  let arg12 : BitVec 32 := Scf.iv c0_i32_46 c1_i32_48 k0_t2
  let v218 : BitVec 32 := Scalar.muli c2_i32_77 arg12
  let c1_i32_78 : BitVec 32 := 1#32
  let v219 : BitVec 32 := Scalar.addi v218 c1_i32_78
  let c2_i32_120 : BitVec 32 := 2#32
  let v311 : BitVec 32 := Scalar.addi v219 c2_i32_120
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let v312 : BitVec 1 := Scalar.cmpi .slt v311 v76
  let v313 : BitVec 32 := Scalar.extui v312
  let c0_i32_121 : BitVec 32 := 0#32
  let v314 : BitVec 1 := Scalar.cmpi .ne v313 c0_i32_121
  v314

@[reducible] def k0_t11_loop (v56_3 : BitVec 32) (v56_1 : BitVec 32) : Scf.Loop 32 :=
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let v121 : BitVec 32 := Scalar.addi c0_i32_46 v120
  let c1_i32_49 : BitVec 32 := 1#32
  ⟨v124, v121, c1_i32_49⟩
@[reducible] def k0_t12_loop (v56_3 : BitVec 32) (v56_1 : BitVec 32) (k0_t11 : Fin (k0_t11_loop v56_3 v56_1).trips) : Scf.Loop 32 :=
  let c0_i32_90 : BitVec 32 := 0#32
  let c2_i32_76 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v217 : BitVec 32 := Scalar.muli c2_i32_76 arg12
  let c272_i32_81 : BitVec 32 := 272#32
  let v222 : BitVec 32 := Scalar.muli v217 c272_i32_81
  let v223 : BitVec 32 := Scalar.addi v56_1 v222
  let c272_i32_82 : BitVec 32 := 272#32
  let v225 : BitVec 32 := Scalar.addi v223 c272_i32_82
  let v226 : BitVec 32 := Scalar.minsi v225 v56_3
  let v227 : BitVec 32 := Scalar.subi v226 v223
  let c0_i32_83 : BitVec 32 := 0#32
  let v228 : BitVec 32 := Scalar.maxsi v227 c0_i32_83
  let c0_i32_84 : BitVec 32 := 0#32
  let v230 : BitVec 1 := Scalar.cmpi .sgt v228 c0_i32_84
  let v231 : BitVec 32 := Scalar.extui v230
  let c0_i32_85 : BitVec 32 := 0#32
  let v232 : BitVec 1 := Scalar.cmpi .slt v228 c0_i32_85
  let v233 : BitVec 32 := Scalar.extui v232
  let v234 : BitVec 32 := Scalar.subi v231 v233
  let c6_i32 : BitVec 32 := 6#32
  let c0_i32_86 : BitVec 32 := 0#32
  let v235 : BitVec 1 := Scalar.cmpi .sgt c6_i32 c0_i32_86
  let v236 : BitVec 32 := Scalar.extui v235
  let c0_i32_87 : BitVec 32 := 0#32
  let v237 : BitVec 1 := Scalar.cmpi .slt c6_i32 c0_i32_87
  let v238 : BitVec 32 := Scalar.extui v237
  let v239 : BitVec 32 := Scalar.subi v236 v238
  let v240 : BitVec 1 := Scalar.cmpi .ne v234 v239
  let v241 : BitVec 32 := Scalar.remsi v228 c6_i32
  let c0_i32_88 : BitVec 32 := 0#32
  let v242 : BitVec 1 := Scalar.cmpi .ne v241 c0_i32_88
  let v243 : BitVec 1 := Scalar.andi v240 v242
  let v229 : BitVec 32 := Scalar.divsi v228 c6_i32
  let c1_i32_89 : BitVec 32 := 1#32
  let v244 : BitVec 32 := Scalar.subi v229 c1_i32_89
  let v245 : BitVec 32 := Scalar.select v243 v244 v229
  let v246 : BitVec 32 := Scalar.subi v245 c0_i32_90
  let c1_i32_91 : BitVec 32 := 1#32
  let v248 : BitVec 32 := Scalar.divsi v246 c1_i32_91
  let v249 : BitVec 32 := Scalar.muli v248 c1_i32_91
  let v250 : BitVec 32 := Scalar.addi c0_i32_90 v249
  let c1_i32_92 : BitVec 32 := 1#32
  ⟨c0_i32_90, v250, c1_i32_92⟩
def k0_off41 (v56_3 : BitVec 32) (v56_1 : BitVec 32) (k0_t11 : Fin (k0_t11_loop v56_3 v56_1).trips) (k0_t12 : Fin (k0_t12_loop v56_3 v56_1 k0_t11).trips) (c0_i32_123 : BitVec 32) (c0_i32_125 : BitVec 32) : Fin 1 → Nat :=
  let c2_i32_76 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v217 : BitVec 32 := Scalar.muli c2_i32_76 arg12
  let c272_i32_81 : BitVec 32 := 272#32
  let v222 : BitVec 32 := Scalar.muli v217 c272_i32_81
  let v223 : BitVec 32 := Scalar.addi v56_1 v222
  let c0_i32_90 : BitVec 32 := 0#32
  let c1_i32_92 : BitVec 32 := 1#32
  let arg24 : BitVec 32 := Scf.iv c0_i32_90 c1_i32_92 k0_t12
  let c6_i32_122 : BitVec 32 := 6#32
  let v315 : BitVec 32 := Scalar.muli arg24 c6_i32_122
  let v316 : BitVec 32 := Scalar.addi v223 v315
  let c319328_i32 : BitVec 32 := 319328#32
  let v224 : BitVec 32 := Scalar.minsi v223 c319328_i32
  let v317 : BitVec 32 := Scalar.subi v316 v224
  let v318 : BitVec 32 := Scalar.addi v317 c0_i32_123
  let c128_i32_124 : BitVec 32 := 128#32
  let v319 : BitVec 32 := Scalar.muli v318 c128_i32_124
  let v320 : BitVec 32 := Scalar.addi v319 c0_i32_125
  let v321 : Index := Scalar.indexCast v320
  ![v321.toNat]
def k0_off42 (v56_0 : BitVec 32) (arg34 : BitVec 32) (c0_i32_251 : BitVec 32) : Fin 1 → Nat :=
  let v1025 : BitVec 32 := Scalar.subi arg34 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond34 (v56_3 : BitVec 32) (v56_1 : BitVec 32) (k0_t11 : Fin (k0_t11_loop v56_3 v56_1).trips) (k0_t12 : Fin (k0_t12_loop v56_3 v56_1 k0_t11).trips) (arg35 : BitVec 32) : BitVec 1 :=
  let c2_i32_76 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v217 : BitVec 32 := Scalar.muli c2_i32_76 arg12
  let c272_i32_81 : BitVec 32 := 272#32
  let v222 : BitVec 32 := Scalar.muli v217 c272_i32_81
  let v223 : BitVec 32 := Scalar.addi v56_1 v222
  let c0_i32_90 : BitVec 32 := 0#32
  let c1_i32_92 : BitVec 32 := 1#32
  let arg24 : BitVec 32 := Scf.iv c0_i32_90 c1_i32_92 k0_t12
  let c6_i32_122 : BitVec 32 := 6#32
  let v315 : BitVec 32 := Scalar.muli arg24 c6_i32_122
  let v316 : BitVec 32 := Scalar.addi v223 v315
  let c0_i32_235 : BitVec 32 := 0#32
  let v887 : BitVec 32 := Scalar.addi v316 c0_i32_235
  let v888 : BitVec 1 := Scalar.cmpi .eq v887 arg35
  let v889 : BitVec 32 := Scalar.extui v888
  let c0_i32_236 : BitVec 32 := 0#32
  let v890 : BitVec 1 := Scalar.cmpi .ne v889 c0_i32_236
  v890

def k0_chk30 (v56_3 : BitVec 32) (v56_1 : BitVec 32) (v56_0 : BitVec 32) (k0_t11 : Fin (k0_t11_loop v56_3 v56_1).trips) (k0_t12 : Fin (k0_t12_loop v56_3 v56_1 k0_t11).trips) (arg34 : BitVec 32) (arg35 : BitVec 32) : Prop :=
  (∀ (k0_h34 : k0_cond34 v56_3 v56_1 k0_t11 k0_t12 arg35 = 1#1), ∀ (r : Fin 8), ∀ a, (k0_off42 v56_0 arg34 (BitVec.ofNat 32 (16 * r.val))) a + S16.size a ≤ S19456.size a)
theorem k0_off42_inb : ∀ (v56_3 : BitVec 32) (v56_1 : BitVec 32) (v56_0 : BitVec 32) (k0_t11 : Fin (k0_t11_loop v56_3 v56_1).trips) (k0_t12 : Fin (k0_t12_loop v56_3 v56_1 k0_t11).trips) (arg34 : BitVec 32) (arg35 : BitVec 32) (k0_hw30 : k0_chk30 v56_3 v56_1 v56_0 k0_t11 k0_t12 arg34 arg35), ∀ (k0_h34 : k0_cond34 v56_3 v56_1 k0_t11 k0_t12 arg35 = 1#1), ∀ (r : Fin 8), ∀ a, (k0_off42 v56_0 arg34 (BitVec.ofNat 32 (16 * r.val))) a + S16.size a ≤ S19456.size a := fun v56_3 v56_1 v56_0 k0_t11 k0_t12 arg34 arg35 k0_hw30 k0_h34 r => k0_hw30 k0_h34 r

def k0_off43 (v56_0 : BitVec 32) (v891_9 : BitVec 32) (c0_i32_251 : BitVec 32) : Fin 1 → Nat :=
  let v1025 : BitVec 32 := Scalar.subi v891_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond35 (v56_3 : BitVec 32) (v56_1 : BitVec 32) (k0_t11 : Fin (k0_t11_loop v56_3 v56_1).trips) (k0_t12 : Fin (k0_t12_loop v56_3 v56_1 k0_t11).trips) (v891_10 : BitVec 32) : BitVec 1 :=
  let c2_i32_76 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v217 : BitVec 32 := Scalar.muli c2_i32_76 arg12
  let c272_i32_81 : BitVec 32 := 272#32
  let v222 : BitVec 32 := Scalar.muli v217 c272_i32_81
  let v223 : BitVec 32 := Scalar.addi v56_1 v222
  let c0_i32_90 : BitVec 32 := 0#32
  let c1_i32_92 : BitVec 32 := 1#32
  let arg24 : BitVec 32 := Scf.iv c0_i32_90 c1_i32_92 k0_t12
  let c6_i32_122 : BitVec 32 := 6#32
  let v315 : BitVec 32 := Scalar.muli arg24 c6_i32_122
  let v316 : BitVec 32 := Scalar.addi v223 v315
  let c1_i32_237 : BitVec 32 := 1#32
  let v909 : BitVec 32 := Scalar.addi v316 c1_i32_237
  let v910 : BitVec 1 := Scalar.cmpi .eq v909 v891_10
  let v911 : BitVec 32 := Scalar.extui v910
  let c0_i32_238 : BitVec 32 := 0#32
  let v912 : BitVec 1 := Scalar.cmpi .ne v911 c0_i32_238
  v912

def k0_chk31 (v56_3 : BitVec 32) (v56_1 : BitVec 32) (v56_0 : BitVec 32) (k0_t11 : Fin (k0_t11_loop v56_3 v56_1).trips) (k0_t12 : Fin (k0_t12_loop v56_3 v56_1 k0_t11).trips) (v891_10 : BitVec 32) (v891_9 : BitVec 32) : Prop :=
  (∀ (k0_h35 : k0_cond35 v56_3 v56_1 k0_t11 k0_t12 v891_10 = 1#1), ∀ (r : Fin 8), ∀ a, (k0_off43 v56_0 v891_9 (BitVec.ofNat 32 (16 * r.val))) a + S16.size a ≤ S19456.size a)
theorem k0_off43_inb : ∀ (v56_3 : BitVec 32) (v56_1 : BitVec 32) (v56_0 : BitVec 32) (k0_t11 : Fin (k0_t11_loop v56_3 v56_1).trips) (k0_t12 : Fin (k0_t12_loop v56_3 v56_1 k0_t11).trips) (v891_10 : BitVec 32) (v891_9 : BitVec 32) (k0_hw31 : k0_chk31 v56_3 v56_1 v56_0 k0_t11 k0_t12 v891_10 v891_9), ∀ (k0_h35 : k0_cond35 v56_3 v56_1 k0_t11 k0_t12 v891_10 = 1#1), ∀ (r : Fin 8), ∀ a, (k0_off43 v56_0 v891_9 (BitVec.ofNat 32 (16 * r.val))) a + S16.size a ≤ S19456.size a := fun v56_3 v56_1 v56_0 k0_t11 k0_t12 v891_10 v891_9 k0_hw31 k0_h35 r => k0_hw31 k0_h35 r

def k0_off44 (v56_0 : BitVec 32) (v913_9 : BitVec 32) (c0_i32_251 : BitVec 32) : Fin 1 → Nat :=
  let v1025 : BitVec 32 := Scalar.subi v913_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond36 (v56_3 : BitVec 32) (v56_1 : BitVec 32) (k0_t11 : Fin (k0_t11_loop v56_3 v56_1).trips) (k0_t12 : Fin (k0_t12_loop v56_3 v56_1 k0_t11).trips) (v913_10 : BitVec 32) : BitVec 1 :=
  let c2_i32_76 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v217 : BitVec 32 := Scalar.muli c2_i32_76 arg12
  let c272_i32_81 : BitVec 32 := 272#32
  let v222 : BitVec 32 := Scalar.muli v217 c272_i32_81
  let v223 : BitVec 32 := Scalar.addi v56_1 v222
  let c0_i32_90 : BitVec 32 := 0#32
  let c1_i32_92 : BitVec 32 := 1#32
  let arg24 : BitVec 32 := Scf.iv c0_i32_90 c1_i32_92 k0_t12
  let c6_i32_122 : BitVec 32 := 6#32
  let v315 : BitVec 32 := Scalar.muli arg24 c6_i32_122
  let v316 : BitVec 32 := Scalar.addi v223 v315
  let c2_i32_239 : BitVec 32 := 2#32
  let v931 : BitVec 32 := Scalar.addi v316 c2_i32_239
  let v932 : BitVec 1 := Scalar.cmpi .eq v931 v913_10
  let v933 : BitVec 32 := Scalar.extui v932
  let c0_i32_240 : BitVec 32 := 0#32
  let v934 : BitVec 1 := Scalar.cmpi .ne v933 c0_i32_240
  v934

def k0_chk32 (v56_3 : BitVec 32) (v56_1 : BitVec 32) (v56_0 : BitVec 32) (k0_t11 : Fin (k0_t11_loop v56_3 v56_1).trips) (k0_t12 : Fin (k0_t12_loop v56_3 v56_1 k0_t11).trips) (v913_10 : BitVec 32) (v913_9 : BitVec 32) : Prop :=
  (∀ (k0_h36 : k0_cond36 v56_3 v56_1 k0_t11 k0_t12 v913_10 = 1#1), ∀ (r : Fin 8), ∀ a, (k0_off44 v56_0 v913_9 (BitVec.ofNat 32 (16 * r.val))) a + S16.size a ≤ S19456.size a)
theorem k0_off44_inb : ∀ (v56_3 : BitVec 32) (v56_1 : BitVec 32) (v56_0 : BitVec 32) (k0_t11 : Fin (k0_t11_loop v56_3 v56_1).trips) (k0_t12 : Fin (k0_t12_loop v56_3 v56_1 k0_t11).trips) (v913_10 : BitVec 32) (v913_9 : BitVec 32) (k0_hw32 : k0_chk32 v56_3 v56_1 v56_0 k0_t11 k0_t12 v913_10 v913_9), ∀ (k0_h36 : k0_cond36 v56_3 v56_1 k0_t11 k0_t12 v913_10 = 1#1), ∀ (r : Fin 8), ∀ a, (k0_off44 v56_0 v913_9 (BitVec.ofNat 32 (16 * r.val))) a + S16.size a ≤ S19456.size a := fun v56_3 v56_1 v56_0 k0_t11 k0_t12 v913_10 v913_9 k0_hw32 k0_h36 r => k0_hw32 k0_h36 r

def k0_off45 (v56_0 : BitVec 32) (v935_9 : BitVec 32) (c0_i32_251 : BitVec 32) : Fin 1 → Nat :=
  let v1025 : BitVec 32 := Scalar.subi v935_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond37 (v56_3 : BitVec 32) (v56_1 : BitVec 32) (k0_t11 : Fin (k0_t11_loop v56_3 v56_1).trips) (k0_t12 : Fin (k0_t12_loop v56_3 v56_1 k0_t11).trips) (v935_10 : BitVec 32) : BitVec 1 :=
  let c2_i32_76 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v217 : BitVec 32 := Scalar.muli c2_i32_76 arg12
  let c272_i32_81 : BitVec 32 := 272#32
  let v222 : BitVec 32 := Scalar.muli v217 c272_i32_81
  let v223 : BitVec 32 := Scalar.addi v56_1 v222
  let c0_i32_90 : BitVec 32 := 0#32
  let c1_i32_92 : BitVec 32 := 1#32
  let arg24 : BitVec 32 := Scf.iv c0_i32_90 c1_i32_92 k0_t12
  let c6_i32_122 : BitVec 32 := 6#32
  let v315 : BitVec 32 := Scalar.muli arg24 c6_i32_122
  let v316 : BitVec 32 := Scalar.addi v223 v315
  let c3_i32_241 : BitVec 32 := 3#32
  let v953 : BitVec 32 := Scalar.addi v316 c3_i32_241
  let v954 : BitVec 1 := Scalar.cmpi .eq v953 v935_10
  let v955 : BitVec 32 := Scalar.extui v954
  let c0_i32_242 : BitVec 32 := 0#32
  let v956 : BitVec 1 := Scalar.cmpi .ne v955 c0_i32_242
  v956

def k0_chk33 (v56_3 : BitVec 32) (v56_1 : BitVec 32) (v56_0 : BitVec 32) (k0_t11 : Fin (k0_t11_loop v56_3 v56_1).trips) (k0_t12 : Fin (k0_t12_loop v56_3 v56_1 k0_t11).trips) (v935_10 : BitVec 32) (v935_9 : BitVec 32) : Prop :=
  (∀ (k0_h37 : k0_cond37 v56_3 v56_1 k0_t11 k0_t12 v935_10 = 1#1), ∀ (r : Fin 8), ∀ a, (k0_off45 v56_0 v935_9 (BitVec.ofNat 32 (16 * r.val))) a + S16.size a ≤ S19456.size a)
theorem k0_off45_inb : ∀ (v56_3 : BitVec 32) (v56_1 : BitVec 32) (v56_0 : BitVec 32) (k0_t11 : Fin (k0_t11_loop v56_3 v56_1).trips) (k0_t12 : Fin (k0_t12_loop v56_3 v56_1 k0_t11).trips) (v935_10 : BitVec 32) (v935_9 : BitVec 32) (k0_hw33 : k0_chk33 v56_3 v56_1 v56_0 k0_t11 k0_t12 v935_10 v935_9), ∀ (k0_h37 : k0_cond37 v56_3 v56_1 k0_t11 k0_t12 v935_10 = 1#1), ∀ (r : Fin 8), ∀ a, (k0_off45 v56_0 v935_9 (BitVec.ofNat 32 (16 * r.val))) a + S16.size a ≤ S19456.size a := fun v56_3 v56_1 v56_0 k0_t11 k0_t12 v935_10 v935_9 k0_hw33 k0_h37 r => k0_hw33 k0_h37 r

def k0_off46 (v56_0 : BitVec 32) (v957_9 : BitVec 32) (c0_i32_251 : BitVec 32) : Fin 1 → Nat :=
  let v1025 : BitVec 32 := Scalar.subi v957_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond38 (v56_3 : BitVec 32) (v56_1 : BitVec 32) (k0_t11 : Fin (k0_t11_loop v56_3 v56_1).trips) (k0_t12 : Fin (k0_t12_loop v56_3 v56_1 k0_t11).trips) (v957_10 : BitVec 32) : BitVec 1 :=
  let c2_i32_76 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v217 : BitVec 32 := Scalar.muli c2_i32_76 arg12
  let c272_i32_81 : BitVec 32 := 272#32
  let v222 : BitVec 32 := Scalar.muli v217 c272_i32_81
  let v223 : BitVec 32 := Scalar.addi v56_1 v222
  let c0_i32_90 : BitVec 32 := 0#32
  let c1_i32_92 : BitVec 32 := 1#32
  let arg24 : BitVec 32 := Scf.iv c0_i32_90 c1_i32_92 k0_t12
  let c6_i32_122 : BitVec 32 := 6#32
  let v315 : BitVec 32 := Scalar.muli arg24 c6_i32_122
  let v316 : BitVec 32 := Scalar.addi v223 v315
  let c4_i32_243 : BitVec 32 := 4#32
  let v975 : BitVec 32 := Scalar.addi v316 c4_i32_243
  let v976 : BitVec 1 := Scalar.cmpi .eq v975 v957_10
  let v977 : BitVec 32 := Scalar.extui v976
  let c0_i32_244 : BitVec 32 := 0#32
  let v978 : BitVec 1 := Scalar.cmpi .ne v977 c0_i32_244
  v978

def k0_chk34 (v56_3 : BitVec 32) (v56_1 : BitVec 32) (v56_0 : BitVec 32) (k0_t11 : Fin (k0_t11_loop v56_3 v56_1).trips) (k0_t12 : Fin (k0_t12_loop v56_3 v56_1 k0_t11).trips) (v957_10 : BitVec 32) (v957_9 : BitVec 32) : Prop :=
  (∀ (k0_h38 : k0_cond38 v56_3 v56_1 k0_t11 k0_t12 v957_10 = 1#1), ∀ (r : Fin 8), ∀ a, (k0_off46 v56_0 v957_9 (BitVec.ofNat 32 (16 * r.val))) a + S16.size a ≤ S19456.size a)
theorem k0_off46_inb : ∀ (v56_3 : BitVec 32) (v56_1 : BitVec 32) (v56_0 : BitVec 32) (k0_t11 : Fin (k0_t11_loop v56_3 v56_1).trips) (k0_t12 : Fin (k0_t12_loop v56_3 v56_1 k0_t11).trips) (v957_10 : BitVec 32) (v957_9 : BitVec 32) (k0_hw34 : k0_chk34 v56_3 v56_1 v56_0 k0_t11 k0_t12 v957_10 v957_9), ∀ (k0_h38 : k0_cond38 v56_3 v56_1 k0_t11 k0_t12 v957_10 = 1#1), ∀ (r : Fin 8), ∀ a, (k0_off46 v56_0 v957_9 (BitVec.ofNat 32 (16 * r.val))) a + S16.size a ≤ S19456.size a := fun v56_3 v56_1 v56_0 k0_t11 k0_t12 v957_10 v957_9 k0_hw34 k0_h38 r => k0_hw34 k0_h38 r

def k0_off47 (v56_0 : BitVec 32) (v979_9 : BitVec 32) (c0_i32_251 : BitVec 32) : Fin 1 → Nat :=
  let v1025 : BitVec 32 := Scalar.subi v979_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond39 (v56_3 : BitVec 32) (v56_1 : BitVec 32) (k0_t11 : Fin (k0_t11_loop v56_3 v56_1).trips) (k0_t12 : Fin (k0_t12_loop v56_3 v56_1 k0_t11).trips) (v979_10 : BitVec 32) : BitVec 1 :=
  let c2_i32_76 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v217 : BitVec 32 := Scalar.muli c2_i32_76 arg12
  let c272_i32_81 : BitVec 32 := 272#32
  let v222 : BitVec 32 := Scalar.muli v217 c272_i32_81
  let v223 : BitVec 32 := Scalar.addi v56_1 v222
  let c0_i32_90 : BitVec 32 := 0#32
  let c1_i32_92 : BitVec 32 := 1#32
  let arg24 : BitVec 32 := Scf.iv c0_i32_90 c1_i32_92 k0_t12
  let c6_i32_122 : BitVec 32 := 6#32
  let v315 : BitVec 32 := Scalar.muli arg24 c6_i32_122
  let v316 : BitVec 32 := Scalar.addi v223 v315
  let c5_i32_245 : BitVec 32 := 5#32
  let v997 : BitVec 32 := Scalar.addi v316 c5_i32_245
  let v998 : BitVec 1 := Scalar.cmpi .eq v997 v979_10
  let v999 : BitVec 32 := Scalar.extui v998
  let c0_i32_246 : BitVec 32 := 0#32
  let v1000 : BitVec 1 := Scalar.cmpi .ne v999 c0_i32_246
  v1000

def k0_chk35 (v56_3 : BitVec 32) (v56_1 : BitVec 32) (v56_0 : BitVec 32) (k0_t11 : Fin (k0_t11_loop v56_3 v56_1).trips) (k0_t12 : Fin (k0_t12_loop v56_3 v56_1 k0_t11).trips) (v979_10 : BitVec 32) (v979_9 : BitVec 32) : Prop :=
  (∀ (k0_h39 : k0_cond39 v56_3 v56_1 k0_t11 k0_t12 v979_10 = 1#1), ∀ (r : Fin 8), ∀ a, (k0_off47 v56_0 v979_9 (BitVec.ofNat 32 (16 * r.val))) a + S16.size a ≤ S19456.size a)
theorem k0_off47_inb : ∀ (v56_3 : BitVec 32) (v56_1 : BitVec 32) (v56_0 : BitVec 32) (k0_t11 : Fin (k0_t11_loop v56_3 v56_1).trips) (k0_t12 : Fin (k0_t12_loop v56_3 v56_1 k0_t11).trips) (v979_10 : BitVec 32) (v979_9 : BitVec 32) (k0_hw35 : k0_chk35 v56_3 v56_1 v56_0 k0_t11 k0_t12 v979_10 v979_9), ∀ (k0_h39 : k0_cond39 v56_3 v56_1 k0_t11 k0_t12 v979_10 = 1#1), ∀ (r : Fin 8), ∀ a, (k0_off47 v56_0 v979_9 (BitVec.ofNat 32 (16 * r.val))) a + S16.size a ≤ S19456.size a := fun v56_3 v56_1 v56_0 k0_t11 k0_t12 v979_10 v979_9 k0_hw35 k0_h39 r => k0_hw35 k0_h39 r

@[reducible] def k0_t13_loop (v56_3 : BitVec 32) (v56_1 : BitVec 32) (k0_t11 : Fin (k0_t11_loop v56_3 v56_1).trips) : Scf.Loop 32 :=
  let c0_i32_90 : BitVec 32 := 0#32
  let c2_i32_76 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v217 : BitVec 32 := Scalar.muli c2_i32_76 arg12
  let c272_i32_81 : BitVec 32 := 272#32
  let v222 : BitVec 32 := Scalar.muli v217 c272_i32_81
  let v223 : BitVec 32 := Scalar.addi v56_1 v222
  let c272_i32_82 : BitVec 32 := 272#32
  let v225 : BitVec 32 := Scalar.addi v223 c272_i32_82
  let v226 : BitVec 32 := Scalar.minsi v225 v56_3
  let v227 : BitVec 32 := Scalar.subi v226 v223
  let c0_i32_83 : BitVec 32 := 0#32
  let v228 : BitVec 32 := Scalar.maxsi v227 c0_i32_83
  let c0_i32_84 : BitVec 32 := 0#32
  let v230 : BitVec 1 := Scalar.cmpi .sgt v228 c0_i32_84
  let v231 : BitVec 32 := Scalar.extui v230
  let c0_i32_85 : BitVec 32 := 0#32
  let v232 : BitVec 1 := Scalar.cmpi .slt v228 c0_i32_85
  let v233 : BitVec 32 := Scalar.extui v232
  let v234 : BitVec 32 := Scalar.subi v231 v233
  let c6_i32 : BitVec 32 := 6#32
  let c0_i32_86 : BitVec 32 := 0#32
  let v235 : BitVec 1 := Scalar.cmpi .sgt c6_i32 c0_i32_86
  let v236 : BitVec 32 := Scalar.extui v235
  let c0_i32_87 : BitVec 32 := 0#32
  let v237 : BitVec 1 := Scalar.cmpi .slt c6_i32 c0_i32_87
  let v238 : BitVec 32 := Scalar.extui v237
  let v239 : BitVec 32 := Scalar.subi v236 v238
  let v240 : BitVec 1 := Scalar.cmpi .ne v234 v239
  let v241 : BitVec 32 := Scalar.remsi v228 c6_i32
  let c0_i32_88 : BitVec 32 := 0#32
  let v242 : BitVec 1 := Scalar.cmpi .ne v241 c0_i32_88
  let v243 : BitVec 1 := Scalar.andi v240 v242
  let v229 : BitVec 32 := Scalar.divsi v228 c6_i32
  let c1_i32_89 : BitVec 32 := 1#32
  let v244 : BitVec 32 := Scalar.subi v229 c1_i32_89
  let v245 : BitVec 32 := Scalar.select v243 v244 v229
  let v246 : BitVec 32 := Scalar.subi v245 c0_i32_90
  let c1_i32_91 : BitVec 32 := 1#32
  let v248 : BitVec 32 := Scalar.divsi v246 c1_i32_91
  let v249 : BitVec 32 := Scalar.muli v248 c1_i32_91
  let v250 : BitVec 32 := Scalar.addi c0_i32_90 v249
  let v247 : BitVec 32 := Scalar.addi c0_i32_90 v246
  let c1_i32_93 : BitVec 32 := 1#32
  ⟨v250, v247, c1_i32_93⟩
def k0_off48 (v56_3 : BitVec 32) (v56_1 : BitVec 32) (k0_t11 : Fin (k0_t11_loop v56_3 v56_1).trips) (k0_t13 : Fin (k0_t13_loop v56_3 v56_1 k0_t11).trips) (c0_i32_123 : BitVec 32) (c0_i32_125 : BitVec 32) : Fin 1 → Nat :=
  let c2_i32_76 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v217 : BitVec 32 := Scalar.muli c2_i32_76 arg12
  let c272_i32_81 : BitVec 32 := 272#32
  let v222 : BitVec 32 := Scalar.muli v217 c272_i32_81
  let v223 : BitVec 32 := Scalar.addi v56_1 v222
  let c0_i32_90 : BitVec 32 := 0#32
  let c272_i32_82 : BitVec 32 := 272#32
  let v225 : BitVec 32 := Scalar.addi v223 c272_i32_82
  let v226 : BitVec 32 := Scalar.minsi v225 v56_3
  let v227 : BitVec 32 := Scalar.subi v226 v223
  let c0_i32_83 : BitVec 32 := 0#32
  let v228 : BitVec 32 := Scalar.maxsi v227 c0_i32_83
  let c0_i32_84 : BitVec 32 := 0#32
  let v230 : BitVec 1 := Scalar.cmpi .sgt v228 c0_i32_84
  let v231 : BitVec 32 := Scalar.extui v230
  let c0_i32_85 : BitVec 32 := 0#32
  let v232 : BitVec 1 := Scalar.cmpi .slt v228 c0_i32_85
  let v233 : BitVec 32 := Scalar.extui v232
  let v234 : BitVec 32 := Scalar.subi v231 v233
  let c6_i32 : BitVec 32 := 6#32
  let c0_i32_86 : BitVec 32 := 0#32
  let v235 : BitVec 1 := Scalar.cmpi .sgt c6_i32 c0_i32_86
  let v236 : BitVec 32 := Scalar.extui v235
  let c0_i32_87 : BitVec 32 := 0#32
  let v237 : BitVec 1 := Scalar.cmpi .slt c6_i32 c0_i32_87
  let v238 : BitVec 32 := Scalar.extui v237
  let v239 : BitVec 32 := Scalar.subi v236 v238
  let v240 : BitVec 1 := Scalar.cmpi .ne v234 v239
  let v241 : BitVec 32 := Scalar.remsi v228 c6_i32
  let c0_i32_88 : BitVec 32 := 0#32
  let v242 : BitVec 1 := Scalar.cmpi .ne v241 c0_i32_88
  let v243 : BitVec 1 := Scalar.andi v240 v242
  let v229 : BitVec 32 := Scalar.divsi v228 c6_i32
  let c1_i32_89 : BitVec 32 := 1#32
  let v244 : BitVec 32 := Scalar.subi v229 c1_i32_89
  let v245 : BitVec 32 := Scalar.select v243 v244 v229
  let v246 : BitVec 32 := Scalar.subi v245 c0_i32_90
  let c1_i32_91 : BitVec 32 := 1#32
  let v248 : BitVec 32 := Scalar.divsi v246 c1_i32_91
  let v249 : BitVec 32 := Scalar.muli v248 c1_i32_91
  let v250 : BitVec 32 := Scalar.addi c0_i32_90 v249
  let c1_i32_93 : BitVec 32 := 1#32
  let arg24 : BitVec 32 := Scf.iv v250 c1_i32_93 k0_t13
  let c6_i32_122 : BitVec 32 := 6#32
  let v315 : BitVec 32 := Scalar.muli arg24 c6_i32_122
  let v316 : BitVec 32 := Scalar.addi v223 v315
  let c319328_i32 : BitVec 32 := 319328#32
  let v224 : BitVec 32 := Scalar.minsi v223 c319328_i32
  let v317 : BitVec 32 := Scalar.subi v316 v224
  let v318 : BitVec 32 := Scalar.addi v317 c0_i32_123
  let c128_i32_124 : BitVec 32 := 128#32
  let v319 : BitVec 32 := Scalar.muli v318 c128_i32_124
  let v320 : BitVec 32 := Scalar.addi v319 c0_i32_125
  let v321 : Index := Scalar.indexCast v320
  ![v321.toNat]
def k0_off49 (v56_0 : BitVec 32) (arg34 : BitVec 32) (c0_i32_251 : BitVec 32) : Fin 1 → Nat :=
  let v1025 : BitVec 32 := Scalar.subi arg34 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond40 (v56_3 : BitVec 32) (v56_1 : BitVec 32) (k0_t11 : Fin (k0_t11_loop v56_3 v56_1).trips) (k0_t13 : Fin (k0_t13_loop v56_3 v56_1 k0_t11).trips) (arg35 : BitVec 32) : BitVec 1 :=
  let c2_i32_76 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v217 : BitVec 32 := Scalar.muli c2_i32_76 arg12
  let c272_i32_81 : BitVec 32 := 272#32
  let v222 : BitVec 32 := Scalar.muli v217 c272_i32_81
  let v223 : BitVec 32 := Scalar.addi v56_1 v222
  let c0_i32_90 : BitVec 32 := 0#32
  let c272_i32_82 : BitVec 32 := 272#32
  let v225 : BitVec 32 := Scalar.addi v223 c272_i32_82
  let v226 : BitVec 32 := Scalar.minsi v225 v56_3
  let v227 : BitVec 32 := Scalar.subi v226 v223
  let c0_i32_83 : BitVec 32 := 0#32
  let v228 : BitVec 32 := Scalar.maxsi v227 c0_i32_83
  let c0_i32_84 : BitVec 32 := 0#32
  let v230 : BitVec 1 := Scalar.cmpi .sgt v228 c0_i32_84
  let v231 : BitVec 32 := Scalar.extui v230
  let c0_i32_85 : BitVec 32 := 0#32
  let v232 : BitVec 1 := Scalar.cmpi .slt v228 c0_i32_85
  let v233 : BitVec 32 := Scalar.extui v232
  let v234 : BitVec 32 := Scalar.subi v231 v233
  let c6_i32 : BitVec 32 := 6#32
  let c0_i32_86 : BitVec 32 := 0#32
  let v235 : BitVec 1 := Scalar.cmpi .sgt c6_i32 c0_i32_86
  let v236 : BitVec 32 := Scalar.extui v235
  let c0_i32_87 : BitVec 32 := 0#32
  let v237 : BitVec 1 := Scalar.cmpi .slt c6_i32 c0_i32_87
  let v238 : BitVec 32 := Scalar.extui v237
  let v239 : BitVec 32 := Scalar.subi v236 v238
  let v240 : BitVec 1 := Scalar.cmpi .ne v234 v239
  let v241 : BitVec 32 := Scalar.remsi v228 c6_i32
  let c0_i32_88 : BitVec 32 := 0#32
  let v242 : BitVec 1 := Scalar.cmpi .ne v241 c0_i32_88
  let v243 : BitVec 1 := Scalar.andi v240 v242
  let v229 : BitVec 32 := Scalar.divsi v228 c6_i32
  let c1_i32_89 : BitVec 32 := 1#32
  let v244 : BitVec 32 := Scalar.subi v229 c1_i32_89
  let v245 : BitVec 32 := Scalar.select v243 v244 v229
  let v246 : BitVec 32 := Scalar.subi v245 c0_i32_90
  let c1_i32_91 : BitVec 32 := 1#32
  let v248 : BitVec 32 := Scalar.divsi v246 c1_i32_91
  let v249 : BitVec 32 := Scalar.muli v248 c1_i32_91
  let v250 : BitVec 32 := Scalar.addi c0_i32_90 v249
  let c1_i32_93 : BitVec 32 := 1#32
  let arg24 : BitVec 32 := Scf.iv v250 c1_i32_93 k0_t13
  let c6_i32_122 : BitVec 32 := 6#32
  let v315 : BitVec 32 := Scalar.muli arg24 c6_i32_122
  let v316 : BitVec 32 := Scalar.addi v223 v315
  let c0_i32_235 : BitVec 32 := 0#32
  let v887 : BitVec 32 := Scalar.addi v316 c0_i32_235
  let v888 : BitVec 1 := Scalar.cmpi .eq v887 arg35
  let v889 : BitVec 32 := Scalar.extui v888
  let c0_i32_236 : BitVec 32 := 0#32
  let v890 : BitVec 1 := Scalar.cmpi .ne v889 c0_i32_236
  v890

def k0_chk36 (v56_3 : BitVec 32) (v56_1 : BitVec 32) (v56_0 : BitVec 32) (k0_t11 : Fin (k0_t11_loop v56_3 v56_1).trips) (k0_t13 : Fin (k0_t13_loop v56_3 v56_1 k0_t11).trips) (arg34 : BitVec 32) (arg35 : BitVec 32) : Prop :=
  (∀ (k0_h40 : k0_cond40 v56_3 v56_1 k0_t11 k0_t13 arg35 = 1#1), ∀ (r : Fin 8), ∀ a, (k0_off49 v56_0 arg34 (BitVec.ofNat 32 (16 * r.val))) a + S16.size a ≤ S19456.size a)
theorem k0_off49_inb : ∀ (v56_3 : BitVec 32) (v56_1 : BitVec 32) (v56_0 : BitVec 32) (k0_t11 : Fin (k0_t11_loop v56_3 v56_1).trips) (k0_t13 : Fin (k0_t13_loop v56_3 v56_1 k0_t11).trips) (arg34 : BitVec 32) (arg35 : BitVec 32) (k0_hw36 : k0_chk36 v56_3 v56_1 v56_0 k0_t11 k0_t13 arg34 arg35), ∀ (k0_h40 : k0_cond40 v56_3 v56_1 k0_t11 k0_t13 arg35 = 1#1), ∀ (r : Fin 8), ∀ a, (k0_off49 v56_0 arg34 (BitVec.ofNat 32 (16 * r.val))) a + S16.size a ≤ S19456.size a := fun v56_3 v56_1 v56_0 k0_t11 k0_t13 arg34 arg35 k0_hw36 k0_h40 r => k0_hw36 k0_h40 r

def k0_off50 (v56_0 : BitVec 32) (v891_9 : BitVec 32) (c0_i32_251 : BitVec 32) : Fin 1 → Nat :=
  let v1025 : BitVec 32 := Scalar.subi v891_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond41 (v56_3 : BitVec 32) (v56_1 : BitVec 32) (k0_t11 : Fin (k0_t11_loop v56_3 v56_1).trips) (k0_t13 : Fin (k0_t13_loop v56_3 v56_1 k0_t11).trips) (v891_10 : BitVec 32) : BitVec 1 :=
  let c2_i32_76 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v217 : BitVec 32 := Scalar.muli c2_i32_76 arg12
  let c272_i32_81 : BitVec 32 := 272#32
  let v222 : BitVec 32 := Scalar.muli v217 c272_i32_81
  let v223 : BitVec 32 := Scalar.addi v56_1 v222
  let c0_i32_90 : BitVec 32 := 0#32
  let c272_i32_82 : BitVec 32 := 272#32
  let v225 : BitVec 32 := Scalar.addi v223 c272_i32_82
  let v226 : BitVec 32 := Scalar.minsi v225 v56_3
  let v227 : BitVec 32 := Scalar.subi v226 v223
  let c0_i32_83 : BitVec 32 := 0#32
  let v228 : BitVec 32 := Scalar.maxsi v227 c0_i32_83
  let c0_i32_84 : BitVec 32 := 0#32
  let v230 : BitVec 1 := Scalar.cmpi .sgt v228 c0_i32_84
  let v231 : BitVec 32 := Scalar.extui v230
  let c0_i32_85 : BitVec 32 := 0#32
  let v232 : BitVec 1 := Scalar.cmpi .slt v228 c0_i32_85
  let v233 : BitVec 32 := Scalar.extui v232
  let v234 : BitVec 32 := Scalar.subi v231 v233
  let c6_i32 : BitVec 32 := 6#32
  let c0_i32_86 : BitVec 32 := 0#32
  let v235 : BitVec 1 := Scalar.cmpi .sgt c6_i32 c0_i32_86
  let v236 : BitVec 32 := Scalar.extui v235
  let c0_i32_87 : BitVec 32 := 0#32
  let v237 : BitVec 1 := Scalar.cmpi .slt c6_i32 c0_i32_87
  let v238 : BitVec 32 := Scalar.extui v237
  let v239 : BitVec 32 := Scalar.subi v236 v238
  let v240 : BitVec 1 := Scalar.cmpi .ne v234 v239
  let v241 : BitVec 32 := Scalar.remsi v228 c6_i32
  let c0_i32_88 : BitVec 32 := 0#32
  let v242 : BitVec 1 := Scalar.cmpi .ne v241 c0_i32_88
  let v243 : BitVec 1 := Scalar.andi v240 v242
  let v229 : BitVec 32 := Scalar.divsi v228 c6_i32
  let c1_i32_89 : BitVec 32 := 1#32
  let v244 : BitVec 32 := Scalar.subi v229 c1_i32_89
  let v245 : BitVec 32 := Scalar.select v243 v244 v229
  let v246 : BitVec 32 := Scalar.subi v245 c0_i32_90
  let c1_i32_91 : BitVec 32 := 1#32
  let v248 : BitVec 32 := Scalar.divsi v246 c1_i32_91
  let v249 : BitVec 32 := Scalar.muli v248 c1_i32_91
  let v250 : BitVec 32 := Scalar.addi c0_i32_90 v249
  let c1_i32_93 : BitVec 32 := 1#32
  let arg24 : BitVec 32 := Scf.iv v250 c1_i32_93 k0_t13
  let c6_i32_122 : BitVec 32 := 6#32
  let v315 : BitVec 32 := Scalar.muli arg24 c6_i32_122
  let v316 : BitVec 32 := Scalar.addi v223 v315
  let c1_i32_237 : BitVec 32 := 1#32
  let v909 : BitVec 32 := Scalar.addi v316 c1_i32_237
  let v910 : BitVec 1 := Scalar.cmpi .eq v909 v891_10
  let v911 : BitVec 32 := Scalar.extui v910
  let c0_i32_238 : BitVec 32 := 0#32
  let v912 : BitVec 1 := Scalar.cmpi .ne v911 c0_i32_238
  v912

def k0_chk37 (v56_3 : BitVec 32) (v56_1 : BitVec 32) (v56_0 : BitVec 32) (k0_t11 : Fin (k0_t11_loop v56_3 v56_1).trips) (k0_t13 : Fin (k0_t13_loop v56_3 v56_1 k0_t11).trips) (v891_10 : BitVec 32) (v891_9 : BitVec 32) : Prop :=
  (∀ (k0_h41 : k0_cond41 v56_3 v56_1 k0_t11 k0_t13 v891_10 = 1#1), ∀ (r : Fin 8), ∀ a, (k0_off50 v56_0 v891_9 (BitVec.ofNat 32 (16 * r.val))) a + S16.size a ≤ S19456.size a)
theorem k0_off50_inb : ∀ (v56_3 : BitVec 32) (v56_1 : BitVec 32) (v56_0 : BitVec 32) (k0_t11 : Fin (k0_t11_loop v56_3 v56_1).trips) (k0_t13 : Fin (k0_t13_loop v56_3 v56_1 k0_t11).trips) (v891_10 : BitVec 32) (v891_9 : BitVec 32) (k0_hw37 : k0_chk37 v56_3 v56_1 v56_0 k0_t11 k0_t13 v891_10 v891_9), ∀ (k0_h41 : k0_cond41 v56_3 v56_1 k0_t11 k0_t13 v891_10 = 1#1), ∀ (r : Fin 8), ∀ a, (k0_off50 v56_0 v891_9 (BitVec.ofNat 32 (16 * r.val))) a + S16.size a ≤ S19456.size a := fun v56_3 v56_1 v56_0 k0_t11 k0_t13 v891_10 v891_9 k0_hw37 k0_h41 r => k0_hw37 k0_h41 r

def k0_off51 (v56_0 : BitVec 32) (v913_9 : BitVec 32) (c0_i32_251 : BitVec 32) : Fin 1 → Nat :=
  let v1025 : BitVec 32 := Scalar.subi v913_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond42 (v56_3 : BitVec 32) (v56_1 : BitVec 32) (k0_t11 : Fin (k0_t11_loop v56_3 v56_1).trips) (k0_t13 : Fin (k0_t13_loop v56_3 v56_1 k0_t11).trips) (v913_10 : BitVec 32) : BitVec 1 :=
  let c2_i32_76 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v217 : BitVec 32 := Scalar.muli c2_i32_76 arg12
  let c272_i32_81 : BitVec 32 := 272#32
  let v222 : BitVec 32 := Scalar.muli v217 c272_i32_81
  let v223 : BitVec 32 := Scalar.addi v56_1 v222
  let c0_i32_90 : BitVec 32 := 0#32
  let c272_i32_82 : BitVec 32 := 272#32
  let v225 : BitVec 32 := Scalar.addi v223 c272_i32_82
  let v226 : BitVec 32 := Scalar.minsi v225 v56_3
  let v227 : BitVec 32 := Scalar.subi v226 v223
  let c0_i32_83 : BitVec 32 := 0#32
  let v228 : BitVec 32 := Scalar.maxsi v227 c0_i32_83
  let c0_i32_84 : BitVec 32 := 0#32
  let v230 : BitVec 1 := Scalar.cmpi .sgt v228 c0_i32_84
  let v231 : BitVec 32 := Scalar.extui v230
  let c0_i32_85 : BitVec 32 := 0#32
  let v232 : BitVec 1 := Scalar.cmpi .slt v228 c0_i32_85
  let v233 : BitVec 32 := Scalar.extui v232
  let v234 : BitVec 32 := Scalar.subi v231 v233
  let c6_i32 : BitVec 32 := 6#32
  let c0_i32_86 : BitVec 32 := 0#32
  let v235 : BitVec 1 := Scalar.cmpi .sgt c6_i32 c0_i32_86
  let v236 : BitVec 32 := Scalar.extui v235
  let c0_i32_87 : BitVec 32 := 0#32
  let v237 : BitVec 1 := Scalar.cmpi .slt c6_i32 c0_i32_87
  let v238 : BitVec 32 := Scalar.extui v237
  let v239 : BitVec 32 := Scalar.subi v236 v238
  let v240 : BitVec 1 := Scalar.cmpi .ne v234 v239
  let v241 : BitVec 32 := Scalar.remsi v228 c6_i32
  let c0_i32_88 : BitVec 32 := 0#32
  let v242 : BitVec 1 := Scalar.cmpi .ne v241 c0_i32_88
  let v243 : BitVec 1 := Scalar.andi v240 v242
  let v229 : BitVec 32 := Scalar.divsi v228 c6_i32
  let c1_i32_89 : BitVec 32 := 1#32
  let v244 : BitVec 32 := Scalar.subi v229 c1_i32_89
  let v245 : BitVec 32 := Scalar.select v243 v244 v229
  let v246 : BitVec 32 := Scalar.subi v245 c0_i32_90
  let c1_i32_91 : BitVec 32 := 1#32
  let v248 : BitVec 32 := Scalar.divsi v246 c1_i32_91
  let v249 : BitVec 32 := Scalar.muli v248 c1_i32_91
  let v250 : BitVec 32 := Scalar.addi c0_i32_90 v249
  let c1_i32_93 : BitVec 32 := 1#32
  let arg24 : BitVec 32 := Scf.iv v250 c1_i32_93 k0_t13
  let c6_i32_122 : BitVec 32 := 6#32
  let v315 : BitVec 32 := Scalar.muli arg24 c6_i32_122
  let v316 : BitVec 32 := Scalar.addi v223 v315
  let c2_i32_239 : BitVec 32 := 2#32
  let v931 : BitVec 32 := Scalar.addi v316 c2_i32_239
  let v932 : BitVec 1 := Scalar.cmpi .eq v931 v913_10
  let v933 : BitVec 32 := Scalar.extui v932
  let c0_i32_240 : BitVec 32 := 0#32
  let v934 : BitVec 1 := Scalar.cmpi .ne v933 c0_i32_240
  v934

def k0_chk38 (v56_3 : BitVec 32) (v56_1 : BitVec 32) (v56_0 : BitVec 32) (k0_t11 : Fin (k0_t11_loop v56_3 v56_1).trips) (k0_t13 : Fin (k0_t13_loop v56_3 v56_1 k0_t11).trips) (v913_10 : BitVec 32) (v913_9 : BitVec 32) : Prop :=
  (∀ (k0_h42 : k0_cond42 v56_3 v56_1 k0_t11 k0_t13 v913_10 = 1#1), ∀ (r : Fin 8), ∀ a, (k0_off51 v56_0 v913_9 (BitVec.ofNat 32 (16 * r.val))) a + S16.size a ≤ S19456.size a)
theorem k0_off51_inb : ∀ (v56_3 : BitVec 32) (v56_1 : BitVec 32) (v56_0 : BitVec 32) (k0_t11 : Fin (k0_t11_loop v56_3 v56_1).trips) (k0_t13 : Fin (k0_t13_loop v56_3 v56_1 k0_t11).trips) (v913_10 : BitVec 32) (v913_9 : BitVec 32) (k0_hw38 : k0_chk38 v56_3 v56_1 v56_0 k0_t11 k0_t13 v913_10 v913_9), ∀ (k0_h42 : k0_cond42 v56_3 v56_1 k0_t11 k0_t13 v913_10 = 1#1), ∀ (r : Fin 8), ∀ a, (k0_off51 v56_0 v913_9 (BitVec.ofNat 32 (16 * r.val))) a + S16.size a ≤ S19456.size a := fun v56_3 v56_1 v56_0 k0_t11 k0_t13 v913_10 v913_9 k0_hw38 k0_h42 r => k0_hw38 k0_h42 r

def k0_off52 (v56_0 : BitVec 32) (v935_9 : BitVec 32) (c0_i32_251 : BitVec 32) : Fin 1 → Nat :=
  let v1025 : BitVec 32 := Scalar.subi v935_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond43 (v56_3 : BitVec 32) (v56_1 : BitVec 32) (k0_t11 : Fin (k0_t11_loop v56_3 v56_1).trips) (k0_t13 : Fin (k0_t13_loop v56_3 v56_1 k0_t11).trips) (v935_10 : BitVec 32) : BitVec 1 :=
  let c2_i32_76 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v217 : BitVec 32 := Scalar.muli c2_i32_76 arg12
  let c272_i32_81 : BitVec 32 := 272#32
  let v222 : BitVec 32 := Scalar.muli v217 c272_i32_81
  let v223 : BitVec 32 := Scalar.addi v56_1 v222
  let c0_i32_90 : BitVec 32 := 0#32
  let c272_i32_82 : BitVec 32 := 272#32
  let v225 : BitVec 32 := Scalar.addi v223 c272_i32_82
  let v226 : BitVec 32 := Scalar.minsi v225 v56_3
  let v227 : BitVec 32 := Scalar.subi v226 v223
  let c0_i32_83 : BitVec 32 := 0#32
  let v228 : BitVec 32 := Scalar.maxsi v227 c0_i32_83
  let c0_i32_84 : BitVec 32 := 0#32
  let v230 : BitVec 1 := Scalar.cmpi .sgt v228 c0_i32_84
  let v231 : BitVec 32 := Scalar.extui v230
  let c0_i32_85 : BitVec 32 := 0#32
  let v232 : BitVec 1 := Scalar.cmpi .slt v228 c0_i32_85
  let v233 : BitVec 32 := Scalar.extui v232
  let v234 : BitVec 32 := Scalar.subi v231 v233
  let c6_i32 : BitVec 32 := 6#32
  let c0_i32_86 : BitVec 32 := 0#32
  let v235 : BitVec 1 := Scalar.cmpi .sgt c6_i32 c0_i32_86
  let v236 : BitVec 32 := Scalar.extui v235
  let c0_i32_87 : BitVec 32 := 0#32
  let v237 : BitVec 1 := Scalar.cmpi .slt c6_i32 c0_i32_87
  let v238 : BitVec 32 := Scalar.extui v237
  let v239 : BitVec 32 := Scalar.subi v236 v238
  let v240 : BitVec 1 := Scalar.cmpi .ne v234 v239
  let v241 : BitVec 32 := Scalar.remsi v228 c6_i32
  let c0_i32_88 : BitVec 32 := 0#32
  let v242 : BitVec 1 := Scalar.cmpi .ne v241 c0_i32_88
  let v243 : BitVec 1 := Scalar.andi v240 v242
  let v229 : BitVec 32 := Scalar.divsi v228 c6_i32
  let c1_i32_89 : BitVec 32 := 1#32
  let v244 : BitVec 32 := Scalar.subi v229 c1_i32_89
  let v245 : BitVec 32 := Scalar.select v243 v244 v229
  let v246 : BitVec 32 := Scalar.subi v245 c0_i32_90
  let c1_i32_91 : BitVec 32 := 1#32
  let v248 : BitVec 32 := Scalar.divsi v246 c1_i32_91
  let v249 : BitVec 32 := Scalar.muli v248 c1_i32_91
  let v250 : BitVec 32 := Scalar.addi c0_i32_90 v249
  let c1_i32_93 : BitVec 32 := 1#32
  let arg24 : BitVec 32 := Scf.iv v250 c1_i32_93 k0_t13
  let c6_i32_122 : BitVec 32 := 6#32
  let v315 : BitVec 32 := Scalar.muli arg24 c6_i32_122
  let v316 : BitVec 32 := Scalar.addi v223 v315
  let c3_i32_241 : BitVec 32 := 3#32
  let v953 : BitVec 32 := Scalar.addi v316 c3_i32_241
  let v954 : BitVec 1 := Scalar.cmpi .eq v953 v935_10
  let v955 : BitVec 32 := Scalar.extui v954
  let c0_i32_242 : BitVec 32 := 0#32
  let v956 : BitVec 1 := Scalar.cmpi .ne v955 c0_i32_242
  v956

def k0_chk39 (v56_3 : BitVec 32) (v56_1 : BitVec 32) (v56_0 : BitVec 32) (k0_t11 : Fin (k0_t11_loop v56_3 v56_1).trips) (k0_t13 : Fin (k0_t13_loop v56_3 v56_1 k0_t11).trips) (v935_10 : BitVec 32) (v935_9 : BitVec 32) : Prop :=
  (∀ (k0_h43 : k0_cond43 v56_3 v56_1 k0_t11 k0_t13 v935_10 = 1#1), ∀ (r : Fin 8), ∀ a, (k0_off52 v56_0 v935_9 (BitVec.ofNat 32 (16 * r.val))) a + S16.size a ≤ S19456.size a)
theorem k0_off52_inb : ∀ (v56_3 : BitVec 32) (v56_1 : BitVec 32) (v56_0 : BitVec 32) (k0_t11 : Fin (k0_t11_loop v56_3 v56_1).trips) (k0_t13 : Fin (k0_t13_loop v56_3 v56_1 k0_t11).trips) (v935_10 : BitVec 32) (v935_9 : BitVec 32) (k0_hw39 : k0_chk39 v56_3 v56_1 v56_0 k0_t11 k0_t13 v935_10 v935_9), ∀ (k0_h43 : k0_cond43 v56_3 v56_1 k0_t11 k0_t13 v935_10 = 1#1), ∀ (r : Fin 8), ∀ a, (k0_off52 v56_0 v935_9 (BitVec.ofNat 32 (16 * r.val))) a + S16.size a ≤ S19456.size a := fun v56_3 v56_1 v56_0 k0_t11 k0_t13 v935_10 v935_9 k0_hw39 k0_h43 r => k0_hw39 k0_h43 r

def k0_off53 (v56_0 : BitVec 32) (v957_9 : BitVec 32) (c0_i32_251 : BitVec 32) : Fin 1 → Nat :=
  let v1025 : BitVec 32 := Scalar.subi v957_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond44 (v56_3 : BitVec 32) (v56_1 : BitVec 32) (k0_t11 : Fin (k0_t11_loop v56_3 v56_1).trips) (k0_t13 : Fin (k0_t13_loop v56_3 v56_1 k0_t11).trips) (v957_10 : BitVec 32) : BitVec 1 :=
  let c2_i32_76 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v217 : BitVec 32 := Scalar.muli c2_i32_76 arg12
  let c272_i32_81 : BitVec 32 := 272#32
  let v222 : BitVec 32 := Scalar.muli v217 c272_i32_81
  let v223 : BitVec 32 := Scalar.addi v56_1 v222
  let c0_i32_90 : BitVec 32 := 0#32
  let c272_i32_82 : BitVec 32 := 272#32
  let v225 : BitVec 32 := Scalar.addi v223 c272_i32_82
  let v226 : BitVec 32 := Scalar.minsi v225 v56_3
  let v227 : BitVec 32 := Scalar.subi v226 v223
  let c0_i32_83 : BitVec 32 := 0#32
  let v228 : BitVec 32 := Scalar.maxsi v227 c0_i32_83
  let c0_i32_84 : BitVec 32 := 0#32
  let v230 : BitVec 1 := Scalar.cmpi .sgt v228 c0_i32_84
  let v231 : BitVec 32 := Scalar.extui v230
  let c0_i32_85 : BitVec 32 := 0#32
  let v232 : BitVec 1 := Scalar.cmpi .slt v228 c0_i32_85
  let v233 : BitVec 32 := Scalar.extui v232
  let v234 : BitVec 32 := Scalar.subi v231 v233
  let c6_i32 : BitVec 32 := 6#32
  let c0_i32_86 : BitVec 32 := 0#32
  let v235 : BitVec 1 := Scalar.cmpi .sgt c6_i32 c0_i32_86
  let v236 : BitVec 32 := Scalar.extui v235
  let c0_i32_87 : BitVec 32 := 0#32
  let v237 : BitVec 1 := Scalar.cmpi .slt c6_i32 c0_i32_87
  let v238 : BitVec 32 := Scalar.extui v237
  let v239 : BitVec 32 := Scalar.subi v236 v238
  let v240 : BitVec 1 := Scalar.cmpi .ne v234 v239
  let v241 : BitVec 32 := Scalar.remsi v228 c6_i32
  let c0_i32_88 : BitVec 32 := 0#32
  let v242 : BitVec 1 := Scalar.cmpi .ne v241 c0_i32_88
  let v243 : BitVec 1 := Scalar.andi v240 v242
  let v229 : BitVec 32 := Scalar.divsi v228 c6_i32
  let c1_i32_89 : BitVec 32 := 1#32
  let v244 : BitVec 32 := Scalar.subi v229 c1_i32_89
  let v245 : BitVec 32 := Scalar.select v243 v244 v229
  let v246 : BitVec 32 := Scalar.subi v245 c0_i32_90
  let c1_i32_91 : BitVec 32 := 1#32
  let v248 : BitVec 32 := Scalar.divsi v246 c1_i32_91
  let v249 : BitVec 32 := Scalar.muli v248 c1_i32_91
  let v250 : BitVec 32 := Scalar.addi c0_i32_90 v249
  let c1_i32_93 : BitVec 32 := 1#32
  let arg24 : BitVec 32 := Scf.iv v250 c1_i32_93 k0_t13
  let c6_i32_122 : BitVec 32 := 6#32
  let v315 : BitVec 32 := Scalar.muli arg24 c6_i32_122
  let v316 : BitVec 32 := Scalar.addi v223 v315
  let c4_i32_243 : BitVec 32 := 4#32
  let v975 : BitVec 32 := Scalar.addi v316 c4_i32_243
  let v976 : BitVec 1 := Scalar.cmpi .eq v975 v957_10
  let v977 : BitVec 32 := Scalar.extui v976
  let c0_i32_244 : BitVec 32 := 0#32
  let v978 : BitVec 1 := Scalar.cmpi .ne v977 c0_i32_244
  v978

def k0_chk40 (v56_3 : BitVec 32) (v56_1 : BitVec 32) (v56_0 : BitVec 32) (k0_t11 : Fin (k0_t11_loop v56_3 v56_1).trips) (k0_t13 : Fin (k0_t13_loop v56_3 v56_1 k0_t11).trips) (v957_10 : BitVec 32) (v957_9 : BitVec 32) : Prop :=
  (∀ (k0_h44 : k0_cond44 v56_3 v56_1 k0_t11 k0_t13 v957_10 = 1#1), ∀ (r : Fin 8), ∀ a, (k0_off53 v56_0 v957_9 (BitVec.ofNat 32 (16 * r.val))) a + S16.size a ≤ S19456.size a)
theorem k0_off53_inb : ∀ (v56_3 : BitVec 32) (v56_1 : BitVec 32) (v56_0 : BitVec 32) (k0_t11 : Fin (k0_t11_loop v56_3 v56_1).trips) (k0_t13 : Fin (k0_t13_loop v56_3 v56_1 k0_t11).trips) (v957_10 : BitVec 32) (v957_9 : BitVec 32) (k0_hw40 : k0_chk40 v56_3 v56_1 v56_0 k0_t11 k0_t13 v957_10 v957_9), ∀ (k0_h44 : k0_cond44 v56_3 v56_1 k0_t11 k0_t13 v957_10 = 1#1), ∀ (r : Fin 8), ∀ a, (k0_off53 v56_0 v957_9 (BitVec.ofNat 32 (16 * r.val))) a + S16.size a ≤ S19456.size a := fun v56_3 v56_1 v56_0 k0_t11 k0_t13 v957_10 v957_9 k0_hw40 k0_h44 r => k0_hw40 k0_h44 r

def k0_off54 (v56_0 : BitVec 32) (v979_9 : BitVec 32) (c0_i32_251 : BitVec 32) : Fin 1 → Nat :=
  let v1025 : BitVec 32 := Scalar.subi v979_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond45 (v56_3 : BitVec 32) (v56_1 : BitVec 32) (k0_t11 : Fin (k0_t11_loop v56_3 v56_1).trips) (k0_t13 : Fin (k0_t13_loop v56_3 v56_1 k0_t11).trips) (v979_10 : BitVec 32) : BitVec 1 :=
  let c2_i32_76 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v217 : BitVec 32 := Scalar.muli c2_i32_76 arg12
  let c272_i32_81 : BitVec 32 := 272#32
  let v222 : BitVec 32 := Scalar.muli v217 c272_i32_81
  let v223 : BitVec 32 := Scalar.addi v56_1 v222
  let c0_i32_90 : BitVec 32 := 0#32
  let c272_i32_82 : BitVec 32 := 272#32
  let v225 : BitVec 32 := Scalar.addi v223 c272_i32_82
  let v226 : BitVec 32 := Scalar.minsi v225 v56_3
  let v227 : BitVec 32 := Scalar.subi v226 v223
  let c0_i32_83 : BitVec 32 := 0#32
  let v228 : BitVec 32 := Scalar.maxsi v227 c0_i32_83
  let c0_i32_84 : BitVec 32 := 0#32
  let v230 : BitVec 1 := Scalar.cmpi .sgt v228 c0_i32_84
  let v231 : BitVec 32 := Scalar.extui v230
  let c0_i32_85 : BitVec 32 := 0#32
  let v232 : BitVec 1 := Scalar.cmpi .slt v228 c0_i32_85
  let v233 : BitVec 32 := Scalar.extui v232
  let v234 : BitVec 32 := Scalar.subi v231 v233
  let c6_i32 : BitVec 32 := 6#32
  let c0_i32_86 : BitVec 32 := 0#32
  let v235 : BitVec 1 := Scalar.cmpi .sgt c6_i32 c0_i32_86
  let v236 : BitVec 32 := Scalar.extui v235
  let c0_i32_87 : BitVec 32 := 0#32
  let v237 : BitVec 1 := Scalar.cmpi .slt c6_i32 c0_i32_87
  let v238 : BitVec 32 := Scalar.extui v237
  let v239 : BitVec 32 := Scalar.subi v236 v238
  let v240 : BitVec 1 := Scalar.cmpi .ne v234 v239
  let v241 : BitVec 32 := Scalar.remsi v228 c6_i32
  let c0_i32_88 : BitVec 32 := 0#32
  let v242 : BitVec 1 := Scalar.cmpi .ne v241 c0_i32_88
  let v243 : BitVec 1 := Scalar.andi v240 v242
  let v229 : BitVec 32 := Scalar.divsi v228 c6_i32
  let c1_i32_89 : BitVec 32 := 1#32
  let v244 : BitVec 32 := Scalar.subi v229 c1_i32_89
  let v245 : BitVec 32 := Scalar.select v243 v244 v229
  let v246 : BitVec 32 := Scalar.subi v245 c0_i32_90
  let c1_i32_91 : BitVec 32 := 1#32
  let v248 : BitVec 32 := Scalar.divsi v246 c1_i32_91
  let v249 : BitVec 32 := Scalar.muli v248 c1_i32_91
  let v250 : BitVec 32 := Scalar.addi c0_i32_90 v249
  let c1_i32_93 : BitVec 32 := 1#32
  let arg24 : BitVec 32 := Scf.iv v250 c1_i32_93 k0_t13
  let c6_i32_122 : BitVec 32 := 6#32
  let v315 : BitVec 32 := Scalar.muli arg24 c6_i32_122
  let v316 : BitVec 32 := Scalar.addi v223 v315
  let c5_i32_245 : BitVec 32 := 5#32
  let v997 : BitVec 32 := Scalar.addi v316 c5_i32_245
  let v998 : BitVec 1 := Scalar.cmpi .eq v997 v979_10
  let v999 : BitVec 32 := Scalar.extui v998
  let c0_i32_246 : BitVec 32 := 0#32
  let v1000 : BitVec 1 := Scalar.cmpi .ne v999 c0_i32_246
  v1000

def k0_chk41 (v56_3 : BitVec 32) (v56_1 : BitVec 32) (v56_0 : BitVec 32) (k0_t11 : Fin (k0_t11_loop v56_3 v56_1).trips) (k0_t13 : Fin (k0_t13_loop v56_3 v56_1 k0_t11).trips) (v979_10 : BitVec 32) (v979_9 : BitVec 32) : Prop :=
  (∀ (k0_h45 : k0_cond45 v56_3 v56_1 k0_t11 k0_t13 v979_10 = 1#1), ∀ (r : Fin 8), ∀ a, (k0_off54 v56_0 v979_9 (BitVec.ofNat 32 (16 * r.val))) a + S16.size a ≤ S19456.size a)
theorem k0_off54_inb : ∀ (v56_3 : BitVec 32) (v56_1 : BitVec 32) (v56_0 : BitVec 32) (k0_t11 : Fin (k0_t11_loop v56_3 v56_1).trips) (k0_t13 : Fin (k0_t13_loop v56_3 v56_1 k0_t11).trips) (v979_10 : BitVec 32) (v979_9 : BitVec 32) (k0_hw41 : k0_chk41 v56_3 v56_1 v56_0 k0_t11 k0_t13 v979_10 v979_9), ∀ (k0_h45 : k0_cond45 v56_3 v56_1 k0_t11 k0_t13 v979_10 = 1#1), ∀ (r : Fin 8), ∀ a, (k0_off54 v56_0 v979_9 (BitVec.ofNat 32 (16 * r.val))) a + S16.size a ≤ S19456.size a := fun v56_3 v56_1 v56_0 k0_t11 k0_t13 v979_10 v979_9 k0_hw41 k0_h45 r => k0_hw41 k0_h45 r

@[reducible] def k0_t14_loop (v56_3 : BitVec 32) (v56_1 : BitVec 32) (k0_t11 : Fin (k0_t11_loop v56_3 v56_1).trips) : Scf.Loop 32 :=
  let c2_i32_76 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v217 : BitVec 32 := Scalar.muli c2_i32_76 arg12
  let c272_i32_81 : BitVec 32 := 272#32
  let v222 : BitVec 32 := Scalar.muli v217 c272_i32_81
  let v223 : BitVec 32 := Scalar.addi v56_1 v222
  let c272_i32_82 : BitVec 32 := 272#32
  let v225 : BitVec 32 := Scalar.addi v223 c272_i32_82
  let v226 : BitVec 32 := Scalar.minsi v225 v56_3
  let v227 : BitVec 32 := Scalar.subi v226 v223
  let c0_i32_83 : BitVec 32 := 0#32
  let v228 : BitVec 32 := Scalar.maxsi v227 c0_i32_83
  let c0_i32_84 : BitVec 32 := 0#32
  let v230 : BitVec 1 := Scalar.cmpi .sgt v228 c0_i32_84
  let v231 : BitVec 32 := Scalar.extui v230
  let c0_i32_85 : BitVec 32 := 0#32
  let v232 : BitVec 1 := Scalar.cmpi .slt v228 c0_i32_85
  let v233 : BitVec 32 := Scalar.extui v232
  let v234 : BitVec 32 := Scalar.subi v231 v233
  let c6_i32 : BitVec 32 := 6#32
  let c0_i32_86 : BitVec 32 := 0#32
  let v235 : BitVec 1 := Scalar.cmpi .sgt c6_i32 c0_i32_86
  let v236 : BitVec 32 := Scalar.extui v235
  let c0_i32_87 : BitVec 32 := 0#32
  let v237 : BitVec 1 := Scalar.cmpi .slt c6_i32 c0_i32_87
  let v238 : BitVec 32 := Scalar.extui v237
  let v239 : BitVec 32 := Scalar.subi v236 v238
  let v240 : BitVec 1 := Scalar.cmpi .ne v234 v239
  let v241 : BitVec 32 := Scalar.remsi v228 c6_i32
  let c0_i32_88 : BitVec 32 := 0#32
  let v242 : BitVec 1 := Scalar.cmpi .ne v241 c0_i32_88
  let v243 : BitVec 1 := Scalar.andi v240 v242
  let v229 : BitVec 32 := Scalar.divsi v228 c6_i32
  let c1_i32_89 : BitVec 32 := 1#32
  let v244 : BitVec 32 := Scalar.subi v229 c1_i32_89
  let v245 : BitVec 32 := Scalar.select v243 v244 v229
  let c6_i32_94 : BitVec 32 := 6#32
  let v253 : BitVec 32 := Scalar.muli v245 c6_i32_94
  let v254 : BitVec 32 := Scalar.addi v223 v253
  let v255 : BitVec 32 := Scalar.addi v223 v228
  let v256 : BitVec 32 := Scalar.subi v255 v254
  let c1_i32_95 : BitVec 32 := 1#32
  let v258 : BitVec 32 := Scalar.divsi v256 c1_i32_95
  let v259 : BitVec 32 := Scalar.muli v258 c1_i32_95
  let v260 : BitVec 32 := Scalar.addi v254 v259
  let c1_i32_96 : BitVec 32 := 1#32
  ⟨v254, v260, c1_i32_96⟩
def k0_off55 (v56_0 : BitVec 32) (arg34 : BitVec 32) (c0_i32_145 : BitVec 32) : Fin 1 → Nat :=
  let v436 : BitVec 32 := Scalar.subi arg34 v56_0
  let c128_i32_144 : BitVec 32 := 128#32
  let v438 : BitVec 32 := Scalar.muli v436 c128_i32_144
  let v439 : BitVec 32 := Scalar.addi v438 c0_i32_145
  let v440 : Index := Scalar.indexCast v439
  ![v440.toNat]
def k0_cond46 (v56_3 : BitVec 32) (v56_1 : BitVec 32) (k0_t11 : Fin (k0_t11_loop v56_3 v56_1).trips) (k0_t14 : Fin (k0_t14_loop v56_3 v56_1 k0_t11).trips) (arg35 : BitVec 32) : BitVec 1 :=
  let c2_i32_76 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v217 : BitVec 32 := Scalar.muli c2_i32_76 arg12
  let c272_i32_81 : BitVec 32 := 272#32
  let v222 : BitVec 32 := Scalar.muli v217 c272_i32_81
  let v223 : BitVec 32 := Scalar.addi v56_1 v222
  let c272_i32_82 : BitVec 32 := 272#32
  let v225 : BitVec 32 := Scalar.addi v223 c272_i32_82
  let v226 : BitVec 32 := Scalar.minsi v225 v56_3
  let v227 : BitVec 32 := Scalar.subi v226 v223
  let c0_i32_83 : BitVec 32 := 0#32
  let v228 : BitVec 32 := Scalar.maxsi v227 c0_i32_83
  let c0_i32_84 : BitVec 32 := 0#32
  let v230 : BitVec 1 := Scalar.cmpi .sgt v228 c0_i32_84
  let v231 : BitVec 32 := Scalar.extui v230
  let c0_i32_85 : BitVec 32 := 0#32
  let v232 : BitVec 1 := Scalar.cmpi .slt v228 c0_i32_85
  let v233 : BitVec 32 := Scalar.extui v232
  let v234 : BitVec 32 := Scalar.subi v231 v233
  let c6_i32 : BitVec 32 := 6#32
  let c0_i32_86 : BitVec 32 := 0#32
  let v235 : BitVec 1 := Scalar.cmpi .sgt c6_i32 c0_i32_86
  let v236 : BitVec 32 := Scalar.extui v235
  let c0_i32_87 : BitVec 32 := 0#32
  let v237 : BitVec 1 := Scalar.cmpi .slt c6_i32 c0_i32_87
  let v238 : BitVec 32 := Scalar.extui v237
  let v239 : BitVec 32 := Scalar.subi v236 v238
  let v240 : BitVec 1 := Scalar.cmpi .ne v234 v239
  let v241 : BitVec 32 := Scalar.remsi v228 c6_i32
  let c0_i32_88 : BitVec 32 := 0#32
  let v242 : BitVec 1 := Scalar.cmpi .ne v241 c0_i32_88
  let v243 : BitVec 1 := Scalar.andi v240 v242
  let v229 : BitVec 32 := Scalar.divsi v228 c6_i32
  let c1_i32_89 : BitVec 32 := 1#32
  let v244 : BitVec 32 := Scalar.subi v229 c1_i32_89
  let v245 : BitVec 32 := Scalar.select v243 v244 v229
  let c6_i32_94 : BitVec 32 := 6#32
  let v253 : BitVec 32 := Scalar.muli v245 c6_i32_94
  let v254 : BitVec 32 := Scalar.addi v223 v253
  let c1_i32_96 : BitVec 32 := 1#32
  let arg24 : BitVec 32 := Scf.iv v254 c1_i32_96 k0_t14
  let v315 : BitVec 1 := Scalar.cmpi .eq arg24 arg35
  let v316 : BitVec 32 := Scalar.extui v315
  let c0_i32_122 : BitVec 32 := 0#32
  let v317 : BitVec 1 := Scalar.cmpi .ne v316 c0_i32_122
  v317

def k0_chk42 (v56_3 : BitVec 32) (v56_1 : BitVec 32) (v56_0 : BitVec 32) (k0_t11 : Fin (k0_t11_loop v56_3 v56_1).trips) (k0_t14 : Fin (k0_t14_loop v56_3 v56_1 k0_t11).trips) (arg34 : BitVec 32) (arg35 : BitVec 32) : Prop :=
  (∀ (k0_h46 : k0_cond46 v56_3 v56_1 k0_t11 k0_t14 arg35 = 1#1), ∀ (r : Fin 8), ∀ a, (k0_off55 v56_0 arg34 (BitVec.ofNat 32 (16 * r.val))) a + S16.size a ≤ S19456.size a)
theorem k0_off55_inb : ∀ (v56_3 : BitVec 32) (v56_1 : BitVec 32) (v56_0 : BitVec 32) (k0_t11 : Fin (k0_t11_loop v56_3 v56_1).trips) (k0_t14 : Fin (k0_t14_loop v56_3 v56_1 k0_t11).trips) (arg34 : BitVec 32) (arg35 : BitVec 32) (k0_hw42 : k0_chk42 v56_3 v56_1 v56_0 k0_t11 k0_t14 arg34 arg35), ∀ (k0_h46 : k0_cond46 v56_3 v56_1 k0_t11 k0_t14 arg35 = 1#1), ∀ (r : Fin 8), ∀ a, (k0_off55 v56_0 arg34 (BitVec.ofNat 32 (16 * r.val))) a + S16.size a ≤ S19456.size a := fun v56_3 v56_1 v56_0 k0_t11 k0_t14 arg34 arg35 k0_hw42 k0_h46 r => k0_hw42 k0_h46 r

def k0_off56 (v56_3 : BitVec 32) (v56_1 : BitVec 32) (k0_t11 : Fin (k0_t11_loop v56_3 v56_1).trips) (k0_t14 : Fin (k0_t14_loop v56_3 v56_1 k0_t11).trips) (c0_i32_124 : BitVec 32) : Fin 1 → Nat :=
  let c2_i32_76 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v217 : BitVec 32 := Scalar.muli c2_i32_76 arg12
  let c272_i32_81 : BitVec 32 := 272#32
  let v222 : BitVec 32 := Scalar.muli v217 c272_i32_81
  let v223 : BitVec 32 := Scalar.addi v56_1 v222
  let c272_i32_82 : BitVec 32 := 272#32
  let v225 : BitVec 32 := Scalar.addi v223 c272_i32_82
  let v226 : BitVec 32 := Scalar.minsi v225 v56_3
  let v227 : BitVec 32 := Scalar.subi v226 v223
  let c0_i32_83 : BitVec 32 := 0#32
  let v228 : BitVec 32 := Scalar.maxsi v227 c0_i32_83
  let c0_i32_84 : BitVec 32 := 0#32
  let v230 : BitVec 1 := Scalar.cmpi .sgt v228 c0_i32_84
  let v231 : BitVec 32 := Scalar.extui v230
  let c0_i32_85 : BitVec 32 := 0#32
  let v232 : BitVec 1 := Scalar.cmpi .slt v228 c0_i32_85
  let v233 : BitVec 32 := Scalar.extui v232
  let v234 : BitVec 32 := Scalar.subi v231 v233
  let c6_i32 : BitVec 32 := 6#32
  let c0_i32_86 : BitVec 32 := 0#32
  let v235 : BitVec 1 := Scalar.cmpi .sgt c6_i32 c0_i32_86
  let v236 : BitVec 32 := Scalar.extui v235
  let c0_i32_87 : BitVec 32 := 0#32
  let v237 : BitVec 1 := Scalar.cmpi .slt c6_i32 c0_i32_87
  let v238 : BitVec 32 := Scalar.extui v237
  let v239 : BitVec 32 := Scalar.subi v236 v238
  let v240 : BitVec 1 := Scalar.cmpi .ne v234 v239
  let v241 : BitVec 32 := Scalar.remsi v228 c6_i32
  let c0_i32_88 : BitVec 32 := 0#32
  let v242 : BitVec 1 := Scalar.cmpi .ne v241 c0_i32_88
  let v243 : BitVec 1 := Scalar.andi v240 v242
  let v229 : BitVec 32 := Scalar.divsi v228 c6_i32
  let c1_i32_89 : BitVec 32 := 1#32
  let v244 : BitVec 32 := Scalar.subi v229 c1_i32_89
  let v245 : BitVec 32 := Scalar.select v243 v244 v229
  let c6_i32_94 : BitVec 32 := 6#32
  let v253 : BitVec 32 := Scalar.muli v245 c6_i32_94
  let v254 : BitVec 32 := Scalar.addi v223 v253
  let c1_i32_96 : BitVec 32 := 1#32
  let arg24 : BitVec 32 := Scf.iv v254 c1_i32_96 k0_t14
  let c319328_i32 : BitVec 32 := 319328#32
  let v224 : BitVec 32 := Scalar.minsi v223 c319328_i32
  let v319 : BitVec 32 := Scalar.subi arg24 v224
  let c128_i32_123 : BitVec 32 := 128#32
  let v320 : BitVec 32 := Scalar.muli v319 c128_i32_123
  let v321 : BitVec 32 := Scalar.addi v320 c0_i32_124
  let v322 : Index := Scalar.indexCast v321
  ![v322.toNat]
@[reducible] def k0_t15_loop (v56_3 : BitVec 32) (v56_1 : BitVec 32) (k0_t11 : Fin (k0_t11_loop v56_3 v56_1).trips) : Scf.Loop 32 :=
  let c2_i32_76 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v217 : BitVec 32 := Scalar.muli c2_i32_76 arg12
  let c272_i32_81 : BitVec 32 := 272#32
  let v222 : BitVec 32 := Scalar.muli v217 c272_i32_81
  let v223 : BitVec 32 := Scalar.addi v56_1 v222
  let c272_i32_82 : BitVec 32 := 272#32
  let v225 : BitVec 32 := Scalar.addi v223 c272_i32_82
  let v226 : BitVec 32 := Scalar.minsi v225 v56_3
  let v227 : BitVec 32 := Scalar.subi v226 v223
  let c0_i32_83 : BitVec 32 := 0#32
  let v228 : BitVec 32 := Scalar.maxsi v227 c0_i32_83
  let c0_i32_84 : BitVec 32 := 0#32
  let v230 : BitVec 1 := Scalar.cmpi .sgt v228 c0_i32_84
  let v231 : BitVec 32 := Scalar.extui v230
  let c0_i32_85 : BitVec 32 := 0#32
  let v232 : BitVec 1 := Scalar.cmpi .slt v228 c0_i32_85
  let v233 : BitVec 32 := Scalar.extui v232
  let v234 : BitVec 32 := Scalar.subi v231 v233
  let c6_i32 : BitVec 32 := 6#32
  let c0_i32_86 : BitVec 32 := 0#32
  let v235 : BitVec 1 := Scalar.cmpi .sgt c6_i32 c0_i32_86
  let v236 : BitVec 32 := Scalar.extui v235
  let c0_i32_87 : BitVec 32 := 0#32
  let v237 : BitVec 1 := Scalar.cmpi .slt c6_i32 c0_i32_87
  let v238 : BitVec 32 := Scalar.extui v237
  let v239 : BitVec 32 := Scalar.subi v236 v238
  let v240 : BitVec 1 := Scalar.cmpi .ne v234 v239
  let v241 : BitVec 32 := Scalar.remsi v228 c6_i32
  let c0_i32_88 : BitVec 32 := 0#32
  let v242 : BitVec 1 := Scalar.cmpi .ne v241 c0_i32_88
  let v243 : BitVec 1 := Scalar.andi v240 v242
  let v229 : BitVec 32 := Scalar.divsi v228 c6_i32
  let c1_i32_89 : BitVec 32 := 1#32
  let v244 : BitVec 32 := Scalar.subi v229 c1_i32_89
  let v245 : BitVec 32 := Scalar.select v243 v244 v229
  let c6_i32_94 : BitVec 32 := 6#32
  let v253 : BitVec 32 := Scalar.muli v245 c6_i32_94
  let v254 : BitVec 32 := Scalar.addi v223 v253
  let v255 : BitVec 32 := Scalar.addi v223 v228
  let v256 : BitVec 32 := Scalar.subi v255 v254
  let c1_i32_95 : BitVec 32 := 1#32
  let v258 : BitVec 32 := Scalar.divsi v256 c1_i32_95
  let v259 : BitVec 32 := Scalar.muli v258 c1_i32_95
  let v260 : BitVec 32 := Scalar.addi v254 v259
  let v257 : BitVec 32 := Scalar.addi v254 v256
  let c1_i32_97 : BitVec 32 := 1#32
  ⟨v260, v257, c1_i32_97⟩
def k0_off57 (v56_0 : BitVec 32) (arg34 : BitVec 32) (c0_i32_145 : BitVec 32) : Fin 1 → Nat :=
  let v436 : BitVec 32 := Scalar.subi arg34 v56_0
  let c128_i32_144 : BitVec 32 := 128#32
  let v438 : BitVec 32 := Scalar.muli v436 c128_i32_144
  let v439 : BitVec 32 := Scalar.addi v438 c0_i32_145
  let v440 : Index := Scalar.indexCast v439
  ![v440.toNat]
def k0_cond47 (v56_3 : BitVec 32) (v56_1 : BitVec 32) (k0_t11 : Fin (k0_t11_loop v56_3 v56_1).trips) (k0_t15 : Fin (k0_t15_loop v56_3 v56_1 k0_t11).trips) (arg35 : BitVec 32) : BitVec 1 :=
  let c2_i32_76 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v217 : BitVec 32 := Scalar.muli c2_i32_76 arg12
  let c272_i32_81 : BitVec 32 := 272#32
  let v222 : BitVec 32 := Scalar.muli v217 c272_i32_81
  let v223 : BitVec 32 := Scalar.addi v56_1 v222
  let c272_i32_82 : BitVec 32 := 272#32
  let v225 : BitVec 32 := Scalar.addi v223 c272_i32_82
  let v226 : BitVec 32 := Scalar.minsi v225 v56_3
  let v227 : BitVec 32 := Scalar.subi v226 v223
  let c0_i32_83 : BitVec 32 := 0#32
  let v228 : BitVec 32 := Scalar.maxsi v227 c0_i32_83
  let c0_i32_84 : BitVec 32 := 0#32
  let v230 : BitVec 1 := Scalar.cmpi .sgt v228 c0_i32_84
  let v231 : BitVec 32 := Scalar.extui v230
  let c0_i32_85 : BitVec 32 := 0#32
  let v232 : BitVec 1 := Scalar.cmpi .slt v228 c0_i32_85
  let v233 : BitVec 32 := Scalar.extui v232
  let v234 : BitVec 32 := Scalar.subi v231 v233
  let c6_i32 : BitVec 32 := 6#32
  let c0_i32_86 : BitVec 32 := 0#32
  let v235 : BitVec 1 := Scalar.cmpi .sgt c6_i32 c0_i32_86
  let v236 : BitVec 32 := Scalar.extui v235
  let c0_i32_87 : BitVec 32 := 0#32
  let v237 : BitVec 1 := Scalar.cmpi .slt c6_i32 c0_i32_87
  let v238 : BitVec 32 := Scalar.extui v237
  let v239 : BitVec 32 := Scalar.subi v236 v238
  let v240 : BitVec 1 := Scalar.cmpi .ne v234 v239
  let v241 : BitVec 32 := Scalar.remsi v228 c6_i32
  let c0_i32_88 : BitVec 32 := 0#32
  let v242 : BitVec 1 := Scalar.cmpi .ne v241 c0_i32_88
  let v243 : BitVec 1 := Scalar.andi v240 v242
  let v229 : BitVec 32 := Scalar.divsi v228 c6_i32
  let c1_i32_89 : BitVec 32 := 1#32
  let v244 : BitVec 32 := Scalar.subi v229 c1_i32_89
  let v245 : BitVec 32 := Scalar.select v243 v244 v229
  let c6_i32_94 : BitVec 32 := 6#32
  let v253 : BitVec 32 := Scalar.muli v245 c6_i32_94
  let v254 : BitVec 32 := Scalar.addi v223 v253
  let v255 : BitVec 32 := Scalar.addi v223 v228
  let v256 : BitVec 32 := Scalar.subi v255 v254
  let c1_i32_95 : BitVec 32 := 1#32
  let v258 : BitVec 32 := Scalar.divsi v256 c1_i32_95
  let v259 : BitVec 32 := Scalar.muli v258 c1_i32_95
  let v260 : BitVec 32 := Scalar.addi v254 v259
  let c1_i32_97 : BitVec 32 := 1#32
  let arg24 : BitVec 32 := Scf.iv v260 c1_i32_97 k0_t15
  let v315 : BitVec 1 := Scalar.cmpi .eq arg24 arg35
  let v316 : BitVec 32 := Scalar.extui v315
  let c0_i32_122 : BitVec 32 := 0#32
  let v317 : BitVec 1 := Scalar.cmpi .ne v316 c0_i32_122
  v317

def k0_chk43 (v56_3 : BitVec 32) (v56_1 : BitVec 32) (v56_0 : BitVec 32) (k0_t11 : Fin (k0_t11_loop v56_3 v56_1).trips) (k0_t15 : Fin (k0_t15_loop v56_3 v56_1 k0_t11).trips) (arg34 : BitVec 32) (arg35 : BitVec 32) : Prop :=
  (∀ (k0_h47 : k0_cond47 v56_3 v56_1 k0_t11 k0_t15 arg35 = 1#1), ∀ (r : Fin 8), ∀ a, (k0_off57 v56_0 arg34 (BitVec.ofNat 32 (16 * r.val))) a + S16.size a ≤ S19456.size a)
theorem k0_off57_inb : ∀ (v56_3 : BitVec 32) (v56_1 : BitVec 32) (v56_0 : BitVec 32) (k0_t11 : Fin (k0_t11_loop v56_3 v56_1).trips) (k0_t15 : Fin (k0_t15_loop v56_3 v56_1 k0_t11).trips) (arg34 : BitVec 32) (arg35 : BitVec 32) (k0_hw43 : k0_chk43 v56_3 v56_1 v56_0 k0_t11 k0_t15 arg34 arg35), ∀ (k0_h47 : k0_cond47 v56_3 v56_1 k0_t11 k0_t15 arg35 = 1#1), ∀ (r : Fin 8), ∀ a, (k0_off57 v56_0 arg34 (BitVec.ofNat 32 (16 * r.val))) a + S16.size a ≤ S19456.size a := fun v56_3 v56_1 v56_0 k0_t11 k0_t15 arg34 arg35 k0_hw43 k0_h47 r => k0_hw43 k0_h47 r

def k0_off58 (v56_3 : BitVec 32) (v56_1 : BitVec 32) (k0_t11 : Fin (k0_t11_loop v56_3 v56_1).trips) (k0_t15 : Fin (k0_t15_loop v56_3 v56_1 k0_t11).trips) (c0_i32_124 : BitVec 32) : Fin 1 → Nat :=
  let c2_i32_76 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v217 : BitVec 32 := Scalar.muli c2_i32_76 arg12
  let c272_i32_81 : BitVec 32 := 272#32
  let v222 : BitVec 32 := Scalar.muli v217 c272_i32_81
  let v223 : BitVec 32 := Scalar.addi v56_1 v222
  let c272_i32_82 : BitVec 32 := 272#32
  let v225 : BitVec 32 := Scalar.addi v223 c272_i32_82
  let v226 : BitVec 32 := Scalar.minsi v225 v56_3
  let v227 : BitVec 32 := Scalar.subi v226 v223
  let c0_i32_83 : BitVec 32 := 0#32
  let v228 : BitVec 32 := Scalar.maxsi v227 c0_i32_83
  let c0_i32_84 : BitVec 32 := 0#32
  let v230 : BitVec 1 := Scalar.cmpi .sgt v228 c0_i32_84
  let v231 : BitVec 32 := Scalar.extui v230
  let c0_i32_85 : BitVec 32 := 0#32
  let v232 : BitVec 1 := Scalar.cmpi .slt v228 c0_i32_85
  let v233 : BitVec 32 := Scalar.extui v232
  let v234 : BitVec 32 := Scalar.subi v231 v233
  let c6_i32 : BitVec 32 := 6#32
  let c0_i32_86 : BitVec 32 := 0#32
  let v235 : BitVec 1 := Scalar.cmpi .sgt c6_i32 c0_i32_86
  let v236 : BitVec 32 := Scalar.extui v235
  let c0_i32_87 : BitVec 32 := 0#32
  let v237 : BitVec 1 := Scalar.cmpi .slt c6_i32 c0_i32_87
  let v238 : BitVec 32 := Scalar.extui v237
  let v239 : BitVec 32 := Scalar.subi v236 v238
  let v240 : BitVec 1 := Scalar.cmpi .ne v234 v239
  let v241 : BitVec 32 := Scalar.remsi v228 c6_i32
  let c0_i32_88 : BitVec 32 := 0#32
  let v242 : BitVec 1 := Scalar.cmpi .ne v241 c0_i32_88
  let v243 : BitVec 1 := Scalar.andi v240 v242
  let v229 : BitVec 32 := Scalar.divsi v228 c6_i32
  let c1_i32_89 : BitVec 32 := 1#32
  let v244 : BitVec 32 := Scalar.subi v229 c1_i32_89
  let v245 : BitVec 32 := Scalar.select v243 v244 v229
  let c6_i32_94 : BitVec 32 := 6#32
  let v253 : BitVec 32 := Scalar.muli v245 c6_i32_94
  let v254 : BitVec 32 := Scalar.addi v223 v253
  let v255 : BitVec 32 := Scalar.addi v223 v228
  let v256 : BitVec 32 := Scalar.subi v255 v254
  let c1_i32_95 : BitVec 32 := 1#32
  let v258 : BitVec 32 := Scalar.divsi v256 c1_i32_95
  let v259 : BitVec 32 := Scalar.muli v258 c1_i32_95
  let v260 : BitVec 32 := Scalar.addi v254 v259
  let c1_i32_97 : BitVec 32 := 1#32
  let arg24 : BitVec 32 := Scf.iv v260 c1_i32_97 k0_t15
  let c319328_i32 : BitVec 32 := 319328#32
  let v224 : BitVec 32 := Scalar.minsi v223 c319328_i32
  let v319 : BitVec 32 := Scalar.subi arg24 v224
  let c128_i32_123 : BitVec 32 := 128#32
  let v320 : BitVec 32 := Scalar.muli v319 c128_i32_123
  let v321 : BitVec 32 := Scalar.addi v320 c0_i32_124
  let v322 : Index := Scalar.indexCast v321
  ![v322.toNat]
def k0_off59 (v56_3 : BitVec 32) (v56_1 : BitVec 32) (k0_t11 : Fin (k0_t11_loop v56_3 v56_1).trips) : Fin 1 → Nat :=
  let c2_i32_76 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v217 : BitVec 32 := Scalar.muli c2_i32_76 arg12
  let c2_i32_98 : BitVec 32 := 2#32
  let v263 : BitVec 32 := Scalar.addi v217 c2_i32_98
  let c272_i32_122 : BitVec 32 := 272#32
  let v315 : BitVec 32 := Scalar.muli v263 c272_i32_122
  let v316 : BitVec 32 := Scalar.addi v56_1 v315
  let c319328_i32_123 : BitVec 32 := 319328#32
  let v317 : BitVec 32 := Scalar.minsi v316 c319328_i32_123
  let c128_i32_124 : BitVec 32 := 128#32
  let v318 : BitVec 32 := Scalar.muli v317 c128_i32_124
  ![v318.toNat]
def k0_cond48 (v56_3 : BitVec 32) (v56_1 : BitVec 32) (k0_t11 : Fin (k0_t11_loop v56_3 v56_1).trips) : BitVec 1 :=
  let c2_i32_76 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v217 : BitVec 32 := Scalar.muli c2_i32_76 arg12
  let c2_i32_98 : BitVec 32 := 2#32
  let v263 : BitVec 32 := Scalar.addi v217 c2_i32_98
  let v264 : BitVec 1 := Scalar.cmpi .slt v263 v76
  let v265 : BitVec 32 := Scalar.extui v264
  let c0_i32_99 : BitVec 32 := 0#32
  let v266 : BitVec 1 := Scalar.cmpi .ne v265 c0_i32_99
  v266

@[reducible] def k0_t16_loop (v56_3 : BitVec 32) (v56_1 : BitVec 32) (k0_t11 : Fin (k0_t11_loop v56_3 v56_1).trips) : Scf.Loop 32 :=
  let c0_i32_112 : BitVec 32 := 0#32
  let c2_i32_77 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c272_i32_103 : BitVec 32 := 272#32
  let v273 : BitVec 32 := Scalar.addi v271 c272_i32_103
  let v274 : BitVec 32 := Scalar.minsi v273 v56_3
  let v275 : BitVec 32 := Scalar.subi v274 v271
  let c0_i32_104 : BitVec 32 := 0#32
  let v276 : BitVec 32 := Scalar.maxsi v275 c0_i32_104
  let c0_i32_106 : BitVec 32 := 0#32
  let v278 : BitVec 1 := Scalar.cmpi .sgt v276 c0_i32_106
  let v279 : BitVec 32 := Scalar.extui v278
  let c0_i32_107 : BitVec 32 := 0#32
  let v280 : BitVec 1 := Scalar.cmpi .slt v276 c0_i32_107
  let v281 : BitVec 32 := Scalar.extui v280
  let v282 : BitVec 32 := Scalar.subi v279 v281
  let c6_i32_105 : BitVec 32 := 6#32
  let c0_i32_108 : BitVec 32 := 0#32
  let v283 : BitVec 1 := Scalar.cmpi .sgt c6_i32_105 c0_i32_108
  let v284 : BitVec 32 := Scalar.extui v283
  let c0_i32_109 : BitVec 32 := 0#32
  let v285 : BitVec 1 := Scalar.cmpi .slt c6_i32_105 c0_i32_109
  let v286 : BitVec 32 := Scalar.extui v285
  let v287 : BitVec 32 := Scalar.subi v284 v286
  let v288 : BitVec 1 := Scalar.cmpi .ne v282 v287
  let v289 : BitVec 32 := Scalar.remsi v276 c6_i32_105
  let c0_i32_110 : BitVec 32 := 0#32
  let v290 : BitVec 1 := Scalar.cmpi .ne v289 c0_i32_110
  let v291 : BitVec 1 := Scalar.andi v288 v290
  let v277 : BitVec 32 := Scalar.divsi v276 c6_i32_105
  let c1_i32_111 : BitVec 32 := 1#32
  let v292 : BitVec 32 := Scalar.subi v277 c1_i32_111
  let v293 : BitVec 32 := Scalar.select v291 v292 v277
  let v294 : BitVec 32 := Scalar.subi v293 c0_i32_112
  let c1_i32_113 : BitVec 32 := 1#32
  let v296 : BitVec 32 := Scalar.divsi v294 c1_i32_113
  let v297 : BitVec 32 := Scalar.muli v296 c1_i32_113
  let v298 : BitVec 32 := Scalar.addi c0_i32_112 v297
  let c1_i32_114 : BitVec 32 := 1#32
  ⟨c0_i32_112, v298, c1_i32_114⟩
def k0_off60 (v56_3 : BitVec 32) (v56_1 : BitVec 32) (k0_t11 : Fin (k0_t11_loop v56_3 v56_1).trips) (k0_t16 : Fin (k0_t16_loop v56_3 v56_1 k0_t11).trips) (c0_i32_123 : BitVec 32) (c0_i32_125 : BitVec 32) : Fin 1 → Nat :=
  let c2_i32_77 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c0_i32_112 : BitVec 32 := 0#32
  let c1_i32_114 : BitVec 32 := 1#32
  let arg24 : BitVec 32 := Scf.iv c0_i32_112 c1_i32_114 k0_t16
  let c6_i32_122 : BitVec 32 := 6#32
  let v315 : BitVec 32 := Scalar.muli arg24 c6_i32_122
  let v316 : BitVec 32 := Scalar.addi v271 v315
  let c319328_i32_102 : BitVec 32 := 319328#32
  let v272 : BitVec 32 := Scalar.minsi v271 c319328_i32_102
  let v317 : BitVec 32 := Scalar.subi v316 v272
  let v318 : BitVec 32 := Scalar.addi v317 c0_i32_123
  let c128_i32_124 : BitVec 32 := 128#32
  let v319 : BitVec 32 := Scalar.muli v318 c128_i32_124
  let v320 : BitVec 32 := Scalar.addi v319 c0_i32_125
  let v321 : Index := Scalar.indexCast v320
  ![v321.toNat]
def k0_off61 (v56_0 : BitVec 32) (arg34 : BitVec 32) (c0_i32_251 : BitVec 32) : Fin 1 → Nat :=
  let v1025 : BitVec 32 := Scalar.subi arg34 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond50 (v56_3 : BitVec 32) (v56_1 : BitVec 32) (k0_t11 : Fin (k0_t11_loop v56_3 v56_1).trips) (k0_t16 : Fin (k0_t16_loop v56_3 v56_1 k0_t11).trips) (arg35 : BitVec 32) : BitVec 1 :=
  let c2_i32_77 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c0_i32_112 : BitVec 32 := 0#32
  let c1_i32_114 : BitVec 32 := 1#32
  let arg24 : BitVec 32 := Scf.iv c0_i32_112 c1_i32_114 k0_t16
  let c6_i32_122 : BitVec 32 := 6#32
  let v315 : BitVec 32 := Scalar.muli arg24 c6_i32_122
  let v316 : BitVec 32 := Scalar.addi v271 v315
  let c0_i32_235 : BitVec 32 := 0#32
  let v887 : BitVec 32 := Scalar.addi v316 c0_i32_235
  let v888 : BitVec 1 := Scalar.cmpi .eq v887 arg35
  let v889 : BitVec 32 := Scalar.extui v888
  let c0_i32_236 : BitVec 32 := 0#32
  let v890 : BitVec 1 := Scalar.cmpi .ne v889 c0_i32_236
  v890

def k0_chk44 (v56_3 : BitVec 32) (v56_1 : BitVec 32) (v56_0 : BitVec 32) (k0_t11 : Fin (k0_t11_loop v56_3 v56_1).trips) (k0_t16 : Fin (k0_t16_loop v56_3 v56_1 k0_t11).trips) (arg34 : BitVec 32) (arg35 : BitVec 32) : Prop :=
  (∀ (k0_h50 : k0_cond50 v56_3 v56_1 k0_t11 k0_t16 arg35 = 1#1), ∀ (r : Fin 8), ∀ a, (k0_off61 v56_0 arg34 (BitVec.ofNat 32 (16 * r.val))) a + S16.size a ≤ S19456.size a)
theorem k0_off61_inb : ∀ (v56_3 : BitVec 32) (v56_1 : BitVec 32) (v56_0 : BitVec 32) (k0_t11 : Fin (k0_t11_loop v56_3 v56_1).trips) (k0_t16 : Fin (k0_t16_loop v56_3 v56_1 k0_t11).trips) (arg34 : BitVec 32) (arg35 : BitVec 32) (k0_hw44 : k0_chk44 v56_3 v56_1 v56_0 k0_t11 k0_t16 arg34 arg35), ∀ (k0_h50 : k0_cond50 v56_3 v56_1 k0_t11 k0_t16 arg35 = 1#1), ∀ (r : Fin 8), ∀ a, (k0_off61 v56_0 arg34 (BitVec.ofNat 32 (16 * r.val))) a + S16.size a ≤ S19456.size a := fun v56_3 v56_1 v56_0 k0_t11 k0_t16 arg34 arg35 k0_hw44 k0_h50 r => k0_hw44 k0_h50 r

def k0_off62 (v56_0 : BitVec 32) (v891_9 : BitVec 32) (c0_i32_251 : BitVec 32) : Fin 1 → Nat :=
  let v1025 : BitVec 32 := Scalar.subi v891_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond51 (v56_3 : BitVec 32) (v56_1 : BitVec 32) (k0_t11 : Fin (k0_t11_loop v56_3 v56_1).trips) (k0_t16 : Fin (k0_t16_loop v56_3 v56_1 k0_t11).trips) (v891_10 : BitVec 32) : BitVec 1 :=
  let c2_i32_77 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c0_i32_112 : BitVec 32 := 0#32
  let c1_i32_114 : BitVec 32 := 1#32
  let arg24 : BitVec 32 := Scf.iv c0_i32_112 c1_i32_114 k0_t16
  let c6_i32_122 : BitVec 32 := 6#32
  let v315 : BitVec 32 := Scalar.muli arg24 c6_i32_122
  let v316 : BitVec 32 := Scalar.addi v271 v315
  let c1_i32_237 : BitVec 32 := 1#32
  let v909 : BitVec 32 := Scalar.addi v316 c1_i32_237
  let v910 : BitVec 1 := Scalar.cmpi .eq v909 v891_10
  let v911 : BitVec 32 := Scalar.extui v910
  let c0_i32_238 : BitVec 32 := 0#32
  let v912 : BitVec 1 := Scalar.cmpi .ne v911 c0_i32_238
  v912

def k0_chk45 (v56_3 : BitVec 32) (v56_1 : BitVec 32) (v56_0 : BitVec 32) (k0_t11 : Fin (k0_t11_loop v56_3 v56_1).trips) (k0_t16 : Fin (k0_t16_loop v56_3 v56_1 k0_t11).trips) (v891_10 : BitVec 32) (v891_9 : BitVec 32) : Prop :=
  (∀ (k0_h51 : k0_cond51 v56_3 v56_1 k0_t11 k0_t16 v891_10 = 1#1), ∀ (r : Fin 8), ∀ a, (k0_off62 v56_0 v891_9 (BitVec.ofNat 32 (16 * r.val))) a + S16.size a ≤ S19456.size a)
theorem k0_off62_inb : ∀ (v56_3 : BitVec 32) (v56_1 : BitVec 32) (v56_0 : BitVec 32) (k0_t11 : Fin (k0_t11_loop v56_3 v56_1).trips) (k0_t16 : Fin (k0_t16_loop v56_3 v56_1 k0_t11).trips) (v891_10 : BitVec 32) (v891_9 : BitVec 32) (k0_hw45 : k0_chk45 v56_3 v56_1 v56_0 k0_t11 k0_t16 v891_10 v891_9), ∀ (k0_h51 : k0_cond51 v56_3 v56_1 k0_t11 k0_t16 v891_10 = 1#1), ∀ (r : Fin 8), ∀ a, (k0_off62 v56_0 v891_9 (BitVec.ofNat 32 (16 * r.val))) a + S16.size a ≤ S19456.size a := fun v56_3 v56_1 v56_0 k0_t11 k0_t16 v891_10 v891_9 k0_hw45 k0_h51 r => k0_hw45 k0_h51 r

def k0_off63 (v56_0 : BitVec 32) (v913_9 : BitVec 32) (c0_i32_251 : BitVec 32) : Fin 1 → Nat :=
  let v1025 : BitVec 32 := Scalar.subi v913_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond52 (v56_3 : BitVec 32) (v56_1 : BitVec 32) (k0_t11 : Fin (k0_t11_loop v56_3 v56_1).trips) (k0_t16 : Fin (k0_t16_loop v56_3 v56_1 k0_t11).trips) (v913_10 : BitVec 32) : BitVec 1 :=
  let c2_i32_77 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c0_i32_112 : BitVec 32 := 0#32
  let c1_i32_114 : BitVec 32 := 1#32
  let arg24 : BitVec 32 := Scf.iv c0_i32_112 c1_i32_114 k0_t16
  let c6_i32_122 : BitVec 32 := 6#32
  let v315 : BitVec 32 := Scalar.muli arg24 c6_i32_122
  let v316 : BitVec 32 := Scalar.addi v271 v315
  let c2_i32_239 : BitVec 32 := 2#32
  let v931 : BitVec 32 := Scalar.addi v316 c2_i32_239
  let v932 : BitVec 1 := Scalar.cmpi .eq v931 v913_10
  let v933 : BitVec 32 := Scalar.extui v932
  let c0_i32_240 : BitVec 32 := 0#32
  let v934 : BitVec 1 := Scalar.cmpi .ne v933 c0_i32_240
  v934

def k0_chk46 (v56_3 : BitVec 32) (v56_1 : BitVec 32) (v56_0 : BitVec 32) (k0_t11 : Fin (k0_t11_loop v56_3 v56_1).trips) (k0_t16 : Fin (k0_t16_loop v56_3 v56_1 k0_t11).trips) (v913_10 : BitVec 32) (v913_9 : BitVec 32) : Prop :=
  (∀ (k0_h52 : k0_cond52 v56_3 v56_1 k0_t11 k0_t16 v913_10 = 1#1), ∀ (r : Fin 8), ∀ a, (k0_off63 v56_0 v913_9 (BitVec.ofNat 32 (16 * r.val))) a + S16.size a ≤ S19456.size a)
theorem k0_off63_inb : ∀ (v56_3 : BitVec 32) (v56_1 : BitVec 32) (v56_0 : BitVec 32) (k0_t11 : Fin (k0_t11_loop v56_3 v56_1).trips) (k0_t16 : Fin (k0_t16_loop v56_3 v56_1 k0_t11).trips) (v913_10 : BitVec 32) (v913_9 : BitVec 32) (k0_hw46 : k0_chk46 v56_3 v56_1 v56_0 k0_t11 k0_t16 v913_10 v913_9), ∀ (k0_h52 : k0_cond52 v56_3 v56_1 k0_t11 k0_t16 v913_10 = 1#1), ∀ (r : Fin 8), ∀ a, (k0_off63 v56_0 v913_9 (BitVec.ofNat 32 (16 * r.val))) a + S16.size a ≤ S19456.size a := fun v56_3 v56_1 v56_0 k0_t11 k0_t16 v913_10 v913_9 k0_hw46 k0_h52 r => k0_hw46 k0_h52 r

def k0_off64 (v56_0 : BitVec 32) (v935_9 : BitVec 32) (c0_i32_251 : BitVec 32) : Fin 1 → Nat :=
  let v1025 : BitVec 32 := Scalar.subi v935_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond53 (v56_3 : BitVec 32) (v56_1 : BitVec 32) (k0_t11 : Fin (k0_t11_loop v56_3 v56_1).trips) (k0_t16 : Fin (k0_t16_loop v56_3 v56_1 k0_t11).trips) (v935_10 : BitVec 32) : BitVec 1 :=
  let c2_i32_77 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c0_i32_112 : BitVec 32 := 0#32
  let c1_i32_114 : BitVec 32 := 1#32
  let arg24 : BitVec 32 := Scf.iv c0_i32_112 c1_i32_114 k0_t16
  let c6_i32_122 : BitVec 32 := 6#32
  let v315 : BitVec 32 := Scalar.muli arg24 c6_i32_122
  let v316 : BitVec 32 := Scalar.addi v271 v315
  let c3_i32_241 : BitVec 32 := 3#32
  let v953 : BitVec 32 := Scalar.addi v316 c3_i32_241
  let v954 : BitVec 1 := Scalar.cmpi .eq v953 v935_10
  let v955 : BitVec 32 := Scalar.extui v954
  let c0_i32_242 : BitVec 32 := 0#32
  let v956 : BitVec 1 := Scalar.cmpi .ne v955 c0_i32_242
  v956

def k0_chk47 (v56_3 : BitVec 32) (v56_1 : BitVec 32) (v56_0 : BitVec 32) (k0_t11 : Fin (k0_t11_loop v56_3 v56_1).trips) (k0_t16 : Fin (k0_t16_loop v56_3 v56_1 k0_t11).trips) (v935_10 : BitVec 32) (v935_9 : BitVec 32) : Prop :=
  (∀ (k0_h53 : k0_cond53 v56_3 v56_1 k0_t11 k0_t16 v935_10 = 1#1), ∀ (r : Fin 8), ∀ a, (k0_off64 v56_0 v935_9 (BitVec.ofNat 32 (16 * r.val))) a + S16.size a ≤ S19456.size a)
theorem k0_off64_inb : ∀ (v56_3 : BitVec 32) (v56_1 : BitVec 32) (v56_0 : BitVec 32) (k0_t11 : Fin (k0_t11_loop v56_3 v56_1).trips) (k0_t16 : Fin (k0_t16_loop v56_3 v56_1 k0_t11).trips) (v935_10 : BitVec 32) (v935_9 : BitVec 32) (k0_hw47 : k0_chk47 v56_3 v56_1 v56_0 k0_t11 k0_t16 v935_10 v935_9), ∀ (k0_h53 : k0_cond53 v56_3 v56_1 k0_t11 k0_t16 v935_10 = 1#1), ∀ (r : Fin 8), ∀ a, (k0_off64 v56_0 v935_9 (BitVec.ofNat 32 (16 * r.val))) a + S16.size a ≤ S19456.size a := fun v56_3 v56_1 v56_0 k0_t11 k0_t16 v935_10 v935_9 k0_hw47 k0_h53 r => k0_hw47 k0_h53 r

def k0_off65 (v56_0 : BitVec 32) (v957_9 : BitVec 32) (c0_i32_251 : BitVec 32) : Fin 1 → Nat :=
  let v1025 : BitVec 32 := Scalar.subi v957_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond54 (v56_3 : BitVec 32) (v56_1 : BitVec 32) (k0_t11 : Fin (k0_t11_loop v56_3 v56_1).trips) (k0_t16 : Fin (k0_t16_loop v56_3 v56_1 k0_t11).trips) (v957_10 : BitVec 32) : BitVec 1 :=
  let c2_i32_77 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c0_i32_112 : BitVec 32 := 0#32
  let c1_i32_114 : BitVec 32 := 1#32
  let arg24 : BitVec 32 := Scf.iv c0_i32_112 c1_i32_114 k0_t16
  let c6_i32_122 : BitVec 32 := 6#32
  let v315 : BitVec 32 := Scalar.muli arg24 c6_i32_122
  let v316 : BitVec 32 := Scalar.addi v271 v315
  let c4_i32_243 : BitVec 32 := 4#32
  let v975 : BitVec 32 := Scalar.addi v316 c4_i32_243
  let v976 : BitVec 1 := Scalar.cmpi .eq v975 v957_10
  let v977 : BitVec 32 := Scalar.extui v976
  let c0_i32_244 : BitVec 32 := 0#32
  let v978 : BitVec 1 := Scalar.cmpi .ne v977 c0_i32_244
  v978

def k0_chk48 (v56_3 : BitVec 32) (v56_1 : BitVec 32) (v56_0 : BitVec 32) (k0_t11 : Fin (k0_t11_loop v56_3 v56_1).trips) (k0_t16 : Fin (k0_t16_loop v56_3 v56_1 k0_t11).trips) (v957_10 : BitVec 32) (v957_9 : BitVec 32) : Prop :=
  (∀ (k0_h54 : k0_cond54 v56_3 v56_1 k0_t11 k0_t16 v957_10 = 1#1), ∀ (r : Fin 8), ∀ a, (k0_off65 v56_0 v957_9 (BitVec.ofNat 32 (16 * r.val))) a + S16.size a ≤ S19456.size a)
theorem k0_off65_inb : ∀ (v56_3 : BitVec 32) (v56_1 : BitVec 32) (v56_0 : BitVec 32) (k0_t11 : Fin (k0_t11_loop v56_3 v56_1).trips) (k0_t16 : Fin (k0_t16_loop v56_3 v56_1 k0_t11).trips) (v957_10 : BitVec 32) (v957_9 : BitVec 32) (k0_hw48 : k0_chk48 v56_3 v56_1 v56_0 k0_t11 k0_t16 v957_10 v957_9), ∀ (k0_h54 : k0_cond54 v56_3 v56_1 k0_t11 k0_t16 v957_10 = 1#1), ∀ (r : Fin 8), ∀ a, (k0_off65 v56_0 v957_9 (BitVec.ofNat 32 (16 * r.val))) a + S16.size a ≤ S19456.size a := fun v56_3 v56_1 v56_0 k0_t11 k0_t16 v957_10 v957_9 k0_hw48 k0_h54 r => k0_hw48 k0_h54 r

def k0_off66 (v56_0 : BitVec 32) (v979_9 : BitVec 32) (c0_i32_251 : BitVec 32) : Fin 1 → Nat :=
  let v1025 : BitVec 32 := Scalar.subi v979_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond55 (v56_3 : BitVec 32) (v56_1 : BitVec 32) (k0_t11 : Fin (k0_t11_loop v56_3 v56_1).trips) (k0_t16 : Fin (k0_t16_loop v56_3 v56_1 k0_t11).trips) (v979_10 : BitVec 32) : BitVec 1 :=
  let c2_i32_77 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c0_i32_112 : BitVec 32 := 0#32
  let c1_i32_114 : BitVec 32 := 1#32
  let arg24 : BitVec 32 := Scf.iv c0_i32_112 c1_i32_114 k0_t16
  let c6_i32_122 : BitVec 32 := 6#32
  let v315 : BitVec 32 := Scalar.muli arg24 c6_i32_122
  let v316 : BitVec 32 := Scalar.addi v271 v315
  let c5_i32_245 : BitVec 32 := 5#32
  let v997 : BitVec 32 := Scalar.addi v316 c5_i32_245
  let v998 : BitVec 1 := Scalar.cmpi .eq v997 v979_10
  let v999 : BitVec 32 := Scalar.extui v998
  let c0_i32_246 : BitVec 32 := 0#32
  let v1000 : BitVec 1 := Scalar.cmpi .ne v999 c0_i32_246
  v1000

def k0_chk49 (v56_3 : BitVec 32) (v56_1 : BitVec 32) (v56_0 : BitVec 32) (k0_t11 : Fin (k0_t11_loop v56_3 v56_1).trips) (k0_t16 : Fin (k0_t16_loop v56_3 v56_1 k0_t11).trips) (v979_10 : BitVec 32) (v979_9 : BitVec 32) : Prop :=
  (∀ (k0_h55 : k0_cond55 v56_3 v56_1 k0_t11 k0_t16 v979_10 = 1#1), ∀ (r : Fin 8), ∀ a, (k0_off66 v56_0 v979_9 (BitVec.ofNat 32 (16 * r.val))) a + S16.size a ≤ S19456.size a)
theorem k0_off66_inb : ∀ (v56_3 : BitVec 32) (v56_1 : BitVec 32) (v56_0 : BitVec 32) (k0_t11 : Fin (k0_t11_loop v56_3 v56_1).trips) (k0_t16 : Fin (k0_t16_loop v56_3 v56_1 k0_t11).trips) (v979_10 : BitVec 32) (v979_9 : BitVec 32) (k0_hw49 : k0_chk49 v56_3 v56_1 v56_0 k0_t11 k0_t16 v979_10 v979_9), ∀ (k0_h55 : k0_cond55 v56_3 v56_1 k0_t11 k0_t16 v979_10 = 1#1), ∀ (r : Fin 8), ∀ a, (k0_off66 v56_0 v979_9 (BitVec.ofNat 32 (16 * r.val))) a + S16.size a ≤ S19456.size a := fun v56_3 v56_1 v56_0 k0_t11 k0_t16 v979_10 v979_9 k0_hw49 k0_h55 r => k0_hw49 k0_h55 r

@[reducible] def k0_t17_loop (v56_3 : BitVec 32) (v56_1 : BitVec 32) (k0_t11 : Fin (k0_t11_loop v56_3 v56_1).trips) : Scf.Loop 32 :=
  let c0_i32_112 : BitVec 32 := 0#32
  let c2_i32_77 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c272_i32_103 : BitVec 32 := 272#32
  let v273 : BitVec 32 := Scalar.addi v271 c272_i32_103
  let v274 : BitVec 32 := Scalar.minsi v273 v56_3
  let v275 : BitVec 32 := Scalar.subi v274 v271
  let c0_i32_104 : BitVec 32 := 0#32
  let v276 : BitVec 32 := Scalar.maxsi v275 c0_i32_104
  let c0_i32_106 : BitVec 32 := 0#32
  let v278 : BitVec 1 := Scalar.cmpi .sgt v276 c0_i32_106
  let v279 : BitVec 32 := Scalar.extui v278
  let c0_i32_107 : BitVec 32 := 0#32
  let v280 : BitVec 1 := Scalar.cmpi .slt v276 c0_i32_107
  let v281 : BitVec 32 := Scalar.extui v280
  let v282 : BitVec 32 := Scalar.subi v279 v281
  let c6_i32_105 : BitVec 32 := 6#32
  let c0_i32_108 : BitVec 32 := 0#32
  let v283 : BitVec 1 := Scalar.cmpi .sgt c6_i32_105 c0_i32_108
  let v284 : BitVec 32 := Scalar.extui v283
  let c0_i32_109 : BitVec 32 := 0#32
  let v285 : BitVec 1 := Scalar.cmpi .slt c6_i32_105 c0_i32_109
  let v286 : BitVec 32 := Scalar.extui v285
  let v287 : BitVec 32 := Scalar.subi v284 v286
  let v288 : BitVec 1 := Scalar.cmpi .ne v282 v287
  let v289 : BitVec 32 := Scalar.remsi v276 c6_i32_105
  let c0_i32_110 : BitVec 32 := 0#32
  let v290 : BitVec 1 := Scalar.cmpi .ne v289 c0_i32_110
  let v291 : BitVec 1 := Scalar.andi v288 v290
  let v277 : BitVec 32 := Scalar.divsi v276 c6_i32_105
  let c1_i32_111 : BitVec 32 := 1#32
  let v292 : BitVec 32 := Scalar.subi v277 c1_i32_111
  let v293 : BitVec 32 := Scalar.select v291 v292 v277
  let v294 : BitVec 32 := Scalar.subi v293 c0_i32_112
  let c1_i32_113 : BitVec 32 := 1#32
  let v296 : BitVec 32 := Scalar.divsi v294 c1_i32_113
  let v297 : BitVec 32 := Scalar.muli v296 c1_i32_113
  let v298 : BitVec 32 := Scalar.addi c0_i32_112 v297
  let v295 : BitVec 32 := Scalar.addi c0_i32_112 v294
  let c1_i32_115 : BitVec 32 := 1#32
  ⟨v298, v295, c1_i32_115⟩
def k0_off67 (v56_3 : BitVec 32) (v56_1 : BitVec 32) (k0_t11 : Fin (k0_t11_loop v56_3 v56_1).trips) (k0_t17 : Fin (k0_t17_loop v56_3 v56_1 k0_t11).trips) (c0_i32_123 : BitVec 32) (c0_i32_125 : BitVec 32) : Fin 1 → Nat :=
  let c2_i32_77 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c0_i32_112 : BitVec 32 := 0#32
  let c272_i32_103 : BitVec 32 := 272#32
  let v273 : BitVec 32 := Scalar.addi v271 c272_i32_103
  let v274 : BitVec 32 := Scalar.minsi v273 v56_3
  let v275 : BitVec 32 := Scalar.subi v274 v271
  let c0_i32_104 : BitVec 32 := 0#32
  let v276 : BitVec 32 := Scalar.maxsi v275 c0_i32_104
  let c0_i32_106 : BitVec 32 := 0#32
  let v278 : BitVec 1 := Scalar.cmpi .sgt v276 c0_i32_106
  let v279 : BitVec 32 := Scalar.extui v278
  let c0_i32_107 : BitVec 32 := 0#32
  let v280 : BitVec 1 := Scalar.cmpi .slt v276 c0_i32_107
  let v281 : BitVec 32 := Scalar.extui v280
  let v282 : BitVec 32 := Scalar.subi v279 v281
  let c6_i32_105 : BitVec 32 := 6#32
  let c0_i32_108 : BitVec 32 := 0#32
  let v283 : BitVec 1 := Scalar.cmpi .sgt c6_i32_105 c0_i32_108
  let v284 : BitVec 32 := Scalar.extui v283
  let c0_i32_109 : BitVec 32 := 0#32
  let v285 : BitVec 1 := Scalar.cmpi .slt c6_i32_105 c0_i32_109
  let v286 : BitVec 32 := Scalar.extui v285
  let v287 : BitVec 32 := Scalar.subi v284 v286
  let v288 : BitVec 1 := Scalar.cmpi .ne v282 v287
  let v289 : BitVec 32 := Scalar.remsi v276 c6_i32_105
  let c0_i32_110 : BitVec 32 := 0#32
  let v290 : BitVec 1 := Scalar.cmpi .ne v289 c0_i32_110
  let v291 : BitVec 1 := Scalar.andi v288 v290
  let v277 : BitVec 32 := Scalar.divsi v276 c6_i32_105
  let c1_i32_111 : BitVec 32 := 1#32
  let v292 : BitVec 32 := Scalar.subi v277 c1_i32_111
  let v293 : BitVec 32 := Scalar.select v291 v292 v277
  let v294 : BitVec 32 := Scalar.subi v293 c0_i32_112
  let c1_i32_113 : BitVec 32 := 1#32
  let v296 : BitVec 32 := Scalar.divsi v294 c1_i32_113
  let v297 : BitVec 32 := Scalar.muli v296 c1_i32_113
  let v298 : BitVec 32 := Scalar.addi c0_i32_112 v297
  let c1_i32_115 : BitVec 32 := 1#32
  let arg24 : BitVec 32 := Scf.iv v298 c1_i32_115 k0_t17
  let c6_i32_122 : BitVec 32 := 6#32
  let v315 : BitVec 32 := Scalar.muli arg24 c6_i32_122
  let v316 : BitVec 32 := Scalar.addi v271 v315
  let c319328_i32_102 : BitVec 32 := 319328#32
  let v272 : BitVec 32 := Scalar.minsi v271 c319328_i32_102
  let v317 : BitVec 32 := Scalar.subi v316 v272
  let v318 : BitVec 32 := Scalar.addi v317 c0_i32_123
  let c128_i32_124 : BitVec 32 := 128#32
  let v319 : BitVec 32 := Scalar.muli v318 c128_i32_124
  let v320 : BitVec 32 := Scalar.addi v319 c0_i32_125
  let v321 : Index := Scalar.indexCast v320
  ![v321.toNat]
def k0_off68 (v56_0 : BitVec 32) (arg34 : BitVec 32) (c0_i32_251 : BitVec 32) : Fin 1 → Nat :=
  let v1025 : BitVec 32 := Scalar.subi arg34 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond56 (v56_3 : BitVec 32) (v56_1 : BitVec 32) (k0_t11 : Fin (k0_t11_loop v56_3 v56_1).trips) (k0_t17 : Fin (k0_t17_loop v56_3 v56_1 k0_t11).trips) (arg35 : BitVec 32) : BitVec 1 :=
  let c2_i32_77 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c0_i32_112 : BitVec 32 := 0#32
  let c272_i32_103 : BitVec 32 := 272#32
  let v273 : BitVec 32 := Scalar.addi v271 c272_i32_103
  let v274 : BitVec 32 := Scalar.minsi v273 v56_3
  let v275 : BitVec 32 := Scalar.subi v274 v271
  let c0_i32_104 : BitVec 32 := 0#32
  let v276 : BitVec 32 := Scalar.maxsi v275 c0_i32_104
  let c0_i32_106 : BitVec 32 := 0#32
  let v278 : BitVec 1 := Scalar.cmpi .sgt v276 c0_i32_106
  let v279 : BitVec 32 := Scalar.extui v278
  let c0_i32_107 : BitVec 32 := 0#32
  let v280 : BitVec 1 := Scalar.cmpi .slt v276 c0_i32_107
  let v281 : BitVec 32 := Scalar.extui v280
  let v282 : BitVec 32 := Scalar.subi v279 v281
  let c6_i32_105 : BitVec 32 := 6#32
  let c0_i32_108 : BitVec 32 := 0#32
  let v283 : BitVec 1 := Scalar.cmpi .sgt c6_i32_105 c0_i32_108
  let v284 : BitVec 32 := Scalar.extui v283
  let c0_i32_109 : BitVec 32 := 0#32
  let v285 : BitVec 1 := Scalar.cmpi .slt c6_i32_105 c0_i32_109
  let v286 : BitVec 32 := Scalar.extui v285
  let v287 : BitVec 32 := Scalar.subi v284 v286
  let v288 : BitVec 1 := Scalar.cmpi .ne v282 v287
  let v289 : BitVec 32 := Scalar.remsi v276 c6_i32_105
  let c0_i32_110 : BitVec 32 := 0#32
  let v290 : BitVec 1 := Scalar.cmpi .ne v289 c0_i32_110
  let v291 : BitVec 1 := Scalar.andi v288 v290
  let v277 : BitVec 32 := Scalar.divsi v276 c6_i32_105
  let c1_i32_111 : BitVec 32 := 1#32
  let v292 : BitVec 32 := Scalar.subi v277 c1_i32_111
  let v293 : BitVec 32 := Scalar.select v291 v292 v277
  let v294 : BitVec 32 := Scalar.subi v293 c0_i32_112
  let c1_i32_113 : BitVec 32 := 1#32
  let v296 : BitVec 32 := Scalar.divsi v294 c1_i32_113
  let v297 : BitVec 32 := Scalar.muli v296 c1_i32_113
  let v298 : BitVec 32 := Scalar.addi c0_i32_112 v297
  let c1_i32_115 : BitVec 32 := 1#32
  let arg24 : BitVec 32 := Scf.iv v298 c1_i32_115 k0_t17
  let c6_i32_122 : BitVec 32 := 6#32
  let v315 : BitVec 32 := Scalar.muli arg24 c6_i32_122
  let v316 : BitVec 32 := Scalar.addi v271 v315
  let c0_i32_235 : BitVec 32 := 0#32
  let v887 : BitVec 32 := Scalar.addi v316 c0_i32_235
  let v888 : BitVec 1 := Scalar.cmpi .eq v887 arg35
  let v889 : BitVec 32 := Scalar.extui v888
  let c0_i32_236 : BitVec 32 := 0#32
  let v890 : BitVec 1 := Scalar.cmpi .ne v889 c0_i32_236
  v890

def k0_chk50 (v56_3 : BitVec 32) (v56_1 : BitVec 32) (v56_0 : BitVec 32) (k0_t11 : Fin (k0_t11_loop v56_3 v56_1).trips) (k0_t17 : Fin (k0_t17_loop v56_3 v56_1 k0_t11).trips) (arg34 : BitVec 32) (arg35 : BitVec 32) : Prop :=
  (∀ (k0_h56 : k0_cond56 v56_3 v56_1 k0_t11 k0_t17 arg35 = 1#1), ∀ (r : Fin 8), ∀ a, (k0_off68 v56_0 arg34 (BitVec.ofNat 32 (16 * r.val))) a + S16.size a ≤ S19456.size a)
theorem k0_off68_inb : ∀ (v56_3 : BitVec 32) (v56_1 : BitVec 32) (v56_0 : BitVec 32) (k0_t11 : Fin (k0_t11_loop v56_3 v56_1).trips) (k0_t17 : Fin (k0_t17_loop v56_3 v56_1 k0_t11).trips) (arg34 : BitVec 32) (arg35 : BitVec 32) (k0_hw50 : k0_chk50 v56_3 v56_1 v56_0 k0_t11 k0_t17 arg34 arg35), ∀ (k0_h56 : k0_cond56 v56_3 v56_1 k0_t11 k0_t17 arg35 = 1#1), ∀ (r : Fin 8), ∀ a, (k0_off68 v56_0 arg34 (BitVec.ofNat 32 (16 * r.val))) a + S16.size a ≤ S19456.size a := fun v56_3 v56_1 v56_0 k0_t11 k0_t17 arg34 arg35 k0_hw50 k0_h56 r => k0_hw50 k0_h56 r

def k0_off69 (v56_0 : BitVec 32) (v891_9 : BitVec 32) (c0_i32_251 : BitVec 32) : Fin 1 → Nat :=
  let v1025 : BitVec 32 := Scalar.subi v891_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond57 (v56_3 : BitVec 32) (v56_1 : BitVec 32) (k0_t11 : Fin (k0_t11_loop v56_3 v56_1).trips) (k0_t17 : Fin (k0_t17_loop v56_3 v56_1 k0_t11).trips) (v891_10 : BitVec 32) : BitVec 1 :=
  let c2_i32_77 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c0_i32_112 : BitVec 32 := 0#32
  let c272_i32_103 : BitVec 32 := 272#32
  let v273 : BitVec 32 := Scalar.addi v271 c272_i32_103
  let v274 : BitVec 32 := Scalar.minsi v273 v56_3
  let v275 : BitVec 32 := Scalar.subi v274 v271
  let c0_i32_104 : BitVec 32 := 0#32
  let v276 : BitVec 32 := Scalar.maxsi v275 c0_i32_104
  let c0_i32_106 : BitVec 32 := 0#32
  let v278 : BitVec 1 := Scalar.cmpi .sgt v276 c0_i32_106
  let v279 : BitVec 32 := Scalar.extui v278
  let c0_i32_107 : BitVec 32 := 0#32
  let v280 : BitVec 1 := Scalar.cmpi .slt v276 c0_i32_107
  let v281 : BitVec 32 := Scalar.extui v280
  let v282 : BitVec 32 := Scalar.subi v279 v281
  let c6_i32_105 : BitVec 32 := 6#32
  let c0_i32_108 : BitVec 32 := 0#32
  let v283 : BitVec 1 := Scalar.cmpi .sgt c6_i32_105 c0_i32_108
  let v284 : BitVec 32 := Scalar.extui v283
  let c0_i32_109 : BitVec 32 := 0#32
  let v285 : BitVec 1 := Scalar.cmpi .slt c6_i32_105 c0_i32_109
  let v286 : BitVec 32 := Scalar.extui v285
  let v287 : BitVec 32 := Scalar.subi v284 v286
  let v288 : BitVec 1 := Scalar.cmpi .ne v282 v287
  let v289 : BitVec 32 := Scalar.remsi v276 c6_i32_105
  let c0_i32_110 : BitVec 32 := 0#32
  let v290 : BitVec 1 := Scalar.cmpi .ne v289 c0_i32_110
  let v291 : BitVec 1 := Scalar.andi v288 v290
  let v277 : BitVec 32 := Scalar.divsi v276 c6_i32_105
  let c1_i32_111 : BitVec 32 := 1#32
  let v292 : BitVec 32 := Scalar.subi v277 c1_i32_111
  let v293 : BitVec 32 := Scalar.select v291 v292 v277
  let v294 : BitVec 32 := Scalar.subi v293 c0_i32_112
  let c1_i32_113 : BitVec 32 := 1#32
  let v296 : BitVec 32 := Scalar.divsi v294 c1_i32_113
  let v297 : BitVec 32 := Scalar.muli v296 c1_i32_113
  let v298 : BitVec 32 := Scalar.addi c0_i32_112 v297
  let c1_i32_115 : BitVec 32 := 1#32
  let arg24 : BitVec 32 := Scf.iv v298 c1_i32_115 k0_t17
  let c6_i32_122 : BitVec 32 := 6#32
  let v315 : BitVec 32 := Scalar.muli arg24 c6_i32_122
  let v316 : BitVec 32 := Scalar.addi v271 v315
  let c1_i32_237 : BitVec 32 := 1#32
  let v909 : BitVec 32 := Scalar.addi v316 c1_i32_237
  let v910 : BitVec 1 := Scalar.cmpi .eq v909 v891_10
  let v911 : BitVec 32 := Scalar.extui v910
  let c0_i32_238 : BitVec 32 := 0#32
  let v912 : BitVec 1 := Scalar.cmpi .ne v911 c0_i32_238
  v912

def k0_chk51 (v56_3 : BitVec 32) (v56_1 : BitVec 32) (v56_0 : BitVec 32) (k0_t11 : Fin (k0_t11_loop v56_3 v56_1).trips) (k0_t17 : Fin (k0_t17_loop v56_3 v56_1 k0_t11).trips) (v891_10 : BitVec 32) (v891_9 : BitVec 32) : Prop :=
  (∀ (k0_h57 : k0_cond57 v56_3 v56_1 k0_t11 k0_t17 v891_10 = 1#1), ∀ (r : Fin 8), ∀ a, (k0_off69 v56_0 v891_9 (BitVec.ofNat 32 (16 * r.val))) a + S16.size a ≤ S19456.size a)
theorem k0_off69_inb : ∀ (v56_3 : BitVec 32) (v56_1 : BitVec 32) (v56_0 : BitVec 32) (k0_t11 : Fin (k0_t11_loop v56_3 v56_1).trips) (k0_t17 : Fin (k0_t17_loop v56_3 v56_1 k0_t11).trips) (v891_10 : BitVec 32) (v891_9 : BitVec 32) (k0_hw51 : k0_chk51 v56_3 v56_1 v56_0 k0_t11 k0_t17 v891_10 v891_9), ∀ (k0_h57 : k0_cond57 v56_3 v56_1 k0_t11 k0_t17 v891_10 = 1#1), ∀ (r : Fin 8), ∀ a, (k0_off69 v56_0 v891_9 (BitVec.ofNat 32 (16 * r.val))) a + S16.size a ≤ S19456.size a := fun v56_3 v56_1 v56_0 k0_t11 k0_t17 v891_10 v891_9 k0_hw51 k0_h57 r => k0_hw51 k0_h57 r

def k0_off70 (v56_0 : BitVec 32) (v913_9 : BitVec 32) (c0_i32_251 : BitVec 32) : Fin 1 → Nat :=
  let v1025 : BitVec 32 := Scalar.subi v913_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond58 (v56_3 : BitVec 32) (v56_1 : BitVec 32) (k0_t11 : Fin (k0_t11_loop v56_3 v56_1).trips) (k0_t17 : Fin (k0_t17_loop v56_3 v56_1 k0_t11).trips) (v913_10 : BitVec 32) : BitVec 1 :=
  let c2_i32_77 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c0_i32_112 : BitVec 32 := 0#32
  let c272_i32_103 : BitVec 32 := 272#32
  let v273 : BitVec 32 := Scalar.addi v271 c272_i32_103
  let v274 : BitVec 32 := Scalar.minsi v273 v56_3
  let v275 : BitVec 32 := Scalar.subi v274 v271
  let c0_i32_104 : BitVec 32 := 0#32
  let v276 : BitVec 32 := Scalar.maxsi v275 c0_i32_104
  let c0_i32_106 : BitVec 32 := 0#32
  let v278 : BitVec 1 := Scalar.cmpi .sgt v276 c0_i32_106
  let v279 : BitVec 32 := Scalar.extui v278
  let c0_i32_107 : BitVec 32 := 0#32
  let v280 : BitVec 1 := Scalar.cmpi .slt v276 c0_i32_107
  let v281 : BitVec 32 := Scalar.extui v280
  let v282 : BitVec 32 := Scalar.subi v279 v281
  let c6_i32_105 : BitVec 32 := 6#32
  let c0_i32_108 : BitVec 32 := 0#32
  let v283 : BitVec 1 := Scalar.cmpi .sgt c6_i32_105 c0_i32_108
  let v284 : BitVec 32 := Scalar.extui v283
  let c0_i32_109 : BitVec 32 := 0#32
  let v285 : BitVec 1 := Scalar.cmpi .slt c6_i32_105 c0_i32_109
  let v286 : BitVec 32 := Scalar.extui v285
  let v287 : BitVec 32 := Scalar.subi v284 v286
  let v288 : BitVec 1 := Scalar.cmpi .ne v282 v287
  let v289 : BitVec 32 := Scalar.remsi v276 c6_i32_105
  let c0_i32_110 : BitVec 32 := 0#32
  let v290 : BitVec 1 := Scalar.cmpi .ne v289 c0_i32_110
  let v291 : BitVec 1 := Scalar.andi v288 v290
  let v277 : BitVec 32 := Scalar.divsi v276 c6_i32_105
  let c1_i32_111 : BitVec 32 := 1#32
  let v292 : BitVec 32 := Scalar.subi v277 c1_i32_111
  let v293 : BitVec 32 := Scalar.select v291 v292 v277
  let v294 : BitVec 32 := Scalar.subi v293 c0_i32_112
  let c1_i32_113 : BitVec 32 := 1#32
  let v296 : BitVec 32 := Scalar.divsi v294 c1_i32_113
  let v297 : BitVec 32 := Scalar.muli v296 c1_i32_113
  let v298 : BitVec 32 := Scalar.addi c0_i32_112 v297
  let c1_i32_115 : BitVec 32 := 1#32
  let arg24 : BitVec 32 := Scf.iv v298 c1_i32_115 k0_t17
  let c6_i32_122 : BitVec 32 := 6#32
  let v315 : BitVec 32 := Scalar.muli arg24 c6_i32_122
  let v316 : BitVec 32 := Scalar.addi v271 v315
  let c2_i32_239 : BitVec 32 := 2#32
  let v931 : BitVec 32 := Scalar.addi v316 c2_i32_239
  let v932 : BitVec 1 := Scalar.cmpi .eq v931 v913_10
  let v933 : BitVec 32 := Scalar.extui v932
  let c0_i32_240 : BitVec 32 := 0#32
  let v934 : BitVec 1 := Scalar.cmpi .ne v933 c0_i32_240
  v934

def k0_chk52 (v56_3 : BitVec 32) (v56_1 : BitVec 32) (v56_0 : BitVec 32) (k0_t11 : Fin (k0_t11_loop v56_3 v56_1).trips) (k0_t17 : Fin (k0_t17_loop v56_3 v56_1 k0_t11).trips) (v913_10 : BitVec 32) (v913_9 : BitVec 32) : Prop :=
  (∀ (k0_h58 : k0_cond58 v56_3 v56_1 k0_t11 k0_t17 v913_10 = 1#1), ∀ (r : Fin 8), ∀ a, (k0_off70 v56_0 v913_9 (BitVec.ofNat 32 (16 * r.val))) a + S16.size a ≤ S19456.size a)
theorem k0_off70_inb : ∀ (v56_3 : BitVec 32) (v56_1 : BitVec 32) (v56_0 : BitVec 32) (k0_t11 : Fin (k0_t11_loop v56_3 v56_1).trips) (k0_t17 : Fin (k0_t17_loop v56_3 v56_1 k0_t11).trips) (v913_10 : BitVec 32) (v913_9 : BitVec 32) (k0_hw52 : k0_chk52 v56_3 v56_1 v56_0 k0_t11 k0_t17 v913_10 v913_9), ∀ (k0_h58 : k0_cond58 v56_3 v56_1 k0_t11 k0_t17 v913_10 = 1#1), ∀ (r : Fin 8), ∀ a, (k0_off70 v56_0 v913_9 (BitVec.ofNat 32 (16 * r.val))) a + S16.size a ≤ S19456.size a := fun v56_3 v56_1 v56_0 k0_t11 k0_t17 v913_10 v913_9 k0_hw52 k0_h58 r => k0_hw52 k0_h58 r

def k0_off71 (v56_0 : BitVec 32) (v935_9 : BitVec 32) (c0_i32_251 : BitVec 32) : Fin 1 → Nat :=
  let v1025 : BitVec 32 := Scalar.subi v935_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond59 (v56_3 : BitVec 32) (v56_1 : BitVec 32) (k0_t11 : Fin (k0_t11_loop v56_3 v56_1).trips) (k0_t17 : Fin (k0_t17_loop v56_3 v56_1 k0_t11).trips) (v935_10 : BitVec 32) : BitVec 1 :=
  let c2_i32_77 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c0_i32_112 : BitVec 32 := 0#32
  let c272_i32_103 : BitVec 32 := 272#32
  let v273 : BitVec 32 := Scalar.addi v271 c272_i32_103
  let v274 : BitVec 32 := Scalar.minsi v273 v56_3
  let v275 : BitVec 32 := Scalar.subi v274 v271
  let c0_i32_104 : BitVec 32 := 0#32
  let v276 : BitVec 32 := Scalar.maxsi v275 c0_i32_104
  let c0_i32_106 : BitVec 32 := 0#32
  let v278 : BitVec 1 := Scalar.cmpi .sgt v276 c0_i32_106
  let v279 : BitVec 32 := Scalar.extui v278
  let c0_i32_107 : BitVec 32 := 0#32
  let v280 : BitVec 1 := Scalar.cmpi .slt v276 c0_i32_107
  let v281 : BitVec 32 := Scalar.extui v280
  let v282 : BitVec 32 := Scalar.subi v279 v281
  let c6_i32_105 : BitVec 32 := 6#32
  let c0_i32_108 : BitVec 32 := 0#32
  let v283 : BitVec 1 := Scalar.cmpi .sgt c6_i32_105 c0_i32_108
  let v284 : BitVec 32 := Scalar.extui v283
  let c0_i32_109 : BitVec 32 := 0#32
  let v285 : BitVec 1 := Scalar.cmpi .slt c6_i32_105 c0_i32_109
  let v286 : BitVec 32 := Scalar.extui v285
  let v287 : BitVec 32 := Scalar.subi v284 v286
  let v288 : BitVec 1 := Scalar.cmpi .ne v282 v287
  let v289 : BitVec 32 := Scalar.remsi v276 c6_i32_105
  let c0_i32_110 : BitVec 32 := 0#32
  let v290 : BitVec 1 := Scalar.cmpi .ne v289 c0_i32_110
  let v291 : BitVec 1 := Scalar.andi v288 v290
  let v277 : BitVec 32 := Scalar.divsi v276 c6_i32_105
  let c1_i32_111 : BitVec 32 := 1#32
  let v292 : BitVec 32 := Scalar.subi v277 c1_i32_111
  let v293 : BitVec 32 := Scalar.select v291 v292 v277
  let v294 : BitVec 32 := Scalar.subi v293 c0_i32_112
  let c1_i32_113 : BitVec 32 := 1#32
  let v296 : BitVec 32 := Scalar.divsi v294 c1_i32_113
  let v297 : BitVec 32 := Scalar.muli v296 c1_i32_113
  let v298 : BitVec 32 := Scalar.addi c0_i32_112 v297
  let c1_i32_115 : BitVec 32 := 1#32
  let arg24 : BitVec 32 := Scf.iv v298 c1_i32_115 k0_t17
  let c6_i32_122 : BitVec 32 := 6#32
  let v315 : BitVec 32 := Scalar.muli arg24 c6_i32_122
  let v316 : BitVec 32 := Scalar.addi v271 v315
  let c3_i32_241 : BitVec 32 := 3#32
  let v953 : BitVec 32 := Scalar.addi v316 c3_i32_241
  let v954 : BitVec 1 := Scalar.cmpi .eq v953 v935_10
  let v955 : BitVec 32 := Scalar.extui v954
  let c0_i32_242 : BitVec 32 := 0#32
  let v956 : BitVec 1 := Scalar.cmpi .ne v955 c0_i32_242
  v956

def k0_chk53 (v56_3 : BitVec 32) (v56_1 : BitVec 32) (v56_0 : BitVec 32) (k0_t11 : Fin (k0_t11_loop v56_3 v56_1).trips) (k0_t17 : Fin (k0_t17_loop v56_3 v56_1 k0_t11).trips) (v935_10 : BitVec 32) (v935_9 : BitVec 32) : Prop :=
  (∀ (k0_h59 : k0_cond59 v56_3 v56_1 k0_t11 k0_t17 v935_10 = 1#1), ∀ (r : Fin 8), ∀ a, (k0_off71 v56_0 v935_9 (BitVec.ofNat 32 (16 * r.val))) a + S16.size a ≤ S19456.size a)
theorem k0_off71_inb : ∀ (v56_3 : BitVec 32) (v56_1 : BitVec 32) (v56_0 : BitVec 32) (k0_t11 : Fin (k0_t11_loop v56_3 v56_1).trips) (k0_t17 : Fin (k0_t17_loop v56_3 v56_1 k0_t11).trips) (v935_10 : BitVec 32) (v935_9 : BitVec 32) (k0_hw53 : k0_chk53 v56_3 v56_1 v56_0 k0_t11 k0_t17 v935_10 v935_9), ∀ (k0_h59 : k0_cond59 v56_3 v56_1 k0_t11 k0_t17 v935_10 = 1#1), ∀ (r : Fin 8), ∀ a, (k0_off71 v56_0 v935_9 (BitVec.ofNat 32 (16 * r.val))) a + S16.size a ≤ S19456.size a := fun v56_3 v56_1 v56_0 k0_t11 k0_t17 v935_10 v935_9 k0_hw53 k0_h59 r => k0_hw53 k0_h59 r

def k0_off72 (v56_0 : BitVec 32) (v957_9 : BitVec 32) (c0_i32_251 : BitVec 32) : Fin 1 → Nat :=
  let v1025 : BitVec 32 := Scalar.subi v957_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond60 (v56_3 : BitVec 32) (v56_1 : BitVec 32) (k0_t11 : Fin (k0_t11_loop v56_3 v56_1).trips) (k0_t17 : Fin (k0_t17_loop v56_3 v56_1 k0_t11).trips) (v957_10 : BitVec 32) : BitVec 1 :=
  let c2_i32_77 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c0_i32_112 : BitVec 32 := 0#32
  let c272_i32_103 : BitVec 32 := 272#32
  let v273 : BitVec 32 := Scalar.addi v271 c272_i32_103
  let v274 : BitVec 32 := Scalar.minsi v273 v56_3
  let v275 : BitVec 32 := Scalar.subi v274 v271
  let c0_i32_104 : BitVec 32 := 0#32
  let v276 : BitVec 32 := Scalar.maxsi v275 c0_i32_104
  let c0_i32_106 : BitVec 32 := 0#32
  let v278 : BitVec 1 := Scalar.cmpi .sgt v276 c0_i32_106
  let v279 : BitVec 32 := Scalar.extui v278
  let c0_i32_107 : BitVec 32 := 0#32
  let v280 : BitVec 1 := Scalar.cmpi .slt v276 c0_i32_107
  let v281 : BitVec 32 := Scalar.extui v280
  let v282 : BitVec 32 := Scalar.subi v279 v281
  let c6_i32_105 : BitVec 32 := 6#32
  let c0_i32_108 : BitVec 32 := 0#32
  let v283 : BitVec 1 := Scalar.cmpi .sgt c6_i32_105 c0_i32_108
  let v284 : BitVec 32 := Scalar.extui v283
  let c0_i32_109 : BitVec 32 := 0#32
  let v285 : BitVec 1 := Scalar.cmpi .slt c6_i32_105 c0_i32_109
  let v286 : BitVec 32 := Scalar.extui v285
  let v287 : BitVec 32 := Scalar.subi v284 v286
  let v288 : BitVec 1 := Scalar.cmpi .ne v282 v287
  let v289 : BitVec 32 := Scalar.remsi v276 c6_i32_105
  let c0_i32_110 : BitVec 32 := 0#32
  let v290 : BitVec 1 := Scalar.cmpi .ne v289 c0_i32_110
  let v291 : BitVec 1 := Scalar.andi v288 v290
  let v277 : BitVec 32 := Scalar.divsi v276 c6_i32_105
  let c1_i32_111 : BitVec 32 := 1#32
  let v292 : BitVec 32 := Scalar.subi v277 c1_i32_111
  let v293 : BitVec 32 := Scalar.select v291 v292 v277
  let v294 : BitVec 32 := Scalar.subi v293 c0_i32_112
  let c1_i32_113 : BitVec 32 := 1#32
  let v296 : BitVec 32 := Scalar.divsi v294 c1_i32_113
  let v297 : BitVec 32 := Scalar.muli v296 c1_i32_113
  let v298 : BitVec 32 := Scalar.addi c0_i32_112 v297
  let c1_i32_115 : BitVec 32 := 1#32
  let arg24 : BitVec 32 := Scf.iv v298 c1_i32_115 k0_t17
  let c6_i32_122 : BitVec 32 := 6#32
  let v315 : BitVec 32 := Scalar.muli arg24 c6_i32_122
  let v316 : BitVec 32 := Scalar.addi v271 v315
  let c4_i32_243 : BitVec 32 := 4#32
  let v975 : BitVec 32 := Scalar.addi v316 c4_i32_243
  let v976 : BitVec 1 := Scalar.cmpi .eq v975 v957_10
  let v977 : BitVec 32 := Scalar.extui v976
  let c0_i32_244 : BitVec 32 := 0#32
  let v978 : BitVec 1 := Scalar.cmpi .ne v977 c0_i32_244
  v978

def k0_chk54 (v56_3 : BitVec 32) (v56_1 : BitVec 32) (v56_0 : BitVec 32) (k0_t11 : Fin (k0_t11_loop v56_3 v56_1).trips) (k0_t17 : Fin (k0_t17_loop v56_3 v56_1 k0_t11).trips) (v957_10 : BitVec 32) (v957_9 : BitVec 32) : Prop :=
  (∀ (k0_h60 : k0_cond60 v56_3 v56_1 k0_t11 k0_t17 v957_10 = 1#1), ∀ (r : Fin 8), ∀ a, (k0_off72 v56_0 v957_9 (BitVec.ofNat 32 (16 * r.val))) a + S16.size a ≤ S19456.size a)
theorem k0_off72_inb : ∀ (v56_3 : BitVec 32) (v56_1 : BitVec 32) (v56_0 : BitVec 32) (k0_t11 : Fin (k0_t11_loop v56_3 v56_1).trips) (k0_t17 : Fin (k0_t17_loop v56_3 v56_1 k0_t11).trips) (v957_10 : BitVec 32) (v957_9 : BitVec 32) (k0_hw54 : k0_chk54 v56_3 v56_1 v56_0 k0_t11 k0_t17 v957_10 v957_9), ∀ (k0_h60 : k0_cond60 v56_3 v56_1 k0_t11 k0_t17 v957_10 = 1#1), ∀ (r : Fin 8), ∀ a, (k0_off72 v56_0 v957_9 (BitVec.ofNat 32 (16 * r.val))) a + S16.size a ≤ S19456.size a := fun v56_3 v56_1 v56_0 k0_t11 k0_t17 v957_10 v957_9 k0_hw54 k0_h60 r => k0_hw54 k0_h60 r

def k0_off73 (v56_0 : BitVec 32) (v979_9 : BitVec 32) (c0_i32_251 : BitVec 32) : Fin 1 → Nat :=
  let v1025 : BitVec 32 := Scalar.subi v979_9 v56_0
  let c128_i32_250 : BitVec 32 := 128#32
  let v1027 : BitVec 32 := Scalar.muli v1025 c128_i32_250
  let v1028 : BitVec 32 := Scalar.addi v1027 c0_i32_251
  let v1029 : Index := Scalar.indexCast v1028
  ![v1029.toNat]
def k0_cond61 (v56_3 : BitVec 32) (v56_1 : BitVec 32) (k0_t11 : Fin (k0_t11_loop v56_3 v56_1).trips) (k0_t17 : Fin (k0_t17_loop v56_3 v56_1 k0_t11).trips) (v979_10 : BitVec 32) : BitVec 1 :=
  let c2_i32_77 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c0_i32_112 : BitVec 32 := 0#32
  let c272_i32_103 : BitVec 32 := 272#32
  let v273 : BitVec 32 := Scalar.addi v271 c272_i32_103
  let v274 : BitVec 32 := Scalar.minsi v273 v56_3
  let v275 : BitVec 32 := Scalar.subi v274 v271
  let c0_i32_104 : BitVec 32 := 0#32
  let v276 : BitVec 32 := Scalar.maxsi v275 c0_i32_104
  let c0_i32_106 : BitVec 32 := 0#32
  let v278 : BitVec 1 := Scalar.cmpi .sgt v276 c0_i32_106
  let v279 : BitVec 32 := Scalar.extui v278
  let c0_i32_107 : BitVec 32 := 0#32
  let v280 : BitVec 1 := Scalar.cmpi .slt v276 c0_i32_107
  let v281 : BitVec 32 := Scalar.extui v280
  let v282 : BitVec 32 := Scalar.subi v279 v281
  let c6_i32_105 : BitVec 32 := 6#32
  let c0_i32_108 : BitVec 32 := 0#32
  let v283 : BitVec 1 := Scalar.cmpi .sgt c6_i32_105 c0_i32_108
  let v284 : BitVec 32 := Scalar.extui v283
  let c0_i32_109 : BitVec 32 := 0#32
  let v285 : BitVec 1 := Scalar.cmpi .slt c6_i32_105 c0_i32_109
  let v286 : BitVec 32 := Scalar.extui v285
  let v287 : BitVec 32 := Scalar.subi v284 v286
  let v288 : BitVec 1 := Scalar.cmpi .ne v282 v287
  let v289 : BitVec 32 := Scalar.remsi v276 c6_i32_105
  let c0_i32_110 : BitVec 32 := 0#32
  let v290 : BitVec 1 := Scalar.cmpi .ne v289 c0_i32_110
  let v291 : BitVec 1 := Scalar.andi v288 v290
  let v277 : BitVec 32 := Scalar.divsi v276 c6_i32_105
  let c1_i32_111 : BitVec 32 := 1#32
  let v292 : BitVec 32 := Scalar.subi v277 c1_i32_111
  let v293 : BitVec 32 := Scalar.select v291 v292 v277
  let v294 : BitVec 32 := Scalar.subi v293 c0_i32_112
  let c1_i32_113 : BitVec 32 := 1#32
  let v296 : BitVec 32 := Scalar.divsi v294 c1_i32_113
  let v297 : BitVec 32 := Scalar.muli v296 c1_i32_113
  let v298 : BitVec 32 := Scalar.addi c0_i32_112 v297
  let c1_i32_115 : BitVec 32 := 1#32
  let arg24 : BitVec 32 := Scf.iv v298 c1_i32_115 k0_t17
  let c6_i32_122 : BitVec 32 := 6#32
  let v315 : BitVec 32 := Scalar.muli arg24 c6_i32_122
  let v316 : BitVec 32 := Scalar.addi v271 v315
  let c5_i32_245 : BitVec 32 := 5#32
  let v997 : BitVec 32 := Scalar.addi v316 c5_i32_245
  let v998 : BitVec 1 := Scalar.cmpi .eq v997 v979_10
  let v999 : BitVec 32 := Scalar.extui v998
  let c0_i32_246 : BitVec 32 := 0#32
  let v1000 : BitVec 1 := Scalar.cmpi .ne v999 c0_i32_246
  v1000

def k0_chk55 (v56_3 : BitVec 32) (v56_1 : BitVec 32) (v56_0 : BitVec 32) (k0_t11 : Fin (k0_t11_loop v56_3 v56_1).trips) (k0_t17 : Fin (k0_t17_loop v56_3 v56_1 k0_t11).trips) (v979_10 : BitVec 32) (v979_9 : BitVec 32) : Prop :=
  (∀ (k0_h61 : k0_cond61 v56_3 v56_1 k0_t11 k0_t17 v979_10 = 1#1), ∀ (r : Fin 8), ∀ a, (k0_off73 v56_0 v979_9 (BitVec.ofNat 32 (16 * r.val))) a + S16.size a ≤ S19456.size a)
theorem k0_off73_inb : ∀ (v56_3 : BitVec 32) (v56_1 : BitVec 32) (v56_0 : BitVec 32) (k0_t11 : Fin (k0_t11_loop v56_3 v56_1).trips) (k0_t17 : Fin (k0_t17_loop v56_3 v56_1 k0_t11).trips) (v979_10 : BitVec 32) (v979_9 : BitVec 32) (k0_hw55 : k0_chk55 v56_3 v56_1 v56_0 k0_t11 k0_t17 v979_10 v979_9), ∀ (k0_h61 : k0_cond61 v56_3 v56_1 k0_t11 k0_t17 v979_10 = 1#1), ∀ (r : Fin 8), ∀ a, (k0_off73 v56_0 v979_9 (BitVec.ofNat 32 (16 * r.val))) a + S16.size a ≤ S19456.size a := fun v56_3 v56_1 v56_0 k0_t11 k0_t17 v979_10 v979_9 k0_hw55 k0_h61 r => k0_hw55 k0_h61 r

@[reducible] def k0_t18_loop (v56_3 : BitVec 32) (v56_1 : BitVec 32) (k0_t11 : Fin (k0_t11_loop v56_3 v56_1).trips) : Scf.Loop 32 :=
  let c2_i32_77 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c272_i32_103 : BitVec 32 := 272#32
  let v273 : BitVec 32 := Scalar.addi v271 c272_i32_103
  let v274 : BitVec 32 := Scalar.minsi v273 v56_3
  let v275 : BitVec 32 := Scalar.subi v274 v271
  let c0_i32_104 : BitVec 32 := 0#32
  let v276 : BitVec 32 := Scalar.maxsi v275 c0_i32_104
  let c0_i32_106 : BitVec 32 := 0#32
  let v278 : BitVec 1 := Scalar.cmpi .sgt v276 c0_i32_106
  let v279 : BitVec 32 := Scalar.extui v278
  let c0_i32_107 : BitVec 32 := 0#32
  let v280 : BitVec 1 := Scalar.cmpi .slt v276 c0_i32_107
  let v281 : BitVec 32 := Scalar.extui v280
  let v282 : BitVec 32 := Scalar.subi v279 v281
  let c6_i32_105 : BitVec 32 := 6#32
  let c0_i32_108 : BitVec 32 := 0#32
  let v283 : BitVec 1 := Scalar.cmpi .sgt c6_i32_105 c0_i32_108
  let v284 : BitVec 32 := Scalar.extui v283
  let c0_i32_109 : BitVec 32 := 0#32
  let v285 : BitVec 1 := Scalar.cmpi .slt c6_i32_105 c0_i32_109
  let v286 : BitVec 32 := Scalar.extui v285
  let v287 : BitVec 32 := Scalar.subi v284 v286
  let v288 : BitVec 1 := Scalar.cmpi .ne v282 v287
  let v289 : BitVec 32 := Scalar.remsi v276 c6_i32_105
  let c0_i32_110 : BitVec 32 := 0#32
  let v290 : BitVec 1 := Scalar.cmpi .ne v289 c0_i32_110
  let v291 : BitVec 1 := Scalar.andi v288 v290
  let v277 : BitVec 32 := Scalar.divsi v276 c6_i32_105
  let c1_i32_111 : BitVec 32 := 1#32
  let v292 : BitVec 32 := Scalar.subi v277 c1_i32_111
  let v293 : BitVec 32 := Scalar.select v291 v292 v277
  let c6_i32_116 : BitVec 32 := 6#32
  let v301 : BitVec 32 := Scalar.muli v293 c6_i32_116
  let v302 : BitVec 32 := Scalar.addi v271 v301
  let v303 : BitVec 32 := Scalar.addi v271 v276
  let v304 : BitVec 32 := Scalar.subi v303 v302
  let c1_i32_117 : BitVec 32 := 1#32
  let v306 : BitVec 32 := Scalar.divsi v304 c1_i32_117
  let v307 : BitVec 32 := Scalar.muli v306 c1_i32_117
  let v308 : BitVec 32 := Scalar.addi v302 v307
  let c1_i32_118 : BitVec 32 := 1#32
  ⟨v302, v308, c1_i32_118⟩
def k0_off74 (v56_0 : BitVec 32) (arg34 : BitVec 32) (c0_i32_145 : BitVec 32) : Fin 1 → Nat :=
  let v436 : BitVec 32 := Scalar.subi arg34 v56_0
  let c128_i32_144 : BitVec 32 := 128#32
  let v438 : BitVec 32 := Scalar.muli v436 c128_i32_144
  let v439 : BitVec 32 := Scalar.addi v438 c0_i32_145
  let v440 : Index := Scalar.indexCast v439
  ![v440.toNat]
def k0_cond62 (v56_3 : BitVec 32) (v56_1 : BitVec 32) (k0_t11 : Fin (k0_t11_loop v56_3 v56_1).trips) (k0_t18 : Fin (k0_t18_loop v56_3 v56_1 k0_t11).trips) (arg35 : BitVec 32) : BitVec 1 :=
  let c2_i32_77 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c272_i32_103 : BitVec 32 := 272#32
  let v273 : BitVec 32 := Scalar.addi v271 c272_i32_103
  let v274 : BitVec 32 := Scalar.minsi v273 v56_3
  let v275 : BitVec 32 := Scalar.subi v274 v271
  let c0_i32_104 : BitVec 32 := 0#32
  let v276 : BitVec 32 := Scalar.maxsi v275 c0_i32_104
  let c0_i32_106 : BitVec 32 := 0#32
  let v278 : BitVec 1 := Scalar.cmpi .sgt v276 c0_i32_106
  let v279 : BitVec 32 := Scalar.extui v278
  let c0_i32_107 : BitVec 32 := 0#32
  let v280 : BitVec 1 := Scalar.cmpi .slt v276 c0_i32_107
  let v281 : BitVec 32 := Scalar.extui v280
  let v282 : BitVec 32 := Scalar.subi v279 v281
  let c6_i32_105 : BitVec 32 := 6#32
  let c0_i32_108 : BitVec 32 := 0#32
  let v283 : BitVec 1 := Scalar.cmpi .sgt c6_i32_105 c0_i32_108
  let v284 : BitVec 32 := Scalar.extui v283
  let c0_i32_109 : BitVec 32 := 0#32
  let v285 : BitVec 1 := Scalar.cmpi .slt c6_i32_105 c0_i32_109
  let v286 : BitVec 32 := Scalar.extui v285
  let v287 : BitVec 32 := Scalar.subi v284 v286
  let v288 : BitVec 1 := Scalar.cmpi .ne v282 v287
  let v289 : BitVec 32 := Scalar.remsi v276 c6_i32_105
  let c0_i32_110 : BitVec 32 := 0#32
  let v290 : BitVec 1 := Scalar.cmpi .ne v289 c0_i32_110
  let v291 : BitVec 1 := Scalar.andi v288 v290
  let v277 : BitVec 32 := Scalar.divsi v276 c6_i32_105
  let c1_i32_111 : BitVec 32 := 1#32
  let v292 : BitVec 32 := Scalar.subi v277 c1_i32_111
  let v293 : BitVec 32 := Scalar.select v291 v292 v277
  let c6_i32_116 : BitVec 32 := 6#32
  let v301 : BitVec 32 := Scalar.muli v293 c6_i32_116
  let v302 : BitVec 32 := Scalar.addi v271 v301
  let c1_i32_118 : BitVec 32 := 1#32
  let arg24 : BitVec 32 := Scf.iv v302 c1_i32_118 k0_t18
  let v315 : BitVec 1 := Scalar.cmpi .eq arg24 arg35
  let v316 : BitVec 32 := Scalar.extui v315
  let c0_i32_122 : BitVec 32 := 0#32
  let v317 : BitVec 1 := Scalar.cmpi .ne v316 c0_i32_122
  v317

def k0_chk56 (v56_3 : BitVec 32) (v56_1 : BitVec 32) (v56_0 : BitVec 32) (k0_t11 : Fin (k0_t11_loop v56_3 v56_1).trips) (k0_t18 : Fin (k0_t18_loop v56_3 v56_1 k0_t11).trips) (arg34 : BitVec 32) (arg35 : BitVec 32) : Prop :=
  (∀ (k0_h62 : k0_cond62 v56_3 v56_1 k0_t11 k0_t18 arg35 = 1#1), ∀ (r : Fin 8), ∀ a, (k0_off74 v56_0 arg34 (BitVec.ofNat 32 (16 * r.val))) a + S16.size a ≤ S19456.size a)
theorem k0_off74_inb : ∀ (v56_3 : BitVec 32) (v56_1 : BitVec 32) (v56_0 : BitVec 32) (k0_t11 : Fin (k0_t11_loop v56_3 v56_1).trips) (k0_t18 : Fin (k0_t18_loop v56_3 v56_1 k0_t11).trips) (arg34 : BitVec 32) (arg35 : BitVec 32) (k0_hw56 : k0_chk56 v56_3 v56_1 v56_0 k0_t11 k0_t18 arg34 arg35), ∀ (k0_h62 : k0_cond62 v56_3 v56_1 k0_t11 k0_t18 arg35 = 1#1), ∀ (r : Fin 8), ∀ a, (k0_off74 v56_0 arg34 (BitVec.ofNat 32 (16 * r.val))) a + S16.size a ≤ S19456.size a := fun v56_3 v56_1 v56_0 k0_t11 k0_t18 arg34 arg35 k0_hw56 k0_h62 r => k0_hw56 k0_h62 r

def k0_off75 (v56_3 : BitVec 32) (v56_1 : BitVec 32) (k0_t11 : Fin (k0_t11_loop v56_3 v56_1).trips) (k0_t18 : Fin (k0_t18_loop v56_3 v56_1 k0_t11).trips) (c0_i32_124 : BitVec 32) : Fin 1 → Nat :=
  let c2_i32_77 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c272_i32_103 : BitVec 32 := 272#32
  let v273 : BitVec 32 := Scalar.addi v271 c272_i32_103
  let v274 : BitVec 32 := Scalar.minsi v273 v56_3
  let v275 : BitVec 32 := Scalar.subi v274 v271
  let c0_i32_104 : BitVec 32 := 0#32
  let v276 : BitVec 32 := Scalar.maxsi v275 c0_i32_104
  let c0_i32_106 : BitVec 32 := 0#32
  let v278 : BitVec 1 := Scalar.cmpi .sgt v276 c0_i32_106
  let v279 : BitVec 32 := Scalar.extui v278
  let c0_i32_107 : BitVec 32 := 0#32
  let v280 : BitVec 1 := Scalar.cmpi .slt v276 c0_i32_107
  let v281 : BitVec 32 := Scalar.extui v280
  let v282 : BitVec 32 := Scalar.subi v279 v281
  let c6_i32_105 : BitVec 32 := 6#32
  let c0_i32_108 : BitVec 32 := 0#32
  let v283 : BitVec 1 := Scalar.cmpi .sgt c6_i32_105 c0_i32_108
  let v284 : BitVec 32 := Scalar.extui v283
  let c0_i32_109 : BitVec 32 := 0#32
  let v285 : BitVec 1 := Scalar.cmpi .slt c6_i32_105 c0_i32_109
  let v286 : BitVec 32 := Scalar.extui v285
  let v287 : BitVec 32 := Scalar.subi v284 v286
  let v288 : BitVec 1 := Scalar.cmpi .ne v282 v287
  let v289 : BitVec 32 := Scalar.remsi v276 c6_i32_105
  let c0_i32_110 : BitVec 32 := 0#32
  let v290 : BitVec 1 := Scalar.cmpi .ne v289 c0_i32_110
  let v291 : BitVec 1 := Scalar.andi v288 v290
  let v277 : BitVec 32 := Scalar.divsi v276 c6_i32_105
  let c1_i32_111 : BitVec 32 := 1#32
  let v292 : BitVec 32 := Scalar.subi v277 c1_i32_111
  let v293 : BitVec 32 := Scalar.select v291 v292 v277
  let c6_i32_116 : BitVec 32 := 6#32
  let v301 : BitVec 32 := Scalar.muli v293 c6_i32_116
  let v302 : BitVec 32 := Scalar.addi v271 v301
  let c1_i32_118 : BitVec 32 := 1#32
  let arg24 : BitVec 32 := Scf.iv v302 c1_i32_118 k0_t18
  let c319328_i32_102 : BitVec 32 := 319328#32
  let v272 : BitVec 32 := Scalar.minsi v271 c319328_i32_102
  let v319 : BitVec 32 := Scalar.subi arg24 v272
  let c128_i32_123 : BitVec 32 := 128#32
  let v320 : BitVec 32 := Scalar.muli v319 c128_i32_123
  let v321 : BitVec 32 := Scalar.addi v320 c0_i32_124
  let v322 : Index := Scalar.indexCast v321
  ![v322.toNat]
@[reducible] def k0_t19_loop (v56_3 : BitVec 32) (v56_1 : BitVec 32) (k0_t11 : Fin (k0_t11_loop v56_3 v56_1).trips) : Scf.Loop 32 :=
  let c2_i32_77 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c272_i32_103 : BitVec 32 := 272#32
  let v273 : BitVec 32 := Scalar.addi v271 c272_i32_103
  let v274 : BitVec 32 := Scalar.minsi v273 v56_3
  let v275 : BitVec 32 := Scalar.subi v274 v271
  let c0_i32_104 : BitVec 32 := 0#32
  let v276 : BitVec 32 := Scalar.maxsi v275 c0_i32_104
  let c0_i32_106 : BitVec 32 := 0#32
  let v278 : BitVec 1 := Scalar.cmpi .sgt v276 c0_i32_106
  let v279 : BitVec 32 := Scalar.extui v278
  let c0_i32_107 : BitVec 32 := 0#32
  let v280 : BitVec 1 := Scalar.cmpi .slt v276 c0_i32_107
  let v281 : BitVec 32 := Scalar.extui v280
  let v282 : BitVec 32 := Scalar.subi v279 v281
  let c6_i32_105 : BitVec 32 := 6#32
  let c0_i32_108 : BitVec 32 := 0#32
  let v283 : BitVec 1 := Scalar.cmpi .sgt c6_i32_105 c0_i32_108
  let v284 : BitVec 32 := Scalar.extui v283
  let c0_i32_109 : BitVec 32 := 0#32
  let v285 : BitVec 1 := Scalar.cmpi .slt c6_i32_105 c0_i32_109
  let v286 : BitVec 32 := Scalar.extui v285
  let v287 : BitVec 32 := Scalar.subi v284 v286
  let v288 : BitVec 1 := Scalar.cmpi .ne v282 v287
  let v289 : BitVec 32 := Scalar.remsi v276 c6_i32_105
  let c0_i32_110 : BitVec 32 := 0#32
  let v290 : BitVec 1 := Scalar.cmpi .ne v289 c0_i32_110
  let v291 : BitVec 1 := Scalar.andi v288 v290
  let v277 : BitVec 32 := Scalar.divsi v276 c6_i32_105
  let c1_i32_111 : BitVec 32 := 1#32
  let v292 : BitVec 32 := Scalar.subi v277 c1_i32_111
  let v293 : BitVec 32 := Scalar.select v291 v292 v277
  let c6_i32_116 : BitVec 32 := 6#32
  let v301 : BitVec 32 := Scalar.muli v293 c6_i32_116
  let v302 : BitVec 32 := Scalar.addi v271 v301
  let v303 : BitVec 32 := Scalar.addi v271 v276
  let v304 : BitVec 32 := Scalar.subi v303 v302
  let c1_i32_117 : BitVec 32 := 1#32
  let v306 : BitVec 32 := Scalar.divsi v304 c1_i32_117
  let v307 : BitVec 32 := Scalar.muli v306 c1_i32_117
  let v308 : BitVec 32 := Scalar.addi v302 v307
  let v305 : BitVec 32 := Scalar.addi v302 v304
  let c1_i32_119 : BitVec 32 := 1#32
  ⟨v308, v305, c1_i32_119⟩
def k0_off76 (v56_0 : BitVec 32) (arg34 : BitVec 32) (c0_i32_145 : BitVec 32) : Fin 1 → Nat :=
  let v436 : BitVec 32 := Scalar.subi arg34 v56_0
  let c128_i32_144 : BitVec 32 := 128#32
  let v438 : BitVec 32 := Scalar.muli v436 c128_i32_144
  let v439 : BitVec 32 := Scalar.addi v438 c0_i32_145
  let v440 : Index := Scalar.indexCast v439
  ![v440.toNat]
def k0_cond63 (v56_3 : BitVec 32) (v56_1 : BitVec 32) (k0_t11 : Fin (k0_t11_loop v56_3 v56_1).trips) (k0_t19 : Fin (k0_t19_loop v56_3 v56_1 k0_t11).trips) (arg35 : BitVec 32) : BitVec 1 :=
  let c2_i32_77 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c272_i32_103 : BitVec 32 := 272#32
  let v273 : BitVec 32 := Scalar.addi v271 c272_i32_103
  let v274 : BitVec 32 := Scalar.minsi v273 v56_3
  let v275 : BitVec 32 := Scalar.subi v274 v271
  let c0_i32_104 : BitVec 32 := 0#32
  let v276 : BitVec 32 := Scalar.maxsi v275 c0_i32_104
  let c0_i32_106 : BitVec 32 := 0#32
  let v278 : BitVec 1 := Scalar.cmpi .sgt v276 c0_i32_106
  let v279 : BitVec 32 := Scalar.extui v278
  let c0_i32_107 : BitVec 32 := 0#32
  let v280 : BitVec 1 := Scalar.cmpi .slt v276 c0_i32_107
  let v281 : BitVec 32 := Scalar.extui v280
  let v282 : BitVec 32 := Scalar.subi v279 v281
  let c6_i32_105 : BitVec 32 := 6#32
  let c0_i32_108 : BitVec 32 := 0#32
  let v283 : BitVec 1 := Scalar.cmpi .sgt c6_i32_105 c0_i32_108
  let v284 : BitVec 32 := Scalar.extui v283
  let c0_i32_109 : BitVec 32 := 0#32
  let v285 : BitVec 1 := Scalar.cmpi .slt c6_i32_105 c0_i32_109
  let v286 : BitVec 32 := Scalar.extui v285
  let v287 : BitVec 32 := Scalar.subi v284 v286
  let v288 : BitVec 1 := Scalar.cmpi .ne v282 v287
  let v289 : BitVec 32 := Scalar.remsi v276 c6_i32_105
  let c0_i32_110 : BitVec 32 := 0#32
  let v290 : BitVec 1 := Scalar.cmpi .ne v289 c0_i32_110
  let v291 : BitVec 1 := Scalar.andi v288 v290
  let v277 : BitVec 32 := Scalar.divsi v276 c6_i32_105
  let c1_i32_111 : BitVec 32 := 1#32
  let v292 : BitVec 32 := Scalar.subi v277 c1_i32_111
  let v293 : BitVec 32 := Scalar.select v291 v292 v277
  let c6_i32_116 : BitVec 32 := 6#32
  let v301 : BitVec 32 := Scalar.muli v293 c6_i32_116
  let v302 : BitVec 32 := Scalar.addi v271 v301
  let v303 : BitVec 32 := Scalar.addi v271 v276
  let v304 : BitVec 32 := Scalar.subi v303 v302
  let c1_i32_117 : BitVec 32 := 1#32
  let v306 : BitVec 32 := Scalar.divsi v304 c1_i32_117
  let v307 : BitVec 32 := Scalar.muli v306 c1_i32_117
  let v308 : BitVec 32 := Scalar.addi v302 v307
  let c1_i32_119 : BitVec 32 := 1#32
  let arg24 : BitVec 32 := Scf.iv v308 c1_i32_119 k0_t19
  let v315 : BitVec 1 := Scalar.cmpi .eq arg24 arg35
  let v316 : BitVec 32 := Scalar.extui v315
  let c0_i32_122 : BitVec 32 := 0#32
  let v317 : BitVec 1 := Scalar.cmpi .ne v316 c0_i32_122
  v317

def k0_chk57 (v56_3 : BitVec 32) (v56_1 : BitVec 32) (v56_0 : BitVec 32) (k0_t11 : Fin (k0_t11_loop v56_3 v56_1).trips) (k0_t19 : Fin (k0_t19_loop v56_3 v56_1 k0_t11).trips) (arg34 : BitVec 32) (arg35 : BitVec 32) : Prop :=
  (∀ (k0_h63 : k0_cond63 v56_3 v56_1 k0_t11 k0_t19 arg35 = 1#1), ∀ (r : Fin 8), ∀ a, (k0_off76 v56_0 arg34 (BitVec.ofNat 32 (16 * r.val))) a + S16.size a ≤ S19456.size a)
theorem k0_off76_inb : ∀ (v56_3 : BitVec 32) (v56_1 : BitVec 32) (v56_0 : BitVec 32) (k0_t11 : Fin (k0_t11_loop v56_3 v56_1).trips) (k0_t19 : Fin (k0_t19_loop v56_3 v56_1 k0_t11).trips) (arg34 : BitVec 32) (arg35 : BitVec 32) (k0_hw57 : k0_chk57 v56_3 v56_1 v56_0 k0_t11 k0_t19 arg34 arg35), ∀ (k0_h63 : k0_cond63 v56_3 v56_1 k0_t11 k0_t19 arg35 = 1#1), ∀ (r : Fin 8), ∀ a, (k0_off76 v56_0 arg34 (BitVec.ofNat 32 (16 * r.val))) a + S16.size a ≤ S19456.size a := fun v56_3 v56_1 v56_0 k0_t11 k0_t19 arg34 arg35 k0_hw57 k0_h63 r => k0_hw57 k0_h63 r

def k0_off77 (v56_3 : BitVec 32) (v56_1 : BitVec 32) (k0_t11 : Fin (k0_t11_loop v56_3 v56_1).trips) (k0_t19 : Fin (k0_t19_loop v56_3 v56_1 k0_t11).trips) (c0_i32_124 : BitVec 32) : Fin 1 → Nat :=
  let c2_i32_77 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v218 : BitVec 32 := Scalar.muli c2_i32_77 arg12
  let c1_i32_78 : BitVec 32 := 1#32
  let v219 : BitVec 32 := Scalar.addi v218 c1_i32_78
  let c272_i32_101 : BitVec 32 := 272#32
  let v270 : BitVec 32 := Scalar.muli v219 c272_i32_101
  let v271 : BitVec 32 := Scalar.addi v56_1 v270
  let c272_i32_103 : BitVec 32 := 272#32
  let v273 : BitVec 32 := Scalar.addi v271 c272_i32_103
  let v274 : BitVec 32 := Scalar.minsi v273 v56_3
  let v275 : BitVec 32 := Scalar.subi v274 v271
  let c0_i32_104 : BitVec 32 := 0#32
  let v276 : BitVec 32 := Scalar.maxsi v275 c0_i32_104
  let c0_i32_106 : BitVec 32 := 0#32
  let v278 : BitVec 1 := Scalar.cmpi .sgt v276 c0_i32_106
  let v279 : BitVec 32 := Scalar.extui v278
  let c0_i32_107 : BitVec 32 := 0#32
  let v280 : BitVec 1 := Scalar.cmpi .slt v276 c0_i32_107
  let v281 : BitVec 32 := Scalar.extui v280
  let v282 : BitVec 32 := Scalar.subi v279 v281
  let c6_i32_105 : BitVec 32 := 6#32
  let c0_i32_108 : BitVec 32 := 0#32
  let v283 : BitVec 1 := Scalar.cmpi .sgt c6_i32_105 c0_i32_108
  let v284 : BitVec 32 := Scalar.extui v283
  let c0_i32_109 : BitVec 32 := 0#32
  let v285 : BitVec 1 := Scalar.cmpi .slt c6_i32_105 c0_i32_109
  let v286 : BitVec 32 := Scalar.extui v285
  let v287 : BitVec 32 := Scalar.subi v284 v286
  let v288 : BitVec 1 := Scalar.cmpi .ne v282 v287
  let v289 : BitVec 32 := Scalar.remsi v276 c6_i32_105
  let c0_i32_110 : BitVec 32 := 0#32
  let v290 : BitVec 1 := Scalar.cmpi .ne v289 c0_i32_110
  let v291 : BitVec 1 := Scalar.andi v288 v290
  let v277 : BitVec 32 := Scalar.divsi v276 c6_i32_105
  let c1_i32_111 : BitVec 32 := 1#32
  let v292 : BitVec 32 := Scalar.subi v277 c1_i32_111
  let v293 : BitVec 32 := Scalar.select v291 v292 v277
  let c6_i32_116 : BitVec 32 := 6#32
  let v301 : BitVec 32 := Scalar.muli v293 c6_i32_116
  let v302 : BitVec 32 := Scalar.addi v271 v301
  let v303 : BitVec 32 := Scalar.addi v271 v276
  let v304 : BitVec 32 := Scalar.subi v303 v302
  let c1_i32_117 : BitVec 32 := 1#32
  let v306 : BitVec 32 := Scalar.divsi v304 c1_i32_117
  let v307 : BitVec 32 := Scalar.muli v306 c1_i32_117
  let v308 : BitVec 32 := Scalar.addi v302 v307
  let c1_i32_119 : BitVec 32 := 1#32
  let arg24 : BitVec 32 := Scf.iv v308 c1_i32_119 k0_t19
  let c319328_i32_102 : BitVec 32 := 319328#32
  let v272 : BitVec 32 := Scalar.minsi v271 c319328_i32_102
  let v319 : BitVec 32 := Scalar.subi arg24 v272
  let c128_i32_123 : BitVec 32 := 128#32
  let v320 : BitVec 32 := Scalar.muli v319 c128_i32_123
  let v321 : BitVec 32 := Scalar.addi v320 c0_i32_124
  let v322 : Index := Scalar.indexCast v321
  ![v322.toNat]
def k0_off78 (v56_3 : BitVec 32) (v56_1 : BitVec 32) (k0_t11 : Fin (k0_t11_loop v56_3 v56_1).trips) : Fin 1 → Nat :=
  let c2_i32_77 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v218 : BitVec 32 := Scalar.muli c2_i32_77 arg12
  let c1_i32_78 : BitVec 32 := 1#32
  let v219 : BitVec 32 := Scalar.addi v218 c1_i32_78
  let c2_i32_120 : BitVec 32 := 2#32
  let v311 : BitVec 32 := Scalar.addi v219 c2_i32_120
  let c272_i32_122 : BitVec 32 := 272#32
  let v315 : BitVec 32 := Scalar.muli v311 c272_i32_122
  let v316 : BitVec 32 := Scalar.addi v56_1 v315
  let c319328_i32_123 : BitVec 32 := 319328#32
  let v317 : BitVec 32 := Scalar.minsi v316 c319328_i32_123
  let c128_i32_124 : BitVec 32 := 128#32
  let v318 : BitVec 32 := Scalar.muli v317 c128_i32_124
  ![v318.toNat]
def k0_cond64 (v56_3 : BitVec 32) (v56_1 : BitVec 32) (k0_t11 : Fin (k0_t11_loop v56_3 v56_1).trips) : BitVec 1 :=
  let c2_i32_77 : BitVec 32 := 2#32
  let c0_i32_46 : BitVec 32 := 0#32
  let v57 : BitVec 32 := Scalar.subi v56_3 v56_1
  let c272_i32 : BitVec 32 := 272#32
  let v58 : BitVec 32 := Scalar.addi v57 c272_i32
  let c1_i32_20 : BitVec 32 := 1#32
  let v59 : BitVec 32 := Scalar.subi v58 c1_i32_20
  let c0_i32_22 : BitVec 32 := 0#32
  let v61 : BitVec 1 := Scalar.cmpi .sgt v59 c0_i32_22
  let v62 : BitVec 32 := Scalar.extui v61
  let c0_i32_23 : BitVec 32 := 0#32
  let v63 : BitVec 1 := Scalar.cmpi .slt v59 c0_i32_23
  let v64 : BitVec 32 := Scalar.extui v63
  let v65 : BitVec 32 := Scalar.subi v62 v64
  let c272_i32_21 : BitVec 32 := 272#32
  let c0_i32_24 : BitVec 32 := 0#32
  let v66 : BitVec 1 := Scalar.cmpi .sgt c272_i32_21 c0_i32_24
  let v67 : BitVec 32 := Scalar.extui v66
  let c0_i32_25 : BitVec 32 := 0#32
  let v68 : BitVec 1 := Scalar.cmpi .slt c272_i32_21 c0_i32_25
  let v69 : BitVec 32 := Scalar.extui v68
  let v70 : BitVec 32 := Scalar.subi v67 v69
  let v71 : BitVec 1 := Scalar.cmpi .ne v65 v70
  let v72 : BitVec 32 := Scalar.remsi v59 c272_i32_21
  let c0_i32_26 : BitVec 32 := 0#32
  let v73 : BitVec 1 := Scalar.cmpi .ne v72 c0_i32_26
  let v74 : BitVec 1 := Scalar.andi v71 v73
  let v60 : BitVec 32 := Scalar.divsi v59 c272_i32_21
  let c1_i32_27 : BitVec 32 := 1#32
  let v75 : BitVec 32 := Scalar.subi v60 c1_i32_27
  let v76 : BitVec 32 := Scalar.select v74 v75 v60
  let c1_i32_38 : BitVec 32 := 1#32
  let v102 : BitVec 32 := Scalar.addi v76 c1_i32_38
  let c0_i32_40 : BitVec 32 := 0#32
  let v104 : BitVec 1 := Scalar.cmpi .sgt v102 c0_i32_40
  let v105 : BitVec 32 := Scalar.extui v104
  let c0_i32_41 : BitVec 32 := 0#32
  let v106 : BitVec 1 := Scalar.cmpi .slt v102 c0_i32_41
  let v107 : BitVec 32 := Scalar.extui v106
  let v108 : BitVec 32 := Scalar.subi v105 v107
  let c2_i32_39 : BitVec 32 := 2#32
  let c0_i32_42 : BitVec 32 := 0#32
  let v109 : BitVec 1 := Scalar.cmpi .sgt c2_i32_39 c0_i32_42
  let v110 : BitVec 32 := Scalar.extui v109
  let c0_i32_43 : BitVec 32 := 0#32
  let v111 : BitVec 1 := Scalar.cmpi .slt c2_i32_39 c0_i32_43
  let v112 : BitVec 32 := Scalar.extui v111
  let v113 : BitVec 32 := Scalar.subi v110 v112
  let v114 : BitVec 1 := Scalar.cmpi .ne v108 v113
  let v115 : BitVec 32 := Scalar.remsi v102 c2_i32_39
  let c0_i32_44 : BitVec 32 := 0#32
  let v116 : BitVec 1 := Scalar.cmpi .ne v115 c0_i32_44
  let v117 : BitVec 1 := Scalar.andi v114 v116
  let v103 : BitVec 32 := Scalar.divsi v102 c2_i32_39
  let c1_i32_45 : BitVec 32 := 1#32
  let v118 : BitVec 32 := Scalar.subi v103 c1_i32_45
  let v119 : BitVec 32 := Scalar.select v117 v118 v103
  let v120 : BitVec 32 := Scalar.subi v119 c0_i32_46
  let c1_i32_47 : BitVec 32 := 1#32
  let v122 : BitVec 32 := Scalar.divsi v120 c1_i32_47
  let v123 : BitVec 32 := Scalar.muli v122 c1_i32_47
  let v124 : BitVec 32 := Scalar.addi c0_i32_46 v123
  let c1_i32_49 : BitVec 32 := 1#32
  let arg12 : BitVec 32 := Scf.iv v124 c1_i32_49 k0_t11
  let v218 : BitVec 32 := Scalar.muli c2_i32_77 arg12
  let c1_i32_78 : BitVec 32 := 1#32
  let v219 : BitVec 32 := Scalar.addi v218 c1_i32_78
  let c2_i32_120 : BitVec 32 := 2#32
  let v311 : BitVec 32 := Scalar.addi v219 c2_i32_120
  let v312 : BitVec 1 := Scalar.cmpi .slt v311 v76
  let v313 : BitVec 32 := Scalar.extui v312
  let c0_i32_121 : BitVec 32 := 0#32
  let v314 : BitVec 1 := Scalar.cmpi .ne v313 c0_i32_121
  v314

def k0_chk1_0 (v56_3 : BitVec 32) (v56_1 : BitVec 32) : Prop :=
  (∀ (k0_h1 : k0_cond1 v56_3 v56_1 = 1#1), ∀ a, (k0_off1 v56_1) a + S34816.size a ≤ S40908800.size a) ∧
  (∀ (k0_h2 : k0_cond2 v56_3 v56_1 = 1#1), ∀ a, (k0_off2 v56_1) a + S34816.size a ≤ S40908800.size a) ∧
  ((k0_t2_loop v56_3 v56_1).OK) ∧
  (∀ k0_t2 : Fin (k0_t2_loop v56_3 v56_1).trips, (k0_t3_loop v56_3 v56_1 k0_t2).OK) ∧
  (∀ (k0_t2 : Fin (k0_t2_loop v56_3 v56_1).trips) (k0_t3 : Fin (k0_t3_loop v56_3 v56_1 k0_t2).trips), ∀ (r₁ : Fin 6) (r₂ : Fin 8), ∀ a, (k0_off3 v56_3 v56_1 k0_t2 k0_t3 (BitVec.ofNat 32 r₁.val) (BitVec.ofNat 32 (16 * r₂.val))) a + S16.size a ≤ S34816.size a) ∧
  (∀ k0_t2 : Fin (k0_t2_loop v56_3 v56_1).trips, (k0_t4_loop v56_3 v56_1 k0_t2).OK) ∧
  (∀ (k0_t2 : Fin (k0_t2_loop v56_3 v56_1).trips) (k0_t4 : Fin (k0_t4_loop v56_3 v56_1 k0_t2).trips), ∀ (r₁ : Fin 6) (r₂ : Fin 8), ∀ a, (k0_off10 v56_3 v56_1 k0_t2 k0_t4 (BitVec.ofNat 32 r₁.val) (BitVec.ofNat 32 (16 * r₂.val))) a + S16.size a ≤ S34816.size a) ∧
  (∀ k0_t2 : Fin (k0_t2_loop v56_3 v56_1).trips, (k0_t5_loop v56_3 v56_1 k0_t2).OK) ∧
  (∀ (k0_t2 : Fin (k0_t2_loop v56_3 v56_1).trips) (k0_t5 : Fin (k0_t5_loop v56_3 v56_1 k0_t2).trips), ∀ (r : Fin 8), ∀ a, (k0_off18 v56_3 v56_1 k0_t2 k0_t5 (BitVec.ofNat 32 (16 * r.val))) a + S16.size a ≤ S34816.size a) ∧
  (∀ k0_t2 : Fin (k0_t2_loop v56_3 v56_1).trips, (k0_t6_loop v56_3 v56_1 k0_t2).OK) ∧
  (∀ (k0_t2 : Fin (k0_t2_loop v56_3 v56_1).trips) (k0_t6 : Fin (k0_t6_loop v56_3 v56_1 k0_t2).trips), ∀ (r : Fin 8), ∀ a, (k0_off20 v56_3 v56_1 k0_t2 k0_t6 (BitVec.ofNat 32 (16 * r.val))) a + S16.size a ≤ S34816.size a) ∧
  (∀ k0_t2 : Fin (k0_t2_loop v56_3 v56_1).trips, ∀ (k0_h17 : k0_cond17 v56_3 v56_1 k0_t2 = 1#1), ∀ a, (k0_off21 v56_3 v56_1 k0_t2) a + S34816.size a ≤ S40908800.size a) ∧
  (∀ k0_t2 : Fin (k0_t2_loop v56_3 v56_1).trips, (k0_t7_loop v56_3 v56_1 k0_t2).OK) ∧
  (∀ (k0_t2 : Fin (k0_t2_loop v56_3 v56_1).trips) (k0_t7 : Fin (k0_t7_loop v56_3 v56_1 k0_t2).trips), ∀ (r₁ : Fin 6) (r₂ : Fin 8), ∀ a, (k0_off22 v56_3 v56_1 k0_t2 k0_t7 (BitVec.ofNat 32 r₁.val) (BitVec.ofNat 32 (16 * r₂.val))) a + S16.size a ≤ S34816.size a) ∧
  (∀ k0_t2 : Fin (k0_t2_loop v56_3 v56_1).trips, (k0_t8_loop v56_3 v56_1 k0_t2).OK) ∧
  (∀ (k0_t2 : Fin (k0_t2_loop v56_3 v56_1).trips) (k0_t8 : Fin (k0_t8_loop v56_3 v56_1 k0_t2).trips), ∀ (r₁ : Fin 6) (r₂ : Fin 8), ∀ a, (k0_off29 v56_3 v56_1 k0_t2 k0_t8 (BitVec.ofNat 32 r₁.val) (BitVec.ofNat 32 (16 * r₂.val))) a + S16.size a ≤ S34816.size a) ∧
  (∀ k0_t2 : Fin (k0_t2_loop v56_3 v56_1).trips, (k0_t9_loop v56_3 v56_1 k0_t2).OK) ∧
  (∀ (k0_t2 : Fin (k0_t2_loop v56_3 v56_1).trips) (k0_t9 : Fin (k0_t9_loop v56_3 v56_1 k0_t2).trips), ∀ (r : Fin 8), ∀ a, (k0_off37 v56_3 v56_1 k0_t2 k0_t9 (BitVec.ofNat 32 (16 * r.val))) a + S16.size a ≤ S34816.size a) ∧
  (∀ k0_t2 : Fin (k0_t2_loop v56_3 v56_1).trips, (k0_t10_loop v56_3 v56_1 k0_t2).OK) ∧
  (∀ (k0_t2 : Fin (k0_t2_loop v56_3 v56_1).trips) (k0_t10 : Fin (k0_t10_loop v56_3 v56_1 k0_t2).trips), ∀ (r : Fin 8), ∀ a, (k0_off39 v56_3 v56_1 k0_t2 k0_t10 (BitVec.ofNat 32 (16 * r.val))) a + S16.size a ≤ S34816.size a) ∧
  (∀ k0_t2 : Fin (k0_t2_loop v56_3 v56_1).trips, ∀ (k0_h33 : k0_cond33 v56_3 v56_1 k0_t2 = 1#1), ∀ a, (k0_off40 v56_3 v56_1 k0_t2) a + S34816.size a ≤ S40908800.size a) ∧
  ((k0_t11_loop v56_3 v56_1).OK) ∧
  (∀ k0_t11 : Fin (k0_t11_loop v56_3 v56_1).trips, (k0_t12_loop v56_3 v56_1 k0_t11).OK) ∧
  (∀ (k0_t11 : Fin (k0_t11_loop v56_3 v56_1).trips) (k0_t12 : Fin (k0_t12_loop v56_3 v56_1 k0_t11).trips), ∀ (r₁ : Fin 6) (r₂ : Fin 8), ∀ a, (k0_off41 v56_3 v56_1 k0_t11 k0_t12 (BitVec.ofNat 32 r₁.val) (BitVec.ofNat 32 (16 * r₂.val))) a + S16.size a ≤ S34816.size a) ∧
  (∀ k0_t11 : Fin (k0_t11_loop v56_3 v56_1).trips, (k0_t13_loop v56_3 v56_1 k0_t11).OK) ∧
  (∀ (k0_t11 : Fin (k0_t11_loop v56_3 v56_1).trips) (k0_t13 : Fin (k0_t13_loop v56_3 v56_1 k0_t11).trips), ∀ (r₁ : Fin 6) (r₂ : Fin 8), ∀ a, (k0_off48 v56_3 v56_1 k0_t11 k0_t13 (BitVec.ofNat 32 r₁.val) (BitVec.ofNat 32 (16 * r₂.val))) a + S16.size a ≤ S34816.size a) ∧
  (∀ k0_t11 : Fin (k0_t11_loop v56_3 v56_1).trips, (k0_t14_loop v56_3 v56_1 k0_t11).OK) ∧
  (∀ (k0_t11 : Fin (k0_t11_loop v56_3 v56_1).trips) (k0_t14 : Fin (k0_t14_loop v56_3 v56_1 k0_t11).trips), ∀ (r : Fin 8), ∀ a, (k0_off56 v56_3 v56_1 k0_t11 k0_t14 (BitVec.ofNat 32 (16 * r.val))) a + S16.size a ≤ S34816.size a) ∧
  (∀ k0_t11 : Fin (k0_t11_loop v56_3 v56_1).trips, (k0_t15_loop v56_3 v56_1 k0_t11).OK) ∧
  (∀ (k0_t11 : Fin (k0_t11_loop v56_3 v56_1).trips) (k0_t15 : Fin (k0_t15_loop v56_3 v56_1 k0_t11).trips), ∀ (r : Fin 8), ∀ a, (k0_off58 v56_3 v56_1 k0_t11 k0_t15 (BitVec.ofNat 32 (16 * r.val))) a + S16.size a ≤ S34816.size a) ∧
  (∀ k0_t11 : Fin (k0_t11_loop v56_3 v56_1).trips, ∀ (k0_h48 : k0_cond48 v56_3 v56_1 k0_t11 = 1#1), ∀ a, (k0_off59 v56_3 v56_1 k0_t11) a + S34816.size a ≤ S40908800.size a) ∧
  (∀ k0_t11 : Fin (k0_t11_loop v56_3 v56_1).trips, (k0_t16_loop v56_3 v56_1 k0_t11).OK)
def k0_chk1_1 (v56_3 : BitVec 32) (v56_1 : BitVec 32) : Prop :=
  (∀ (k0_t11 : Fin (k0_t11_loop v56_3 v56_1).trips) (k0_t16 : Fin (k0_t16_loop v56_3 v56_1 k0_t11).trips), ∀ (r₁ : Fin 6) (r₂ : Fin 8), ∀ a, (k0_off60 v56_3 v56_1 k0_t11 k0_t16 (BitVec.ofNat 32 r₁.val) (BitVec.ofNat 32 (16 * r₂.val))) a + S16.size a ≤ S34816.size a) ∧
  (∀ k0_t11 : Fin (k0_t11_loop v56_3 v56_1).trips, (k0_t17_loop v56_3 v56_1 k0_t11).OK) ∧
  (∀ (k0_t11 : Fin (k0_t11_loop v56_3 v56_1).trips) (k0_t17 : Fin (k0_t17_loop v56_3 v56_1 k0_t11).trips), ∀ (r₁ : Fin 6) (r₂ : Fin 8), ∀ a, (k0_off67 v56_3 v56_1 k0_t11 k0_t17 (BitVec.ofNat 32 r₁.val) (BitVec.ofNat 32 (16 * r₂.val))) a + S16.size a ≤ S34816.size a) ∧
  (∀ k0_t11 : Fin (k0_t11_loop v56_3 v56_1).trips, (k0_t18_loop v56_3 v56_1 k0_t11).OK) ∧
  (∀ (k0_t11 : Fin (k0_t11_loop v56_3 v56_1).trips) (k0_t18 : Fin (k0_t18_loop v56_3 v56_1 k0_t11).trips), ∀ (r : Fin 8), ∀ a, (k0_off75 v56_3 v56_1 k0_t11 k0_t18 (BitVec.ofNat 32 (16 * r.val))) a + S16.size a ≤ S34816.size a) ∧
  (∀ k0_t11 : Fin (k0_t11_loop v56_3 v56_1).trips, (k0_t19_loop v56_3 v56_1 k0_t11).OK) ∧
  (∀ (k0_t11 : Fin (k0_t11_loop v56_3 v56_1).trips) (k0_t19 : Fin (k0_t19_loop v56_3 v56_1 k0_t11).trips), ∀ (r : Fin 8), ∀ a, (k0_off77 v56_3 v56_1 k0_t11 k0_t19 (BitVec.ofNat 32 (16 * r.val))) a + S16.size a ≤ S34816.size a) ∧
  (∀ k0_t11 : Fin (k0_t11_loop v56_3 v56_1).trips, ∀ (k0_h64 : k0_cond64 v56_3 v56_1 k0_t11 = 1#1), ∀ a, (k0_off78 v56_3 v56_1 k0_t11) a + S34816.size a ≤ S40908800.size a)
def k0_chk1 (v56_3 : BitVec 32) (v56_1 : BitVec 32) : Prop :=
  k0_chk1_0 v56_3 v56_1 ∧
  k0_chk1_1 v56_3 v56_1
theorem k0_off1_inb : ∀ (v56_3 : BitVec 32) (v56_1 : BitVec 32) (k0_hw1 : k0_chk1 v56_3 v56_1), ∀ (k0_h1 : k0_cond1 v56_3 v56_1 = 1#1), ∀ a, (k0_off1 v56_1) a + S34816.size a ≤ S40908800.size a := fun v56_3 v56_1 k0_hw1 k0_h1 => k0_hw1.1.1 k0_h1
theorem k0_off2_inb : ∀ (v56_3 : BitVec 32) (v56_1 : BitVec 32) (k0_hw1 : k0_chk1 v56_3 v56_1), ∀ (k0_h2 : k0_cond2 v56_3 v56_1 = 1#1), ∀ a, (k0_off2 v56_1) a + S34816.size a ≤ S40908800.size a := fun v56_3 v56_1 k0_hw1 k0_h2 => k0_hw1.1.2.1 k0_h2
theorem k0_t2_ok : ∀ (v56_3 : BitVec 32) (v56_1 : BitVec 32) (k0_hw1 : k0_chk1 v56_3 v56_1), (k0_t2_loop v56_3 v56_1).OK := fun v56_3 v56_1 k0_hw1 => k0_hw1.1.2.2.1
theorem k0_t3_ok : ∀ (v56_3 : BitVec 32) (v56_1 : BitVec 32) (k0_hw1 : k0_chk1 v56_3 v56_1) (k0_t2 : Fin (k0_t2_loop v56_3 v56_1).trips), (k0_t3_loop v56_3 v56_1 k0_t2).OK := fun v56_3 v56_1 k0_hw1 k0_t2 => k0_hw1.1.2.2.2.1 k0_t2
theorem k0_off3_inb : ∀ (v56_3 : BitVec 32) (v56_1 : BitVec 32) (k0_hw1 : k0_chk1 v56_3 v56_1) (k0_t2 : Fin (k0_t2_loop v56_3 v56_1).trips) (k0_t3 : Fin (k0_t3_loop v56_3 v56_1 k0_t2).trips), ∀ (r₁ : Fin 6) (r₂ : Fin 8), ∀ a, (k0_off3 v56_3 v56_1 k0_t2 k0_t3 (BitVec.ofNat 32 r₁.val) (BitVec.ofNat 32 (16 * r₂.val))) a + S16.size a ≤ S34816.size a := fun v56_3 v56_1 k0_hw1 k0_t2 k0_t3 r₁ r₂ => k0_hw1.1.2.2.2.2.1 k0_t2 k0_t3 r₁ r₂
theorem k0_t4_ok : ∀ (v56_3 : BitVec 32) (v56_1 : BitVec 32) (k0_hw1 : k0_chk1 v56_3 v56_1) (k0_t2 : Fin (k0_t2_loop v56_3 v56_1).trips), (k0_t4_loop v56_3 v56_1 k0_t2).OK := fun v56_3 v56_1 k0_hw1 k0_t2 => k0_hw1.1.2.2.2.2.2.1 k0_t2
theorem k0_off10_inb : ∀ (v56_3 : BitVec 32) (v56_1 : BitVec 32) (k0_hw1 : k0_chk1 v56_3 v56_1) (k0_t2 : Fin (k0_t2_loop v56_3 v56_1).trips) (k0_t4 : Fin (k0_t4_loop v56_3 v56_1 k0_t2).trips), ∀ (r₁ : Fin 6) (r₂ : Fin 8), ∀ a, (k0_off10 v56_3 v56_1 k0_t2 k0_t4 (BitVec.ofNat 32 r₁.val) (BitVec.ofNat 32 (16 * r₂.val))) a + S16.size a ≤ S34816.size a := fun v56_3 v56_1 k0_hw1 k0_t2 k0_t4 r₁ r₂ => k0_hw1.1.2.2.2.2.2.2.1 k0_t2 k0_t4 r₁ r₂
theorem k0_t5_ok : ∀ (v56_3 : BitVec 32) (v56_1 : BitVec 32) (k0_hw1 : k0_chk1 v56_3 v56_1) (k0_t2 : Fin (k0_t2_loop v56_3 v56_1).trips), (k0_t5_loop v56_3 v56_1 k0_t2).OK := fun v56_3 v56_1 k0_hw1 k0_t2 => k0_hw1.1.2.2.2.2.2.2.2.1 k0_t2
theorem k0_off18_inb : ∀ (v56_3 : BitVec 32) (v56_1 : BitVec 32) (k0_hw1 : k0_chk1 v56_3 v56_1) (k0_t2 : Fin (k0_t2_loop v56_3 v56_1).trips) (k0_t5 : Fin (k0_t5_loop v56_3 v56_1 k0_t2).trips), ∀ (r : Fin 8), ∀ a, (k0_off18 v56_3 v56_1 k0_t2 k0_t5 (BitVec.ofNat 32 (16 * r.val))) a + S16.size a ≤ S34816.size a := fun v56_3 v56_1 k0_hw1 k0_t2 k0_t5 r => k0_hw1.1.2.2.2.2.2.2.2.2.1 k0_t2 k0_t5 r
theorem k0_t6_ok : ∀ (v56_3 : BitVec 32) (v56_1 : BitVec 32) (k0_hw1 : k0_chk1 v56_3 v56_1) (k0_t2 : Fin (k0_t2_loop v56_3 v56_1).trips), (k0_t6_loop v56_3 v56_1 k0_t2).OK := fun v56_3 v56_1 k0_hw1 k0_t2 => k0_hw1.1.2.2.2.2.2.2.2.2.2.1 k0_t2
theorem k0_off20_inb : ∀ (v56_3 : BitVec 32) (v56_1 : BitVec 32) (k0_hw1 : k0_chk1 v56_3 v56_1) (k0_t2 : Fin (k0_t2_loop v56_3 v56_1).trips) (k0_t6 : Fin (k0_t6_loop v56_3 v56_1 k0_t2).trips), ∀ (r : Fin 8), ∀ a, (k0_off20 v56_3 v56_1 k0_t2 k0_t6 (BitVec.ofNat 32 (16 * r.val))) a + S16.size a ≤ S34816.size a := fun v56_3 v56_1 k0_hw1 k0_t2 k0_t6 r => k0_hw1.1.2.2.2.2.2.2.2.2.2.2.1 k0_t2 k0_t6 r
theorem k0_off21_inb : ∀ (v56_3 : BitVec 32) (v56_1 : BitVec 32) (k0_hw1 : k0_chk1 v56_3 v56_1) (k0_t2 : Fin (k0_t2_loop v56_3 v56_1).trips), ∀ (k0_h17 : k0_cond17 v56_3 v56_1 k0_t2 = 1#1), ∀ a, (k0_off21 v56_3 v56_1 k0_t2) a + S34816.size a ≤ S40908800.size a := fun v56_3 v56_1 k0_hw1 k0_t2 k0_h17 => k0_hw1.1.2.2.2.2.2.2.2.2.2.2.2.1 k0_t2 k0_h17
theorem k0_t7_ok : ∀ (v56_3 : BitVec 32) (v56_1 : BitVec 32) (k0_hw1 : k0_chk1 v56_3 v56_1) (k0_t2 : Fin (k0_t2_loop v56_3 v56_1).trips), (k0_t7_loop v56_3 v56_1 k0_t2).OK := fun v56_3 v56_1 k0_hw1 k0_t2 => k0_hw1.1.2.2.2.2.2.2.2.2.2.2.2.2.1 k0_t2
theorem k0_off22_inb : ∀ (v56_3 : BitVec 32) (v56_1 : BitVec 32) (k0_hw1 : k0_chk1 v56_3 v56_1) (k0_t2 : Fin (k0_t2_loop v56_3 v56_1).trips) (k0_t7 : Fin (k0_t7_loop v56_3 v56_1 k0_t2).trips), ∀ (r₁ : Fin 6) (r₂ : Fin 8), ∀ a, (k0_off22 v56_3 v56_1 k0_t2 k0_t7 (BitVec.ofNat 32 r₁.val) (BitVec.ofNat 32 (16 * r₂.val))) a + S16.size a ≤ S34816.size a := fun v56_3 v56_1 k0_hw1 k0_t2 k0_t7 r₁ r₂ => k0_hw1.1.2.2.2.2.2.2.2.2.2.2.2.2.2.1 k0_t2 k0_t7 r₁ r₂
theorem k0_t8_ok : ∀ (v56_3 : BitVec 32) (v56_1 : BitVec 32) (k0_hw1 : k0_chk1 v56_3 v56_1) (k0_t2 : Fin (k0_t2_loop v56_3 v56_1).trips), (k0_t8_loop v56_3 v56_1 k0_t2).OK := fun v56_3 v56_1 k0_hw1 k0_t2 => k0_hw1.1.2.2.2.2.2.2.2.2.2.2.2.2.2.2.1 k0_t2
theorem k0_off29_inb : ∀ (v56_3 : BitVec 32) (v56_1 : BitVec 32) (k0_hw1 : k0_chk1 v56_3 v56_1) (k0_t2 : Fin (k0_t2_loop v56_3 v56_1).trips) (k0_t8 : Fin (k0_t8_loop v56_3 v56_1 k0_t2).trips), ∀ (r₁ : Fin 6) (r₂ : Fin 8), ∀ a, (k0_off29 v56_3 v56_1 k0_t2 k0_t8 (BitVec.ofNat 32 r₁.val) (BitVec.ofNat 32 (16 * r₂.val))) a + S16.size a ≤ S34816.size a := fun v56_3 v56_1 k0_hw1 k0_t2 k0_t8 r₁ r₂ => k0_hw1.1.2.2.2.2.2.2.2.2.2.2.2.2.2.2.2.1 k0_t2 k0_t8 r₁ r₂
theorem k0_t9_ok : ∀ (v56_3 : BitVec 32) (v56_1 : BitVec 32) (k0_hw1 : k0_chk1 v56_3 v56_1) (k0_t2 : Fin (k0_t2_loop v56_3 v56_1).trips), (k0_t9_loop v56_3 v56_1 k0_t2).OK := fun v56_3 v56_1 k0_hw1 k0_t2 => k0_hw1.1.2.2.2.2.2.2.2.2.2.2.2.2.2.2.2.2.1 k0_t2
theorem k0_off37_inb : ∀ (v56_3 : BitVec 32) (v56_1 : BitVec 32) (k0_hw1 : k0_chk1 v56_3 v56_1) (k0_t2 : Fin (k0_t2_loop v56_3 v56_1).trips) (k0_t9 : Fin (k0_t9_loop v56_3 v56_1 k0_t2).trips), ∀ (r : Fin 8), ∀ a, (k0_off37 v56_3 v56_1 k0_t2 k0_t9 (BitVec.ofNat 32 (16 * r.val))) a + S16.size a ≤ S34816.size a := fun v56_3 v56_1 k0_hw1 k0_t2 k0_t9 r => k0_hw1.1.2.2.2.2.2.2.2.2.2.2.2.2.2.2.2.2.2.1 k0_t2 k0_t9 r
theorem k0_t10_ok : ∀ (v56_3 : BitVec 32) (v56_1 : BitVec 32) (k0_hw1 : k0_chk1 v56_3 v56_1) (k0_t2 : Fin (k0_t2_loop v56_3 v56_1).trips), (k0_t10_loop v56_3 v56_1 k0_t2).OK := fun v56_3 v56_1 k0_hw1 k0_t2 => k0_hw1.1.2.2.2.2.2.2.2.2.2.2.2.2.2.2.2.2.2.2.1 k0_t2
theorem k0_off39_inb : ∀ (v56_3 : BitVec 32) (v56_1 : BitVec 32) (k0_hw1 : k0_chk1 v56_3 v56_1) (k0_t2 : Fin (k0_t2_loop v56_3 v56_1).trips) (k0_t10 : Fin (k0_t10_loop v56_3 v56_1 k0_t2).trips), ∀ (r : Fin 8), ∀ a, (k0_off39 v56_3 v56_1 k0_t2 k0_t10 (BitVec.ofNat 32 (16 * r.val))) a + S16.size a ≤ S34816.size a := fun v56_3 v56_1 k0_hw1 k0_t2 k0_t10 r => k0_hw1.1.2.2.2.2.2.2.2.2.2.2.2.2.2.2.2.2.2.2.2.1 k0_t2 k0_t10 r
theorem k0_off40_inb : ∀ (v56_3 : BitVec 32) (v56_1 : BitVec 32) (k0_hw1 : k0_chk1 v56_3 v56_1) (k0_t2 : Fin (k0_t2_loop v56_3 v56_1).trips), ∀ (k0_h33 : k0_cond33 v56_3 v56_1 k0_t2 = 1#1), ∀ a, (k0_off40 v56_3 v56_1 k0_t2) a + S34816.size a ≤ S40908800.size a := fun v56_3 v56_1 k0_hw1 k0_t2 k0_h33 => k0_hw1.1.2.2.2.2.2.2.2.2.2.2.2.2.2.2.2.2.2.2.2.2.1 k0_t2 k0_h33
theorem k0_t11_ok : ∀ (v56_3 : BitVec 32) (v56_1 : BitVec 32) (k0_hw1 : k0_chk1 v56_3 v56_1), (k0_t11_loop v56_3 v56_1).OK := fun v56_3 v56_1 k0_hw1 => k0_hw1.1.2.2.2.2.2.2.2.2.2.2.2.2.2.2.2.2.2.2.2.2.2.1
theorem k0_t12_ok : ∀ (v56_3 : BitVec 32) (v56_1 : BitVec 32) (k0_hw1 : k0_chk1 v56_3 v56_1) (k0_t11 : Fin (k0_t11_loop v56_3 v56_1).trips), (k0_t12_loop v56_3 v56_1 k0_t11).OK := fun v56_3 v56_1 k0_hw1 k0_t11 => k0_hw1.1.2.2.2.2.2.2.2.2.2.2.2.2.2.2.2.2.2.2.2.2.2.2.1 k0_t11
theorem k0_off41_inb : ∀ (v56_3 : BitVec 32) (v56_1 : BitVec 32) (k0_hw1 : k0_chk1 v56_3 v56_1) (k0_t11 : Fin (k0_t11_loop v56_3 v56_1).trips) (k0_t12 : Fin (k0_t12_loop v56_3 v56_1 k0_t11).trips), ∀ (r₁ : Fin 6) (r₂ : Fin 8), ∀ a, (k0_off41 v56_3 v56_1 k0_t11 k0_t12 (BitVec.ofNat 32 r₁.val) (BitVec.ofNat 32 (16 * r₂.val))) a + S16.size a ≤ S34816.size a := fun v56_3 v56_1 k0_hw1 k0_t11 k0_t12 r₁ r₂ => k0_hw1.1.2.2.2.2.2.2.2.2.2.2.2.2.2.2.2.2.2.2.2.2.2.2.2.1 k0_t11 k0_t12 r₁ r₂
theorem k0_t13_ok : ∀ (v56_3 : BitVec 32) (v56_1 : BitVec 32) (k0_hw1 : k0_chk1 v56_3 v56_1) (k0_t11 : Fin (k0_t11_loop v56_3 v56_1).trips), (k0_t13_loop v56_3 v56_1 k0_t11).OK := fun v56_3 v56_1 k0_hw1 k0_t11 => k0_hw1.1.2.2.2.2.2.2.2.2.2.2.2.2.2.2.2.2.2.2.2.2.2.2.2.2.1 k0_t11
theorem k0_off48_inb : ∀ (v56_3 : BitVec 32) (v56_1 : BitVec 32) (k0_hw1 : k0_chk1 v56_3 v56_1) (k0_t11 : Fin (k0_t11_loop v56_3 v56_1).trips) (k0_t13 : Fin (k0_t13_loop v56_3 v56_1 k0_t11).trips), ∀ (r₁ : Fin 6) (r₂ : Fin 8), ∀ a, (k0_off48 v56_3 v56_1 k0_t11 k0_t13 (BitVec.ofNat 32 r₁.val) (BitVec.ofNat 32 (16 * r₂.val))) a + S16.size a ≤ S34816.size a := fun v56_3 v56_1 k0_hw1 k0_t11 k0_t13 r₁ r₂ => k0_hw1.1.2.2.2.2.2.2.2.2.2.2.2.2.2.2.2.2.2.2.2.2.2.2.2.2.2.1 k0_t11 k0_t13 r₁ r₂
theorem k0_t14_ok : ∀ (v56_3 : BitVec 32) (v56_1 : BitVec 32) (k0_hw1 : k0_chk1 v56_3 v56_1) (k0_t11 : Fin (k0_t11_loop v56_3 v56_1).trips), (k0_t14_loop v56_3 v56_1 k0_t11).OK := fun v56_3 v56_1 k0_hw1 k0_t11 => k0_hw1.1.2.2.2.2.2.2.2.2.2.2.2.2.2.2.2.2.2.2.2.2.2.2.2.2.2.2.1 k0_t11
theorem k0_off56_inb : ∀ (v56_3 : BitVec 32) (v56_1 : BitVec 32) (k0_hw1 : k0_chk1 v56_3 v56_1) (k0_t11 : Fin (k0_t11_loop v56_3 v56_1).trips) (k0_t14 : Fin (k0_t14_loop v56_3 v56_1 k0_t11).trips), ∀ (r : Fin 8), ∀ a, (k0_off56 v56_3 v56_1 k0_t11 k0_t14 (BitVec.ofNat 32 (16 * r.val))) a + S16.size a ≤ S34816.size a := fun v56_3 v56_1 k0_hw1 k0_t11 k0_t14 r => k0_hw1.1.2.2.2.2.2.2.2.2.2.2.2.2.2.2.2.2.2.2.2.2.2.2.2.2.2.2.2.1 k0_t11 k0_t14 r
theorem k0_t15_ok : ∀ (v56_3 : BitVec 32) (v56_1 : BitVec 32) (k0_hw1 : k0_chk1 v56_3 v56_1) (k0_t11 : Fin (k0_t11_loop v56_3 v56_1).trips), (k0_t15_loop v56_3 v56_1 k0_t11).OK := fun v56_3 v56_1 k0_hw1 k0_t11 => k0_hw1.1.2.2.2.2.2.2.2.2.2.2.2.2.2.2.2.2.2.2.2.2.2.2.2.2.2.2.2.2.1 k0_t11
theorem k0_off58_inb : ∀ (v56_3 : BitVec 32) (v56_1 : BitVec 32) (k0_hw1 : k0_chk1 v56_3 v56_1) (k0_t11 : Fin (k0_t11_loop v56_3 v56_1).trips) (k0_t15 : Fin (k0_t15_loop v56_3 v56_1 k0_t11).trips), ∀ (r : Fin 8), ∀ a, (k0_off58 v56_3 v56_1 k0_t11 k0_t15 (BitVec.ofNat 32 (16 * r.val))) a + S16.size a ≤ S34816.size a := fun v56_3 v56_1 k0_hw1 k0_t11 k0_t15 r => k0_hw1.1.2.2.2.2.2.2.2.2.2.2.2.2.2.2.2.2.2.2.2.2.2.2.2.2.2.2.2.2.2.1 k0_t11 k0_t15 r
theorem k0_off59_inb : ∀ (v56_3 : BitVec 32) (v56_1 : BitVec 32) (k0_hw1 : k0_chk1 v56_3 v56_1) (k0_t11 : Fin (k0_t11_loop v56_3 v56_1).trips), ∀ (k0_h48 : k0_cond48 v56_3 v56_1 k0_t11 = 1#1), ∀ a, (k0_off59 v56_3 v56_1 k0_t11) a + S34816.size a ≤ S40908800.size a := fun v56_3 v56_1 k0_hw1 k0_t11 k0_h48 => k0_hw1.1.2.2.2.2.2.2.2.2.2.2.2.2.2.2.2.2.2.2.2.2.2.2.2.2.2.2.2.2.2.2.1 k0_t11 k0_h48
theorem k0_t16_ok : ∀ (v56_3 : BitVec 32) (v56_1 : BitVec 32) (k0_hw1 : k0_chk1 v56_3 v56_1) (k0_t11 : Fin (k0_t11_loop v56_3 v56_1).trips), (k0_t16_loop v56_3 v56_1 k0_t11).OK := fun v56_3 v56_1 k0_hw1 k0_t11 => k0_hw1.1.2.2.2.2.2.2.2.2.2.2.2.2.2.2.2.2.2.2.2.2.2.2.2.2.2.2.2.2.2.2.2 k0_t11
theorem k0_off60_inb : ∀ (v56_3 : BitVec 32) (v56_1 : BitVec 32) (k0_hw1 : k0_chk1 v56_3 v56_1) (k0_t11 : Fin (k0_t11_loop v56_3 v56_1).trips) (k0_t16 : Fin (k0_t16_loop v56_3 v56_1 k0_t11).trips), ∀ (r₁ : Fin 6) (r₂ : Fin 8), ∀ a, (k0_off60 v56_3 v56_1 k0_t11 k0_t16 (BitVec.ofNat 32 r₁.val) (BitVec.ofNat 32 (16 * r₂.val))) a + S16.size a ≤ S34816.size a := fun v56_3 v56_1 k0_hw1 k0_t11 k0_t16 r₁ r₂ => k0_hw1.2.1 k0_t11 k0_t16 r₁ r₂
theorem k0_t17_ok : ∀ (v56_3 : BitVec 32) (v56_1 : BitVec 32) (k0_hw1 : k0_chk1 v56_3 v56_1) (k0_t11 : Fin (k0_t11_loop v56_3 v56_1).trips), (k0_t17_loop v56_3 v56_1 k0_t11).OK := fun v56_3 v56_1 k0_hw1 k0_t11 => k0_hw1.2.2.1 k0_t11
theorem k0_off67_inb : ∀ (v56_3 : BitVec 32) (v56_1 : BitVec 32) (k0_hw1 : k0_chk1 v56_3 v56_1) (k0_t11 : Fin (k0_t11_loop v56_3 v56_1).trips) (k0_t17 : Fin (k0_t17_loop v56_3 v56_1 k0_t11).trips), ∀ (r₁ : Fin 6) (r₂ : Fin 8), ∀ a, (k0_off67 v56_3 v56_1 k0_t11 k0_t17 (BitVec.ofNat 32 r₁.val) (BitVec.ofNat 32 (16 * r₂.val))) a + S16.size a ≤ S34816.size a := fun v56_3 v56_1 k0_hw1 k0_t11 k0_t17 r₁ r₂ => k0_hw1.2.2.2.1 k0_t11 k0_t17 r₁ r₂
theorem k0_t18_ok : ∀ (v56_3 : BitVec 32) (v56_1 : BitVec 32) (k0_hw1 : k0_chk1 v56_3 v56_1) (k0_t11 : Fin (k0_t11_loop v56_3 v56_1).trips), (k0_t18_loop v56_3 v56_1 k0_t11).OK := fun v56_3 v56_1 k0_hw1 k0_t11 => k0_hw1.2.2.2.2.1 k0_t11
theorem k0_off75_inb : ∀ (v56_3 : BitVec 32) (v56_1 : BitVec 32) (k0_hw1 : k0_chk1 v56_3 v56_1) (k0_t11 : Fin (k0_t11_loop v56_3 v56_1).trips) (k0_t18 : Fin (k0_t18_loop v56_3 v56_1 k0_t11).trips), ∀ (r : Fin 8), ∀ a, (k0_off75 v56_3 v56_1 k0_t11 k0_t18 (BitVec.ofNat 32 (16 * r.val))) a + S16.size a ≤ S34816.size a := fun v56_3 v56_1 k0_hw1 k0_t11 k0_t18 r => k0_hw1.2.2.2.2.2.1 k0_t11 k0_t18 r
theorem k0_t19_ok : ∀ (v56_3 : BitVec 32) (v56_1 : BitVec 32) (k0_hw1 : k0_chk1 v56_3 v56_1) (k0_t11 : Fin (k0_t11_loop v56_3 v56_1).trips), (k0_t19_loop v56_3 v56_1 k0_t11).OK := fun v56_3 v56_1 k0_hw1 k0_t11 => k0_hw1.2.2.2.2.2.2.1 k0_t11
theorem k0_off77_inb : ∀ (v56_3 : BitVec 32) (v56_1 : BitVec 32) (k0_hw1 : k0_chk1 v56_3 v56_1) (k0_t11 : Fin (k0_t11_loop v56_3 v56_1).trips) (k0_t19 : Fin (k0_t19_loop v56_3 v56_1 k0_t11).trips), ∀ (r : Fin 8), ∀ a, (k0_off77 v56_3 v56_1 k0_t11 k0_t19 (BitVec.ofNat 32 (16 * r.val))) a + S16.size a ≤ S34816.size a := fun v56_3 v56_1 k0_hw1 k0_t11 k0_t19 r => k0_hw1.2.2.2.2.2.2.2.1 k0_t11 k0_t19 r
theorem k0_off78_inb : ∀ (v56_3 : BitVec 32) (v56_1 : BitVec 32) (k0_hw1 : k0_chk1 v56_3 v56_1) (k0_t11 : Fin (k0_t11_loop v56_3 v56_1).trips), ∀ (k0_h64 : k0_cond64 v56_3 v56_1 k0_t11 = 1#1), ∀ a, (k0_off78 v56_3 v56_1 k0_t11) a + S34816.size a ≤ S40908800.size a := fun v56_3 v56_1 k0_hw1 k0_t11 k0_h64 => k0_hw1.2.2.2.2.2.2.2.2 k0_t11 k0_h64

def k0_off79 (v56_0 : BitVec 32) (v126_9 : BitVec 32) (c0_i32_53 : BitVec 32) : Fin 1 → Nat :=
  let v133 : BitVec 32 := Scalar.subi v126_9 v56_0
  let c128_i32 : BitVec 32 := 128#32
  let v135 : BitVec 32 := Scalar.muli v133 c128_i32
  let v136 : BitVec 32 := Scalar.addi v135 c0_i32_53
  let v137 : Index := Scalar.indexCast v136
  ![v137.toNat]

def k0_chk58 (v56_0 : BitVec 32) (v126_9 : BitVec 32) : Prop :=
  (∀ (r : Fin 8), ∀ a, (k0_off79 v56_0 v126_9 (BitVec.ofNat 32 (16 * r.val))) a + S16.size a ≤ S19456.size a)
theorem k0_off79_inb : ∀ (v56_0 : BitVec 32) (v126_9 : BitVec 32) (k0_hw58 : k0_chk58 v56_0 v126_9), ∀ (r : Fin 8), ∀ a, (k0_off79 v56_0 v126_9 (BitVec.ofNat 32 (16 * r.val))) a + S16.size a ≤ S19456.size a := fun v56_0 v126_9 k0_hw58 r => k0_hw58 r

@[reducible] def k0_t20_loop (v56_0 : BitVec 32) (v56_2 : BitVec 32) : Scf.Loop 32 :=
  let c0_i32_72 : BitVec 32 := 0#32
  let v193 : BitVec 32 := Scalar.subi v56_2 v56_0
  let c7_i32 : BitVec 32 := 7#32
  let v194 : BitVec 32 := Scalar.addi v193 c7_i32
  let c0_i32_65 : BitVec 32 := 0#32
  let v196 : BitVec 1 := Scalar.cmpi .sgt v194 c0_i32_65
  let v197 : BitVec 32 := Scalar.extui v196
  let c0_i32_66 : BitVec 32 := 0#32
  let v198 : BitVec 1 := Scalar.cmpi .slt v194 c0_i32_66
  let v199 : BitVec 32 := Scalar.extui v198
  let v200 : BitVec 32 := Scalar.subi v197 v199
  let c8_i32_64 : BitVec 32 := 8#32
  let c0_i32_67 : BitVec 32 := 0#32
  let v201 : BitVec 1 := Scalar.cmpi .sgt c8_i32_64 c0_i32_67
  let v202 : BitVec 32 := Scalar.extui v201
  let c0_i32_68 : BitVec 32 := 0#32
  let v203 : BitVec 1 := Scalar.cmpi .slt c8_i32_64 c0_i32_68
  let v204 : BitVec 32 := Scalar.extui v203
  let v205 : BitVec 32 := Scalar.subi v202 v204
  let v206 : BitVec 1 := Scalar.cmpi .ne v200 v205
  let v207 : BitVec 32 := Scalar.remsi v194 c8_i32_64
  let c0_i32_69 : BitVec 32 := 0#32
  let v208 : BitVec 1 := Scalar.cmpi .ne v207 c0_i32_69
  let v209 : BitVec 1 := Scalar.andi v206 v208
  let v195 : BitVec 32 := Scalar.divsi v194 c8_i32_64
  let c1_i32_70 : BitVec 32 := 1#32
  let v210 : BitVec 32 := Scalar.subi v195 c1_i32_70
  let v211 : BitVec 32 := Scalar.select v209 v210 v195
  let v212 : BitVec 32 := Scalar.subi v211 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_74 : BitVec 32 := 1#32
  ⟨c0_i32_72, v216, c1_i32_74⟩

def k0_off80 (v56_0 : BitVec 32) (v56_2 : BitVec 32) (k0_t20 : Fin (k0_t20_loop v56_0 v56_2).trips) : Fin 1 → Nat :=
  let c0_i32_72 : BitVec 32 := 0#32
  let c1_i32_74 : BitVec 32 := 1#32
  let arg12 : BitVec 32 := Scf.iv c0_i32_72 c1_i32_74 k0_t20
  let c8_i32_76 : BitVec 32 := 8#32
  let v217 : BitVec 32 := Scalar.muli arg12 c8_i32_76
  let c0_i32_77 : BitVec 32 := 0#32
  let v218 : BitVec 32 := Scalar.addi v217 c0_i32_77
  let c128_i32_121 : BitVec 32 := 128#32
  let v297 : BitVec 32 := Scalar.muli v218 c128_i32_121
  ![v297.toNat]
def k0_cond65 (v56_0 : BitVec 32) (v56_2 : BitVec 32) (k0_t20 : Fin (k0_t20_loop v56_0 v56_2).trips) : BitVec 1 :=
  let c0_i32_72 : BitVec 32 := 0#32
  let c1_i32_74 : BitVec 32 := 1#32
  let arg12 : BitVec 32 := Scf.iv c0_i32_72 c1_i32_74 k0_t20
  let c8_i32_76 : BitVec 32 := 8#32
  let v217 : BitVec 32 := Scalar.muli arg12 c8_i32_76
  let c0_i32_77 : BitVec 32 := 0#32
  let v218 : BitVec 32 := Scalar.addi v217 c0_i32_77
  let v193 : BitVec 32 := Scalar.subi v56_2 v56_0
  let v219 : BitVec 1 := Scalar.cmpi .slt v218 v193
  let v220 : BitVec 32 := Scalar.extui v219
  let c0_i32_78 : BitVec 32 := 0#32
  let v221 : BitVec 1 := Scalar.cmpi .ne v220 c0_i32_78
  v221

def k0_off81 (v56_0 : BitVec 32) (v56_2 : BitVec 32) (k0_t20 : Fin (k0_t20_loop v56_0 v56_2).trips) : Fin 1 → Nat :=
  let c0_i32_72 : BitVec 32 := 0#32
  let c1_i32_74 : BitVec 32 := 1#32
  let arg12 : BitVec 32 := Scf.iv c0_i32_72 c1_i32_74 k0_t20
  let c8_i32_76 : BitVec 32 := 8#32
  let v217 : BitVec 32 := Scalar.muli arg12 c8_i32_76
  let c0_i32_77 : BitVec 32 := 0#32
  let v218 : BitVec 32 := Scalar.addi v217 c0_i32_77
  let v298 : BitVec 32 := Scalar.addi v56_0 v218
  let c128_i32_122 : BitVec 32 := 128#32
  let v299 : BitVec 32 := Scalar.muli v298 c128_i32_122
  ![v299.toNat]
def k0_off82 (v56_0 : BitVec 32) (v56_2 : BitVec 32) (k0_t20 : Fin (k0_t20_loop v56_0 v56_2).trips) : Fin 1 → Nat :=
  let c0_i32_72 : BitVec 32 := 0#32
  let c1_i32_74 : BitVec 32 := 1#32
  let arg12 : BitVec 32 := Scf.iv c0_i32_72 c1_i32_74 k0_t20
  let c8_i32_79 : BitVec 32 := 8#32
  let v222 : BitVec 32 := Scalar.muli arg12 c8_i32_79
  let c1_i32_80 : BitVec 32 := 1#32
  let v223 : BitVec 32 := Scalar.addi v222 c1_i32_80
  let c128_i32_121 : BitVec 32 := 128#32
  let v297 : BitVec 32 := Scalar.muli v223 c128_i32_121
  ![v297.toNat]
def k0_cond66 (v56_0 : BitVec 32) (v56_2 : BitVec 32) (k0_t20 : Fin (k0_t20_loop v56_0 v56_2).trips) : BitVec 1 :=
  let c0_i32_72 : BitVec 32 := 0#32
  let c1_i32_74 : BitVec 32 := 1#32
  let arg12 : BitVec 32 := Scf.iv c0_i32_72 c1_i32_74 k0_t20
  let c8_i32_79 : BitVec 32 := 8#32
  let v222 : BitVec 32 := Scalar.muli arg12 c8_i32_79
  let c1_i32_80 : BitVec 32 := 1#32
  let v223 : BitVec 32 := Scalar.addi v222 c1_i32_80
  let v193 : BitVec 32 := Scalar.subi v56_2 v56_0
  let v224 : BitVec 1 := Scalar.cmpi .slt v223 v193
  let v225 : BitVec 32 := Scalar.extui v224
  let c0_i32_81 : BitVec 32 := 0#32
  let v226 : BitVec 1 := Scalar.cmpi .ne v225 c0_i32_81
  v226

def k0_off83 (v56_0 : BitVec 32) (v56_2 : BitVec 32) (k0_t20 : Fin (k0_t20_loop v56_0 v56_2).trips) : Fin 1 → Nat :=
  let c0_i32_72 : BitVec 32 := 0#32
  let c1_i32_74 : BitVec 32 := 1#32
  let arg12 : BitVec 32 := Scf.iv c0_i32_72 c1_i32_74 k0_t20
  let c8_i32_79 : BitVec 32 := 8#32
  let v222 : BitVec 32 := Scalar.muli arg12 c8_i32_79
  let c1_i32_80 : BitVec 32 := 1#32
  let v223 : BitVec 32 := Scalar.addi v222 c1_i32_80
  let v298 : BitVec 32 := Scalar.addi v56_0 v223
  let c128_i32_122 : BitVec 32 := 128#32
  let v299 : BitVec 32 := Scalar.muli v298 c128_i32_122
  ![v299.toNat]
def k0_off84 (v56_0 : BitVec 32) (v56_2 : BitVec 32) (k0_t20 : Fin (k0_t20_loop v56_0 v56_2).trips) : Fin 1 → Nat :=
  let c0_i32_72 : BitVec 32 := 0#32
  let c1_i32_74 : BitVec 32 := 1#32
  let arg12 : BitVec 32 := Scf.iv c0_i32_72 c1_i32_74 k0_t20
  let c8_i32_82 : BitVec 32 := 8#32
  let v227 : BitVec 32 := Scalar.muli arg12 c8_i32_82
  let c2_i32_83 : BitVec 32 := 2#32
  let v228 : BitVec 32 := Scalar.addi v227 c2_i32_83
  let c128_i32_121 : BitVec 32 := 128#32
  let v297 : BitVec 32 := Scalar.muli v228 c128_i32_121
  ![v297.toNat]
def k0_cond67 (v56_0 : BitVec 32) (v56_2 : BitVec 32) (k0_t20 : Fin (k0_t20_loop v56_0 v56_2).trips) : BitVec 1 :=
  let c0_i32_72 : BitVec 32 := 0#32
  let c1_i32_74 : BitVec 32 := 1#32
  let arg12 : BitVec 32 := Scf.iv c0_i32_72 c1_i32_74 k0_t20
  let c8_i32_82 : BitVec 32 := 8#32
  let v227 : BitVec 32 := Scalar.muli arg12 c8_i32_82
  let c2_i32_83 : BitVec 32 := 2#32
  let v228 : BitVec 32 := Scalar.addi v227 c2_i32_83
  let v193 : BitVec 32 := Scalar.subi v56_2 v56_0
  let v229 : BitVec 1 := Scalar.cmpi .slt v228 v193
  let v230 : BitVec 32 := Scalar.extui v229
  let c0_i32_84 : BitVec 32 := 0#32
  let v231 : BitVec 1 := Scalar.cmpi .ne v230 c0_i32_84
  v231

def k0_off85 (v56_0 : BitVec 32) (v56_2 : BitVec 32) (k0_t20 : Fin (k0_t20_loop v56_0 v56_2).trips) : Fin 1 → Nat :=
  let c0_i32_72 : BitVec 32 := 0#32
  let c1_i32_74 : BitVec 32 := 1#32
  let arg12 : BitVec 32 := Scf.iv c0_i32_72 c1_i32_74 k0_t20
  let c8_i32_82 : BitVec 32 := 8#32
  let v227 : BitVec 32 := Scalar.muli arg12 c8_i32_82
  let c2_i32_83 : BitVec 32 := 2#32
  let v228 : BitVec 32 := Scalar.addi v227 c2_i32_83
  let v298 : BitVec 32 := Scalar.addi v56_0 v228
  let c128_i32_122 : BitVec 32 := 128#32
  let v299 : BitVec 32 := Scalar.muli v298 c128_i32_122
  ![v299.toNat]
def k0_off86 (v56_0 : BitVec 32) (v56_2 : BitVec 32) (k0_t20 : Fin (k0_t20_loop v56_0 v56_2).trips) : Fin 1 → Nat :=
  let c0_i32_72 : BitVec 32 := 0#32
  let c1_i32_74 : BitVec 32 := 1#32
  let arg12 : BitVec 32 := Scf.iv c0_i32_72 c1_i32_74 k0_t20
  let c8_i32_85 : BitVec 32 := 8#32
  let v232 : BitVec 32 := Scalar.muli arg12 c8_i32_85
  let c3_i32 : BitVec 32 := 3#32
  let v233 : BitVec 32 := Scalar.addi v232 c3_i32
  let c128_i32_121 : BitVec 32 := 128#32
  let v297 : BitVec 32 := Scalar.muli v233 c128_i32_121
  ![v297.toNat]
def k0_cond68 (v56_0 : BitVec 32) (v56_2 : BitVec 32) (k0_t20 : Fin (k0_t20_loop v56_0 v56_2).trips) : BitVec 1 :=
  let c0_i32_72 : BitVec 32 := 0#32
  let c1_i32_74 : BitVec 32 := 1#32
  let arg12 : BitVec 32 := Scf.iv c0_i32_72 c1_i32_74 k0_t20
  let c8_i32_85 : BitVec 32 := 8#32
  let v232 : BitVec 32 := Scalar.muli arg12 c8_i32_85
  let c3_i32 : BitVec 32 := 3#32
  let v233 : BitVec 32 := Scalar.addi v232 c3_i32
  let v193 : BitVec 32 := Scalar.subi v56_2 v56_0
  let v234 : BitVec 1 := Scalar.cmpi .slt v233 v193
  let v235 : BitVec 32 := Scalar.extui v234
  let c0_i32_86 : BitVec 32 := 0#32
  let v236 : BitVec 1 := Scalar.cmpi .ne v235 c0_i32_86
  v236

def k0_off87 (v56_0 : BitVec 32) (v56_2 : BitVec 32) (k0_t20 : Fin (k0_t20_loop v56_0 v56_2).trips) : Fin 1 → Nat :=
  let c0_i32_72 : BitVec 32 := 0#32
  let c1_i32_74 : BitVec 32 := 1#32
  let arg12 : BitVec 32 := Scf.iv c0_i32_72 c1_i32_74 k0_t20
  let c8_i32_85 : BitVec 32 := 8#32
  let v232 : BitVec 32 := Scalar.muli arg12 c8_i32_85
  let c3_i32 : BitVec 32 := 3#32
  let v233 : BitVec 32 := Scalar.addi v232 c3_i32
  let v298 : BitVec 32 := Scalar.addi v56_0 v233
  let c128_i32_122 : BitVec 32 := 128#32
  let v299 : BitVec 32 := Scalar.muli v298 c128_i32_122
  ![v299.toNat]
def k0_off88 (v56_0 : BitVec 32) (v56_2 : BitVec 32) (k0_t20 : Fin (k0_t20_loop v56_0 v56_2).trips) : Fin 1 → Nat :=
  let c0_i32_72 : BitVec 32 := 0#32
  let c1_i32_74 : BitVec 32 := 1#32
  let arg12 : BitVec 32 := Scf.iv c0_i32_72 c1_i32_74 k0_t20
  let c8_i32_87 : BitVec 32 := 8#32
  let v237 : BitVec 32 := Scalar.muli arg12 c8_i32_87
  let c4_i32_88 : BitVec 32 := 4#32
  let v238 : BitVec 32 := Scalar.addi v237 c4_i32_88
  let c128_i32_121 : BitVec 32 := 128#32
  let v297 : BitVec 32 := Scalar.muli v238 c128_i32_121
  ![v297.toNat]
def k0_cond69 (v56_0 : BitVec 32) (v56_2 : BitVec 32) (k0_t20 : Fin (k0_t20_loop v56_0 v56_2).trips) : BitVec 1 :=
  let c0_i32_72 : BitVec 32 := 0#32
  let c1_i32_74 : BitVec 32 := 1#32
  let arg12 : BitVec 32 := Scf.iv c0_i32_72 c1_i32_74 k0_t20
  let c8_i32_87 : BitVec 32 := 8#32
  let v237 : BitVec 32 := Scalar.muli arg12 c8_i32_87
  let c4_i32_88 : BitVec 32 := 4#32
  let v238 : BitVec 32 := Scalar.addi v237 c4_i32_88
  let v193 : BitVec 32 := Scalar.subi v56_2 v56_0
  let v239 : BitVec 1 := Scalar.cmpi .slt v238 v193
  let v240 : BitVec 32 := Scalar.extui v239
  let c0_i32_89 : BitVec 32 := 0#32
  let v241 : BitVec 1 := Scalar.cmpi .ne v240 c0_i32_89
  v241

def k0_off89 (v56_0 : BitVec 32) (v56_2 : BitVec 32) (k0_t20 : Fin (k0_t20_loop v56_0 v56_2).trips) : Fin 1 → Nat :=
  let c0_i32_72 : BitVec 32 := 0#32
  let c1_i32_74 : BitVec 32 := 1#32
  let arg12 : BitVec 32 := Scf.iv c0_i32_72 c1_i32_74 k0_t20
  let c8_i32_87 : BitVec 32 := 8#32
  let v237 : BitVec 32 := Scalar.muli arg12 c8_i32_87
  let c4_i32_88 : BitVec 32 := 4#32
  let v238 : BitVec 32 := Scalar.addi v237 c4_i32_88
  let v298 : BitVec 32 := Scalar.addi v56_0 v238
  let c128_i32_122 : BitVec 32 := 128#32
  let v299 : BitVec 32 := Scalar.muli v298 c128_i32_122
  ![v299.toNat]
def k0_off90 (v56_0 : BitVec 32) (v56_2 : BitVec 32) (k0_t20 : Fin (k0_t20_loop v56_0 v56_2).trips) : Fin 1 → Nat :=
  let c0_i32_72 : BitVec 32 := 0#32
  let c1_i32_74 : BitVec 32 := 1#32
  let arg12 : BitVec 32 := Scf.iv c0_i32_72 c1_i32_74 k0_t20
  let c8_i32_90 : BitVec 32 := 8#32
  let v242 : BitVec 32 := Scalar.muli arg12 c8_i32_90
  let c5_i32 : BitVec 32 := 5#32
  let v243 : BitVec 32 := Scalar.addi v242 c5_i32
  let c128_i32_121 : BitVec 32 := 128#32
  let v297 : BitVec 32 := Scalar.muli v243 c128_i32_121
  ![v297.toNat]
def k0_cond70 (v56_0 : BitVec 32) (v56_2 : BitVec 32) (k0_t20 : Fin (k0_t20_loop v56_0 v56_2).trips) : BitVec 1 :=
  let c0_i32_72 : BitVec 32 := 0#32
  let c1_i32_74 : BitVec 32 := 1#32
  let arg12 : BitVec 32 := Scf.iv c0_i32_72 c1_i32_74 k0_t20
  let c8_i32_90 : BitVec 32 := 8#32
  let v242 : BitVec 32 := Scalar.muli arg12 c8_i32_90
  let c5_i32 : BitVec 32 := 5#32
  let v243 : BitVec 32 := Scalar.addi v242 c5_i32
  let v193 : BitVec 32 := Scalar.subi v56_2 v56_0
  let v244 : BitVec 1 := Scalar.cmpi .slt v243 v193
  let v245 : BitVec 32 := Scalar.extui v244
  let c0_i32_91 : BitVec 32 := 0#32
  let v246 : BitVec 1 := Scalar.cmpi .ne v245 c0_i32_91
  v246

def k0_off91 (v56_0 : BitVec 32) (v56_2 : BitVec 32) (k0_t20 : Fin (k0_t20_loop v56_0 v56_2).trips) : Fin 1 → Nat :=
  let c0_i32_72 : BitVec 32 := 0#32
  let c1_i32_74 : BitVec 32 := 1#32
  let arg12 : BitVec 32 := Scf.iv c0_i32_72 c1_i32_74 k0_t20
  let c8_i32_90 : BitVec 32 := 8#32
  let v242 : BitVec 32 := Scalar.muli arg12 c8_i32_90
  let c5_i32 : BitVec 32 := 5#32
  let v243 : BitVec 32 := Scalar.addi v242 c5_i32
  let v298 : BitVec 32 := Scalar.addi v56_0 v243
  let c128_i32_122 : BitVec 32 := 128#32
  let v299 : BitVec 32 := Scalar.muli v298 c128_i32_122
  ![v299.toNat]
def k0_off92 (v56_0 : BitVec 32) (v56_2 : BitVec 32) (k0_t20 : Fin (k0_t20_loop v56_0 v56_2).trips) : Fin 1 → Nat :=
  let c0_i32_72 : BitVec 32 := 0#32
  let c1_i32_74 : BitVec 32 := 1#32
  let arg12 : BitVec 32 := Scf.iv c0_i32_72 c1_i32_74 k0_t20
  let c8_i32_92 : BitVec 32 := 8#32
  let v247 : BitVec 32 := Scalar.muli arg12 c8_i32_92
  let c6_i32 : BitVec 32 := 6#32
  let v248 : BitVec 32 := Scalar.addi v247 c6_i32
  let c128_i32_121 : BitVec 32 := 128#32
  let v297 : BitVec 32 := Scalar.muli v248 c128_i32_121
  ![v297.toNat]
def k0_cond71 (v56_0 : BitVec 32) (v56_2 : BitVec 32) (k0_t20 : Fin (k0_t20_loop v56_0 v56_2).trips) : BitVec 1 :=
  let c0_i32_72 : BitVec 32 := 0#32
  let c1_i32_74 : BitVec 32 := 1#32
  let arg12 : BitVec 32 := Scf.iv c0_i32_72 c1_i32_74 k0_t20
  let c8_i32_92 : BitVec 32 := 8#32
  let v247 : BitVec 32 := Scalar.muli arg12 c8_i32_92
  let c6_i32 : BitVec 32 := 6#32
  let v248 : BitVec 32 := Scalar.addi v247 c6_i32
  let v193 : BitVec 32 := Scalar.subi v56_2 v56_0
  let v249 : BitVec 1 := Scalar.cmpi .slt v248 v193
  let v250 : BitVec 32 := Scalar.extui v249
  let c0_i32_93 : BitVec 32 := 0#32
  let v251 : BitVec 1 := Scalar.cmpi .ne v250 c0_i32_93
  v251

def k0_off93 (v56_0 : BitVec 32) (v56_2 : BitVec 32) (k0_t20 : Fin (k0_t20_loop v56_0 v56_2).trips) : Fin 1 → Nat :=
  let c0_i32_72 : BitVec 32 := 0#32
  let c1_i32_74 : BitVec 32 := 1#32
  let arg12 : BitVec 32 := Scf.iv c0_i32_72 c1_i32_74 k0_t20
  let c8_i32_92 : BitVec 32 := 8#32
  let v247 : BitVec 32 := Scalar.muli arg12 c8_i32_92
  let c6_i32 : BitVec 32 := 6#32
  let v248 : BitVec 32 := Scalar.addi v247 c6_i32
  let v298 : BitVec 32 := Scalar.addi v56_0 v248
  let c128_i32_122 : BitVec 32 := 128#32
  let v299 : BitVec 32 := Scalar.muli v298 c128_i32_122
  ![v299.toNat]
def k0_off94 (v56_0 : BitVec 32) (v56_2 : BitVec 32) (k0_t20 : Fin (k0_t20_loop v56_0 v56_2).trips) : Fin 1 → Nat :=
  let c0_i32_72 : BitVec 32 := 0#32
  let c1_i32_74 : BitVec 32 := 1#32
  let arg12 : BitVec 32 := Scf.iv c0_i32_72 c1_i32_74 k0_t20
  let c8_i32_94 : BitVec 32 := 8#32
  let v252 : BitVec 32 := Scalar.muli arg12 c8_i32_94
  let c7_i32_95 : BitVec 32 := 7#32
  let v253 : BitVec 32 := Scalar.addi v252 c7_i32_95
  let c128_i32_121 : BitVec 32 := 128#32
  let v297 : BitVec 32 := Scalar.muli v253 c128_i32_121
  ![v297.toNat]
def k0_cond72 (v56_0 : BitVec 32) (v56_2 : BitVec 32) (k0_t20 : Fin (k0_t20_loop v56_0 v56_2).trips) : BitVec 1 :=
  let c0_i32_72 : BitVec 32 := 0#32
  let c1_i32_74 : BitVec 32 := 1#32
  let arg12 : BitVec 32 := Scf.iv c0_i32_72 c1_i32_74 k0_t20
  let c8_i32_94 : BitVec 32 := 8#32
  let v252 : BitVec 32 := Scalar.muli arg12 c8_i32_94
  let c7_i32_95 : BitVec 32 := 7#32
  let v253 : BitVec 32 := Scalar.addi v252 c7_i32_95
  let v193 : BitVec 32 := Scalar.subi v56_2 v56_0
  let v254 : BitVec 1 := Scalar.cmpi .slt v253 v193
  let v255 : BitVec 32 := Scalar.extui v254
  let c0_i32_96 : BitVec 32 := 0#32
  let v256 : BitVec 1 := Scalar.cmpi .ne v255 c0_i32_96
  v256

def k0_off95 (v56_0 : BitVec 32) (v56_2 : BitVec 32) (k0_t20 : Fin (k0_t20_loop v56_0 v56_2).trips) : Fin 1 → Nat :=
  let c0_i32_72 : BitVec 32 := 0#32
  let c1_i32_74 : BitVec 32 := 1#32
  let arg12 : BitVec 32 := Scf.iv c0_i32_72 c1_i32_74 k0_t20
  let c8_i32_94 : BitVec 32 := 8#32
  let v252 : BitVec 32 := Scalar.muli arg12 c8_i32_94
  let c7_i32_95 : BitVec 32 := 7#32
  let v253 : BitVec 32 := Scalar.addi v252 c7_i32_95
  let v298 : BitVec 32 := Scalar.addi v56_0 v253
  let c128_i32_122 : BitVec 32 := 128#32
  let v299 : BitVec 32 := Scalar.muli v298 c128_i32_122
  ![v299.toNat]
def k0_off96 (v56_0 : BitVec 32) : Fin 1 → Nat :=
  let c128_i32_121 : BitVec 32 := 128#32
  let v297 : BitVec 32 := Scalar.muli v56_0 c128_i32_121
  ![v297.toNat]
def k0_cond73 (v56_0 : BitVec 32) (v56_2 : BitVec 32) (k0_t20 : Fin (k0_t20_loop v56_0 v56_2).trips) : BitVec 1 :=
  let c0_i32_72 : BitVec 32 := 0#32
  let c1_i32_74 : BitVec 32 := 1#32
  let arg12 : BitVec 32 := Scf.iv c0_i32_72 c1_i32_74 k0_t20
  let c8_i32_97 : BitVec 32 := 8#32
  let v257 : BitVec 32 := Scalar.muli arg12 c8_i32_97
  let c0_i32_98 : BitVec 32 := 0#32
  let v258 : BitVec 32 := Scalar.addi v257 c0_i32_98
  let v193 : BitVec 32 := Scalar.subi v56_2 v56_0
  let v259 : BitVec 1 := Scalar.cmpi .slt v258 v193
  let v260 : BitVec 32 := Scalar.extui v259
  let c0_i32_99 : BitVec 32 := 0#32
  let v261 : BitVec 1 := Scalar.cmpi .ne v260 c0_i32_99
  v261

def k0_off97 (v56_0 : BitVec 32) : Fin 1 → Nat :=
  let c128_i32_121 : BitVec 32 := 128#32
  let v297 : BitVec 32 := Scalar.muli v56_0 c128_i32_121
  ![v297.toNat]
def k0_cond74 (v56_0 : BitVec 32) (v56_2 : BitVec 32) (k0_t20 : Fin (k0_t20_loop v56_0 v56_2).trips) : BitVec 1 :=
  let c0_i32_72 : BitVec 32 := 0#32
  let c1_i32_74 : BitVec 32 := 1#32
  let arg12 : BitVec 32 := Scf.iv c0_i32_72 c1_i32_74 k0_t20
  let c8_i32_100 : BitVec 32 := 8#32
  let v262 : BitVec 32 := Scalar.muli arg12 c8_i32_100
  let c1_i32_101 : BitVec 32 := 1#32
  let v263 : BitVec 32 := Scalar.addi v262 c1_i32_101
  let v193 : BitVec 32 := Scalar.subi v56_2 v56_0
  let v264 : BitVec 1 := Scalar.cmpi .slt v263 v193
  let v265 : BitVec 32 := Scalar.extui v264
  let c0_i32_102 : BitVec 32 := 0#32
  let v266 : BitVec 1 := Scalar.cmpi .ne v265 c0_i32_102
  v266

def k0_off98 (v56_0 : BitVec 32) : Fin 1 → Nat :=
  let c128_i32_121 : BitVec 32 := 128#32
  let v297 : BitVec 32 := Scalar.muli v56_0 c128_i32_121
  ![v297.toNat]
def k0_cond75 (v56_0 : BitVec 32) (v56_2 : BitVec 32) (k0_t20 : Fin (k0_t20_loop v56_0 v56_2).trips) : BitVec 1 :=
  let c0_i32_72 : BitVec 32 := 0#32
  let c1_i32_74 : BitVec 32 := 1#32
  let arg12 : BitVec 32 := Scf.iv c0_i32_72 c1_i32_74 k0_t20
  let c8_i32_103 : BitVec 32 := 8#32
  let v267 : BitVec 32 := Scalar.muli arg12 c8_i32_103
  let c2_i32_104 : BitVec 32 := 2#32
  let v268 : BitVec 32 := Scalar.addi v267 c2_i32_104
  let v193 : BitVec 32 := Scalar.subi v56_2 v56_0
  let v269 : BitVec 1 := Scalar.cmpi .slt v268 v193
  let v270 : BitVec 32 := Scalar.extui v269
  let c0_i32_105 : BitVec 32 := 0#32
  let v271 : BitVec 1 := Scalar.cmpi .ne v270 c0_i32_105
  v271

def k0_off99 (v56_0 : BitVec 32) : Fin 1 → Nat :=
  let c128_i32_121 : BitVec 32 := 128#32
  let v297 : BitVec 32 := Scalar.muli v56_0 c128_i32_121
  ![v297.toNat]
def k0_cond76 (v56_0 : BitVec 32) (v56_2 : BitVec 32) (k0_t20 : Fin (k0_t20_loop v56_0 v56_2).trips) : BitVec 1 :=
  let c0_i32_72 : BitVec 32 := 0#32
  let c1_i32_74 : BitVec 32 := 1#32
  let arg12 : BitVec 32 := Scf.iv c0_i32_72 c1_i32_74 k0_t20
  let c8_i32_106 : BitVec 32 := 8#32
  let v272 : BitVec 32 := Scalar.muli arg12 c8_i32_106
  let c3_i32_107 : BitVec 32 := 3#32
  let v273 : BitVec 32 := Scalar.addi v272 c3_i32_107
  let v193 : BitVec 32 := Scalar.subi v56_2 v56_0
  let v274 : BitVec 1 := Scalar.cmpi .slt v273 v193
  let v275 : BitVec 32 := Scalar.extui v274
  let c0_i32_108 : BitVec 32 := 0#32
  let v276 : BitVec 1 := Scalar.cmpi .ne v275 c0_i32_108
  v276

def k0_off100 (v56_0 : BitVec 32) : Fin 1 → Nat :=
  let c128_i32_121 : BitVec 32 := 128#32
  let v297 : BitVec 32 := Scalar.muli v56_0 c128_i32_121
  ![v297.toNat]
def k0_cond77 (v56_0 : BitVec 32) (v56_2 : BitVec 32) (k0_t20 : Fin (k0_t20_loop v56_0 v56_2).trips) : BitVec 1 :=
  let c0_i32_72 : BitVec 32 := 0#32
  let c1_i32_74 : BitVec 32 := 1#32
  let arg12 : BitVec 32 := Scf.iv c0_i32_72 c1_i32_74 k0_t20
  let c8_i32_109 : BitVec 32 := 8#32
  let v277 : BitVec 32 := Scalar.muli arg12 c8_i32_109
  let c4_i32_110 : BitVec 32 := 4#32
  let v278 : BitVec 32 := Scalar.addi v277 c4_i32_110
  let v193 : BitVec 32 := Scalar.subi v56_2 v56_0
  let v279 : BitVec 1 := Scalar.cmpi .slt v278 v193
  let v280 : BitVec 32 := Scalar.extui v279
  let c0_i32_111 : BitVec 32 := 0#32
  let v281 : BitVec 1 := Scalar.cmpi .ne v280 c0_i32_111
  v281

def k0_off101 (v56_0 : BitVec 32) : Fin 1 → Nat :=
  let c128_i32_121 : BitVec 32 := 128#32
  let v297 : BitVec 32 := Scalar.muli v56_0 c128_i32_121
  ![v297.toNat]
def k0_cond78 (v56_0 : BitVec 32) (v56_2 : BitVec 32) (k0_t20 : Fin (k0_t20_loop v56_0 v56_2).trips) : BitVec 1 :=
  let c0_i32_72 : BitVec 32 := 0#32
  let c1_i32_74 : BitVec 32 := 1#32
  let arg12 : BitVec 32 := Scf.iv c0_i32_72 c1_i32_74 k0_t20
  let c8_i32_112 : BitVec 32 := 8#32
  let v282 : BitVec 32 := Scalar.muli arg12 c8_i32_112
  let c5_i32_113 : BitVec 32 := 5#32
  let v283 : BitVec 32 := Scalar.addi v282 c5_i32_113
  let v193 : BitVec 32 := Scalar.subi v56_2 v56_0
  let v284 : BitVec 1 := Scalar.cmpi .slt v283 v193
  let v285 : BitVec 32 := Scalar.extui v284
  let c0_i32_114 : BitVec 32 := 0#32
  let v286 : BitVec 1 := Scalar.cmpi .ne v285 c0_i32_114
  v286

def k0_off102 (v56_0 : BitVec 32) : Fin 1 → Nat :=
  let c128_i32_121 : BitVec 32 := 128#32
  let v297 : BitVec 32 := Scalar.muli v56_0 c128_i32_121
  ![v297.toNat]
def k0_cond79 (v56_0 : BitVec 32) (v56_2 : BitVec 32) (k0_t20 : Fin (k0_t20_loop v56_0 v56_2).trips) : BitVec 1 :=
  let c0_i32_72 : BitVec 32 := 0#32
  let c1_i32_74 : BitVec 32 := 1#32
  let arg12 : BitVec 32 := Scf.iv c0_i32_72 c1_i32_74 k0_t20
  let c8_i32_115 : BitVec 32 := 8#32
  let v287 : BitVec 32 := Scalar.muli arg12 c8_i32_115
  let c6_i32_116 : BitVec 32 := 6#32
  let v288 : BitVec 32 := Scalar.addi v287 c6_i32_116
  let v193 : BitVec 32 := Scalar.subi v56_2 v56_0
  let v289 : BitVec 1 := Scalar.cmpi .slt v288 v193
  let v290 : BitVec 32 := Scalar.extui v289
  let c0_i32_117 : BitVec 32 := 0#32
  let v291 : BitVec 1 := Scalar.cmpi .ne v290 c0_i32_117
  v291

def k0_off103 (v56_0 : BitVec 32) : Fin 1 → Nat :=
  let c128_i32_121 : BitVec 32 := 128#32
  let v297 : BitVec 32 := Scalar.muli v56_0 c128_i32_121
  ![v297.toNat]
def k0_cond80 (v56_0 : BitVec 32) (v56_2 : BitVec 32) (k0_t20 : Fin (k0_t20_loop v56_0 v56_2).trips) : BitVec 1 :=
  let c0_i32_72 : BitVec 32 := 0#32
  let c1_i32_74 : BitVec 32 := 1#32
  let arg12 : BitVec 32 := Scf.iv c0_i32_72 c1_i32_74 k0_t20
  let c8_i32_118 : BitVec 32 := 8#32
  let v292 : BitVec 32 := Scalar.muli arg12 c8_i32_118
  let c7_i32_119 : BitVec 32 := 7#32
  let v293 : BitVec 32 := Scalar.addi v292 c7_i32_119
  let v193 : BitVec 32 := Scalar.subi v56_2 v56_0
  let v294 : BitVec 1 := Scalar.cmpi .slt v293 v193
  let v295 : BitVec 32 := Scalar.extui v294
  let c0_i32_120 : BitVec 32 := 0#32
  let v296 : BitVec 1 := Scalar.cmpi .ne v295 c0_i32_120
  v296

@[reducible] def k0_t21_loop (v56_0 : BitVec 32) (v56_2 : BitVec 32) : Scf.Loop 32 :=
  let c0_i32_72 : BitVec 32 := 0#32
  let v193 : BitVec 32 := Scalar.subi v56_2 v56_0
  let c7_i32 : BitVec 32 := 7#32
  let v194 : BitVec 32 := Scalar.addi v193 c7_i32
  let c0_i32_65 : BitVec 32 := 0#32
  let v196 : BitVec 1 := Scalar.cmpi .sgt v194 c0_i32_65
  let v197 : BitVec 32 := Scalar.extui v196
  let c0_i32_66 : BitVec 32 := 0#32
  let v198 : BitVec 1 := Scalar.cmpi .slt v194 c0_i32_66
  let v199 : BitVec 32 := Scalar.extui v198
  let v200 : BitVec 32 := Scalar.subi v197 v199
  let c8_i32_64 : BitVec 32 := 8#32
  let c0_i32_67 : BitVec 32 := 0#32
  let v201 : BitVec 1 := Scalar.cmpi .sgt c8_i32_64 c0_i32_67
  let v202 : BitVec 32 := Scalar.extui v201
  let c0_i32_68 : BitVec 32 := 0#32
  let v203 : BitVec 1 := Scalar.cmpi .slt c8_i32_64 c0_i32_68
  let v204 : BitVec 32 := Scalar.extui v203
  let v205 : BitVec 32 := Scalar.subi v202 v204
  let v206 : BitVec 1 := Scalar.cmpi .ne v200 v205
  let v207 : BitVec 32 := Scalar.remsi v194 c8_i32_64
  let c0_i32_69 : BitVec 32 := 0#32
  let v208 : BitVec 1 := Scalar.cmpi .ne v207 c0_i32_69
  let v209 : BitVec 1 := Scalar.andi v206 v208
  let v195 : BitVec 32 := Scalar.divsi v194 c8_i32_64
  let c1_i32_70 : BitVec 32 := 1#32
  let v210 : BitVec 32 := Scalar.subi v195 c1_i32_70
  let v211 : BitVec 32 := Scalar.select v209 v210 v195
  let v212 : BitVec 32 := Scalar.subi v211 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let v213 : BitVec 32 := Scalar.addi c0_i32_72 v212
  let c1_i32_75 : BitVec 32 := 1#32
  ⟨v216, v213, c1_i32_75⟩
def k0_off104 (v56_0 : BitVec 32) (v56_2 : BitVec 32) (k0_t21 : Fin (k0_t21_loop v56_0 v56_2).trips) : Fin 1 → Nat :=
  let c0_i32_72 : BitVec 32 := 0#32
  let v193 : BitVec 32 := Scalar.subi v56_2 v56_0
  let c7_i32 : BitVec 32 := 7#32
  let v194 : BitVec 32 := Scalar.addi v193 c7_i32
  let c0_i32_65 : BitVec 32 := 0#32
  let v196 : BitVec 1 := Scalar.cmpi .sgt v194 c0_i32_65
  let v197 : BitVec 32 := Scalar.extui v196
  let c0_i32_66 : BitVec 32 := 0#32
  let v198 : BitVec 1 := Scalar.cmpi .slt v194 c0_i32_66
  let v199 : BitVec 32 := Scalar.extui v198
  let v200 : BitVec 32 := Scalar.subi v197 v199
  let c8_i32_64 : BitVec 32 := 8#32
  let c0_i32_67 : BitVec 32 := 0#32
  let v201 : BitVec 1 := Scalar.cmpi .sgt c8_i32_64 c0_i32_67
  let v202 : BitVec 32 := Scalar.extui v201
  let c0_i32_68 : BitVec 32 := 0#32
  let v203 : BitVec 1 := Scalar.cmpi .slt c8_i32_64 c0_i32_68
  let v204 : BitVec 32 := Scalar.extui v203
  let v205 : BitVec 32 := Scalar.subi v202 v204
  let v206 : BitVec 1 := Scalar.cmpi .ne v200 v205
  let v207 : BitVec 32 := Scalar.remsi v194 c8_i32_64
  let c0_i32_69 : BitVec 32 := 0#32
  let v208 : BitVec 1 := Scalar.cmpi .ne v207 c0_i32_69
  let v209 : BitVec 1 := Scalar.andi v206 v208
  let v195 : BitVec 32 := Scalar.divsi v194 c8_i32_64
  let c1_i32_70 : BitVec 32 := 1#32
  let v210 : BitVec 32 := Scalar.subi v195 c1_i32_70
  let v211 : BitVec 32 := Scalar.select v209 v210 v195
  let v212 : BitVec 32 := Scalar.subi v211 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg12 : BitVec 32 := Scf.iv v216 c1_i32_75 k0_t21
  let c8_i32_76 : BitVec 32 := 8#32
  let v217 : BitVec 32 := Scalar.muli arg12 c8_i32_76
  let c0_i32_77 : BitVec 32 := 0#32
  let v218 : BitVec 32 := Scalar.addi v217 c0_i32_77
  let c128_i32_121 : BitVec 32 := 128#32
  let v297 : BitVec 32 := Scalar.muli v218 c128_i32_121
  ![v297.toNat]
def k0_cond81 (v56_0 : BitVec 32) (v56_2 : BitVec 32) (k0_t21 : Fin (k0_t21_loop v56_0 v56_2).trips) : BitVec 1 :=
  let c0_i32_72 : BitVec 32 := 0#32
  let v193 : BitVec 32 := Scalar.subi v56_2 v56_0
  let c7_i32 : BitVec 32 := 7#32
  let v194 : BitVec 32 := Scalar.addi v193 c7_i32
  let c0_i32_65 : BitVec 32 := 0#32
  let v196 : BitVec 1 := Scalar.cmpi .sgt v194 c0_i32_65
  let v197 : BitVec 32 := Scalar.extui v196
  let c0_i32_66 : BitVec 32 := 0#32
  let v198 : BitVec 1 := Scalar.cmpi .slt v194 c0_i32_66
  let v199 : BitVec 32 := Scalar.extui v198
  let v200 : BitVec 32 := Scalar.subi v197 v199
  let c8_i32_64 : BitVec 32 := 8#32
  let c0_i32_67 : BitVec 32 := 0#32
  let v201 : BitVec 1 := Scalar.cmpi .sgt c8_i32_64 c0_i32_67
  let v202 : BitVec 32 := Scalar.extui v201
  let c0_i32_68 : BitVec 32 := 0#32
  let v203 : BitVec 1 := Scalar.cmpi .slt c8_i32_64 c0_i32_68
  let v204 : BitVec 32 := Scalar.extui v203
  let v205 : BitVec 32 := Scalar.subi v202 v204
  let v206 : BitVec 1 := Scalar.cmpi .ne v200 v205
  let v207 : BitVec 32 := Scalar.remsi v194 c8_i32_64
  let c0_i32_69 : BitVec 32 := 0#32
  let v208 : BitVec 1 := Scalar.cmpi .ne v207 c0_i32_69
  let v209 : BitVec 1 := Scalar.andi v206 v208
  let v195 : BitVec 32 := Scalar.divsi v194 c8_i32_64
  let c1_i32_70 : BitVec 32 := 1#32
  let v210 : BitVec 32 := Scalar.subi v195 c1_i32_70
  let v211 : BitVec 32 := Scalar.select v209 v210 v195
  let v212 : BitVec 32 := Scalar.subi v211 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg12 : BitVec 32 := Scf.iv v216 c1_i32_75 k0_t21
  let c8_i32_76 : BitVec 32 := 8#32
  let v217 : BitVec 32 := Scalar.muli arg12 c8_i32_76
  let c0_i32_77 : BitVec 32 := 0#32
  let v218 : BitVec 32 := Scalar.addi v217 c0_i32_77
  let v219 : BitVec 1 := Scalar.cmpi .slt v218 v193
  let v220 : BitVec 32 := Scalar.extui v219
  let c0_i32_78 : BitVec 32 := 0#32
  let v221 : BitVec 1 := Scalar.cmpi .ne v220 c0_i32_78
  v221

def k0_off105 (v56_0 : BitVec 32) (v56_2 : BitVec 32) (k0_t21 : Fin (k0_t21_loop v56_0 v56_2).trips) : Fin 1 → Nat :=
  let c0_i32_72 : BitVec 32 := 0#32
  let v193 : BitVec 32 := Scalar.subi v56_2 v56_0
  let c7_i32 : BitVec 32 := 7#32
  let v194 : BitVec 32 := Scalar.addi v193 c7_i32
  let c0_i32_65 : BitVec 32 := 0#32
  let v196 : BitVec 1 := Scalar.cmpi .sgt v194 c0_i32_65
  let v197 : BitVec 32 := Scalar.extui v196
  let c0_i32_66 : BitVec 32 := 0#32
  let v198 : BitVec 1 := Scalar.cmpi .slt v194 c0_i32_66
  let v199 : BitVec 32 := Scalar.extui v198
  let v200 : BitVec 32 := Scalar.subi v197 v199
  let c8_i32_64 : BitVec 32 := 8#32
  let c0_i32_67 : BitVec 32 := 0#32
  let v201 : BitVec 1 := Scalar.cmpi .sgt c8_i32_64 c0_i32_67
  let v202 : BitVec 32 := Scalar.extui v201
  let c0_i32_68 : BitVec 32 := 0#32
  let v203 : BitVec 1 := Scalar.cmpi .slt c8_i32_64 c0_i32_68
  let v204 : BitVec 32 := Scalar.extui v203
  let v205 : BitVec 32 := Scalar.subi v202 v204
  let v206 : BitVec 1 := Scalar.cmpi .ne v200 v205
  let v207 : BitVec 32 := Scalar.remsi v194 c8_i32_64
  let c0_i32_69 : BitVec 32 := 0#32
  let v208 : BitVec 1 := Scalar.cmpi .ne v207 c0_i32_69
  let v209 : BitVec 1 := Scalar.andi v206 v208
  let v195 : BitVec 32 := Scalar.divsi v194 c8_i32_64
  let c1_i32_70 : BitVec 32 := 1#32
  let v210 : BitVec 32 := Scalar.subi v195 c1_i32_70
  let v211 : BitVec 32 := Scalar.select v209 v210 v195
  let v212 : BitVec 32 := Scalar.subi v211 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg12 : BitVec 32 := Scf.iv v216 c1_i32_75 k0_t21
  let c8_i32_76 : BitVec 32 := 8#32
  let v217 : BitVec 32 := Scalar.muli arg12 c8_i32_76
  let c0_i32_77 : BitVec 32 := 0#32
  let v218 : BitVec 32 := Scalar.addi v217 c0_i32_77
  let v298 : BitVec 32 := Scalar.addi v56_0 v218
  let c128_i32_122 : BitVec 32 := 128#32
  let v299 : BitVec 32 := Scalar.muli v298 c128_i32_122
  ![v299.toNat]
def k0_off106 (v56_0 : BitVec 32) (v56_2 : BitVec 32) (k0_t21 : Fin (k0_t21_loop v56_0 v56_2).trips) : Fin 1 → Nat :=
  let c0_i32_72 : BitVec 32 := 0#32
  let v193 : BitVec 32 := Scalar.subi v56_2 v56_0
  let c7_i32 : BitVec 32 := 7#32
  let v194 : BitVec 32 := Scalar.addi v193 c7_i32
  let c0_i32_65 : BitVec 32 := 0#32
  let v196 : BitVec 1 := Scalar.cmpi .sgt v194 c0_i32_65
  let v197 : BitVec 32 := Scalar.extui v196
  let c0_i32_66 : BitVec 32 := 0#32
  let v198 : BitVec 1 := Scalar.cmpi .slt v194 c0_i32_66
  let v199 : BitVec 32 := Scalar.extui v198
  let v200 : BitVec 32 := Scalar.subi v197 v199
  let c8_i32_64 : BitVec 32 := 8#32
  let c0_i32_67 : BitVec 32 := 0#32
  let v201 : BitVec 1 := Scalar.cmpi .sgt c8_i32_64 c0_i32_67
  let v202 : BitVec 32 := Scalar.extui v201
  let c0_i32_68 : BitVec 32 := 0#32
  let v203 : BitVec 1 := Scalar.cmpi .slt c8_i32_64 c0_i32_68
  let v204 : BitVec 32 := Scalar.extui v203
  let v205 : BitVec 32 := Scalar.subi v202 v204
  let v206 : BitVec 1 := Scalar.cmpi .ne v200 v205
  let v207 : BitVec 32 := Scalar.remsi v194 c8_i32_64
  let c0_i32_69 : BitVec 32 := 0#32
  let v208 : BitVec 1 := Scalar.cmpi .ne v207 c0_i32_69
  let v209 : BitVec 1 := Scalar.andi v206 v208
  let v195 : BitVec 32 := Scalar.divsi v194 c8_i32_64
  let c1_i32_70 : BitVec 32 := 1#32
  let v210 : BitVec 32 := Scalar.subi v195 c1_i32_70
  let v211 : BitVec 32 := Scalar.select v209 v210 v195
  let v212 : BitVec 32 := Scalar.subi v211 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg12 : BitVec 32 := Scf.iv v216 c1_i32_75 k0_t21
  let c8_i32_79 : BitVec 32 := 8#32
  let v222 : BitVec 32 := Scalar.muli arg12 c8_i32_79
  let c1_i32_80 : BitVec 32 := 1#32
  let v223 : BitVec 32 := Scalar.addi v222 c1_i32_80
  let c128_i32_121 : BitVec 32 := 128#32
  let v297 : BitVec 32 := Scalar.muli v223 c128_i32_121
  ![v297.toNat]
def k0_cond82 (v56_0 : BitVec 32) (v56_2 : BitVec 32) (k0_t21 : Fin (k0_t21_loop v56_0 v56_2).trips) : BitVec 1 :=
  let c0_i32_72 : BitVec 32 := 0#32
  let v193 : BitVec 32 := Scalar.subi v56_2 v56_0
  let c7_i32 : BitVec 32 := 7#32
  let v194 : BitVec 32 := Scalar.addi v193 c7_i32
  let c0_i32_65 : BitVec 32 := 0#32
  let v196 : BitVec 1 := Scalar.cmpi .sgt v194 c0_i32_65
  let v197 : BitVec 32 := Scalar.extui v196
  let c0_i32_66 : BitVec 32 := 0#32
  let v198 : BitVec 1 := Scalar.cmpi .slt v194 c0_i32_66
  let v199 : BitVec 32 := Scalar.extui v198
  let v200 : BitVec 32 := Scalar.subi v197 v199
  let c8_i32_64 : BitVec 32 := 8#32
  let c0_i32_67 : BitVec 32 := 0#32
  let v201 : BitVec 1 := Scalar.cmpi .sgt c8_i32_64 c0_i32_67
  let v202 : BitVec 32 := Scalar.extui v201
  let c0_i32_68 : BitVec 32 := 0#32
  let v203 : BitVec 1 := Scalar.cmpi .slt c8_i32_64 c0_i32_68
  let v204 : BitVec 32 := Scalar.extui v203
  let v205 : BitVec 32 := Scalar.subi v202 v204
  let v206 : BitVec 1 := Scalar.cmpi .ne v200 v205
  let v207 : BitVec 32 := Scalar.remsi v194 c8_i32_64
  let c0_i32_69 : BitVec 32 := 0#32
  let v208 : BitVec 1 := Scalar.cmpi .ne v207 c0_i32_69
  let v209 : BitVec 1 := Scalar.andi v206 v208
  let v195 : BitVec 32 := Scalar.divsi v194 c8_i32_64
  let c1_i32_70 : BitVec 32 := 1#32
  let v210 : BitVec 32 := Scalar.subi v195 c1_i32_70
  let v211 : BitVec 32 := Scalar.select v209 v210 v195
  let v212 : BitVec 32 := Scalar.subi v211 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg12 : BitVec 32 := Scf.iv v216 c1_i32_75 k0_t21
  let c8_i32_79 : BitVec 32 := 8#32
  let v222 : BitVec 32 := Scalar.muli arg12 c8_i32_79
  let c1_i32_80 : BitVec 32 := 1#32
  let v223 : BitVec 32 := Scalar.addi v222 c1_i32_80
  let v224 : BitVec 1 := Scalar.cmpi .slt v223 v193
  let v225 : BitVec 32 := Scalar.extui v224
  let c0_i32_81 : BitVec 32 := 0#32
  let v226 : BitVec 1 := Scalar.cmpi .ne v225 c0_i32_81
  v226

def k0_off107 (v56_0 : BitVec 32) (v56_2 : BitVec 32) (k0_t21 : Fin (k0_t21_loop v56_0 v56_2).trips) : Fin 1 → Nat :=
  let c0_i32_72 : BitVec 32 := 0#32
  let v193 : BitVec 32 := Scalar.subi v56_2 v56_0
  let c7_i32 : BitVec 32 := 7#32
  let v194 : BitVec 32 := Scalar.addi v193 c7_i32
  let c0_i32_65 : BitVec 32 := 0#32
  let v196 : BitVec 1 := Scalar.cmpi .sgt v194 c0_i32_65
  let v197 : BitVec 32 := Scalar.extui v196
  let c0_i32_66 : BitVec 32 := 0#32
  let v198 : BitVec 1 := Scalar.cmpi .slt v194 c0_i32_66
  let v199 : BitVec 32 := Scalar.extui v198
  let v200 : BitVec 32 := Scalar.subi v197 v199
  let c8_i32_64 : BitVec 32 := 8#32
  let c0_i32_67 : BitVec 32 := 0#32
  let v201 : BitVec 1 := Scalar.cmpi .sgt c8_i32_64 c0_i32_67
  let v202 : BitVec 32 := Scalar.extui v201
  let c0_i32_68 : BitVec 32 := 0#32
  let v203 : BitVec 1 := Scalar.cmpi .slt c8_i32_64 c0_i32_68
  let v204 : BitVec 32 := Scalar.extui v203
  let v205 : BitVec 32 := Scalar.subi v202 v204
  let v206 : BitVec 1 := Scalar.cmpi .ne v200 v205
  let v207 : BitVec 32 := Scalar.remsi v194 c8_i32_64
  let c0_i32_69 : BitVec 32 := 0#32
  let v208 : BitVec 1 := Scalar.cmpi .ne v207 c0_i32_69
  let v209 : BitVec 1 := Scalar.andi v206 v208
  let v195 : BitVec 32 := Scalar.divsi v194 c8_i32_64
  let c1_i32_70 : BitVec 32 := 1#32
  let v210 : BitVec 32 := Scalar.subi v195 c1_i32_70
  let v211 : BitVec 32 := Scalar.select v209 v210 v195
  let v212 : BitVec 32 := Scalar.subi v211 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg12 : BitVec 32 := Scf.iv v216 c1_i32_75 k0_t21
  let c8_i32_79 : BitVec 32 := 8#32
  let v222 : BitVec 32 := Scalar.muli arg12 c8_i32_79
  let c1_i32_80 : BitVec 32 := 1#32
  let v223 : BitVec 32 := Scalar.addi v222 c1_i32_80
  let v298 : BitVec 32 := Scalar.addi v56_0 v223
  let c128_i32_122 : BitVec 32 := 128#32
  let v299 : BitVec 32 := Scalar.muli v298 c128_i32_122
  ![v299.toNat]
def k0_off108 (v56_0 : BitVec 32) (v56_2 : BitVec 32) (k0_t21 : Fin (k0_t21_loop v56_0 v56_2).trips) : Fin 1 → Nat :=
  let c0_i32_72 : BitVec 32 := 0#32
  let v193 : BitVec 32 := Scalar.subi v56_2 v56_0
  let c7_i32 : BitVec 32 := 7#32
  let v194 : BitVec 32 := Scalar.addi v193 c7_i32
  let c0_i32_65 : BitVec 32 := 0#32
  let v196 : BitVec 1 := Scalar.cmpi .sgt v194 c0_i32_65
  let v197 : BitVec 32 := Scalar.extui v196
  let c0_i32_66 : BitVec 32 := 0#32
  let v198 : BitVec 1 := Scalar.cmpi .slt v194 c0_i32_66
  let v199 : BitVec 32 := Scalar.extui v198
  let v200 : BitVec 32 := Scalar.subi v197 v199
  let c8_i32_64 : BitVec 32 := 8#32
  let c0_i32_67 : BitVec 32 := 0#32
  let v201 : BitVec 1 := Scalar.cmpi .sgt c8_i32_64 c0_i32_67
  let v202 : BitVec 32 := Scalar.extui v201
  let c0_i32_68 : BitVec 32 := 0#32
  let v203 : BitVec 1 := Scalar.cmpi .slt c8_i32_64 c0_i32_68
  let v204 : BitVec 32 := Scalar.extui v203
  let v205 : BitVec 32 := Scalar.subi v202 v204
  let v206 : BitVec 1 := Scalar.cmpi .ne v200 v205
  let v207 : BitVec 32 := Scalar.remsi v194 c8_i32_64
  let c0_i32_69 : BitVec 32 := 0#32
  let v208 : BitVec 1 := Scalar.cmpi .ne v207 c0_i32_69
  let v209 : BitVec 1 := Scalar.andi v206 v208
  let v195 : BitVec 32 := Scalar.divsi v194 c8_i32_64
  let c1_i32_70 : BitVec 32 := 1#32
  let v210 : BitVec 32 := Scalar.subi v195 c1_i32_70
  let v211 : BitVec 32 := Scalar.select v209 v210 v195
  let v212 : BitVec 32 := Scalar.subi v211 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg12 : BitVec 32 := Scf.iv v216 c1_i32_75 k0_t21
  let c8_i32_82 : BitVec 32 := 8#32
  let v227 : BitVec 32 := Scalar.muli arg12 c8_i32_82
  let c2_i32_83 : BitVec 32 := 2#32
  let v228 : BitVec 32 := Scalar.addi v227 c2_i32_83
  let c128_i32_121 : BitVec 32 := 128#32
  let v297 : BitVec 32 := Scalar.muli v228 c128_i32_121
  ![v297.toNat]
def k0_cond83 (v56_0 : BitVec 32) (v56_2 : BitVec 32) (k0_t21 : Fin (k0_t21_loop v56_0 v56_2).trips) : BitVec 1 :=
  let c0_i32_72 : BitVec 32 := 0#32
  let v193 : BitVec 32 := Scalar.subi v56_2 v56_0
  let c7_i32 : BitVec 32 := 7#32
  let v194 : BitVec 32 := Scalar.addi v193 c7_i32
  let c0_i32_65 : BitVec 32 := 0#32
  let v196 : BitVec 1 := Scalar.cmpi .sgt v194 c0_i32_65
  let v197 : BitVec 32 := Scalar.extui v196
  let c0_i32_66 : BitVec 32 := 0#32
  let v198 : BitVec 1 := Scalar.cmpi .slt v194 c0_i32_66
  let v199 : BitVec 32 := Scalar.extui v198
  let v200 : BitVec 32 := Scalar.subi v197 v199
  let c8_i32_64 : BitVec 32 := 8#32
  let c0_i32_67 : BitVec 32 := 0#32
  let v201 : BitVec 1 := Scalar.cmpi .sgt c8_i32_64 c0_i32_67
  let v202 : BitVec 32 := Scalar.extui v201
  let c0_i32_68 : BitVec 32 := 0#32
  let v203 : BitVec 1 := Scalar.cmpi .slt c8_i32_64 c0_i32_68
  let v204 : BitVec 32 := Scalar.extui v203
  let v205 : BitVec 32 := Scalar.subi v202 v204
  let v206 : BitVec 1 := Scalar.cmpi .ne v200 v205
  let v207 : BitVec 32 := Scalar.remsi v194 c8_i32_64
  let c0_i32_69 : BitVec 32 := 0#32
  let v208 : BitVec 1 := Scalar.cmpi .ne v207 c0_i32_69
  let v209 : BitVec 1 := Scalar.andi v206 v208
  let v195 : BitVec 32 := Scalar.divsi v194 c8_i32_64
  let c1_i32_70 : BitVec 32 := 1#32
  let v210 : BitVec 32 := Scalar.subi v195 c1_i32_70
  let v211 : BitVec 32 := Scalar.select v209 v210 v195
  let v212 : BitVec 32 := Scalar.subi v211 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg12 : BitVec 32 := Scf.iv v216 c1_i32_75 k0_t21
  let c8_i32_82 : BitVec 32 := 8#32
  let v227 : BitVec 32 := Scalar.muli arg12 c8_i32_82
  let c2_i32_83 : BitVec 32 := 2#32
  let v228 : BitVec 32 := Scalar.addi v227 c2_i32_83
  let v229 : BitVec 1 := Scalar.cmpi .slt v228 v193
  let v230 : BitVec 32 := Scalar.extui v229
  let c0_i32_84 : BitVec 32 := 0#32
  let v231 : BitVec 1 := Scalar.cmpi .ne v230 c0_i32_84
  v231

def k0_off109 (v56_0 : BitVec 32) (v56_2 : BitVec 32) (k0_t21 : Fin (k0_t21_loop v56_0 v56_2).trips) : Fin 1 → Nat :=
  let c0_i32_72 : BitVec 32 := 0#32
  let v193 : BitVec 32 := Scalar.subi v56_2 v56_0
  let c7_i32 : BitVec 32 := 7#32
  let v194 : BitVec 32 := Scalar.addi v193 c7_i32
  let c0_i32_65 : BitVec 32 := 0#32
  let v196 : BitVec 1 := Scalar.cmpi .sgt v194 c0_i32_65
  let v197 : BitVec 32 := Scalar.extui v196
  let c0_i32_66 : BitVec 32 := 0#32
  let v198 : BitVec 1 := Scalar.cmpi .slt v194 c0_i32_66
  let v199 : BitVec 32 := Scalar.extui v198
  let v200 : BitVec 32 := Scalar.subi v197 v199
  let c8_i32_64 : BitVec 32 := 8#32
  let c0_i32_67 : BitVec 32 := 0#32
  let v201 : BitVec 1 := Scalar.cmpi .sgt c8_i32_64 c0_i32_67
  let v202 : BitVec 32 := Scalar.extui v201
  let c0_i32_68 : BitVec 32 := 0#32
  let v203 : BitVec 1 := Scalar.cmpi .slt c8_i32_64 c0_i32_68
  let v204 : BitVec 32 := Scalar.extui v203
  let v205 : BitVec 32 := Scalar.subi v202 v204
  let v206 : BitVec 1 := Scalar.cmpi .ne v200 v205
  let v207 : BitVec 32 := Scalar.remsi v194 c8_i32_64
  let c0_i32_69 : BitVec 32 := 0#32
  let v208 : BitVec 1 := Scalar.cmpi .ne v207 c0_i32_69
  let v209 : BitVec 1 := Scalar.andi v206 v208
  let v195 : BitVec 32 := Scalar.divsi v194 c8_i32_64
  let c1_i32_70 : BitVec 32 := 1#32
  let v210 : BitVec 32 := Scalar.subi v195 c1_i32_70
  let v211 : BitVec 32 := Scalar.select v209 v210 v195
  let v212 : BitVec 32 := Scalar.subi v211 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg12 : BitVec 32 := Scf.iv v216 c1_i32_75 k0_t21
  let c8_i32_82 : BitVec 32 := 8#32
  let v227 : BitVec 32 := Scalar.muli arg12 c8_i32_82
  let c2_i32_83 : BitVec 32 := 2#32
  let v228 : BitVec 32 := Scalar.addi v227 c2_i32_83
  let v298 : BitVec 32 := Scalar.addi v56_0 v228
  let c128_i32_122 : BitVec 32 := 128#32
  let v299 : BitVec 32 := Scalar.muli v298 c128_i32_122
  ![v299.toNat]
def k0_off110 (v56_0 : BitVec 32) (v56_2 : BitVec 32) (k0_t21 : Fin (k0_t21_loop v56_0 v56_2).trips) : Fin 1 → Nat :=
  let c0_i32_72 : BitVec 32 := 0#32
  let v193 : BitVec 32 := Scalar.subi v56_2 v56_0
  let c7_i32 : BitVec 32 := 7#32
  let v194 : BitVec 32 := Scalar.addi v193 c7_i32
  let c0_i32_65 : BitVec 32 := 0#32
  let v196 : BitVec 1 := Scalar.cmpi .sgt v194 c0_i32_65
  let v197 : BitVec 32 := Scalar.extui v196
  let c0_i32_66 : BitVec 32 := 0#32
  let v198 : BitVec 1 := Scalar.cmpi .slt v194 c0_i32_66
  let v199 : BitVec 32 := Scalar.extui v198
  let v200 : BitVec 32 := Scalar.subi v197 v199
  let c8_i32_64 : BitVec 32 := 8#32
  let c0_i32_67 : BitVec 32 := 0#32
  let v201 : BitVec 1 := Scalar.cmpi .sgt c8_i32_64 c0_i32_67
  let v202 : BitVec 32 := Scalar.extui v201
  let c0_i32_68 : BitVec 32 := 0#32
  let v203 : BitVec 1 := Scalar.cmpi .slt c8_i32_64 c0_i32_68
  let v204 : BitVec 32 := Scalar.extui v203
  let v205 : BitVec 32 := Scalar.subi v202 v204
  let v206 : BitVec 1 := Scalar.cmpi .ne v200 v205
  let v207 : BitVec 32 := Scalar.remsi v194 c8_i32_64
  let c0_i32_69 : BitVec 32 := 0#32
  let v208 : BitVec 1 := Scalar.cmpi .ne v207 c0_i32_69
  let v209 : BitVec 1 := Scalar.andi v206 v208
  let v195 : BitVec 32 := Scalar.divsi v194 c8_i32_64
  let c1_i32_70 : BitVec 32 := 1#32
  let v210 : BitVec 32 := Scalar.subi v195 c1_i32_70
  let v211 : BitVec 32 := Scalar.select v209 v210 v195
  let v212 : BitVec 32 := Scalar.subi v211 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg12 : BitVec 32 := Scf.iv v216 c1_i32_75 k0_t21
  let c8_i32_85 : BitVec 32 := 8#32
  let v232 : BitVec 32 := Scalar.muli arg12 c8_i32_85
  let c3_i32 : BitVec 32 := 3#32
  let v233 : BitVec 32 := Scalar.addi v232 c3_i32
  let c128_i32_121 : BitVec 32 := 128#32
  let v297 : BitVec 32 := Scalar.muli v233 c128_i32_121
  ![v297.toNat]
def k0_cond84 (v56_0 : BitVec 32) (v56_2 : BitVec 32) (k0_t21 : Fin (k0_t21_loop v56_0 v56_2).trips) : BitVec 1 :=
  let c0_i32_72 : BitVec 32 := 0#32
  let v193 : BitVec 32 := Scalar.subi v56_2 v56_0
  let c7_i32 : BitVec 32 := 7#32
  let v194 : BitVec 32 := Scalar.addi v193 c7_i32
  let c0_i32_65 : BitVec 32 := 0#32
  let v196 : BitVec 1 := Scalar.cmpi .sgt v194 c0_i32_65
  let v197 : BitVec 32 := Scalar.extui v196
  let c0_i32_66 : BitVec 32 := 0#32
  let v198 : BitVec 1 := Scalar.cmpi .slt v194 c0_i32_66
  let v199 : BitVec 32 := Scalar.extui v198
  let v200 : BitVec 32 := Scalar.subi v197 v199
  let c8_i32_64 : BitVec 32 := 8#32
  let c0_i32_67 : BitVec 32 := 0#32
  let v201 : BitVec 1 := Scalar.cmpi .sgt c8_i32_64 c0_i32_67
  let v202 : BitVec 32 := Scalar.extui v201
  let c0_i32_68 : BitVec 32 := 0#32
  let v203 : BitVec 1 := Scalar.cmpi .slt c8_i32_64 c0_i32_68
  let v204 : BitVec 32 := Scalar.extui v203
  let v205 : BitVec 32 := Scalar.subi v202 v204
  let v206 : BitVec 1 := Scalar.cmpi .ne v200 v205
  let v207 : BitVec 32 := Scalar.remsi v194 c8_i32_64
  let c0_i32_69 : BitVec 32 := 0#32
  let v208 : BitVec 1 := Scalar.cmpi .ne v207 c0_i32_69
  let v209 : BitVec 1 := Scalar.andi v206 v208
  let v195 : BitVec 32 := Scalar.divsi v194 c8_i32_64
  let c1_i32_70 : BitVec 32 := 1#32
  let v210 : BitVec 32 := Scalar.subi v195 c1_i32_70
  let v211 : BitVec 32 := Scalar.select v209 v210 v195
  let v212 : BitVec 32 := Scalar.subi v211 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg12 : BitVec 32 := Scf.iv v216 c1_i32_75 k0_t21
  let c8_i32_85 : BitVec 32 := 8#32
  let v232 : BitVec 32 := Scalar.muli arg12 c8_i32_85
  let c3_i32 : BitVec 32 := 3#32
  let v233 : BitVec 32 := Scalar.addi v232 c3_i32
  let v234 : BitVec 1 := Scalar.cmpi .slt v233 v193
  let v235 : BitVec 32 := Scalar.extui v234
  let c0_i32_86 : BitVec 32 := 0#32
  let v236 : BitVec 1 := Scalar.cmpi .ne v235 c0_i32_86
  v236

def k0_off111 (v56_0 : BitVec 32) (v56_2 : BitVec 32) (k0_t21 : Fin (k0_t21_loop v56_0 v56_2).trips) : Fin 1 → Nat :=
  let c0_i32_72 : BitVec 32 := 0#32
  let v193 : BitVec 32 := Scalar.subi v56_2 v56_0
  let c7_i32 : BitVec 32 := 7#32
  let v194 : BitVec 32 := Scalar.addi v193 c7_i32
  let c0_i32_65 : BitVec 32 := 0#32
  let v196 : BitVec 1 := Scalar.cmpi .sgt v194 c0_i32_65
  let v197 : BitVec 32 := Scalar.extui v196
  let c0_i32_66 : BitVec 32 := 0#32
  let v198 : BitVec 1 := Scalar.cmpi .slt v194 c0_i32_66
  let v199 : BitVec 32 := Scalar.extui v198
  let v200 : BitVec 32 := Scalar.subi v197 v199
  let c8_i32_64 : BitVec 32 := 8#32
  let c0_i32_67 : BitVec 32 := 0#32
  let v201 : BitVec 1 := Scalar.cmpi .sgt c8_i32_64 c0_i32_67
  let v202 : BitVec 32 := Scalar.extui v201
  let c0_i32_68 : BitVec 32 := 0#32
  let v203 : BitVec 1 := Scalar.cmpi .slt c8_i32_64 c0_i32_68
  let v204 : BitVec 32 := Scalar.extui v203
  let v205 : BitVec 32 := Scalar.subi v202 v204
  let v206 : BitVec 1 := Scalar.cmpi .ne v200 v205
  let v207 : BitVec 32 := Scalar.remsi v194 c8_i32_64
  let c0_i32_69 : BitVec 32 := 0#32
  let v208 : BitVec 1 := Scalar.cmpi .ne v207 c0_i32_69
  let v209 : BitVec 1 := Scalar.andi v206 v208
  let v195 : BitVec 32 := Scalar.divsi v194 c8_i32_64
  let c1_i32_70 : BitVec 32 := 1#32
  let v210 : BitVec 32 := Scalar.subi v195 c1_i32_70
  let v211 : BitVec 32 := Scalar.select v209 v210 v195
  let v212 : BitVec 32 := Scalar.subi v211 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg12 : BitVec 32 := Scf.iv v216 c1_i32_75 k0_t21
  let c8_i32_85 : BitVec 32 := 8#32
  let v232 : BitVec 32 := Scalar.muli arg12 c8_i32_85
  let c3_i32 : BitVec 32 := 3#32
  let v233 : BitVec 32 := Scalar.addi v232 c3_i32
  let v298 : BitVec 32 := Scalar.addi v56_0 v233
  let c128_i32_122 : BitVec 32 := 128#32
  let v299 : BitVec 32 := Scalar.muli v298 c128_i32_122
  ![v299.toNat]
def k0_off112 (v56_0 : BitVec 32) (v56_2 : BitVec 32) (k0_t21 : Fin (k0_t21_loop v56_0 v56_2).trips) : Fin 1 → Nat :=
  let c0_i32_72 : BitVec 32 := 0#32
  let v193 : BitVec 32 := Scalar.subi v56_2 v56_0
  let c7_i32 : BitVec 32 := 7#32
  let v194 : BitVec 32 := Scalar.addi v193 c7_i32
  let c0_i32_65 : BitVec 32 := 0#32
  let v196 : BitVec 1 := Scalar.cmpi .sgt v194 c0_i32_65
  let v197 : BitVec 32 := Scalar.extui v196
  let c0_i32_66 : BitVec 32 := 0#32
  let v198 : BitVec 1 := Scalar.cmpi .slt v194 c0_i32_66
  let v199 : BitVec 32 := Scalar.extui v198
  let v200 : BitVec 32 := Scalar.subi v197 v199
  let c8_i32_64 : BitVec 32 := 8#32
  let c0_i32_67 : BitVec 32 := 0#32
  let v201 : BitVec 1 := Scalar.cmpi .sgt c8_i32_64 c0_i32_67
  let v202 : BitVec 32 := Scalar.extui v201
  let c0_i32_68 : BitVec 32 := 0#32
  let v203 : BitVec 1 := Scalar.cmpi .slt c8_i32_64 c0_i32_68
  let v204 : BitVec 32 := Scalar.extui v203
  let v205 : BitVec 32 := Scalar.subi v202 v204
  let v206 : BitVec 1 := Scalar.cmpi .ne v200 v205
  let v207 : BitVec 32 := Scalar.remsi v194 c8_i32_64
  let c0_i32_69 : BitVec 32 := 0#32
  let v208 : BitVec 1 := Scalar.cmpi .ne v207 c0_i32_69
  let v209 : BitVec 1 := Scalar.andi v206 v208
  let v195 : BitVec 32 := Scalar.divsi v194 c8_i32_64
  let c1_i32_70 : BitVec 32 := 1#32
  let v210 : BitVec 32 := Scalar.subi v195 c1_i32_70
  let v211 : BitVec 32 := Scalar.select v209 v210 v195
  let v212 : BitVec 32 := Scalar.subi v211 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg12 : BitVec 32 := Scf.iv v216 c1_i32_75 k0_t21
  let c8_i32_87 : BitVec 32 := 8#32
  let v237 : BitVec 32 := Scalar.muli arg12 c8_i32_87
  let c4_i32_88 : BitVec 32 := 4#32
  let v238 : BitVec 32 := Scalar.addi v237 c4_i32_88
  let c128_i32_121 : BitVec 32 := 128#32
  let v297 : BitVec 32 := Scalar.muli v238 c128_i32_121
  ![v297.toNat]
def k0_cond85 (v56_0 : BitVec 32) (v56_2 : BitVec 32) (k0_t21 : Fin (k0_t21_loop v56_0 v56_2).trips) : BitVec 1 :=
  let c0_i32_72 : BitVec 32 := 0#32
  let v193 : BitVec 32 := Scalar.subi v56_2 v56_0
  let c7_i32 : BitVec 32 := 7#32
  let v194 : BitVec 32 := Scalar.addi v193 c7_i32
  let c0_i32_65 : BitVec 32 := 0#32
  let v196 : BitVec 1 := Scalar.cmpi .sgt v194 c0_i32_65
  let v197 : BitVec 32 := Scalar.extui v196
  let c0_i32_66 : BitVec 32 := 0#32
  let v198 : BitVec 1 := Scalar.cmpi .slt v194 c0_i32_66
  let v199 : BitVec 32 := Scalar.extui v198
  let v200 : BitVec 32 := Scalar.subi v197 v199
  let c8_i32_64 : BitVec 32 := 8#32
  let c0_i32_67 : BitVec 32 := 0#32
  let v201 : BitVec 1 := Scalar.cmpi .sgt c8_i32_64 c0_i32_67
  let v202 : BitVec 32 := Scalar.extui v201
  let c0_i32_68 : BitVec 32 := 0#32
  let v203 : BitVec 1 := Scalar.cmpi .slt c8_i32_64 c0_i32_68
  let v204 : BitVec 32 := Scalar.extui v203
  let v205 : BitVec 32 := Scalar.subi v202 v204
  let v206 : BitVec 1 := Scalar.cmpi .ne v200 v205
  let v207 : BitVec 32 := Scalar.remsi v194 c8_i32_64
  let c0_i32_69 : BitVec 32 := 0#32
  let v208 : BitVec 1 := Scalar.cmpi .ne v207 c0_i32_69
  let v209 : BitVec 1 := Scalar.andi v206 v208
  let v195 : BitVec 32 := Scalar.divsi v194 c8_i32_64
  let c1_i32_70 : BitVec 32 := 1#32
  let v210 : BitVec 32 := Scalar.subi v195 c1_i32_70
  let v211 : BitVec 32 := Scalar.select v209 v210 v195
  let v212 : BitVec 32 := Scalar.subi v211 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg12 : BitVec 32 := Scf.iv v216 c1_i32_75 k0_t21
  let c8_i32_87 : BitVec 32 := 8#32
  let v237 : BitVec 32 := Scalar.muli arg12 c8_i32_87
  let c4_i32_88 : BitVec 32 := 4#32
  let v238 : BitVec 32 := Scalar.addi v237 c4_i32_88
  let v239 : BitVec 1 := Scalar.cmpi .slt v238 v193
  let v240 : BitVec 32 := Scalar.extui v239
  let c0_i32_89 : BitVec 32 := 0#32
  let v241 : BitVec 1 := Scalar.cmpi .ne v240 c0_i32_89
  v241

def k0_off113 (v56_0 : BitVec 32) (v56_2 : BitVec 32) (k0_t21 : Fin (k0_t21_loop v56_0 v56_2).trips) : Fin 1 → Nat :=
  let c0_i32_72 : BitVec 32 := 0#32
  let v193 : BitVec 32 := Scalar.subi v56_2 v56_0
  let c7_i32 : BitVec 32 := 7#32
  let v194 : BitVec 32 := Scalar.addi v193 c7_i32
  let c0_i32_65 : BitVec 32 := 0#32
  let v196 : BitVec 1 := Scalar.cmpi .sgt v194 c0_i32_65
  let v197 : BitVec 32 := Scalar.extui v196
  let c0_i32_66 : BitVec 32 := 0#32
  let v198 : BitVec 1 := Scalar.cmpi .slt v194 c0_i32_66
  let v199 : BitVec 32 := Scalar.extui v198
  let v200 : BitVec 32 := Scalar.subi v197 v199
  let c8_i32_64 : BitVec 32 := 8#32
  let c0_i32_67 : BitVec 32 := 0#32
  let v201 : BitVec 1 := Scalar.cmpi .sgt c8_i32_64 c0_i32_67
  let v202 : BitVec 32 := Scalar.extui v201
  let c0_i32_68 : BitVec 32 := 0#32
  let v203 : BitVec 1 := Scalar.cmpi .slt c8_i32_64 c0_i32_68
  let v204 : BitVec 32 := Scalar.extui v203
  let v205 : BitVec 32 := Scalar.subi v202 v204
  let v206 : BitVec 1 := Scalar.cmpi .ne v200 v205
  let v207 : BitVec 32 := Scalar.remsi v194 c8_i32_64
  let c0_i32_69 : BitVec 32 := 0#32
  let v208 : BitVec 1 := Scalar.cmpi .ne v207 c0_i32_69
  let v209 : BitVec 1 := Scalar.andi v206 v208
  let v195 : BitVec 32 := Scalar.divsi v194 c8_i32_64
  let c1_i32_70 : BitVec 32 := 1#32
  let v210 : BitVec 32 := Scalar.subi v195 c1_i32_70
  let v211 : BitVec 32 := Scalar.select v209 v210 v195
  let v212 : BitVec 32 := Scalar.subi v211 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg12 : BitVec 32 := Scf.iv v216 c1_i32_75 k0_t21
  let c8_i32_87 : BitVec 32 := 8#32
  let v237 : BitVec 32 := Scalar.muli arg12 c8_i32_87
  let c4_i32_88 : BitVec 32 := 4#32
  let v238 : BitVec 32 := Scalar.addi v237 c4_i32_88
  let v298 : BitVec 32 := Scalar.addi v56_0 v238
  let c128_i32_122 : BitVec 32 := 128#32
  let v299 : BitVec 32 := Scalar.muli v298 c128_i32_122
  ![v299.toNat]
def k0_off114 (v56_0 : BitVec 32) (v56_2 : BitVec 32) (k0_t21 : Fin (k0_t21_loop v56_0 v56_2).trips) : Fin 1 → Nat :=
  let c0_i32_72 : BitVec 32 := 0#32
  let v193 : BitVec 32 := Scalar.subi v56_2 v56_0
  let c7_i32 : BitVec 32 := 7#32
  let v194 : BitVec 32 := Scalar.addi v193 c7_i32
  let c0_i32_65 : BitVec 32 := 0#32
  let v196 : BitVec 1 := Scalar.cmpi .sgt v194 c0_i32_65
  let v197 : BitVec 32 := Scalar.extui v196
  let c0_i32_66 : BitVec 32 := 0#32
  let v198 : BitVec 1 := Scalar.cmpi .slt v194 c0_i32_66
  let v199 : BitVec 32 := Scalar.extui v198
  let v200 : BitVec 32 := Scalar.subi v197 v199
  let c8_i32_64 : BitVec 32 := 8#32
  let c0_i32_67 : BitVec 32 := 0#32
  let v201 : BitVec 1 := Scalar.cmpi .sgt c8_i32_64 c0_i32_67
  let v202 : BitVec 32 := Scalar.extui v201
  let c0_i32_68 : BitVec 32 := 0#32
  let v203 : BitVec 1 := Scalar.cmpi .slt c8_i32_64 c0_i32_68
  let v204 : BitVec 32 := Scalar.extui v203
  let v205 : BitVec 32 := Scalar.subi v202 v204
  let v206 : BitVec 1 := Scalar.cmpi .ne v200 v205
  let v207 : BitVec 32 := Scalar.remsi v194 c8_i32_64
  let c0_i32_69 : BitVec 32 := 0#32
  let v208 : BitVec 1 := Scalar.cmpi .ne v207 c0_i32_69
  let v209 : BitVec 1 := Scalar.andi v206 v208
  let v195 : BitVec 32 := Scalar.divsi v194 c8_i32_64
  let c1_i32_70 : BitVec 32 := 1#32
  let v210 : BitVec 32 := Scalar.subi v195 c1_i32_70
  let v211 : BitVec 32 := Scalar.select v209 v210 v195
  let v212 : BitVec 32 := Scalar.subi v211 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg12 : BitVec 32 := Scf.iv v216 c1_i32_75 k0_t21
  let c8_i32_90 : BitVec 32 := 8#32
  let v242 : BitVec 32 := Scalar.muli arg12 c8_i32_90
  let c5_i32 : BitVec 32 := 5#32
  let v243 : BitVec 32 := Scalar.addi v242 c5_i32
  let c128_i32_121 : BitVec 32 := 128#32
  let v297 : BitVec 32 := Scalar.muli v243 c128_i32_121
  ![v297.toNat]
def k0_cond86 (v56_0 : BitVec 32) (v56_2 : BitVec 32) (k0_t21 : Fin (k0_t21_loop v56_0 v56_2).trips) : BitVec 1 :=
  let c0_i32_72 : BitVec 32 := 0#32
  let v193 : BitVec 32 := Scalar.subi v56_2 v56_0
  let c7_i32 : BitVec 32 := 7#32
  let v194 : BitVec 32 := Scalar.addi v193 c7_i32
  let c0_i32_65 : BitVec 32 := 0#32
  let v196 : BitVec 1 := Scalar.cmpi .sgt v194 c0_i32_65
  let v197 : BitVec 32 := Scalar.extui v196
  let c0_i32_66 : BitVec 32 := 0#32
  let v198 : BitVec 1 := Scalar.cmpi .slt v194 c0_i32_66
  let v199 : BitVec 32 := Scalar.extui v198
  let v200 : BitVec 32 := Scalar.subi v197 v199
  let c8_i32_64 : BitVec 32 := 8#32
  let c0_i32_67 : BitVec 32 := 0#32
  let v201 : BitVec 1 := Scalar.cmpi .sgt c8_i32_64 c0_i32_67
  let v202 : BitVec 32 := Scalar.extui v201
  let c0_i32_68 : BitVec 32 := 0#32
  let v203 : BitVec 1 := Scalar.cmpi .slt c8_i32_64 c0_i32_68
  let v204 : BitVec 32 := Scalar.extui v203
  let v205 : BitVec 32 := Scalar.subi v202 v204
  let v206 : BitVec 1 := Scalar.cmpi .ne v200 v205
  let v207 : BitVec 32 := Scalar.remsi v194 c8_i32_64
  let c0_i32_69 : BitVec 32 := 0#32
  let v208 : BitVec 1 := Scalar.cmpi .ne v207 c0_i32_69
  let v209 : BitVec 1 := Scalar.andi v206 v208
  let v195 : BitVec 32 := Scalar.divsi v194 c8_i32_64
  let c1_i32_70 : BitVec 32 := 1#32
  let v210 : BitVec 32 := Scalar.subi v195 c1_i32_70
  let v211 : BitVec 32 := Scalar.select v209 v210 v195
  let v212 : BitVec 32 := Scalar.subi v211 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg12 : BitVec 32 := Scf.iv v216 c1_i32_75 k0_t21
  let c8_i32_90 : BitVec 32 := 8#32
  let v242 : BitVec 32 := Scalar.muli arg12 c8_i32_90
  let c5_i32 : BitVec 32 := 5#32
  let v243 : BitVec 32 := Scalar.addi v242 c5_i32
  let v244 : BitVec 1 := Scalar.cmpi .slt v243 v193
  let v245 : BitVec 32 := Scalar.extui v244
  let c0_i32_91 : BitVec 32 := 0#32
  let v246 : BitVec 1 := Scalar.cmpi .ne v245 c0_i32_91
  v246

def k0_off115 (v56_0 : BitVec 32) (v56_2 : BitVec 32) (k0_t21 : Fin (k0_t21_loop v56_0 v56_2).trips) : Fin 1 → Nat :=
  let c0_i32_72 : BitVec 32 := 0#32
  let v193 : BitVec 32 := Scalar.subi v56_2 v56_0
  let c7_i32 : BitVec 32 := 7#32
  let v194 : BitVec 32 := Scalar.addi v193 c7_i32
  let c0_i32_65 : BitVec 32 := 0#32
  let v196 : BitVec 1 := Scalar.cmpi .sgt v194 c0_i32_65
  let v197 : BitVec 32 := Scalar.extui v196
  let c0_i32_66 : BitVec 32 := 0#32
  let v198 : BitVec 1 := Scalar.cmpi .slt v194 c0_i32_66
  let v199 : BitVec 32 := Scalar.extui v198
  let v200 : BitVec 32 := Scalar.subi v197 v199
  let c8_i32_64 : BitVec 32 := 8#32
  let c0_i32_67 : BitVec 32 := 0#32
  let v201 : BitVec 1 := Scalar.cmpi .sgt c8_i32_64 c0_i32_67
  let v202 : BitVec 32 := Scalar.extui v201
  let c0_i32_68 : BitVec 32 := 0#32
  let v203 : BitVec 1 := Scalar.cmpi .slt c8_i32_64 c0_i32_68
  let v204 : BitVec 32 := Scalar.extui v203
  let v205 : BitVec 32 := Scalar.subi v202 v204
  let v206 : BitVec 1 := Scalar.cmpi .ne v200 v205
  let v207 : BitVec 32 := Scalar.remsi v194 c8_i32_64
  let c0_i32_69 : BitVec 32 := 0#32
  let v208 : BitVec 1 := Scalar.cmpi .ne v207 c0_i32_69
  let v209 : BitVec 1 := Scalar.andi v206 v208
  let v195 : BitVec 32 := Scalar.divsi v194 c8_i32_64
  let c1_i32_70 : BitVec 32 := 1#32
  let v210 : BitVec 32 := Scalar.subi v195 c1_i32_70
  let v211 : BitVec 32 := Scalar.select v209 v210 v195
  let v212 : BitVec 32 := Scalar.subi v211 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg12 : BitVec 32 := Scf.iv v216 c1_i32_75 k0_t21
  let c8_i32_90 : BitVec 32 := 8#32
  let v242 : BitVec 32 := Scalar.muli arg12 c8_i32_90
  let c5_i32 : BitVec 32 := 5#32
  let v243 : BitVec 32 := Scalar.addi v242 c5_i32
  let v298 : BitVec 32 := Scalar.addi v56_0 v243
  let c128_i32_122 : BitVec 32 := 128#32
  let v299 : BitVec 32 := Scalar.muli v298 c128_i32_122
  ![v299.toNat]
def k0_off116 (v56_0 : BitVec 32) (v56_2 : BitVec 32) (k0_t21 : Fin (k0_t21_loop v56_0 v56_2).trips) : Fin 1 → Nat :=
  let c0_i32_72 : BitVec 32 := 0#32
  let v193 : BitVec 32 := Scalar.subi v56_2 v56_0
  let c7_i32 : BitVec 32 := 7#32
  let v194 : BitVec 32 := Scalar.addi v193 c7_i32
  let c0_i32_65 : BitVec 32 := 0#32
  let v196 : BitVec 1 := Scalar.cmpi .sgt v194 c0_i32_65
  let v197 : BitVec 32 := Scalar.extui v196
  let c0_i32_66 : BitVec 32 := 0#32
  let v198 : BitVec 1 := Scalar.cmpi .slt v194 c0_i32_66
  let v199 : BitVec 32 := Scalar.extui v198
  let v200 : BitVec 32 := Scalar.subi v197 v199
  let c8_i32_64 : BitVec 32 := 8#32
  let c0_i32_67 : BitVec 32 := 0#32
  let v201 : BitVec 1 := Scalar.cmpi .sgt c8_i32_64 c0_i32_67
  let v202 : BitVec 32 := Scalar.extui v201
  let c0_i32_68 : BitVec 32 := 0#32
  let v203 : BitVec 1 := Scalar.cmpi .slt c8_i32_64 c0_i32_68
  let v204 : BitVec 32 := Scalar.extui v203
  let v205 : BitVec 32 := Scalar.subi v202 v204
  let v206 : BitVec 1 := Scalar.cmpi .ne v200 v205
  let v207 : BitVec 32 := Scalar.remsi v194 c8_i32_64
  let c0_i32_69 : BitVec 32 := 0#32
  let v208 : BitVec 1 := Scalar.cmpi .ne v207 c0_i32_69
  let v209 : BitVec 1 := Scalar.andi v206 v208
  let v195 : BitVec 32 := Scalar.divsi v194 c8_i32_64
  let c1_i32_70 : BitVec 32 := 1#32
  let v210 : BitVec 32 := Scalar.subi v195 c1_i32_70
  let v211 : BitVec 32 := Scalar.select v209 v210 v195
  let v212 : BitVec 32 := Scalar.subi v211 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg12 : BitVec 32 := Scf.iv v216 c1_i32_75 k0_t21
  let c8_i32_92 : BitVec 32 := 8#32
  let v247 : BitVec 32 := Scalar.muli arg12 c8_i32_92
  let c6_i32 : BitVec 32 := 6#32
  let v248 : BitVec 32 := Scalar.addi v247 c6_i32
  let c128_i32_121 : BitVec 32 := 128#32
  let v297 : BitVec 32 := Scalar.muli v248 c128_i32_121
  ![v297.toNat]
def k0_cond87 (v56_0 : BitVec 32) (v56_2 : BitVec 32) (k0_t21 : Fin (k0_t21_loop v56_0 v56_2).trips) : BitVec 1 :=
  let c0_i32_72 : BitVec 32 := 0#32
  let v193 : BitVec 32 := Scalar.subi v56_2 v56_0
  let c7_i32 : BitVec 32 := 7#32
  let v194 : BitVec 32 := Scalar.addi v193 c7_i32
  let c0_i32_65 : BitVec 32 := 0#32
  let v196 : BitVec 1 := Scalar.cmpi .sgt v194 c0_i32_65
  let v197 : BitVec 32 := Scalar.extui v196
  let c0_i32_66 : BitVec 32 := 0#32
  let v198 : BitVec 1 := Scalar.cmpi .slt v194 c0_i32_66
  let v199 : BitVec 32 := Scalar.extui v198
  let v200 : BitVec 32 := Scalar.subi v197 v199
  let c8_i32_64 : BitVec 32 := 8#32
  let c0_i32_67 : BitVec 32 := 0#32
  let v201 : BitVec 1 := Scalar.cmpi .sgt c8_i32_64 c0_i32_67
  let v202 : BitVec 32 := Scalar.extui v201
  let c0_i32_68 : BitVec 32 := 0#32
  let v203 : BitVec 1 := Scalar.cmpi .slt c8_i32_64 c0_i32_68
  let v204 : BitVec 32 := Scalar.extui v203
  let v205 : BitVec 32 := Scalar.subi v202 v204
  let v206 : BitVec 1 := Scalar.cmpi .ne v200 v205
  let v207 : BitVec 32 := Scalar.remsi v194 c8_i32_64
  let c0_i32_69 : BitVec 32 := 0#32
  let v208 : BitVec 1 := Scalar.cmpi .ne v207 c0_i32_69
  let v209 : BitVec 1 := Scalar.andi v206 v208
  let v195 : BitVec 32 := Scalar.divsi v194 c8_i32_64
  let c1_i32_70 : BitVec 32 := 1#32
  let v210 : BitVec 32 := Scalar.subi v195 c1_i32_70
  let v211 : BitVec 32 := Scalar.select v209 v210 v195
  let v212 : BitVec 32 := Scalar.subi v211 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg12 : BitVec 32 := Scf.iv v216 c1_i32_75 k0_t21
  let c8_i32_92 : BitVec 32 := 8#32
  let v247 : BitVec 32 := Scalar.muli arg12 c8_i32_92
  let c6_i32 : BitVec 32 := 6#32
  let v248 : BitVec 32 := Scalar.addi v247 c6_i32
  let v249 : BitVec 1 := Scalar.cmpi .slt v248 v193
  let v250 : BitVec 32 := Scalar.extui v249
  let c0_i32_93 : BitVec 32 := 0#32
  let v251 : BitVec 1 := Scalar.cmpi .ne v250 c0_i32_93
  v251

def k0_off117 (v56_0 : BitVec 32) (v56_2 : BitVec 32) (k0_t21 : Fin (k0_t21_loop v56_0 v56_2).trips) : Fin 1 → Nat :=
  let c0_i32_72 : BitVec 32 := 0#32
  let v193 : BitVec 32 := Scalar.subi v56_2 v56_0
  let c7_i32 : BitVec 32 := 7#32
  let v194 : BitVec 32 := Scalar.addi v193 c7_i32
  let c0_i32_65 : BitVec 32 := 0#32
  let v196 : BitVec 1 := Scalar.cmpi .sgt v194 c0_i32_65
  let v197 : BitVec 32 := Scalar.extui v196
  let c0_i32_66 : BitVec 32 := 0#32
  let v198 : BitVec 1 := Scalar.cmpi .slt v194 c0_i32_66
  let v199 : BitVec 32 := Scalar.extui v198
  let v200 : BitVec 32 := Scalar.subi v197 v199
  let c8_i32_64 : BitVec 32 := 8#32
  let c0_i32_67 : BitVec 32 := 0#32
  let v201 : BitVec 1 := Scalar.cmpi .sgt c8_i32_64 c0_i32_67
  let v202 : BitVec 32 := Scalar.extui v201
  let c0_i32_68 : BitVec 32 := 0#32
  let v203 : BitVec 1 := Scalar.cmpi .slt c8_i32_64 c0_i32_68
  let v204 : BitVec 32 := Scalar.extui v203
  let v205 : BitVec 32 := Scalar.subi v202 v204
  let v206 : BitVec 1 := Scalar.cmpi .ne v200 v205
  let v207 : BitVec 32 := Scalar.remsi v194 c8_i32_64
  let c0_i32_69 : BitVec 32 := 0#32
  let v208 : BitVec 1 := Scalar.cmpi .ne v207 c0_i32_69
  let v209 : BitVec 1 := Scalar.andi v206 v208
  let v195 : BitVec 32 := Scalar.divsi v194 c8_i32_64
  let c1_i32_70 : BitVec 32 := 1#32
  let v210 : BitVec 32 := Scalar.subi v195 c1_i32_70
  let v211 : BitVec 32 := Scalar.select v209 v210 v195
  let v212 : BitVec 32 := Scalar.subi v211 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg12 : BitVec 32 := Scf.iv v216 c1_i32_75 k0_t21
  let c8_i32_92 : BitVec 32 := 8#32
  let v247 : BitVec 32 := Scalar.muli arg12 c8_i32_92
  let c6_i32 : BitVec 32 := 6#32
  let v248 : BitVec 32 := Scalar.addi v247 c6_i32
  let v298 : BitVec 32 := Scalar.addi v56_0 v248
  let c128_i32_122 : BitVec 32 := 128#32
  let v299 : BitVec 32 := Scalar.muli v298 c128_i32_122
  ![v299.toNat]
def k0_off118 (v56_0 : BitVec 32) (v56_2 : BitVec 32) (k0_t21 : Fin (k0_t21_loop v56_0 v56_2).trips) : Fin 1 → Nat :=
  let c0_i32_72 : BitVec 32 := 0#32
  let v193 : BitVec 32 := Scalar.subi v56_2 v56_0
  let c7_i32 : BitVec 32 := 7#32
  let v194 : BitVec 32 := Scalar.addi v193 c7_i32
  let c0_i32_65 : BitVec 32 := 0#32
  let v196 : BitVec 1 := Scalar.cmpi .sgt v194 c0_i32_65
  let v197 : BitVec 32 := Scalar.extui v196
  let c0_i32_66 : BitVec 32 := 0#32
  let v198 : BitVec 1 := Scalar.cmpi .slt v194 c0_i32_66
  let v199 : BitVec 32 := Scalar.extui v198
  let v200 : BitVec 32 := Scalar.subi v197 v199
  let c8_i32_64 : BitVec 32 := 8#32
  let c0_i32_67 : BitVec 32 := 0#32
  let v201 : BitVec 1 := Scalar.cmpi .sgt c8_i32_64 c0_i32_67
  let v202 : BitVec 32 := Scalar.extui v201
  let c0_i32_68 : BitVec 32 := 0#32
  let v203 : BitVec 1 := Scalar.cmpi .slt c8_i32_64 c0_i32_68
  let v204 : BitVec 32 := Scalar.extui v203
  let v205 : BitVec 32 := Scalar.subi v202 v204
  let v206 : BitVec 1 := Scalar.cmpi .ne v200 v205
  let v207 : BitVec 32 := Scalar.remsi v194 c8_i32_64
  let c0_i32_69 : BitVec 32 := 0#32
  let v208 : BitVec 1 := Scalar.cmpi .ne v207 c0_i32_69
  let v209 : BitVec 1 := Scalar.andi v206 v208
  let v195 : BitVec 32 := Scalar.divsi v194 c8_i32_64
  let c1_i32_70 : BitVec 32 := 1#32
  let v210 : BitVec 32 := Scalar.subi v195 c1_i32_70
  let v211 : BitVec 32 := Scalar.select v209 v210 v195
  let v212 : BitVec 32 := Scalar.subi v211 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg12 : BitVec 32 := Scf.iv v216 c1_i32_75 k0_t21
  let c8_i32_94 : BitVec 32 := 8#32
  let v252 : BitVec 32 := Scalar.muli arg12 c8_i32_94
  let c7_i32_95 : BitVec 32 := 7#32
  let v253 : BitVec 32 := Scalar.addi v252 c7_i32_95
  let c128_i32_121 : BitVec 32 := 128#32
  let v297 : BitVec 32 := Scalar.muli v253 c128_i32_121
  ![v297.toNat]
def k0_cond88 (v56_0 : BitVec 32) (v56_2 : BitVec 32) (k0_t21 : Fin (k0_t21_loop v56_0 v56_2).trips) : BitVec 1 :=
  let c0_i32_72 : BitVec 32 := 0#32
  let v193 : BitVec 32 := Scalar.subi v56_2 v56_0
  let c7_i32 : BitVec 32 := 7#32
  let v194 : BitVec 32 := Scalar.addi v193 c7_i32
  let c0_i32_65 : BitVec 32 := 0#32
  let v196 : BitVec 1 := Scalar.cmpi .sgt v194 c0_i32_65
  let v197 : BitVec 32 := Scalar.extui v196
  let c0_i32_66 : BitVec 32 := 0#32
  let v198 : BitVec 1 := Scalar.cmpi .slt v194 c0_i32_66
  let v199 : BitVec 32 := Scalar.extui v198
  let v200 : BitVec 32 := Scalar.subi v197 v199
  let c8_i32_64 : BitVec 32 := 8#32
  let c0_i32_67 : BitVec 32 := 0#32
  let v201 : BitVec 1 := Scalar.cmpi .sgt c8_i32_64 c0_i32_67
  let v202 : BitVec 32 := Scalar.extui v201
  let c0_i32_68 : BitVec 32 := 0#32
  let v203 : BitVec 1 := Scalar.cmpi .slt c8_i32_64 c0_i32_68
  let v204 : BitVec 32 := Scalar.extui v203
  let v205 : BitVec 32 := Scalar.subi v202 v204
  let v206 : BitVec 1 := Scalar.cmpi .ne v200 v205
  let v207 : BitVec 32 := Scalar.remsi v194 c8_i32_64
  let c0_i32_69 : BitVec 32 := 0#32
  let v208 : BitVec 1 := Scalar.cmpi .ne v207 c0_i32_69
  let v209 : BitVec 1 := Scalar.andi v206 v208
  let v195 : BitVec 32 := Scalar.divsi v194 c8_i32_64
  let c1_i32_70 : BitVec 32 := 1#32
  let v210 : BitVec 32 := Scalar.subi v195 c1_i32_70
  let v211 : BitVec 32 := Scalar.select v209 v210 v195
  let v212 : BitVec 32 := Scalar.subi v211 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg12 : BitVec 32 := Scf.iv v216 c1_i32_75 k0_t21
  let c8_i32_94 : BitVec 32 := 8#32
  let v252 : BitVec 32 := Scalar.muli arg12 c8_i32_94
  let c7_i32_95 : BitVec 32 := 7#32
  let v253 : BitVec 32 := Scalar.addi v252 c7_i32_95
  let v254 : BitVec 1 := Scalar.cmpi .slt v253 v193
  let v255 : BitVec 32 := Scalar.extui v254
  let c0_i32_96 : BitVec 32 := 0#32
  let v256 : BitVec 1 := Scalar.cmpi .ne v255 c0_i32_96
  v256

def k0_off119 (v56_0 : BitVec 32) (v56_2 : BitVec 32) (k0_t21 : Fin (k0_t21_loop v56_0 v56_2).trips) : Fin 1 → Nat :=
  let c0_i32_72 : BitVec 32 := 0#32
  let v193 : BitVec 32 := Scalar.subi v56_2 v56_0
  let c7_i32 : BitVec 32 := 7#32
  let v194 : BitVec 32 := Scalar.addi v193 c7_i32
  let c0_i32_65 : BitVec 32 := 0#32
  let v196 : BitVec 1 := Scalar.cmpi .sgt v194 c0_i32_65
  let v197 : BitVec 32 := Scalar.extui v196
  let c0_i32_66 : BitVec 32 := 0#32
  let v198 : BitVec 1 := Scalar.cmpi .slt v194 c0_i32_66
  let v199 : BitVec 32 := Scalar.extui v198
  let v200 : BitVec 32 := Scalar.subi v197 v199
  let c8_i32_64 : BitVec 32 := 8#32
  let c0_i32_67 : BitVec 32 := 0#32
  let v201 : BitVec 1 := Scalar.cmpi .sgt c8_i32_64 c0_i32_67
  let v202 : BitVec 32 := Scalar.extui v201
  let c0_i32_68 : BitVec 32 := 0#32
  let v203 : BitVec 1 := Scalar.cmpi .slt c8_i32_64 c0_i32_68
  let v204 : BitVec 32 := Scalar.extui v203
  let v205 : BitVec 32 := Scalar.subi v202 v204
  let v206 : BitVec 1 := Scalar.cmpi .ne v200 v205
  let v207 : BitVec 32 := Scalar.remsi v194 c8_i32_64
  let c0_i32_69 : BitVec 32 := 0#32
  let v208 : BitVec 1 := Scalar.cmpi .ne v207 c0_i32_69
  let v209 : BitVec 1 := Scalar.andi v206 v208
  let v195 : BitVec 32 := Scalar.divsi v194 c8_i32_64
  let c1_i32_70 : BitVec 32 := 1#32
  let v210 : BitVec 32 := Scalar.subi v195 c1_i32_70
  let v211 : BitVec 32 := Scalar.select v209 v210 v195
  let v212 : BitVec 32 := Scalar.subi v211 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg12 : BitVec 32 := Scf.iv v216 c1_i32_75 k0_t21
  let c8_i32_94 : BitVec 32 := 8#32
  let v252 : BitVec 32 := Scalar.muli arg12 c8_i32_94
  let c7_i32_95 : BitVec 32 := 7#32
  let v253 : BitVec 32 := Scalar.addi v252 c7_i32_95
  let v298 : BitVec 32 := Scalar.addi v56_0 v253
  let c128_i32_122 : BitVec 32 := 128#32
  let v299 : BitVec 32 := Scalar.muli v298 c128_i32_122
  ![v299.toNat]
def k0_off120 (v56_0 : BitVec 32) : Fin 1 → Nat :=
  let c128_i32_121 : BitVec 32 := 128#32
  let v297 : BitVec 32 := Scalar.muli v56_0 c128_i32_121
  ![v297.toNat]
def k0_cond89 (v56_0 : BitVec 32) (v56_2 : BitVec 32) (k0_t21 : Fin (k0_t21_loop v56_0 v56_2).trips) : BitVec 1 :=
  let c0_i32_72 : BitVec 32 := 0#32
  let v193 : BitVec 32 := Scalar.subi v56_2 v56_0
  let c7_i32 : BitVec 32 := 7#32
  let v194 : BitVec 32 := Scalar.addi v193 c7_i32
  let c0_i32_65 : BitVec 32 := 0#32
  let v196 : BitVec 1 := Scalar.cmpi .sgt v194 c0_i32_65
  let v197 : BitVec 32 := Scalar.extui v196
  let c0_i32_66 : BitVec 32 := 0#32
  let v198 : BitVec 1 := Scalar.cmpi .slt v194 c0_i32_66
  let v199 : BitVec 32 := Scalar.extui v198
  let v200 : BitVec 32 := Scalar.subi v197 v199
  let c8_i32_64 : BitVec 32 := 8#32
  let c0_i32_67 : BitVec 32 := 0#32
  let v201 : BitVec 1 := Scalar.cmpi .sgt c8_i32_64 c0_i32_67
  let v202 : BitVec 32 := Scalar.extui v201
  let c0_i32_68 : BitVec 32 := 0#32
  let v203 : BitVec 1 := Scalar.cmpi .slt c8_i32_64 c0_i32_68
  let v204 : BitVec 32 := Scalar.extui v203
  let v205 : BitVec 32 := Scalar.subi v202 v204
  let v206 : BitVec 1 := Scalar.cmpi .ne v200 v205
  let v207 : BitVec 32 := Scalar.remsi v194 c8_i32_64
  let c0_i32_69 : BitVec 32 := 0#32
  let v208 : BitVec 1 := Scalar.cmpi .ne v207 c0_i32_69
  let v209 : BitVec 1 := Scalar.andi v206 v208
  let v195 : BitVec 32 := Scalar.divsi v194 c8_i32_64
  let c1_i32_70 : BitVec 32 := 1#32
  let v210 : BitVec 32 := Scalar.subi v195 c1_i32_70
  let v211 : BitVec 32 := Scalar.select v209 v210 v195
  let v212 : BitVec 32 := Scalar.subi v211 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg12 : BitVec 32 := Scf.iv v216 c1_i32_75 k0_t21
  let c8_i32_97 : BitVec 32 := 8#32
  let v257 : BitVec 32 := Scalar.muli arg12 c8_i32_97
  let c0_i32_98 : BitVec 32 := 0#32
  let v258 : BitVec 32 := Scalar.addi v257 c0_i32_98
  let v259 : BitVec 1 := Scalar.cmpi .slt v258 v193
  let v260 : BitVec 32 := Scalar.extui v259
  let c0_i32_99 : BitVec 32 := 0#32
  let v261 : BitVec 1 := Scalar.cmpi .ne v260 c0_i32_99
  v261

def k0_off121 (v56_0 : BitVec 32) : Fin 1 → Nat :=
  let c128_i32_121 : BitVec 32 := 128#32
  let v297 : BitVec 32 := Scalar.muli v56_0 c128_i32_121
  ![v297.toNat]
def k0_cond90 (v56_0 : BitVec 32) (v56_2 : BitVec 32) (k0_t21 : Fin (k0_t21_loop v56_0 v56_2).trips) : BitVec 1 :=
  let c0_i32_72 : BitVec 32 := 0#32
  let v193 : BitVec 32 := Scalar.subi v56_2 v56_0
  let c7_i32 : BitVec 32 := 7#32
  let v194 : BitVec 32 := Scalar.addi v193 c7_i32
  let c0_i32_65 : BitVec 32 := 0#32
  let v196 : BitVec 1 := Scalar.cmpi .sgt v194 c0_i32_65
  let v197 : BitVec 32 := Scalar.extui v196
  let c0_i32_66 : BitVec 32 := 0#32
  let v198 : BitVec 1 := Scalar.cmpi .slt v194 c0_i32_66
  let v199 : BitVec 32 := Scalar.extui v198
  let v200 : BitVec 32 := Scalar.subi v197 v199
  let c8_i32_64 : BitVec 32 := 8#32
  let c0_i32_67 : BitVec 32 := 0#32
  let v201 : BitVec 1 := Scalar.cmpi .sgt c8_i32_64 c0_i32_67
  let v202 : BitVec 32 := Scalar.extui v201
  let c0_i32_68 : BitVec 32 := 0#32
  let v203 : BitVec 1 := Scalar.cmpi .slt c8_i32_64 c0_i32_68
  let v204 : BitVec 32 := Scalar.extui v203
  let v205 : BitVec 32 := Scalar.subi v202 v204
  let v206 : BitVec 1 := Scalar.cmpi .ne v200 v205
  let v207 : BitVec 32 := Scalar.remsi v194 c8_i32_64
  let c0_i32_69 : BitVec 32 := 0#32
  let v208 : BitVec 1 := Scalar.cmpi .ne v207 c0_i32_69
  let v209 : BitVec 1 := Scalar.andi v206 v208
  let v195 : BitVec 32 := Scalar.divsi v194 c8_i32_64
  let c1_i32_70 : BitVec 32 := 1#32
  let v210 : BitVec 32 := Scalar.subi v195 c1_i32_70
  let v211 : BitVec 32 := Scalar.select v209 v210 v195
  let v212 : BitVec 32 := Scalar.subi v211 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg12 : BitVec 32 := Scf.iv v216 c1_i32_75 k0_t21
  let c8_i32_100 : BitVec 32 := 8#32
  let v262 : BitVec 32 := Scalar.muli arg12 c8_i32_100
  let c1_i32_101 : BitVec 32 := 1#32
  let v263 : BitVec 32 := Scalar.addi v262 c1_i32_101
  let v264 : BitVec 1 := Scalar.cmpi .slt v263 v193
  let v265 : BitVec 32 := Scalar.extui v264
  let c0_i32_102 : BitVec 32 := 0#32
  let v266 : BitVec 1 := Scalar.cmpi .ne v265 c0_i32_102
  v266

def k0_off122 (v56_0 : BitVec 32) : Fin 1 → Nat :=
  let c128_i32_121 : BitVec 32 := 128#32
  let v297 : BitVec 32 := Scalar.muli v56_0 c128_i32_121
  ![v297.toNat]
def k0_cond91 (v56_0 : BitVec 32) (v56_2 : BitVec 32) (k0_t21 : Fin (k0_t21_loop v56_0 v56_2).trips) : BitVec 1 :=
  let c0_i32_72 : BitVec 32 := 0#32
  let v193 : BitVec 32 := Scalar.subi v56_2 v56_0
  let c7_i32 : BitVec 32 := 7#32
  let v194 : BitVec 32 := Scalar.addi v193 c7_i32
  let c0_i32_65 : BitVec 32 := 0#32
  let v196 : BitVec 1 := Scalar.cmpi .sgt v194 c0_i32_65
  let v197 : BitVec 32 := Scalar.extui v196
  let c0_i32_66 : BitVec 32 := 0#32
  let v198 : BitVec 1 := Scalar.cmpi .slt v194 c0_i32_66
  let v199 : BitVec 32 := Scalar.extui v198
  let v200 : BitVec 32 := Scalar.subi v197 v199
  let c8_i32_64 : BitVec 32 := 8#32
  let c0_i32_67 : BitVec 32 := 0#32
  let v201 : BitVec 1 := Scalar.cmpi .sgt c8_i32_64 c0_i32_67
  let v202 : BitVec 32 := Scalar.extui v201
  let c0_i32_68 : BitVec 32 := 0#32
  let v203 : BitVec 1 := Scalar.cmpi .slt c8_i32_64 c0_i32_68
  let v204 : BitVec 32 := Scalar.extui v203
  let v205 : BitVec 32 := Scalar.subi v202 v204
  let v206 : BitVec 1 := Scalar.cmpi .ne v200 v205
  let v207 : BitVec 32 := Scalar.remsi v194 c8_i32_64
  let c0_i32_69 : BitVec 32 := 0#32
  let v208 : BitVec 1 := Scalar.cmpi .ne v207 c0_i32_69
  let v209 : BitVec 1 := Scalar.andi v206 v208
  let v195 : BitVec 32 := Scalar.divsi v194 c8_i32_64
  let c1_i32_70 : BitVec 32 := 1#32
  let v210 : BitVec 32 := Scalar.subi v195 c1_i32_70
  let v211 : BitVec 32 := Scalar.select v209 v210 v195
  let v212 : BitVec 32 := Scalar.subi v211 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg12 : BitVec 32 := Scf.iv v216 c1_i32_75 k0_t21
  let c8_i32_103 : BitVec 32 := 8#32
  let v267 : BitVec 32 := Scalar.muli arg12 c8_i32_103
  let c2_i32_104 : BitVec 32 := 2#32
  let v268 : BitVec 32 := Scalar.addi v267 c2_i32_104
  let v269 : BitVec 1 := Scalar.cmpi .slt v268 v193
  let v270 : BitVec 32 := Scalar.extui v269
  let c0_i32_105 : BitVec 32 := 0#32
  let v271 : BitVec 1 := Scalar.cmpi .ne v270 c0_i32_105
  v271

def k0_off123 (v56_0 : BitVec 32) : Fin 1 → Nat :=
  let c128_i32_121 : BitVec 32 := 128#32
  let v297 : BitVec 32 := Scalar.muli v56_0 c128_i32_121
  ![v297.toNat]
def k0_cond92 (v56_0 : BitVec 32) (v56_2 : BitVec 32) (k0_t21 : Fin (k0_t21_loop v56_0 v56_2).trips) : BitVec 1 :=
  let c0_i32_72 : BitVec 32 := 0#32
  let v193 : BitVec 32 := Scalar.subi v56_2 v56_0
  let c7_i32 : BitVec 32 := 7#32
  let v194 : BitVec 32 := Scalar.addi v193 c7_i32
  let c0_i32_65 : BitVec 32 := 0#32
  let v196 : BitVec 1 := Scalar.cmpi .sgt v194 c0_i32_65
  let v197 : BitVec 32 := Scalar.extui v196
  let c0_i32_66 : BitVec 32 := 0#32
  let v198 : BitVec 1 := Scalar.cmpi .slt v194 c0_i32_66
  let v199 : BitVec 32 := Scalar.extui v198
  let v200 : BitVec 32 := Scalar.subi v197 v199
  let c8_i32_64 : BitVec 32 := 8#32
  let c0_i32_67 : BitVec 32 := 0#32
  let v201 : BitVec 1 := Scalar.cmpi .sgt c8_i32_64 c0_i32_67
  let v202 : BitVec 32 := Scalar.extui v201
  let c0_i32_68 : BitVec 32 := 0#32
  let v203 : BitVec 1 := Scalar.cmpi .slt c8_i32_64 c0_i32_68
  let v204 : BitVec 32 := Scalar.extui v203
  let v205 : BitVec 32 := Scalar.subi v202 v204
  let v206 : BitVec 1 := Scalar.cmpi .ne v200 v205
  let v207 : BitVec 32 := Scalar.remsi v194 c8_i32_64
  let c0_i32_69 : BitVec 32 := 0#32
  let v208 : BitVec 1 := Scalar.cmpi .ne v207 c0_i32_69
  let v209 : BitVec 1 := Scalar.andi v206 v208
  let v195 : BitVec 32 := Scalar.divsi v194 c8_i32_64
  let c1_i32_70 : BitVec 32 := 1#32
  let v210 : BitVec 32 := Scalar.subi v195 c1_i32_70
  let v211 : BitVec 32 := Scalar.select v209 v210 v195
  let v212 : BitVec 32 := Scalar.subi v211 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg12 : BitVec 32 := Scf.iv v216 c1_i32_75 k0_t21
  let c8_i32_106 : BitVec 32 := 8#32
  let v272 : BitVec 32 := Scalar.muli arg12 c8_i32_106
  let c3_i32_107 : BitVec 32 := 3#32
  let v273 : BitVec 32 := Scalar.addi v272 c3_i32_107
  let v274 : BitVec 1 := Scalar.cmpi .slt v273 v193
  let v275 : BitVec 32 := Scalar.extui v274
  let c0_i32_108 : BitVec 32 := 0#32
  let v276 : BitVec 1 := Scalar.cmpi .ne v275 c0_i32_108
  v276

def k0_off124 (v56_0 : BitVec 32) : Fin 1 → Nat :=
  let c128_i32_121 : BitVec 32 := 128#32
  let v297 : BitVec 32 := Scalar.muli v56_0 c128_i32_121
  ![v297.toNat]
def k0_cond93 (v56_0 : BitVec 32) (v56_2 : BitVec 32) (k0_t21 : Fin (k0_t21_loop v56_0 v56_2).trips) : BitVec 1 :=
  let c0_i32_72 : BitVec 32 := 0#32
  let v193 : BitVec 32 := Scalar.subi v56_2 v56_0
  let c7_i32 : BitVec 32 := 7#32
  let v194 : BitVec 32 := Scalar.addi v193 c7_i32
  let c0_i32_65 : BitVec 32 := 0#32
  let v196 : BitVec 1 := Scalar.cmpi .sgt v194 c0_i32_65
  let v197 : BitVec 32 := Scalar.extui v196
  let c0_i32_66 : BitVec 32 := 0#32
  let v198 : BitVec 1 := Scalar.cmpi .slt v194 c0_i32_66
  let v199 : BitVec 32 := Scalar.extui v198
  let v200 : BitVec 32 := Scalar.subi v197 v199
  let c8_i32_64 : BitVec 32 := 8#32
  let c0_i32_67 : BitVec 32 := 0#32
  let v201 : BitVec 1 := Scalar.cmpi .sgt c8_i32_64 c0_i32_67
  let v202 : BitVec 32 := Scalar.extui v201
  let c0_i32_68 : BitVec 32 := 0#32
  let v203 : BitVec 1 := Scalar.cmpi .slt c8_i32_64 c0_i32_68
  let v204 : BitVec 32 := Scalar.extui v203
  let v205 : BitVec 32 := Scalar.subi v202 v204
  let v206 : BitVec 1 := Scalar.cmpi .ne v200 v205
  let v207 : BitVec 32 := Scalar.remsi v194 c8_i32_64
  let c0_i32_69 : BitVec 32 := 0#32
  let v208 : BitVec 1 := Scalar.cmpi .ne v207 c0_i32_69
  let v209 : BitVec 1 := Scalar.andi v206 v208
  let v195 : BitVec 32 := Scalar.divsi v194 c8_i32_64
  let c1_i32_70 : BitVec 32 := 1#32
  let v210 : BitVec 32 := Scalar.subi v195 c1_i32_70
  let v211 : BitVec 32 := Scalar.select v209 v210 v195
  let v212 : BitVec 32 := Scalar.subi v211 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg12 : BitVec 32 := Scf.iv v216 c1_i32_75 k0_t21
  let c8_i32_109 : BitVec 32 := 8#32
  let v277 : BitVec 32 := Scalar.muli arg12 c8_i32_109
  let c4_i32_110 : BitVec 32 := 4#32
  let v278 : BitVec 32 := Scalar.addi v277 c4_i32_110
  let v279 : BitVec 1 := Scalar.cmpi .slt v278 v193
  let v280 : BitVec 32 := Scalar.extui v279
  let c0_i32_111 : BitVec 32 := 0#32
  let v281 : BitVec 1 := Scalar.cmpi .ne v280 c0_i32_111
  v281

def k0_off125 (v56_0 : BitVec 32) : Fin 1 → Nat :=
  let c128_i32_121 : BitVec 32 := 128#32
  let v297 : BitVec 32 := Scalar.muli v56_0 c128_i32_121
  ![v297.toNat]
def k0_cond94 (v56_0 : BitVec 32) (v56_2 : BitVec 32) (k0_t21 : Fin (k0_t21_loop v56_0 v56_2).trips) : BitVec 1 :=
  let c0_i32_72 : BitVec 32 := 0#32
  let v193 : BitVec 32 := Scalar.subi v56_2 v56_0
  let c7_i32 : BitVec 32 := 7#32
  let v194 : BitVec 32 := Scalar.addi v193 c7_i32
  let c0_i32_65 : BitVec 32 := 0#32
  let v196 : BitVec 1 := Scalar.cmpi .sgt v194 c0_i32_65
  let v197 : BitVec 32 := Scalar.extui v196
  let c0_i32_66 : BitVec 32 := 0#32
  let v198 : BitVec 1 := Scalar.cmpi .slt v194 c0_i32_66
  let v199 : BitVec 32 := Scalar.extui v198
  let v200 : BitVec 32 := Scalar.subi v197 v199
  let c8_i32_64 : BitVec 32 := 8#32
  let c0_i32_67 : BitVec 32 := 0#32
  let v201 : BitVec 1 := Scalar.cmpi .sgt c8_i32_64 c0_i32_67
  let v202 : BitVec 32 := Scalar.extui v201
  let c0_i32_68 : BitVec 32 := 0#32
  let v203 : BitVec 1 := Scalar.cmpi .slt c8_i32_64 c0_i32_68
  let v204 : BitVec 32 := Scalar.extui v203
  let v205 : BitVec 32 := Scalar.subi v202 v204
  let v206 : BitVec 1 := Scalar.cmpi .ne v200 v205
  let v207 : BitVec 32 := Scalar.remsi v194 c8_i32_64
  let c0_i32_69 : BitVec 32 := 0#32
  let v208 : BitVec 1 := Scalar.cmpi .ne v207 c0_i32_69
  let v209 : BitVec 1 := Scalar.andi v206 v208
  let v195 : BitVec 32 := Scalar.divsi v194 c8_i32_64
  let c1_i32_70 : BitVec 32 := 1#32
  let v210 : BitVec 32 := Scalar.subi v195 c1_i32_70
  let v211 : BitVec 32 := Scalar.select v209 v210 v195
  let v212 : BitVec 32 := Scalar.subi v211 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg12 : BitVec 32 := Scf.iv v216 c1_i32_75 k0_t21
  let c8_i32_112 : BitVec 32 := 8#32
  let v282 : BitVec 32 := Scalar.muli arg12 c8_i32_112
  let c5_i32_113 : BitVec 32 := 5#32
  let v283 : BitVec 32 := Scalar.addi v282 c5_i32_113
  let v284 : BitVec 1 := Scalar.cmpi .slt v283 v193
  let v285 : BitVec 32 := Scalar.extui v284
  let c0_i32_114 : BitVec 32 := 0#32
  let v286 : BitVec 1 := Scalar.cmpi .ne v285 c0_i32_114
  v286

def k0_off126 (v56_0 : BitVec 32) : Fin 1 → Nat :=
  let c128_i32_121 : BitVec 32 := 128#32
  let v297 : BitVec 32 := Scalar.muli v56_0 c128_i32_121
  ![v297.toNat]
def k0_cond95 (v56_0 : BitVec 32) (v56_2 : BitVec 32) (k0_t21 : Fin (k0_t21_loop v56_0 v56_2).trips) : BitVec 1 :=
  let c0_i32_72 : BitVec 32 := 0#32
  let v193 : BitVec 32 := Scalar.subi v56_2 v56_0
  let c7_i32 : BitVec 32 := 7#32
  let v194 : BitVec 32 := Scalar.addi v193 c7_i32
  let c0_i32_65 : BitVec 32 := 0#32
  let v196 : BitVec 1 := Scalar.cmpi .sgt v194 c0_i32_65
  let v197 : BitVec 32 := Scalar.extui v196
  let c0_i32_66 : BitVec 32 := 0#32
  let v198 : BitVec 1 := Scalar.cmpi .slt v194 c0_i32_66
  let v199 : BitVec 32 := Scalar.extui v198
  let v200 : BitVec 32 := Scalar.subi v197 v199
  let c8_i32_64 : BitVec 32 := 8#32
  let c0_i32_67 : BitVec 32 := 0#32
  let v201 : BitVec 1 := Scalar.cmpi .sgt c8_i32_64 c0_i32_67
  let v202 : BitVec 32 := Scalar.extui v201
  let c0_i32_68 : BitVec 32 := 0#32
  let v203 : BitVec 1 := Scalar.cmpi .slt c8_i32_64 c0_i32_68
  let v204 : BitVec 32 := Scalar.extui v203
  let v205 : BitVec 32 := Scalar.subi v202 v204
  let v206 : BitVec 1 := Scalar.cmpi .ne v200 v205
  let v207 : BitVec 32 := Scalar.remsi v194 c8_i32_64
  let c0_i32_69 : BitVec 32 := 0#32
  let v208 : BitVec 1 := Scalar.cmpi .ne v207 c0_i32_69
  let v209 : BitVec 1 := Scalar.andi v206 v208
  let v195 : BitVec 32 := Scalar.divsi v194 c8_i32_64
  let c1_i32_70 : BitVec 32 := 1#32
  let v210 : BitVec 32 := Scalar.subi v195 c1_i32_70
  let v211 : BitVec 32 := Scalar.select v209 v210 v195
  let v212 : BitVec 32 := Scalar.subi v211 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg12 : BitVec 32 := Scf.iv v216 c1_i32_75 k0_t21
  let c8_i32_115 : BitVec 32 := 8#32
  let v287 : BitVec 32 := Scalar.muli arg12 c8_i32_115
  let c6_i32_116 : BitVec 32 := 6#32
  let v288 : BitVec 32 := Scalar.addi v287 c6_i32_116
  let v289 : BitVec 1 := Scalar.cmpi .slt v288 v193
  let v290 : BitVec 32 := Scalar.extui v289
  let c0_i32_117 : BitVec 32 := 0#32
  let v291 : BitVec 1 := Scalar.cmpi .ne v290 c0_i32_117
  v291

def k0_off127 (v56_0 : BitVec 32) : Fin 1 → Nat :=
  let c128_i32_121 : BitVec 32 := 128#32
  let v297 : BitVec 32 := Scalar.muli v56_0 c128_i32_121
  ![v297.toNat]
def k0_cond96 (v56_0 : BitVec 32) (v56_2 : BitVec 32) (k0_t21 : Fin (k0_t21_loop v56_0 v56_2).trips) : BitVec 1 :=
  let c0_i32_72 : BitVec 32 := 0#32
  let v193 : BitVec 32 := Scalar.subi v56_2 v56_0
  let c7_i32 : BitVec 32 := 7#32
  let v194 : BitVec 32 := Scalar.addi v193 c7_i32
  let c0_i32_65 : BitVec 32 := 0#32
  let v196 : BitVec 1 := Scalar.cmpi .sgt v194 c0_i32_65
  let v197 : BitVec 32 := Scalar.extui v196
  let c0_i32_66 : BitVec 32 := 0#32
  let v198 : BitVec 1 := Scalar.cmpi .slt v194 c0_i32_66
  let v199 : BitVec 32 := Scalar.extui v198
  let v200 : BitVec 32 := Scalar.subi v197 v199
  let c8_i32_64 : BitVec 32 := 8#32
  let c0_i32_67 : BitVec 32 := 0#32
  let v201 : BitVec 1 := Scalar.cmpi .sgt c8_i32_64 c0_i32_67
  let v202 : BitVec 32 := Scalar.extui v201
  let c0_i32_68 : BitVec 32 := 0#32
  let v203 : BitVec 1 := Scalar.cmpi .slt c8_i32_64 c0_i32_68
  let v204 : BitVec 32 := Scalar.extui v203
  let v205 : BitVec 32 := Scalar.subi v202 v204
  let v206 : BitVec 1 := Scalar.cmpi .ne v200 v205
  let v207 : BitVec 32 := Scalar.remsi v194 c8_i32_64
  let c0_i32_69 : BitVec 32 := 0#32
  let v208 : BitVec 1 := Scalar.cmpi .ne v207 c0_i32_69
  let v209 : BitVec 1 := Scalar.andi v206 v208
  let v195 : BitVec 32 := Scalar.divsi v194 c8_i32_64
  let c1_i32_70 : BitVec 32 := 1#32
  let v210 : BitVec 32 := Scalar.subi v195 c1_i32_70
  let v211 : BitVec 32 := Scalar.select v209 v210 v195
  let v212 : BitVec 32 := Scalar.subi v211 c0_i32_72
  let c1_i32_73 : BitVec 32 := 1#32
  let v214 : BitVec 32 := Scalar.divsi v212 c1_i32_73
  let v215 : BitVec 32 := Scalar.muli v214 c1_i32_73
  let v216 : BitVec 32 := Scalar.addi c0_i32_72 v215
  let c1_i32_75 : BitVec 32 := 1#32
  let arg12 : BitVec 32 := Scf.iv v216 c1_i32_75 k0_t21
  let c8_i32_118 : BitVec 32 := 8#32
  let v292 : BitVec 32 := Scalar.muli arg12 c8_i32_118
  let c7_i32_119 : BitVec 32 := 7#32
  let v293 : BitVec 32 := Scalar.addi v292 c7_i32_119
  let v294 : BitVec 1 := Scalar.cmpi .slt v293 v193
  let v295 : BitVec 32 := Scalar.extui v294
  let c0_i32_120 : BitVec 32 := 0#32
  let v296 : BitVec 1 := Scalar.cmpi .ne v295 c0_i32_120
  v296

def k0_chk59_0 (v56_0 : BitVec 32) (v56_2 : BitVec 32) : Prop :=
  ((k0_t20_loop v56_0 v56_2).OK) ∧
  (∀ k0_t20 : Fin (k0_t20_loop v56_0 v56_2).trips, ∀ (k0_h65 : k0_cond65 v56_0 v56_2 k0_t20 = 1#1), ∀ a, (k0_off80 v56_0 v56_2 k0_t20) a + S128.size a ≤ S19456.size a) ∧
  (∀ k0_t20 : Fin (k0_t20_loop v56_0 v56_2).trips, ∀ (k0_h65 : k0_cond65 v56_0 v56_2 k0_t20 = 1#1), ∀ a, (k0_off81 v56_0 v56_2 k0_t20) a + S128.size a ≤ S102400.size a) ∧
  (∀ k0_t20 : Fin (k0_t20_loop v56_0 v56_2).trips, ∀ (k0_h66 : k0_cond66 v56_0 v56_2 k0_t20 = 1#1), ∀ a, (k0_off82 v56_0 v56_2 k0_t20) a + S128.size a ≤ S19456.size a) ∧
  (∀ k0_t20 : Fin (k0_t20_loop v56_0 v56_2).trips, ∀ (k0_h66 : k0_cond66 v56_0 v56_2 k0_t20 = 1#1), ∀ a, (k0_off83 v56_0 v56_2 k0_t20) a + S128.size a ≤ S102400.size a) ∧
  (∀ k0_t20 : Fin (k0_t20_loop v56_0 v56_2).trips, ∀ (k0_h67 : k0_cond67 v56_0 v56_2 k0_t20 = 1#1), ∀ a, (k0_off84 v56_0 v56_2 k0_t20) a + S128.size a ≤ S19456.size a) ∧
  (∀ k0_t20 : Fin (k0_t20_loop v56_0 v56_2).trips, ∀ (k0_h67 : k0_cond67 v56_0 v56_2 k0_t20 = 1#1), ∀ a, (k0_off85 v56_0 v56_2 k0_t20) a + S128.size a ≤ S102400.size a) ∧
  (∀ k0_t20 : Fin (k0_t20_loop v56_0 v56_2).trips, ∀ (k0_h68 : k0_cond68 v56_0 v56_2 k0_t20 = 1#1), ∀ a, (k0_off86 v56_0 v56_2 k0_t20) a + S128.size a ≤ S19456.size a) ∧
  (∀ k0_t20 : Fin (k0_t20_loop v56_0 v56_2).trips, ∀ (k0_h68 : k0_cond68 v56_0 v56_2 k0_t20 = 1#1), ∀ a, (k0_off87 v56_0 v56_2 k0_t20) a + S128.size a ≤ S102400.size a) ∧
  (∀ k0_t20 : Fin (k0_t20_loop v56_0 v56_2).trips, ∀ (k0_h69 : k0_cond69 v56_0 v56_2 k0_t20 = 1#1), ∀ a, (k0_off88 v56_0 v56_2 k0_t20) a + S128.size a ≤ S19456.size a) ∧
  (∀ k0_t20 : Fin (k0_t20_loop v56_0 v56_2).trips, ∀ (k0_h69 : k0_cond69 v56_0 v56_2 k0_t20 = 1#1), ∀ a, (k0_off89 v56_0 v56_2 k0_t20) a + S128.size a ≤ S102400.size a) ∧
  (∀ k0_t20 : Fin (k0_t20_loop v56_0 v56_2).trips, ∀ (k0_h70 : k0_cond70 v56_0 v56_2 k0_t20 = 1#1), ∀ a, (k0_off90 v56_0 v56_2 k0_t20) a + S128.size a ≤ S19456.size a) ∧
  (∀ k0_t20 : Fin (k0_t20_loop v56_0 v56_2).trips, ∀ (k0_h70 : k0_cond70 v56_0 v56_2 k0_t20 = 1#1), ∀ a, (k0_off91 v56_0 v56_2 k0_t20) a + S128.size a ≤ S102400.size a) ∧
  (∀ k0_t20 : Fin (k0_t20_loop v56_0 v56_2).trips, ∀ (k0_h71 : k0_cond71 v56_0 v56_2 k0_t20 = 1#1), ∀ a, (k0_off92 v56_0 v56_2 k0_t20) a + S128.size a ≤ S19456.size a) ∧
  (∀ k0_t20 : Fin (k0_t20_loop v56_0 v56_2).trips, ∀ (k0_h71 : k0_cond71 v56_0 v56_2 k0_t20 = 1#1), ∀ a, (k0_off93 v56_0 v56_2 k0_t20) a + S128.size a ≤ S102400.size a) ∧
  (∀ k0_t20 : Fin (k0_t20_loop v56_0 v56_2).trips, ∀ (k0_h72 : k0_cond72 v56_0 v56_2 k0_t20 = 1#1), ∀ a, (k0_off94 v56_0 v56_2 k0_t20) a + S128.size a ≤ S19456.size a) ∧
  (∀ k0_t20 : Fin (k0_t20_loop v56_0 v56_2).trips, ∀ (k0_h72 : k0_cond72 v56_0 v56_2 k0_t20 = 1#1), ∀ a, (k0_off95 v56_0 v56_2 k0_t20) a + S128.size a ≤ S102400.size a) ∧
  (∀ k0_t20 : Fin (k0_t20_loop v56_0 v56_2).trips, ∀ (k0_h73 : k0_cond73 v56_0 v56_2 k0_t20 = 1#1), ∀ a, (k0_off96 v56_0) a + S128.size a ≤ S102400.size a) ∧
  (∀ k0_t20 : Fin (k0_t20_loop v56_0 v56_2).trips, ∀ (k0_h74 : k0_cond74 v56_0 v56_2 k0_t20 = 1#1), ∀ a, (k0_off97 v56_0) a + S128.size a ≤ S102400.size a) ∧
  (∀ k0_t20 : Fin (k0_t20_loop v56_0 v56_2).trips, ∀ (k0_h75 : k0_cond75 v56_0 v56_2 k0_t20 = 1#1), ∀ a, (k0_off98 v56_0) a + S128.size a ≤ S102400.size a) ∧
  (∀ k0_t20 : Fin (k0_t20_loop v56_0 v56_2).trips, ∀ (k0_h76 : k0_cond76 v56_0 v56_2 k0_t20 = 1#1), ∀ a, (k0_off99 v56_0) a + S128.size a ≤ S102400.size a) ∧
  (∀ k0_t20 : Fin (k0_t20_loop v56_0 v56_2).trips, ∀ (k0_h77 : k0_cond77 v56_0 v56_2 k0_t20 = 1#1), ∀ a, (k0_off100 v56_0) a + S128.size a ≤ S102400.size a) ∧
  (∀ k0_t20 : Fin (k0_t20_loop v56_0 v56_2).trips, ∀ (k0_h78 : k0_cond78 v56_0 v56_2 k0_t20 = 1#1), ∀ a, (k0_off101 v56_0) a + S128.size a ≤ S102400.size a) ∧
  (∀ k0_t20 : Fin (k0_t20_loop v56_0 v56_2).trips, ∀ (k0_h79 : k0_cond79 v56_0 v56_2 k0_t20 = 1#1), ∀ a, (k0_off102 v56_0) a + S128.size a ≤ S102400.size a) ∧
  (∀ k0_t20 : Fin (k0_t20_loop v56_0 v56_2).trips, ∀ (k0_h80 : k0_cond80 v56_0 v56_2 k0_t20 = 1#1), ∀ a, (k0_off103 v56_0) a + S128.size a ≤ S102400.size a) ∧
  ((k0_t21_loop v56_0 v56_2).OK) ∧
  (∀ k0_t21 : Fin (k0_t21_loop v56_0 v56_2).trips, ∀ (k0_h81 : k0_cond81 v56_0 v56_2 k0_t21 = 1#1), ∀ a, (k0_off104 v56_0 v56_2 k0_t21) a + S128.size a ≤ S19456.size a) ∧
  (∀ k0_t21 : Fin (k0_t21_loop v56_0 v56_2).trips, ∀ (k0_h81 : k0_cond81 v56_0 v56_2 k0_t21 = 1#1), ∀ a, (k0_off105 v56_0 v56_2 k0_t21) a + S128.size a ≤ S102400.size a) ∧
  (∀ k0_t21 : Fin (k0_t21_loop v56_0 v56_2).trips, ∀ (k0_h82 : k0_cond82 v56_0 v56_2 k0_t21 = 1#1), ∀ a, (k0_off106 v56_0 v56_2 k0_t21) a + S128.size a ≤ S19456.size a) ∧
  (∀ k0_t21 : Fin (k0_t21_loop v56_0 v56_2).trips, ∀ (k0_h82 : k0_cond82 v56_0 v56_2 k0_t21 = 1#1), ∀ a, (k0_off107 v56_0 v56_2 k0_t21) a + S128.size a ≤ S102400.size a) ∧
  (∀ k0_t21 : Fin (k0_t21_loop v56_0 v56_2).trips, ∀ (k0_h83 : k0_cond83 v56_0 v56_2 k0_t21 = 1#1), ∀ a, (k0_off108 v56_0 v56_2 k0_t21) a + S128.size a ≤ S19456.size a) ∧
  (∀ k0_t21 : Fin (k0_t21_loop v56_0 v56_2).trips, ∀ (k0_h83 : k0_cond83 v56_0 v56_2 k0_t21 = 1#1), ∀ a, (k0_off109 v56_0 v56_2 k0_t21) a + S128.size a ≤ S102400.size a)
def k0_chk59_1 (v56_0 : BitVec 32) (v56_2 : BitVec 32) : Prop :=
  (∀ k0_t21 : Fin (k0_t21_loop v56_0 v56_2).trips, ∀ (k0_h84 : k0_cond84 v56_0 v56_2 k0_t21 = 1#1), ∀ a, (k0_off110 v56_0 v56_2 k0_t21) a + S128.size a ≤ S19456.size a) ∧
  (∀ k0_t21 : Fin (k0_t21_loop v56_0 v56_2).trips, ∀ (k0_h84 : k0_cond84 v56_0 v56_2 k0_t21 = 1#1), ∀ a, (k0_off111 v56_0 v56_2 k0_t21) a + S128.size a ≤ S102400.size a) ∧
  (∀ k0_t21 : Fin (k0_t21_loop v56_0 v56_2).trips, ∀ (k0_h85 : k0_cond85 v56_0 v56_2 k0_t21 = 1#1), ∀ a, (k0_off112 v56_0 v56_2 k0_t21) a + S128.size a ≤ S19456.size a) ∧
  (∀ k0_t21 : Fin (k0_t21_loop v56_0 v56_2).trips, ∀ (k0_h85 : k0_cond85 v56_0 v56_2 k0_t21 = 1#1), ∀ a, (k0_off113 v56_0 v56_2 k0_t21) a + S128.size a ≤ S102400.size a) ∧
  (∀ k0_t21 : Fin (k0_t21_loop v56_0 v56_2).trips, ∀ (k0_h86 : k0_cond86 v56_0 v56_2 k0_t21 = 1#1), ∀ a, (k0_off114 v56_0 v56_2 k0_t21) a + S128.size a ≤ S19456.size a) ∧
  (∀ k0_t21 : Fin (k0_t21_loop v56_0 v56_2).trips, ∀ (k0_h86 : k0_cond86 v56_0 v56_2 k0_t21 = 1#1), ∀ a, (k0_off115 v56_0 v56_2 k0_t21) a + S128.size a ≤ S102400.size a) ∧
  (∀ k0_t21 : Fin (k0_t21_loop v56_0 v56_2).trips, ∀ (k0_h87 : k0_cond87 v56_0 v56_2 k0_t21 = 1#1), ∀ a, (k0_off116 v56_0 v56_2 k0_t21) a + S128.size a ≤ S19456.size a) ∧
  (∀ k0_t21 : Fin (k0_t21_loop v56_0 v56_2).trips, ∀ (k0_h87 : k0_cond87 v56_0 v56_2 k0_t21 = 1#1), ∀ a, (k0_off117 v56_0 v56_2 k0_t21) a + S128.size a ≤ S102400.size a) ∧
  (∀ k0_t21 : Fin (k0_t21_loop v56_0 v56_2).trips, ∀ (k0_h88 : k0_cond88 v56_0 v56_2 k0_t21 = 1#1), ∀ a, (k0_off118 v56_0 v56_2 k0_t21) a + S128.size a ≤ S19456.size a) ∧
  (∀ k0_t21 : Fin (k0_t21_loop v56_0 v56_2).trips, ∀ (k0_h88 : k0_cond88 v56_0 v56_2 k0_t21 = 1#1), ∀ a, (k0_off119 v56_0 v56_2 k0_t21) a + S128.size a ≤ S102400.size a) ∧
  (∀ k0_t21 : Fin (k0_t21_loop v56_0 v56_2).trips, ∀ (k0_h89 : k0_cond89 v56_0 v56_2 k0_t21 = 1#1), ∀ a, (k0_off120 v56_0) a + S128.size a ≤ S102400.size a) ∧
  (∀ k0_t21 : Fin (k0_t21_loop v56_0 v56_2).trips, ∀ (k0_h90 : k0_cond90 v56_0 v56_2 k0_t21 = 1#1), ∀ a, (k0_off121 v56_0) a + S128.size a ≤ S102400.size a) ∧
  (∀ k0_t21 : Fin (k0_t21_loop v56_0 v56_2).trips, ∀ (k0_h91 : k0_cond91 v56_0 v56_2 k0_t21 = 1#1), ∀ a, (k0_off122 v56_0) a + S128.size a ≤ S102400.size a) ∧
  (∀ k0_t21 : Fin (k0_t21_loop v56_0 v56_2).trips, ∀ (k0_h92 : k0_cond92 v56_0 v56_2 k0_t21 = 1#1), ∀ a, (k0_off123 v56_0) a + S128.size a ≤ S102400.size a) ∧
  (∀ k0_t21 : Fin (k0_t21_loop v56_0 v56_2).trips, ∀ (k0_h93 : k0_cond93 v56_0 v56_2 k0_t21 = 1#1), ∀ a, (k0_off124 v56_0) a + S128.size a ≤ S102400.size a) ∧
  (∀ k0_t21 : Fin (k0_t21_loop v56_0 v56_2).trips, ∀ (k0_h94 : k0_cond94 v56_0 v56_2 k0_t21 = 1#1), ∀ a, (k0_off125 v56_0) a + S128.size a ≤ S102400.size a) ∧
  (∀ k0_t21 : Fin (k0_t21_loop v56_0 v56_2).trips, ∀ (k0_h95 : k0_cond95 v56_0 v56_2 k0_t21 = 1#1), ∀ a, (k0_off126 v56_0) a + S128.size a ≤ S102400.size a) ∧
  (∀ k0_t21 : Fin (k0_t21_loop v56_0 v56_2).trips, ∀ (k0_h96 : k0_cond96 v56_0 v56_2 k0_t21 = 1#1), ∀ a, (k0_off127 v56_0) a + S128.size a ≤ S102400.size a)
def k0_chk59 (v56_0 : BitVec 32) (v56_2 : BitVec 32) : Prop :=
  k0_chk59_0 v56_0 v56_2 ∧
  k0_chk59_1 v56_0 v56_2
theorem k0_t20_ok : ∀ (v56_0 : BitVec 32) (v56_2 : BitVec 32) (k0_hw59 : k0_chk59 v56_0 v56_2), (k0_t20_loop v56_0 v56_2).OK := fun v56_0 v56_2 k0_hw59 => k0_hw59.1.1
theorem k0_off80_inb : ∀ (v56_0 : BitVec 32) (v56_2 : BitVec 32) (k0_hw59 : k0_chk59 v56_0 v56_2) (k0_t20 : Fin (k0_t20_loop v56_0 v56_2).trips), ∀ (k0_h65 : k0_cond65 v56_0 v56_2 k0_t20 = 1#1), ∀ a, (k0_off80 v56_0 v56_2 k0_t20) a + S128.size a ≤ S19456.size a := fun v56_0 v56_2 k0_hw59 k0_t20 k0_h65 => k0_hw59.1.2.1 k0_t20 k0_h65
theorem k0_off81_inb : ∀ (v56_0 : BitVec 32) (v56_2 : BitVec 32) (k0_hw59 : k0_chk59 v56_0 v56_2) (k0_t20 : Fin (k0_t20_loop v56_0 v56_2).trips), ∀ (k0_h65 : k0_cond65 v56_0 v56_2 k0_t20 = 1#1), ∀ a, (k0_off81 v56_0 v56_2 k0_t20) a + S128.size a ≤ S102400.size a := fun v56_0 v56_2 k0_hw59 k0_t20 k0_h65 => k0_hw59.1.2.2.1 k0_t20 k0_h65
theorem k0_off82_inb : ∀ (v56_0 : BitVec 32) (v56_2 : BitVec 32) (k0_hw59 : k0_chk59 v56_0 v56_2) (k0_t20 : Fin (k0_t20_loop v56_0 v56_2).trips), ∀ (k0_h66 : k0_cond66 v56_0 v56_2 k0_t20 = 1#1), ∀ a, (k0_off82 v56_0 v56_2 k0_t20) a + S128.size a ≤ S19456.size a := fun v56_0 v56_2 k0_hw59 k0_t20 k0_h66 => k0_hw59.1.2.2.2.1 k0_t20 k0_h66
theorem k0_off83_inb : ∀ (v56_0 : BitVec 32) (v56_2 : BitVec 32) (k0_hw59 : k0_chk59 v56_0 v56_2) (k0_t20 : Fin (k0_t20_loop v56_0 v56_2).trips), ∀ (k0_h66 : k0_cond66 v56_0 v56_2 k0_t20 = 1#1), ∀ a, (k0_off83 v56_0 v56_2 k0_t20) a + S128.size a ≤ S102400.size a := fun v56_0 v56_2 k0_hw59 k0_t20 k0_h66 => k0_hw59.1.2.2.2.2.1 k0_t20 k0_h66
theorem k0_off84_inb : ∀ (v56_0 : BitVec 32) (v56_2 : BitVec 32) (k0_hw59 : k0_chk59 v56_0 v56_2) (k0_t20 : Fin (k0_t20_loop v56_0 v56_2).trips), ∀ (k0_h67 : k0_cond67 v56_0 v56_2 k0_t20 = 1#1), ∀ a, (k0_off84 v56_0 v56_2 k0_t20) a + S128.size a ≤ S19456.size a := fun v56_0 v56_2 k0_hw59 k0_t20 k0_h67 => k0_hw59.1.2.2.2.2.2.1 k0_t20 k0_h67
theorem k0_off85_inb : ∀ (v56_0 : BitVec 32) (v56_2 : BitVec 32) (k0_hw59 : k0_chk59 v56_0 v56_2) (k0_t20 : Fin (k0_t20_loop v56_0 v56_2).trips), ∀ (k0_h67 : k0_cond67 v56_0 v56_2 k0_t20 = 1#1), ∀ a, (k0_off85 v56_0 v56_2 k0_t20) a + S128.size a ≤ S102400.size a := fun v56_0 v56_2 k0_hw59 k0_t20 k0_h67 => k0_hw59.1.2.2.2.2.2.2.1 k0_t20 k0_h67
theorem k0_off86_inb : ∀ (v56_0 : BitVec 32) (v56_2 : BitVec 32) (k0_hw59 : k0_chk59 v56_0 v56_2) (k0_t20 : Fin (k0_t20_loop v56_0 v56_2).trips), ∀ (k0_h68 : k0_cond68 v56_0 v56_2 k0_t20 = 1#1), ∀ a, (k0_off86 v56_0 v56_2 k0_t20) a + S128.size a ≤ S19456.size a := fun v56_0 v56_2 k0_hw59 k0_t20 k0_h68 => k0_hw59.1.2.2.2.2.2.2.2.1 k0_t20 k0_h68
theorem k0_off87_inb : ∀ (v56_0 : BitVec 32) (v56_2 : BitVec 32) (k0_hw59 : k0_chk59 v56_0 v56_2) (k0_t20 : Fin (k0_t20_loop v56_0 v56_2).trips), ∀ (k0_h68 : k0_cond68 v56_0 v56_2 k0_t20 = 1#1), ∀ a, (k0_off87 v56_0 v56_2 k0_t20) a + S128.size a ≤ S102400.size a := fun v56_0 v56_2 k0_hw59 k0_t20 k0_h68 => k0_hw59.1.2.2.2.2.2.2.2.2.1 k0_t20 k0_h68
theorem k0_off88_inb : ∀ (v56_0 : BitVec 32) (v56_2 : BitVec 32) (k0_hw59 : k0_chk59 v56_0 v56_2) (k0_t20 : Fin (k0_t20_loop v56_0 v56_2).trips), ∀ (k0_h69 : k0_cond69 v56_0 v56_2 k0_t20 = 1#1), ∀ a, (k0_off88 v56_0 v56_2 k0_t20) a + S128.size a ≤ S19456.size a := fun v56_0 v56_2 k0_hw59 k0_t20 k0_h69 => k0_hw59.1.2.2.2.2.2.2.2.2.2.1 k0_t20 k0_h69
theorem k0_off89_inb : ∀ (v56_0 : BitVec 32) (v56_2 : BitVec 32) (k0_hw59 : k0_chk59 v56_0 v56_2) (k0_t20 : Fin (k0_t20_loop v56_0 v56_2).trips), ∀ (k0_h69 : k0_cond69 v56_0 v56_2 k0_t20 = 1#1), ∀ a, (k0_off89 v56_0 v56_2 k0_t20) a + S128.size a ≤ S102400.size a := fun v56_0 v56_2 k0_hw59 k0_t20 k0_h69 => k0_hw59.1.2.2.2.2.2.2.2.2.2.2.1 k0_t20 k0_h69
theorem k0_off90_inb : ∀ (v56_0 : BitVec 32) (v56_2 : BitVec 32) (k0_hw59 : k0_chk59 v56_0 v56_2) (k0_t20 : Fin (k0_t20_loop v56_0 v56_2).trips), ∀ (k0_h70 : k0_cond70 v56_0 v56_2 k0_t20 = 1#1), ∀ a, (k0_off90 v56_0 v56_2 k0_t20) a + S128.size a ≤ S19456.size a := fun v56_0 v56_2 k0_hw59 k0_t20 k0_h70 => k0_hw59.1.2.2.2.2.2.2.2.2.2.2.2.1 k0_t20 k0_h70
theorem k0_off91_inb : ∀ (v56_0 : BitVec 32) (v56_2 : BitVec 32) (k0_hw59 : k0_chk59 v56_0 v56_2) (k0_t20 : Fin (k0_t20_loop v56_0 v56_2).trips), ∀ (k0_h70 : k0_cond70 v56_0 v56_2 k0_t20 = 1#1), ∀ a, (k0_off91 v56_0 v56_2 k0_t20) a + S128.size a ≤ S102400.size a := fun v56_0 v56_2 k0_hw59 k0_t20 k0_h70 => k0_hw59.1.2.2.2.2.2.2.2.2.2.2.2.2.1 k0_t20 k0_h70
theorem k0_off92_inb : ∀ (v56_0 : BitVec 32) (v56_2 : BitVec 32) (k0_hw59 : k0_chk59 v56_0 v56_2) (k0_t20 : Fin (k0_t20_loop v56_0 v56_2).trips), ∀ (k0_h71 : k0_cond71 v56_0 v56_2 k0_t20 = 1#1), ∀ a, (k0_off92 v56_0 v56_2 k0_t20) a + S128.size a ≤ S19456.size a := fun v56_0 v56_2 k0_hw59 k0_t20 k0_h71 => k0_hw59.1.2.2.2.2.2.2.2.2.2.2.2.2.2.1 k0_t20 k0_h71
theorem k0_off93_inb : ∀ (v56_0 : BitVec 32) (v56_2 : BitVec 32) (k0_hw59 : k0_chk59 v56_0 v56_2) (k0_t20 : Fin (k0_t20_loop v56_0 v56_2).trips), ∀ (k0_h71 : k0_cond71 v56_0 v56_2 k0_t20 = 1#1), ∀ a, (k0_off93 v56_0 v56_2 k0_t20) a + S128.size a ≤ S102400.size a := fun v56_0 v56_2 k0_hw59 k0_t20 k0_h71 => k0_hw59.1.2.2.2.2.2.2.2.2.2.2.2.2.2.2.1 k0_t20 k0_h71
theorem k0_off94_inb : ∀ (v56_0 : BitVec 32) (v56_2 : BitVec 32) (k0_hw59 : k0_chk59 v56_0 v56_2) (k0_t20 : Fin (k0_t20_loop v56_0 v56_2).trips), ∀ (k0_h72 : k0_cond72 v56_0 v56_2 k0_t20 = 1#1), ∀ a, (k0_off94 v56_0 v56_2 k0_t20) a + S128.size a ≤ S19456.size a := fun v56_0 v56_2 k0_hw59 k0_t20 k0_h72 => k0_hw59.1.2.2.2.2.2.2.2.2.2.2.2.2.2.2.2.1 k0_t20 k0_h72
theorem k0_off95_inb : ∀ (v56_0 : BitVec 32) (v56_2 : BitVec 32) (k0_hw59 : k0_chk59 v56_0 v56_2) (k0_t20 : Fin (k0_t20_loop v56_0 v56_2).trips), ∀ (k0_h72 : k0_cond72 v56_0 v56_2 k0_t20 = 1#1), ∀ a, (k0_off95 v56_0 v56_2 k0_t20) a + S128.size a ≤ S102400.size a := fun v56_0 v56_2 k0_hw59 k0_t20 k0_h72 => k0_hw59.1.2.2.2.2.2.2.2.2.2.2.2.2.2.2.2.2.1 k0_t20 k0_h72
theorem k0_off96_inb : ∀ (v56_0 : BitVec 32) (v56_2 : BitVec 32) (k0_hw59 : k0_chk59 v56_0 v56_2) (k0_t20 : Fin (k0_t20_loop v56_0 v56_2).trips), ∀ (k0_h73 : k0_cond73 v56_0 v56_2 k0_t20 = 1#1), ∀ a, (k0_off96 v56_0) a + S128.size a ≤ S102400.size a := fun v56_0 v56_2 k0_hw59 k0_t20 k0_h73 => k0_hw59.1.2.2.2.2.2.2.2.2.2.2.2.2.2.2.2.2.2.1 k0_t20 k0_h73
theorem k0_off97_inb : ∀ (v56_0 : BitVec 32) (v56_2 : BitVec 32) (k0_hw59 : k0_chk59 v56_0 v56_2) (k0_t20 : Fin (k0_t20_loop v56_0 v56_2).trips), ∀ (k0_h74 : k0_cond74 v56_0 v56_2 k0_t20 = 1#1), ∀ a, (k0_off97 v56_0) a + S128.size a ≤ S102400.size a := fun v56_0 v56_2 k0_hw59 k0_t20 k0_h74 => k0_hw59.1.2.2.2.2.2.2.2.2.2.2.2.2.2.2.2.2.2.2.1 k0_t20 k0_h74
theorem k0_off98_inb : ∀ (v56_0 : BitVec 32) (v56_2 : BitVec 32) (k0_hw59 : k0_chk59 v56_0 v56_2) (k0_t20 : Fin (k0_t20_loop v56_0 v56_2).trips), ∀ (k0_h75 : k0_cond75 v56_0 v56_2 k0_t20 = 1#1), ∀ a, (k0_off98 v56_0) a + S128.size a ≤ S102400.size a := fun v56_0 v56_2 k0_hw59 k0_t20 k0_h75 => k0_hw59.1.2.2.2.2.2.2.2.2.2.2.2.2.2.2.2.2.2.2.2.1 k0_t20 k0_h75
theorem k0_off99_inb : ∀ (v56_0 : BitVec 32) (v56_2 : BitVec 32) (k0_hw59 : k0_chk59 v56_0 v56_2) (k0_t20 : Fin (k0_t20_loop v56_0 v56_2).trips), ∀ (k0_h76 : k0_cond76 v56_0 v56_2 k0_t20 = 1#1), ∀ a, (k0_off99 v56_0) a + S128.size a ≤ S102400.size a := fun v56_0 v56_2 k0_hw59 k0_t20 k0_h76 => k0_hw59.1.2.2.2.2.2.2.2.2.2.2.2.2.2.2.2.2.2.2.2.2.1 k0_t20 k0_h76
theorem k0_off100_inb : ∀ (v56_0 : BitVec 32) (v56_2 : BitVec 32) (k0_hw59 : k0_chk59 v56_0 v56_2) (k0_t20 : Fin (k0_t20_loop v56_0 v56_2).trips), ∀ (k0_h77 : k0_cond77 v56_0 v56_2 k0_t20 = 1#1), ∀ a, (k0_off100 v56_0) a + S128.size a ≤ S102400.size a := fun v56_0 v56_2 k0_hw59 k0_t20 k0_h77 => k0_hw59.1.2.2.2.2.2.2.2.2.2.2.2.2.2.2.2.2.2.2.2.2.2.1 k0_t20 k0_h77
theorem k0_off101_inb : ∀ (v56_0 : BitVec 32) (v56_2 : BitVec 32) (k0_hw59 : k0_chk59 v56_0 v56_2) (k0_t20 : Fin (k0_t20_loop v56_0 v56_2).trips), ∀ (k0_h78 : k0_cond78 v56_0 v56_2 k0_t20 = 1#1), ∀ a, (k0_off101 v56_0) a + S128.size a ≤ S102400.size a := fun v56_0 v56_2 k0_hw59 k0_t20 k0_h78 => k0_hw59.1.2.2.2.2.2.2.2.2.2.2.2.2.2.2.2.2.2.2.2.2.2.2.1 k0_t20 k0_h78
theorem k0_off102_inb : ∀ (v56_0 : BitVec 32) (v56_2 : BitVec 32) (k0_hw59 : k0_chk59 v56_0 v56_2) (k0_t20 : Fin (k0_t20_loop v56_0 v56_2).trips), ∀ (k0_h79 : k0_cond79 v56_0 v56_2 k0_t20 = 1#1), ∀ a, (k0_off102 v56_0) a + S128.size a ≤ S102400.size a := fun v56_0 v56_2 k0_hw59 k0_t20 k0_h79 => k0_hw59.1.2.2.2.2.2.2.2.2.2.2.2.2.2.2.2.2.2.2.2.2.2.2.2.1 k0_t20 k0_h79
theorem k0_off103_inb : ∀ (v56_0 : BitVec 32) (v56_2 : BitVec 32) (k0_hw59 : k0_chk59 v56_0 v56_2) (k0_t20 : Fin (k0_t20_loop v56_0 v56_2).trips), ∀ (k0_h80 : k0_cond80 v56_0 v56_2 k0_t20 = 1#1), ∀ a, (k0_off103 v56_0) a + S128.size a ≤ S102400.size a := fun v56_0 v56_2 k0_hw59 k0_t20 k0_h80 => k0_hw59.1.2.2.2.2.2.2.2.2.2.2.2.2.2.2.2.2.2.2.2.2.2.2.2.2.1 k0_t20 k0_h80
theorem k0_t21_ok : ∀ (v56_0 : BitVec 32) (v56_2 : BitVec 32) (k0_hw59 : k0_chk59 v56_0 v56_2), (k0_t21_loop v56_0 v56_2).OK := fun v56_0 v56_2 k0_hw59 => k0_hw59.1.2.2.2.2.2.2.2.2.2.2.2.2.2.2.2.2.2.2.2.2.2.2.2.2.2.1
theorem k0_off104_inb : ∀ (v56_0 : BitVec 32) (v56_2 : BitVec 32) (k0_hw59 : k0_chk59 v56_0 v56_2) (k0_t21 : Fin (k0_t21_loop v56_0 v56_2).trips), ∀ (k0_h81 : k0_cond81 v56_0 v56_2 k0_t21 = 1#1), ∀ a, (k0_off104 v56_0 v56_2 k0_t21) a + S128.size a ≤ S19456.size a := fun v56_0 v56_2 k0_hw59 k0_t21 k0_h81 => k0_hw59.1.2.2.2.2.2.2.2.2.2.2.2.2.2.2.2.2.2.2.2.2.2.2.2.2.2.2.1 k0_t21 k0_h81
theorem k0_off105_inb : ∀ (v56_0 : BitVec 32) (v56_2 : BitVec 32) (k0_hw59 : k0_chk59 v56_0 v56_2) (k0_t21 : Fin (k0_t21_loop v56_0 v56_2).trips), ∀ (k0_h81 : k0_cond81 v56_0 v56_2 k0_t21 = 1#1), ∀ a, (k0_off105 v56_0 v56_2 k0_t21) a + S128.size a ≤ S102400.size a := fun v56_0 v56_2 k0_hw59 k0_t21 k0_h81 => k0_hw59.1.2.2.2.2.2.2.2.2.2.2.2.2.2.2.2.2.2.2.2.2.2.2.2.2.2.2.2.1 k0_t21 k0_h81
theorem k0_off106_inb : ∀ (v56_0 : BitVec 32) (v56_2 : BitVec 32) (k0_hw59 : k0_chk59 v56_0 v56_2) (k0_t21 : Fin (k0_t21_loop v56_0 v56_2).trips), ∀ (k0_h82 : k0_cond82 v56_0 v56_2 k0_t21 = 1#1), ∀ a, (k0_off106 v56_0 v56_2 k0_t21) a + S128.size a ≤ S19456.size a := fun v56_0 v56_2 k0_hw59 k0_t21 k0_h82 => k0_hw59.1.2.2.2.2.2.2.2.2.2.2.2.2.2.2.2.2.2.2.2.2.2.2.2.2.2.2.2.2.1 k0_t21 k0_h82
theorem k0_off107_inb : ∀ (v56_0 : BitVec 32) (v56_2 : BitVec 32) (k0_hw59 : k0_chk59 v56_0 v56_2) (k0_t21 : Fin (k0_t21_loop v56_0 v56_2).trips), ∀ (k0_h82 : k0_cond82 v56_0 v56_2 k0_t21 = 1#1), ∀ a, (k0_off107 v56_0 v56_2 k0_t21) a + S128.size a ≤ S102400.size a := fun v56_0 v56_2 k0_hw59 k0_t21 k0_h82 => k0_hw59.1.2.2.2.2.2.2.2.2.2.2.2.2.2.2.2.2.2.2.2.2.2.2.2.2.2.2.2.2.2.1 k0_t21 k0_h82
theorem k0_off108_inb : ∀ (v56_0 : BitVec 32) (v56_2 : BitVec 32) (k0_hw59 : k0_chk59 v56_0 v56_2) (k0_t21 : Fin (k0_t21_loop v56_0 v56_2).trips), ∀ (k0_h83 : k0_cond83 v56_0 v56_2 k0_t21 = 1#1), ∀ a, (k0_off108 v56_0 v56_2 k0_t21) a + S128.size a ≤ S19456.size a := fun v56_0 v56_2 k0_hw59 k0_t21 k0_h83 => k0_hw59.1.2.2.2.2.2.2.2.2.2.2.2.2.2.2.2.2.2.2.2.2.2.2.2.2.2.2.2.2.2.2.1 k0_t21 k0_h83
theorem k0_off109_inb : ∀ (v56_0 : BitVec 32) (v56_2 : BitVec 32) (k0_hw59 : k0_chk59 v56_0 v56_2) (k0_t21 : Fin (k0_t21_loop v56_0 v56_2).trips), ∀ (k0_h83 : k0_cond83 v56_0 v56_2 k0_t21 = 1#1), ∀ a, (k0_off109 v56_0 v56_2 k0_t21) a + S128.size a ≤ S102400.size a := fun v56_0 v56_2 k0_hw59 k0_t21 k0_h83 => k0_hw59.1.2.2.2.2.2.2.2.2.2.2.2.2.2.2.2.2.2.2.2.2.2.2.2.2.2.2.2.2.2.2.2 k0_t21 k0_h83
theorem k0_off110_inb : ∀ (v56_0 : BitVec 32) (v56_2 : BitVec 32) (k0_hw59 : k0_chk59 v56_0 v56_2) (k0_t21 : Fin (k0_t21_loop v56_0 v56_2).trips), ∀ (k0_h84 : k0_cond84 v56_0 v56_2 k0_t21 = 1#1), ∀ a, (k0_off110 v56_0 v56_2 k0_t21) a + S128.size a ≤ S19456.size a := fun v56_0 v56_2 k0_hw59 k0_t21 k0_h84 => k0_hw59.2.1 k0_t21 k0_h84
theorem k0_off111_inb : ∀ (v56_0 : BitVec 32) (v56_2 : BitVec 32) (k0_hw59 : k0_chk59 v56_0 v56_2) (k0_t21 : Fin (k0_t21_loop v56_0 v56_2).trips), ∀ (k0_h84 : k0_cond84 v56_0 v56_2 k0_t21 = 1#1), ∀ a, (k0_off111 v56_0 v56_2 k0_t21) a + S128.size a ≤ S102400.size a := fun v56_0 v56_2 k0_hw59 k0_t21 k0_h84 => k0_hw59.2.2.1 k0_t21 k0_h84
theorem k0_off112_inb : ∀ (v56_0 : BitVec 32) (v56_2 : BitVec 32) (k0_hw59 : k0_chk59 v56_0 v56_2) (k0_t21 : Fin (k0_t21_loop v56_0 v56_2).trips), ∀ (k0_h85 : k0_cond85 v56_0 v56_2 k0_t21 = 1#1), ∀ a, (k0_off112 v56_0 v56_2 k0_t21) a + S128.size a ≤ S19456.size a := fun v56_0 v56_2 k0_hw59 k0_t21 k0_h85 => k0_hw59.2.2.2.1 k0_t21 k0_h85
theorem k0_off113_inb : ∀ (v56_0 : BitVec 32) (v56_2 : BitVec 32) (k0_hw59 : k0_chk59 v56_0 v56_2) (k0_t21 : Fin (k0_t21_loop v56_0 v56_2).trips), ∀ (k0_h85 : k0_cond85 v56_0 v56_2 k0_t21 = 1#1), ∀ a, (k0_off113 v56_0 v56_2 k0_t21) a + S128.size a ≤ S102400.size a := fun v56_0 v56_2 k0_hw59 k0_t21 k0_h85 => k0_hw59.2.2.2.2.1 k0_t21 k0_h85
theorem k0_off114_inb : ∀ (v56_0 : BitVec 32) (v56_2 : BitVec 32) (k0_hw59 : k0_chk59 v56_0 v56_2) (k0_t21 : Fin (k0_t21_loop v56_0 v56_2).trips), ∀ (k0_h86 : k0_cond86 v56_0 v56_2 k0_t21 = 1#1), ∀ a, (k0_off114 v56_0 v56_2 k0_t21) a + S128.size a ≤ S19456.size a := fun v56_0 v56_2 k0_hw59 k0_t21 k0_h86 => k0_hw59.2.2.2.2.2.1 k0_t21 k0_h86
theorem k0_off115_inb : ∀ (v56_0 : BitVec 32) (v56_2 : BitVec 32) (k0_hw59 : k0_chk59 v56_0 v56_2) (k0_t21 : Fin (k0_t21_loop v56_0 v56_2).trips), ∀ (k0_h86 : k0_cond86 v56_0 v56_2 k0_t21 = 1#1), ∀ a, (k0_off115 v56_0 v56_2 k0_t21) a + S128.size a ≤ S102400.size a := fun v56_0 v56_2 k0_hw59 k0_t21 k0_h86 => k0_hw59.2.2.2.2.2.2.1 k0_t21 k0_h86
theorem k0_off116_inb : ∀ (v56_0 : BitVec 32) (v56_2 : BitVec 32) (k0_hw59 : k0_chk59 v56_0 v56_2) (k0_t21 : Fin (k0_t21_loop v56_0 v56_2).trips), ∀ (k0_h87 : k0_cond87 v56_0 v56_2 k0_t21 = 1#1), ∀ a, (k0_off116 v56_0 v56_2 k0_t21) a + S128.size a ≤ S19456.size a := fun v56_0 v56_2 k0_hw59 k0_t21 k0_h87 => k0_hw59.2.2.2.2.2.2.2.1 k0_t21 k0_h87
theorem k0_off117_inb : ∀ (v56_0 : BitVec 32) (v56_2 : BitVec 32) (k0_hw59 : k0_chk59 v56_0 v56_2) (k0_t21 : Fin (k0_t21_loop v56_0 v56_2).trips), ∀ (k0_h87 : k0_cond87 v56_0 v56_2 k0_t21 = 1#1), ∀ a, (k0_off117 v56_0 v56_2 k0_t21) a + S128.size a ≤ S102400.size a := fun v56_0 v56_2 k0_hw59 k0_t21 k0_h87 => k0_hw59.2.2.2.2.2.2.2.2.1 k0_t21 k0_h87
theorem k0_off118_inb : ∀ (v56_0 : BitVec 32) (v56_2 : BitVec 32) (k0_hw59 : k0_chk59 v56_0 v56_2) (k0_t21 : Fin (k0_t21_loop v56_0 v56_2).trips), ∀ (k0_h88 : k0_cond88 v56_0 v56_2 k0_t21 = 1#1), ∀ a, (k0_off118 v56_0 v56_2 k0_t21) a + S128.size a ≤ S19456.size a := fun v56_0 v56_2 k0_hw59 k0_t21 k0_h88 => k0_hw59.2.2.2.2.2.2.2.2.2.1 k0_t21 k0_h88
theorem k0_off119_inb : ∀ (v56_0 : BitVec 32) (v56_2 : BitVec 32) (k0_hw59 : k0_chk59 v56_0 v56_2) (k0_t21 : Fin (k0_t21_loop v56_0 v56_2).trips), ∀ (k0_h88 : k0_cond88 v56_0 v56_2 k0_t21 = 1#1), ∀ a, (k0_off119 v56_0 v56_2 k0_t21) a + S128.size a ≤ S102400.size a := fun v56_0 v56_2 k0_hw59 k0_t21 k0_h88 => k0_hw59.2.2.2.2.2.2.2.2.2.2.1 k0_t21 k0_h88
theorem k0_off120_inb : ∀ (v56_0 : BitVec 32) (v56_2 : BitVec 32) (k0_hw59 : k0_chk59 v56_0 v56_2) (k0_t21 : Fin (k0_t21_loop v56_0 v56_2).trips), ∀ (k0_h89 : k0_cond89 v56_0 v56_2 k0_t21 = 1#1), ∀ a, (k0_off120 v56_0) a + S128.size a ≤ S102400.size a := fun v56_0 v56_2 k0_hw59 k0_t21 k0_h89 => k0_hw59.2.2.2.2.2.2.2.2.2.2.2.1 k0_t21 k0_h89
theorem k0_off121_inb : ∀ (v56_0 : BitVec 32) (v56_2 : BitVec 32) (k0_hw59 : k0_chk59 v56_0 v56_2) (k0_t21 : Fin (k0_t21_loop v56_0 v56_2).trips), ∀ (k0_h90 : k0_cond90 v56_0 v56_2 k0_t21 = 1#1), ∀ a, (k0_off121 v56_0) a + S128.size a ≤ S102400.size a := fun v56_0 v56_2 k0_hw59 k0_t21 k0_h90 => k0_hw59.2.2.2.2.2.2.2.2.2.2.2.2.1 k0_t21 k0_h90
theorem k0_off122_inb : ∀ (v56_0 : BitVec 32) (v56_2 : BitVec 32) (k0_hw59 : k0_chk59 v56_0 v56_2) (k0_t21 : Fin (k0_t21_loop v56_0 v56_2).trips), ∀ (k0_h91 : k0_cond91 v56_0 v56_2 k0_t21 = 1#1), ∀ a, (k0_off122 v56_0) a + S128.size a ≤ S102400.size a := fun v56_0 v56_2 k0_hw59 k0_t21 k0_h91 => k0_hw59.2.2.2.2.2.2.2.2.2.2.2.2.2.1 k0_t21 k0_h91
theorem k0_off123_inb : ∀ (v56_0 : BitVec 32) (v56_2 : BitVec 32) (k0_hw59 : k0_chk59 v56_0 v56_2) (k0_t21 : Fin (k0_t21_loop v56_0 v56_2).trips), ∀ (k0_h92 : k0_cond92 v56_0 v56_2 k0_t21 = 1#1), ∀ a, (k0_off123 v56_0) a + S128.size a ≤ S102400.size a := fun v56_0 v56_2 k0_hw59 k0_t21 k0_h92 => k0_hw59.2.2.2.2.2.2.2.2.2.2.2.2.2.2.1 k0_t21 k0_h92
theorem k0_off124_inb : ∀ (v56_0 : BitVec 32) (v56_2 : BitVec 32) (k0_hw59 : k0_chk59 v56_0 v56_2) (k0_t21 : Fin (k0_t21_loop v56_0 v56_2).trips), ∀ (k0_h93 : k0_cond93 v56_0 v56_2 k0_t21 = 1#1), ∀ a, (k0_off124 v56_0) a + S128.size a ≤ S102400.size a := fun v56_0 v56_2 k0_hw59 k0_t21 k0_h93 => k0_hw59.2.2.2.2.2.2.2.2.2.2.2.2.2.2.2.1 k0_t21 k0_h93
theorem k0_off125_inb : ∀ (v56_0 : BitVec 32) (v56_2 : BitVec 32) (k0_hw59 : k0_chk59 v56_0 v56_2) (k0_t21 : Fin (k0_t21_loop v56_0 v56_2).trips), ∀ (k0_h94 : k0_cond94 v56_0 v56_2 k0_t21 = 1#1), ∀ a, (k0_off125 v56_0) a + S128.size a ≤ S102400.size a := fun v56_0 v56_2 k0_hw59 k0_t21 k0_h94 => k0_hw59.2.2.2.2.2.2.2.2.2.2.2.2.2.2.2.2.1 k0_t21 k0_h94
theorem k0_off126_inb : ∀ (v56_0 : BitVec 32) (v56_2 : BitVec 32) (k0_hw59 : k0_chk59 v56_0 v56_2) (k0_t21 : Fin (k0_t21_loop v56_0 v56_2).trips), ∀ (k0_h95 : k0_cond95 v56_0 v56_2 k0_t21 = 1#1), ∀ a, (k0_off126 v56_0) a + S128.size a ≤ S102400.size a := fun v56_0 v56_2 k0_hw59 k0_t21 k0_h95 => k0_hw59.2.2.2.2.2.2.2.2.2.2.2.2.2.2.2.2.2.1 k0_t21 k0_h95
theorem k0_off127_inb : ∀ (v56_0 : BitVec 32) (v56_2 : BitVec 32) (k0_hw59 : k0_chk59 v56_0 v56_2) (k0_t21 : Fin (k0_t21_loop v56_0 v56_2).trips), ∀ (k0_h96 : k0_cond96 v56_0 v56_2 k0_t21 = 1#1), ∀ a, (k0_off127 v56_0) a + S128.size a ≤ S102400.size a := fun v56_0 v56_2 k0_hw59 k0_t21 k0_h96 => k0_hw59.2.2.2.2.2.2.2.2.2.2.2.2.2.2.2.2.2.2 k0_t21 k0_h96

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S319600x128 : Shape := ⟨2, ![319600, 128]⟩
abbrev S800 : Shape := ⟨1, ![800]⟩
abbrev S128x1 : Shape := ⟨2, ![128, 1]⟩
abbrev S_ : Shape := ⟨0, ![]⟩
abbrev S1x800 : Shape := ⟨2, ![1, 800]⟩
abbrev S319600 : Shape := ⟨1, ![319600]⟩
abbrev S319600x1 : Shape := ⟨2, ![319600, 1]⟩
abbrev S319600x800 : Shape := ⟨2, ![319600, 800]⟩
abbrev S1x319600 : Shape := ⟨2, ![1, 319600]⟩
abbrev S800x1 : Shape := ⟨2, ![800, 1]⟩
abbrev S800x319600 : Shape := ⟨2, ![800, 319600]⟩
abbrev S800x128 : Shape := ⟨2, ![800, 128]⟩

abbrev nBuf : Space → Nat
  | .hbm => 78
  | .vmem => 0
  | .smem => 0
  | _ => 0

abbrev bufTy : (tb : Table) → Fin (tcTables nBuf tb) → BufTy
  | .hbm, ⟨0, _⟩ => ⟨S319600x128, .f32⟩
  | .hbm, ⟨1, _⟩ => ⟨S800, .i32⟩
  | .hbm, ⟨2, _⟩ => ⟨S128x1, .f32⟩
  | .hbm, ⟨3, _⟩ => ⟨S_, .i32⟩
  | .hbm, ⟨4, _⟩ => ⟨S_, .i32⟩
  | .hbm, ⟨5, _⟩ => ⟨S800, .i32⟩
  | .hbm, ⟨6, _⟩ => ⟨S1x800, .i32⟩
  | .hbm, ⟨7, _⟩ => ⟨S319600, .i32⟩
  | .hbm, ⟨8, _⟩ => ⟨S319600x1, .i32⟩
  | .hbm, ⟨9, _⟩ => ⟨S319600x800, .i32⟩
  | .hbm, ⟨10, _⟩ => ⟨S319600x800, .i32⟩
  | .hbm, ⟨11, _⟩ => ⟨S319600x800, .i1⟩
  | .hbm, ⟨12, _⟩ => ⟨S319600x800, .i32⟩
  | .hbm, ⟨13, _⟩ => ⟨S_, .i32⟩
  | .hbm, ⟨14, _⟩ => ⟨S319600, .i32⟩
  | .hbm, ⟨15, _⟩ => ⟨S319600x1, .f32⟩
  | .hbm, ⟨16, _⟩ => ⟨S_, .f32⟩
  | .hbm, ⟨17, _⟩ => ⟨S319600x1, .f32⟩
  | .hbm, ⟨18, _⟩ => ⟨S319600x1, .i1⟩
  | .hbm, ⟨19, _⟩ => ⟨S_, .f32⟩
  | .hbm, ⟨20, _⟩ => ⟨S319600x1, .f32⟩
  | .hbm, ⟨21, _⟩ => ⟨S319600x1, .f32⟩
  | .hbm, ⟨22, _⟩ => ⟨S319600x1, .f32⟩
  | .hbm, ⟨23, _⟩ => ⟨S1x319600, .i32⟩
  | .hbm, ⟨24, _⟩ => ⟨S800, .i32⟩
  | .hbm, ⟨25, _⟩ => ⟨S800x1, .i32⟩
  | .hbm, ⟨26, _⟩ => ⟨S800x319600, .i32⟩
  | .hbm, ⟨27, _⟩ => ⟨S800x319600, .i32⟩
  | .hbm, ⟨28, _⟩ => ⟨S800x319600, .i1⟩
  | .hbm, ⟨29, _⟩ => ⟨S319600, .f32⟩
  | .hbm, ⟨30, _⟩ => ⟨S1x319600, .f32⟩
  | .hbm, ⟨31, _⟩ => ⟨S_, .f32⟩
  | .hbm, ⟨32, _⟩ => ⟨S_, .f32⟩
  | .hbm, ⟨33, _⟩ => ⟨S800x319600, .f32⟩
  | .hbm, ⟨34, _⟩ => ⟨S800x319600, .f32⟩
  | .hbm, ⟨35, _⟩ => ⟨S800x319600, .f32⟩
  | .hbm, ⟨36, _⟩ => ⟨S_, .f32⟩
  | .hbm, ⟨37, _⟩ => ⟨S800, .f32⟩
  | .hbm, ⟨38, _⟩ => ⟨S800x1, .f32⟩
  | .hbm, ⟨39, _⟩ => ⟨S800x1, .f32⟩
  | .hbm, ⟨40, _⟩ => ⟨S_, .f32⟩
  | .hbm, ⟨41, _⟩ => ⟨S800x1, .f32⟩
  | .hbm, ⟨42, _⟩ => ⟨S800x1, .i1⟩
  | .hbm, ⟨43, _⟩ => ⟨S_, .f32⟩
  | .hbm, ⟨44, _⟩ => ⟨S_, .f32⟩
  | .hbm, ⟨45, _⟩ => ⟨S800x1, .f32⟩
  | .hbm, ⟨46, _⟩ => ⟨S800x1, .f32⟩
  | .hbm, ⟨47, _⟩ => ⟨S_, .i32⟩
  | .hbm, ⟨48, _⟩ => ⟨S319600, .i32⟩
  | .hbm, ⟨49, _⟩ => ⟨S319600, .i1⟩
  | .hbm, ⟨50, _⟩ => ⟨S_, .i32⟩
  | .hbm, ⟨51, _⟩ => ⟨S319600, .i32⟩
  | .hbm, ⟨52, _⟩ => ⟨S319600, .i32⟩
  | .hbm, ⟨53, _⟩ => ⟨S319600, .i32⟩
  | .hbm, ⟨54, _⟩ => ⟨S319600x1, .i32⟩
  | .hbm, ⟨55, _⟩ => ⟨S319600x1, .f32⟩
  | .hbm, ⟨56, _⟩ => ⟨S319600x1, .f32⟩
  | .hbm, ⟨57, _⟩ => ⟨S319600x1, .f32⟩
  | .hbm, ⟨58, _⟩ => ⟨S_, .f32⟩
  | .hbm, ⟨59, _⟩ => ⟨S800x1, .f32⟩
  | .hbm, ⟨60, _⟩ => ⟨S319600x1, .i32⟩
  | .hbm, ⟨61, _⟩ => ⟨S800x1, .f32⟩
  | .hbm, ⟨62, _⟩ => ⟨S_, .i32⟩
  | .hbm, ⟨63, _⟩ => ⟨S319600, .i32⟩
  | .hbm, ⟨64, _⟩ => ⟨S319600, .i1⟩
  | .hbm, ⟨65, _⟩ => ⟨S_, .i32⟩
  | .hbm, ⟨66, _⟩ => ⟨S319600, .i32⟩
  | .hbm, ⟨67, _⟩ => ⟨S319600, .i32⟩
  | .hbm, ⟨68, _⟩ => ⟨S319600, .i32⟩
  | .hbm, ⟨69, _⟩ => ⟨S319600x1, .i32⟩
  | .hbm, ⟨70, _⟩ => ⟨S319600x1, .f32⟩
  | .hbm, ⟨71, _⟩ => ⟨S319600x1, .f32⟩
  | .hbm, ⟨72, _⟩ => ⟨S319600x128, .f32⟩
  | .hbm, ⟨73, _⟩ => ⟨S319600x128, .f32⟩
  | .hbm, ⟨74, _⟩ => ⟨S_, .f32⟩
  | .hbm, ⟨75, _⟩ => ⟨S800x128, .f32⟩
  | .hbm, ⟨76, _⟩ => ⟨S319600x1, .i32⟩
  | .hbm, ⟨77, _⟩ => ⟨S800x128, .f32⟩
  | _, _ => ⟨S319600x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_call0_c : Ref sig .tc := ⟨.hbm, 3, rfl⟩
abbrev main_call0_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_call3_v0 : Ref sig .tc := ⟨.hbm, 44, rfl⟩
abbrev main_call3_v1 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_8 : Ref sig .tc := ⟨.hbm, 62, rfl⟩
abbrev main_v42 : Ref sig .tc := ⟨.hbm, 63, rfl⟩
abbrev main_v43 : Ref sig .tc := ⟨.hbm, 64, rfl⟩
abbrev main_c_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]
-- ==== Proof.Base.lean ====
/-
  The kernel's program as the launch theorem sees it, its ghost state, its buffers and its semaphores.
-/
module

public import Idealize.ShloMosaic.Lib.SparseCore.Quiescent
public import Idealize.ShloMosaic.Lib.SparseCore.Ops
public import Idealize.ShloMosaic.Lib.StableHlo.Run
public import Idealize.ShloMosaic.Lib.Transfers
public import Idealize.ShloMosaic.Lib.Batch
public import Idealize.ShloMosaic.Lib.Writes
public import Idealize.ShloMosaic.Lib.Tactic
public import Idealize.ShloMosaic.PureOps.BitExact
public import Idealize.ShloMosaic.PureOps.Ideal
public import Idealize.ShloMosaic.PureOps.IdealRules
public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore (S V T)
open Idealize.ShloMosaic.SparseCore.Cfg (HIx Pay tileRest ownBufs ownSems0 ownCells ownRefs mem_ownCells mem_ownRefs)

variable {F : FTy → Type}

/-- The kernel's labels, its SparseCore calls, its body table and its variants. -/
abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' ghost state, and the copies' counters. -/
abbrev UH : Type := URounds (GSem nD τ sig) ℕ
abbrev UU : Type := UH × Counters

end Cert.Proof

end
-- ==== Proof.Row.lean ====
module

public import proofs.«01_k».proof.Proof.Base

@[expose] public section

set_option maxRecDepth 100000

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore (S V T)
open Idealize.ShloMosaic.SparseCore.Cfg (HIx Pay tileRest ownBufs ownSems0 ownCells ownRefs mem_ownCells mem_ownRefs)

variable {F : FTy → Type} [FloatOps F]

local notation "𝕄" => MT nD τ sig (HIx 1) (Elt F) ℕ UU ℕ

/-- The vector subcore at a coordinate of the grid. -/
abbrev VT (d : Fin nD) (L : grid0.Coords) : Thread nD τ :=
  ⟨d, .scVector ((L 0).castLE hcore0) ((L 1).castLE hsub0)⟩

/-- The eight accumulators, the denominator, the current segment and the next segment's first row. -/
abbrev St (F : FTy → Type) : Type :=
  FVec F S16 .f32 × FVec F S16 .f32 × FVec F S16 .f32 × FVec F S16 .f32 × FVec F S16 .f32 × FVec F S16 .f32
    × FVec F S16 .f32 × FVec F S16 .f32 × FVec F S16 .f32 × BitVec 32 × BitVec 32

/-- The reciprocal of the denominator, zero where it is not positive. -/
def rcp (den : FVec F S16 .f32) : FVec F S16 .f32 :=
  select (cmpf .ogt den (broadcast S16 (Scalar.ofBits .f32 0x00000000#32)))
    (divf (broadcast S16 (Scalar.ofBits .f32 0x3F800000#32)) den)
    (broadcast S16 (Scalar.ofBits .f32 0x00000000#32))

/-- Finishing a segment: store the eight scaled accumulators, start afresh. -/
def cfinT (L : grid0.Coords) (arg8 : Memref sig .scVector .vmem S19456 .f32) (off : BitVec 32 → Fin 1 → ℕ) (c : BitVec 1)
    (hin : c = 1#1 → ∀ r : Fin 8, ∀ a, off (BitVec.ofNat 32 (16 * r.val)) a + S16.size a ≤ S19456.size a)
    (z : FVec F S16 .f32) (x : St F) (h : c = 1#1) :
    Prog (TpuEff nD τ sig (Elt F) Λ₀ (.scVector ((L 0).castLE hcore0) ((L 1).castLE hsub0))) (St F) := do
  let _ : Vec F S16 .f32 ← Prog.lift (.load arg8 (Rect.unit (s := S19456) (off 0#32) S16.size (hin h 0)).toLoadRect (View.loadsAt_vmem h_S16))
  Prog.lift (.store arg8 (Rect.unit (s := S19456) (off 0#32) S16.size (hin h 0)) (shapeCast S16 (mulf x.1 (rcp x.2.2.2.2.2.2.2.2.1)) shapeCasts_S16_S16) Finset.univ (View.stores_vmem_bits_univ h_S16 rfl) (.inl rfl))
  let _ : Vec F S16 .f32 ← Prog.lift (.load arg8 (Rect.unit (s := S19456) (off 16#32) S16.size (hin h 1)).toLoadRect (View.loadsAt_vmem h_S16))
  Prog.lift (.store arg8 (Rect.unit (s := S19456) (off 16#32) S16.size (hin h 1)) (shapeCast S16 (mulf x.2.1 (rcp x.2.2.2.2.2.2.2.2.1)) shapeCasts_S16_S16) Finset.univ (View.stores_vmem_bits_univ h_S16 rfl) (.inl rfl))
  let _ : Vec F S16 .f32 ← Prog.lift (.load arg8 (Rect.unit (s := S19456) (off 32#32) S16.size (hin h 2)).toLoadRect (View.loadsAt_vmem h_S16))
  Prog.lift (.store arg8 (Rect.unit (s := S19456) (off 32#32) S16.size (hin h 2)) (shapeCast S16 (mulf x.2.2.1 (rcp x.2.2.2.2.2.2.2.2.1)) shapeCasts_S16_S16) Finset.univ (View.stores_vmem_bits_univ h_S16 rfl) (.inl rfl))
  let _ : Vec F S16 .f32 ← Prog.lift (.load arg8 (Rect.unit (s := S19456) (off 48#32) S16.size (hin h 3)).toLoadRect (View.loadsAt_vmem h_S16))
  Prog.lift (.store arg8 (Rect.unit (s := S19456) (off 48#32) S16.size (hin h 3)) (shapeCast S16 (mulf x.2.2.2.1 (rcp x.2.2.2.2.2.2.2.2.1)) shapeCasts_S16_S16) Finset.univ (View.stores_vmem_bits_univ h_S16 rfl) (.inl rfl))
  let _ : Vec F S16 .f32 ← Prog.lift (.load arg8 (Rect.unit (s := S19456) (off 64#32) S16.size (hin h 4)).toLoadRect (View.loadsAt_vmem h_S16))
  Prog.lift (.store arg8 (Rect.unit (s := S19456) (off 64#32) S16.size (hin h 4)) (shapeCast S16 (mulf x.2.2.2.2.1 (rcp x.2.2.2.2.2.2.2.2.1)) shapeCasts_S16_S16) Finset.univ (View.stores_vmem_bits_univ h_S16 rfl) (.inl rfl))
  let _ : Vec F S16 .f32 ← Prog.lift (.load arg8 (Rect.unit (s := S19456) (off 80#32) S16.size (hin h 5)).toLoadRect (View.loadsAt_vmem h_S16))
  Prog.lift (.store arg8 (Rect.unit (s := S19456) (off 80#32) S16.size (hin h 5)) (shapeCast S16 (mulf x.2.2.2.2.2.1 (rcp x.2.2.2.2.2.2.2.2.1)) shapeCasts_S16_S16) Finset.univ (View.stores_vmem_bits_univ h_S16 rfl) (.inl rfl))
  let _ : Vec F S16 .f32 ← Prog.lift (.load arg8 (Rect.unit (s := S19456) (off 96#32) S16.size (hin h 6)).toLoadRect (View.loadsAt_vmem h_S16))
  Prog.lift (.store arg8 (Rect.unit (s := S19456) (off 96#32) S16.size (hin h 6)) (shapeCast S16 (mulf x.2.2.2.2.2.2.1 (rcp x.2.2.2.2.2.2.2.2.1)) shapeCasts_S16_S16) Finset.univ (View.stores_vmem_bits_univ h_S16 rfl) (.inl rfl))
  let _ : Vec F S16 .f32 ← Prog.lift (.load arg8 (Rect.unit (s := S19456) (off 112#32) S16.size (hin h 7)).toLoadRect (View.loadsAt_vmem h_S16))
  Prog.lift (.store arg8 (Rect.unit (s := S19456) (off 112#32) S16.size (hin h 7)) (shapeCast S16 (mulf x.2.2.2.2.2.2.2.1 (rcp x.2.2.2.2.2.2.2.2.1)) shapeCasts_S16_S16) Finset.univ (View.stores_vmem_bits_univ h_S16 rfl) (.inl rfl))
  pure (z, z, z, z, z, z, z, z, z, Scalar.addi x.2.2.2.2.2.2.2.2.2.1 1#32, Scalar.addi (Scalar.addi x.2.2.2.2.2.2.2.2.2.2 x.2.2.2.2.2.2.2.2.2.1) 1#32)

/-- The output buffer after finishing a segment. -/
def finBuf (arg8 : Memref sig .scVector .vmem S19456 .f32) (off : BitVec 32 → Fin 1 → ℕ) (c : BitVec 1)
    (hin : c = 1#1 → ∀ r : Fin 8, ∀ a, off (BitVec.ofNat 32 (16 * r.val)) a + S16.size a ≤ S19456.size a)
    (x : St F) (f8 : arg8.view.ty.Contents (Elt F)) : arg8.view.ty.Contents (Elt F) :=
  if h : c = 1#1 then
    arg8.view.writes (Elt F) f8
     [⟨Rect.unit (s := S19456) (off 112#32) S16.size (hin h 7), shapeCast S16 (mulf x.2.2.2.2.2.2.2.1 (rcp x.2.2.2.2.2.2.2.2.1)) shapeCasts_S16_S16⟩,
      ⟨Rect.unit (s := S19456) (off 96#32) S16.size (hin h 6), shapeCast S16 (mulf x.2.2.2.2.2.2.1 (rcp x.2.2.2.2.2.2.2.2.1)) shapeCasts_S16_S16⟩,
      ⟨Rect.unit (s := S19456) (off 80#32) S16.size (hin h 5), shapeCast S16 (mulf x.2.2.2.2.2.1 (rcp x.2.2.2.2.2.2.2.2.1)) shapeCasts_S16_S16⟩,
      ⟨Rect.unit (s := S19456) (off 64#32) S16.size (hin h 4), shapeCast S16 (mulf x.2.2.2.2.1 (rcp x.2.2.2.2.2.2.2.2.1)) shapeCasts_S16_S16⟩,
      ⟨Rect.unit (s := S19456) (off 48#32) S16.size (hin h 3), shapeCast S16 (mulf x.2.2.2.1 (rcp x.2.2.2.2.2.2.2.2.1)) shapeCasts_S16_S16⟩,
      ⟨Rect.unit (s := S19456) (off 32#32) S16.size (hin h 2), shapeCast S16 (mulf x.2.2.1 (rcp x.2.2.2.2.2.2.2.2.1)) shapeCasts_S16_S16⟩,
      ⟨Rect.unit (s := S19456) (off 16#32) S16.size (hin h 1), shapeCast S16 (mulf x.2.1 (rcp x.2.2.2.2.2.2.2.2.1)) shapeCasts_S16_S16⟩,
      ⟨Rect.unit (s := S19456) (off 0#32) S16.size (hin h 0), shapeCast S16 (mulf x.1 (rcp x.2.2.2.2.2.2.2.2.1)) shapeCasts_S16_S16⟩]
  else f8

/-- The state after finishing a segment. -/
def finSt (c : BitVec 1) (z : FVec F S16 .f32) (x : St F) : St F :=
  if c = 1#1 then
    (z, z, z, z, z, z, z, z, z, Scalar.addi x.2.2.2.2.2.2.2.2.2.1 1#32,
      Scalar.addi (Scalar.addi x.2.2.2.2.2.2.2.2.2.2 x.2.2.2.2.2.2.2.2.2.1) 1#32)
  else x

section Tail

variable (d : Fin nD) (L : grid0.Coords)
  (arg2 : Memref sig .scVector .hbm S40908800 .f32) (harg2 : arg2.IsWhole) (arg3 : Memref sig .scVector .hbm S128 .f32) (harg3 : arg3.IsWhole) (arg4 : Memref sig .scVector .hbm S102400 .f32) (harg4 : arg4.IsWhole) (arg5 : Memref sig .scVector .vmem S34816 .f32) (harg5 : arg5.IsWhole) (arg6 : Memref sig .scVector .vmem S34816 .f32) (harg6 : arg6.IsWhole) (arg7 : Memref sig .scVector .vmem S128 .f32) (harg7 : arg7.IsWhole) (arg8 : Memref sig .scVector .vmem S19456 .f32) (harg8 : arg8.IsWhole) (arg9 : DmaSems sig S_) (arg10 : DmaSems sig S_) (arg11 : DmaSems sig S_) (v217_r0 : DmaSems sig S_)

/-- The conditional that finishes a segment, as one step: whatever its two arms, when they are the finishing program and
the unchanged state, each before the same rest. -/
theorem wp_cfin (off : BitVec 32 → Fin 1 → ℕ) (c : BitVec 1)
    (hin : c = 1#1 → ∀ r : Fin 8, ∀ a, off (BitVec.ofNat 32 (16 * r.val)) a + S16.size a ≤ S19456.size a)
    (z : FVec F S16 .f32) (x : St F) (f8 : Buf (Elt F) (arg8.view.loc (VT d L)))
    {β : Type} (kk : St F → Prog (TpuEff nD τ sig (Elt F) Λ₀ (.scVector ((L 0).castLE hcore0) ((L 1).castLE hsub0))) β)
    (Q : β → sProp 𝕄)
    (T : c = 1#1 → Prog (TpuEff nD τ sig (Elt F) Λ₀ (.scVector ((L 0).castLE hcore0) ((L 1).castLE hsub0))) β)
    (E : ¬ c = 1#1 → Prog (TpuEff nD τ sig (Elt F) Λ₀ (.scVector ((L 0).castLE hcore0) ((L 1).castLE hsub0))) β)
    (hE : E = fun _ => pure x >>= kk) (hT : T = fun h => cfinT L arg8 off c hin z x h >>= kk) :
    (iprop((arg8.view.loc (VT d L) ↦[arg8.view.set]{fullShare} f8)
        ∗ (∀ y : St F, ⌜y = finSt c z x⌝ -∗ (arg8.view.loc (VT d L) ↦[arg8.view.set]{fullShare} finBuf arg8 off c hin x f8) -∗
            wp frame (wpE (defs₀ (F := F)) 𝒱₀ (VT d L) none) Set.univ
              (kk (y.1, y.2.1, y.2.2.1, y.2.2.2.1, y.2.2.2.2.1, y.2.2.2.2.2.1, y.2.2.2.2.2.2.1, y.2.2.2.2.2.2.2.1, y.2.2.2.2.2.2.2.2.1, y.2.2.2.2.2.2.2.2.2.1, y.2.2.2.2.2.2.2.2.2.2)) Q))
      ⊢ wp frame (wpE (defs₀ (F := F)) 𝒱₀ (VT d L) none) Set.univ (dite (c = 1#1) T E) Q) := by
  subst hE hT
  iintro ⟨H8, HK⟩
  by_cases h : c = 1#1
  · rw [dif_pos h]
    ispecialize HK $$ %(finSt c z x)
    ispecialize HK $$ %rfl
    have e1 : finSt c z x = (z, z, z, z, z, z, z, z, z, Scalar.addi x.2.2.2.2.2.2.2.2.2.1 1#32,
      Scalar.addi (Scalar.addi x.2.2.2.2.2.2.2.2.2.2 x.2.2.2.2.2.2.2.2.2.1) 1#32) := if_pos h
    rw [e1]
    rw [finBuf, dif_pos h]
    sl_unfold [cfinT]
    sl_exec
    iapply HK
    iexact H8
  · rw [dif_neg h]
    ispecialize HK $$ %(finSt c z x)
    ispecialize HK $$ %rfl
    have e1 : finSt c z x = x := if_neg h
    rw [e1]
    rw [finBuf, dif_neg h]
    iapply HK
    iexact H8

end Tail

end Cert.Proof

end
-- ==== Proof.Words.lean ====
/-
  The kernel's word arithmetic read as arithmetic of natural numbers: its floor divisions, its clamped differences, its
  loops' trip counts.
-/
module

public import proofs.«01_k».proof.Proof.Base

@[expose] public section

set_option maxRecDepth 100000

noncomputable section

namespace Cert.Proof

open Cert.KernelIdeal Cert.KernelIdeal.Gen
open Idealize.ShloMosaic

/-- A natural number as a word. -/
abbrev W (n : ℕ) : BitVec 32 := BitVec.ofNat 32 n

theorem W_toNat {n : ℕ} (h : n < 2 ^ 31) : (W n).toNat = n := by
  rw [BitVec.toNat_ofNat]; exact Nat.mod_eq_of_lt (by omega)

theorem W_toInt {n : ℕ} (h : n < 2 ^ 31) : (W n).toInt = (n : ℤ) := by
  rw [BitVec.toInt_eq_toNat_of_lt (by rw [W_toNat h]; omega), W_toNat h]

theorem W_inj {a b : ℕ} (ha : a < 2 ^ 31) (hb : b < 2 ^ 31) : W a = W b ↔ a = b := by
  constructor
  · intro h
    have := congrArg BitVec.toNat h
    rwa [W_toNat ha, W_toNat hb] at this
  · rintro rfl; rfl

theorem W_addi (a b : ℕ) : Scalar.addi (W a) (W b) = W (a + b) := by
  exact (BitVec.ofNat_add a b).symm

theorem W_muli (a b : ℕ) : Scalar.muli (W a) (W b) = W (a * b) := by
  exact (BitVec.ofNat_mul a b).symm

theorem W_subi {a b : ℕ} (h : b ≤ a) : Scalar.subi (W a) (W b) = W (a - b) := by
  show W a - W b = _
  obtain ⟨c, rfl⟩ := Nat.exists_eq_add_of_le h
  have e : W (b + c) = W b + W c := BitVec.ofNat_add b c
  rw [Nat.add_sub_cancel_left, e, BitVec.add_comm, BitVec.add_sub_cancel]

theorem W_slt {a b : ℕ} (ha : a < 2 ^ 31) (hb : b < 2 ^ 31) : (W a).slt (W b) = decide (a < b) := by
  rw [BitVec.slt_eq_decide, W_toInt ha, W_toInt hb]
  simp

theorem W_minsi {a b : ℕ} (ha : a < 2 ^ 31) (hb : b < 2 ^ 31) : Scalar.minsi (W a) (W b) = W (min a b) := by
  show (if (W a).slt (W b) then W a else W b) = _
  rw [W_slt ha hb]
  by_cases h : a < b
  · simp [h, Nat.min_eq_left h.le]
  · simp [h, Nat.min_eq_right (not_lt.mp h)]

/-- A difference clamped at zero. -/
theorem W_clamp {a b : ℕ} (ha : a < 2 ^ 31) (hb : b < 2 ^ 31) :
    Scalar.maxsi (Scalar.subi (W a) (W b)) (W 0) = W (a - b) := by
  show (if (W 0).slt (W a - W b) then W a - W b else W 0) = _
  by_cases h : b ≤ a
  · have e : W a - W b = W (a - b) := W_subi h
    rw [e, W_slt (by omega) (by omega)]
    by_cases h0 : 0 < a - b
    · simp [h0]
    · have : a - b = 0 := by omega
      simp [this]
  · have e : (W a - W b).toInt = (a : ℤ) - b := by
      rw [BitVec.toInt_sub, W_toInt ha, W_toInt hb]
      rw [Int.bmod_def]; omega
    have : (W 0).slt (W a - W b) = false := by
      rw [BitVec.slt_eq_decide, e, W_toInt (by omega)]
      simp; omega
    rw [this]
    have : a - b = 0 := by omega
    simp [this]

theorem W_max0 {a : ℕ} (ha : a < 2 ^ 31) : Scalar.maxsi (W a) (W 0) = W a := by
  show (if (W 0).slt (W a) then W a else W 0) = _
  rw [W_slt (by omega) ha]
  by_cases h0 : 0 < a
  · simp [h0]
  · have : a = 0 := by omega
    simp [this]

theorem W_cmpi_eq (x y : BitVec 32) : Scalar.cmpi .eq x y = if x = y then 1#1 else 0#1 := by
  show BitVec.ofBool (x == y) = _
  by_cases h : x = y
  · simp [h]
  · rw [if_neg h, beq_eq_false_iff_ne.mpr h]; rfl

theorem W_cmpi_ne (x y : BitVec 32) : Scalar.cmpi .ne x y = if x = y then 0#1 else 1#1 := by
  show BitVec.ofBool (x != y) = _
  by_cases h : x = y
  · simp [h]
  · rw [if_neg h, bne_iff_ne.mpr h]; rfl

theorem W_cmpi_slt {a b : ℕ} (ha : a < 2 ^ 31) (hb : b < 2 ^ 31) :
    Scalar.cmpi .slt (W a) (W b) = if a < b then 1#1 else 0#1 := by
  show BitVec.ofBool ((W a).slt (W b)) = _
  rw [W_slt ha hb]
  by_cases h : a < b <;> simp [h]

theorem W_cmpi_sgt {a b : ℕ} (ha : a < 2 ^ 31) (hb : b < 2 ^ 31) :
    Scalar.cmpi .sgt (W a) (W b) = if b < a then 1#1 else 0#1 := by
  show BitVec.ofBool ((W b).slt (W a)) = _
  rw [W_slt hb ha]
  by_cases h : b < a <;> simp [h]

/-- A comparison widened and compared with zero is the comparison. -/
theorem ext_ne (c : BitVec 1) : Scalar.cmpi .ne (Scalar.extui c : BitVec 32) (W 0) = c := by
  rw [W_cmpi_ne]
  revert c; decide

theorem W_divsi {a b : ℕ} (ha : a < 2 ^ 31) (hb : b < 2 ^ 31) (h0 : 0 < b) : Scalar.divsi (W a) (W b) = W (a / b) := by
  have hc : ¬ IntOp.SDivCorner (W a) (W b) := by
    rintro (h | ⟨-, h⟩)
    · have := congrArg BitVec.toNat h
      rw [W_toNat hb] at this
      simp at this; omega
    · have := congrArg BitVec.toNat h
      rw [W_toNat hb] at this
      simp at this; omega
  show (if IntOp.SDivCorner (W a) (W b) then _ else (W a).sdiv (W b)) = _
  rw [if_neg hc]
  apply BitVec.eq_of_toInt_eq
  rw [BitVec.toInt_sdiv_of_ne_or_ne, W_toInt ha, W_toInt hb, W_toInt]
  · rw [← Int.ofNat_tdiv]
  · exact lt_of_le_of_lt (Nat.div_le_self _ _) ha
  · left
    intro h
    have := congrArg BitVec.toNat h
    rw [W_toNat ha] at this
    simp at this; omega

theorem W_remsi {a b : ℕ} (ha : a < 2 ^ 31) (hb : b < 2 ^ 31) (h0 : 0 < b) : Scalar.remsi (W a) (W b) = W (a % b) := by
  have hc : ¬ IntOp.SDivCorner (W a) (W b) := by
    rintro (h | ⟨-, h⟩)
    · have := congrArg BitVec.toNat h
      rw [W_toNat hb] at this
      simp at this; omega
    · have := congrArg BitVec.toNat h
      rw [W_toNat hb] at this
      simp at this; omega
  show (if IntOp.SDivCorner (W a) (W b) then _ else (W a).srem (W b)) = _
  rw [if_neg hc]
  apply BitVec.eq_of_toInt_eq
  rw [BitVec.toInt_srem, W_toInt ha, W_toInt hb, W_toInt]
  · rw [← Int.ofNat_tmod]
  · exact lt_of_le_of_lt (Nat.mod_le _ _) ha

theorem W_div1 {a : ℕ} (ha : a < 2 ^ 31) : Scalar.divsi (W a) 1#32 = W a := by
  have := W_divsi (b := 1) ha (by norm_num) (by norm_num)
  rwa [Nat.div_one] at this

/-- The kernel's division rounding down, as it is computed from the division rounding towards zero. -/
theorem W_fdiv {a b : ℕ} (ha : a < 2 ^ 31) (hb : b < 2 ^ 31) (h0 : 0 < b) :
    Scalar.select
      (Scalar.andi
        (Scalar.cmpi .ne
          (Scalar.subi (Scalar.extui (Scalar.cmpi .sgt (W a) 0#32) : BitVec 32) (Scalar.extui (Scalar.cmpi .slt (W a) 0#32)))
          (Scalar.subi (Scalar.extui (Scalar.cmpi .sgt (W b) 0#32) : BitVec 32) (Scalar.extui (Scalar.cmpi .slt (W b) 0#32))))
        (Scalar.cmpi .ne (Scalar.remsi (W a) (W b)) 0#32))
      (Scalar.subi (Scalar.divsi (W a) (W b)) 1#32)
      (Scalar.divsi (W a) (W b)) = W (a / b) := by
  rw [W_cmpi_sgt ha (by omega), W_cmpi_slt ha (by omega), W_cmpi_sgt hb (by omega), W_cmpi_slt hb (by omega),
    W_remsi ha hb h0, W_divsi ha hb h0, if_pos h0, if_neg (Nat.not_lt_zero a), if_neg (Nat.not_lt_zero b)]
  by_cases h : 0 < a
  · rw [if_pos h]
    have e : Scalar.cmpi .ne (Scalar.subi (Scalar.extui 1#1 : BitVec 32) (Scalar.extui 0#1)) (Scalar.subi (Scalar.extui 1#1 : BitVec 32) (Scalar.extui 0#1)) = 0#1 := by decide
    rw [e]
    generalize Scalar.cmpi CmpIPredicate.ne (W (a % b)) 0#32 = c
    have : Scalar.andi 0#1 c = 0#1 := by revert c; decide
    rw [this]; rfl
  · have : a = 0 := by omega
    subst this
    simp only [Nat.zero_mod, Nat.zero_div]
    rfl

theorem trips_W {a b : ℕ} (ha : a < 2 ^ 30) (hb : b < 2 ^ 30) : Scf.trips (W a) (W b) 1#32 = b - a := by
  unfold Scf.trips
  rw [W_toInt (by omega), W_toInt (by omega)]
  have : (1#32 : BitVec 32).toInt = 1 := rfl
  rw [this]
  omega

theorem ok_W {a b : ℕ} (ha : a < 2 ^ 30) (hb : b < 2 ^ 30) : Scf.OK (W a) (W b) 1#32 := by
  refine ⟨by decide, ?_⟩
  rw [trips_W ha hb, W_toInt (by omega)]
  have : (1#32 : BitVec 32).toInt = 1 := rfl
  rw [this]
  norm_num
  omega

theorem iv_W (a k : ℕ) : Scf.iv (W a) 1#32 k = W (a + k) := by
  unfold Scf.iv
  rw [BitVec.mul_one]
  exact (BitVec.ofNat_add a k).symm

theorem W_idx (n : ℕ) : Scalar.indexCast (W n) = W n := rfl

end Cert.Proof

end
-- ==== Proof.Inv.lean ====
/-
  The state of the sum over a segment's rows, row by row, and the step that a row makes.
-/
module

public import proofs.«01_k».proof.Proof.Row
public import proofs.«01_k».proof.Proof.Words
public import Idealize.ShloMosaic.Lib.Pointwise.Reshape

@[expose] public section

set_option maxRecDepth 100000

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore (S V T)
open Idealize.ShloMosaic.SparseCore.Cfg (HIx Pay tileRest ownBufs ownSems0 ownCells ownRefs mem_ownCells mem_ownRefs)

variable {F : FTy → Type} [FloatOps F]

local notation "𝕄" => MT nD τ sig (HIx 1) (Elt F) ℕ UU ℕ

/-- The first row of segment `b`: the segments before it have 0, 1, …, b − 1 rows. -/
def o (b : ℕ) : ℕ := b * (b - 1) / 2

theorem o_succ (b : ℕ) : o (b + 1) = o b + b := by
  unfold o
  cases b with
  | zero => rfl
  | succ n =>
    simp only [Nat.add_sub_cancel]
    have : (n + 1 + 1) * (n + 1) = (n + 1) * n + 2 * (n + 1) := by ring
    rw [this, Nat.add_mul_div_left _ _ (by norm_num)]

theorem o_mono {a b : ℕ} (h : a ≤ b) : o a ≤ o b := by
  induction h with
  | refl => exact le_rfl
  | step _ ih => rw [Nat.succ_eq_add_one, o_succ]; omega

theorem o_800 : o 800 = 319600 := by decide
theorem o_le {b : ℕ} (h : b ≤ 800) : o b ≤ 319600 := o_800 ▸ o_mono h

section
variable {V : Type}

/-- The accumulators of a state. -/
abbrev Sacc (x : St F) : Fin 8 → FVec F S16 .f32 :=
  ![x.1, x.2.1, x.2.2.1, x.2.2.2.1, x.2.2.2.2.1, x.2.2.2.2.2.1, x.2.2.2.2.2.2.1, x.2.2.2.2.2.2.2.1]
abbrev Sden (x : St F) : FVec F S16 .f32 := x.2.2.2.2.2.2.2.2.1
abbrev Scur (x : St F) : BitVec 32 := x.2.2.2.2.2.2.2.2.2.1
abbrev Snxt (x : St F) : BitVec 32 := x.2.2.2.2.2.2.2.2.2.2
end

/-- The zero vector. -/
def zv : FVec F S16 .f32 := broadcast S16 (Scalar.ofBits .f32 0x00000000#32)

/-- The sixteen words of row `r` at lane block `j`. -/
def rowv (X : ℕ → F .f32) (r : ℕ) (j : Fin 8) : FVec F S16 .f32 := fun i => X (r * 128 + 16 * j.val + (i 0).val)

/-- The lane-wise products of a row's eight blocks with the weights', summed over the blocks. -/
def dot8 (f w : Fin 8 → FVec F S16 .f32) : FVec F S16 .f32 :=
  addf
    (addf (addf (mulf (f 0) (w 0)) (mulf (f 1) (w 1))) (addf (mulf (f 2) (w 2)) (mulf (f 3) (w 3))))
    (addf (addf (mulf (f 4) (w 4)) (mulf (f 5) (w 5))) (addf (mulf (f 6) (w 6)) (mulf (f 7) (w 7))))

/-- One exchange of the sum over the lanes: each lane adds the lane one away in its pair. -/
def bf1 (l : IVec S16 1) (v : FVec F S16 .f32) : FVec F S16 .f32 :=
  addf v (select l
    (concatenate S16 0 [⟨S15, extractStridedSlice S15 ![1] v slices_S16_o1_S15⟩, ⟨S1, extractStridedSlice S1 ![0] v slices_S16_o0_S1⟩] concatenates_S15_S1_S16_d0)
    (concatenate S16 0 [⟨S1, extractStridedSlice S1 ![15] v slices_S16_o15_S1⟩, ⟨S15, extractStridedSlice S15 ![0] v slices_S16_o0_S15⟩] concatenates_S1_S15_S16_d0))

/-- The exchange with the lane two away. -/
def bf2 (l : IVec S16 1) (v : FVec F S16 .f32) : FVec F S16 .f32 :=
  addf v (select l
    (concatenate S16 0 [⟨S14, extractStridedSlice S14 ![2] v slices_S16_o2_S14⟩, ⟨S2, extractStridedSlice S2 ![0] v slices_S16_o0_S2⟩] concatenates_S14_S2_S16_d0)
    (concatenate S16 0 [⟨S2, extractStridedSlice S2 ![14] v slices_S16_o14_S2⟩, ⟨S14, extractStridedSlice S14 ![0] v slices_S16_o0_S14⟩] concatenates_S2_S14_S16_d0))

/-- The exchange with the lane four away. -/
def bf4 (l : IVec S16 1) (v : FVec F S16 .f32) : FVec F S16 .f32 :=
  addf v (select l
    (concatenate S16 0 [⟨S12, extractStridedSlice S12 ![4] v slices_S16_o4_S12⟩, ⟨S4, extractStridedSlice S4 ![0] v slices_S16_o0_S4⟩] concatenates_S12_S4_S16_d0)
    (concatenate S16 0 [⟨S4, extractStridedSlice S4 ![12] v slices_S16_o12_S4⟩, ⟨S12, extractStridedSlice S12 ![0] v slices_S16_o0_S12⟩] concatenates_S4_S12_S16_d0))

/-- The exchange with the lane eight away. -/
def bf8 (l : IVec S16 1) (v : FVec F S16 .f32) : FVec F S16 .f32 :=
  addf v (select l
    (concatenate S16 0 [⟨S8, extractStridedSlice S8 ![8] v slices_S16_o8_S8⟩, ⟨S8, extractStridedSlice S8 ![0] v slices_S16_o0_S8⟩] concatenates_S8_S8_S16_d0)
    (concatenate S16 0 [⟨S8, extractStridedSlice S8 ![8] v slices_S16_o8_S8⟩, ⟨S8, extractStridedSlice S8 ![0] v slices_S16_o0_S8⟩] concatenates_S8_S8_S16_d0))

/-- The exponential of the leaky score. -/
def lexp (s : FVec F S16 .f32) : FVec F S16 .f32 :=
  exp (select (cmpf .oge s (broadcast S16 (Scalar.ofBits .f32 0x00000000#32))) s
    (mulf (broadcast S16 (Scalar.ofBits .f32 0x3E4CCCCD#32)) s))

/-- A row's weight, in every lane. -/
def expw (l : Fin 4 → IVec S16 1) (w f : Fin 8 → FVec F S16 .f32) : FVec F S16 .f32 :=
  lexp (bf8 (l 3) (bf4 (l 2) (bf2 (l 1) (bf1 (l 0) (dot8 f w)))))

/-- A row added to the state, its weight known. -/
def accW (e : FVec F S16 .f32) (f : Fin 8 → FVec F S16 .f32) (x : St F) : St F :=
  (addf x.1 (mulf e (f 0)), addf x.2.1 (mulf e (f 1)), addf x.2.2.1 (mulf e (f 2)), addf x.2.2.2.1 (mulf e (f 3)),
    addf x.2.2.2.2.1 (mulf e (f 4)), addf x.2.2.2.2.2.1 (mulf e (f 5)), addf x.2.2.2.2.2.2.1 (mulf e (f 6)),
    addf x.2.2.2.2.2.2.2.1 (mulf e (f 7)), addf x.2.2.2.2.2.2.2.2.1 e, x.2.2.2.2.2.2.2.2.2.1, x.2.2.2.2.2.2.2.2.2.2)

/-- A row added to the state. -/
def accu (l : Fin 4 → IVec S16 1) (w f : Fin 8 → FVec F S16 .f32) (x : St F) : St F := accW (expw l w f) f x

/-- The state in segment `b` after its first `n` rows. -/
def accSt (l : Fin 4 → IVec S16 1) (w : Fin 8 → FVec F S16 .f32) (X : ℕ → F .f32) (b : ℕ) : ℕ → St F
  | 0 => (zv, zv, zv, zv, zv, zv, zv, zv, zv, W b, W (o (b + 1)))
  | n + 1 => accu l w (rowv X (o b + n)) (accSt l w X b n)

theorem accSt_cur (l : Fin 4 → IVec S16 1) (w : Fin 8 → FVec F S16 .f32) (X : ℕ → F .f32) (b n : ℕ) :
    Scur (accSt l w X b n) = W b := by
  induction n with
  | zero => rfl
  | succ n ih => exact ih

theorem accSt_nxt (l : Fin 4 → IVec S16 1) (w : Fin 8 → FVec F S16 .f32) (X : ℕ → F .f32) (b n : ℕ) :
    Snxt (accSt l w X b n) = W (o (b + 1)) := by
  induction n with
  | zero => rfl
  | succ n ih => exact ih

/-- The result row of segment `b` at lane block `j`. -/
def rowOut (l : Fin 4 → IVec S16 1) (w : Fin 8 → FVec F S16 .f32) (X : ℕ → F .f32) (b : ℕ) (j : Fin 8) : FVec F S16 .f32 :=
  mulf (Sacc (accSt l w X b b) j) (rcp (Sden (accSt l w X b b)))

section Inv

variable (d : Fin nD) (L : grid0.Coords) (arg8 : Memref sig .scVector .vmem S19456 .f32)
  (l : Fin 4 → IVec S16 1) (w : Fin 8 → FVec F S16 .f32) (X : ℕ → F .f32) (sb : ℕ)

/-- The output buffer holds the result rows of the segments from `sb` up to `cur`. -/
def OutOK (f8 : arg8.view.ty.Contents (Elt F)) (cur : ℕ) : Prop :=
  ∀ b, sb ≤ b → b < cur → ∀ (j : Fin 8) (i : S16.Idx) (y : S19456.Idx),
    (y 0).val = (b - sb) * 128 + 16 * j.val + (i 0).val → arg8.view.read (Elt F) f8 y = rowOut l w X b j i

/-- Before row `r`: the segment at hand ends at `r` or later, the state is its sum so far. -/
def RowInv (r : ℕ) (x : St F) (f8 : arg8.view.ty.Contents (Elt F)) : Prop :=
  ∃ cur, x = accSt l w X cur (r - o cur) ∧ sb ≤ cur ∧ (o cur ≤ r ∧ (o cur < r ∨ cur = sb)) ∧ r ≤ o (cur + 1)
    ∧ OutOK arg8 l w X sb f8 cur

/-- At row `r`: the segment at hand holds it. -/
def RowMid (r : ℕ) (x : St F) (f8 : arg8.view.ty.Contents (Elt F)) : Prop :=
  ∃ cur, x = accSt l w X cur (r - o cur) ∧ sb ≤ cur ∧ o cur ≤ r ∧ r < o (cur + 1) ∧ OutOK arg8 l w X sb f8 cur

theorem RowMid.step {r : ℕ} {x : St F} {f8 : arg8.view.ty.Contents (Elt F)} (h : RowMid arg8 l w X sb r x f8) :
    RowInv arg8 l w X sb (r + 1) (accu l w (rowv X r) x) f8 := by
  obtain ⟨cur, rfl, h1, h2, h3, h4⟩ := h
  refine ⟨cur, ?_, h1, ⟨by omega, .inl (by omega)⟩, by omega, h4⟩
  have e : r + 1 - o cur = (r - o cur) + 1 := by omega
  rw [e]
  have e' : o cur + (r - o cur) = r := by omega
  conv_rhs => rw [accSt, e']

/-- The same with the row's blocks as they were loaded. -/
theorem RowMid.step' {r : ℕ} {x : St F} {f8 : arg8.view.ty.Contents (Elt F)} (f : Fin 8 → FVec F S16 .f32)
    (hf : ∀ j, f j = rowv X r j) (h : RowMid arg8 l w X sb r x f8) :
    RowInv arg8 l w X sb (r + 1) (accu l w f x) f8 := by
  obtain rfl : f = rowv X r := funext hf
  exact h.step

/-- The same with the new state component by component. -/
theorem RowMid.step2 {r : ℕ} {x : St F} {f8 : arg8.view.ty.Contents (Elt F)} (f : Fin 8 → FVec F S16 .f32)
    (hf : ∀ j, f j = rowv X r j) (h : RowMid arg8 l w X sb r x f8) {e f0 f1 f2 f3 f4 f5 f6 f7 : FVec F S16 .f32}
    (he : e = expw l w f) (h0 : f0 = f 0) (h1 : f1 = f 1) (h2 : f2 = f 2) (h3 : f3 = f 3) (h4 : f4 = f 4)
    (h5 : f5 = f 5) (h6 : f6 = f 6) (h7 : f7 = f 7) :
    RowInv arg8 l w X sb (r + 1)
      (addf x.1 (mulf e f0), addf x.2.1 (mulf e f1), addf x.2.2.1 (mulf e f2), addf x.2.2.2.1 (mulf e f3),
        addf x.2.2.2.2.1 (mulf e f4), addf x.2.2.2.2.2.1 (mulf e f5), addf x.2.2.2.2.2.2.1 (mulf e f6),
        addf x.2.2.2.2.2.2.2.1 (mulf e f7), addf x.2.2.2.2.2.2.2.2.1 e, x.2.2.2.2.2.2.2.2.2.1,
        x.2.2.2.2.2.2.2.2.2.2) f8 := by
  subst he h0 h1 h2 h3 h4 h5 h6 h7
  exact h.step' arg8 l w X sb f hf

/-- The eight stores of a finished segment, as pieces. -/
def finPiece (off : BitVec 32 → Fin 1 → ℕ)
    (hin : ∀ r : Fin 8, ∀ a, off (BitVec.ofNat 32 (16 * r.val)) a + S16.size a ≤ S19456.size a) (x : St F) (k : Fin 8) :
    View.Piece (Elt F) S19456 .f32 :=
  ⟨Rect.unit (s := S19456) (off (BitVec.ofNat 32 (16 * k.val))) S16.size (hin k),
    shapeCast S16 (mulf (Sacc x k) (rcp (Sden x))) shapeCasts_S16_S16⟩

theorem pieces_hit (off : BitVec 32 → Fin 1 → ℕ)
    (hin : ∀ r : Fin 8, ∀ a, off (BitVec.ofNat 32 (16 * r.val)) a + S16.size a ≤ S19456.size a) (x : St F)
    (f8 : arg8.view.ty.Contents (Elt F)) (base : ℕ)
    (hoff : ∀ j : Fin 8, off (W (16 * j.val)) 0 = base + 16 * j.val) (j : Fin 8) (i : S16.Idx) (y : S19456.Idx)
    (hy : (y 0).val = base + 16 * j.val + (i 0).val) (ks : List (Fin 8)) (hk : j ∈ ks) :
    arg8.view.read (Elt F) (arg8.view.writes (Elt F) f8 (ks.map (finPiece off hin x))) y
      = mulf (Sacc x j) (rcp (Sden x)) i := by
  induction ks with
  | nil => simp at hk
  | cons k ks ih =>
    have hi : (i 0).val < 16 := (i 0).isLt
    by_cases e : k = j
    · subst e
      refine (View.read_writes_cons_hit_of_coords _ f8 _ _ _ i y ?_).trans ?_
      · intro a
        have ha : a = 0 := Subsingleton.elim a 0
        subst ha
        show (y 0).val = off (W (16 * k.val)) 0 + 1 * (i 0).val
        rw [hoff k, hy]
        omega
      · exact congrFun (shapeCast_id _ _) i
    · refine (View.read_writes_cons_miss_of_axis _ f8 _ _ y 0 (off (W (16 * k.val)) 0) 16 rfl rfl rfl ?_).trans (ih ?_)
      · rw [hoff k, hy]
        have : k.val ≠ j.val := fun h => e (Fin.ext h)
        omega
      · exact (List.mem_cons.mp hk).resolve_left (fun h => e h.symm)

theorem pieces_miss (off : BitVec 32 → Fin 1 → ℕ)
    (hin : ∀ r : Fin 8, ∀ a, off (BitVec.ofNat 32 (16 * r.val)) a + S16.size a ≤ S19456.size a) (x : St F)
    (f8 : arg8.view.ty.Contents (Elt F)) (base : ℕ)
    (hoff : ∀ j : Fin 8, off (W (16 * j.val)) 0 = base + 16 * j.val) (y : S19456.Idx)
    (hy : (y 0).val < base) (ks : List (Fin 8)) :
    arg8.view.read (Elt F) (arg8.view.writes (Elt F) f8 (ks.map (finPiece off hin x))) y
      = arg8.view.read (Elt F) f8 y := by
  induction ks with
  | nil => rfl
  | cons k ks ih =>
    refine (View.read_writes_cons_miss_of_axis _ f8 _ _ y 0 (off (W (16 * k.val)) 0) 16 rfl rfl rfl ?_).trans ih
    rw [hoff k]
    omega

theorem finBuf_pieces (off : BitVec 32 → Fin 1 → ℕ) (c : BitVec 1)
    (hin : c = 1#1 → ∀ r : Fin 8, ∀ a, off (BitVec.ofNat 32 (16 * r.val)) a + S16.size a ≤ S19456.size a)
    (x : St F) (f8 : arg8.view.ty.Contents (Elt F)) (hc : c = 1#1) :
    finBuf arg8 off c hin x f8
      = arg8.view.writes (Elt F) f8 (([7, 6, 5, 4, 3, 2, 1, 0] : List (Fin 8)).map (finPiece off (hin hc) x)) := by
  rw [finBuf, dif_pos hc]
  rfl

theorem fin_out (off : BitVec 32 → Fin 1 → ℕ) (c : BitVec 1)
    (hin : c = 1#1 → ∀ r : Fin 8, ∀ a, off (BitVec.ofNat 32 (16 * r.val)) a + S16.size a ≤ S19456.size a)
    (f8 : arg8.view.ty.Contents (Elt F)) (cur : ℕ) (hc : c = 1#1)
    (hoff : ∀ j : Fin 8, off (W (16 * j.val)) 0 = (cur - sb) * 128 + 16 * j.val)
    (h : OutOK arg8 l w X sb f8 cur) :
    OutOK arg8 l w X sb (finBuf arg8 off c hin (accSt l w X cur cur) f8) (cur + 1) := by
  rw [finBuf_pieces arg8 off c hin _ f8 hc]
  intro b hb hb' j i y hy
  have hi : (i 0).val < 16 := (i 0).isLt
  have hj := j.isLt
  by_cases hbc : b = cur
  · subst hbc
    exact pieces_hit arg8 off (hin hc) _ f8 _ hoff j i y hy _ ((show ∀ k : Fin 8, k ∈ ([7, 6, 5, 4, 3, 2, 1, 0] : List (Fin 8)) by decide) j)
  · refine (pieces_miss arg8 off (hin hc) _ f8 _ hoff y ?_ _).trans (h b hb (by omega) j i y hy)
    have : b - sb + 1 ≤ cur - sb := by omega
    omega

/-- Finishing at row `r` when the segment at hand ends there. -/
theorem inv_step (off : BitVec 32 → Fin 1 → ℕ) (c : BitVec 1)
    (hin : c = 1#1 → ∀ r : Fin 8, ∀ a, off (BitVec.ofNat 32 (16 * r.val)) a + S16.size a ≤ S19456.size a)
    (r : ℕ) (hr : r < 319600) (x : St F) (f8 : arg8.view.ty.Contents (Elt F))
    (hc : c = 1#1 ↔ Snxt x = W r)
    (hoff : ∀ cur, Scur x = W cur → sb ≤ cur → cur < 800 →
      ∀ j : Fin 8, off (W (16 * j.val)) 0 = (cur - sb) * 128 + 16 * j.val)
    (h : RowInv arg8 l w X sb r x f8) :
    RowMid arg8 l w X sb r (finSt c zv x) (finBuf arg8 off c hin x f8) := by
  obtain ⟨cur, rfl, h1, ⟨h2, -⟩, h3, h4⟩ := h
  have hcur : cur < 800 := by
    by_contra hh
    have := o_mono (show 800 ≤ cur by omega)
    rw [o_800] at this
    omega
  have ho := o_succ cur
  have hle := o_le (show cur + 1 ≤ 800 by omega)
  rw [accSt_nxt] at hc
  have hc' : c = 1#1 ↔ o (cur + 1) = r := by
    rw [hc]
    exact W_inj (by omega) (by omega)
  by_cases hcc : c = 1#1
  · have e := hc'.mp hcc
    have e1 : r - o cur = cur := by omega
    rw [e1]
    have ho' := o_succ (cur + 1)
    refine ⟨cur + 1, ?_, by omega, by omega, by omega, ?_⟩
    · rw [finSt, if_pos hcc]
      have e2 : r - o (cur + 1) = 0 := by omega
      rw [e2]
      have a1 := accSt_cur l w X cur cur
      have a2 := accSt_nxt l w X cur cur
      simp only [Scur, Snxt] at a1 a2
      rw [a1, a2, show (1#32 : BitVec 32) = W 1 from rfl, W_addi, W_addi, W_addi, accSt, o_succ (cur + 1)]
      rfl
    · exact fin_out arg8 l w X sb off c hin f8 cur hcc (hoff cur (accSt_cur ..) h1 hcur) h4
  · rw [finSt, if_neg hcc, finBuf, dif_neg hcc]
    have : o (cur + 1) ≠ r := fun h => hcc (hc'.mpr h)
    exact ⟨cur, rfl, h1, h2, by omega, h4⟩

/-- At a row the segment at hand is one of the tile's. -/
theorem inv_cur {se r : ℕ} {x : St F} {f8 : arg8.view.ty.Contents (Elt F)} (h : RowInv arg8 l w X sb r x f8)
    (hr : r < o se) : ∃ cur, Scur x = W cur ∧ sb ≤ cur ∧ cur < se := by
  obtain ⟨cur, rfl, h1, ⟨h2, -⟩, -, -⟩ := h
  refine ⟨cur, accSt_cur .., h1, ?_⟩
  by_contra hh
  have := o_mono (show se ≤ cur by omega)
  omega

end Inv

/-- Where the result row of the segment at hand starts. -/
theorem off4_eq {sb cur : ℕ} (h : sb ≤ cur) (hc : cur < 800) (j : Fin 8) :
    k0_off4 (W sb) (W cur) (W (16 * j.val)) 0 = (cur - sb) * 128 + 16 * j.val := by
  have hj := j.isLt
  unfold k0_off4
  simp (disch := omega) only [show (128#32 : BitVec 32) = W 128 from rfl, W_subi, W_muli, W_addi, W_idx]
  exact W_toNat (by omega)

theorem off4_inb {sb cur se : ℕ} (h : sb ≤ cur) (hc : cur < se) (hse : se ≤ 800) (hw : se - sb ≤ 152) (j : Fin 8)
    (a : Fin 1) : k0_off4 (W sb) (W cur) (BitVec.ofNat 32 (16 * j.val)) a + S16.size a ≤ S19456.size a := by
  have ha : a = 0 := Subsingleton.elim a 0
  subst ha
  have e := off4_eq h (by omega : cur < 800) j
  have hj := j.isLt
  have e1 : (cur - sb) * 128 ≤ 151 * 128 := Nat.mul_le_mul_right _ (by omega)
  show k0_off4 (W sb) (W cur) (W (16 * j.val)) 0 + 16 ≤ 19456
  rw [e]
  omega

section Inv

variable (d : Fin nD) (L : grid0.Coords) (arg8 : Memref sig .scVector .vmem S19456 .f32)
  (l : Fin 4 → IVec S16 1) (w : Fin 8 → FVec F S16 .f32) (X : ℕ → F .f32) (sb : ℕ)

/-- At a row the stores of a finished segment are inside the output buffer. -/
theorem inv_inb {se r : ℕ} {x : St F} {f8 : arg8.view.ty.Contents (Elt F)} (h : RowInv arg8 l w X sb r x f8)
    (hr : r < o se) (hse : se ≤ 800) (hw : se - sb ≤ 152) (j : Fin 8) (a : Fin 1) :
    k0_off4 (W sb) (Scur x) (BitVec.ofNat 32 (16 * j.val)) a + S16.size a ≤ S19456.size a := by
  obtain ⟨cur, e, h1, h2⟩ := inv_cur arg8 l w X sb h hr
  rw [e]
  exact off4_inb h1 h2 hse hw j a

theorem RowMid.inb {se r : ℕ} {x : St F} {f8 : arg8.view.ty.Contents (Elt F)} (h : RowMid arg8 l w X sb r x f8)
    (hr : r < o se) (hse : se ≤ 800) (hw : se - sb ≤ 152) (j : Fin 8) (a : Fin 1) :
    k0_off4 (W sb) (Scur x) (BitVec.ofNat 32 (16 * j.val)) a + S16.size a ≤ S19456.size a := by
  obtain ⟨cur, rfl, h1, h2, -, -⟩ := h
  rw [accSt_cur]
  refine off4_inb h1 ?_ hse hw j a
  by_contra hh
  have := o_mono (show se ≤ cur by omega)
  omega

theorem wp_row (off : BitVec 32 → Fin 1 → ℕ) (c : BitVec 1)
    (hin : c = 1#1 → ∀ r : Fin 8, ∀ a, off (BitVec.ofNat 32 (16 * r.val)) a + S16.size a ≤ S19456.size a)
    (r : ℕ) (hr : r < 319600) (x : St F) (f8 : Buf (Elt F) (arg8.view.loc (VT d L)))
    {β : Type} (kk : St F → Prog (TpuEff nD τ sig (Elt F) Λ₀ (.scVector ((L 0).castLE hcore0) ((L 1).castLE hsub0))) β)
    (Q : β → sProp 𝕄)
    (T : c = 1#1 → Prog (TpuEff nD τ sig (Elt F) Λ₀ (.scVector ((L 0).castLE hcore0) ((L 1).castLE hsub0))) β)
    (E : ¬ c = 1#1 → Prog (TpuEff nD τ sig (Elt F) Λ₀ (.scVector ((L 0).castLE hcore0) ((L 1).castLE hsub0))) β)
    (hE : E = fun _ => pure x >>= kk) (hT : T = fun h => cfinT L arg8 off c hin zv x h >>= kk)
    (hc : c = 1#1 ↔ Snxt x = W r) (hoff : off = k0_off4 (W sb) (Scur x))
    (h : RowInv arg8 l w X sb r x f8) :
    (iprop((arg8.view.loc (VT d L) ↦[arg8.view.set]{fullShare} f8)
        ∗ (∀ y : St F, ∀ g8 : Buf (Elt F) (arg8.view.loc (VT d L)), ⌜RowMid arg8 l w X sb r y g8⌝ -∗
            (arg8.view.loc (VT d L) ↦[arg8.view.set]{fullShare} g8) -∗
            wp frame (wpE (defs₀ (F := F)) 𝒱₀ (VT d L) none) Set.univ
              (kk (y.1, y.2.1, y.2.2.1, y.2.2.2.1, y.2.2.2.2.1, y.2.2.2.2.2.1, y.2.2.2.2.2.2.1, y.2.2.2.2.2.2.2.1, y.2.2.2.2.2.2.2.2.1, y.2.2.2.2.2.2.2.2.2.1, y.2.2.2.2.2.2.2.2.2.2)) Q))
      ⊢ wp frame (wpE (defs₀ (F := F)) 𝒱₀ (VT d L) none) Set.univ (dite (c = 1#1) T E) Q) := by
  iintro ⟨H8, HK⟩
  iapply (wp_cfin d L arg8 off c hin zv x f8 kk Q T E hE hT)
  isplitl [H8]
  · iexact H8
  iintro %y %hy H8
  ispecialize HK $$ %y
  ispecialize HK $$ %(finBuf arg8 off c hin x f8)
  ispecialize HK $$ %(by
    subst hy
    refine inv_step arg8 l w X sb off c hin r hr x f8 hc ?_ h
    intro cur e h1 h2 j
    rw [hoff, e]
    exact off4_eq h1 h2 j)
  iapply HK
  iexact H8

/-- The same with what is known of the state before the step and of the two arms as premises of the step. -/
theorem wp_row' (off : BitVec 32 → Fin 1 → ℕ) (c : BitVec 1)
    (hin : c = 1#1 → ∀ r : Fin 8, ∀ a, off (BitVec.ofNat 32 (16 * r.val)) a + S16.size a ≤ S19456.size a)
    (r : ℕ) (hr : r < 319600) (nxt cur : BitVec 32) (hc : c = 1#1 ↔ nxt = W r) (hoff : off = k0_off4 (W sb) cur)
    (x : St F) (f8 : Buf (Elt F) (arg8.view.loc (VT d L)))
    {β : Type} (kk : St F → Prog (TpuEff nD τ sig (Elt F) Λ₀ (.scVector ((L 0).castLE hcore0) ((L 1).castLE hsub0))) β)
    (Q : β → sProp 𝕄)
    (T : c = 1#1 → Prog (TpuEff nD τ sig (Elt F) Λ₀ (.scVector ((L 0).castLE hcore0) ((L 1).castLE hsub0))) β) :
    (iprop(⌜(RowInv arg8 l w X sb r x f8 ∧ nxt = Snxt x ∧ cur = Scur x) ∧ T = fun h => cfinT L arg8 off c hin zv x h >>= kk⌝
        ∗ (arg8.view.loc (VT d L) ↦[arg8.view.set]{fullShare} f8)
        ∗ (∀ y : St F, ∀ g8 : Buf (Elt F) (arg8.view.loc (VT d L)), ⌜RowMid arg8 l w X sb r y g8⌝ -∗
            (arg8.view.loc (VT d L) ↦[arg8.view.set]{fullShare} g8) -∗
            wp frame (wpE (defs₀ (F := F)) 𝒱₀ (VT d L) none) Set.univ
              (kk (y.1, y.2.1, y.2.2.1, y.2.2.2.1, y.2.2.2.2.1, y.2.2.2.2.2.1, y.2.2.2.2.2.2.1, y.2.2.2.2.2.2.2.1, y.2.2.2.2.2.2.2.2.1, y.2.2.2.2.2.2.2.2.2.1, y.2.2.2.2.2.2.2.2.2.2)) Q))
      ⊢ wp frame (wpE (defs₀ (F := F)) 𝒱₀ (VT d L) none) Set.univ (dite (c = 1#1) T (fun _ => pure x >>= kk)) Q) := by
  iintro ⟨%hI, H8, HK⟩
  obtain ⟨⟨hI, hn, hcu⟩, hT⟩ := hI
  subst hn hcu
  iapply (wp_row d L arg8 l w X sb off c hin r hr _ f8 kk Q T _ rfl hT hc hoff hI)
  isplitl [H8]
  · iexact H8
  iexact HK

end Inv

/-- The buffer holds the words from row `base` on. -/
def BufOK (m : Memref sig .scVector .vmem S34816 .f32) (X : ℕ → F .f32) (base : ℕ) (f : m.view.ty.Contents (Elt F)) : Prop :=
  ∀ y : S34816.Idx, m.view.read (Elt F) f y = X (base * 128 + (y 0).val)

/-- A lane block loaded from the buffer. -/
def ldv (m : Memref sig .scVector .vmem S34816 .f32) (f : m.view.ty.Contents (Elt F)) (off : Fin 1 → ℕ)
    (inb : ∀ a, off a + S16.size a ≤ S34816.size a) : FVec F S16 .f32 :=
  shapeCast S16 (m.view.readAt (Elt F) (Rect.unit (s := S34816) off S16.size inb).toLoadRect f) shapeCasts_S16_S16

theorem ldv_eq {m : Memref sig .scVector .vmem S34816 .f32} {X : ℕ → F .f32} {base : ℕ} {f : m.view.ty.Contents (Elt F)}
    (h : BufOK m X base f) {off : Fin 1 → ℕ} (inb : ∀ a, off a + S16.size a ≤ S34816.size a) {r : ℕ} {j : Fin 8}
    (hr : base ≤ r) (ho : off 0 = (r - base) * 128 + 16 * j.val) : ldv m f off inb = rowv X r j := by
  funext i
  refine (congrFun (shapeCast_id (s := S16) _ _) i).trans ?_
  refine (h _).trans ?_
  show X (base * 128 + (off 0 + 1 * (i 0).val)) = X (r * 128 + 16 * j.val + (i 0).val)
  congr 1
  rw [ho]
  omega

end Cert.Proof

end
-- ==== Proof.Chain.lean ====
/-
  The kernel's row, chunk and loop words, as natural numbers: with `R` a tile's first row and `R'` the row after its last.
-/
module

public import proofs.«01_k».proof.Proof.Words

@[expose] public section

set_option maxRecDepth 100000

noncomputable section

namespace Cert.Proof

open Cert.KernelIdeal Cert.KernelIdeal.Gen
open Idealize.ShloMosaic

/-- A row compared with the next segment's first. -/
theorem cmp_iff {c d : ℕ} {x : BitVec 32} (h : c = d) : Scalar.cmpi .eq (W c) x = 1#1 ↔ x = W d := by
  subst h
  rw [W_cmpi_eq]
  by_cases e : W c = x
  · simp [e]
  · simp [e, Ne.symm e]

theorem lt_iff {a b c d : ℕ} (ha : a < 2 ^ 31) (hb : b < 2 ^ 31) (h : a < b ↔ c < d) :
    Scalar.cmpi .slt (W a) (W b) = 1#1 ↔ c < d := by
  rw [W_cmpi_slt ha hb, ← h]
  by_cases e : a < b <;> simp [e]

theorem gt_iff {a b c d : ℕ} (ha : a < 2 ^ 31) (hb : b < 2 ^ 31) (h : b < a ↔ c < d) :
    Scalar.cmpi .sgt (W a) (W b) = 1#1 ↔ c < d := by
  rw [W_cmpi_sgt ha hb, ← h]
  by_cases e : b < a <;> simp [e]

theorem off_eq {a n : ℕ} (h : a = n) (hn : a < 2 ^ 31) : (![(Scalar.indexCast (W a)).toNat] : Fin 1 → ℕ) 0 = n := by
  subst h
  exact W_toNat hn

/-- How many chunks of 272 rows the rows from `R` to `R'` make. -/
abbrev nch (R R' : ℕ) : ℕ := (R' - R + 271) / 272
/-- The first row of the even chunk of a pair, and of the odd one. -/
abbrev B0 (R t : ℕ) : ℕ := R + 544 * t
abbrev B1 (R t : ℕ) : ℕ := R + 544 * t + 272
/-- How many of a chunk's rows are the tile's. -/
abbrev sp (R' b : ℕ) : ℕ := min (b + 272) R' - b
/-- The row that a chunk's copy starts from. -/
abbrev cb (b : ℕ) : ℕ := min b 319328

variable {R R' : ℕ} (hR : R ≤ R') (hR' : R' ≤ 319600)
include hR hR'

theorem t2_trips : (k0_t2_loop (W R') (W R)).trips = (nch R R' + 1) / 2 := by
  try simp only [nch, sp, B0, B1, cb] at *
  unfold Scf.Loop.trips k0_t2_loop
  simp (disch := omega) only [W_addi, W_muli, W_subi, W_minsi, W_clamp, W_max0, W_fdiv, iv_W, W_div1, Nat.mul_one, Nat.sub_zero, Nat.zero_add, trips_W]
  congr 2

theorem t2_ok : (k0_t2_loop (W R') (W R)).OK := by
  try simp only [nch, sp, B0, B1, cb] at *
  unfold Scf.Loop.OK k0_t2_loop
  simp (disch := omega) only [W_addi, W_muli, W_subi, W_minsi, W_clamp, W_max0, W_fdiv, iv_W, W_div1, Nat.mul_one, Nat.sub_zero, Nat.zero_add]
  apply ok_W <;> omega

theorem t11_trips : (k0_t11_loop (W R') (W R)).trips = 0 := by
  try simp only [nch, sp, B0, B1, cb] at *
  unfold Scf.Loop.trips k0_t11_loop
  simp (disch := omega) only [W_addi, W_muli, W_subi, W_minsi, W_clamp, W_max0, W_fdiv, iv_W, W_div1, Nat.mul_one, Nat.sub_zero, Nat.zero_add, trips_W]
  omega

theorem t11_ok : (k0_t11_loop (W R') (W R)).OK := by
  try simp only [nch, sp, B0, B1, cb] at *
  unfold Scf.Loop.OK k0_t11_loop
  simp (disch := omega) only [W_addi, W_muli, W_subi, W_minsi, W_clamp, W_max0, W_fdiv, iv_W, W_div1, Nat.mul_one, Nat.sub_zero, Nat.zero_add]
  apply ok_W <;> omega

theorem cond1_iff : k0_cond1 (W R') (W R) = 1#1 ↔ 0 < nch R R' := by
  try simp only [nch, sp, B0, B1, cb] at *
  unfold k0_cond1
  simp (disch := omega) only [W_addi, W_muli, W_subi, W_minsi, W_clamp, W_max0, W_fdiv, iv_W, W_div1, Nat.mul_one, Nat.sub_zero, Nat.zero_add, ext_ne]
  first
  | refine gt_iff ?_ ?_ ?_ <;> omega
  | refine lt_iff ?_ ?_ ?_ <;> omega

theorem cond2_iff : k0_cond2 (W R') (W R) = 1#1 ↔ 1 < nch R R' := by
  try simp only [nch, sp, B0, B1, cb] at *
  unfold k0_cond2
  simp (disch := omega) only [W_addi, W_muli, W_subi, W_minsi, W_clamp, W_max0, W_fdiv, iv_W, W_div1, Nat.mul_one, Nat.sub_zero, Nat.zero_add, ext_ne]
  first
  | refine gt_iff ?_ ?_ ?_ <;> omega
  | refine lt_iff ?_ ?_ ?_ <;> omega

variable (t2 : Fin (k0_t2_loop (W R') (W R)).trips)

theorem t2_lt : t2.val < (nch R R' + 1) / 2 := lt_of_lt_of_eq t2.isLt (t2_trips hR hR')

theorem t3_trips : (k0_t3_loop (W R') (W R) t2).trips = sp R' (B0 R t2) / 6 := by
  have h2 := t2_lt hR hR' t2
  try simp only [nch, sp, B0, B1, cb] at *
  unfold Scf.Loop.trips k0_t3_loop
  simp (disch := omega) only [W_addi, W_muli, W_subi, W_minsi, W_clamp, W_max0, W_fdiv, iv_W, W_div1, Nat.mul_one, Nat.sub_zero, Nat.zero_add, trips_W]
  omega

theorem t3_ok : (k0_t3_loop (W R') (W R) t2).OK := by
  have h2 := t2_lt hR hR' t2
  try simp only [nch, sp, B0, B1, cb] at *
  unfold Scf.Loop.OK k0_t3_loop
  simp (disch := omega) only [W_addi, W_muli, W_subi, W_minsi, W_clamp, W_max0, W_fdiv, iv_W, W_div1, Nat.mul_one, Nat.sub_zero, Nat.zero_add]
  apply ok_W <;> omega

theorem t4_trips : (k0_t4_loop (W R') (W R) t2).trips = 0 := by
  have h2 := t2_lt hR hR' t2
  try simp only [nch, sp, B0, B1, cb] at *
  unfold Scf.Loop.trips k0_t4_loop
  simp (disch := omega) only [W_addi, W_muli, W_subi, W_minsi, W_clamp, W_max0, W_fdiv, iv_W, W_div1, Nat.mul_one, Nat.sub_zero, Nat.zero_add, trips_W]
  omega

theorem t4_ok : (k0_t4_loop (W R') (W R) t2).OK := by
  have h2 := t2_lt hR hR' t2
  try simp only [nch, sp, B0, B1, cb] at *
  unfold Scf.Loop.OK k0_t4_loop
  simp (disch := omega) only [W_addi, W_muli, W_subi, W_minsi, W_clamp, W_max0, W_fdiv, iv_W, W_div1, Nat.mul_one, Nat.sub_zero, Nat.zero_add]
  apply ok_W <;> omega

theorem t5_trips : (k0_t5_loop (W R') (W R) t2).trips = sp R' (B0 R t2) % 6 := by
  have h2 := t2_lt hR hR' t2
  try simp only [nch, sp, B0, B1, cb] at *
  unfold Scf.Loop.trips k0_t5_loop
  simp (disch := omega) only [W_addi, W_muli, W_subi, W_minsi, W_clamp, W_max0, W_fdiv, iv_W, W_div1, Nat.mul_one, Nat.sub_zero, Nat.zero_add, trips_W]
  omega

theorem t5_ok : (k0_t5_loop (W R') (W R) t2).OK := by
  have h2 := t2_lt hR hR' t2
  try simp only [nch, sp, B0, B1, cb] at *
  unfold Scf.Loop.OK k0_t5_loop
  simp (disch := omega) only [W_addi, W_muli, W_subi, W_minsi, W_clamp, W_max0, W_fdiv, iv_W, W_div1, Nat.mul_one, Nat.sub_zero, Nat.zero_add]
  apply ok_W <;> omega

theorem t6_trips : (k0_t6_loop (W R') (W R) t2).trips = 0 := by
  have h2 := t2_lt hR hR' t2
  try simp only [nch, sp, B0, B1, cb] at *
  unfold Scf.Loop.trips k0_t6_loop
  simp (disch := omega) only [W_addi, W_muli, W_subi, W_minsi, W_clamp, W_max0, W_fdiv, iv_W, W_div1, Nat.mul_one, Nat.sub_zero, Nat.zero_add, trips_W]
  omega

theorem t6_ok : (k0_t6_loop (W R') (W R) t2).OK := by
  have h2 := t2_lt hR hR' t2
  try simp only [nch, sp, B0, B1, cb] at *
  unfold Scf.Loop.OK k0_t6_loop
  simp (disch := omega) only [W_addi, W_muli, W_subi, W_minsi, W_clamp, W_max0, W_fdiv, iv_W, W_div1, Nat.mul_one, Nat.sub_zero, Nat.zero_add]
  apply ok_W <;> omega

theorem t7_trips : (k0_t7_loop (W R') (W R) t2).trips = sp R' (B1 R t2) / 6 := by
  have h2 := t2_lt hR hR' t2
  try simp only [nch, sp, B0, B1, cb] at *
  unfold Scf.Loop.trips k0_t7_loop
  simp (disch := omega) only [W_addi, W_muli, W_subi, W_minsi, W_clamp, W_max0, W_fdiv, iv_W, W_div1, Nat.mul_one, Nat.sub_zero, Nat.zero_add, trips_W]
  omega

theorem t7_ok : (k0_t7_loop (W R') (W R) t2).OK := by
  have h2 := t2_lt hR hR' t2
  try simp only [nch, sp, B0, B1, cb] at *
  unfold Scf.Loop.OK k0_t7_loop
  simp (disch := omega) only [W_addi, W_muli, W_subi, W_minsi, W_clamp, W_max0, W_fdiv, iv_W, W_div1, Nat.mul_one, Nat.sub_zero, Nat.zero_add]
  apply ok_W <;> omega

theorem t8_trips : (k0_t8_loop (W R') (W R) t2).trips = 0 := by
  have h2 := t2_lt hR hR' t2
  try simp only [nch, sp, B0, B1, cb] at *
  unfold Scf.Loop.trips k0_t8_loop
  simp (disch := omega) only [W_addi, W_muli, W_subi, W_minsi, W_clamp, W_max0, W_fdiv, iv_W, W_div1, Nat.mul_one, Nat.sub_zero, Nat.zero_add, trips_W]
  omega

theorem t8_ok : (k0_t8_loop (W R') (W R) t2).OK := by
  have h2 := t2_lt hR hR' t2
  try simp only [nch, sp, B0, B1, cb] at *
  unfold Scf.Loop.OK k0_t8_loop
  simp (disch := omega) only [W_addi, W_muli, W_subi, W_minsi, W_clamp, W_max0, W_fdiv, iv_W, W_div1, Nat.mul_one, Nat.sub_zero, Nat.zero_add]
  apply ok_W <;> omega

theorem t9_trips : (k0_t9_loop (W R') (W R) t2).trips = sp R' (B1 R t2) % 6 := by
  have h2 := t2_lt hR hR' t2
  try simp only [nch, sp, B0, B1, cb] at *
  unfold Scf.Loop.trips k0_t9_loop
  simp (disch := omega) only [W_addi, W_muli, W_subi, W_minsi, W_clamp, W_max0, W_fdiv, iv_W, W_div1, Nat.mul_one, Nat.sub_zero, Nat.zero_add, trips_W]
  omega

theorem t9_ok : (k0_t9_loop (W R') (W R) t2).OK := by
  have h2 := t2_lt hR hR' t2
  try simp only [nch, sp, B0, B1, cb] at *
  unfold Scf.Loop.OK k0_t9_loop
  simp (disch := omega) only [W_addi, W_muli, W_subi, W_minsi, W_clamp, W_max0, W_fdiv, iv_W, W_div1, Nat.mul_one, Nat.sub_zero, Nat.zero_add]
  apply ok_W <;> omega

theorem t10_trips : (k0_t10_loop (W R') (W R) t2).trips = 0 := by
  have h2 := t2_lt hR hR' t2
  try simp only [nch, sp, B0, B1, cb] at *
  unfold Scf.Loop.trips k0_t10_loop
  simp (disch := omega) only [W_addi, W_muli, W_subi, W_minsi, W_clamp, W_max0, W_fdiv, iv_W, W_div1, Nat.mul_one, Nat.sub_zero, Nat.zero_add, trips_W]
  omega

theorem t10_ok : (k0_t10_loop (W R') (W R) t2).OK := by
  have h2 := t2_lt hR hR' t2
  try simp only [nch, sp, B0, B1, cb] at *
  unfold Scf.Loop.OK k0_t10_loop
  simp (disch := omega) only [W_addi, W_muli, W_subi, W_minsi, W_clamp, W_max0, W_fdiv, iv_W, W_div1, Nat.mul_one, Nat.sub_zero, Nat.zero_add]
  apply ok_W <;> omega

theorem cond17_iff : k0_cond17 (W R') (W R) t2 = 1#1 ↔ 2 * t2.val + 2 < nch R R' := by
  have h2 := t2_lt hR hR' t2
  try simp only [nch, sp, B0, B1, cb] at *
  unfold k0_cond17
  simp (disch := omega) only [W_addi, W_muli, W_subi, W_minsi, W_clamp, W_max0, W_fdiv, iv_W, W_div1, Nat.mul_one, Nat.sub_zero, Nat.zero_add, ext_ne]
  refine lt_iff ?_ ?_ ?_ <;> omega

theorem cond33_iff : k0_cond33 (W R') (W R) t2 = 1#1 ↔ 2 * t2.val + 3 < nch R R' := by
  have h2 := t2_lt hR hR' t2
  try simp only [nch, sp, B0, B1, cb] at *
  unfold k0_cond33
  simp (disch := omega) only [W_addi, W_muli, W_subi, W_minsi, W_clamp, W_max0, W_fdiv, iv_W, W_div1, Nat.mul_one, Nat.sub_zero, Nat.zero_add, ext_ne]
  refine lt_iff ?_ ?_ ?_ <;> omega

theorem cond3_iff (t : Fin (k0_t3_loop (W R') (W R) t2).trips) (x : BitVec 32) :
    k0_cond3 (W R') (W R) t2 t x = 1#1 ↔ x = W (B0 R t2 + 6 * t + 0) := by
  have h2 := t2_lt hR hR' t2
  have h3 := lt_of_lt_of_eq t.isLt (t3_trips hR hR' t2)
  try simp only [nch, sp, B0, B1, cb] at *
  unfold k0_cond3
  simp (disch := omega) only [W_addi, W_muli, W_subi, W_minsi, W_clamp, W_max0, W_fdiv, iv_W, W_div1, Nat.mul_one, Nat.sub_zero, Nat.zero_add, ext_ne]
  refine cmp_iff ?_; omega

theorem cond4_iff (t : Fin (k0_t3_loop (W R') (W R) t2).trips) (x : BitVec 32) :
    k0_cond4 (W R') (W R) t2 t x = 1#1 ↔ x = W (B0 R t2 + 6 * t + 1) := by
  have h2 := t2_lt hR hR' t2
  have h3 := lt_of_lt_of_eq t.isLt (t3_trips hR hR' t2)
  try simp only [nch, sp, B0, B1, cb] at *
  unfold k0_cond4
  simp (disch := omega) only [W_addi, W_muli, W_subi, W_minsi, W_clamp, W_max0, W_fdiv, iv_W, W_div1, Nat.mul_one, Nat.sub_zero, Nat.zero_add, ext_ne]
  refine cmp_iff ?_; omega

theorem cond5_iff (t : Fin (k0_t3_loop (W R') (W R) t2).trips) (x : BitVec 32) :
    k0_cond5 (W R') (W R) t2 t x = 1#1 ↔ x = W (B0 R t2 + 6 * t + 2) := by
  have h2 := t2_lt hR hR' t2
  have h3 := lt_of_lt_of_eq t.isLt (t3_trips hR hR' t2)
  try simp only [nch, sp, B0, B1, cb] at *
  unfold k0_cond5
  simp (disch := omega) only [W_addi, W_muli, W_subi, W_minsi, W_clamp, W_max0, W_fdiv, iv_W, W_div1, Nat.mul_one, Nat.sub_zero, Nat.zero_add, ext_ne]
  refine cmp_iff ?_; omega

theorem cond6_iff (t : Fin (k0_t3_loop (W R') (W R) t2).trips) (x : BitVec 32) :
    k0_cond6 (W R') (W R) t2 t x = 1#1 ↔ x = W (B0 R t2 + 6 * t + 3) := by
  have h2 := t2_lt hR hR' t2
  have h3 := lt_of_lt_of_eq t.isLt (t3_trips hR hR' t2)
  try simp only [nch, sp, B0, B1, cb] at *
  unfold k0_cond6
  simp (disch := omega) only [W_addi, W_muli, W_subi, W_minsi, W_clamp, W_max0, W_fdiv, iv_W, W_div1, Nat.mul_one, Nat.sub_zero, Nat.zero_add, ext_ne]
  refine cmp_iff ?_; omega

theorem cond7_iff (t : Fin (k0_t3_loop (W R') (W R) t2).trips) (x : BitVec 32) :
    k0_cond7 (W R') (W R) t2 t x = 1#1 ↔ x = W (B0 R t2 + 6 * t + 4) := by
  have h2 := t2_lt hR hR' t2
  have h3 := lt_of_lt_of_eq t.isLt (t3_trips hR hR' t2)
  try simp only [nch, sp, B0, B1, cb] at *
  unfold k0_cond7
  simp (disch := omega) only [W_addi, W_muli, W_subi, W_minsi, W_clamp, W_max0, W_fdiv, iv_W, W_div1, Nat.mul_one, Nat.sub_zero, Nat.zero_add, ext_ne]
  refine cmp_iff ?_; omega

theorem cond8_iff (t : Fin (k0_t3_loop (W R') (W R) t2).trips) (x : BitVec 32) :
    k0_cond8 (W R') (W R) t2 t x = 1#1 ↔ x = W (B0 R t2 + 6 * t + 5) := by
  have h2 := t2_lt hR hR' t2
  have h3 := lt_of_lt_of_eq t.isLt (t3_trips hR hR' t2)
  try simp only [nch, sp, B0, B1, cb] at *
  unfold k0_cond8
  simp (disch := omega) only [W_addi, W_muli, W_subi, W_minsi, W_clamp, W_max0, W_fdiv, iv_W, W_div1, Nat.mul_one, Nat.sub_zero, Nat.zero_add, ext_ne]
  refine cmp_iff ?_; omega

theorem cond15_iff (t : Fin (k0_t5_loop (W R') (W R) t2).trips) (x : BitVec 32) :
    k0_cond15 (W R') (W R) t2 t x = 1#1 ↔ x = W (B0 R t2 + sp R' (B0 R t2) / 6 * 6 + t) := by
  have h2 := t2_lt hR hR' t2
  have h3 := lt_of_lt_of_eq t.isLt (t5_trips hR hR' t2)
  try simp only [nch, sp, B0, B1, cb] at *
  unfold k0_cond15
  simp (disch := omega) only [W_addi, W_muli, W_subi, W_minsi, W_clamp, W_max0, W_fdiv, iv_W, W_div1, Nat.mul_one, Nat.sub_zero, Nat.zero_add, ext_ne]
  refine cmp_iff ?_; omega

theorem off3_eq (t : Fin (k0_t3_loop (W R') (W R) t2).trips) (i : Fin 6) (j : Fin 8) :
    k0_off3 (W R') (W R) t2 t (W i.val) (W (16 * j.val)) 0 = (B0 R t2 + 6 * t + i.val - cb (B0 R t2)) * 128 + 16 * j.val := by
  have h2 := t2_lt hR hR' t2
  have h3 := lt_of_lt_of_eq t.isLt (t3_trips hR hR' t2)
  have hi := i.isLt
  have hj := j.isLt
  try simp only [nch, sp, B0, B1, cb] at *
  unfold k0_off3
  simp (disch := omega) only [W_addi, W_muli, W_subi, W_minsi, W_clamp, W_max0, W_fdiv, iv_W, W_div1, Nat.mul_one, Nat.sub_zero, Nat.zero_add]
  refine off_eq ?_ ?_ <;> omega

theorem off18_eq (t : Fin (k0_t5_loop (W R') (W R) t2).trips) (j : Fin 8) :
    k0_off18 (W R') (W R) t2 t (W (16 * j.val)) 0
      = (B0 R t2 + sp R' (B0 R t2) / 6 * 6 + t - cb (B0 R t2)) * 128 + 16 * j.val := by
  have h2 := t2_lt hR hR' t2
  have h3 := lt_of_lt_of_eq t.isLt (t5_trips hR hR' t2)
  have hj := j.isLt
  try simp only [nch, sp, B0, B1, cb] at *
  unfold k0_off18
  simp (disch := omega) only [W_addi, W_muli, W_subi, W_minsi, W_clamp, W_max0, W_fdiv, iv_W, W_div1, Nat.mul_one, Nat.sub_zero, Nat.zero_add]
  refine off_eq ?_ ?_ <;> omega

theorem cond19_iff (t : Fin (k0_t7_loop (W R') (W R) t2).trips) (x : BitVec 32) :
    k0_cond19 (W R') (W R) t2 t x = 1#1 ↔ x = W (B1 R t2 + 6 * t + 0) := by
  have h2 := t2_lt hR hR' t2
  have h3 := lt_of_lt_of_eq t.isLt (t7_trips hR hR' t2)
  try simp only [nch, sp, B0, B1, cb] at *
  unfold k0_cond19
  simp (disch := omega) only [W_addi, W_muli, W_subi, W_minsi, W_clamp, W_max0, W_fdiv, iv_W, W_div1, Nat.mul_one, Nat.sub_zero, Nat.zero_add, ext_ne]
  refine cmp_iff ?_; omega

theorem cond20_iff (t : Fin (k0_t7_loop (W R') (W R) t2).trips) (x : BitVec 32) :
    k0_cond20 (W R') (W R) t2 t x = 1#1 ↔ x = W (B1 R t2 + 6 * t + 1) := by
  have h2 := t2_lt hR hR' t2
  have h3 := lt_of_lt_of_eq t.isLt (t7_trips hR hR' t2)
  try simp only [nch, sp, B0, B1, cb] at *
  unfold k0_cond20
  simp (disch := omega) only [W_addi, W_muli, W_subi, W_minsi, W_clamp, W_max0, W_fdiv, iv_W, W_div1, Nat.mul_one, Nat.sub_zero, Nat.zero_add, ext_ne]
  refine cmp_iff ?_; omega

theorem cond21_iff (t : Fin (k0_t7_loop (W R') (W R) t2).trips) (x : BitVec 32) :
    k0_cond21 (W R') (W R) t2 t x = 1#1 ↔ x = W (B1 R t2 + 6 * t + 2) := by
  have h2 := t2_lt hR hR' t2
  have h3 := lt_of_lt_of_eq t.isLt (t7_trips hR hR' t2)
  try simp only [nch, sp, B0, B1, cb] at *
  unfold k0_cond21
  simp (disch := omega) only [W_addi, W_muli, W_subi, W_minsi, W_clamp, W_max0, W_fdiv, iv_W, W_div1, Nat.mul_one, Nat.sub_zero, Nat.zero_add, ext_ne]
  refine cmp_iff ?_; omega

theorem cond22_iff (t : Fin (k0_t7_loop (W R') (W R) t2).trips) (x : BitVec 32) :
    k0_cond22 (W R') (W R) t2 t x = 1#1 ↔ x = W (B1 R t2 + 6 * t + 3) := by
  have h2 := t2_lt hR hR' t2
  have h3 := lt_of_lt_of_eq t.isLt (t7_trips hR hR' t2)
  try simp only [nch, sp, B0, B1, cb] at *
  unfold k0_cond22
  simp (disch := omega) only [W_addi, W_muli, W_subi, W_minsi, W_clamp, W_max0, W_fdiv, iv_W, W_div1, Nat.mul_one, Nat.sub_zero, Nat.zero_add, ext_ne]
  refine cmp_iff ?_; omega

theorem cond23_iff (t : Fin (k0_t7_loop (W R') (W R) t2).trips) (x : BitVec 32) :
    k0_cond23 (W R') (W R) t2 t x = 1#1 ↔ x = W (B1 R t2 + 6 * t + 4) := by
  have h2 := t2_lt hR hR' t2
  have h3 := lt_of_lt_of_eq t.isLt (t7_trips hR hR' t2)
  try simp only [nch, sp, B0, B1, cb] at *
  unfold k0_cond23
  simp (disch := omega) only [W_addi, W_muli, W_subi, W_minsi, W_clamp, W_max0, W_fdiv, iv_W, W_div1, Nat.mul_one, Nat.sub_zero, Nat.zero_add, ext_ne]
  refine cmp_iff ?_; omega

theorem cond24_iff (t : Fin (k0_t7_loop (W R') (W R) t2).trips) (x : BitVec 32) :
    k0_cond24 (W R') (W R) t2 t x = 1#1 ↔ x = W (B1 R t2 + 6 * t + 5) := by
  have h2 := t2_lt hR hR' t2
  have h3 := lt_of_lt_of_eq t.isLt (t7_trips hR hR' t2)
  try simp only [nch, sp, B0, B1, cb] at *
  unfold k0_cond24
  simp (disch := omega) only [W_addi, W_muli, W_subi, W_minsi, W_clamp, W_max0, W_fdiv, iv_W, W_div1, Nat.mul_one, Nat.sub_zero, Nat.zero_add, ext_ne]
  refine cmp_iff ?_; omega

theorem cond31_iff (t : Fin (k0_t9_loop (W R') (W R) t2).trips) (x : BitVec 32) :
    k0_cond31 (W R') (W R) t2 t x = 1#1 ↔ x = W (B1 R t2 + sp R' (B1 R t2) / 6 * 6 + t) := by
  have h2 := t2_lt hR hR' t2
  have h3 := lt_of_lt_of_eq t.isLt (t9_trips hR hR' t2)
  try simp only [nch, sp, B0, B1, cb] at *
  unfold k0_cond31
  simp (disch := omega) only [W_addi, W_muli, W_subi, W_minsi, W_clamp, W_max0, W_fdiv, iv_W, W_div1, Nat.mul_one, Nat.sub_zero, Nat.zero_add, ext_ne]
  refine cmp_iff ?_; omega

theorem off22_eq (t : Fin (k0_t7_loop (W R') (W R) t2).trips) (i : Fin 6) (j : Fin 8) :
    k0_off22 (W R') (W R) t2 t (W i.val) (W (16 * j.val)) 0 = (B1 R t2 + 6 * t + i.val - cb (B1 R t2)) * 128 + 16 * j.val := by
  have h2 := t2_lt hR hR' t2
  have h3 := lt_of_lt_of_eq t.isLt (t7_trips hR hR' t2)
  have hi := i.isLt
  have hj := j.isLt
  try simp only [nch, sp, B0, B1, cb] at *
  unfold k0_off22
  simp (disch := omega) only [W_addi, W_muli, W_subi, W_minsi, W_clamp, W_max0, W_fdiv, iv_W, W_div1, Nat.mul_one, Nat.sub_zero, Nat.zero_add]
  refine off_eq ?_ ?_ <;> omega

theorem off37_eq (t : Fin (k0_t9_loop (W R') (W R) t2).trips) (j : Fin 8) :
    k0_off37 (W R') (W R) t2 t (W (16 * j.val)) 0
      = (B1 R t2 + sp R' (B1 R t2) / 6 * 6 + t - cb (B1 R t2)) * 128 + 16 * j.val := by
  have h2 := t2_lt hR hR' t2
  have h3 := lt_of_lt_of_eq t.isLt (t9_trips hR hR' t2)
  have hj := j.isLt
  try simp only [nch, sp, B0, B1, cb] at *
  unfold k0_off37
  simp (disch := omega) only [W_addi, W_muli, W_subi, W_minsi, W_clamp, W_max0, W_fdiv, iv_W, W_div1, Nat.mul_one, Nat.sub_zero, Nat.zero_add]
  refine off_eq ?_ ?_ <;> omega

theorem off21_eq (h : 2 * t2.val + 2 < nch R R') : k0_off21 (W R') (W R) t2 0 = cb (B0 R (t2 + 1)) * 128 := by
  have h2 := t2_lt hR hR' t2
  try simp only [nch, sp, B0, B1, cb] at *
  unfold k0_off21
  simp (disch := omega) only [W_addi, W_muli, W_subi, W_minsi, W_clamp, W_max0, W_fdiv, iv_W, W_div1, Nat.mul_one, Nat.sub_zero, Nat.zero_add]
  refine off_eq ?_ ?_ <;> omega

theorem off40_eq (h : 2 * t2.val + 3 < nch R R') : k0_off40 (W R') (W R) t2 0 = cb (B1 R (t2 + 1)) * 128 := by
  have h2 := t2_lt hR hR' t2
  try simp only [nch, sp, B0, B1, cb] at *
  unfold k0_off40
  simp (disch := omega) only [W_addi, W_muli, W_subi, W_minsi, W_clamp, W_max0, W_fdiv, iv_W, W_div1, Nat.mul_one, Nat.sub_zero, Nat.zero_add]
  refine off_eq ?_ ?_ <;> omega

omit hR in
theorem off1_eq (hR0 : R ≤ 319600) : k0_off1 (W R) 0 = cb R * 128 := by
  try simp only [nch, sp, B0, B1, cb] at *
  unfold k0_off1
  simp (disch := omega) only [W_addi, W_muli, W_subi, W_minsi, W_clamp, W_max0, W_fdiv, iv_W, W_div1, Nat.mul_one, Nat.sub_zero, Nat.zero_add]
  refine off_eq ?_ ?_ <;> omega

omit hR in
theorem off2_eq (hR0 : R ≤ 319600) : k0_off2 (W R) 0 = cb (R + 272) * 128 := by
  try simp only [nch, sp, B0, B1, cb] at *
  unfold k0_off2
  simp (disch := omega) only [W_addi, W_muli, W_subi, W_minsi, W_clamp, W_max0, W_fdiv, iv_W, W_div1, Nat.mul_one, Nat.sub_zero, Nat.zero_add]
  refine off_eq ?_ ?_ <;> omega

end Cert.Proof

end
-- ==== Proof.Dma.lean ====
/-
  The chunks of feature rows on their way into the two buffers.
-/
module

public import proofs.«01_k».proof.Proof.Inv
public import proofs.«01_k».proof.Proof.Chain

@[expose] public section

set_option maxRecDepth 100000

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore (S V T)
open Idealize.ShloMosaic.SparseCore.Cfg (HIx Pay tileRest ownBufs ownSems0 ownCells ownRefs mem_ownCells mem_ownRefs)

variable {F : FTy → Type} [FloatOps F]

local notation "𝕄" => MT nD τ sig (HIx 1) (Elt F) ℕ UU ℕ

/-- The transfers' bookkeeping in the launch's own resource. -/
abbrev EC : UEmb Counters 𝕄 := countersEmb

/-- A flight keeps what is lent to it. -/
theorem flight_frame {c : Thread nD τ} {sm : SemLoc sig} {ι : HIx 1} {N : ℕ} {D P : sProp 𝕄} :
    iprop(Transfers.Flight EC c sm ι N D ∗ P) ⊢ Transfers.Flight EC c sm ι N iprop(D ∗ P) := by
  unfold Transfers.Flight
  iintro ⟨⟨⟨%R, HR, %hcap, %hpeek⟩, Hcred⟩, HP⟩
  isplitl [HR HP]
  · iexists iprop(R ∗ P)
    isplitl [HR HP]
    · isplitl [HR] <;> iassumption
    isplit
    · ipureintro
      intro K
      refine BIBase.Entails.trans ?_ (hcap K)
      iintro ⟨⟨HR, HP⟩, HK⟩
      isplitl [HR]; · iexact HR
      iintro ⟨Hv, HD⟩
      iapply HK
      isplitl [Hv]; · iexact Hv
      isplitl [HD] <;> iassumption
    · ipureintro
      intro K
      refine BIBase.Entails.trans ?_ (hpeek K)
      iintro ⟨⟨HR, HP⟩, HK⟩
      isplitl [HR]; · iexact HR
      iintro HR
      iapply HK
      isplitl [HR] <;> iassumption
  · iexact Hcred

/-- A loop without trips is passed over. -/
theorem wp_skip {d : Fin nD} {L : grid0.Coords} {σ β : Type} {l : Scf.Loop 32} (h : l.trips = 0) (ok) (x : σ)
    (T : Fin l.trips → σ → Prog (TpuEff nD τ sig (Elt F) Λ₀ (.scVector ((L 0).castLE hcore0) ((L 1).castLE hsub0))) σ)
    (kk : σ → Prog (TpuEff nD τ sig (Elt F) Λ₀ (.scVector ((L 0).castLE hcore0) ((L 1).castLE hsub0))) β) (Q : β → sProp 𝕄) :
    wp frame (wpE (defs₀ (F := F)) 𝒱₀ (VT d L) none) Set.univ (kk x) Q
      ⊢ wp frame (wpE (defs₀ (F := F)) 𝒱₀ (VT d L) none) Set.univ (Scf.Loop.for l ok x T >>= kk) Q :=
  Scf.wp_for0_bind' _ _ _ _ _ _ ok x T h kk Q _ BIBase.Entails.rfl

section

variable (d : Fin nD) (L : grid0.Coords) (arg2 : Memref sig .scVector .hbm S40908800 .f32)
  (buf : Memref sig .scVector .vmem S34816 .f32) (sem : DmaSems sig S_) (X : ℕ → F .f32)

/-- The feature words the source holds. -/
def FeatOK (FX : Buf (Elt F) (arg2.view.loc (VT d L))) : Prop :=
  ∀ y : S40908800.Idx, arg2.view.read (Elt F) FX y = X (y 0).val

/-- A chunk in its buffer, the source's share beside it. -/
def chunkIn (FX : Buf (Elt F) (arg2.view.loc (VT d L))) (q : PosShare TreeShare) (c : ℕ) : sProp 𝕄 :=
  iprop((∃ f : Buf (Elt F) (buf.view.loc (VT d L)), ⌜BufOK buf X c f⌝ ∗ (buf.view.loc (VT d L) ↦[buf.view.set]{fullShare} f))
    ∗ (arg2.view.loc (VT d L) ↦[arg2.view.set]{q} FX))

/-- A chunk on its way. -/
def chunkFl (FX : Buf (Elt F) (arg2.view.loc (VT d L))) (q : PosShare TreeShare) (c : ℕ) : sProp 𝕄 :=
  Transfers.Flight EC (VT d L) (.dma sem.sem) (none : HIx 1) (buf.view.amount (.dma sem.sem)) (chunkIn d L arg2 buf X FX q c)

/-- No chunk on its way. -/
def chunkNo (FX : Buf (Elt F) (arg2.view.loc (VT d L))) (q : PosShare TreeShare) : sProp 𝕄 :=
  iprop((∃ f : Buf (Elt F) (buf.view.loc (VT d L)), (buf.view.loc (VT d L) ↦[buf.view.set]{fullShare} f))
    ∗ (arg2.view.loc (VT d L) ↦[arg2.view.set]{q} FX) ∗ semVal (VT d L, .dma sem.sem) 0)

/-- What the thread owes, its waits so far among those allowed. -/
def owing (O : CellTallies nD τ sig (HIx 1)) (W : Waits sig (HIx 1)) : sProp 𝕄 :=
  iprop(Transfers.MayWaits (VT d L) (none : HIx 1) O ∗ ∃ W', ⌜∀ p ∈ W', p ∈ W ∨ p.2 = none⌝ ∗ owes (VT d L) O W')

variable {d L arg2 buf sem X}

/-- What a transfer leaves is the chunk. -/
theorem chunk_of {FX : Buf (Elt F) (arg2.view.loc (VT d L))} (hFX : FeatOK d L arg2 X FX) {q : PosShare TreeShare} (c : ℕ)
    (off : Fin 1 → ℕ) (inb) (hoff : off 0 = c * 128) (hsl) (f : Buf (Elt F) (buf.view.loc (VT d L))) :
    iprop(((buf.view.loc (VT d L) ↦[buf.view.set]{fullShare} buf.view.write (Elt F) f
          (ReadAs.same.apply (View.read (Elt F) (arg2.slice (Rect.unit (s := S40908800) off S34816.size inb) hsl).view FX)) Finset.univ)
        ∗ ((arg2.slice (Rect.unit (s := S40908800) off S34816.size inb) hsl).view.loc (VT d L)
            ↦[(arg2.slice (Rect.unit (s := S40908800) off S34816.size inb) hsl).view.set]{q} FX))
      ∗ (arg2.view.loc (VT d L) ↦[arg2.view.set \ (arg2.view.slice (Rect.unit (s := S40908800) off S34816.size inb)).set]{q} FX))
      ⊢ chunkIn d L arg2 buf X FX q c := by
  unfold chunkIn
  iintro ⟨⟨Hb, Hx⟩, Hr⟩
  isplitl [Hb]
  · iexists _
    isplitr
    swap
    · iexact Hb
    · ipureintro
      intro y
      refine (congrFun (View.read_write_univ _ _) y).trans ?_
      refine (hFX _).trans ?_
      show X (off 0 + 1 * (y 0).val) = _
      rw [hoff, Nat.one_mul]
  · iapply (pointsTo_split_subset (View.set_slice_subset arg2.view (Rect.unit (s := S40908800) off S34816.size inb))).2
    isplitl [Hx]
    · iexact Hx
    · iexact Hr

/-- Starting a chunk's transfer. -/
theorem wp_start {FX : Buf (Elt F) (arg2.view.loc (VT d L))} (hFX : FeatOK d L arg2 X FX) {q : PosShare TreeShare} (c : ℕ)
    (off : Fin 1 → ℕ) (inb) (hoff : off 0 = c * 128) (hsl) (hs) (hd : buf.view.WordExact) (ht)
    {β : Type} {kk : PUnit → Prog (TpuEff nD τ sig (Elt F) Λ₀ (.scVector ((L 0).castLE hcore0) ((L 1).castLE hsub0))) β} {Q : β → sProp 𝕄} :
    iprop(chunkNo d L arg2 buf sem FX q ∗ (chunkFl d L arg2 buf sem X FX q c -∗
        wp frame (wpE (defs₀ (F := F)) 𝒱₀ (VT d L) none) Set.univ (kk ⟨⟩) Q))
      ⊢ wp frame (wpE (defs₀ (F := F)) 𝒱₀ (VT d L) none) Set.univ
          (.op (.enqueueDma (arg2.slice (Rect.unit (s := S40908800) off S34816.size inb) hsl) (.here buf) (.dma sem.sem) hs hd ht) kk) Q := by
  unfold chunkNo
  iintro ⟨⟨⟨%f, Hb⟩, Hx, Hv⟩, HK⟩
  ihave Hx' := (pointsTo_split_subset (View.set_slice_subset arg2.view (Rect.unit (s := S40908800) off S34816.size inb))).1 $$ Hx
  icases Hx' with ⟨Hx, Hr⟩
  iapply (Transfers.wp_dmaLocal EC 𝒱₀ (VT d L) none (none : HIx 1) (buf.view.amount (.dma sem.sem)) rfl
    (View.amount_pos _ _ (show 0 < S34816.numel by decide)) subset_rfl) $$ [Hx Hb Hv]
  · isplitl [Hx]; · iexact Hx
    isplitl [Hb] <;> iassumption
  iintro Hf
  iapply HK
  unfold chunkFl
  ihave Hf' := flight_frame $$ [Hf Hr]
  · isplitl [Hf]
    · iexact Hf
    · iexact Hr
  iapply (Transfers.Flight_mono EC (VT d L) (chunk_of hFX c off inb hoff hsl f)) $$ Hf'

/-- A chunk's arrival. -/
theorem wp_land {FX : Buf (Elt F) (arg2.view.loc (VT d L))} {q : PosShare TreeShare} (c : ℕ)
    {O : CellTallies nD τ sig (HIx 1)} {W : Waits sig (HIx 1)}
    (src : Memref sig .scVector .hbm S34816 .f32) (hs) (hd : buf.view.WordExact)
    {β : Type} {kk : PUnit → Prog (TpuEff nD τ sig (Elt F) Λ₀ (.scVector ((L 0).castLE hcore0) ((L 1).castLE hsub0))) β} {Q : β → sProp 𝕄} :
    iprop(chunkFl d L arg2 buf sem X FX q c ∗ owing d L O W ∗ (chunkIn d L arg2 buf X FX q c -∗ semVal (VT d L, .dma sem.sem) 0 -∗ owing d L O W -∗
        wp frame (wpE (defs₀ (F := F)) 𝒱₀ (VT d L) none) Set.univ (kk ⟨⟩) Q))
      ⊢ wp frame (wpE (defs₀ (F := F)) 𝒱₀ (VT d L) none) Set.univ
          (.op (.waitDma2 sem.sem src buf hs hd) kk) Q := by
  unfold chunkFl owing
  iintro ⟨Hf, ⟨#Hmw, %W', %hW', HO⟩, HK⟩
  iapply (Transfers.wp_waitLocalO EC 𝒱₀ (VT d L) none (none : HIx 1) rfl) $$ [Hf HO]
  · isplitl [Hf]; · iexact Hf
    isplitl [HO]; · iexact HO
    iapply (Transfers.MayWaits.elim (.dma sem.sem)) $$ Hmw
  iintro ⟨HD, Hv, HO⟩
  iapply HK $$ HD Hv
  isplitr
  · iexact Hmw
  iexists (insert (.dma sem.sem, none) W')
  isplitr
  · ipureintro
    intro p hp
    rcases Finset.mem_insert.mp hp with hp | hp
    · exact .inr (by rw [hp])
    · exact hW' p hp
  · iexact HO

end

end Cert.Proof

end
-- ==== Proof.Find.lean ====
/-
  Which segments a tile takes: those whose first row lies in its share of the rows, found by counting.
-/
module

public import proofs.«01_k».proof.Proof.Dma

@[expose] public section

set_option maxRecDepth 100000

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore (S V T)
open Idealize.ShloMosaic.SparseCore.Cfg (HIx Pay tileRest ownBufs ownSems0 ownCells ownRefs mem_ownCells mem_ownRefs)

variable {F : FTy → Type} [FloatOps F]

local notation "𝕄" => MT nD τ sig (HIx 1) (Elt F) ℕ UU ℕ

/-- The segment found after looking at `k` of them: the first whose first row is `T` or later. -/
def seg (T : ℕ) : ℕ → ℕ
  | 0 => 0
  | k + 1 => if o (seg T k) < T then seg T k + 1 else seg T k

theorem seg_inv (T k : ℕ) : (∀ b, b < seg T k → o b < T) ∧ (seg T k = k ∨ T ≤ o (seg T k)) ∧ seg T k ≤ k := by
  induction k with
  | zero => exact ⟨fun b hb => absurd hb (Nat.not_lt_zero b), .inl rfl, le_rfl⟩
  | succ k ih =>
    obtain ⟨h1, h2, h3⟩ := ih
    by_cases h : o (seg T k) < T
    · rw [seg, if_pos h]
      refine ⟨fun b hb => ?_, ?_, by omega⟩
      · rcases Nat.lt_succ_iff_lt_or_eq.mp hb with hb | rfl
        · exact h1 b hb
        · exact h
      · rcases h2 with h2 | h2
        · exact .inl (by rw [h2])
        · omega
    · rw [seg, if_neg h]
      exact ⟨h1, .inr (by omega), by omega⟩

/-- Where the `n`-th share of the rows starts. -/
abbrev tcut (n : ℕ) : ℕ := n * 319600 / 32

/-- The first segment of the `n`-th tile. -/
def cut (n : ℕ) : ℕ := seg (tcut n) 800

theorem cut_le (n : ℕ) : cut n ≤ 800 := (seg_inv _ _).2.2

theorem cut_lt {n b : ℕ} (h : b < cut n) : o b < tcut n := (seg_inv _ _).1 b h

theorem le_cut {n : ℕ} (h : n ≤ 32) : tcut n ≤ o (cut n) := by
  rcases (seg_inv (tcut n) 800).2.1 with h1 | h1
  · show _ ≤ o (seg (tcut n) 800)
    rw [h1, o_800]
    simp only [tcut]; omega
  · exact h1

theorem cut_zero : cut 0 = 0 := by
  by_contra h
  have := cut_lt (n := 0) (b := 0) (by omega)
  simp [tcut] at this

theorem cut_last : cut 32 = 800 := by
  have h1 := cut_le 32
  by_contra h
  have h2 := le_cut (n := 32) le_rfl
  have h3 := o_mono (show cut 32 ≤ 799 by omega)
  have : o 799 = 318801 := by decide
  simp only [tcut] at h2
  omega

theorem cut_succ {n : ℕ} (h : n < 32) : cut n < cut (n + 1) := by
  by_contra hh
  have h1 := le_cut (n := n + 1) (by omega)
  have h0 := cut_le n
  rcases Nat.eq_zero_or_pos (cut n) with hz | hz
  · have : cut (n + 1) = 0 := by omega
    rw [this] at h1
    have : o 0 = 0 := rfl
    simp only [tcut] at h1
    omega
  · have h2 := cut_lt (n := n) (b := cut n - 1) (by omega)
    have h3 := o_succ (cut n - 1)
    rw [Nat.sub_add_cancel hz] at h3
    have h4 := o_mono (show cut (n + 1) ≤ cut n by omega)
    simp only [tcut] at h1 h2
    omega

theorem o_add (a m : ℕ) : o (a + m) = o a + a * m + o m := by
  induction m with
  | zero => simp [o]
  | succ m ih => rw [← Nat.add_assoc, o_succ, ih, o_succ, Nat.mul_succ]; omega

theorem cut_width {n : ℕ} (h : n < 32) : cut (n + 1) - cut n ≤ 152 := by
  by_contra hh
  have h1 := le_cut (n := n) (by omega)
  have h2 := cut_lt (n := n + 1) (b := cut n + 152) (by omega)
  have h3 := o_add (cut n) 152
  have : o 152 = 11476 := by decide
  simp only [tcut] at h1 h2
  omega

theorem cut_ge {n : ℕ} (h : n < 32) : 2 ≤ cut (n + 1) := by
  have h1 := le_cut (n := n + 1) (by omega)
  by_contra hh
  have h2 := o_mono (show cut (n + 1) ≤ 1 by omega)
  have : o 1 = 0 := by decide
  simp only [tcut] at h1
  omega

theorem cut_mono {a b : ℕ} (h : a ≤ b) (hb : b ≤ 32) : cut a ≤ cut b := by
  induction h with
  | refl => exact le_rfl
  | step hk ih => exact (ih (by omega)).trans (cut_succ (by omega)).le

theorem t1_trips : k0_t1_loop.trips = 800 := by
  unfold Scf.Loop.trips
  exact trips_W (a := 0) (b := 800) (by norm_num) (by norm_num)

/-- One step of the count, in the kernel's words. -/
theorem find_step {T k : ℕ} (hT : T ≤ 319600) (hk : k < 800) :
    Scalar.addi (W (seg T k)) (Scalar.extui (Scalar.cmpi .slt (W (o (seg T k))) (W T))) = W (seg T (k + 1))
      ∧ Scalar.addi (W (o (seg T k))) (Scalar.muli (Scalar.extui (Scalar.cmpi .slt (W (o (seg T k))) (W T))) (W (seg T k)))
          = W (o (seg T (k + 1))) := by
  have h1 := (seg_inv T k).2.2
  have h2 := o_le (show seg T k ≤ 800 by omega)
  rw [W_cmpi_slt (by omega) (by omega)]
  by_cases h : o (seg T k) < T
  · rw [if_pos h, show (Scalar.extui 1#1 : BitVec 32) = W 1 from rfl, W_addi, W_muli, W_addi, seg, if_pos h, o_succ, Nat.one_mul]
    exact ⟨rfl, rfl⟩
  · rw [if_neg h, show (Scalar.extui 0#1 : BitVec 32) = W 0 from rfl, W_addi, W_muli, W_addi, seg, if_neg h, Nat.zero_mul]
    exact ⟨rfl, rfl⟩

section

variable (d : Fin nD) (L : grid0.Coords)
  (arg2 : Memref sig .scVector .hbm S40908800 .f32) (harg2 : arg2.IsWhole) (arg3 : Memref sig .scVector .hbm S128 .f32) (harg3 : arg3.IsWhole) (arg4 : Memref sig .scVector .hbm S102400 .f32) (harg4 : arg4.IsWhole) (arg5 : Memref sig .scVector .vmem S34816 .f32) (harg5 : arg5.IsWhole) (arg6 : Memref sig .scVector .vmem S34816 .f32) (harg6 : arg6.IsWhole) (arg7 : Memref sig .scVector .vmem S128 .f32) (harg7 : arg7.IsWhole) (arg8 : Memref sig .scVector .vmem S19456 .f32) (harg8 : arg8.IsWhole) (arg9 : DmaSems sig S_) (arg10 : DmaSems sig S_) (arg11 : DmaSems sig S_) (v217_r0 : DmaSems sig S_)

/-- The loop that counts the segments. -/
theorem wp_find (n : ℕ) (hn : n < 32) (v35 v36 c v54 : BitVec 32) (h35 : v35 = W (tcut n)) (h54 : v54 = W (tcut (n + 1))) (ok)
    {β : Type} (kk : BitVec 32 × BitVec 32 × BitVec 32 × BitVec 32 → Prog (TpuEff nD τ sig (Elt F) Λ₀ (.scVector ((L 0).castLE hcore0) ((L 1).castLE hsub0))) β) (Q : β → sProp 𝕄) :
    wp frame (wpE (defs₀ (F := F)) 𝒱₀ (VT d L) none) Set.univ (kk (W (cut n), W (o (cut n)), W (cut (n + 1)), W (o (cut (n + 1))))) Q
      ⊢ wp frame (wpE (defs₀ (F := F)) 𝒱₀ (VT d L) none) Set.univ
          (Scf.Loop.for k0_t1_loop ok (0#32, 0#32, 0#32, 0#32) (k0_t1_body L arg2 harg2 arg3 harg3 arg4 harg4 arg5 harg5 arg6 harg6 arg7 harg7 arg8 harg8 arg9 arg10 arg11 v217_r0 v35 v36 c v54) >>= kk) Q := by
  subst h35 h54
  iintro HK
  sl_for (fun (k : ℕ) (x : BitVec 32 × BitVec 32 × BitVec 32 × BitVec 32) => (iprop(⌜x = (W (seg (tcut n) k), W (o (seg (tcut n) k)), W (seg (tcut (n + 1)) k), W (o (seg (tcut (n + 1)) k)))⌝) : sProp 𝕄)) $$ []
  case region =>
    intro t x
    have ht : t.val < 800 := lt_of_lt_of_eq t.isLt t1_trips
    iintro %hx
    subst hx
    obtain ⟨a1, a2⟩ := find_step (T := tcut n) (k := t.val) (by simp only [tcut]; omega) ht
    obtain ⟨b1, b2⟩ := find_step (T := tcut (n + 1)) (k := t.val) (by simp only [tcut]; omega) ht
    sl_exec
    sl_step
    ipureintro
    rw [← a1, ← a2, ← b1, ← b2]
    rfl
  · ipureintro
    have hs : ∀ T, seg T 0 = 0 := fun T => by rw [seg]
    simp only [hs]
    rfl
  iintro %y %hy
  rw [show Scf.trips k0_t1_loop.lb k0_t1_loop.ub k0_t1_loop.st = 800 from t1_trips] at hy
  subst hy
  iexact HK

end

end Cert.Proof

end
-- ==== Proof.Chk1.lean ====
/-
  The bounds that the kernel's copies, loads and loops need, from a tile's first row and the row after its last.
-/
module

public import proofs.«01_k».proof.Proof.Chain

@[expose] public section

set_option maxRecDepth 100000

noncomputable section

namespace Cert.Proof

open Cert.KernelIdeal Cert.KernelIdeal.Gen
open Idealize.ShloMosaic

theorem none_of_trips {n : ℕ} (h : n = 0) (t : Fin n) {P : Prop} : P := by
  subst h; exact t.elim0

theorem inb1 {n m k : ℕ} {off : Fin 1 → ℕ} {sz tot : Fin 1 → ℕ} (h : off 0 = n) (hs : sz 0 = m) (ht : tot 0 = k)
    (hle : n + m ≤ k) (a : Fin 1) : off a + sz a ≤ tot a := by
  have : a = 0 := Subsingleton.elim a 0
  subst this
  rw [h, hs, ht]; exact hle

variable {R R' : ℕ} (hR : R ≤ R') (hR' : R' ≤ 319600)
include hR hR'

theorem chk1 : k0_chk1 (W R') (W R) := by
  have h11 := t11_trips hR hR'
  have e4 := t4_trips hR hR'
  have e6 := t6_trips hR hR'
  have e8 := t8_trips hR hR'
  have e10 := t10_trips hR hR'
  refine ⟨⟨fun h1 => inb1 (m := 34816) (k := 40908800) (off1_eq hR' (by omega)) rfl rfl (by simp only [cb]; omega), fun h2 => inb1 (m := 34816) (k := 40908800) (off2_eq hR' (by omega)) rfl rfl (by simp only [cb]; omega), t2_ok hR hR', t3_ok hR hR',
    fun t2 t3 i j => inb1 (m := 16) (k := 34816) (off3_eq hR hR' t2 t3 i j) rfl rfl ?_, t4_ok hR hR', fun t2 t => none_of_trips (e4 t2) t,
    t5_ok hR hR', fun t2 t j => inb1 (m := 16) (k := 34816) (off18_eq hR hR' t2 t j) rfl rfl ?_, t6_ok hR hR', fun t2 t => none_of_trips (e6 t2) t,
    fun t2 h => inb1 (m := 34816) (k := 40908800) (off21_eq hR hR' t2 ((cond17_iff hR hR' t2).mp h)) rfl rfl (by simp only [cb]; omega),
    t7_ok hR hR', fun t2 t i j => inb1 (m := 16) (k := 34816) (off22_eq hR hR' t2 t i j) rfl rfl ?_, t8_ok hR hR', fun t2 t => none_of_trips (e8 t2) t,
    t9_ok hR hR', fun t2 t j => inb1 (m := 16) (k := 34816) (off37_eq hR hR' t2 t j) rfl rfl ?_, t10_ok hR hR', fun t2 t => none_of_trips (e10 t2) t,
    fun t2 h => inb1 (m := 34816) (k := 40908800) (off40_eq hR hR' t2 ((cond33_iff hR hR' t2).mp h)) rfl rfl (by simp only [cb]; omega),
    t11_ok hR hR', fun t => none_of_trips h11 t, fun t => none_of_trips h11 t, fun t => none_of_trips h11 t,
    fun t => none_of_trips h11 t, fun t => none_of_trips h11 t, fun t => none_of_trips h11 t, fun t => none_of_trips h11 t,
    fun t => none_of_trips h11 t, fun t => none_of_trips h11 t, fun t => none_of_trips h11 t⟩,
    fun t => none_of_trips h11 t, fun t => none_of_trips h11 t, fun t => none_of_trips h11 t, fun t => none_of_trips h11 t,
    fun t => none_of_trips h11 t, fun t => none_of_trips h11 t, fun t => none_of_trips h11 t, fun t => none_of_trips h11 t⟩
  · have h3 := lt_of_lt_of_eq t3.isLt (t3_trips hR hR' t2)
    have := i.isLt; have := j.isLt
    simp only [sp, B0, B1, cb] at *
    omega
  · have h3 := lt_of_lt_of_eq t.isLt (t5_trips hR hR' t2)
    have := j.isLt
    simp only [sp, B0, B1, cb] at *
    omega
  · have h3 := lt_of_lt_of_eq t.isLt (t7_trips hR hR' t2)
    have := i.isLt; have := j.isLt
    simp only [sp, B0, B1, cb] at *
    omega
  · have h3 := lt_of_lt_of_eq t.isLt (t9_trips hR hR' t2)
    have := j.isLt
    simp only [sp, B0, B1, cb] at *
    omega

end Cert.Proof

end
-- ==== Proof.OutW.lean ====
/-
  The copies of the finished rows: how many, from where and to where.
-/
module

public import proofs.«01_k».proof.Proof.Chk1
public import proofs.«01_k».proof.Proof.Dma

@[expose] public section

set_option maxRecDepth 100000

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore (S V T)
open Idealize.ShloMosaic.SparseCore.Cfg (HIx Pay tileRest ownBufs ownSems0 ownCells ownRefs mem_ownCells mem_ownRefs)

variable {F : FTy → Type} [FloatOps F]

local notation "𝕄" => MT nD τ sig (HIx 1) (Elt F) ℕ UU ℕ

/-- Row `n` of the output buffer lies in the buffer. -/
theorem ob8 {n : ℕ} {off : Fin 1 → ℕ} (h : off 0 = n * 128) (hle : n < 152) (a : Fin 1) : off a + S128.size a ≤ S19456.size a :=
  inb1 (m := 128) (k := 19456) h rfl rfl (by omega) a

/-- Row `n` of the result lies in the result. -/
theorem obr {n : ℕ} {off : Fin 1 → ℕ} (h : off 0 = n * 128) (hle : n < 800) (a : Fin 1) : off a + S128.size a ≤ S102400.size a :=
  inb1 (m := 128) (k := 102400) h rfl rfl (by omega) a

variable {sb se : ℕ} (h1 : sb < se) (h2 : se ≤ 800) (h3 : se - sb ≤ 152)
include h1 h2 h3

theorem t20_trips : (k0_t20_loop (W sb) (W se)).trips = (se - sb + 7) / 8 := by
  unfold Scf.Loop.trips k0_t20_loop
  simp (disch := omega) only [W_addi, W_muli, W_subi, W_minsi, W_clamp, W_max0, W_fdiv, iv_W, W_div1, Nat.mul_one, Nat.sub_zero, Nat.zero_add, trips_W]

theorem t20_okW : (k0_t20_loop (W sb) (W se)).OK := by
  unfold Scf.Loop.OK k0_t20_loop
  simp (disch := omega) only [W_addi, W_muli, W_subi, W_minsi, W_clamp, W_max0, W_fdiv, iv_W, W_div1, Nat.mul_one, Nat.sub_zero, Nat.zero_add]
  apply ok_W <;> omega

theorem t21_trips : (k0_t21_loop (W sb) (W se)).trips = 0 := by
  unfold Scf.Loop.trips k0_t21_loop
  simp (disch := omega) only [W_addi, W_muli, W_subi, W_minsi, W_clamp, W_max0, W_fdiv, iv_W, W_div1, Nat.mul_one, Nat.sub_zero, Nat.zero_add, trips_W]
  omega

theorem t21_okW : (k0_t21_loop (W sb) (W se)).OK := by
  unfold Scf.Loop.OK k0_t21_loop
  simp (disch := omega) only [W_addi, W_muli, W_subi, W_minsi, W_clamp, W_max0, W_fdiv, iv_W, W_div1, Nat.mul_one, Nat.sub_zero, Nat.zero_add]
  apply ok_W <;> omega

variable (t : Fin (k0_t20_loop (W sb) (W se)).trips)

theorem t20_lt : t.val < (se - sb + 7) / 8 := lt_of_lt_of_eq t.isLt (t20_trips h1 h2 h3)

/-- Whether row `j` of block `t` is one of the tile's rows. -/
theorem out_cond (j : ℕ) (hj : j < 8) :
    Scalar.cmpi .ne (Scalar.extui (Scalar.cmpi .slt (Scalar.addi (Scalar.muli (Scf.iv 0#32 1#32 t) 8#32) (W j)) (Scalar.subi (W se) (W sb))) : BitVec 32) 0#32 = 1#1
      ↔ 8 * t.val + j < se - sb := by
  have ht := t20_lt h1 h2 h3 t
  simp (disch := omega) only [W_addi, W_muli, W_subi, iv_W, Nat.zero_add, ext_ne]
  refine lt_iff ?_ ?_ ?_ <;> omega

/-- Where row `j` of block `t` starts in the output buffer. -/
theorem out_src (j : ℕ) (hj : j < 8) :
    (![(Scalar.muli (Scalar.addi (Scalar.muli (Scf.iv 0#32 1#32 t) 8#32) (W j)) 128#32).toNat] : Fin 1 → ℕ) 0 = (8 * t.val + j) * 128 := by
  have ht := t20_lt h1 h2 h3 t
  simp (disch := omega) only [W_addi, W_muli, W_subi, iv_W, Nat.zero_add]
  refine off_eq ?_ ?_ <;> omega

/-- Where row `j` of block `t` starts in the result. -/
theorem out_dst (j : ℕ) (hj : j < 8) :
    (![(Scalar.muli (Scalar.addi (W sb) (Scalar.addi (Scalar.muli (Scf.iv 0#32 1#32 t) 8#32) (W j))) 128#32).toNat] : Fin 1 → ℕ) 0
      = (sb + (8 * t.val + j)) * 128 := by
  have ht := t20_lt h1 h2 h3 t
  simp (disch := omega) only [W_addi, W_muli, W_subi, iv_W, Nat.zero_add]
  refine off_eq ?_ ?_ <;> omega

omit t in
theorem out_wait : (![(Scalar.muli (W sb) 128#32).toNat] : Fin 1 → ℕ) 0 = sb * 128 := by
  simp (disch := omega) only [W_muli]
  refine off_eq ?_ ?_ <;> omega

omit t in
theorem chk59 : k0_chk59 (W sb) (W se) := by
  have hz := t21_trips h1 h2 h3
  have hw : ∀ a, (![(Scalar.muli (W sb) 128#32).toNat] : Fin 1 → ℕ) a + S128.size a ≤ S102400.size a :=
    obr (out_wait h1 h2 h3) (by omega)
  refine ⟨⟨t20_okW h1 h2 h3,
    fun t hc => ob8 (out_src h1 h2 h3 t 0 (by omega)) (by have := (out_cond h1 h2 h3 t 0 (by omega)).mp hc; omega),
    fun t hc => obr (out_dst h1 h2 h3 t 0 (by omega)) (by have := (out_cond h1 h2 h3 t 0 (by omega)).mp hc; omega),
    fun t hc => ob8 (out_src h1 h2 h3 t 1 (by omega)) (by have := (out_cond h1 h2 h3 t 1 (by omega)).mp hc; omega),
    fun t hc => obr (out_dst h1 h2 h3 t 1 (by omega)) (by have := (out_cond h1 h2 h3 t 1 (by omega)).mp hc; omega),
    fun t hc => ob8 (out_src h1 h2 h3 t 2 (by omega)) (by have := (out_cond h1 h2 h3 t 2 (by omega)).mp hc; omega),
    fun t hc => obr (out_dst h1 h2 h3 t 2 (by omega)) (by have := (out_cond h1 h2 h3 t 2 (by omega)).mp hc; omega),
    fun t hc => ob8 (out_src h1 h2 h3 t 3 (by omega)) (by have := (out_cond h1 h2 h3 t 3 (by omega)).mp hc; omega),
    fun t hc => obr (out_dst h1 h2 h3 t 3 (by omega)) (by have := (out_cond h1 h2 h3 t 3 (by omega)).mp hc; omega),
    fun t hc => ob8 (out_src h1 h2 h3 t 4 (by omega)) (by have := (out_cond h1 h2 h3 t 4 (by omega)).mp hc; omega),
    fun t hc => obr (out_dst h1 h2 h3 t 4 (by omega)) (by have := (out_cond h1 h2 h3 t 4 (by omega)).mp hc; omega),
    fun t hc => ob8 (out_src h1 h2 h3 t 5 (by omega)) (by have := (out_cond h1 h2 h3 t 5 (by omega)).mp hc; omega),
    fun t hc => obr (out_dst h1 h2 h3 t 5 (by omega)) (by have := (out_cond h1 h2 h3 t 5 (by omega)).mp hc; omega),
    fun t hc => ob8 (out_src h1 h2 h3 t 6 (by omega)) (by have := (out_cond h1 h2 h3 t 6 (by omega)).mp hc; omega),
    fun t hc => obr (out_dst h1 h2 h3 t 6 (by omega)) (by have := (out_cond h1 h2 h3 t 6 (by omega)).mp hc; omega),
    fun t hc => ob8 (out_src h1 h2 h3 t 7 (by omega)) (by have := (out_cond h1 h2 h3 t 7 (by omega)).mp hc; omega),
    fun t hc => obr (out_dst h1 h2 h3 t 7 (by omega)) (by have := (out_cond h1 h2 h3 t 7 (by omega)).mp hc; omega),
    fun _ _ => hw, fun _ _ => hw, fun _ _ => hw, fun _ _ => hw, fun _ _ => hw, fun _ _ => hw, fun _ _ => hw, fun _ _ => hw,
    t21_okW h1 h2 h3, ?_⟩, ?_⟩
  · refine ⟨?_, ?_, ?_, ?_, ?_, ?_⟩ <;> exact fun t => none_of_trips hz t
  · refine ⟨?_, ?_, ?_, ?_, ?_, ?_, ?_, ?_, ?_, ?_, ?_, ?_, ?_, ?_, ?_, ?_, ?_, ?_⟩ <;> exact fun t => none_of_trips hz t

end Cert.Proof

end
-- ==== Proof.Grp.lean ====
/-
  The rows of a chunk in groups of six.
-/
module

public import proofs.«01_k».proof.Proof.Inv
public import proofs.«01_k».proof.Proof.Chain

@[expose] public section

set_option maxRecDepth 100000

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore (S V T)
open Idealize.ShloMosaic.SparseCore.Cfg (HIx Pay tileRest ownBufs ownSems0 ownCells ownRefs mem_ownCells mem_ownRefs)

variable {F : FTy → Type} [FloatOps F]

local notation "𝕄" => MT nD τ sig (HIx 1) (Elt F) ℕ UU ℕ

section

variable (d : Fin nD) (L : grid0.Coords)
  (arg2 : Memref sig .scVector .hbm S40908800 .f32) (harg2 : arg2.IsWhole) (arg3 : Memref sig .scVector .hbm S128 .f32) (harg3 : arg3.IsWhole) (arg4 : Memref sig .scVector .hbm S102400 .f32) (harg4 : arg4.IsWhole) (arg5 : Memref sig .scVector .vmem S34816 .f32) (harg5 : arg5.IsWhole) (arg6 : Memref sig .scVector .vmem S34816 .f32) (harg6 : arg6.IsWhole) (arg7 : Memref sig .scVector .vmem S128 .f32) (harg7 : arg7.IsWhole) (arg8 : Memref sig .scVector .vmem S19456 .f32) (harg8 : arg8.IsWhole) (arg9 : DmaSems sig S_) (arg10 : DmaSems sig S_) (arg11 : DmaSems sig S_) (v217_r0 : DmaSems sig S_)
  (v3 v5 v7 v9 v11 v13 v15 v17 : FVec F S16 .f32) (v82 v86 v90 v94 : IVec S16 1) (X : ℕ → F .f32)
  {sb se R R' : ℕ} (hR : R ≤ R') (hRe : R' = o se) (hse : se ≤ 800) (hw : se - sb ≤ 152)
  (k0_hw1 : k0_chk1 (W R') (W R)) (t2 : Fin (k0_t2_loop (W R') (W R)).trips)

/-- What a group of six rows hands on: five blocks of its last row, that row's weight, and the state before it, its
first three sums already taken further. -/
abbrev GrpOut (F : FTy → Type) : Type :=
  (Σ' (_ _ _ _ _ _ _ _ _ _ _ _ : FVec F S16 .f32) (_ _ : BitVec 32) (_ _ : FVec F S16 .f32), FVec F S16 .f32)

set_option maxHeartbeats 4000000 in
include hR hRe hse hw in
/-- The six rows of a group in the first buffer, once their weights are there: each finishes a segment when one
ends before it, then is added. -/
theorem wp_rows0 (k : Fin (k0_t3_loop (W R') (W R) t2).trips) (fv : Fin 6 → Fin 8 → FVec F S16 .f32)
    (hf : ∀ i j, fv i j = rowv X (B0 R t2 + 6 * k.val + i.val) j) (e0 e1 e2 e3 e4 p q : FVec F S16 .f32)
    (x0 : St F) (f8 : Buf (Elt F) (arg8.view.loc (VT d L)))
    (hI0 : RowInv arg8 ![v82, v86, v90, v94] ![v3, v5, v7, v9, v11, v13, v15, v17] X sb (B0 R t2 + 6 * k.val) x0 f8) (v316 : BitVec 32)
    (hchk0 : k0_chk2 (W R') (W R) (W sb) t2 k (Scur x0) (Snxt x0))
    (Q : GrpOut F → sProp 𝕄)
    (P : Prog (TpuEff nD τ sig (Elt F) Λ₀ (.scVector ((L 0).castLE hcore0) ((L 1).castLE hsub0))) (GrpOut F)) :
    (iprop(⌜P = do
      let ⟨e5, cur0, nxt0, w0, b0, b1, b2, b3, b4, b5, b6, b7, b8⟩ ← k0_part18 L arg2 harg2 arg3 harg3 arg4 harg4 arg5 harg5 arg6 harg6 arg7 harg7 arg8 harg8 arg9 arg10 arg11 v217_r0 (W sb) (W R) (W R') zv v86 v90 v94 t2 k x0.1 x0.2.1 x0.2.2.1 x0.2.2.2.1 x0.2.2.2.2.1 x0.2.2.2.2.2.1 x0.2.2.2.2.2.2.1 x0.2.2.2.2.2.2.2.1 x0.2.2.2.2.2.2.2.2.1 x0.2.2.2.2.2.2.2.2.2.1 x0.2.2.2.2.2.2.2.2.2.2 hchk0 v316 (fv 0 0) (fv 0 1) (fv 0 2) (fv 0 3) (fv 0 4) (fv 0 5) (fv 0 6) (fv 0 7) e0 p q
      let ⟨c4, c5, c6, c7, c8, cur3, nxt3, w3, d0, d1, d2, d3⟩ ← k0_part19 L arg2 harg2 arg3 harg3 arg4 harg4 arg5 harg5 arg6 harg6 arg7 harg7 arg8 harg8 arg9 arg10 arg11 v217_r0 (W sb) (W R) (W R') zv t2 k v316 (fv 1 0) (fv 1 1) (fv 1 2) (fv 1 3) (fv 1 4) (fv 1 5) (fv 1 6) (fv 1 7) e1 (fv 2 0) (fv 2 1) (fv 2 2) (fv 2 3) (fv 2 4) (fv 2 5) (fv 2 6) (fv 2 7) e2 (fv 3 0) (fv 3 1) (fv 3 2) (fv 3 3) e3 cur0 nxt0 w0 b0 b1 b2 b3 b4 b5 b6 b7 b8
      let ⟨m0, m1, m2, m3, m4, m5, m6, m7, m8, cur4, nxt4⟩ ← if h : k0_cond7 (W R') (W R) t2 k nxt3 = 1#1 then
        cfinT L arg8 (fun c => k0_off8 (W sb) cur3 c) (k0_cond7 (W R') (W R) t2 k nxt3) (fun h => w3 h) zv (d0, d1, d2, d3, addf c4 (mulf e3 (fv 3 4)), addf c5 (mulf e3 (fv 3 5)), addf c6 (mulf e3 (fv 3 6)), addf c7 (mulf e3 (fv 3 7)), addf c8 e3, cur3, nxt3) h
        else pure (d0, d1, d2, d3, addf c4 (mulf e3 (fv 3 4)), addf c5 (mulf e3 (fv 3 5)), addf c6 (mulf e3 (fv 3 6)), addf c7 (mulf e3 (fv 3 7)), addf c8 e3, cur3, nxt3)
      let hw4 : k0_chk7 (W R') (W R) (W sb) t2 k nxt4 cur4 := (← Prog.lift (TpuEff.assume (k0_chk7 (W R') (W R) (W sb) t2 k nxt4 cur4) (k0_chk7.dec (W R') (W R) (W sb) t2 k nxt4 cur4))).down
      let ⟨n0, n1, n2, n3, n4, n5, n6, n7, n8, cur5, nxt5⟩ ← if h : k0_cond8 (W R') (W R) t2 k nxt4 = 1#1 then
        cfinT L arg8 (fun c => k0_off9 (W sb) cur4 c) (k0_cond8 (W R') (W R) t2 k nxt4) (fun h => hw4 h) zv (addf m0 (mulf e4 (fv 4 0)), addf m1 (mulf e4 (fv 4 1)), addf m2 (mulf e4 (fv 4 2)), addf m3 (mulf e4 (fv 4 3)), addf m4 (mulf e4 (fv 4 4)), addf m5 (mulf e4 (fv 4 5)), addf m6 (mulf e4 (fv 4 6)), addf m7 (mulf e4 (fv 4 7)), addf m8 e4, cur4, nxt4) h
        else pure (addf m0 (mulf e4 (fv 4 0)), addf m1 (mulf e4 (fv 4 1)), addf m2 (mulf e4 (fv 4 2)), addf m3 (mulf e4 (fv 4 3)), addf m4 (mulf e4 (fv 4 4)), addf m5 (mulf e4 (fv 4 5)), addf m6 (mulf e4 (fv 4 6)), addf m7 (mulf e4 (fv 4 7)), addf m8 e4, cur4, nxt4)
      pure ⟨fv 5 3, fv 5 4, fv 5 5, fv 5 6, fv 5 7, e5, n3, n4, n5, n6, n7, n8, cur5, nxt5, addf n0 (mulf e5 (fv 5 0)), addf n1 (mulf e5 (fv 5 1)), addf n2 (mulf e5 (fv 5 2))⟩⌝
        ∗ ⌜e0 = expw ![v82, v86, v90, v94] ![v3, v5, v7, v9, v11, v13, v15, v17] (fv 0) ∧ e1 = expw ![v82, v86, v90, v94] ![v3, v5, v7, v9, v11, v13, v15, v17] (fv 1) ∧ e2 = expw ![v82, v86, v90, v94] ![v3, v5, v7, v9, v11, v13, v15, v17] (fv 2) ∧ e3 = expw ![v82, v86, v90, v94] ![v3, v5, v7, v9, v11, v13, v15, v17] (fv 3)
        ∧ e4 = expw ![v82, v86, v90, v94] ![v3, v5, v7, v9, v11, v13, v15, v17] (fv 4) ∧ k0_pay108 v86 v90 v94 p q = expw ![v82, v86, v90, v94] ![v3, v5, v7, v9, v11, v13, v15, v17] (fv 5)⌝
        ∗ (arg8.view.loc (VT d L) ↦[arg8.view.set]{fullShare} f8)
        ∗ (∀ y : St F, ∀ g8 : Buf (Elt F) (arg8.view.loc (VT d L)), ∀ e5 : FVec F S16 .f32, ⌜e5 = expw ![v82, v86, v90, v94] ![v3, v5, v7, v9, v11, v13, v15, v17] (fv 5)⌝ -∗ ⌜RowMid arg8 ![v82, v86, v90, v94] ![v3, v5, v7, v9, v11, v13, v15, v17] X sb (B0 R t2 + 6 * k.val + 5) y g8⌝ -∗
            (arg8.view.loc (VT d L) ↦[arg8.view.set]{fullShare} g8) -∗
            Q ⟨fv 5 3, fv 5 4, fv 5 5, fv 5 6, fv 5 7, e5, y.2.2.2.1, y.2.2.2.2.1, y.2.2.2.2.2.1, y.2.2.2.2.2.2.1, y.2.2.2.2.2.2.2.1, y.2.2.2.2.2.2.2.2.1, y.2.2.2.2.2.2.2.2.2.1, y.2.2.2.2.2.2.2.2.2.2, addf y.1 (mulf e5 (fv 5 0)), addf y.2.1 (mulf e5 (fv 5 1)), addf y.2.2.1 (mulf e5 (fv 5 2))⟩))
      ⊢ wp frame (wpE (defs₀ (F := F)) 𝒱₀ (VT d L) none) Set.univ P Q) := by
  have hR' : R' ≤ 319600 := hRe ▸ o_le hse
  have h2' := t2_lt hR hR' t2
  have hk := lt_of_lt_of_eq k.isLt (t3_trips hR hR' t2)
  have hr : B0 R t2 + 6 * k.val + 5 < o se := by
    rw [← hRe]; simp only [nch, sp, B0, B1, cb] at *; omega
  iintro ⟨%hP, %hE, H8, HK⟩
  subst hP
  obtain ⟨h0, h1, h2, h3, h4, h5⟩ := hE
  sl_exec
  iapply (wp_row d L arg8 _ _ X sb (fun c => k0_off4 (W sb) (Scur x0) c) _ (fun h => hchk0 h) _ (by omega) x0 _
    _ _ _ _ rfl rfl (cond3_iff hR hR' t2 k _) rfl hI0)
  isplitl [H8]
  · iexact H8
  iintro %y1 %g1 %hM0 H8
  have hchk1 : k0_chk3 (W R') (W R) (W sb) t2 k (Snxt y1) (Scur y1) := fun _ => hM0.inb _ _ _ _ _ (by omega) hse hw
  sl_exec
  iapply (wp_row' d L arg8 ![v82, v86, v90, v94] ![v3, v5, v7, v9, v11, v13, v15, v17] X sb (fun c => k0_off5 (W sb) (Scur y1) c) _ (fun h => hchk1 h) (B0 R t2 + 6 * k.val + 1) (by omega)
    (Snxt y1) (Scur y1) (cond4_iff hR hR' t2 k _) rfl)
  isplitr
  · ipureintro
    refine ⟨⟨RowMid.step2 arg8 _ _ X sb (fv 0) (hf 0) hM0 h0 rfl rfl rfl rfl rfl rfl rfl rfl, rfl, rfl⟩, ?_⟩
    rfl
  isplitl [H8]
  · iexact H8
  iintro %y2 %g2 %hM1 H8
  have hchk2 : k0_chk4 (W R') (W R) (W sb) t2 k (Snxt y2) (Scur y2) := fun _ => hM1.inb _ _ _ _ _ (by omega) hse hw
  sl_exec
  iapply (wp_row' d L arg8 ![v82, v86, v90, v94] ![v3, v5, v7, v9, v11, v13, v15, v17] X sb (fun c => k0_off6 (W sb) (Scur y2) c) _ (fun h => hchk2 h) (B0 R t2 + 6 * k.val + 2) (by omega)
    (Snxt y2) (Scur y2) (cond5_iff hR hR' t2 k _) rfl)
  isplitr
  · ipureintro
    refine ⟨⟨RowMid.step2 arg8 _ _ X sb (fv 1) (hf 1) hM1 h1 rfl rfl rfl rfl rfl rfl rfl rfl, rfl, rfl⟩, ?_⟩
    rfl
  isplitl [H8]
  · iexact H8
  iintro %y3 %g3 %hM2 H8
  have hchk3 : k0_chk5 (W R') (W R) (W sb) t2 k (Snxt y3) (Scur y3) := fun _ => hM2.inb _ _ _ _ _ (by omega) hse hw
  sl_exec
  iapply (wp_row' d L arg8 ![v82, v86, v90, v94] ![v3, v5, v7, v9, v11, v13, v15, v17] X sb (fun c => k0_off7 (W sb) (Scur y3) c) _ (fun h => hchk3 h) (B0 R t2 + 6 * k.val + 3) (by omega)
    (Snxt y3) (Scur y3) (cond6_iff hR hR' t2 k _) rfl)
  isplitr
  · ipureintro
    refine ⟨⟨RowMid.step2 arg8 _ _ X sb (fv 2) (hf 2) hM2 h2 rfl rfl rfl rfl rfl rfl rfl rfl, rfl, rfl⟩, ?_⟩
    rfl
  isplitl [H8]
  · iexact H8
  iintro %y4 %g4 %hM3 H8
  have hchk4 : k0_chk6 (W R') (W R) (W sb) t2 k (Snxt y4) (Scur y4) := fun _ => hM3.inb _ _ _ _ _ (by omega) hse hw
  sl_exec
  iapply (wp_row' d L arg8 ![v82, v86, v90, v94] ![v3, v5, v7, v9, v11, v13, v15, v17] X sb (fun c => k0_off8 (W sb) (Scur y4) c) _ (fun h => hchk4 h) (B0 R t2 + 6 * k.val + 4) (by omega)
    (Snxt y4) (Scur y4) (cond7_iff hR hR' t2 k _) rfl)
  isplitr
  · ipureintro
    refine ⟨⟨RowMid.step2 arg8 _ _ X sb (fv 3) (hf 3) hM3 h3 rfl rfl rfl rfl rfl rfl rfl rfl, rfl, rfl⟩, ?_⟩
    rfl
  isplitl [H8]
  · iexact H8
  iintro %y5 %g5 %hM4 H8
  have hchk5 : k0_chk7 (W R') (W R) (W sb) t2 k (Snxt y5) (Scur y5) := fun _ => hM4.inb _ _ _ _ _ (by omega) hse hw
  sl_exec
  iapply (wp_row' d L arg8 ![v82, v86, v90, v94] ![v3, v5, v7, v9, v11, v13, v15, v17] X sb (fun c => k0_off9 (W sb) (Scur y5) c) _ (fun h => hchk5 h) (B0 R t2 + 6 * k.val + 5) (by omega)
    (Snxt y5) (Scur y5) (cond8_iff hR hR' t2 k _) rfl)
  isplitr
  · ipureintro
    refine ⟨⟨RowMid.step2 arg8 _ _ X sb (fv 4) (hf 4) hM4 h4 rfl rfl rfl rfl rfl rfl rfl rfl, rfl, rfl⟩, ?_⟩
    rfl
  isplitl [H8]
  · iexact H8
  iintro %y6 %g6 %hM5 H8
  sl_exec
  sl_step
  iapply HK $$ %y6 %g6 %(k0_pay108 v86 v90 v94 p q) %h5 %hM5 H8

/-- What the groups' loop keeps: the chunk, and the sum before its next group. -/
def invGrp0 (f5 : Buf (Elt F) (arg5.view.loc (VT d L))) (r : ℕ) (k : ℕ) (st : St F) : sProp 𝕄 :=
  iprop((arg5.view.loc (VT d L) ↦[arg5.view.set]{fullShare} f5)
    ∗ ∃ f8 : Buf (Elt F) (arg8.view.loc (VT d L)),
      ⌜RowInv arg8 ![v82, v86, v90, v94] ![v3, v5, v7, v9, v11, v13, v15, v17] X sb (r + 6 * k) st f8⌝
      ∗ (arg8.view.loc (VT d L) ↦[arg8.view.set]{fullShare} f8))

set_option maxHeartbeats 4000000 in
include hR hRe hse hw in
/-- The loop over the groups of a chunk in the first buffer. -/
theorem wp_grp0 (v223 v224 c0_i32_90 c1_i32_92 : BitVec 32)
    (f5 : Buf (Elt F) (arg5.view.loc (VT d L))) (hf5 : BufOK arg5 X (cb (B0 R t2)) f5)
    (f8 : Buf (Elt F) (arg8.view.loc (VT d L))) (x : St F)
    (hx : RowInv arg8 ![v82, v86, v90, v94] ![v3, v5, v7, v9, v11, v13, v15, v17] X sb (B0 R t2) x f8)
    {β : Type} (kk : St F → Prog (TpuEff nD τ sig (Elt F) Λ₀ (.scVector ((L 0).castLE hcore0) ((L 1).castLE hsub0))) β)
    (Q : β → sProp 𝕄) (ok)
    (T : Fin (k0_t3_loop (W R') (W R) t2).trips → St F → Prog (TpuEff nD τ sig (Elt F) Λ₀ (.scVector ((L 0).castLE hcore0) ((L 1).castLE hsub0))) (St F))
    (hT : T = fun k0_t3 st => do
       let ⟨f3, f4, f5, f6, f7, e, a3, a4, a5, a6, a7, den, cur, nxt, b0, b1, b2⟩ ← k0_part20 L arg2 harg2 arg3 harg3 arg4 harg4 arg5 harg5 arg6 harg6 arg7 harg7 arg8 harg8 arg9 arg10 arg11 v217_r0 v3 v5 v7 v9 v11 v13 v15 v17 (W sb) (W R) (W R') k0_hw1 zv v82 v86 v90 v94 t2 v223 v224 c0_i32_90 c1_i32_92 k0_t3 st.1 st.2.1 st.2.2.1 st.2.2.2.1 st.2.2.2.2.1 st.2.2.2.2.2.1 st.2.2.2.2.2.2.1 st.2.2.2.2.2.2.2.1 st.2.2.2.2.2.2.2.2.1 st.2.2.2.2.2.2.2.2.2.1 st.2.2.2.2.2.2.2.2.2.2
       pure (b0, b1, b2, addf a3 (mulf e f3), addf a4 (mulf e f4), addf a5 (mulf e f5), addf a6 (mulf e f6), addf a7 (mulf e f7), addf den e, cur, nxt)) :
    (iprop((arg5.view.loc (VT d L) ↦[arg5.view.set]{fullShare} f5) ∗ (arg8.view.loc (VT d L) ↦[arg8.view.set]{fullShare} f8)
        ∗ (∀ y : St F, ∀ g8 : Buf (Elt F) (arg8.view.loc (VT d L)),
            ⌜RowInv arg8 ![v82, v86, v90, v94] ![v3, v5, v7, v9, v11, v13, v15, v17] X sb (B0 R t2 + sp R' (B0 R t2) / 6 * 6) y g8⌝ -∗
            (arg5.view.loc (VT d L) ↦[arg5.view.set]{fullShare} f5) -∗ (arg8.view.loc (VT d L) ↦[arg8.view.set]{fullShare} g8) -∗
            wp frame (wpE (defs₀ (F := F)) 𝒱₀ (VT d L) none) Set.univ (kk y) Q))
      ⊢ wp frame (wpE (defs₀ (F := F)) 𝒱₀ (VT d L) none) Set.univ (Scf.Loop.for (k0_t3_loop (W R') (W R) t2) ok x T >>= kk) Q) := by
  subst hT
  have hR' : R' ≤ 319600 := hRe ▸ o_le hse
  have h2 := t2_lt hR hR' t2
  iintro ⟨H5, H8, HK⟩
  sl_for (invGrp0 d L arg5 arg8 v3 v5 v7 v9 v11 v13 v15 v17 v82 v86 v90 v94 X (sb := sb) f5 (B0 R t2)) $$ [H5 H8]
  case region =>
    intro k st
    have hk := lt_of_lt_of_eq k.isLt (t3_trips hR hR' t2)
    unfold invGrp0
    iintro ⟨H5, %g0, %hI0, H8⟩
    have hr : B0 R t2 + 6 * k.val + 5 < o se := by
      rw [← hRe]; simp only [nch, sp, B0, B1, cb] at *; omega
    have hb : cb (B0 R t2) ≤ B0 R t2 + 6 * k.val := by
      simp only [nch, sp, B0, B1, cb] at *; omega
    have hchk : k0_chk2 (W R') (W R) (W sb) t2 k (Scur st) (Snxt st) := fun _ j a => inv_inb _ _ _ _ _ hI0 (by omega) hse hw j a
    set_option sl_exec.stopBefore "k0_part18" in sl_exec
    have hfv : ∀ (i : Fin 6) (j : Fin 8), ldv arg5 f5 (k0_off3 (W R') (W R) t2 k (BitVec.ofNat 32 i.val) (BitVec.ofNat 32 (16 * j.val)))
        (k0_off3_inb _ _ k0_hw1 t2 k i j) = rowv X (B0 R t2 + 6 * k.val + i.val) j :=
      fun i j => ldv_eq hf5 _ (by omega) (off3_eq hR hR' t2 k i j)
    iapply (wp_rows0 d L arg2 harg2 arg3 harg3 arg4 harg4 arg5 harg5 arg6 harg6 arg7 harg7 arg8 harg8 arg9 arg10 arg11 v217_r0 v3 v5 v7 v9 v11 v13 v15 v17 v82 v86 v90 v94 X hR hRe hse hw t2 k _ hfv
      _ _ _ _ _ _ _ st g0 hI0 _ hchk)
    isplitr
    · ipureintro
      rfl
    isplitr
    · ipureintro
      exact ⟨rfl, rfl, rfl, rfl, rfl, rfl⟩
    isplitl [H8]
    · iexact H8
    iintro %y %g8 %e5 %he5 %hM H8
    sl_exec
    sl_step
    isplitl [H5]
    · iexact H5
    iexists g8
    isplitr
    · ipureintro
      exact RowMid.step2 arg8 ![v82, v86, v90, v94] ![v3, v5, v7, v9, v11, v13, v15, v17] X sb _ (hfv 5) hM he5 rfl rfl rfl rfl rfl rfl rfl rfl
    · iexact H8
  · unfold invGrp0
    isplitl [H5]
    · iexact H5
    iexists f8
    isplitr
    · ipureintro
      exact hx
    · iexact H8
  iintro %y HI
  unfold invGrp0
  icases HI with ⟨H5, %g8, %hI, H8⟩
  iapply HK $$ %y %g8 %(by
    have e : B0 R t2 + 6 * (k0_t3_loop (W R') (W R) t2).trips = B0 R t2 + sp R' (B0 R t2) / 6 * 6 := by
      rw [t3_trips hR hR' t2]; omega
    rw [e] at hI
    exact hI) H5 H8

set_option maxHeartbeats 4000000 in
include hR hRe hse hw in
/-- The six rows of a group in the second buffer, once their weights are there: each finishes a segment when one
ends before it, then is added. -/
theorem wp_rows1 (k : Fin (k0_t7_loop (W R') (W R) t2).trips) (fv : Fin 6 → Fin 8 → FVec F S16 .f32)
    (hf : ∀ i j, fv i j = rowv X (B1 R t2 + 6 * k.val + i.val) j) (e0 e1 e2 e3 e4 p q : FVec F S16 .f32)
    (x0 : St F) (f8 : Buf (Elt F) (arg8.view.loc (VT d L)))
    (hI0 : RowInv arg8 ![v82, v86, v90, v94] ![v3, v5, v7, v9, v11, v13, v15, v17] X sb (B1 R t2 + 6 * k.val) x0 f8) (v316 : BitVec 32)
    (hchk0 : k0_chk16 (W R') (W R) (W sb) t2 k (Scur x0) (Snxt x0))
    (Q : GrpOut F → sProp 𝕄)
    (P : Prog (TpuEff nD τ sig (Elt F) Λ₀ (.scVector ((L 0).castLE hcore0) ((L 1).castLE hsub0))) (GrpOut F)) :
    (iprop(⌜P = do
      let ⟨e5, cur0, nxt0, w0, b0, b1, b2, b3, b4, b5, b6, b7, b8⟩ ← k0_part64 L arg2 harg2 arg3 harg3 arg4 harg4 arg5 harg5 arg6 harg6 arg7 harg7 arg8 harg8 arg9 arg10 arg11 v217_r0 (W sb) (W R) (W R') zv v86 v90 v94 t2 k x0.1 x0.2.1 x0.2.2.1 x0.2.2.2.1 x0.2.2.2.2.1 x0.2.2.2.2.2.1 x0.2.2.2.2.2.2.1 x0.2.2.2.2.2.2.2.1 x0.2.2.2.2.2.2.2.2.1 x0.2.2.2.2.2.2.2.2.2.1 x0.2.2.2.2.2.2.2.2.2.2 hchk0 v316 (fv 0 0) (fv 0 1) (fv 0 2) (fv 0 3) (fv 0 4) (fv 0 5) (fv 0 6) (fv 0 7) e0 p q
      let ⟨c4, c5, c6, c7, c8, cur3, nxt3, w3, d0, d1, d2, d3⟩ ← k0_part65 L arg2 harg2 arg3 harg3 arg4 harg4 arg5 harg5 arg6 harg6 arg7 harg7 arg8 harg8 arg9 arg10 arg11 v217_r0 (W sb) (W R) (W R') zv t2 k v316 (fv 1 0) (fv 1 1) (fv 1 2) (fv 1 3) (fv 1 4) (fv 1 5) (fv 1 6) (fv 1 7) e1 (fv 2 0) (fv 2 1) (fv 2 2) (fv 2 3) (fv 2 4) (fv 2 5) (fv 2 6) (fv 2 7) e2 (fv 3 0) (fv 3 1) (fv 3 2) (fv 3 3) e3 cur0 nxt0 w0 b0 b1 b2 b3 b4 b5 b6 b7 b8
      let ⟨m0, m1, m2, m3, m4, m5, m6, m7, m8, cur4, nxt4⟩ ← if h : k0_cond23 (W R') (W R) t2 k nxt3 = 1#1 then
        cfinT L arg8 (fun c => k0_off27 (W sb) cur3 c) (k0_cond23 (W R') (W R) t2 k nxt3) (fun h => w3 h) zv (d0, d1, d2, d3, addf c4 (mulf e3 (fv 3 4)), addf c5 (mulf e3 (fv 3 5)), addf c6 (mulf e3 (fv 3 6)), addf c7 (mulf e3 (fv 3 7)), addf c8 e3, cur3, nxt3) h
        else pure (d0, d1, d2, d3, addf c4 (mulf e3 (fv 3 4)), addf c5 (mulf e3 (fv 3 5)), addf c6 (mulf e3 (fv 3 6)), addf c7 (mulf e3 (fv 3 7)), addf c8 e3, cur3, nxt3)
      let hw4 : k0_chk21 (W R') (W R) (W sb) t2 k nxt4 cur4 := (← Prog.lift (TpuEff.assume (k0_chk21 (W R') (W R) (W sb) t2 k nxt4 cur4) (k0_chk21.dec (W R') (W R) (W sb) t2 k nxt4 cur4))).down
      let ⟨n0, n1, n2, n3, n4, n5, n6, n7, n8, cur5, nxt5⟩ ← if h : k0_cond24 (W R') (W R) t2 k nxt4 = 1#1 then
        cfinT L arg8 (fun c => k0_off28 (W sb) cur4 c) (k0_cond24 (W R') (W R) t2 k nxt4) (fun h => hw4 h) zv (addf m0 (mulf e4 (fv 4 0)), addf m1 (mulf e4 (fv 4 1)), addf m2 (mulf e4 (fv 4 2)), addf m3 (mulf e4 (fv 4 3)), addf m4 (mulf e4 (fv 4 4)), addf m5 (mulf e4 (fv 4 5)), addf m6 (mulf e4 (fv 4 6)), addf m7 (mulf e4 (fv 4 7)), addf m8 e4, cur4, nxt4) h
        else pure (addf m0 (mulf e4 (fv 4 0)), addf m1 (mulf e4 (fv 4 1)), addf m2 (mulf e4 (fv 4 2)), addf m3 (mulf e4 (fv 4 3)), addf m4 (mulf e4 (fv 4 4)), addf m5 (mulf e4 (fv 4 5)), addf m6 (mulf e4 (fv 4 6)), addf m7 (mulf e4 (fv 4 7)), addf m8 e4, cur4, nxt4)
      pure ⟨fv 5 3, fv 5 4, fv 5 5, fv 5 6, fv 5 7, e5, n3, n4, n5, n6, n7, n8, cur5, nxt5, addf n0 (mulf e5 (fv 5 0)), addf n1 (mulf e5 (fv 5 1)), addf n2 (mulf e5 (fv 5 2))⟩⌝
        ∗ ⌜e0 = expw ![v82, v86, v90, v94] ![v3, v5, v7, v9, v11, v13, v15, v17] (fv 0) ∧ e1 = expw ![v82, v86, v90, v94] ![v3, v5, v7, v9, v11, v13, v15, v17] (fv 1) ∧ e2 = expw ![v82, v86, v90, v94] ![v3, v5, v7, v9, v11, v13, v15, v17] (fv 2) ∧ e3 = expw ![v82, v86, v90, v94] ![v3, v5, v7, v9, v11, v13, v15, v17] (fv 3)
        ∧ e4 = expw ![v82, v86, v90, v94] ![v3, v5, v7, v9, v11, v13, v15, v17] (fv 4) ∧ k0_pay494 v86 v90 v94 p q = expw ![v82, v86, v90, v94] ![v3, v5, v7, v9, v11, v13, v15, v17] (fv 5)⌝
        ∗ (arg8.view.loc (VT d L) ↦[arg8.view.set]{fullShare} f8)
        ∗ (∀ y : St F, ∀ g8 : Buf (Elt F) (arg8.view.loc (VT d L)), ∀ e5 : FVec F S16 .f32, ⌜e5 = expw ![v82, v86, v90, v94] ![v3, v5, v7, v9, v11, v13, v15, v17] (fv 5)⌝ -∗ ⌜RowMid arg8 ![v82, v86, v90, v94] ![v3, v5, v7, v9, v11, v13, v15, v17] X sb (B1 R t2 + 6 * k.val + 5) y g8⌝ -∗
            (arg8.view.loc (VT d L) ↦[arg8.view.set]{fullShare} g8) -∗
            Q ⟨fv 5 3, fv 5 4, fv 5 5, fv 5 6, fv 5 7, e5, y.2.2.2.1, y.2.2.2.2.1, y.2.2.2.2.2.1, y.2.2.2.2.2.2.1, y.2.2.2.2.2.2.2.1, y.2.2.2.2.2.2.2.2.1, y.2.2.2.2.2.2.2.2.2.1, y.2.2.2.2.2.2.2.2.2.2, addf y.1 (mulf e5 (fv 5 0)), addf y.2.1 (mulf e5 (fv 5 1)), addf y.2.2.1 (mulf e5 (fv 5 2))⟩))
      ⊢ wp frame (wpE (defs₀ (F := F)) 𝒱₀ (VT d L) none) Set.univ P Q) := by
  have hR' : R' ≤ 319600 := hRe ▸ o_le hse
  have h2' := t2_lt hR hR' t2
  have hk := lt_of_lt_of_eq k.isLt (t7_trips hR hR' t2)
  have hr : B1 R t2 + 6 * k.val + 5 < o se := by
    rw [← hRe]; simp only [nch, sp, B0, B1, cb] at *; omega
  iintro ⟨%hP, %hE, H8, HK⟩
  subst hP
  obtain ⟨h0, h1, h2, h3, h4, h5⟩ := hE
  sl_exec
  iapply (wp_row d L arg8 _ _ X sb (fun c => k0_off23 (W sb) (Scur x0) c) _ (fun h => hchk0 h) _ (by omega) x0 _
    _ _ _ _ rfl rfl (cond19_iff hR hR' t2 k _) rfl hI0)
  isplitl [H8]
  · iexact H8
  iintro %y1 %g1 %hM0 H8
  have hchk1 : k0_chk17 (W R') (W R) (W sb) t2 k (Snxt y1) (Scur y1) := fun _ => hM0.inb _ _ _ _ _ (by omega) hse hw
  sl_exec
  iapply (wp_row' d L arg8 ![v82, v86, v90, v94] ![v3, v5, v7, v9, v11, v13, v15, v17] X sb (fun c => k0_off24 (W sb) (Scur y1) c) _ (fun h => hchk1 h) (B1 R t2 + 6 * k.val + 1) (by omega)
    (Snxt y1) (Scur y1) (cond20_iff hR hR' t2 k _) rfl)
  isplitr
  · ipureintro
    refine ⟨⟨RowMid.step2 arg8 _ _ X sb (fv 0) (hf 0) hM0 h0 rfl rfl rfl rfl rfl rfl rfl rfl, rfl, rfl⟩, ?_⟩
    rfl
  isplitl [H8]
  · iexact H8
  iintro %y2 %g2 %hM1 H8
  have hchk2 : k0_chk18 (W R') (W R) (W sb) t2 k (Snxt y2) (Scur y2) := fun _ => hM1.inb _ _ _ _ _ (by omega) hse hw
  sl_exec
  iapply (wp_row' d L arg8 ![v82, v86, v90, v94] ![v3, v5, v7, v9, v11, v13, v15, v17] X sb (fun c => k0_off25 (W sb) (Scur y2) c) _ (fun h => hchk2 h) (B1 R t2 + 6 * k.val + 2) (by omega)
    (Snxt y2) (Scur y2) (cond21_iff hR hR' t2 k _) rfl)
  isplitr
  · ipureintro
    refine ⟨⟨RowMid.step2 arg8 _ _ X sb (fv 1) (hf 1) hM1 h1 rfl rfl rfl rfl rfl rfl rfl rfl, rfl, rfl⟩, ?_⟩
    rfl
  isplitl [H8]
  · iexact H8
  iintro %y3 %g3 %hM2 H8
  have hchk3 : k0_chk19 (W R') (W R) (W sb) t2 k (Snxt y3) (Scur y3) := fun _ => hM2.inb _ _ _ _ _ (by omega) hse hw
  sl_exec
  iapply (wp_row' d L arg8 ![v82, v86, v90, v94] ![v3, v5, v7, v9, v11, v13, v15, v17] X sb (fun c => k0_off26 (W sb) (Scur y3) c) _ (fun h => hchk3 h) (B1 R t2 + 6 * k.val + 3) (by omega)
    (Snxt y3) (Scur y3) (cond22_iff hR hR' t2 k _) rfl)
  isplitr
  · ipureintro
    refine ⟨⟨RowMid.step2 arg8 _ _ X sb (fv 2) (hf 2) hM2 h2 rfl rfl rfl rfl rfl rfl rfl rfl, rfl, rfl⟩, ?_⟩
    rfl
  isplitl [H8]
  · iexact H8
  iintro %y4 %g4 %hM3 H8
  have hchk4 : k0_chk20 (W R') (W R) (W sb) t2 k (Snxt y4) (Scur y4) := fun _ => hM3.inb _ _ _ _ _ (by omega) hse hw
  sl_exec
  iapply (wp_row' d L arg8 ![v82, v86, v90, v94] ![v3, v5, v7, v9, v11, v13, v15, v17] X sb (fun c => k0_off27 (W sb) (Scur y4) c) _ (fun h => hchk4 h) (B1 R t2 + 6 * k.val + 4) (by omega)
    (Snxt y4) (Scur y4) (cond23_iff hR hR' t2 k _) rfl)
  isplitr
  · ipureintro
    refine ⟨⟨RowMid.step2 arg8 _ _ X sb (fv 3) (hf 3) hM3 h3 rfl rfl rfl rfl rfl rfl rfl rfl, rfl, rfl⟩, ?_⟩
    rfl
  isplitl [H8]
  · iexact H8
  iintro %y5 %g5 %hM4 H8
  have hchk5 : k0_chk21 (W R') (W R) (W sb) t2 k (Snxt y5) (Scur y5) := fun _ => hM4.inb _ _ _ _ _ (by omega) hse hw
  sl_exec
  iapply (wp_row' d L arg8 ![v82, v86, v90, v94] ![v3, v5, v7, v9, v11, v13, v15, v17] X sb (fun c => k0_off28 (W sb) (Scur y5) c) _ (fun h => hchk5 h) (B1 R t2 + 6 * k.val + 5) (by omega)
    (Snxt y5) (Scur y5) (cond24_iff hR hR' t2 k _) rfl)
  isplitr
  · ipureintro
    refine ⟨⟨RowMid.step2 arg8 _ _ X sb (fv 4) (hf 4) hM4 h4 rfl rfl rfl rfl rfl rfl rfl rfl, rfl, rfl⟩, ?_⟩
    rfl
  isplitl [H8]
  · iexact H8
  iintro %y6 %g6 %hM5 H8
  sl_exec
  sl_step
  iapply HK $$ %y6 %g6 %(k0_pay494 v86 v90 v94 p q) %h5 %hM5 H8

/-- What the groups' loop keeps: the chunk, and the sum before its next group. -/
def invGrp1 (f5 : Buf (Elt F) (arg6.view.loc (VT d L))) (r : ℕ) (k : ℕ) (st : St F) : sProp 𝕄 :=
  iprop((arg6.view.loc (VT d L) ↦[arg6.view.set]{fullShare} f5)
    ∗ ∃ f8 : Buf (Elt F) (arg8.view.loc (VT d L)),
      ⌜RowInv arg8 ![v82, v86, v90, v94] ![v3, v5, v7, v9, v11, v13, v15, v17] X sb (r + 6 * k) st f8⌝
      ∗ (arg8.view.loc (VT d L) ↦[arg8.view.set]{fullShare} f8))

set_option maxHeartbeats 4000000 in
include hR hRe hse hw in
/-- The loop over the groups of a chunk in the second buffer. -/
theorem wp_grp1 (v271 v272 c0_i32_112 c1_i32_114 : BitVec 32)
    (f5 : Buf (Elt F) (arg6.view.loc (VT d L))) (hf5 : BufOK arg6 X (cb (B1 R t2)) f5)
    (f8 : Buf (Elt F) (arg8.view.loc (VT d L))) (x : St F)
    (hx : RowInv arg8 ![v82, v86, v90, v94] ![v3, v5, v7, v9, v11, v13, v15, v17] X sb (B1 R t2) x f8)
    {β : Type} (kk : St F → Prog (TpuEff nD τ sig (Elt F) Λ₀ (.scVector ((L 0).castLE hcore0) ((L 1).castLE hsub0))) β)
    (Q : β → sProp 𝕄) (ok)
    (T : Fin (k0_t7_loop (W R') (W R) t2).trips → St F → Prog (TpuEff nD τ sig (Elt F) Λ₀ (.scVector ((L 0).castLE hcore0) ((L 1).castLE hsub0))) (St F))
    (hT : T = fun k0_t7 st => do
       let ⟨f3, f4, f5, f6, f7, e, a3, a4, a5, a6, a7, den, cur, nxt, b0, b1, b2⟩ ← k0_part66 L arg2 harg2 arg3 harg3 arg4 harg4 arg5 harg5 arg6 harg6 arg7 harg7 arg8 harg8 arg9 arg10 arg11 v217_r0 v3 v5 v7 v9 v11 v13 v15 v17 (W sb) (W R) (W R') k0_hw1 zv v82 v86 v90 v94 t2 v271 v272 c0_i32_112 c1_i32_114 k0_t7 st.1 st.2.1 st.2.2.1 st.2.2.2.1 st.2.2.2.2.1 st.2.2.2.2.2.1 st.2.2.2.2.2.2.1 st.2.2.2.2.2.2.2.1 st.2.2.2.2.2.2.2.2.1 st.2.2.2.2.2.2.2.2.2.1 st.2.2.2.2.2.2.2.2.2.2
       pure (b0, b1, b2, addf a3 (mulf e f3), addf a4 (mulf e f4), addf a5 (mulf e f5), addf a6 (mulf e f6), addf a7 (mulf e f7), addf den e, cur, nxt)) :
    (iprop((arg6.view.loc (VT d L) ↦[arg6.view.set]{fullShare} f5) ∗ (arg8.view.loc (VT d L) ↦[arg8.view.set]{fullShare} f8)
        ∗ (∀ y : St F, ∀ g8 : Buf (Elt F) (arg8.view.loc (VT d L)),
            ⌜RowInv arg8 ![v82, v86, v90, v94] ![v3, v5, v7, v9, v11, v13, v15, v17] X sb (B1 R t2 + sp R' (B1 R t2) / 6 * 6) y g8⌝ -∗
            (arg6.view.loc (VT d L) ↦[arg6.view.set]{fullShare} f5) -∗ (arg8.view.loc (VT d L) ↦[arg8.view.set]{fullShare} g8) -∗
            wp frame (wpE (defs₀ (F := F)) 𝒱₀ (VT d L) none) Set.univ (kk y) Q))
      ⊢ wp frame (wpE (defs₀ (F := F)) 𝒱₀ (VT d L) none) Set.univ (Scf.Loop.for (k0_t7_loop (W R') (W R) t2) ok x T >>= kk) Q) := by
  subst hT
  have hR' : R' ≤ 319600 := hRe ▸ o_le hse
  have h2 := t2_lt hR hR' t2
  iintro ⟨H5, H8, HK⟩
  sl_for (invGrp1 d L arg6 arg8 v3 v5 v7 v9 v11 v13 v15 v17 v82 v86 v90 v94 X (sb := sb) f5 (B1 R t2)) $$ [H5 H8]
  case region =>
    intro k st
    have hk := lt_of_lt_of_eq k.isLt (t7_trips hR hR' t2)
    unfold invGrp1
    iintro ⟨H5, %g0, %hI0, H8⟩
    have hr : B1 R t2 + 6 * k.val + 5 < o se := by
      rw [← hRe]; simp only [nch, sp, B0, B1, cb] at *; omega
    have hb : cb (B1 R t2) ≤ B1 R t2 + 6 * k.val := by
      simp only [nch, sp, B0, B1, cb] at *; omega
    have hchk : k0_chk16 (W R') (W R) (W sb) t2 k (Scur st) (Snxt st) := fun _ j a => inv_inb _ _ _ _ _ hI0 (by omega) hse hw j a
    set_option sl_exec.stopBefore "k0_part64" in sl_exec
    have hfv : ∀ (i : Fin 6) (j : Fin 8), ldv arg6 f5 (k0_off22 (W R') (W R) t2 k (BitVec.ofNat 32 i.val) (BitVec.ofNat 32 (16 * j.val)))
        (k0_off22_inb _ _ k0_hw1 t2 k i j) = rowv X (B1 R t2 + 6 * k.val + i.val) j :=
      fun i j => ldv_eq hf5 _ (by omega) (off22_eq hR hR' t2 k i j)
    iapply (wp_rows1 d L arg2 harg2 arg3 harg3 arg4 harg4 arg5 harg5 arg6 harg6 arg7 harg7 arg8 harg8 arg9 arg10 arg11 v217_r0 v3 v5 v7 v9 v11 v13 v15 v17 v82 v86 v90 v94 X hR hRe hse hw t2 k _ hfv
      _ _ _ _ _ _ _ st g0 hI0 _ hchk)
    isplitr
    · ipureintro
      rfl
    isplitr
    · ipureintro
      exact ⟨rfl, rfl, rfl, rfl, rfl, rfl⟩
    isplitl [H8]
    · iexact H8
    iintro %y %g8 %e5 %he5 %hM H8
    sl_exec
    sl_step
    isplitl [H5]
    · iexact H5
    iexists g8
    isplitr
    · ipureintro
      exact RowMid.step2 arg8 ![v82, v86, v90, v94] ![v3, v5, v7, v9, v11, v13, v15, v17] X sb _ (hfv 5) hM he5 rfl rfl rfl rfl rfl rfl rfl rfl
    · iexact H8
  · unfold invGrp1
    isplitl [H5]
    · iexact H5
    iexists f8
    isplitr
    · ipureintro
      exact hx
    · iexact H8
  iintro %y HI
  unfold invGrp1
  icases HI with ⟨H5, %g8, %hI, H8⟩
  iapply HK $$ %y %g8 %(by
    have e : B1 R t2 + 6 * (k0_t7_loop (W R') (W R) t2).trips = B1 R t2 + sp R' (B1 R t2) / 6 * 6 := by
      rw [t7_trips hR hR' t2]; omega
    rw [e] at hI
    exact hI) H5 H8

end

end Cert.Proof

end
-- ==== Proof.Tail.lean ====
/-
  The rows that are left of a chunk after its groups of six, one row at a time.
-/
module

public import proofs.«01_k».proof.Proof.Inv
public import proofs.«01_k».proof.Proof.Chain

@[expose] public section

set_option maxRecDepth 100000

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore (S V T)
open Idealize.ShloMosaic.SparseCore.Cfg (HIx Pay tileRest ownBufs ownSems0 ownCells ownRefs mem_ownCells mem_ownRefs)

variable {F : FTy → Type} [FloatOps F]

local notation "𝕄" => MT nD τ sig (HIx 1) (Elt F) ℕ UU ℕ

section

variable (d : Fin nD) (L : grid0.Coords)
  (arg2 : Memref sig .scVector .hbm S40908800 .f32) (harg2 : arg2.IsWhole) (arg3 : Memref sig .scVector .hbm S128 .f32) (harg3 : arg3.IsWhole) (arg4 : Memref sig .scVector .hbm S102400 .f32) (harg4 : arg4.IsWhole) (arg5 : Memref sig .scVector .vmem S34816 .f32) (harg5 : arg5.IsWhole) (arg6 : Memref sig .scVector .vmem S34816 .f32) (harg6 : arg6.IsWhole) (arg7 : Memref sig .scVector .vmem S128 .f32) (harg7 : arg7.IsWhole) (arg8 : Memref sig .scVector .vmem S19456 .f32) (harg8 : arg8.IsWhole) (arg9 : DmaSems sig S_) (arg10 : DmaSems sig S_) (arg11 : DmaSems sig S_) (v217_r0 : DmaSems sig S_)
  (v3 v5 v7 v9 v11 v13 v15 v17 : FVec F S16 .f32) (v82 v86 v90 v94 : IVec S16 1) (X : ℕ → F .f32)
  {sb se R R' : ℕ} (hR : R ≤ R') (hRe : R' = o se) (hse : se ≤ 800) (hw : se - sb ≤ 152)
  (k0_hw1 : k0_chk1 (W R') (W R)) (t2 : Fin (k0_t2_loop (W R') (W R)).trips)

/-- What the rows' loop keeps: the chunk, and the sum before its next row. -/
def invTail0 (f5 : Buf (Elt F) (arg5.view.loc (VT d L))) (r : ℕ) (k : ℕ) (st : St F) : sProp 𝕄 :=
  iprop((arg5.view.loc (VT d L) ↦[arg5.view.set]{fullShare} f5)
    ∗ ∃ f8 : Buf (Elt F) (arg8.view.loc (VT d L)),
      ⌜RowInv arg8 ![v82, v86, v90, v94] ![v3, v5, v7, v9, v11, v13, v15, v17] X sb (r + k) st f8⌝
      ∗ (arg8.view.loc (VT d L) ↦[arg8.view.set]{fullShare} f8))

include hR hRe hse hw in
/-- The loop over the rows left of a chunk in the first buffer. -/
theorem wp_tail0 (v224 v254 c1_i32_96 : BitVec 32)
    (f5 : Buf (Elt F) (arg5.view.loc (VT d L))) (hf5 : BufOK arg5 X (cb (B0 R t2)) f5)
    (f8 : Buf (Elt F) (arg8.view.loc (VT d L))) (x : St F)
    (hx : RowInv arg8 ![v82, v86, v90, v94] ![v3, v5, v7, v9, v11, v13, v15, v17] X sb (B0 R t2 + sp R' (B0 R t2) / 6 * 6) x f8)
    {β : Type} (kk : St F → Prog (TpuEff nD τ sig (Elt F) Λ₀ (.scVector ((L 0).castLE hcore0) ((L 1).castLE hsub0))) β)
    (Q : β → sProp 𝕄) (ok)
    (T : Fin (k0_t5_loop (W R') (W R) t2).trips → St F → Prog (TpuEff nD τ sig (Elt F) Λ₀ (.scVector ((L 0).castLE hcore0) ((L 1).castLE hsub0))) (St F))
    (hT : T = fun k0_t5 st => do
       let ⟨a0, a1, a2, a3, a4, a5, a6, a7, den, cur, nxt, f0, f1, f2, f3, f4, f5, f6, s, c⟩ ← k0_part42 L arg2 harg2 arg3 harg3 arg4 harg4 arg5 harg5 arg6 harg6 arg7 harg7 arg8 harg8 arg9 arg10 arg11 v217_r0 (W sb) (W R) (W R') k0_hw1 zv t2 v224 v254 c1_i32_96 k0_t5 st.1 st.2.1 st.2.2.1 st.2.2.2.1 st.2.2.2.2.1 st.2.2.2.2.2.1 st.2.2.2.2.2.2.1 st.2.2.2.2.2.2.2.1 st.2.2.2.2.2.2.2.2.1 st.2.2.2.2.2.2.2.2.2.1 st.2.2.2.2.2.2.2.2.2.2
       let ⟨f7, e, p0⟩ ← k0_part43 L arg2 harg2 arg3 harg3 arg4 harg4 arg5 harg5 arg6 harg6 arg7 harg7 arg8 harg8 arg9 arg10 arg11 v217_r0 v3 v5 v7 v9 v11 v13 v15 v17 (W R) (W R') k0_hw1 v82 v86 v90 v94 t2 k0_t5 f0 f1 f2 f3 f4 f5 f6 s c
       pure (addf a0 p0, addf a1 (mulf e f1), addf a2 (mulf e f2), addf a3 (mulf e f3), addf a4 (mulf e f4), addf a5 (mulf e f5), addf a6 (mulf e f6), addf a7 (mulf e f7), addf den e, cur, nxt)) :
    (iprop((arg5.view.loc (VT d L) ↦[arg5.view.set]{fullShare} f5) ∗ (arg8.view.loc (VT d L) ↦[arg8.view.set]{fullShare} f8)
        ∗ (∀ y : St F, ∀ g8 : Buf (Elt F) (arg8.view.loc (VT d L)),
            ⌜RowInv arg8 ![v82, v86, v90, v94] ![v3, v5, v7, v9, v11, v13, v15, v17] X sb (B0 R t2 + sp R' (B0 R t2)) y g8⌝ -∗
            (arg5.view.loc (VT d L) ↦[arg5.view.set]{fullShare} f5) -∗ (arg8.view.loc (VT d L) ↦[arg8.view.set]{fullShare} g8) -∗
            wp frame (wpE (defs₀ (F := F)) 𝒱₀ (VT d L) none) Set.univ (kk y) Q))
      ⊢ wp frame (wpE (defs₀ (F := F)) 𝒱₀ (VT d L) none) Set.univ (Scf.Loop.for (k0_t5_loop (W R') (W R) t2) ok x T >>= kk) Q) := by
  subst hT
  have hR' : R' ≤ 319600 := hRe ▸ o_le hse
  have h2 := t2_lt hR hR' t2
  iintro ⟨H5, H8, HK⟩
  sl_for (invTail0 d L arg5 arg8 v3 v5 v7 v9 v11 v13 v15 v17 v82 v86 v90 v94 X (sb := sb) f5 (B0 R t2 + sp R' (B0 R t2) / 6 * 6)) $$ [H5 H8]
  case region =>
    intro k st
    have hk := lt_of_lt_of_eq k.isLt (t5_trips hR hR' t2)
    unfold invTail0
    iintro ⟨H5, %f8, %hI, H8⟩
    have hr : B0 R t2 + sp R' (B0 R t2) / 6 * 6 + k.val < o se := by
      rw [← hRe]; simp only [nch, sp, B0, B1, cb] at *; omega
    have hb : cb (B0 R t2) ≤ B0 R t2 + sp R' (B0 R t2) / 6 * 6 + k.val := by
      simp only [nch, sp, B0, B1, cb] at *; omega
    have hchk : k0_chk14 (W R') (W R) (W sb) t2 k (Scur st) (Snxt st) := fun _ => inv_inb _ _ _ _ _ hI hr hse hw
    sl_exec
    iapply (wp_row d L arg8 _ _ X sb (fun c => k0_off17 (W sb) (Scur st) c) _ (fun h => hchk h) _ (by omega) st f8
      _ _ _ _ rfl rfl (cond15_iff hR hR' t2 k _) rfl hI)
    isplitl [H8]
    · iexact H8
    iintro %y %g8 %hM H8
    sl_exec
    sl_step
    isplitl [H5]
    · iexact H5
    iexists g8
    isplitr
    · ipureintro
      exact RowMid.step' arg8 ![v82, v86, v90, v94] ![v3, v5, v7, v9, v11, v13, v15, v17] X sb
        (fun j => ldv arg5 f5 (k0_off18 (W R') (W R) t2 k (BitVec.ofNat 32 (16 * j.val))) (k0_off18_inb _ _ k0_hw1 t2 k j))
        (fun j => ldv_eq hf5 _ hb (off18_eq hR hR' t2 k j)) hM
    · iexact H8
  · unfold invTail0
    isplitl [H5]
    · iexact H5
    iexists f8
    isplitr
    · ipureintro
      exact hx
    · iexact H8
  iintro %y HI
  unfold invTail0
  icases HI with ⟨H5, %g8, %hI, H8⟩
  iapply HK $$ %y %g8 %(by
    have e : B0 R t2 + sp R' (B0 R t2) / 6 * 6 + (k0_t5_loop (W R') (W R) t2).trips = B0 R t2 + sp R' (B0 R t2) := by
      rw [t5_trips hR hR' t2]; omega
    rw [e] at hI
    exact hI) H5 H8

/-- What the rows' loop keeps: the chunk, and the sum before its next row. -/
def invTail1 (f5 : Buf (Elt F) (arg6.view.loc (VT d L))) (r : ℕ) (k : ℕ) (st : St F) : sProp 𝕄 :=
  iprop((arg6.view.loc (VT d L) ↦[arg6.view.set]{fullShare} f5)
    ∗ ∃ f8 : Buf (Elt F) (arg8.view.loc (VT d L)),
      ⌜RowInv arg8 ![v82, v86, v90, v94] ![v3, v5, v7, v9, v11, v13, v15, v17] X sb (r + k) st f8⌝
      ∗ (arg8.view.loc (VT d L) ↦[arg8.view.set]{fullShare} f8))

include hR hRe hse hw in
/-- The loop over the rows left of a chunk in the second buffer. -/
theorem wp_tail1 (v272 v302 c1_i32_118 : BitVec 32)
    (f5 : Buf (Elt F) (arg6.view.loc (VT d L))) (hf5 : BufOK arg6 X (cb (B1 R t2)) f5)
    (f8 : Buf (Elt F) (arg8.view.loc (VT d L))) (x : St F)
    (hx : RowInv arg8 ![v82, v86, v90, v94] ![v3, v5, v7, v9, v11, v13, v15, v17] X sb (B1 R t2 + sp R' (B1 R t2) / 6 * 6) x f8)
    {β : Type} (kk : St F → Prog (TpuEff nD τ sig (Elt F) Λ₀ (.scVector ((L 0).castLE hcore0) ((L 1).castLE hsub0))) β)
    (Q : β → sProp 𝕄) (ok)
    (T : Fin (k0_t9_loop (W R') (W R) t2).trips → St F → Prog (TpuEff nD τ sig (Elt F) Λ₀ (.scVector ((L 0).castLE hcore0) ((L 1).castLE hsub0))) (St F))
    (hT : T = fun k0_t9 st => do
       let ⟨a0, a1, a2, a3, a4, a5, a6, a7, den, cur, nxt, f0, f1, f2, f3, f4, f5, f6, s, c⟩ ← k0_part88 L arg2 harg2 arg3 harg3 arg4 harg4 arg5 harg5 arg6 harg6 arg7 harg7 arg8 harg8 arg9 arg10 arg11 v217_r0 (W sb) (W R) (W R') k0_hw1 zv t2 v272 v302 c1_i32_118 k0_t9 st.1 st.2.1 st.2.2.1 st.2.2.2.1 st.2.2.2.2.1 st.2.2.2.2.2.1 st.2.2.2.2.2.2.1 st.2.2.2.2.2.2.2.1 st.2.2.2.2.2.2.2.2.1 st.2.2.2.2.2.2.2.2.2.1 st.2.2.2.2.2.2.2.2.2.2
       let ⟨f7, e, p0⟩ ← k0_part89 L arg2 harg2 arg3 harg3 arg4 harg4 arg5 harg5 arg6 harg6 arg7 harg7 arg8 harg8 arg9 arg10 arg11 v217_r0 v3 v5 v7 v9 v11 v13 v15 v17 (W R) (W R') k0_hw1 v82 v86 v90 v94 t2 k0_t9 f0 f1 f2 f3 f4 f5 f6 s c
       pure (addf a0 p0, addf a1 (mulf e f1), addf a2 (mulf e f2), addf a3 (mulf e f3), addf a4 (mulf e f4), addf a5 (mulf e f5), addf a6 (mulf e f6), addf a7 (mulf e f7), addf den e, cur, nxt)) :
    (iprop((arg6.view.loc (VT d L) ↦[arg6.view.set]{fullShare} f5) ∗ (arg8.view.loc (VT d L) ↦[arg8.view.set]{fullShare} f8)
        ∗ (∀ y : St F, ∀ g8 : Buf (Elt F) (arg8.view.loc (VT d L)),
            ⌜RowInv arg8 ![v82, v86, v90, v94] ![v3, v5, v7, v9, v11, v13, v15, v17] X sb (B1 R t2 + sp R' (B1 R t2)) y g8⌝ -∗
            (arg6.view.loc (VT d L) ↦[arg6.view.set]{fullShare} f5) -∗ (arg8.view.loc (VT d L) ↦[arg8.view.set]{fullShare} g8) -∗
            wp frame (wpE (defs₀ (F := F)) 𝒱₀ (VT d L) none) Set.univ (kk y) Q))
      ⊢ wp frame (wpE (defs₀ (F := F)) 𝒱₀ (VT d L) none) Set.univ (Scf.Loop.for (k0_t9_loop (W R') (W R) t2) ok x T >>= kk) Q) := by
  subst hT
  have hR' : R' ≤ 319600 := hRe ▸ o_le hse
  have h2 := t2_lt hR hR' t2
  iintro ⟨H5, H8, HK⟩
  sl_for (invTail1 d L arg6 arg8 v3 v5 v7 v9 v11 v13 v15 v17 v82 v86 v90 v94 X (sb := sb) f5 (B1 R t2 + sp R' (B1 R t2) / 6 * 6)) $$ [H5 H8]
  case region =>
    intro k st
    have hk := lt_of_lt_of_eq k.isLt (t9_trips hR hR' t2)
    unfold invTail1
    iintro ⟨H5, %f8, %hI, H8⟩
    have hr : B1 R t2 + sp R' (B1 R t2) / 6 * 6 + k.val < o se := by
      rw [← hRe]; simp only [nch, sp, B1, B1, cb] at *; omega
    have hb : cb (B1 R t2) ≤ B1 R t2 + sp R' (B1 R t2) / 6 * 6 + k.val := by
      simp only [nch, sp, B1, B1, cb] at *; omega
    have hchk : k0_chk28 (W R') (W R) (W sb) t2 k (Scur st) (Snxt st) := fun _ => inv_inb _ _ _ _ _ hI hr hse hw
    sl_exec
    iapply (wp_row d L arg8 _ _ X sb (fun c => k0_off36 (W sb) (Scur st) c) _ (fun h => hchk h) _ (by omega) st f8
      _ _ _ _ rfl rfl (cond31_iff hR hR' t2 k _) rfl hI)
    isplitl [H8]
    · iexact H8
    iintro %y %g8 %hM H8
    sl_exec
    sl_step
    isplitl [H5]
    · iexact H5
    iexists g8
    isplitr
    · ipureintro
      exact RowMid.step' arg8 ![v82, v86, v90, v94] ![v3, v5, v7, v9, v11, v13, v15, v17] X sb
        (fun j => ldv arg6 f5 (k0_off37 (W R') (W R) t2 k (BitVec.ofNat 32 (16 * j.val))) (k0_off37_inb _ _ k0_hw1 t2 k j))
        (fun j => ldv_eq hf5 _ hb (off37_eq hR hR' t2 k j)) hM
    · iexact H8
  · unfold invTail1
    isplitl [H5]
    · iexact H5
    iexists f8
    isplitr
    · ipureintro
      exact hx
    · iexact H8
  iintro %y HI
  unfold invTail1
  icases HI with ⟨H5, %g8, %hI, H8⟩
  iapply HK $$ %y %g8 %(by
    have e : B1 R t2 + sp R' (B1 R t2) / 6 * 6 + (k0_t9_loop (W R') (W R) t2).trips = B1 R t2 + sp R' (B1 R t2) := by
      rw [t9_trips hR hR' t2]; omega
    rw [e] at hI
    exact hI) H5 H8

end

end Cert.Proof

end
-- ==== Proof.Pair.lean ====
/-
  A pair of chunks: each arrives, its rows are taken in, and the one after next is started.
-/
module

public import proofs.«01_k».proof.Proof.Grp
public import proofs.«01_k».proof.Proof.Tail
public import proofs.«01_k».proof.Proof.Dma

@[expose] public section

set_option maxRecDepth 100000

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore (S V T)
open Idealize.ShloMosaic.SparseCore.Cfg (HIx Pay tileRest ownBufs ownSems0 ownCells ownRefs mem_ownCells mem_ownRefs)

variable {F : FTy → Type} [FloatOps F]

local notation "𝕄" => MT nD τ sig (HIx 1) (Elt F) ℕ UU ℕ

section

variable (d : Fin nD) (L : grid0.Coords)
  (arg2 : Memref sig .scVector .hbm S40908800 .f32) (harg2 : arg2.IsWhole) (arg3 : Memref sig .scVector .hbm S128 .f32) (harg3 : arg3.IsWhole) (arg4 : Memref sig .scVector .hbm S102400 .f32) (harg4 : arg4.IsWhole) (arg5 : Memref sig .scVector .vmem S34816 .f32) (harg5 : arg5.IsWhole) (arg6 : Memref sig .scVector .vmem S34816 .f32) (harg6 : arg6.IsWhole) (arg7 : Memref sig .scVector .vmem S128 .f32) (harg7 : arg7.IsWhole) (arg8 : Memref sig .scVector .vmem S19456 .f32) (harg8 : arg8.IsWhole) (arg9 : DmaSems sig S_) (arg10 : DmaSems sig S_) (arg11 : DmaSems sig S_) (v217_r0 : DmaSems sig S_)
  (v3 v5 v7 v9 v11 v13 v15 v17 : FVec F S16 .f32) (v82 v86 v90 v94 : IVec S16 1) (X : ℕ → F .f32)
  {sb se R R' : ℕ} (hR : R ≤ R') (hRe : R' = o se) (hse : se ≤ 800) (hw : se - sb ≤ 152)
  (k0_hw1 : k0_chk1 (W R') (W R)) (t2 : Fin (k0_t2_loop (W R') (W R)).trips)
  {FX : Buf (Elt F) (arg2.view.loc (VT d L))} (hFX : FeatOK d L arg2 X FX) {q0 q1 : PosShare TreeShare}
  {O : CellTallies nD τ sig (HIx 1)} {Wt : Waits sig (HIx 1)}

/-- The chunk a buffer waits for, if there is one. -/
def hold (buf : Memref sig .scVector .vmem S34816 .f32) (sem : DmaSems sig S_) (FX : Buf (Elt F) (arg2.view.loc (VT d L)))
    (q : PosShare TreeShare) (b : Prop) [Decidable b] (c : ℕ) : sProp 𝕄 :=
  if b then chunkFl d L arg2 buf sem X FX q c else chunkNo d L arg2 buf sem FX q

/-- The odd chunk's number in the kernel's words. -/
theorem odd_word (t : ℕ) : Scalar.addi (Scalar.muli 2#32 (Scf.iv 0#32 1#32 t)) 1#32 = W (2 * t + 1) := by
  rw [show (0#32 : BitVec 32) = W 0 from rfl, iv_W, show (2#32 : BitVec 32) = W 2 from rfl, W_muli, show (1#32 : BitVec 32) = W 1 from rfl, W_addi, Nat.zero_add]

set_option maxHeartbeats 8000000 in
include hR hRe hse hw in
/-- The even chunk's arrival and its groups of six. -/
theorem wp_even (f8 : Buf (Elt F) (arg8.view.loc (VT d L))) (x : St F)
    (hx : RowInv arg8 ![v82, v86, v90, v94] ![v3, v5, v7, v9, v11, v13, v15, v17] X sb (B0 R t2) x f8)
    {β : Type} (kk : (Σ' (_ _ _ _ _ : BitVec 32) (_ _ _ _ _ _ _ _ _ : FVec F S16 .f32) (_ _ : BitVec 32), BitVec 32) → Prog (TpuEff nD τ sig (Elt F) Λ₀ (.scVector ((L 0).castLE hcore0) ((L 1).castLE hsub0))) β) (Q : β → sProp 𝕄) :
    (iprop(chunkFl d L arg2 arg5 arg9 X FX q0 (cb (B0 R t2)) ∗ owing d L O Wt ∗ (arg8.view.loc (VT d L) ↦[arg8.view.set]{fullShare} f8)
        ∗ (∀ y : St F, ∀ g8 : Buf (Elt F) (arg8.view.loc (VT d L)), ∀ v217 : BitVec 32, ∀ v219 : BitVec 32, ∀ v223 : BitVec 32, ∀ v224 : BitVec 32, ∀ v228 : BitVec 32, ∀ v253 : BitVec 32,
            ⌜RowInv arg8 ![v82, v86, v90, v94] ![v3, v5, v7, v9, v11, v13, v15, v17] X sb (B0 R t2 + sp R' (B0 R t2) / 6 * 6) y g8 ∧ v219 = W (2 * t2.val + 1)⌝ -∗
            chunkIn d L arg2 arg5 X FX q0 (cb (B0 R t2)) -∗ semVal (VT d L, .dma arg9.sem) 0 -∗ owing d L O Wt -∗ (arg8.view.loc (VT d L) ↦[arg8.view.set]{fullShare} g8) -∗
            wp frame (wpE (defs₀ (F := F)) 𝒱₀ (VT d L) none) Set.univ (kk ⟨v217, v219, v223, v224, v228, y.1, y.2.1, y.2.2.1, y.2.2.2.1, y.2.2.2.2.1, y.2.2.2.2.2.1, y.2.2.2.2.2.2.1, y.2.2.2.2.2.2.2.1, y.2.2.2.2.2.2.2.2.1, y.2.2.2.2.2.2.2.2.2.1, y.2.2.2.2.2.2.2.2.2.2, v253⟩) Q))
      ⊢ wp frame (wpE (defs₀ (F := F)) 𝒱₀ (VT d L) none) Set.univ (k0_part93 L arg2 harg2 arg3 harg3 arg4 harg4 arg5 harg5 arg6 harg6 arg7 harg7 arg8 harg8 arg9 arg10 arg11 v217_r0 v3 v5 v7 v9 v11 v13 v15 v17 (W sb) (W R) (W R') k0_hw1 zv v82 v86 v90 v94 0#32 1#32 t2 x.1 x.2.1 x.2.2.1 x.2.2.2.1 x.2.2.2.2.1 x.2.2.2.2.2.1 x.2.2.2.2.2.2.1 x.2.2.2.2.2.2.2.1 x.2.2.2.2.2.2.2.2.1 x.2.2.2.2.2.2.2.2.2.1 x.2.2.2.2.2.2.2.2.2.2 >>= kk) Q) := by
  have hR' : R' ≤ 319600 := hRe ▸ o_le hse
  have h2 := t2_lt hR hR' t2
  iintro ⟨Hc, HO, H8, HK⟩
  sl_exec
  iapply (wp_land (cb (B0 R t2)))
  isplitl [Hc]; · iexact Hc
  isplitl [HO]; · iexact HO
  iintro HD Hv HO
  unfold chunkIn
  icases HD with ⟨⟨%f5, %hf5, H5⟩, Hx⟩
  sl_exec
  iapply (wp_grp0 d L arg2 harg2 arg3 harg3 arg4 harg4 arg5 harg5 arg6 harg6 arg7 harg7 arg8 harg8 arg9 arg10 arg11 v217_r0 v3 v5 v7 v9 v11 v13 v15 v17 v82 v86 v90 v94 X hR hRe hse hw k0_hw1 t2 _ _ _ _ f5 hf5 f8 x hx _ _ _ _ ?hT)
  case hT => rfl
  isplitl [H5]; · iexact H5
  isplitl [H8]; · iexact H8
  iintro %y %g8 %hy H5 H8
  obtain ⟨y0, y1, y2, y3, y4, y5, y6, y7, y8, y9, y10⟩ := y
  sl_exec
  iapply (wp_skip (t4_trips hR hR' t2))
  sl_exec
  iapply HK $$ %(y0, y1, y2, y3, y4, y5, y6, y7, y8, y9, y10) %g8 %_ %_ %_ %_ %_ %_ %(⟨hy, odd_word t2.val⟩) [H5 Hx] Hv HO H8
  isplitl [H5]
  · iexists f5
    isplitr
    · ipureintro
      exact hf5
    · iexact H5
  · iexact Hx

/-- The odd chunk, arrived, or none. -/
def got (buf : Memref sig .scVector .vmem S34816 .f32) (sem : DmaSems sig S_) (FX : Buf (Elt F) (arg2.view.loc (VT d L)))
    (q : PosShare TreeShare) (b : Prop) [Decidable b] (c : ℕ) : sProp 𝕄 :=
  if b then iprop(chunkIn d L arg2 buf X FX q c ∗ semVal (VT d L, .dma sem.sem) 0) else chunkNo d L arg2 buf sem FX q

/-- A chunk's buffer, free again. -/
theorem no_of (buf : Memref sig .scVector .vmem S34816 .f32) (sem : DmaSems sig S_) (c : ℕ) :
    iprop(chunkIn d L arg2 buf X FX q0 c ∗ semVal (VT d L, .dma sem.sem) 0) ⊢ chunkNo d L arg2 buf sem FX q0 := by
  unfold chunkIn chunkNo
  iintro ⟨⟨⟨%f, %_, Hb⟩, Hx⟩, Hv⟩
  isplitl [Hb]
  · iexists f; iexact Hb
  isplitl [Hx] <;> iassumption

/-- The odd chunk is there when its number is below the count. -/
theorem odd_lt (h : R' ≤ 319600) (hl : t2.val < (nch R R' + 1) / 2) :
    Scalar.cmpi .ne (Scalar.extui (Scalar.cmpi .slt (W (2 * t2.val + 1)) (W (nch R R'))) : BitVec 32) 0#32 = 1#1 ↔ 2 * t2.val + 1 < nch R R' := by
  have hn : nch R R' < 2 ^ 31 := by simp only [nch]; omega
  rw [show (0#32 : BitVec 32) = W 0 from rfl, ext_ne, lt_iff (by omega) hn (Iff.rfl)]

set_option maxHeartbeats 8000000 in
include hR hRe hse hw hFX in
/-- The even chunk's last rows, the next even chunk started, the odd one's arrival. -/
theorem wp_mid (v217 v223 v224 v228 v253 : BitVec 32) (f8 : Buf (Elt F) (arg8.view.loc (VT d L))) (x : St F)
    (hx : RowInv arg8 ![v82, v86, v90, v94] ![v3, v5, v7, v9, v11, v13, v15, v17] X sb (B0 R t2 + sp R' (B0 R t2) / 6 * 6) x f8)
    {β : Type} (kk : (Σ' (_ _ _ _ _ _ _ _ _ : FVec F S16 .f32) (_ _ _ _ _ _ : BitVec 32), BitVec 32) → Prog (TpuEff nD τ sig (Elt F) Λ₀ (.scVector ((L 0).castLE hcore0) ((L 1).castLE hsub0))) β) (Q : β → sProp 𝕄) :
    (iprop((chunkIn d L arg2 arg5 X FX q0 (cb (B0 R t2)) ∗ semVal (VT d L, .dma arg9.sem) 0)
        ∗ hold d L arg2 X arg6 arg10 FX q1 (2 * t2.val + 1 < nch R R') (cb (B1 R t2)) ∗ owing d L O Wt ∗ (arg8.view.loc (VT d L) ↦[arg8.view.set]{fullShare} f8)
        ∗ (∀ y : St F, ∀ g8 : Buf (Elt F) (arg8.view.loc (VT d L)), ∀ v271 : BitVec 32, ∀ v272 : BitVec 32, ∀ v276 : BitVec 32, ∀ v293 : BitVec 32,
            ⌜RowInv arg8 ![v82, v86, v90, v94] ![v3, v5, v7, v9, v11, v13, v15, v17] X sb (B0 R t2 + sp R' (B0 R t2)) y g8⌝ -∗
            hold d L arg2 X arg5 arg9 FX q0 (2 * t2.val + 2 < nch R R') (cb (B0 R (t2 + 1))) -∗
            got d L arg2 X arg6 arg10 FX q1 (2 * t2.val + 1 < nch R R') (cb (B1 R t2)) -∗ owing d L O Wt -∗ (arg8.view.loc (VT d L) ↦[arg8.view.set]{fullShare} g8) -∗
            wp frame (wpE (defs₀ (F := F)) 𝒱₀ (VT d L) none) Set.univ (kk ⟨y.1, y.2.1, y.2.2.1, y.2.2.2.1, y.2.2.2.2.1, y.2.2.2.2.2.1, y.2.2.2.2.2.2.1, y.2.2.2.2.2.2.2.1, y.2.2.2.2.2.2.2.2.1, y.2.2.2.2.2.2.2.2.2.1, y.2.2.2.2.2.2.2.2.2.2, v271, v272, v276, v293, 0#32⟩) Q))
      ⊢ wp frame (wpE (defs₀ (F := F)) 𝒱₀ (VT d L) none) Set.univ (k0_part94 L arg2 harg2 arg3 harg3 arg4 harg4 arg5 harg5 arg6 harg6 arg7 harg7 arg8 harg8 arg9 arg10 arg11 v217_r0 v3 v5 v7 v9 v11 v13 v15 v17 (W sb) (W R) (W R') k0_hw1 (W (nch R R')) zv v82 v86 v90 v94 t2 v217 (W (2 * t2.val + 1)) v223 v224 v228 x.1 x.2.1 x.2.2.1 x.2.2.2.1 x.2.2.2.2.1 x.2.2.2.2.2.1 x.2.2.2.2.2.2.1 x.2.2.2.2.2.2.2.1 x.2.2.2.2.2.2.2.2.1 x.2.2.2.2.2.2.2.2.2.1 x.2.2.2.2.2.2.2.2.2.2 v253 >>= kk) Q) := by
  have hR' : R' ≤ 319600 := hRe ▸ o_le hse
  have h2 := t2_lt hR hR' t2
  have hodd := odd_lt t2 hR' h2
  unfold hold got
  iintro ⟨⟨Hc, Hv⟩, H1, HO, H8, HK⟩
  unfold chunkIn
  icases Hc with ⟨⟨%f5, %hf5, H5⟩, Hx⟩
  sl_exec
  iapply (wp_tail0 d L arg2 harg2 arg3 harg3 arg4 harg4 arg5 harg5 arg6 harg6 arg7 harg7 arg8 harg8 arg9 arg10 arg11 v217_r0 v3 v5 v7 v9 v11 v13 v15 v17 v82 v86 v90 v94 X hR hRe hse hw k0_hw1 t2 _ _ _ f5 hf5 f8 x hx _ _ _ _ ?hT)
  case hT => rfl
  isplitl [H5]; · iexact H5
  isplitl [H8]; · iexact H8
  iintro %y %g8 %hy H5 H8
  obtain ⟨y0, y1, y2, y3, y4, y5, y6, y7, y8, y9, y10⟩ := y
  sl_exec
  iapply (wp_skip (t6_trips hR hR' t2))
  ihave HN := (no_of d L arg2 X (FX := FX) (q0 := q0) arg5 arg9 (cb (B0 R t2))) $$ [H5 Hx Hv]
  · unfold chunkIn
    isplitl [H5 Hx]
    · isplitl [H5]
      · iexists f5
        isplitr
        · ipureintro; exact hf5
        · iexact H5
      · iexact Hx
    · iexact Hv
  rcases Classical.em (2 * t2.val + 2 < nch R R') with h17 | h17 <;> rcases Classical.em (2 * t2.val + 1 < nch R R') with h1 | h1
  · simp only [if_pos h17, if_pos h1]
    have hc17 := (cond17_iff hR hR' t2).mpr h17
    have hc1 := hodd.mpr h1
    sl_exec
    iapply (wp_start hFX (cb (B0 R (t2 + 1))) _ _ (off21_eq hR hR' t2 h17))
    isplitl [HN]; · iexact HN
    iintro H0
    sl_exec
    iapply (wp_land (cb (B1 R t2)))
    isplitl [H1]; · iexact H1
    isplitl [HO]; · iexact HO
    iintro HD Hw HO
    sl_exec
    iapply HK $$ %(y0, y1, y2, y3, y4, y5, y6, y7, y8, y9, y10) %g8 %_ %_ %_ %_ %hy H0 [HD Hw] HO H8
    · isplitl [HD]
      · unfold chunkIn
        iexact HD
      · iexact Hw
  · exact absurd h17 (by omega)
  · simp only [if_neg h17, if_pos h1]
    have hc17 := (cond17_iff hR hR' t2).not.mpr h17
    have hc1 := hodd.mpr h1
    sl_exec
    iapply (wp_land (cb (B1 R t2)))
    isplitl [H1]; · iexact H1
    isplitl [HO]; · iexact HO
    iintro HD Hw HO
    sl_exec
    iapply HK $$ %(y0, y1, y2, y3, y4, y5, y6, y7, y8, y9, y10) %g8 %_ %_ %_ %_ %hy HN [HD Hw] HO H8
    · isplitl [HD]
      · unfold chunkIn
        iexact HD
      · iexact Hw
  · simp only [if_neg h17, if_neg h1]
    have hc17 := (cond17_iff hR hR' t2).not.mpr h17
    have hc1 := hodd.not.mpr h1
    sl_exec
    iapply HK $$ %(y0, y1, y2, y3, y4, y5, y6, y7, y8, y9, y10) %g8 %_ %_ %_ %_ %hy HN H1 HO H8

/-- What the loop over the pairs keeps: the rows before the pair taken in, its two chunks on their way. -/
def pairInv (k : ℕ) (x : St F) : sProp 𝕄 :=
  iprop((∃ f8 : Buf (Elt F) (arg8.view.loc (VT d L)), ⌜RowInv arg8 ![v82, v86, v90, v94] ![v3, v5, v7, v9, v11, v13, v15, v17] X sb (min (R + 544 * k) R') x f8⌝ ∗ (arg8.view.loc (VT d L) ↦[arg8.view.set]{fullShare} f8))
    ∗ hold d L arg2 X arg5 arg9 FX q0 (2 * k < nch R R') (cb (B0 R k)) ∗ hold d L arg2 X arg6 arg10 FX q1 (2 * k + 1 < nch R R') (cb (B1 R k))
    ∗ owing d L O Wt)

set_option maxHeartbeats 8000000 in
include hR hRe hse hw hFX in
/-- The loop over the pairs of chunks. -/
theorem wp_pairs (v95 v102 c2_i32_39 v103 v108 v110 : BitVec 32) (x : St F) (ok)
    {β : Type} (kk : St F → Prog (TpuEff nD τ sig (Elt F) Λ₀ (.scVector ((L 0).castLE hcore0) ((L 1).castLE hsub0))) β) (Q : β → sProp 𝕄) :
    (iprop(pairInv d L arg2 arg5 arg6 arg8 arg9 arg10 v3 v5 v7 v9 v11 v13 v15 v17 v82 v86 v90 v94 X (sb := sb) (R := R) (R' := R') (FX := FX) (q0 := q0) (q1 := q1) (O := O) (Wt := Wt) 0 x
        ∗ (∀ y : St F, pairInv d L arg2 arg5 arg6 arg8 arg9 arg10 v3 v5 v7 v9 v11 v13 v15 v17 v82 v86 v90 v94 X (sb := sb) (R := R) (R' := R') (FX := FX) (q0 := q0) (q1 := q1) (O := O) (Wt := Wt) ((nch R R' + 1) / 2) y -∗
            wp frame (wpE (defs₀ (F := F)) 𝒱₀ (VT d L) none) Set.univ (kk y) Q))
      ⊢ wp frame (wpE (defs₀ (F := F)) 𝒱₀ (VT d L) none) Set.univ (Scf.Loop.for (k0_t2_loop (W R') (W R)) ok x (k0_t2_body L arg2 harg2 arg3 harg3 arg4 harg4 arg5 harg5 arg6 harg6 arg7 harg7 arg8 harg8 arg9 arg10 arg11 v217_r0 v3 v5 v7 v9 v11 v13 v15 v17 (W sb) (W R) (W R') k0_hw1 (W (nch R R')) zv v82 v86 v90 v94 v95 v102 c2_i32_39 v103 v108 v110) >>= kk) Q) := by
  have hR' : R' ≤ 319600 := hRe ▸ o_le hse
  iintro ⟨HI, HK⟩
  sl_for (pairInv d L arg2 arg5 arg6 arg8 arg9 arg10 v3 v5 v7 v9 v11 v13 v15 v17 v82 v86 v90 v94 X (sb := sb) (R := R) (R' := R') (FX := FX) (q0 := q0) (q1 := q1) (O := O) (Wt := Wt)) $$ [HI]
  case region =>
    intro t2 x
    have h2 := t2_lt hR hR' t2
    obtain ⟨x0, x1, x2, x3, x4, x5, x6, x7, x8, x9, x10⟩ := x
    unfold pairInv hold
    have h0 : 2 * t2.val < nch R R' := by omega
    have e0 : min (R + 544 * t2.val) R' = B0 R t2 := by simp only [nch, sp, B0, B1, cb] at *; omega
    rw [if_pos h0, e0]
    iintro ⟨⟨%f8, %hx, H8⟩, H0, H1, HO⟩
    set_option sl_exec.stopBefore "k0_part93" in sl_exec
    iapply (wp_even d L arg2 harg2 arg3 harg3 arg4 harg4 arg5 harg5 arg6 harg6 arg7 harg7 arg8 harg8 arg9 arg10 arg11 v217_r0 v3 v5 v7 v9 v11 v13 v15 v17 v82 v86 v90 v94 X hR hRe hse hw k0_hw1 t2 f8 _ hx)
    isplitl [H0]; · iexact H0
    isplitl [HO]; · iexact HO
    isplitl [H8]; · iexact H8
    iintro %y %g8 %v217 %v219 %v223 %v224 %v228 %v253 %hy Hc Hv HO H8
    obtain ⟨hy, rfl⟩ := hy
    set_option sl_exec.stopBefore "k0_part94" in sl_exec
    iapply (wp_mid d L arg2 harg2 arg3 harg3 arg4 harg4 arg5 harg5 arg6 harg6 arg7 harg7 arg8 harg8 arg9 arg10 arg11 v217_r0 v3 v5 v7 v9 v11 v13 v15 v17 v82 v86 v90 v94 X hR hRe hse hw k0_hw1 t2 hFX _ _ _ _ _ g8 y hy)
    isplitl [Hc Hv]
    · isplitl [Hc] <;> iassumption
    isplitl [H1]
    · unfold hold; iexact H1
    isplitl [HO]; · iexact HO
    isplitl [H8]; · iexact H8
    iintro %z %k8 %v271 %v272 %v276 %v293 %hz H0 H1 HO H8
    sl_exec
    unfold got
    obtain ⟨z0, z1, z2, z3, z4, z5, z6, z7, z8, z9, z10⟩ := z
    rcases Classical.em (2 * t2.val + 1 < nch R R') with h1 | h1
    · have e1 : B0 R t2 + sp R' (B0 R t2) = B1 R t2 := by simp only [nch, sp, B0, B1, cb] at *; omega
      have e2 : B1 R t2 + sp R' (B1 R t2) = min (R + 544 * (t2.val + 1)) R' := by simp only [nch, sp, B0, B1, cb] at *; omega
      rw [e1] at hz
      simp only [if_pos h1]
      sl_exec
      icases H1 with ⟨Hc, Hv⟩
      unfold chunkIn
      icases Hc with ⟨⟨%f6, %hf6, H6⟩, Hx⟩
      iapply (wp_grp1 d L arg2 harg2 arg3 harg3 arg4 harg4 arg5 harg5 arg6 harg6 arg7 harg7 arg8 harg8 arg9 arg10 arg11 v217_r0 v3 v5 v7 v9 v11 v13 v15 v17 v82 v86 v90 v94 X hR hRe hse hw k0_hw1 t2 _ _ _ _ f6 hf6 k8 _ hz _ _ _ _ ?hT)
      case hT => rfl
      isplitl [H6]; · iexact H6
      isplitl [H8]; · iexact H8
      iintro %y %g8 %hy H6 H8
      obtain ⟨y0, y1, y2, y3, y4, y5, y6, y7, y8, y9, y10⟩ := y
      sl_exec
      iapply (wp_skip (t8_trips hR hR' t2))
      sl_exec
      iapply (wp_tail1 d L arg2 harg2 arg3 harg3 arg4 harg4 arg5 harg5 arg6 harg6 arg7 harg7 arg8 harg8 arg9 arg10 arg11 v217_r0 v3 v5 v7 v9 v11 v13 v15 v17 v82 v86 v90 v94 X hR hRe hse hw k0_hw1 t2 _ _ _ f6 hf6 g8 _ hy _ _ _ _ ?hT)
      case hT => rfl
      isplitl [H6]; · iexact H6
      isplitl [H8]; · iexact H8
      iintro %u %i8 %hu H6 H8
      rw [e2] at hu
      obtain ⟨u0, u1, u2, u3, u4, u5, u6, u7, u8, u9, u10⟩ := u
      sl_exec
      iapply (wp_skip (t10_trips hR hR' t2))
      ihave HN := (no_of d L arg2 X (FX := FX) (q0 := q1) arg6 arg10 (cb (B1 R t2))) $$ [H6 Hx Hv]
      · unfold chunkIn
        isplitl [H6 Hx]
        · isplitl [H6]
          · iexists f6
            isplitr
            · ipureintro; exact hf6
            · iexact H6
          · iexact Hx
        · iexact Hv
      rcases Classical.em (2 * t2.val + 3 < nch R R') with h3 | h3
      · have hc := (cond33_iff hR hR' t2).mpr h3
        sl_exec
        iapply (wp_start hFX (cb (B1 R (t2 + 1))) _ _ (off40_eq hR hR' t2 h3))
        isplitl [HN]; · iexact HN
        iintro H1
        sl_exec
        dsimp only
        sl_step
        unfold hold
        isplitl [H8]
        · iexists i8
          isplitr
          · ipureintro
            exact hu
          · iexact H8
        isplitl [H0]
        · iexact H0
        isplitl [H1]
        · simp only [if_pos (show 2 * (t2.val + 1) + 1 < nch R R' by omega)]
          iexact H1
        iexact HO
      · have hc := (cond33_iff hR hR' t2).not.mpr h3
        sl_exec
        irename HN => H1
        sl_exec
        dsimp only
        sl_step
        unfold hold
        isplitl [H8]
        · iexists i8
          isplitr
          · ipureintro
            exact hu
          · iexact H8
        isplitl [H0]
        · iexact H0
        isplitl [H1]
        · simp only [if_neg (show ¬ 2 * (t2.val + 1) + 1 < nch R R' by omega)]
          iexact H1
        iexact HO
    · have e1 : B0 R t2 + sp R' (B0 R t2) = min (R + 544 * (t2.val + 1)) R' := by simp only [nch, sp, B0, B1, cb] at *; omega
      have e2 : sp R' (B1 R t2) = 0 := by simp only [nch, sp, B0, B1, cb] at *; omega
      rw [e1] at hz
      simp only [if_neg h1]
      have hc := (cond33_iff hR hR' t2).not.mpr (by omega)
      sl_exec
      iapply (wp_skip ((t7_trips hR hR' t2).trans (congrArg (· / 6) e2)))
      sl_exec
      iapply (wp_skip (t8_trips hR hR' t2))
      sl_exec
      iapply (wp_skip ((t9_trips hR hR' t2).trans (congrArg (· % 6) e2)))
      sl_exec
      iapply (wp_skip (t10_trips hR hR' t2))
      sl_exec
      dsimp only
      sl_step
      unfold hold
      isplitl [H8]
      · iexists k8
        isplitr
        · ipureintro
          exact hz
        · iexact H8
      isplitl [H0]
      · iexact H0
      isplitl [H1]
      · simp only [if_neg (show ¬ 2 * (t2.val + 1) + 1 < nch R R' by omega)]
        iexact H1
      iexact HO
  · iexact HI
  iintro %y HI
  rw [show Scf.trips (k0_t2_loop (W R') (W R)).lb (k0_t2_loop (W R') (W R)).ub (k0_t2_loop (W R') (W R)).st = (nch R R' + 1) / 2 from t2_trips hR hR']
  iapply HK $$ %y HI

end

end Cert.Proof

end
-- ==== Proof.Head.lean ====
module

public import proofs.«01_k».proof.Proof.Find
public import proofs.«01_k».proof.Proof.OutW
public import proofs.«01_k».proof.Proof.Chk1
public import proofs.«01_k».proof.Proof.Pair
public import proofs.«01_k».proof.Proof.Dma

@[expose] public section

set_option maxRecDepth 100000

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore (S V T)
open Idealize.ShloMosaic.SparseCore.Cfg (HIx Pay tileRest ownBufs ownSems0 ownCells ownRefs mem_ownCells mem_ownRefs)

variable {F : FTy → Type} [FloatOps F]

local notation "𝕄" => MT nD τ sig (HIx 1) (Elt F) ℕ UU ℕ

section

variable (d : Fin nD) (L : grid0.Coords)
  (arg2 : Memref sig .scVector .hbm S40908800 .f32) (harg2 : arg2.IsWhole) (arg3 : Memref sig .scVector .hbm S128 .f32) (harg3 : arg3.IsWhole) (arg4 : Memref sig .scVector .hbm S102400 .f32) (harg4 : arg4.IsWhole) (arg5 : Memref sig .scVector .vmem S34816 .f32) (harg5 : arg5.IsWhole) (arg6 : Memref sig .scVector .vmem S34816 .f32) (harg6 : arg6.IsWhole) (arg7 : Memref sig .scVector .vmem S128 .f32) (harg7 : arg7.IsWhole) (arg8 : Memref sig .scVector .vmem S19456 .f32) (harg8 : arg8.IsWhole) (arg9 : DmaSems sig S_) (arg10 : DmaSems sig S_) (arg11 : DmaSems sig S_) (v217_r0 : DmaSems sig S_)

/-- Block `j` of the weight vector's words. -/
def wvec (Wv : ℕ → F .f32) (j : ℕ) : FVec F S16 .f32 := fun i => Wv (16 * j + (i 0).val)

/-- The lanes whose number has a zero at the place of `k`. -/
def lane (k : BitVec 32) : IVec S16 1 :=
  cmpi .eq (andi (iota .scVector S16 32 [0] iota_S16_d0_w32_scVector) (broadcast S16 k)) (broadcast S16 0#32)

/-- A block loaded from the buffer that a copy of the weights has filled. -/
theorem wload {m : Memref sig .scVector .vmem S128 .f32} {Wv : ℕ → F .f32} {w : S128.Idx → Elt F .f32}
    (h : ∀ y : S128.Idx, w y = Wv (y 0).val) (j : ℕ) (off : Fin 1 → ℕ)
    (inb : ∀ a, off a + S16.size a ≤ S128.size a) (ho : off 0 = 16 * j) :
    shapeCast S16 (m.view.readCov [⟨Rect.whole S128, w⟩] (Rect.unit (s := S128) off S16.size inb).toLoadRect) shapeCasts_S16_S16 = wvec Wv j := by
  funext i
  refine (congrFun (shapeCast_id (s := S16) _ _) i).trans ?_
  have e : m.view.writes (Elt F) m.view.junk [⟨Rect.whole S128, w⟩] = m.view.write (Elt F) m.view.junk w Finset.univ :=
    (View.write_univ_eq_writes_whole m.view m.view.junk [] w).symm
  unfold View.readCov
  rw [e]
  refine (congrFun (View.read_write_univ (v := m.view) _ _) _).trans ?_
  refine (h _).trans ?_
  show Wv (off 0 + 1 * (i 0).val) = Wv (16 * j + (i 0).val)
  rw [ho, Nat.one_mul]

/-- A fold whose states are known. -/
theorem fold_known {σ : Type} {n : ℕ} (g : Fin n → σ → σ) (x : σ) (I : ℕ → σ) (h0 : x = I 0) (hs : ∀ k : Fin n, g k (I k.val) = I (k.val + 1)) :
    Scf.fold g x = I n := by
  rw [Scf.fold_eq, h0]
  have key : ∀ (l : List (Fin n)) (a : ℕ), (∀ i (hi : i < l.length), (l[i]).val = a + i) →
      l.foldl (fun acc k => g k acc) (I a) = I (a + l.length) := by
    intro l
    induction l with
    | nil => intro a _; rfl
    | cons k l ih =>
      intro a hl
      have hk : k.val = a := hl 0 (Nat.succ_pos _)
      rw [List.foldl_cons, show g k (I a) = I (a + 1) from hk ▸ hs k, ih (a + 1), List.length_cons, Nat.add_right_comm, Nat.add_assoc]
      intro i hi
      have := hl (i + 1) (Nat.succ_lt_succ hi)
      rw [List.getElem_cons_succ] at this
      omega
  have := key (List.finRange n) 0 (fun i hi => by simp)
  rwa [List.length_finRange, Nat.zero_add] at this

/-- The tile's number in the kernel's words. -/
theorem wid_word : Scalar.addi (Scalar.muli (BitVec.ofNat 32 (L 1).val) 2#32) (BitVec.ofNat 32 (L 0).val) = W (2 * (L 1).val + (L 0).val) := by
  rw [show (2#32 : BitVec 32) = W 2 from rfl, show BitVec.ofNat 32 (L 1).val = W (L 1).val from rfl, show BitVec.ofNat 32 (L 0).val = W (L 0).val from rfl,
    W_muli, W_addi, Nat.mul_comm]

theorem wid_lt : 2 * (L 1).val + (L 0).val < 32 := by
  have h0 : (L 0).val < 2 := (L 0).isLt
  have h1 : (L 1).val < 16 := (L 1).isLt
  omega

/-- The first row a tile looks for, as the kernel divides. -/
theorem fdiv32 {n : ℕ} (hn : n ≤ 32) :
    Scalar.select
      (Scalar.andi
        (Scalar.cmpi .ne
          (Scalar.subi (Scalar.extui (Scalar.cmpi .sgt (Scalar.muli (W n) 319600#32) 0#32) : BitVec 32) (Scalar.extui (Scalar.cmpi .slt (Scalar.muli (W n) 319600#32) 0#32)))
          (Scalar.subi (Scalar.extui (Scalar.cmpi .sgt 32#32 0#32) : BitVec 32) (Scalar.extui (Scalar.cmpi .slt 32#32 0#32))))
        (Scalar.cmpi .ne (Scalar.remsi (Scalar.muli (W n) 319600#32) 32#32) 0#32))
      (Scalar.subi (Scalar.divsi (Scalar.muli (W n) 319600#32) 32#32) 1#32)
      (Scalar.divsi (Scalar.muli (W n) 319600#32) 32#32) = W (tcut n) := by
  rw [show (319600#32 : BitVec 32) = W 319600 from rfl, W_muli, show (32#32 : BitVec 32) = W 32 from rfl]
  exact W_fdiv (by omega) (by omega) (by omega)

theorem tcut_word :
    Scalar.select
      (Scalar.andi
        (Scalar.cmpi .ne
          (Scalar.subi (Scalar.extui (Scalar.cmpi .sgt (Scalar.muli (Scalar.addi (Scalar.muli (BitVec.ofNat 32 (L 1).val) 2#32) (BitVec.ofNat 32 (L 0).val)) 319600#32) 0#32) : BitVec 32) (Scalar.extui (Scalar.cmpi .slt (Scalar.muli (Scalar.addi (Scalar.muli (BitVec.ofNat 32 (L 1).val) 2#32) (BitVec.ofNat 32 (L 0).val)) 319600#32) 0#32)))
          (Scalar.subi (Scalar.extui (Scalar.cmpi .sgt 32#32 0#32) : BitVec 32) (Scalar.extui (Scalar.cmpi .slt 32#32 0#32))))
        (Scalar.cmpi .ne (Scalar.remsi (Scalar.muli (Scalar.addi (Scalar.muli (BitVec.ofNat 32 (L 1).val) 2#32) (BitVec.ofNat 32 (L 0).val)) 319600#32) 32#32) 0#32))
      (Scalar.subi (Scalar.divsi (Scalar.muli (Scalar.addi (Scalar.muli (BitVec.ofNat 32 (L 1).val) 2#32) (BitVec.ofNat 32 (L 0).val)) 319600#32) 32#32) 1#32)
      (Scalar.divsi (Scalar.muli (Scalar.addi (Scalar.muli (BitVec.ofNat 32 (L 1).val) 2#32) (BitVec.ofNat 32 (L 0).val)) 319600#32) 32#32) = W (tcut (2 * (L 1).val + (L 0).val)) := by
  rw [wid_word L]
  exact fdiv32 (wid_lt L).le

set_option maxHeartbeats 4000000 in
/-- The weights' copy and its blocks. -/
theorem wp_weights (Wv : ℕ → F .f32) (FW : Buf (Elt F) (arg3.view.loc (VT d L))) (q : PosShare TreeShare)
    (hFW : ∀ y : S128.Idx, arg3.view.read (Elt F) FW y = Wv (y 0).val)
    {O : CellTallies nD τ sig (HIx 1)} {Wt : Waits sig (HIx 1)}
    {β : Type} (kk : (Σ' (_ _ _ _ _ _ _ _ : FVec F S16 .f32) (_ _ : BitVec 32), BitVec 32) → Prog (TpuEff nD τ sig (Elt F) Λ₀ (.scVector ((L 0).castLE hcore0) ((L 1).castLE hsub0))) β) (Q : β → sProp 𝕄) :
    (iprop((arg3.view.loc (VT d L) ↦[arg3.view.set]{q} FW) ∗ (∃ f7 : Buf (Elt F) (arg7.view.loc (VT d L)), (arg7.view.loc (VT d L) ↦[arg7.view.set]{fullShare} f7))
        ∗ semVal (VT d L, .dma v217_r0.sem) 0 ∗ owing d L O Wt
        ∗ ((arg3.view.loc (VT d L) ↦[arg3.view.set]{q} FW) -∗ (∃ f7 : Buf (Elt F) (arg7.view.loc (VT d L)), (arg7.view.loc (VT d L) ↦[arg7.view.set]{fullShare} f7))
            -∗ semVal (VT d L, .dma v217_r0.sem) 0 -∗ owing d L O Wt -∗
            wp frame (wpE (defs₀ (F := F)) 𝒱₀ (VT d L) none) Set.univ (kk ⟨wvec Wv 0, wvec Wv 1, wvec Wv 2, wvec Wv 3, wvec Wv 4, wvec Wv 5, wvec Wv 6, wvec Wv 7,
              W (tcut (2 * (L 1).val + (L 0).val)), W (2 * (L 1).val + (L 0).val + 1), 319600#32⟩) Q))
      ⊢ wp frame (wpE (defs₀ (F := F)) 𝒱₀ (VT d L) none) Set.univ (k0_part193 L arg2 harg2 arg3 harg3 arg4 harg4 arg5 harg5 arg6 harg6 arg7 harg7 arg8 harg8 arg9 arg10 arg11 v217_r0 >>= kk) Q) := by
  unfold owing
  iintro ⟨H3, ⟨%f7, H7⟩, Hv, ⟨#Hmw, %W', %hW', HO⟩, HK⟩
  sl_exec
  rw [show wp_weights.sl.v3 d L arg3 arg7 FW = wvec Wv 0 from wload hFW 0 _ _ rfl, show wp_weights.sl.v5 d L arg3 arg7 FW = wvec Wv 1 from wload hFW 1 _ _ rfl,
    show wp_weights.sl.v7 d L arg3 arg7 FW = wvec Wv 2 from wload hFW 2 _ _ rfl, show wp_weights.sl.v9 d L arg3 arg7 FW = wvec Wv 3 from wload hFW 3 _ _ rfl,
    show wp_weights.sl.v11 d L arg3 arg7 FW = wvec Wv 4 from wload hFW 4 _ _ rfl, show wp_weights.sl.v13 d L arg3 arg7 FW = wvec Wv 5 from wload hFW 5 _ _ rfl,
    show wp_weights.sl.v15 d L arg3 arg7 FW = wvec Wv 6 from wload hFW 6 _ _ rfl, show wp_weights.sl.v17 d L arg3 arg7 FW = wvec Wv 7 from wload hFW 7 _ _ rfl,
    show wp_weights.sl.v36 L = W (2 * (L 1).val + (L 0).val + 1) from by
      show Scalar.addi (Scalar.addi (Scalar.muli (BitVec.ofNat 32 (L 1).val) 2#32) (BitVec.ofNat 32 (L 0).val)) 1#32 = _
      rw [wid_word L, show (1#32 : BitVec 32) = W 1 from rfl, W_addi],
    show wp_weights.sl.v35 L = W (tcut (2 * (L 1).val + (L 0).val)) from tcut_word L]
  iapply HK $$ H3 [H7] Hv [HO]
  · iexists _
    iexact H7
  · isplitr
    · iexact Hmw
    iexists _
    isplitr
    swap
    · iexact HO
    · ipureintro
      intro p hp
      rcases Finset.mem_insert.mp hp with hp | hp
      · exact .inr (by rw [hp]; rfl)
      · exact hW' p hp

/-- The number of chunks, as the kernel divides. -/
theorem chunks_word {R R' : ℕ} (hR : R ≤ R') (hR' : R' ≤ 319600) :
    Scalar.select
      (Scalar.andi
        (Scalar.cmpi .ne
          (Scalar.subi (Scalar.extui (Scalar.cmpi .sgt (Scalar.subi (Scalar.addi (Scalar.subi (W R') (W R)) 272#32) 1#32) 0#32) : BitVec 32) (Scalar.extui (Scalar.cmpi .slt (Scalar.subi (Scalar.addi (Scalar.subi (W R') (W R)) 272#32) 1#32) 0#32)))
          (Scalar.subi (Scalar.extui (Scalar.cmpi .sgt 272#32 0#32) : BitVec 32) (Scalar.extui (Scalar.cmpi .slt 272#32 0#32))))
        (Scalar.cmpi .ne (Scalar.remsi (Scalar.subi (Scalar.addi (Scalar.subi (W R') (W R)) 272#32) 1#32) 272#32) 0#32))
      (Scalar.subi (Scalar.divsi (Scalar.subi (Scalar.addi (Scalar.subi (W R') (W R)) 272#32) 1#32) 272#32) 1#32)
      (Scalar.divsi (Scalar.subi (Scalar.addi (Scalar.subi (W R') (W R)) 272#32) 1#32) 272#32) = W (nch R R') := by
  have e : Scalar.subi (Scalar.addi (Scalar.subi (W R') (W R)) 272#32) 1#32 = W (R' - R + 271) := by
    rw [W_subi hR, show (272#32 : BitVec 32) = W 272 from rfl, W_addi, show (1#32 : BitVec 32) = W 1 from rfl, W_subi (by omega)]
    rfl
  rw [e, show (272#32 : BitVec 32) = W 272 from rfl]
  exact W_fdiv (by omega) (by omega) (by omega)

set_option maxHeartbeats 4000000 in
/-- The tile's segments and rows. -/
theorem wp_bounds (n : ℕ) (hn : n < 32) {β : Type}
    (kk : (Σ' (v56_0 : BitVec 32) (v56_1 : BitVec 32) (v56_2 : BitVec 32) (v56_3 : BitVec 32) (_ : k0_chk59 v56_0 v56_2) (_ : k0_chk1 v56_3 v56_1) (_ : BitVec 32) (_ : BitVec 1), BitVec 32) → Prog (TpuEff nD τ sig (Elt F) Λ₀ (.scVector ((L 0).castLE hcore0) ((L 1).castLE hsub0))) β) (Q : β → sProp 𝕄) :
    (iprop((∀ hw59, ∀ hw1, ∀ v60 : BitVec 32, ∀ v71 : BitVec 1, ∀ v72 : BitVec 32,
          ⌜Scalar.select (Scalar.andi v71 (Scalar.cmpi .ne v72 0#32)) (Scalar.subi v60 1#32) v60 = W (nch (o (cut n)) (o (cut (n + 1))))⌝ -∗
            wp frame (wpE (defs₀ (F := F)) 𝒱₀ (VT d L) none) Set.univ (kk ⟨W (cut n), W (o (cut n)), W (cut (n + 1)), W (o (cut (n + 1))), hw59, hw1, v60, v71, v72⟩) Q))
      ⊢ wp frame (wpE (defs₀ (F := F)) 𝒱₀ (VT d L) none) Set.univ (k0_part194 L arg2 harg2 arg3 harg3 arg4 harg4 arg5 harg5 arg6 harg6 arg7 harg7 arg8 harg8 arg9 arg10 arg11 v217_r0 (W (tcut n)) (W (n + 1)) 319600#32 >>= kk) Q) := by
  have hsb := cut_succ hn
  have hse := cut_le (n + 1)
  have hw := cut_width hn
  have hR := o_mono hsb.le
  have hR' := o_le hse
  have hw59 := chk59 hsb hse hw
  have hw1 := chk1 hR hR'
  iintro HK
  sl_exec
  have hr : wp_bounds.sl.r n = (W (cut n), W (o (cut n)), W (cut (n + 1)), W (o (cut (n + 1)))) := by
    have hv : wp_bounds.sl.v54 n = W (tcut (n + 1)) := fdiv32 (show n + 1 ≤ 32 by omega)
    unfold wp_bounds.sl.r
    rw [hv]
    refine (fold_known _ _ (fun k => (W (seg (tcut n) k), W (o (seg (tcut n) k)), W (seg (tcut (n + 1)) k), W (o (seg (tcut (n + 1)) k)))) ?_ ?_).trans ?_
    · have hs : ∀ T, seg T 0 = 0 := fun T => by rw [seg]
      simp only [hs]
      rfl
    · intro k
      have ht : k.val < 800 := lt_of_lt_of_eq k.isLt t1_trips
      obtain ⟨a1, a2⟩ := find_step (T := tcut n) (k := k.val) (by simp only [tcut]; omega) ht
      obtain ⟨b1, b2⟩ := find_step (T := tcut (n + 1)) (k := k.val) (by simp only [tcut]; omega) ht
      simp only []
      rw [a1, a2, b1, b2]
    · rw [t1_trips]
      rfl
  generalize wp_bounds.sl.r n = r at *
  subst hr
  sl_exec
  iapply HK $$ %hw59 %hw1 %_ %_ %_ %(chunks_word hR hR')

set_option maxHeartbeats 4000000 in
/-- The first two chunks' transfers. -/
theorem wp_prep {sb R R' : ℕ} (hRR : R < R') (hR' : R' ≤ 319600) (hsb : sb ≤ 800) (hw1 : k0_chk1 (W R') (W R)) (v60 : BitVec 32) (v71 : BitVec 1) (v72 : BitVec 32)
    (hv : Scalar.select (Scalar.andi v71 (Scalar.cmpi .ne v72 0#32)) (Scalar.subi v60 1#32) v60 = W (nch R R'))
    (X : ℕ → F .f32) {FX : Buf (Elt F) (arg2.view.loc (VT d L))} (hFX : FeatOK d L arg2 X FX) {q0 q1 : PosShare TreeShare}
    {β : Type} (kk : (Σ' (_ : BitVec 32) (_ : FVec F S16 .f32) (_ _ _ _ : IVec S16 1) (_ _ _ _ _ : BitVec 32), BitVec 32) → Prog (TpuEff nD τ sig (Elt F) Λ₀ (.scVector ((L 0).castLE hcore0) ((L 1).castLE hsub0))) β) (Q : β → sProp 𝕄) :
    (iprop(chunkNo d L arg2 arg5 arg9 FX q0 ∗ chunkNo d L arg2 arg6 arg10 FX q1
        ∗ (∀ v102 : BitVec 32, ∀ c2 : BitVec 32, ∀ v103 : BitVec 32, ∀ v108 : BitVec 32, ∀ v110 : BitVec 32,
            hold d L arg2 X arg5 arg9 FX q0 (2 * 0 < nch R R') (cb (B0 R 0)) -∗ hold d L arg2 X arg6 arg10 FX q1 (2 * 0 + 1 < nch R R') (cb (B1 R 0)) -∗
            wp frame (wpE (defs₀ (F := F)) 𝒱₀ (VT d L) none) Set.univ (kk ⟨W (nch R R'), zv, lane 1#32, lane 2#32, lane 4#32, lane 8#32, W (R + sb), v102, c2, v103, v108, v110⟩) Q))
      ⊢ wp frame (wpE (defs₀ (F := F)) 𝒱₀ (VT d L) none) Set.univ (k0_part195 L arg2 harg2 arg3 harg3 arg4 harg4 arg5 harg5 arg6 harg6 arg7 harg7 arg8 harg8 arg9 arg10 arg11 v217_r0 (W sb) (W R) (W R') hw1 v60 v71 v72 >>= kk) Q) := by
  have hn : 2 * 0 < nch R R' := by simp only [nch]; omega
  have hc1 : k0_cond1 (W R') (W R) = 1#1 := (cond1_iff hRR.le hR').2 (by omega)
  iintro ⟨H0, H1, HK⟩
  sl_exec
  iapply (wp_start hFX (cb R) _ _ (off1_eq hR' (by omega)))
  isplitl [H0]; · iexact H0
  iintro H0
  by_cases h2 : 1 < nch R R'
  · have hc2 : k0_cond2 (W R') (W R) = 1#1 := (cond2_iff hRR.le hR').2 h2
    sl_exec
    iapply (wp_start hFX (cb (R + 272)) _ _ (off2_eq hR' (by omega)))
    isplitl [H1]; · iexact H1
    iintro H1
    sl_exec
    rw [show wp_prep.sl.v76 v60 v71 v72 = W (nch R R') from hv, show wp_prep.sl.v95 (sb := sb) (R := R) = W (R + sb) from W_addi _ _]
    iapply HK $$ %_ %_ %_ %_ %_ [H0] [H1]
    · unfold hold
      simp only [if_pos hn]
      iexact H0
    · unfold hold
      simp only [if_pos (show 2 * 0 + 1 < nch R R' from h2)]
      iexact H1
  · have hc2 : ¬ k0_cond2 (W R') (W R) = 1#1 := fun h => h2 ((cond2_iff hRR.le hR').1 h)
    sl_exec
    rw [show wp_prep.sl.v76 v60 v71 v72 = W (nch R R') from hv, show wp_prep.sl.v95 (sb := sb) (R := R) = W (R + sb) from W_addi _ _]
    iapply HK $$ %_ %_ %_ %_ %_ [H0] [H1]
    · unfold hold
      simp only [if_pos hn]
      iexact H0
    · unfold hold
      simp only [if_neg (show ¬ 2 * 0 + 1 < nch R R' from h2)]
      iexact H1

end

end Cert.Proof

end
-- ==== Proof.Out.lean ====
/-
  The copies of the finished rows, one conditional copy and one conditional wait at a time.
-/
module

public import proofs.«01_k».proof.Proof.OutW
public import proofs.«01_k».proof.Proof.Dma
public import proofs.«01_k».proof.Proof.Dma

@[expose] public section

set_option maxRecDepth 100000

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore (S V T)
open Idealize.ShloMosaic.SparseCore.Cfg (HIx Pay tileRest ownBufs ownSems0 ownCells ownRefs mem_ownCells mem_ownRefs)

variable {F : FTy → Type} [FloatOps F]

local notation "𝕄" => MT nD τ sig (HIx 1) (Elt F) ℕ UU ℕ

section

variable (d : Fin nD) (L : grid0.Coords) (arg4 : Memref sig .scVector .hbm S102400 .f32) (arg8 : Memref sig .scVector .vmem S19456 .f32)
  (arg11 : DmaSems sig S_)

/-- The words of row `r` of the output buffer. -/
def row8 (r : ℕ) : Finset (Idx (arg8.view.loc (VT d L))) :=
  (Finset.univ.filter fun y : S19456.Idx => (y 0).val / 128 = r).map arg8.view.emb

/-- The words of row `r` of the result. -/
def row4 (r : ℕ) : Finset (Idx (arg4.view.loc (VT d L))) :=
  (Finset.univ.filter fun y : S102400.Idx => (y 0).val / 128 = r).map arg4.view.emb

variable {d L arg4 arg8 arg11}

/-- The indices of a row of 128 words. -/
theorem row_set {N : ℕ} (r : ℕ) (off : Fin 1 → ℕ) (sz : Fin 1 → ℕ) (inb : ∀ a, off a + sz a ≤ (⟨1, ![N]⟩ : Shape).size a) (h : off 0 = r * 128) (hs : sz 0 = 128) :
    (Rect.unit (s := ⟨1, ![N]⟩) off sz inb).set = Finset.univ.filter fun y : (⟨1, ![N]⟩ : Shape).Idx => (y 0).val / 128 = r := by
  ext y
  rw [Rect.mem_set_unit, Finset.mem_filter]
  constructor
  · intro hy
    have := hy 0
    rw [h, hs] at this
    exact ⟨Finset.mem_univ _, by omega⟩
  · rintro ⟨-, hy⟩ a
    obtain rfl : a = 0 := Subsingleton.elim _ _
    rw [h, hs]
    omega

theorem row8_slice (r : ℕ) (off : Fin 1 → ℕ) (inb) (hsl) (h : off 0 = r * 128) :
    (arg8.slice (Rect.unit (s := S19456) off S128.size inb) hsl).view.set = row8 d L arg8 r :=
  (View.set_slice arg8.view _).trans (congrArg (Finset.map arg8.view.emb) (row_set r off S128.size inb h rfl))

theorem row4_slice (r : ℕ) (off : Fin 1 → ℕ) (inb) (hsl) (h : off 0 = r * 128) :
    (arg4.slice (Rect.unit (s := S102400) off S128.size inb) hsl).view.set = row4 d L arg4 r :=
  (View.set_slice arg4.view _).trans (congrArg (Finset.map arg4.view.emb) (row_set r off S128.size inb h rfl))

/-- The output buffer is its rows. -/
theorem rows8 (f : Buf (Elt F) (arg8.view.loc (VT d L))) :
    (iprop(arg8.view.loc (VT d L) ↦[arg8.view.set]{fullShare} f) : sProp 𝕄)
      = bigSep (Finset.range 152) fun r => iprop(arg8.view.loc (VT d L) ↦[row8 d L arg8 r]{fullShare} f) := by
  have hd : ∀ a ∈ Finset.range 152, ∀ b ∈ Finset.range 152, a ≠ b → Disjoint (row8 d L arg8 a) (row8 d L arg8 b) := by
    intro a _ b _ hab
    refine Finset.disjoint_left.mpr fun i hi hj => hab ?_
    obtain ⟨y, hy, rfl⟩ := Finset.mem_map.mp hi
    obtain ⟨z, hz, e⟩ := Finset.mem_map.mp hj
    obtain rfl := arg8.view.emb.injective e
    exact (Finset.mem_filter.mp hy).2.symm.trans (Finset.mem_filter.mp hz).2
  have hs : arg8.view.set = (Finset.range 152).biUnion (row8 d L arg8) := by
    ext i
    constructor
    · intro hi
      obtain ⟨y, -, rfl⟩ := Finset.mem_map.mp hi
      have hy : (y 0).val < 19456 := (y 0).isLt
      exact Finset.mem_biUnion.mpr ⟨(y 0).val / 128, Finset.mem_range.mpr (by omega), Finset.mem_map_of_mem _ (Finset.mem_filter.mpr ⟨Finset.mem_univ _, rfl⟩)⟩
    · intro hi
      obtain ⟨r, -, hr⟩ := Finset.mem_biUnion.mp hi
      obtain ⟨y, -, rfl⟩ := Finset.mem_map.mp hr
      exact Finset.mem_map_of_mem _ (Finset.mem_univ _)
  exact (congrArg (fun K => (iprop(arg8.view.loc (VT d L) ↦[K]{fullShare} f) : sProp 𝕄)) hs).trans (pointsTo_biUnion _ _ hd)

variable (d L arg4 arg8 arg11)

/-- A row not yet copied out: the finished words, and the result's row, whatever it holds. -/
def rowTodo (f8 : Buf (Elt F) (arg8.view.loc (VT d L))) (sb r : ℕ) : sProp 𝕄 :=
  iprop((arg8.view.loc (VT d L) ↦[row8 d L arg8 r]{fullShare} f8)
    ∗ ∃ g : Buf (Elt F) (arg4.view.loc (VT d L)), arg4.view.loc (VT d L) ↦[row4 d L arg4 (sb + r)]{fullShare} g)

/-- A row copied out. -/
def rowDone (f8 : Buf (Elt F) (arg8.view.loc (VT d L))) (G : Buf (Elt F) (arg4.view.loc (VT d L))) (sb r : ℕ) : sProp 𝕄 :=
  iprop((arg4.view.loc (VT d L) ↦[row4 d L arg4 (sb + r)]{fullShare} G) ∗ (arg8.view.loc (VT d L) ↦[row8 d L arg8 r]{fullShare} f8))

instance rowDone_storable (f8 : Buf (Elt F) (arg8.view.loc (VT d L))) (G : Buf (Elt F) (arg4.view.loc (VT d L))) (sb r : ℕ) :
    Storable (upEmb : UEmb _ 𝕄) (rowDone d L arg4 arg8 f8 G sb r) := by
  unfold rowDone; infer_instance

theorem ico_head {a n : ℕ} (h : a < n) : Finset.Ico a n = insert a (Finset.Ico (a + 1) n) := by
  ext i
  simp only [Finset.mem_insert, Finset.mem_Ico]
  omega

/-- How many of the rows the block `b` copies. -/
abbrev cnt (n b : ℕ) : ℕ := min 8 (n - 8 * b)

/-- What one row's copy counts. -/
def rowAmt : ℕ := (arg4.slice (Rect.unit (s := S102400) ![0] S128.size (obr (n := 0) rfl (by norm_num))) (fun _ => rfl)).view.amount (.dma arg11.sem)

/-- The rows of block `b`, as the batch delivers them. -/
def blkDone (f8 : Buf (Elt F) (arg8.view.loc (VT d L))) (G : Buf (Elt F) (arg4.view.loc (VT d L))) (sb n b : ℕ) : Fin (cnt n b) → sProp 𝕄 :=
  fun t => rowDone d L arg4 arg8 f8 G sb (8 * b + t.val)

instance blkDone_storable (f8 : Buf (Elt F) (arg8.view.loc (VT d L))) (G : Buf (Elt F) (arg4.view.loc (VT d L))) (sb n b : ℕ) (t) :
    Storable (upEmb : UEmb _ 𝕄) (blkDone d L arg4 arg8 f8 G sb n b t) := by
  unfold blkDone; infer_instance

/-- Block `b` after `j` of its copies were considered. -/
def outIssue (f8 : Buf (Elt F) (arg8.view.loc (VT d L))) (G : Buf (Elt F) (arg4.view.loc (VT d L))) (sb n b j : ℕ) : sProp 𝕄 :=
  iprop(Transfers.Batch EC (VT d L) (.dma arg11.sem) (none : HIx 1) (rowAmt arg4 arg11) (blkDone d L arg4 arg8 f8 G sb n b) (min j (cnt n b)) 0
    ∗ bigSep (Finset.Ico (8 * b + min j (cnt n b)) n) (rowTodo d L arg4 arg8 f8 sb))

/-- Block `b` after `j` of its waits were considered. -/
def outDrain (f8 : Buf (Elt F) (arg8.view.loc (VT d L))) (G : Buf (Elt F) (arg4.view.loc (VT d L))) (sb n b j : ℕ) : sProp 𝕄 :=
  if j < cnt n b then
    Transfers.Batch EC (VT d L) (.dma arg11.sem) (none : HIx 1) (rowAmt arg4 arg11) (blkDone d L arg4 arg8 f8 G sb n b) (cnt n b) (j * rowAmt arg4 arg11)
  else iprop(bigSep Finset.univ (blkDone d L arg4 arg8 f8 G sb n b) ∗ semVal (VT d L, .dma arg11.sem) 0)

variable {d L arg4 arg8 arg11}
variable {f8 : Buf (Elt F) (arg8.view.loc (VT d L))} {G : Buf (Elt F) (arg4.view.loc (VT d L))} {sb n : ℕ}
  (hG : ∀ (y : S19456.Idx) (z : S102400.Idx), (y 0).val < n * 128 → (z 0).val = sb * 128 + (y 0).val → arg8.view.read (Elt F) f8 y = arg4.view.read (Elt F) G z)

include hG in
/-- What a row's copy leaves is the row. -/
theorem row_of (r : ℕ) (hr : r < n) (offs offd : Fin 1 → ℕ) (inbs inbd hs hd) (ho : offs 0 = r * 128) (hod : offd 0 = (sb + r) * 128)
    (fd : Buf (Elt F) (arg4.view.loc (VT d L))) :
    iprop(((arg4.slice (Rect.unit (s := S102400) offd S128.size inbd) hd).view.loc (VT d L)
          ↦[(arg4.slice (Rect.unit (s := S102400) offd S128.size inbd) hd).view.set]{fullShare}
            (arg4.slice (Rect.unit (s := S102400) offd S128.size inbd) hd).view.write (Elt F) fd
              (ReadAs.same.apply (View.read (Elt F) (arg8.slice (Rect.unit (s := S19456) offs S128.size inbs) hs).view f8)) Finset.univ)
        ∗ ((arg8.slice (Rect.unit (s := S19456) offs S128.size inbs) hs).view.loc (VT d L)
            ↦[(arg8.slice (Rect.unit (s := S19456) offs S128.size inbs) hs).view.set]{fullShare} f8))
      ⊢ rowDone d L arg4 arg8 f8 G sb r := by
  unfold rowDone
  rw [← row8_slice (d := d) (L := L) r offs inbs hs ho, ← row4_slice (d := d) (L := L) (sb + r) offd inbd hd hod]
  rw [pointsTo_congr (g := G) (fun i hi => by
    obtain ⟨x, -, rfl⟩ := Finset.mem_map.mp hi
    have h1 : (arg4.slice (Rect.unit (s := S102400) offd S128.size inbd) hd).view.read (Elt F)
        ((arg4.slice (Rect.unit (s := S102400) offd S128.size inbd) hd).view.write (Elt F) fd
              (ReadAs.same.apply (View.read (Elt F) (arg8.slice (Rect.unit (s := S19456) offs S128.size inbs) hs).view f8)) Finset.univ) x
        = (arg4.slice (Rect.unit (s := S102400) offd S128.size inbd) hd).view.read (Elt F) G x := by
      rw [View.read_write_univ]
      refine hG ((Rect.unit (s := S19456) offs S128.size inbs).emb x) ((Rect.unit (s := S102400) offd S128.size inbd).emb x) ?_ ?_
      · show offs 0 + 1 * (x 0).val < _
        have : (x 0).val < 128 := (x 0).isLt
        omega
      · show offd 0 + 1 * (x 0).val = _ + (offs 0 + 1 * (x 0).val)
        omega
    rw [View.read_apply, View.read_apply] at h1
    exact (cast_inj _).mp h1)]

include hG in
/-- One conditional copy of a row. -/
theorem wp_issue (b j : ℕ) (hj : j < 8) (offs offd : Fin 1 → ℕ) (c : BitVec 1) (hc : c = 1#1 ↔ 8 * b + j < n)
    (ho : offs 0 = (8 * b + j) * 128) (hod : offd 0 = (sb + (8 * b + j)) * 128)
    (inbs : c = 1#1 → ∀ a, offs a + S128.size a ≤ S19456.size a) (inbd : c = 1#1 → ∀ a, offd a + S128.size a ≤ S102400.size a)
    {β : Type} (kk : Prog (TpuEff nD τ sig (Elt F) Λ₀ (.scVector ((L 0).castLE hcore0) ((L 1).castLE hsub0))) β)
    (Q : β → sProp 𝕄)
    (T : c = 1#1 → Prog (TpuEff nD τ sig (Elt F) Λ₀ (.scVector ((L 0).castLE hcore0) ((L 1).castLE hsub0))) β)
    (E : ¬ c = 1#1 → Prog (TpuEff nD τ sig (Elt F) Λ₀ (.scVector ((L 0).castLE hcore0) ((L 1).castLE hsub0))) β)
    (hE : E = fun _ => kk)
    (hT : T = fun h => .op (.enqueueDma (arg8.slice (Rect.unit (s := S19456) offs S128.size (inbs h)) (fun _ => rfl))
        (.here (arg4.slice (Rect.unit (s := S102400) offd S128.size (inbd h)) (fun _ => rfl))) (.dma arg11.sem)
        (View.wordExact_bits rfl) (View.wordExact_bits rfl) ⟨Or.inl rfl, trivial⟩) fun _ => kk) :
    iprop(outIssue d L arg4 arg8 arg11 f8 G sb n b j ∗ (outIssue d L arg4 arg8 arg11 f8 G sb n b (j + 1) -∗
        wp frame (wpE (defs₀ (F := F)) 𝒱₀ (VT d L) none) Set.univ kk Q))
      ⊢ wp frame (wpE (defs₀ (F := F)) 𝒱₀ (VT d L) none) Set.univ (dite (c = 1#1) T E) Q := by
  subst hE hT
  iintro ⟨HI, HK⟩
  by_cases h : c = 1#1
  · have hn := hc.mp h
    have hlt : j < cnt n b := by simp only [cnt]; omega
    have e1 : min j (cnt n b) = j := by omega
    have e2 : min (j + 1) (cnt n b) = j + 1 := by omega
    rw [dif_pos h]
    unfold outIssue
    rw [e1, e2, ico_head hn, SparseCore.bigSep_insert' (by simp), show 8 * b + (j + 1) = 8 * b + j + 1 from rfl]
    unfold rowTodo
    icases HI with ⟨HB, ⟨H8, %g, H4⟩, HR⟩
    rw [← row8_slice (d := d) (L := L) (8 * b + j) offs (inbs h) (fun _ => rfl) ho, ← row4_slice (d := d) (L := L) (sb + (8 * b + j)) offd (inbd h) (fun _ => rfl) hod]
    iapply (Transfers.wp_dmaBatch EC 𝒱₀ (VT d L) none (src := arg8.slice (Rect.unit (s := S19456) offs S128.size (inbs h)) (fun _ => rfl))
      (dst := arg4.slice (Rect.unit (s := S102400) offd S128.size (inbd h)) (fun _ => rfl)) (sm := .dma arg11.sem) (D := blkDone d L arg4 arg8 f8 G sb n b) (fs := f8) (fd := g) (q := fullShare) (none : HIx 1) (rowAmt arg4 arg11) rfl subset_rfl hlt (Nat.zero_le _)
      (row_of hG (8 * b + j) hn offs offd (inbs h) (inbd h) (fun _ => rfl) (fun _ => rfl) ho hod g)) $$ [H8 H4 HB]
    · isplitl [H8]; · iexact H8
      isplitl [H4]; · iexact H4
      iexact HB
    iintro HB
    iapply HK
    isplitl [HB]
    · iexact HB
    · iexact HR
  · have hn : ¬ 8 * b + j < n := fun hh => h (hc.mpr hh)
    have e1 : min (j + 1) (cnt n b) = min j (cnt n b) := by simp only [cnt]; omega
    rw [dif_neg h]
    unfold outIssue
    rw [e1]
    iapply HK
    iexact HI

/-- One conditional wait for a row. -/
theorem wp_drain (b j : ℕ) (hj : j < 8) (offd : Fin 1 → ℕ) (c : BitVec 1) (hc : c = 1#1 ↔ 8 * b + j < n) (O : CellTallies nD τ sig (HIx 1)) (Wt : Waits sig (HIx 1))
    (inbd : c = 1#1 → ∀ a, offd a + S128.size a ≤ S102400.size a)
    {β : Type} (kk : Prog (TpuEff nD τ sig (Elt F) Λ₀ (.scVector ((L 0).castLE hcore0) ((L 1).castLE hsub0))) β)
    (Q : β → sProp 𝕄)
    (T : c = 1#1 → Prog (TpuEff nD τ sig (Elt F) Λ₀ (.scVector ((L 0).castLE hcore0) ((L 1).castLE hsub0))) β)
    (E : ¬ c = 1#1 → Prog (TpuEff nD τ sig (Elt F) Λ₀ (.scVector ((L 0).castLE hcore0) ((L 1).castLE hsub0))) β)
    (hE : E = fun _ => kk)
    (hT : T = fun h => .op (.waitDma2 arg11.sem (arg8.slice (Rect.unit (s := S19456) ![0] S128.size inb_S19456_S128_0) (fun _ => rfl))
        (arg4.slice (Rect.unit (s := S102400) offd S128.size (inbd h)) (fun _ => rfl)) (View.wordExact_bits rfl) (View.wordExact_bits rfl)) fun _ => kk) :
    iprop(outDrain d L arg4 arg8 arg11 f8 G sb n b j ∗ owing d L O Wt ∗ (outDrain d L arg4 arg8 arg11 f8 G sb n b (j + 1) -∗ owing d L O Wt -∗
        wp frame (wpE (defs₀ (F := F)) 𝒱₀ (VT d L) none) Set.univ kk Q))
      ⊢ wp frame (wpE (defs₀ (F := F)) 𝒱₀ (VT d L) none) Set.univ (dite (c = 1#1) T E) Q := by
  subst hE hT
  unfold owing
  iintro ⟨HI, ⟨#Hmw, %W', %hW', HO⟩, HK⟩
  have hW'' : ∀ p ∈ insert (SemLoc.dma arg11.sem, (none : HIx 1)) W', p ∈ Wt ∨ p.2 = none := by
    intro p hp
    rcases Finset.mem_insert.mp hp with hp | hp
    · exact .inr (by rw [hp])
    · exact hW' p hp
  have hpos : 0 < rowAmt arg4 arg11 := by
    unfold rowAmt
    exact View.amount_pos _ _ (show 0 < S128.numel by decide)
  by_cases h : c = 1#1
  · have hn := hc.mp h
    have hlt : j < cnt n b := by simp only [cnt]; omega
    rw [dif_pos h]
    unfold outDrain
    simp only [if_pos hlt]
    by_cases hl : j + 1 < cnt n b
    · rw [if_pos hl]
      iapply (Transfers.wp_waitBatchO EC 𝒱₀ (VT d L) none (D := blkDone d L arg4 arg8 f8 G sb n b) (u := j * rowAmt arg4 arg11) (dstw := arg4.slice (Rect.unit (s := S102400) offd S128.size (inbd h)) (fun _ => rfl)) (none : HIx 1) (N := rowAmt arg4 arg11) rfl
        (by rw [← Nat.succ_mul, Nat.mul_comm]; exact Nat.mul_lt_mul_of_pos_left hl hpos)) $$ [HI HO]
      · isplitl [HI]; · iexact HI
        isplitl [HO]; · iexact HO
        iapply (Transfers.MayWaits.elim (.dma arg11.sem)) $$ Hmw
      iintro ⟨HB, HO⟩
      rw [← Nat.succ_mul]
      iapply HK $$ HB
      isplitr
      · iexact Hmw
      iexists _
      isplitr
      · ipureintro; exact hW''
      · iexact HO
    · rw [if_neg hl]
      iapply (Transfers.wp_waitBatchLastO EC 𝒱₀ (VT d L) none (D := blkDone d L arg4 arg8 f8 G sb n b) (u := j * rowAmt arg4 arg11) (dstw := arg4.slice (Rect.unit (s := S102400) offd S128.size (inbd h)) (fun _ => rfl)) (none : HIx 1) (N := rowAmt arg4 arg11) rfl hpos
        (by have e : cnt n b = j + 1 := by omega
            rw [e, ← Nat.succ_mul, Nat.mul_comm])) $$ [HI HO]
      · isplitl [HI]; · iexact HI
        isplitl [HO]; · iexact HO
        iapply (Transfers.MayWaits.elim (.dma arg11.sem)) $$ Hmw
      iintro ⟨HB, Hv, HO⟩
      iapply HK $$ [HB Hv]
      · isplitl [HB]
        · iexact HB
        · iexact Hv
      isplitr
      · iexact Hmw
      iexists _
      isplitr
      · ipureintro; exact hW''
      · iexact HO
  · have hn : ¬ 8 * b + j < n := fun hh => h (hc.mpr hh)
    have hlt : ¬ j < cnt n b := by simp only [cnt]; omega
    have hlt' : ¬ j + 1 < cnt n b := by simp only [cnt]; omega
    rw [dif_neg h]
    unfold outDrain
    simp only [if_neg hlt, if_neg hlt']
    iapply HK $$ HI
    isplitr
    · iexact Hmw
    iexists W'
    isplitr
    · ipureintro; exact hW'
    · iexact HO

end

end Cert.Proof

end
-- ==== Proof.OutLoop.lean ====
/-
  The loop that copies the finished rows out, block by block.
-/
module

public import proofs.«01_k».proof.Proof.Out
public import proofs.«01_k».proof.Proof.Dma

@[expose] public section

set_option maxRecDepth 100000

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore (S V T)
open Idealize.ShloMosaic.SparseCore.Cfg (HIx Pay tileRest ownBufs ownSems0 ownCells ownRefs mem_ownCells mem_ownRefs)

variable {F : FTy → Type} [FloatOps F]

local notation "𝕄" => MT nD τ sig (HIx 1) (Elt F) ℕ UU ℕ

/-- Rows counted on from `a`. -/
theorem range_add {a m : ℕ} (Φ : ℕ → sProp 𝕄) :
    bigSep (Finset.range (a + m)) Φ = iprop(bigSep (Finset.range a) Φ ∗ bigSep (Finset.univ : Finset (Fin m)) fun t => Φ (a + t.val)) := by
  have e : Finset.range (a + m) = Finset.range a ∪ (Finset.univ : Finset (Fin m)).map ⟨fun t => a + t.val, fun x y h => Fin.ext (by simpa using h)⟩ := by
    ext i
    simp only [Finset.mem_range, Finset.mem_union, Finset.mem_map, Finset.mem_univ, true_and, Function.Embedding.coeFn_mk]
    constructor
    · intro h
      by_cases h' : i < a
      · exact .inl h'
      · exact .inr ⟨⟨i - a, by omega⟩, show a + (i - a) = i by omega⟩
    · rintro (h | ⟨t, ht⟩)
      · omega
      · have := t.isLt
        change a + t.val = i at ht
        omega
  have hd : Disjoint (Finset.range a) ((Finset.univ : Finset (Fin m)).map ⟨fun t => a + t.val, fun x y h => Fin.ext (by simpa using h)⟩) := by
    refine Finset.disjoint_left.mpr fun i hi hj => ?_
    obtain ⟨t, -, rfl⟩ := Finset.mem_map.mp hj
    have := Finset.mem_range.mp hi
    change a + t.val < a at this
    omega
  rw [e, bigSep_union hd, bigSep_map]
  rfl

section

variable (d : Fin nD) (L : grid0.Coords)
  (arg2 : Memref sig .scVector .hbm S40908800 .f32) (harg2 : arg2.IsWhole) (arg3 : Memref sig .scVector .hbm S128 .f32) (harg3 : arg3.IsWhole) (arg4 : Memref sig .scVector .hbm S102400 .f32) (harg4 : arg4.IsWhole) (arg5 : Memref sig .scVector .vmem S34816 .f32) (harg5 : arg5.IsWhole) (arg6 : Memref sig .scVector .vmem S34816 .f32) (harg6 : arg6.IsWhole) (arg7 : Memref sig .scVector .vmem S128 .f32) (harg7 : arg7.IsWhole) (arg8 : Memref sig .scVector .vmem S19456 .f32) (harg8 : arg8.IsWhole) (arg9 : DmaSems sig S_) (arg10 : DmaSems sig S_) (arg11 : DmaSems sig S_) (v217_r0 : DmaSems sig S_)

/-- The output rows after `k` blocks. -/
def outInv (f8 : Buf (Elt F) (arg8.view.loc (VT d L))) (G : Buf (Elt F) (arg4.view.loc (VT d L))) (sb n : ℕ)
    (O : CellTallies nD τ sig (HIx 1)) (Wt : Waits sig (HIx 1)) (k : ℕ) : sProp 𝕄 :=
  iprop(bigSep (Finset.Ico (min (8 * k) n) n) (rowTodo d L arg4 arg8 f8 sb) ∗ bigSep (Finset.range (min (8 * k) n)) (rowDone d L arg4 arg8 f8 G sb)
    ∗ semVal (VT d L, .dma arg11.sem) 0 ∗ owing d L O Wt)

variable {sb se : ℕ} (h1 : sb < se) (h2 : se ≤ 800) (h3 : se - sb ≤ 152)
  {f8 : Buf (Elt F) (arg8.view.loc (VT d L))} {G : Buf (Elt F) (arg4.view.loc (VT d L))}
  (hG : ∀ (y : S19456.Idx) (z : S102400.Idx), (y 0).val < (se - sb) * 128 → (z 0).val = sb * 128 + (y 0).val → arg8.view.read (Elt F) f8 y = arg4.view.read (Elt F) G z)
  {O : CellTallies nD τ sig (HIx 1)} {Wt : Waits sig (HIx 1)}

include hG h1 h2 h3 in
/-- The loop that copies the finished rows out. -/
theorem wp_outs (hw59 : k0_chk59 (W sb) (W se)) (v193 : BitVec 32) (ok)
    {β : Type} (kk : PUnit → Prog (TpuEff nD τ sig (Elt F) Λ₀ (.scVector ((L 0).castLE hcore0) ((L 1).castLE hsub0))) β) (Q : β → sProp 𝕄) :
    iprop(outInv d L arg4 arg8 arg11 f8 G sb (se - sb) O Wt 0 ∗ (outInv d L arg4 arg8 arg11 f8 G sb (se - sb) O Wt ((se - sb + 7) / 8) -∗
        wp frame (wpE (defs₀ (F := F)) 𝒱₀ (VT d L) none) Set.univ (kk ⟨⟩) Q))
      ⊢ wp frame (wpE (defs₀ (F := F)) 𝒱₀ (VT d L) none) Set.univ
          (Scf.Loop.for (k0_t20_loop (W sb) (W se)) ok ⟨⟩ (k0_t20_body L arg2 harg2 arg3 harg3 arg4 harg4 arg5 harg5 arg6 harg6 arg7 harg7 arg8 harg8 arg9 arg10 arg11 v217_r0 (W sb) (W se) hw59 v193) >>= kk) Q := by
  iintro ⟨HI, HK⟩
  sl_for (fun (k : ℕ) (_ : PUnit) => outInv d L arg4 arg8 arg11 f8 G sb (se - sb) O Wt k) $$ [HI]
  case region =>
    intro t x
    have ht := t20_lt h1 h2 h3 t
    have e1 : min (8 * t.val) (se - sb) = 8 * t.val := by omega
    have e2 : min (8 * (t.val + 1)) (se - sb) = 8 * t.val + cnt (se - sb) t.val := by simp only [cnt]; omega
    have e3 : min 0 (cnt (se - sb) t.val) = 0 := by omega
    have e4 : min 8 (cnt (se - sb) t.val) = cnt (se - sb) t.val := by simp only [cnt]; omega
    have e5 : 0 < cnt (se - sb) t.val := by simp only [cnt]; omega
    have e6 : ¬ 8 < cnt (se - sb) t.val := by simp only [cnt]; omega
    unfold outInv
    rw [e1, e2]
    iintro ⟨HT, HD, Hv, HO⟩
    imod (Transfers.batch_alloc' EC (c := VT d L) (none : HIx 1) (rowAmt arg4 arg11) (blkDone d L arg4 arg8 f8 G sb (se - sb) t.val) (E := Set.univ)) $$ Hv with HB
    ihave HI := (show iprop(Transfers.Batch EC (VT d L) (.dma arg11.sem) (none : HIx 1) (rowAmt arg4 arg11) (blkDone d L arg4 arg8 f8 G sb (se - sb) t.val) 0 0
        ∗ bigSep (Finset.Ico (8 * t.val) (se - sb)) (rowTodo d L arg4 arg8 f8 sb)) ⊢ outIssue d L arg4 arg8 arg11 f8 G sb (se - sb) t.val 0 by
      unfold outIssue; rw [e3, Nat.add_zero]) $$ [HB HT]
    · isplitl [HB]
      · iexact HB
      · iexact HT
    try sl_exec
    iapply (wp_issue hG t.val 0 (by omega) _ _ _ (out_cond h1 h2 h3 t 0 (by omega)) (out_src h1 h2 h3 t 0 (by omega)) (out_dst h1 h2 h3 t 0 (by omega))
      (fun h => k0_off80_inb _ _ hw59 t h) (fun h => k0_off81_inb _ _ hw59 t h) _ _ _ _ rfl rfl)
    isplitl [HI]; · iexact HI
    iintro HI
    try sl_exec
    iapply (wp_issue hG t.val 1 (by omega) _ _ _ (out_cond h1 h2 h3 t 1 (by omega)) (out_src h1 h2 h3 t 1 (by omega)) (out_dst h1 h2 h3 t 1 (by omega))
      (fun h => k0_off82_inb _ _ hw59 t h) (fun h => k0_off83_inb _ _ hw59 t h) _ _ _ _ rfl rfl)
    isplitl [HI]; · iexact HI
    iintro HI
    try sl_exec
    iapply (wp_issue hG t.val 2 (by omega) _ _ _ (out_cond h1 h2 h3 t 2 (by omega)) (out_src h1 h2 h3 t 2 (by omega)) (out_dst h1 h2 h3 t 2 (by omega))
      (fun h => k0_off84_inb _ _ hw59 t h) (fun h => k0_off85_inb _ _ hw59 t h) _ _ _ _ rfl rfl)
    isplitl [HI]; · iexact HI
    iintro HI
    try sl_exec
    iapply (wp_issue hG t.val 3 (by omega) _ _ _ (out_cond h1 h2 h3 t 3 (by omega)) (out_src h1 h2 h3 t 3 (by omega)) (out_dst h1 h2 h3 t 3 (by omega))
      (fun h => k0_off86_inb _ _ hw59 t h) (fun h => k0_off87_inb _ _ hw59 t h) _ _ _ _ rfl rfl)
    isplitl [HI]; · iexact HI
    iintro HI
    try sl_exec
    iapply (wp_issue hG t.val 4 (by omega) _ _ _ (out_cond h1 h2 h3 t 4 (by omega)) (out_src h1 h2 h3 t 4 (by omega)) (out_dst h1 h2 h3 t 4 (by omega))
      (fun h => k0_off88_inb _ _ hw59 t h) (fun h => k0_off89_inb _ _ hw59 t h) _ _ _ _ rfl rfl)
    isplitl [HI]; · iexact HI
    iintro HI
    try sl_exec
    iapply (wp_issue hG t.val 5 (by omega) _ _ _ (out_cond h1 h2 h3 t 5 (by omega)) (out_src h1 h2 h3 t 5 (by omega)) (out_dst h1 h2 h3 t 5 (by omega))
      (fun h => k0_off90_inb _ _ hw59 t h) (fun h => k0_off91_inb _ _ hw59 t h) _ _ _ _ rfl rfl)
    isplitl [HI]; · iexact HI
    iintro HI
    try sl_exec
    iapply (wp_issue hG t.val 6 (by omega) _ _ _ (out_cond h1 h2 h3 t 6 (by omega)) (out_src h1 h2 h3 t 6 (by omega)) (out_dst h1 h2 h3 t 6 (by omega))
      (fun h => k0_off92_inb _ _ hw59 t h) (fun h => k0_off93_inb _ _ hw59 t h) _ _ _ _ rfl rfl)
    isplitl [HI]; · iexact HI
    iintro HI
    try sl_exec
    iapply (wp_issue hG t.val 7 (by omega) _ _ _ (out_cond h1 h2 h3 t 7 (by omega)) (out_src h1 h2 h3 t 7 (by omega)) (out_dst h1 h2 h3 t 7 (by omega))
      (fun h => k0_off94_inb _ _ hw59 t h) (fun h => k0_off95_inb _ _ hw59 t h) _ _ _ _ rfl rfl)
    isplitl [HI]; · iexact HI
    iintro HI
    ihave HX := (show outIssue d L arg4 arg8 arg11 f8 G sb (se - sb) t.val 8 ⊢ iprop(outDrain d L arg4 arg8 arg11 f8 G sb (se - sb) t.val 0
        ∗ bigSep (Finset.Ico (8 * t.val + cnt (se - sb) t.val) (se - sb)) (rowTodo d L arg4 arg8 f8 sb)) by
      unfold outIssue outDrain; rw [e4, if_pos e5, Nat.zero_mul]) $$ HI
    icases HX with ⟨HI, HT⟩
    try sl_exec
    iapply (wp_drain t.val 0 (by omega) _ _ (out_cond h1 h2 h3 t 0 (by omega)) O Wt (fun h => k0_off96_inb _ _ hw59 t h) _ _ _ _ rfl rfl)
    isplitl [HI]; · iexact HI
    isplitl [HO]; · iexact HO
    iintro HI HO
    try sl_exec
    iapply (wp_drain t.val 1 (by omega) _ _ (out_cond h1 h2 h3 t 1 (by omega)) O Wt (fun h => k0_off97_inb _ _ hw59 t h) _ _ _ _ rfl rfl)
    isplitl [HI]; · iexact HI
    isplitl [HO]; · iexact HO
    iintro HI HO
    try sl_exec
    iapply (wp_drain t.val 2 (by omega) _ _ (out_cond h1 h2 h3 t 2 (by omega)) O Wt (fun h => k0_off98_inb _ _ hw59 t h) _ _ _ _ rfl rfl)
    isplitl [HI]; · iexact HI
    isplitl [HO]; · iexact HO
    iintro HI HO
    try sl_exec
    iapply (wp_drain t.val 3 (by omega) _ _ (out_cond h1 h2 h3 t 3 (by omega)) O Wt (fun h => k0_off99_inb _ _ hw59 t h) _ _ _ _ rfl rfl)
    isplitl [HI]; · iexact HI
    isplitl [HO]; · iexact HO
    iintro HI HO
    try sl_exec
    iapply (wp_drain t.val 4 (by omega) _ _ (out_cond h1 h2 h3 t 4 (by omega)) O Wt (fun h => k0_off100_inb _ _ hw59 t h) _ _ _ _ rfl rfl)
    isplitl [HI]; · iexact HI
    isplitl [HO]; · iexact HO
    iintro HI HO
    try sl_exec
    iapply (wp_drain t.val 5 (by omega) _ _ (out_cond h1 h2 h3 t 5 (by omega)) O Wt (fun h => k0_off101_inb _ _ hw59 t h) _ _ _ _ rfl rfl)
    isplitl [HI]; · iexact HI
    isplitl [HO]; · iexact HO
    iintro HI HO
    try sl_exec
    iapply (wp_drain t.val 6 (by omega) _ _ (out_cond h1 h2 h3 t 6 (by omega)) O Wt (fun h => k0_off102_inb _ _ hw59 t h) _ _ _ _ rfl rfl)
    isplitl [HI]; · iexact HI
    isplitl [HO]; · iexact HO
    iintro HI HO
    try sl_exec
    iapply (wp_drain t.val 7 (by omega) _ _ (out_cond h1 h2 h3 t 7 (by omega)) O Wt (fun h => k0_off103_inb _ _ hw59 t h) _ _ _ _ rfl rfl)
    isplitl [HI]; · iexact HI
    isplitl [HO]; · iexact HO
    iintro HI HO
    ihave HX := (show outDrain d L arg4 arg8 arg11 f8 G sb (se - sb) t.val 8 ⊢ iprop(bigSep Finset.univ (blkDone d L arg4 arg8 f8 G sb (se - sb) t.val)
        ∗ semVal (VT d L, .dma arg11.sem) 0) by
      unfold outDrain; rw [if_neg e6]) $$ HI
    icases HX with ⟨HX, Hv⟩
    sl_exec
    sl_step
    isplitl [HT]; · iexact HT
    isplitl [HD HX]
    · rw [range_add]
      isplitl [HD]
      · iexact HD
      · iexact HX
    isplitl [Hv]
    · iexact Hv
    · iexact HO
  · iexact HI
  iintro %y HI
  rw [show Scf.trips (k0_t20_loop (W sb) (W se)).lb (k0_t20_loop (W sb) (W se)).ub (k0_t20_loop (W sb) (W se)).st = (se - sb + 7) / 8 from t20_trips h1 h2 h3]
  iapply HK $$ HI

end

end Cert.Proof

end
-- ==== Proof.Body.lean ====
module

public import proofs.«01_k».proof.Proof.Head
public import proofs.«01_k».proof.Proof.OutLoop
public import proofs.«01_k».proof.Proof.Dma

@[expose] public section

set_option maxRecDepth 100000

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore (S V T)
open Idealize.ShloMosaic.SparseCore.Cfg (HIx Pay tileRest ownBufs ownSems0 ownCells ownRefs mem_ownCells mem_ownRefs)

variable {F : FTy → Type} [FloatOps F]

local notation "𝕄" => MT nD τ sig (HIx 1) (Elt F) ℕ UU ℕ

/-- The lanes' choices and the blocks of the weights, as the rows' sums take them. -/
abbrev lanes : Fin 4 → IVec S16 1 := ![lane 1#32, lane 2#32, lane 4#32, lane 8#32]
abbrev wvecs (Wv : ℕ → F .f32) : Fin 8 → FVec F S16 .f32 :=
  ![wvec Wv 0, wvec Wv 1, wvec Wv 2, wvec Wv 3, wvec Wv 4, wvec Wv 5, wvec Wv 6, wvec Wv 7]

/-- The result's word at a place. -/
def outw (Wv X : ℕ → F .f32) (p : ℕ) : F .f32 :=
  rowOut lanes (wvecs Wv) X (p / 128) ⟨p % 128 / 16, by omega⟩
    (fun a => ⟨p % 16, by have : a = 0 := Subsingleton.elim _ _; subst this; exact Nat.mod_lt _ (by norm_num)⟩)

theorem outw_at (Wv X : ℕ → F .f32) (b : ℕ) (j : Fin 8) (i : S16.Idx) {p : ℕ} (h : p = b * 128 + 16 * j.val + (i 0).val) :
    outw Wv X p = rowOut lanes (wvecs Wv) X b j i := by
  have hi : (i 0).val < 16 := (i 0).isLt
  have hj := j.isLt
  unfold outw
  have e1 : p / 128 = b := by omega
  have e2 : (⟨p % 128 / 16, by omega⟩ : Fin 8) = j := Fin.ext (by show p % 128 / 16 = j.val; omega)
  rw [e1, e2]
  congr 1
  funext a
  have : a = 0 := Subsingleton.elim _ _
  subst this
  exact Fin.ext (by show p % 16 = (i 0).val; omega)

/-- After a tile's last row the segment at hand is its last, and whole. -/
theorem row_last {arg8 : Memref sig .scVector .vmem S19456 .f32} {l : Fin 4 → IVec S16 1} {w : Fin 8 → FVec F S16 .f32} {X : ℕ → F .f32} {sb se : ℕ}
    (h : sb < se) (h2 : 2 ≤ se) {x : St F} {f8 : arg8.view.ty.Contents (Elt F)} (hx : RowInv arg8 l w X sb (o se) x f8) :
    x = accSt l w X (se - 1) (se - 1) ∧ OutOK arg8 l w X sb f8 (se - 1) := by
  obtain ⟨cur, hx, hsb, ⟨hc, hc'⟩, hn, hok⟩ := hx
  have e1 := o_succ (se - 1)
  rw [show se - 1 + 1 = se by omega] at e1
  have hlt : cur < se := by
    by_contra hge
    rcases hc' with hc' | hc'
    · have := o_mono (show se ≤ cur by omega); omega
    · omega
  have : cur = se - 1 := by
    by_contra hne
    have := o_mono (show cur + 1 ≤ se - 1 by omega)
    omega
  subst this
  rw [show o se - o (se - 1) = se - 1 by omega] at hx
  exact ⟨hx, hok⟩

theorem off79_eq {sb cur : ℕ} (h : sb ≤ cur) (hc : cur < 800) (j : Fin 8) :
    k0_off79 (W sb) (W cur) (W (16 * j.val)) 0 = (cur - sb) * 128 + 16 * j.val := off4_eq h hc j

theorem chk58 {sb cur se : ℕ} (h : sb ≤ cur) (hc : cur < se) (hse : se ≤ 800) (hw : se - sb ≤ 152) : k0_chk58 (W sb) (W cur) :=
  fun j a => off4_inb h hc hse hw j a

section

variable (d : Fin nD) (L : grid0.Coords)
  (arg2 : Memref sig .scVector .hbm S40908800 .f32) (harg2 : arg2.IsWhole) (arg3 : Memref sig .scVector .hbm S128 .f32) (harg3 : arg3.IsWhole) (arg4 : Memref sig .scVector .hbm S102400 .f32) (harg4 : arg4.IsWhole) (arg5 : Memref sig .scVector .vmem S34816 .f32) (harg5 : arg5.IsWhole) (arg6 : Memref sig .scVector .vmem S34816 .f32) (harg6 : arg6.IsWhole) (arg7 : Memref sig .scVector .vmem S128 .f32) (harg7 : arg7.IsWhole) (arg8 : Memref sig .scVector .vmem S19456 .f32) (harg8 : arg8.IsWhole) (arg9 : DmaSems sig S_) (arg10 : DmaSems sig S_) (arg11 : DmaSems sig S_) (v217_r0 : DmaSems sig S_)

/-- The rows a tile is given, whatever they hold; and the rows it leaves. -/
def rowsIn (sb n : ℕ) : sProp 𝕄 :=
  bigSep (Finset.range n) fun r => iprop(∃ g : Buf (Elt F) (arg4.view.loc (VT d L)), arg4.view.loc (VT d L) ↦[row4 d L arg4 (sb + r)]{fullShare} g)
def rowsOut (G : Buf (Elt F) (arg4.view.loc (VT d L))) (sb n : ℕ) : sProp 𝕄 :=
  bigSep (Finset.range n) fun r => iprop(arg4.view.loc (VT d L) ↦[row4 d L arg4 (sb + r)]{fullShare} G)

/-- The output buffer's rows past the tile's. -/
def rowsRest (f8 : Buf (Elt F) (arg8.view.loc (VT d L))) (n : ℕ) : sProp 𝕄 :=
  bigSep (Finset.univ : Finset (Fin (152 - n))) fun t => iprop(arg8.view.loc (VT d L) ↦[row8 d L arg8 (n + t.val)]{fullShare} f8)

theorem outs_in {f8 : Buf (Elt F) (arg8.view.loc (VT d L))} {G : Buf (Elt F) (arg4.view.loc (VT d L))} {sb n : ℕ} (hn : n ≤ 152)
    {O : CellTallies nD τ sig (HIx 1)} {Wt : Waits sig (HIx 1)} :
    (iprop((arg8.view.loc (VT d L) ↦[arg8.view.set]{fullShare} f8) ∗ rowsIn d L arg4 sb n ∗ semVal (VT d L, .dma arg11.sem) 0 ∗ owing d L O Wt) : sProp 𝕄)
      ⊢ iprop(outInv d L arg4 arg8 arg11 f8 G sb n O Wt 0 ∗ rowsRest d L arg8 f8 n) := by
  have e8 := rows8 (d := d) (L := L) (arg8 := arg8) f8
  rw [show (152 : ℕ) = n + (152 - n) by omega, range_add] at e8
  have e : bigSep (Finset.range n) (rowTodo d L arg4 arg8 f8 sb)
      = iprop((bigSep (Finset.range n) fun r => iprop(arg8.view.loc (VT d L) ↦[row8 d L arg8 r]{fullShare} f8)) ∗ rowsIn d L arg4 sb n) :=
    bigSep_sep (Finset.range n) (fun r => iprop(arg8.view.loc (VT d L) ↦[row8 d L arg8 r]{fullShare} f8))
      (fun r => iprop(∃ g : Buf (Elt F) (arg4.view.loc (VT d L)), arg4.view.loc (VT d L) ↦[row4 d L arg4 (sb + r)]{fullShare} g))
  rw [e8]
  unfold outInv rowsRest
  rw [show min (8 * 0) n = 0 by omega, Finset.range_zero, bigSep_empty, show Finset.Ico 0 n = Finset.range n from (Finset.range_eq_Ico n).symm, e]
  iintro ⟨⟨H8, Hr⟩, H4, Hv, HO⟩
  isplitr [Hr]
  · isplitl [H8 H4]
    · isplitl [H8] <;> iassumption
    iapply (Entails.of_eq (equiv_iff.mp (emp_sep (P := iprop(semVal (VT d L, .dma arg11.sem) 0 ∗ owing d L O Wt)))).symm)
    isplitl [Hv] <;> iassumption
  · iexact Hr

theorem outs_out {f8 : Buf (Elt F) (arg8.view.loc (VT d L))} {G : Buf (Elt F) (arg4.view.loc (VT d L))} {sb n : ℕ} (hn : n ≤ 152)
    {O : CellTallies nD τ sig (HIx 1)} {Wt : Waits sig (HIx 1)} :
    iprop(outInv d L arg4 arg8 arg11 f8 G sb n O Wt ((n + 7) / 8) ∗ rowsRest d L arg8 f8 n)
      ⊢ (iprop((arg8.view.loc (VT d L) ↦[arg8.view.set]{fullShare} f8) ∗ rowsOut d L arg4 G sb n ∗ semVal (VT d L, .dma arg11.sem) 0 ∗ owing d L O Wt) : sProp 𝕄) := by
  have e8 := rows8 (d := d) (L := L) (arg8 := arg8) f8
  rw [show (152 : ℕ) = n + (152 - n) by omega, range_add] at e8
  have e : bigSep (Finset.range n) (rowDone d L arg4 arg8 f8 G sb)
      = iprop(rowsOut d L arg4 G sb n ∗ bigSep (Finset.range n) fun r => iprop(arg8.view.loc (VT d L) ↦[row8 d L arg8 r]{fullShare} f8)) :=
    bigSep_sep (Finset.range n) (fun r => iprop(arg4.view.loc (VT d L) ↦[row4 d L arg4 (sb + r)]{fullShare} G))
      (fun r => iprop(arg8.view.loc (VT d L) ↦[row8 d L arg8 r]{fullShare} f8))
  rw [e8]
  unfold outInv rowsRest
  rw [show min (8 * ((n + 7) / 8)) n = n by omega, e]
  iintro ⟨⟨-, ⟨H4, H8⟩, Hv, HO⟩, Hr⟩
  isplitl [H8 Hr]
  · isplitl [H8] <;> iassumption
  isplitl [H4]; · iexact H4
  isplitl [Hv] <;> iassumption

/-- A finished segment's stores, under their one name. -/
theorem fin_pts (off : BitVec 32 → Fin 1 → ℕ)
    (hin : (1#1 : BitVec 1) = 1#1 → ∀ r : Fin 8, ∀ a, off (BitVec.ofNat 32 (16 * r.val)) a + S16.size a ≤ S19456.size a)
    (x : St F) (f8 : Buf (Elt F) (arg8.view.loc (VT d L))) :
    finBuf arg8 off 1#1 hin x f8 = arg8.view.writes (Elt F) f8
     [⟨Rect.unit (s := S19456) (off 112#32) S16.size (hin rfl 7), shapeCast S16 (mulf x.2.2.2.2.2.2.2.1 (rcp x.2.2.2.2.2.2.2.2.1)) shapeCasts_S16_S16⟩,
      ⟨Rect.unit (s := S19456) (off 96#32) S16.size (hin rfl 6), shapeCast S16 (mulf x.2.2.2.2.2.2.1 (rcp x.2.2.2.2.2.2.2.2.1)) shapeCasts_S16_S16⟩,
      ⟨Rect.unit (s := S19456) (off 80#32) S16.size (hin rfl 5), shapeCast S16 (mulf x.2.2.2.2.2.1 (rcp x.2.2.2.2.2.2.2.2.1)) shapeCasts_S16_S16⟩,
      ⟨Rect.unit (s := S19456) (off 64#32) S16.size (hin rfl 4), shapeCast S16 (mulf x.2.2.2.2.1 (rcp x.2.2.2.2.2.2.2.2.1)) shapeCasts_S16_S16⟩,
      ⟨Rect.unit (s := S19456) (off 48#32) S16.size (hin rfl 3), shapeCast S16 (mulf x.2.2.2.1 (rcp x.2.2.2.2.2.2.2.2.1)) shapeCasts_S16_S16⟩,
      ⟨Rect.unit (s := S19456) (off 32#32) S16.size (hin rfl 2), shapeCast S16 (mulf x.2.2.1 (rcp x.2.2.2.2.2.2.2.2.1)) shapeCasts_S16_S16⟩,
      ⟨Rect.unit (s := S19456) (off 16#32) S16.size (hin rfl 1), shapeCast S16 (mulf x.2.1 (rcp x.2.2.2.2.2.2.2.2.1)) shapeCasts_S16_S16⟩,
      ⟨Rect.unit (s := S19456) (off 0#32) S16.size (hin rfl 0), shapeCast S16 (mulf x.1 (rcp x.2.2.2.2.2.2.2.2.1)) shapeCasts_S16_S16⟩] :=
  dif_pos rfl

set_option maxHeartbeats 8000000 in
/-- The rows' sums and the last segment's stores: the two last parts before the rows go out. -/
theorem wp_accum (v3 v5 v7 v9 v11 v13 v15 v17 : FVec F S16 .f32) (v82 v86 v90 v94 : IVec S16 1) (X : ℕ → F .f32)
    {FX : Buf (Elt F) (arg2.view.loc (VT d L))} (hFX : FeatOK d L arg2 X FX) {q0 q1 : PosShare TreeShare}
    {O : CellTallies nD τ sig (HIx 1)} {Wt : Waits sig (HIx 1)} {sb se : ℕ} (hsb : sb < se) (hse : se ≤ 800) (hw : se - sb ≤ 152) (hge : 2 ≤ se)
    (hw1 : k0_chk1 (W (o se)) (W (o sb))) (v102 c2 v103 v108 v110 : BitVec 32) (f8 : Buf (Elt F) (arg8.view.loc (VT d L)))
    {β : Type} (kk : BitVec 32 → Prog (TpuEff nD τ sig (Elt F) Λ₀ (.scVector ((L 0).castLE hcore0) ((L 1).castLE hsub0))) β) (Q : β → sProp 𝕄) :
    (iprop(hold d L arg2 X arg5 arg9 FX q0 (2 * 0 < nch (o sb) (o se)) (cb (B0 (o sb) 0)) ∗ hold d L arg2 X arg6 arg10 FX q1 (2 * 0 + 1 < nch (o sb) (o se)) (cb (B1 (o sb) 0))
        ∗ (arg8.view.loc (VT d L) ↦[arg8.view.set]{fullShare} f8) ∗ owing d L O Wt
        ∗ (∀ v : BitVec 32, ∀ g8 : Buf (Elt F) (arg8.view.loc (VT d L)), ⌜OutOK arg8 ![v82, v86, v90, v94] ![v3, v5, v7, v9, v11, v13, v15, v17] X sb g8 se⌝ -∗
            chunkNo d L arg2 arg5 arg9 FX q0 -∗ chunkNo d L arg2 arg6 arg10 FX q1 -∗ (arg8.view.loc (VT d L) ↦[arg8.view.set]{fullShare} g8) -∗ owing d L O Wt -∗
            wp frame (wpE (defs₀ (F := F)) 𝒱₀ (VT d L) none) Set.univ (kk v) Q))
      ⊢ wp frame (wpE (defs₀ (F := F)) 𝒱₀ (VT d L) none) Set.univ ((k0_part196 L arg2 harg2 arg3 harg3 arg4 harg4 arg5 harg5 arg6 harg6 arg7 harg7 arg8 harg8 arg9 arg10 arg11 v217_r0 v3 v5 v7 v9 v11 v13 v15 v17 (W sb) (W (o sb)) (W (o se)) hw1 (W (nch (o sb) (o se))) zv v82 v86 v90 v94 (W (o sb + sb)) v102 c2 v103 v108 v110) >>= fun x =>
          k0_part197 L arg2 harg2 arg3 harg3 arg4 harg4 arg5 harg5 arg6 harg6 arg7 harg7 arg8 harg8 arg9 arg10 arg11 v217_r0 (W sb) (W se) x.1 x.2.1 x.2.2.1 x.2.2.2.1 x.2.2.2.2.1 x.2.2.2.2.2.1 x.2.2.2.2.2.2.1 x.2.2.2.2.2.2.2.1 x.2.2.2.2.2.2.2.2.1 x.2.2.2.2.2.2.2.2.2.1 x.2.2.2.2.2.2.2.2.2.2 >>= kk) Q) := by
  have hR := o_mono hsb.le
  have hR' := o_le hse
  iintro ⟨H0, H1, H8, HO, HK⟩
  set_option sl_exec.stopBefore "k0_part197" in sl_exec
  iapply (wp_pairs d L arg2 harg2 arg3 harg3 arg4 harg4 arg5 harg5 arg6 harg6 arg7 harg7 arg8 harg8 arg9 arg10 arg11 v217_r0 v3 v5 v7 v9 v11 v13 v15 v17 v82 v86 v90 v94 X hR rfl hse hw hw1 hFX)
  isplitl [H8 H0 H1 HO]
  · unfold pairInv
    isplitl [H8]
    · iexists f8
      isplitr
      swap
      · iexact H8
      · ipureintro
        rw [show min (o sb + 544 * 0) (o se) = o sb by omega]
        refine ⟨sb, ?_, le_rfl, ⟨le_rfl, .inr rfl⟩, ?_, ?_⟩
        · rw [Nat.sub_self, accSt, o_succ]
        · rw [o_succ]; omega
        · intro b hb hb'
          omega
    isplitl [H0]; · iexact H0
    isplitl [H1]; · iexact H1
    iexact HO
  iintro %y HI
  unfold pairInv hold
  icases HI with ⟨⟨%f8', %hx, H8⟩, H0, H1, HO⟩
  simp only [if_neg (show ¬ 2 * ((nch (o sb) (o se) + 1) / 2) < nch (o sb) (o se) by omega),
    if_neg (show ¬ 2 * ((nch (o sb) (o se) + 1) / 2) + 1 < nch (o sb) (o se) by omega)]
  rw [show min (o sb + 544 * ((nch (o sb) (o se) + 1) / 2)) (o se) = o se by simp only [nch]; omega] at hx
  obtain ⟨hy, hok⟩ := row_last hsb hge hx
  have hcur := congrArg Scur hy
  rw [accSt_cur] at hcur
  obtain ⟨y0, y1, y2, y3, y4, y5, y6, y7, y8, y9, y10⟩ := y
  change y9 = _ at hcur
  subst hcur
  have h58 := chk58 (show sb ≤ se - 1 by omega) (show se - 1 < se by omega) hse hw
  try (set_option sl_exec.stopBefore "k0_part197" in sl_exec)
  iapply (wp_skip (t11_trips hR hR'))
  sl_exec
  have hfin := fin_out arg8 ![v82, v86, v90, v94] ![v3, v5, v7, v9, v11, v13, v15, v17] X sb (k0_off79 (W sb) (W (se - 1))) 1#1 (fun _ j a => h58 j a) f8' (se - 1) rfl
    (off79_eq (by omega) (by omega)) hok
  rw [← hy, show se - 1 + 1 = se by omega] at hfin
  iapply HK $$ %_ %(finBuf arg8 (k0_off79 (W sb) (W (se - 1))) 1#1 (fun _ j a => h58 j a) (y0, y1, y2, y3, y4, y5, y6, y7, y8, W (se - 1), y10) f8') %hfin H0 H1 [H8] HO
  rw [fin_pts]
  iexact H8

/-- What a tile holds before its run, its rows of the result apart; and after it. -/
def tileRes (FX : Buf (Elt F) (arg2.view.loc (VT d L))) (q0 q1 : PosShare TreeShare) (FW : Buf (Elt F) (arg3.view.loc (VT d L))) (q : PosShare TreeShare)
    (O : CellTallies nD τ sig (HIx 1)) (Wt : Waits sig (HIx 1)) : sProp 𝕄 :=
  iprop(chunkNo d L arg2 arg5 arg9 FX q0 ∗ chunkNo d L arg2 arg6 arg10 FX q1 ∗ (arg3.view.loc (VT d L) ↦[arg3.view.set]{q} FW)
    ∗ (∃ f7 : Buf (Elt F) (arg7.view.loc (VT d L)), (arg7.view.loc (VT d L) ↦[arg7.view.set]{fullShare} f7))
    ∗ (∃ f8 : Buf (Elt F) (arg8.view.loc (VT d L)), (arg8.view.loc (VT d L) ↦[arg8.view.set]{fullShare} f8))
    ∗ semVal (VT d L, .dma arg11.sem) 0 ∗ semVal (VT d L, .dma v217_r0.sem) 0 ∗ owing d L O Wt)

set_option maxHeartbeats 16000000 in
/-- A tile's run. -/
theorem wp_tile (Wv X : ℕ → F .f32) {FX : Buf (Elt F) (arg2.view.loc (VT d L))} (hFX : FeatOK d L arg2 X FX) {q0 q1 q : PosShare TreeShare}
    {FW : Buf (Elt F) (arg3.view.loc (VT d L))} (hFW : ∀ y : S128.Idx, arg3.view.read (Elt F) FW y = Wv (y 0).val)
    {G : Buf (Elt F) (arg4.view.loc (VT d L))} (hG : ∀ z : S102400.Idx, arg4.view.read (Elt F) G z = outw Wv X (z 0).val)
    {O : CellTallies nD τ sig (HIx 1)} {Wt : Waits sig (HIx 1)} {n : ℕ} (hn : n = 2 * (L 1).val + (L 0).val) (Q : PUnit → sProp 𝕄) :
    (iprop(tileRes d L arg2 arg3 arg5 arg6 arg7 arg8 arg9 arg10 arg11 v217_r0 FX q0 q1 FW q O Wt ∗ rowsIn d L arg4 (cut n) (cut (n + 1) - cut n)
        ∗ (tileRes d L arg2 arg3 arg5 arg6 arg7 arg8 arg9 arg10 arg11 v217_r0 FX q0 q1 FW q O Wt -∗ rowsOut d L arg4 G (cut n) (cut (n + 1) - cut n) -∗ Q ⟨⟩))
      ⊢ wp frame (wpE (defs₀ (F := F)) 𝒱₀ (VT d L) none) Set.univ (cc0__sc_body L arg2 harg2 arg3 harg3 arg4 harg4 arg5 harg5 arg6 harg6 arg7 harg7 arg8 harg8 arg9 arg10 arg11 v217_r0) Q) := by
  have hn32 : n < 32 := hn ▸ wid_lt L
  have hsb := cut_succ hn32
  have hse := cut_le (n + 1)
  have hw := cut_width hn32
  have hge := cut_ge hn32
  have hR := o_mono hsb.le
  have hR' := o_le hse
  have hRR : o (cut n) < o (cut (n + 1)) := by
    have e1 := o_succ (cut (n + 1) - 1)
    rw [show cut (n + 1) - 1 + 1 = cut (n + 1) by omega] at e1
    have := o_mono (show cut n ≤ cut (n + 1) - 1 by omega)
    omega
  unfold tileRes
  iintro ⟨⟨H0, H1, H3, H7, ⟨%f8, H8⟩, Hv, Hs, HO⟩, H4, HK⟩
  rw [cc0__sc_body_eq_skeleton]
  unfold cc0__sc_body_skel
  iapply (wp_weights d L arg2 harg2 arg3 harg3 arg4 harg4 arg5 harg5 arg6 harg6 arg7 harg7 arg8 harg8 arg9 arg10 arg11 v217_r0 Wv FW q hFW)
  isplitl [H3]; · iexact H3
  isplitl [H7]; · iexact H7
  isplitl [Hs]; · iexact Hs
  isplitl [HO]; · iexact HO
  iintro H3 H7 Hs HO
  rw [← hn]
  iapply (wp_bounds d L arg2 harg2 arg3 harg3 arg4 harg4 arg5 harg5 arg6 harg6 arg7 harg7 arg8 harg8 arg9 arg10 arg11 v217_r0 n hn32)
  iintro %hw59 %hw1 %v60 %v71 %v72 %hv
  iapply (wp_prep d L arg2 harg2 arg3 harg3 arg4 harg4 arg5 harg5 arg6 harg6 arg7 harg7 arg8 harg8 arg9 arg10 arg11 v217_r0 hRR hR' (by omega) hw1 v60 v71 v72 hv X hFX)
  isplitl [H0]; · iexact H0
  isplitl [H1]; · iexact H1
  iintro %v102 %c2 %v103 %v108 %v110 H0 H1
  iapply (wp_accum d L arg2 harg2 arg3 harg3 arg4 harg4 arg5 harg5 arg6 harg6 arg7 harg7 arg8 harg8 arg9 arg10 arg11 v217_r0 (wvec Wv 0) (wvec Wv 1) (wvec Wv 2) (wvec Wv 3) (wvec Wv 4) (wvec Wv 5) (wvec Wv 6) (wvec Wv 7) (lane 1#32) (lane 2#32) (lane 4#32) (lane 8#32) X hFX hsb hse hw hge hw1 v102 c2 v103 v108 v110 f8)
  isplitl [H0]; · iexact H0
  isplitl [H1]; · iexact H1
  isplitl [H8]; · iexact H8
  isplitl [HO]; · iexact HO
  iintro %v193 %g8 %hok H0 H1 H8 HO
  have hG' : ∀ (y : S19456.Idx) (z : S102400.Idx), (y 0).val < (cut (n + 1) - cut n) * 128 → (z 0).val = cut n * 128 + (y 0).val →
      arg8.view.read (Elt F) g8 y = arg4.view.read (Elt F) G z := by
    intro y z hy hz
    have hb : (y 0).val / 128 < cut (n + 1) - cut n := Nat.div_lt_of_lt_mul (by omega)
    rw [hG z, hok (cut n + (y 0).val / 128) (by omega) (by omega) ⟨(y 0).val % 128 / 16, by omega⟩
      (fun a => ⟨(y 0).val % 16, by have : a = 0 := Subsingleton.elim _ _; subst this; exact Nat.mod_lt _ (by norm_num)⟩) y
      (by show (y 0).val = (cut n + (y 0).val / 128 - cut n) * 128 + 16 * ((y 0).val % 128 / 16) + (y 0).val % 16; omega)]
    exact (outw_at Wv X _ _ _ (by show (z 0).val = (cut n + (y 0).val / 128) * 128 + 16 * ((y 0).val % 128 / 16) + (y 0).val % 16; omega)).symm
  ihave HI := (outs_in d L arg4 arg8 arg11 (G := G) hw) $$ [H8 H4 Hv HO]
  · isplitl [H8]; · iexact H8
    isplitl [H4]; · iexact H4
    isplitl [Hv]; · iexact Hv
    iexact HO
  icases HI with ⟨HI, Hr⟩
  iapply (wp_outs d L arg2 harg2 arg3 harg3 arg4 harg4 arg5 harg5 arg6 harg6 arg7 harg7 arg8 harg8 arg9 arg10 arg11 v217_r0 hsb hse hw hG' hw59 v193)
  isplitl [HI]; · iexact HI
  iintro HI
  iapply (wp_skip (t21_trips hsb hse hw))
  sl_step
  ihave HI := (outs_out d L arg4 arg8 arg11 hw) $$ [HI Hr]
  · isplitl [HI]; · iexact HI
    iexact Hr
  icases HI with ⟨H8, H4, Hv, HO⟩
  iapply HK $$ [H0 H1 H3 H7 H8 Hv Hs HO] H4
  isplitl [H0]; · iexact H0
  isplitl [H1]; · iexact H1
  isplitl [H3]; · iexact H3
  isplitl [H7]; · iexact H7
  isplitl [H8]
  · iexists g8
    iexact H8
  isplitl [Hv]; · iexact Hv
  isplitl [Hs]; · iexact Hs
  iexact HO

end

end Cert.Proof

end
-- ==== Proof.Launch.lean ====
/-
  The kernel's launch: what each tile is handed and hands back, the program on the TensorCore around the call, and the
  program's run, over any scalar type.

  Every tile reads the feature words and the weights through read shares of its own; the result's rows are dealt to the
  tiles by the segments they take.
-/
module

public import proofs.«01_k».proof.Proof.Body
public import Idealize.ShloMosaic.Lib.Pipeline.Kit
public import Idealize.SL.BI.BigOpNat

@[expose] public section

set_option maxRecDepth 100000

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore (S V T)
open Idealize.ShloMosaic.SparseCore.Cfg (HIx Pay tileRest ownBufs ownSems0 ownCells ownRefs mem_ownCells mem_ownRefs)
open Idealize.ShloMosaic.StableHlo (held wp_hlo_within)

variable {F : FTy → Type} [FloatOps F]

local notation "𝕄" => MT nD τ sig (HIx 1) (Elt F) ℕ UU ℕ

/-! ## The buffers -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-- The feature words, the weights and the result's words, flat, as locations of a device. -/
abbrev fLoc (d : Dev nD) : Loc nD τ sig := (SparseCore.T d).loc main_v0
abbrev wLoc (d : Dev nD) : Loc nD τ sig := (SparseCore.T d).loc main_v1
abbrev oLoc (d : Dev nD) : Loc nD τ sig := (SparseCore.T d).loc main_v2
abbrev rLoc (d : Dev nD) : Loc nD τ sig := (SparseCore.T d).loc main_v3

abbrev fV : Memref sig .scVector .hbm S40908800 .f32 := Memref.whole main_v0_scv
abbrev wV : Memref sig .scVector .hbm S128 .f32 := Memref.whole main_v1_scv
abbrev oV : Memref sig .scVector .hbm S102400 .f32 := Memref.whole main_v2_scv
abbrev b0V : Memref sig .scVector .vmem S34816 .f32 := Memref.whole cc0_scratch0
abbrev b1V : Memref sig .scVector .vmem S34816 .f32 := Memref.whole cc0_scratch1
abbrev b2V : Memref sig .scVector .vmem S128 .f32 := Memref.whole cc0_scratch2
abbrev b3V : Memref sig .scVector .vmem S19456 .f32 := Memref.whole cc0_scratch3

/-- The words of a row of the result. -/
def rowL (d : Dev nD) (r : ℕ) : Finset (Idx (oLoc d)) := Finset.univ.filter fun y : S102400.Idx => (y 0).val / 128 = r

theorem row4_eq (d : Fin nD) (L : grid0.Coords) (r : ℕ) : row4 d L oV r = rowL d r := Finset.map_refl

/-- A float vector's words by number. -/
def words {s : ℕ} (hs : 0 < s) (f : (⟨1, ![s]⟩ : Shape).Idx → F .f32) (p : ℕ) : F .f32 :=
  f (fun a => ⟨p % s, by have : a = 0 := Subsingleton.elim _ _; subst this; exact Nat.mod_lt _ hs⟩)

theorem words_at {s : ℕ} (hs : 0 < s) (f : (⟨1, ![s]⟩ : Shape).Idx → F .f32) (y : (⟨1, ![s]⟩ : Shape).Idx) : words hs f (y 0).val = f y := by
  refine congrArg f (funext fun a => Fin.ext ?_)
  have : a = 0 := Subsingleton.elim _ _
  subst this
  exact Nat.mod_eq_of_lt (y 0).isLt

/-! ## What a tile is handed -/

section Tile

variable (d : Dev nD) (FX : Buf (Elt F) (fLoc d)) (FW : Buf (Elt F) (wLoc d))

/-- The result the tiles write. -/
def outG : Buf (Elt F) (oLoc d) := fun z : S102400.Idx =>
  outw (words (s := 128) (by norm_num) FW) (words (s := 40908800) (by norm_num) FX) (z 0).val

/-- The share of the tables a tile reads. -/
abbrev tq (n : ℕ) : PosShare TreeShare := Transfers.shareTokN fullShare n

/-- What tile `n` is handed; what it hands back. -/
def goP (n : ℕ) : sProp 𝕄 :=
  iprop((fLoc d ↦{tq n} FX) ∗ (wLoc d ↦{tq n} FW)
    ∗ bigSep (Finset.range (cut (n + 1) - cut n)) fun r => iprop(∃ g : Buf (Elt F) (oLoc d), oLoc d ↦[rowL d (cut n + r)]{fullShare} g))
def tdP (n : ℕ) : sProp 𝕄 :=
  iprop((fLoc d ↦{tq n} FX) ∗ (wLoc d ↦{tq n} FW)
    ∗ bigSep (Finset.range (cut (n + 1) - cut n)) fun r => iprop(oLoc d ↦[rowL d (cut n + r)]{fullShare} outG d FX FW))

instance goP_storable (n : ℕ) : BI.Storable (upEmb : UEmb _ 𝕄) (goP d FX FW n) := by unfold goP; infer_instance
instance tdP_storable (n : ℕ) : BI.Storable (upEmb : UEmb _ 𝕄) (tdP d FX FW n) := by unfold tdP; infer_instance

variable (L : grid0.Coords)

omit [FloatOps F] in
/-- A tile's four semaphores are among its own. -/
theorem ownSems0_V :
    (ownSems0 (VT d L) : sProp 𝕄)
      = iprop(semVal (VT d L, .dma cc0_scratch4.sem) 0 ∗ semVal (VT d L, .dma cc0_scratch5.sem) 0 ∗ semVal (VT d L, .dma cc0_scratch6.sem) 0
          ∗ semVal (VT d L, .dma cc0_scoped0.sem) 0
          ∗ bigSep (((((ownCells (VT d L)).erase (VT d L, .dma cc0_scratch4.sem)).erase (VT d L, .dma cc0_scratch5.sem)).erase
              (VT d L, .dma cc0_scratch6.sem)).erase (VT d L, .dma cc0_scoped0.sem)) fun g => semVal g 0) := by
  have ne : ∀ {a b : DmaSem sig}, a ≠ b → ((VT d L, .dma a) : GSem nD τ sig) ≠ (VT d L, .dma b) :=
    fun h e => h (SemLoc.dma.inj (Prod.mk.inj e).2)
  have me : ∀ a : DmaSem sig, (SemLoc.dma a : SemLoc sig).isScoped .scVector = true → ((VT d L, .dma a) : GSem nD τ sig) ∈ ownCells (VT d L) :=
    fun a h => mem_ownCells.mpr ⟨rfl, h⟩
  unfold SparseCore.Cfg.ownSems0
  rw [SparseCore.bigSep_erase' (me cc0_scratch4.sem (by decide)),
    SparseCore.bigSep_erase' (Finset.mem_erase.mpr ⟨ne (by decide), me cc0_scratch5.sem (by decide)⟩),
    SparseCore.bigSep_erase' (Finset.mem_erase.mpr ⟨ne (by decide), Finset.mem_erase.mpr ⟨ne (by decide), me cc0_scratch6.sem (by decide)⟩⟩),
    SparseCore.bigSep_erase' (Finset.mem_erase.mpr ⟨ne (by decide), Finset.mem_erase.mpr ⟨ne (by decide),
      Finset.mem_erase.mpr ⟨ne (by decide), me cc0_scoped0.sem (by decide)⟩⟩⟩)]

omit [FloatOps F] in
/-- A tile's four buffers are among its own. -/
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ bigSep (((((ownRefs (τ := τ) (VT d L).2).erase ((VT d L).2.devRef cc0_scratch0)).erase ((VT d L).2.devRef cc0_scratch1)).erase
              ((VT d L).2.devRef cc0_scratch2)).erase ((VT d L).2.devRef cc0_scratch3))
              fun b => iprop(∃ f, ((d, b) : Loc nD τ sig) ↦{fullShare} f)) := by
  have ne : ∀ {a b : Ref sig .scVector}, a ≠ b → (VT d L).2.devRef a ≠ (VT d L).2.devRef b := fun h e => h (Proc.devRef_injective _ e)
  unfold SparseCore.Cfg.ownBufs
  refine (SparseCore.bigSep_erase' (SparseCore.Cfg.mem_ownRefs_of_owner (p := (VT d L).2) (b := (VT d L).2.devRef cc0_scratch0) rfl)).trans ?_
  rw [SparseCore.bigSep_erase' (Finset.mem_erase.mpr ⟨ne (show (cc0_scratch1 : Ref sig .scVector) ≠ cc0_scratch0 by decide),
      SparseCore.Cfg.mem_ownRefs_of_owner (p := (VT d L).2) (b := (VT d L).2.devRef cc0_scratch1) rfl⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide),
      SparseCore.Cfg.mem_ownRefs_of_owner (p := (VT d L).2) (b := (VT d L).2.devRef cc0_scratch2) rfl⟩⟩),
    SparseCore.bigSep_erase' (Finset.mem_erase.mpr ⟨ne (show (cc0_scratch3 : Ref sig .scVector) ≠ cc0_scratch2 by decide),
      Finset.mem_erase.mpr ⟨ne (show (cc0_scratch3 : Ref sig .scVector) ≠ cc0_scratch1 by decide),
      Finset.mem_erase.mpr ⟨ne (show (cc0_scratch3 : Ref sig .scVector) ≠ cc0_scratch0 by decide),
      SparseCore.Cfg.mem_ownRefs_of_owner (p := (VT d L).2) (b := (VT d L).2.devRef cc0_scratch3) rfl⟩⟩⟩)]

omit [FloatOps F] in
/-- A whole buffer of the device, as the tile names it. -/
theorem pts_f (q : PosShare TreeShare) : (fV.view.loc (VT d L) ↦[fV.view.set]{q} FX : sProp 𝕄) = fLoc d ↦{q} FX := by
  simp only [Memref.view_whole, View.set_whole]
omit [FloatOps F] in
theorem pts_w (q : PosShare TreeShare) : (wV.view.loc (VT d L) ↦[wV.view.set]{q} FW : sProp 𝕄) = wLoc d ↦{q} FW := by
  simp only [Memref.view_whole, View.set_whole]
omit [FloatOps F] in
theorem ex_b0 : (iprop(∃ f, b0V.view.loc (VT d L) ↦[b0V.view.set]{fullShare} f) : sProp 𝕄) = iprop(∃ f, (VT d L).loc cc0_scratch0 ↦{fullShare} f) := by
  simp only [Memref.view_whole, View.set_whole]
omit [FloatOps F] in
theorem ex_b1 : (iprop(∃ f, b1V.view.loc (VT d L) ↦[b1V.view.set]{fullShare} f) : sProp 𝕄) = iprop(∃ f, (VT d L).loc cc0_scratch1 ↦{fullShare} f) := by
  simp only [Memref.view_whole, View.set_whole]
omit [FloatOps F] in
theorem ex_b2 : (iprop(∃ f, b2V.view.loc (VT d L) ↦[b2V.view.set]{fullShare} f) : sProp 𝕄) = iprop(∃ f, (VT d L).loc cc0_scratch2 ↦{fullShare} f) := by
  simp only [Memref.view_whole, View.set_whole]
omit [FloatOps F] in
theorem ex_b3 : (iprop(∃ f, b3V.view.loc (VT d L) ↦[b3V.view.set]{fullShare} f) : sProp 𝕄) = iprop(∃ f, (VT d L).loc cc0_scratch3 ↦{fullShare} f) := by
  simp only [Memref.view_whole, View.set_whole]

omit [FloatOps F] in
theorem rowsIn_eq (sb n : ℕ) : (rowsIn d L oV sb n : sProp 𝕄)
    = bigSep (Finset.range n) fun r => iprop(∃ g : Buf (Elt F) (oLoc d), oLoc d ↦[rowL d (sb + r)]{fullShare} g) :=
  bigSep_congr fun r _ => by rw [row4_eq]
omit [FloatOps F] in
theorem rowsOut_eq (G : Buf (Elt F) (oLoc d)) (sb n : ℕ) : (rowsOut d L oV G sb n : sProp 𝕄)
    = bigSep (Finset.range n) fun r => iprop(oLoc d ↦[rowL d (sb + r)]{fullShare} G) :=
  bigSep_congr fun r _ => by rw [row4_eq]

omit [FloatOps F] in
/-- A share of the feature words is two read shares and what is left. -/
theorem two_shares (q : PosShare TreeShare) : (fLoc d ↦{q} FX : sProp 𝕄)
    ⊣⊢ iprop((fLoc d ↦{Transfers.shareDrop q 2} FX) ∗ (fLoc d ↦{Transfers.shareTokN q 0} FX) ∗ (fLoc d ↦{Transfers.shareTokN q 1} FX)) := by
  have h := Transfers.pointsTo_toks_range (ℓ := fLoc d) (S := Finset.univ) (f := FX) (Ix := HIx 1) (Name := ℕ) (U := UU) (Lvl := ℕ) q 2
  rwa [show Finset.range 2 = {0, 1} by decide, SparseCore.bigSep_insert' (by decide), bigSep_singleton] at h

/-- A tile's task: its buffers and semaphores taken from the launch's and given back. -/
theorem tile_body {n : ℕ} (hn : n = 2 * (L 1).val + (L 0).val) (O : CellTallies nD τ sig (HIx 1)) (Wt : Waits sig (HIx 1)) (hO : ∀ g, O g none = 0) :
    iprop(levAts (K (F := F)).L (K (F := F)).lev ∗ emp ∗ goP d FX FW n ∗ scopedBufs (VT d L) ∗ scopedSems0 (VT d L) ∗ owes (VT d L) O Wt)
      ⊢ wp frame (wpE (defs₀ (F := F)) 𝒱₀ (VT d L) none) Set.univ
          (cc0__sc_body L fV (Memref.isWhole_whole _) wV (Memref.isWhole_whole _) oV (Memref.isWhole_whole _) b0V (Memref.isWhole_whole _)
            b1V (Memref.isWhole_whole _) b2V (Memref.isWhole_whole _) b3V (Memref.isWhole_whole _) cc0_scratch4 cc0_scratch5 cc0_scratch6 cc0_scoped0)
          fun _ => iprop(tdP d FX FW n ∗ scopedBufs (VT d L) ∗ scopedSems0 (VT d L)
            ∗ ∃ W', ⌜∀ p ∈ W', p ∈ Wt ∨ p.2 = none ∨ p.2 = some (0 : Fin 1)⌝ ∗ owes (VT d L) O W') := by
  rw [(K (F := F)).scopedBufs_V facts d ((L 0).castLE hcore0) ((L 1).castLE hsub0),
    SparseCore.Cfg.scopedSems0_V (Val := Elt F) d ((L 0).castLE hcore0) ((L 1).castLE hsub0), ownSems0_V, ownBufs_V]
  unfold goP tdP
  iintro ⟨#Hlv, -, ⟨Hf, Hw, Hr⟩, ⟨H0, H1, H2, H3, Hbufs⟩, ⟨Hs0, Hs1, Hs2, Hs3, Hsems⟩, HO⟩
  ihave Hmw := ((K (F := F)).mayWaits_none (thr := VT d L) hO) $$ Hlv
  ihave Hf' := (two_shares d FX (tq n)).1 $$ Hf
  icases Hf' with ⟨Hfr, Hf0, Hf1⟩
  have ht := wp_tile d L fV (Memref.isWhole_whole _) wV (Memref.isWhole_whole _) oV (Memref.isWhole_whole _) b0V (Memref.isWhole_whole _)
    b1V (Memref.isWhole_whole _) b2V (Memref.isWhole_whole _) b3V (Memref.isWhole_whole _) cc0_scratch4 cc0_scratch5 cc0_scratch6 cc0_scoped0
    (words (s := 128) (by norm_num) FW) (words (s := 40908800) (by norm_num) FX) (FX := FX)
    (fun y => (words_at (s := 40908800) (by norm_num) FX y).symm)
    (q0 := Transfers.shareTokN (tq n) 0) (q1 := Transfers.shareTokN (tq n) 1) (q := tq n) (FW := FW)
    (fun y => (words_at (s := 128) (by norm_num) FW y).symm)
    (G := outG d FX FW) (fun z => rfl) (O := O) (Wt := Wt) hn
  rw [rowsIn_eq, rowsOut_eq] at ht
  unfold tileRes chunkNo owing at ht
  rw [pts_f, pts_f, pts_w, ex_b0, ex_b1, ex_b2, ex_b3] at ht
  iapply ht
  isplitl [H0 H1 H2 H3 Hf0 Hf1 Hw Hs0 Hs1 Hs2 Hs3 HO Hmw]
  · isplitl [H0 Hf0 Hs0]
    · isplitl [H0]; · iexact H0
      isplitl [Hf0]; · iexact Hf0
      iexact Hs0
    isplitl [H1 Hf1 Hs1]
    · isplitl [H1]; · iexact H1
      isplitl [Hf1]; · iexact Hf1
      iexact Hs1
    isplitl [Hw]; · iexact Hw
    isplitl [H2]; · iexact H2
    isplitl [H3]; · iexact H3
    isplitl [Hs2]; · iexact Hs2
    isplitl [Hs3]; · iexact Hs3
    isplitl [Hmw]; · iexact Hmw
    iexists Wt
    isplitr
    · ipureintro; exact fun p hp => .inl hp
    · iexact HO
  isplitl [Hr]; · iexact Hr
  iintro ⟨⟨H0, Hf0, Hs0⟩, ⟨H1, Hf1, Hs1⟩, Hw, H2, H3, Hs2, Hs3, -, ⟨%W', %hW', HO⟩⟩ Hr
  isplitl [Hfr Hf0 Hf1 Hw Hr]
  · isplitl [Hfr Hf0 Hf1]
    · iapply (two_shares d FX (tq n)).2
      isplitl [Hfr]; · iexact Hfr
      isplitl [Hf0]; · iexact Hf0
      iexact Hf1
    isplitl [Hw]; · iexact Hw
    iexact Hr
  isplitl [H0 H1 H2 H3 Hbufs]
  · isplitl [H0]; · iexact H0
    isplitl [H1]; · iexact H1
    isplitl [H2]; · iexact H2
    isplitl [H3]; · iexact H3
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists W'
  isplitr
  · ipureintro; exact fun p hp => (hW' p hp).imp_right Or.inl
  · iexact HO

end Tile

/-! ## The call's obligations -/

variable (m : (ℓ : Loc nD τ sig) → Buf (Elt F) ℓ) (ρ : Dev nD → PrngReg)

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev f' : DevRef τ sig := Proc.devRef .tc (main_v0 : Ref sig .tc)
abbrev w' : DevRef τ sig := Proc.devRef .tc (main_v1 : Ref sig .tc)
abbrev o' : DevRef τ sig := Proc.devRef .tc (main_v2 : Ref sig .tc)
abbrev r' : DevRef τ sig := Proc.devRef .tc (main_v3 : Ref sig .tc)
abbrev opF : HloOp τ sig (Elt F) := StableHlo.reshape main_arg0 main_v0 (rfl : (.f32 : EltTy) = .f32) shapeCasts_S319600x128_S40908800
abbrev opW : HloOp τ sig (Elt F) := StableHlo.reshape main_arg2 main_v1 (rfl : (.f32 : EltTy) = .f32) shapeCasts_S128x1_S128
abbrev opR : HloOp τ sig (Elt F) := StableHlo.reshape main_v2 main_v3 (rfl : (.f32 : EltTy) = .f32) shapeCasts_S102400_S800x128

/-- The feature words, the weights and the result, flat; and the result the program leaves. -/
def featW (d : Dev nD) : Buf (Elt F) (fLoc d) := shapeCast S40908800 (m ((SparseCore.T d).loc main_arg0)) shapeCasts_S319600x128_S40908800
def weigW (d : Dev nD) : Buf (Elt F) (wLoc d) := shapeCast S128 (m ((SparseCore.T d).loc main_arg2)) shapeCasts_S128x1_S128
def resW (d : Dev nD) : Buf (Elt F) (oLoc d) := outG d (featW m d) (weigW m d)
def res (d : Dev nD) : Buf (Elt F) (rLoc d) := shapeCast S800x128 (resW m d) shapeCasts_S102400_S800x128

/-- The call hands each SparseCore its sixteen tiles' pieces. -/
def P : (K (F := F)).Pay (nD := nD) (Val := Elt F) (Name := ℕ) (U := UU) where
  st := fun q d c => match q with | 0 => bigSep Finset.univ fun i : Fin ((K (F := F)).nSub 0) => goP d (featW m d) (weigW m d) (2 * i.val + c.val)
  dn := fun q d c => match q with | 0 => bigSep Finset.univ fun i : Fin ((K (F := F)).nSub 0) => tdP d (featW m d) (weigW m d) (2 * i.val + c.val)
  go := fun q d c i => match q with | 0 => goP d (featW m d) (weigW m d) (2 * i.val + c.val)
  td := fun q d c i => match q with | 0 => tdP d (featW m d) (weigW m d) (2 * i.val + c.val)
  x := fun _ _ => iprop(emp)

instance P_storable : (P (F := F) m).IsStorable where
  st q d c := match q with
    | 0 => (inferInstance : BI.Storable (upEmb : UEmb _ 𝕄) (bigSep Finset.univ fun i : Fin ((K (F := F)).nSub 0) => goP d (featW m d) (weigW m d) (2 * i.val + c.val)))
  dn q d c := match q with
    | 0 => (inferInstance : BI.Storable (upEmb : UEmb _ 𝕄) (bigSep Finset.univ fun i : Fin ((K (F := F)).nSub 0) => tdP d (featW m d) (weigW m d) (2 * i.val + c.val)))
  go q d c i := match q with
    | 0 => (inferInstance : BI.Storable (upEmb : UEmb _ 𝕄) (goP d (featW m d) (weigW m d) (2 * i.val + c.val)))
  td q d c i := match q with
    | 0 => (inferInstance : BI.Storable (upEmb : UEmb _ 𝕄) (tdP d (featW m d) (weigW m d) (2 * i.val + c.val)))

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s) fV (Memref.isWhole_whole _) wV (Memref.isWhole_whole _)
          oV (Memref.isWhole_whole _) b0V (Memref.isWhole_whole _) b1V (Memref.isWhole_whole _) b2V (Memref.isWhole_whole _) b3V (Memref.isWhole_whole _)
          cc0_scratch4 cc0_scratch5 cc0_scratch6 cc0_scoped0) ⟨⟩ c s := rfl

theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (featW m d) (weigW m d) (coordsV ⟨_, hci.1⟩ ⟨_, hci.2⟩) (n := 2 * i.val + c.val) rfl O W hO

theorem vecSplit : (K (F := F)).VecSplit' (P m) 0 := by
  intro d c
  show (bigSep Finset.univ fun i : Fin ((K (F := F)).nSub 0) => goP d (featW m d) (weigW m d) (2 * i.val + c.val))
    ⊢ |={Set.univ}=> iprop((bigSep Finset.univ fun i : Fin ((K (F := F)).nSub 0) => goP d (featW m d) (weigW m d) (2 * i.val + c.val))
      ∗ ((bigSep Finset.univ fun i : Fin ((K (F := F)).nSub 0) => tdP d (featW m d) (weigW m d) (2 * i.val + c.val))
          -∗ bigSep Finset.univ fun i : Fin ((K (F := F)).nSub 0) => tdP d (featW m d) (weigW m d) (2 * i.val + c.val)))
  iintro H; imodintro
  isplitl [H]; · iexact H
  iintro H; iexact H

/-! ## The tiles' pieces together -/

omit [FloatOps F] in
/-- Two by sixteen tiles are the tiles below 32. -/
theorem tiles_deal (Φ : ℕ → sProp 𝕄) :
    (bigSep Finset.univ fun c : Fin 2 => bigSep Finset.univ fun i : Fin 16 => Φ (2 * i.val + c.val)) = bigSep (Finset.range 32) Φ := by
  rw [← bigSep_univ_prod (fun p : Fin 2 × Fin 16 => Φ (2 * p.2.val + p.1.val)),
    ← SparseCore.bigSep_image_of_injOn (f := fun p : Fin 2 × Fin 16 => 2 * p.2.val + p.1.val) (s := Finset.univ) ?_ Φ]
  · rw [show (Finset.univ.image fun p : Fin 2 × Fin 16 => 2 * p.2.val + p.1.val) = Finset.range 32 by decide]
  · intro a _ b _ e
    have e' : 2 * a.2.val + a.1.val = 2 * b.2.val + b.1.val := e
    have := a.1.isLt; have := b.1.isLt
    exact Prod.ext (Fin.ext (by omega)) (Fin.ext (by omega))

/-- The tiles' rows are the rows below 800. -/
theorem rows_deal (Φ : ℕ → sProp 𝕄) :
    (bigSep (Finset.range 32) fun n => bigSep (Finset.range (cut (n + 1) - cut n)) fun r => Φ (cut n + r)) = bigSep (Finset.range 800) Φ := by
  have hr : ∀ (k : ℕ) (Ψ : ℕ → sProp 𝕄), bigSep (Finset.range k) Ψ = bigSep (Finset.univ : Finset (Fin k)) fun t => Ψ t.val := fun k Ψ => by
    rw [← SparseCore.bigSep_image_of_injOn (f := fun t : Fin k => t.val) (s := Finset.univ) Fin.val_injective.injOn Ψ]
    congr 1
    ext x
    simp only [Finset.mem_range, Finset.mem_image, Finset.mem_univ, true_and]
    exact ⟨fun h => ⟨⟨x, h⟩, rfl⟩, fun ⟨t, e⟩ => e ▸ t.isLt⟩
  have h : ∀ k ≤ 32, (bigSep (Finset.range k) fun n => bigSep (Finset.range (cut (n + 1) - cut n)) fun r => Φ (cut n + r)) = bigSep (Finset.range (cut k)) Φ := by
    intro k
    induction k with
    | zero => intro _; rw [cut_zero, Finset.range_zero, bigSep_empty, bigSep_empty]
    | succ k ih =>
      intro hk
      have hc := cut_succ (n := k) (by omega)
      rw [bigSep_range_succ, ih (by omega), hr (cut (k + 1) - cut k)]
      conv_rhs => rw [show cut (k + 1) = cut k + (cut (k + 1) - cut k) by omega, range_add]
      exact BI.Entails.antisymm BI.sep_comm BI.sep_comm
  rw [h 32 le_rfl, cut_last]

omit [FloatOps F] in
theorem rows_whole (d : Dev nD) (f : Buf (Elt F) (oLoc d)) :
    (oLoc d ↦{fullShare} f : sProp 𝕄) = bigSep (Finset.range 800) fun b => oLoc d ↦[rowL d b]{fullShare} f := by
  have hu : (Finset.range 800).biUnion (rowL d) = Finset.univ := Finset.eq_univ_of_forall fun y => Finset.mem_biUnion.mpr ⟨(y 0).val / 128, by
    have : (y 0).val < 102400 := (y 0).isLt
    exact Finset.mem_range.mpr (by omega), Finset.mem_filter.mpr ⟨Finset.mem_univ _, rfl⟩⟩
  have h := pointsTo_biUnion (Ix := HIx 1) (Name := ℕ) (U := UU) (Lvl := ℕ) (ℓ := oLoc d) (q := fullShare) (f := f) (Finset.range 800) (rowL d) fun i _ j _ h => Finset.disjoint_left.mpr fun y hi hj =>
    h ((Finset.mem_filter.mp hi).2.symm.trans (Finset.mem_filter.mp hj).2)
  rwa [hu] at h

omit [FloatOps F] in
/-- Rows held at a value are rows held at some. -/
theorem rows_some (d : Dev nD) (f : Buf (Elt F) (oLoc d)) :
    (bigSep (Finset.range 800) fun b => oLoc d ↦[rowL d b]{fullShare} f : sProp 𝕄)
      ⊢ bigSep (Finset.range 800) fun b => iprop(∃ g : Buf (Elt F) (oLoc d), oLoc d ↦[rowL d b]{fullShare} g) := by
  have h : ∀ b : ℕ, (oLoc d ↦[rowL d b]{fullShare} f : sProp 𝕄) ⊢ iprop(∃ g : Buf (Elt F) (oLoc d), oLoc d ↦[rowL d b]{fullShare} g) := fun b => by
    iintro H
    iexists f
    iexact H
  exact bigSep_mono fun b _ => h b

omit [FloatOps F] in
/-- A table in the tiles' read shares. -/
theorem shares (ℓ : Loc nD τ sig) (f : Buf (Elt F) ℓ) :
    (ℓ ↦{fullShare} f : sProp 𝕄) ⊣⊢ iprop((ℓ ↦{Transfers.shareDrop fullShare 32} f) ∗ bigSep (Finset.range 32) fun n => ℓ ↦{tq n} f) :=
  Transfers.pointsTo_toks_range (ℓ := ℓ) (S := Finset.univ) (f := f) fullShare 32

theorem st0_eq (d : Dev nD) : (bigSep Finset.univ fun c : Fin ((K (F := F)).nCore 0) => (P m).st 0 d c)
    = iprop((bigSep (Finset.range 32) fun n => fLoc d ↦{tq n} featW m d) ∗ (bigSep (Finset.range 32) fun n => wLoc d ↦{tq n} weigW m d)
        ∗ bigSep (Finset.range 800) fun b => iprop(∃ g : Buf (Elt F) (oLoc d), oLoc d ↦[rowL d b]{fullShare} g)) := by
  refine (tiles_deal (goP d (featW m d) (weigW m d))).trans ?_
  rw [← rows_deal]
  unfold goP
  rw [bigSep_sep', bigSep_sep']
theorem dn0_eq (d : Dev nD) : (bigSep Finset.univ fun c : Fin ((K (F := F)).nCore 0) => (P m).dn 0 d c)
    = iprop((bigSep (Finset.range 32) fun n => fLoc d ↦{tq n} featW m d) ∗ (bigSep (Finset.range 32) fun n => wLoc d ↦{tq n} weigW m d)
        ∗ oLoc d ↦{fullShare} resW m d) := by
  refine (tiles_deal (tdP d (featW m d) (weigW m d))).trans ?_
  rw [rows_whole, ← rows_deal]
  unfold tdP resW
  rw [bigSep_sep', bigSep_sep']

/-! ## The launch's ghost state -/

def u₀ : UU := (initOf (K (F := F)).hsCells (K (F := F)).hsToks, 1)

omit [FloatOps F] in
theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => emps _, emps]
  iempintro

/-! ## The program on the TensorCore -/

/-- The device's seven arrays. -/
abbrev S7 : Finset (DevRef τ sig) := {a0', a1', a2', f', w', o', r'}

omit [FloatOps F] in
theorem held_S7 (d : Dev nD) (W : Valuation τ sig (Elt F)) :
    (held (T d) S7 W : sProp 𝕄)
      = iprop(((SparseCore.T d).loc main_arg0 ↦{fullShare} W a0') ∗ ((SparseCore.T d).loc main_arg1 ↦{fullShare} W a1')
          ∗ ((SparseCore.T d).loc main_arg2 ↦{fullShare} W a2') ∗ (fLoc d ↦{fullShare} W f') ∗ (wLoc d ↦{fullShare} W w')
          ∗ (oLoc d ↦{fullShare} W o') ∗ rLoc d ↦{fullShare} W r') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

def V0 (d : Dev nD) : Valuation τ sig (Elt F) := fun b => m (d, b)
/-- Before the call, and after it. -/
def V2 (d : Dev nD) : Valuation τ sig (Elt F) := (opW (F := F)).result ((opF (F := F)).result (V0 m d))
def V3 (d : Dev nD) : Valuation τ sig (Elt F) := Function.update (V2 m d) o' (resW m d)

theorem unscoped_held (d : Dev nD) : (unscopedBufs d (fun b => m ((SparseCore.T d).loc b)) : sProp 𝕄) = held (T d) S7 (V0 m d) := by
  rw [held_S7]
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

theorem V2_ne (d : Dev nD) {b : DevRef τ sig} (hf : b ∉ ({f'} : Finset (DevRef τ sig))) (hw : b ∉ ({w'} : Finset (DevRef τ sig))) : V2 m d b = m (d, b) := by
  unfold V2
  rw [(opW (F := F)).result_of_not_mem _ hw, (opF (F := F)).result_of_not_mem _ hf]
  rfl
theorem V2_f (d : Dev nD) : V2 m d f' = featW m d := by
  unfold V2
  rw [(opW (F := F)).result_of_not_mem _ (show f' ∉ ({w'} : Finset (DevRef τ sig)) by decide)]
  exact StableHlo.reshape_result _ _ _ _ _ _ _
theorem V2_w (d : Dev nD) : V2 m d w' = weigW m d := by
  unfold V2
  refine (StableHlo.reshape_result _ _ _ _ _ _ _).trans ?_
  rw [(opF (F := F)).result_of_not_mem _ (show a2' ∉ ({f'} : Finset (DevRef τ sig)) by decide)]
  rfl
theorem V3_o (d : Dev nD) : V3 m d o' = resW m d := Function.update_self _ _ _
theorem V3_ne (d : Dev nD) {b : DevRef τ sig} (h : b ≠ o') : V3 m d b = V2 m d b := Function.update_of_ne h _ _

/-- What the program leaves. -/
abbrev FIN (d : Dev nD) : sProp 𝕄 :=
  iprop((rLoc d ↦{fullShare} res m d) ∗ ((SparseCore.T d).loc main_arg0 ↦{fullShare} m ((SparseCore.T d).loc main_arg0))
    ∗ ((SparseCore.T d).loc main_arg1 ↦{fullShare} m ((SparseCore.T d).loc main_arg1)) ∗ ((SparseCore.T d).loc main_arg2 ↦{fullShare} m ((SparseCore.T d).loc main_arg2)))

theorem held_V2 (d : Dev nD) :
    (held (T d) S7 ((opW (F := F)).result ((opF (F := F)).result (V0 m d))) : sProp 𝕄)
      = iprop(((SparseCore.T d).loc main_arg0 ↦{fullShare} m ((SparseCore.T d).loc main_arg0)) ∗ ((SparseCore.T d).loc main_arg1 ↦{fullShare} m ((SparseCore.T d).loc main_arg1))
          ∗ ((SparseCore.T d).loc main_arg2 ↦{fullShare} m ((SparseCore.T d).loc main_arg2)) ∗ (fLoc d ↦{fullShare} featW m d) ∗ (wLoc d ↦{fullShare} weigW m d)
          ∗ (oLoc d ↦{fullShare} m (oLoc d)) ∗ rLoc d ↦{fullShare} m (rLoc d)) := by
  show held (SparseCore.T d) S7 (V2 m d) = _
  rw [held_S7, V2_f, V2_w, V2_ne m d (b := a0') (by decide) (by decide), V2_ne m d (b := a1') (by decide) (by decide), V2_ne m d (b := a2') (by decide) (by decide),
    V2_ne m d (b := o') (by decide) (by decide), V2_ne m d (b := r') (by decide) (by decide)]

theorem held_V3 (d : Dev nD) :
    (held (T d) S7 (V3 m d) : sProp 𝕄)
      = iprop(((SparseCore.T d).loc main_arg0 ↦{fullShare} m ((SparseCore.T d).loc main_arg0)) ∗ ((SparseCore.T d).loc main_arg1 ↦{fullShare} m ((SparseCore.T d).loc main_arg1))
          ∗ ((SparseCore.T d).loc main_arg2 ↦{fullShare} m ((SparseCore.T d).loc main_arg2)) ∗ (fLoc d ↦{fullShare} featW m d) ∗ (wLoc d ↦{fullShare} weigW m d)
          ∗ (oLoc d ↦{fullShare} resW m d) ∗ rLoc d ↦{fullShare} m (rLoc d)) := by
  rw [held_S7, V3_o, V3_ne m d (b := a0') (by decide), V3_ne m d (b := a1') (by decide), V3_ne m d (b := a2') (by decide), V3_ne m d (b := f') (by decide),
    V3_ne m d (b := w') (by decide), V3_ne m d (b := r') (by decide), V2_f, V2_w, V2_ne m d (b := a0') (by decide) (by decide),
    V2_ne m d (b := a1') (by decide) (by decide), V2_ne m d (b := a2') (by decide) (by decide), V2_ne m d (b := r') (by decide) (by decide)]

theorem held_V4 (d : Dev nD) :
    (held (T d) S7 ((opR (F := F)).result (V3 m d)) : sProp 𝕄)
      = iprop(((SparseCore.T d).loc main_arg0 ↦{fullShare} m ((SparseCore.T d).loc main_arg0)) ∗ ((SparseCore.T d).loc main_arg1 ↦{fullShare} m ((SparseCore.T d).loc main_arg1))
          ∗ ((SparseCore.T d).loc main_arg2 ↦{fullShare} m ((SparseCore.T d).loc main_arg2)) ∗ (fLoc d ↦{fullShare} featW m d) ∗ (wLoc d ↦{fullShare} weigW m d)
          ∗ (oLoc d ↦{fullShare} resW m d) ∗ rLoc d ↦{fullShare} res m d) := by
  have hn : ∀ {b : DevRef τ sig}, b ∉ ({r'} : Finset (DevRef τ sig)) → (opR (F := F)).result (V3 m d) b = V3 m d b := fun h => (opR (F := F)).result_of_not_mem _ h
  rw [held_S7, show (opR (F := F)).result (V3 m d) r' = res m d from (StableHlo.reshape_result _ _ _ _ _ _ _).trans (by rw [V3_o]; rfl),
    hn (b := a0') (by decide), hn (b := a1') (by decide), hn (b := a2') (by decide), hn (b := f') (by decide), hn (b := w') (by decide), hn (b := o') (by decide),
    V3_o, V3_ne m d (b := a0') (by decide), V3_ne m d (b := a1') (by decide), V3_ne m d (b := a2') (by decide), V3_ne m d (b := f') (by decide),
    V3_ne m d (b := w') (by decide), V2_f, V2_w, V2_ne m d (b := a0') (by decide) (by decide),
    V2_ne m d (b := a1') (by decide) (by decide), V2_ne m d (b := a2') (by decide) (by decide)]

theorem hF : (opF (F := F)).bufs ⊆ S7 := show ({a0', f'} : Finset (DevRef τ sig)) ⊆ S7 by decide
theorem hW : (opW (F := F)).bufs ⊆ S7 := show ({a2', w'} : Finset (DevRef τ sig)) ⊆ S7 by decide
theorem hR : (opR (F := F)).bufs ⊆ S7 := show ({o', r'} : Finset (DevRef τ sig)) ⊆ S7 by decide

/-- The program on the TensorCore: the two flattenings, the call, the result's rows. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opF) (S := S7) hF (V := V0 m d)) $$ [Hb Hheld]
  · isplitl [Hb] <;> iassumption
  iintro ⟨Hb, Hheld⟩
  rw [wp_ret]; imodintro
  iapply (wp_hlo_within 𝒱 (SparseCore.T d) none Set.univ (op := opW) (S := S7) hW (V := (opF (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨Ha0, Ha1, Ha2, Hf, Hw, Ho, Hr⟩
  ihave Hf' := (shares (F := F) (fLoc d) (featW m d)).1 $$ Hf
  icases Hf' with ⟨Hfr, Hf⟩
  ihave Hw' := (shares (F := F) (wLoc d) (weigW m d)).1 $$ Hw
  icases Hw' with ⟨Hwr, Hw⟩
  ihave Ho' := (Entails.of_eq (rows_whole (F := F) d (m (oLoc d)))) $$ Ho
  iapply ((K (F := F)).wp_run (D (F := F)) 𝒱 (EH := EH) (P := P m) κ d 0) $$ [Hst Hf Hw Ho' Hb Hfr Hwr Ha0 Ha1 Ha2 Hr Hts]
  isplitr; · iexact Hctx
  isplitl [Hst]; · iexact Hst
  isplitl [Hf Hw Ho']
  · rw [st0_eq]
    isplitl [Hf]; · iexact Hf
    isplitl [Hw]; · iexact Hw
    iapply (rows_some (F := F) d (m (oLoc d)))
    iexact Ho'
  iintro ⟨Hst, Hdn⟩
  ihave Hdn' := (Entails.of_eq (dn0_eq m d)) $$ Hdn
  icases Hdn' with ⟨Hf, Hw, Ho⟩
  iapply (wp_hlo_within 𝒱 (SparseCore.T d) none Set.univ (op := opR) (S := S7) hR (V := V3 m d)) $$ [Hb Hfr Hf Hwr Hw Ho Ha0 Ha1 Ha2 Hr]
  · isplitl [Hb]; · iexact Hb
    rw [held_V3]
    isplitl [Ha0]; · iexact Ha0
    isplitl [Ha1]; · iexact Ha1
    isplitl [Ha2]; · iexact Ha2
    isplitl [Hfr Hf]
    · iapply (shares (F := F) (fLoc d) (featW m d)).2
      isplitl [Hfr] <;> iassumption
    isplitl [Hwr Hw]
    · iapply (shares (F := F) (wLoc d) (weigW m d)).2
      isplitl [Hwr] <;> iassumption
    isplitl [Ho]; · iexact Ho
    iexact Hr
  iintro ⟨Hb, Hheld⟩
  ihave Hh := (Entails.of_eq (held_V4 (F := F) m d)) $$ Hheld
  icases Hh with ⟨Ha0, Ha1, Ha2, -, -, -, Hr⟩
  rw [wp_ret]; imodintro; imodintro
  isplitl [Hst]; · iexact Hst
  isplitr [Hb Hts]
  · isplitl [Hr]; · iexact Hr
    isplitl [Ha0]; · iexact Ha0
    isplitl [Ha1]; · iexact Ha1
    iexact Ha2
  isplitl [Hb] <;> iassumption

/-! ## The program's run -/

/-- What the claims read of a device's final state. -/
def fq (d : Dev nD) (s' : Phys nD τ sig (Elt F)) : Prop :=
  s'.mem.mem (rLoc d) = res m d ∧ s'.mem.mem ((SparseCore.T d).loc main_arg0) = m ((SparseCore.T d).loc main_arg0)
    ∧ s'.mem.mem ((SparseCore.T d).loc main_arg1) = m ((SparseCore.T d).loc main_arg1) ∧ s'.mem.mem ((SparseCore.T d).loc main_arg2) = m ((SparseCore.T d).loc main_arg2)

omit [FloatOps F] in
/-- A buffer held whole is what the state holds. -/
theorem held_agree (s' : Phys nD τ sig (Elt F)) (ℓ : Loc nD τ sig) (f : Buf (Elt F) ℓ) :
    (iprop((ℓ ↦{fullShare} f) ∗ SI s') : sProp 𝕄) ⊢ iprop(⌜s'.mem.mem ℓ = f⌝ ∗ SI s') := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨Hr, H0, H1, H2⟩, HSI⟩
  ihave H := (held_agree (F := F) s' _ _) $$ [Hr HSI]
  · isplitl [Hr] <;> iassumption
  icases H with ⟨%hr, HSI⟩
  ihave H := (held_agree (F := F) s' _ _) $$ [H0 HSI]
  · isplitl [H0] <;> iassumption
  icases H with ⟨%h0, HSI⟩
  ihave H := (held_agree (F := F) s' _ _) $$ [H1 HSI]
  · isplitl [H1] <;> iassumption
  icases H with ⟨%h1, HSI⟩
  ihave H := (held_agree (F := F) s' _ _) $$ [H2 HSI]
  · isplitl [H2] <;> iassumption
  icases H with ⟨%h2, -⟩
  ipureintro
  exact ⟨hr, h0, h1, h2⟩

/-- The kernel's program runs, its result the rows' sums, its arguments kept, its semaphores at zero. -/
theorem run_main [∀ e, Nonempty (Elt F e)] :
    θ_run (Cert.KernelIdeal.defs (F := F)) (Cert.KernelIdeal.threads (F := F)) ⟨m, fun _ => 0, ρ⟩
      (fun r => (∀ d : Dev nD, r.2.mem (rLoc d) = res m d ∧ r.2.mem ((SparseCore.T d).loc main_arg0) = m ((SparseCore.T d).loc main_arg0)
        ∧ r.2.mem ((SparseCore.T d).loc main_arg1) = m ((SparseCore.T d).loc main_arg1)
        ∧ r.2.mem ((SparseCore.T d).loc main_arg2) = m ((SparseCore.T d).loc main_arg2)) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h hz => ⟨h, hz⟩)

end Cert.Proof

end
-- ==== Proof.RScat.lean ====
/-
  Facts about sums over the rows of a table and about the reference's scattering and maximum, at any extents: which rows
  a scatter of whole rows adds to an entry, and when a maximum of extended reals is finite.
-/
module

public import Idealize.ShloMosaic.Lib.Routing.Ops
public import Idealize.ShloMosaic.Lib.IdealHost
public import Idealize.ShloMosaic.Lib.MatmulPlain

@[expose] public section

noncomputable section

namespace Cert.Proof

open Idealize.ShloMosaic Idealize.ShloMosaic.ValueIdx Idealize.ShloMosaic.Routing
open scoped BigOperators

section Scatter

variable {nb B n : ℕ} (d : ScatterDims (shape2 nb B) (shape2 n 1) (shape2 n B)) (huw : d.updateWindowDims = [1])
  (hiw : d.insertedWindowDims = [0]) (hsd : d.scatterDimsToOperandDims = [0]) (hiv : d.indexVectorDim = 1)
  (idx : IVec (shape2 n 1) 32)

include huw hiw hsd hiv

/-- Row `r` of the updates lands in the row that its index word names. -/
theorem start_row (r : Fin n) (y : Fin B) : d.start (ix2 r y) idx 0 = (idx (ix2 r (0 : Fin 1))).toInt := by
  obtain ⟨uw, iw, sd, iv, wf⟩ := d
  dsimp only at huw hiw hsd hiv
  subst huw hiw hsd hiv
  have hm : (0 : Fin 2) ∈ ([0] : List (Fin 2)) := List.mem_singleton.2 rfl
  unfold ScatterDims.start
  rw [dif_pos hm]
  refine congrArg (fun k => (idx k).toInt) (funext fun b => Fin.ext ?_)
  match b with
  | ⟨0, _⟩ => rfl
  | ⟨1, _⟩ => rfl

theorem start_col (r : Fin n) (y : Fin B) : d.start (ix2 r y) idx 1 = 0 := by
  unfold ScatterDims.start
  exact dif_neg (one_not_mem _ hsd)

theorem window_row (r : Fin n) (y : Fin B) : d.window (ix2 r y) 0 = 0 := by
  obtain ⟨uw, iw, sd, iv, wf⟩ := d
  dsimp only at huw hiw hsd hiv
  subst huw hiw hsd hiv
  rfl

theorem window_col (r : Fin n) (y : Fin B) : d.window (ix2 r y) 1 = y.val := by
  obtain ⟨uw, iw, sd, iv, wf⟩ := d
  dsimp only at huw hiw hsd hiv
  subst huw hiw hsd hiv
  rfl

/-- Entry `(r, y)` of the updates lands at `(b, z)` exactly when row `r`'s index is `b` and `y` is `z`. -/
theorem row_lands (r : Fin n) (y : Fin B) (b : Fin nb) (z : Fin B) :
    d.resultIdx? (ix2 r y) idx = some (ix2 b z) ↔ (idx (ix2 r (0 : Fin 1))).toInt = (b.val : ℤ) ∧ y = z := by
  have s0 := start_row d huw hiw hsd hiv idx r y
  have s1 := start_col d huw hiw hsd hiv idx r y
  have w0 := window_row d huw hiw hsd hiv r y
  have w1 := window_col d huw hiw hsd hiv r y
  have hb := b.isLt
  have hz := z.isLt
  have hy := y.isLt
  unfold ScatterDims.resultIdx?
  split
  · next h =>
    have h0 := h 0
    rw [s0, w0] at h0
    constructor
    · intro e
      have e0 := congrArg Fin.val (congrFun (Option.some.inj e) 0)
      have e1 := congrArg Fin.val (congrFun (Option.some.inj e) 1)
      change (d.start (ix2 r y) idx 0 + (d.window (ix2 r y) 0 : ℤ)).toNat = b.val at e0
      change (d.start (ix2 r y) idx 1 + (d.window (ix2 r y) 1 : ℤ)).toNat = z.val at e1
      rw [s0, w0] at e0
      rw [s1, w1] at e1
      exact ⟨by omega, Fin.ext (by omega)⟩
    · rintro ⟨e, rfl⟩
      refine congrArg some (funext fun a => Fin.ext ?_)
      match a with
      | ⟨0, _⟩ =>
        show (d.start (ix2 r y) idx 0 + (d.window (ix2 r y) 0 : ℤ)).toNat = b.val
        rw [s0, w0]; omega
      | ⟨1, _⟩ =>
        show (d.start (ix2 r y) idx 1 + (d.window (ix2 r y) 1 : ℤ)).toNat = y.val
        rw [s1, w1]; omega
  · next h =>
    constructor
    · intro e; exact absurd e (by simp)
    · rintro ⟨e, rfl⟩
      refine absurd (fun a => ?_) h
      match a with
      | ⟨0, _⟩ =>
        show 0 ≤ d.start (ix2 r y) idx 0 + (d.window (ix2 r y) 0 : ℤ) ∧ d.start (ix2 r y) idx 0 + (d.window (ix2 r y) 0 : ℤ) < (nb : ℤ)
        rw [s0, w0]; omega
      | ⟨1, _⟩ =>
        show 0 ≤ d.start (ix2 r y) idx 1 + (d.window (ix2 r y) 1 : ℤ) ∧ d.start (ix2 r y) idx 1 + (d.window (ix2 r y) 1 : ℤ) < (B : ℤ)
        rw [s1, w1]; omega

/-- A scatter of rows adds to entry `(b, z)` the entries `z` of the rows whose index is `b`. -/
theorem scatter_rows (x : FVec Ideal (shape2 nb B) .f32) (upd : FVec Ideal (shape2 n B) .f32) (b : Fin nb) (z : Fin B) :
    (Host.scatterAdd d x idx upd (ix2 b z) : EReal)
      = (x (ix2 b z) : EReal) + ∑ r : Fin n, if (idx (ix2 r (0 : Fin 1))).toInt = (b.val : ℤ) then (upd (ix2 r z) : EReal) else 0 := by
  change Ideal.hostScatterAdd d x idx upd (ix2 b z) = _
  unfold Ideal.hostScatterAdd
  refine congrArg (x (ix2 b z) + ·) ?_
  rw [Finset.sum_filter, sum_idx2]
  refine Finset.sum_congr rfl fun r _ => ?_
  rw [Finset.sum_eq_single z]
  · by_cases h : (idx (ix2 r (0 : Fin 1))).toInt = (b.val : ℤ)
    · rw [if_pos h, if_pos ((row_lands d huw hiw hsd hiv idx r z b z).2 ⟨h, rfl⟩)]
    · rw [if_neg h, if_neg fun k => h ((row_lands d huw hiw hsd hiv idx r z b z).1 k).1]
  · intro y _ hy
    exact if_neg fun k => hy ((row_lands d huw hiw hsd hiv idx r y b z).1 k).2
  · intro h; exact absurd (Finset.mem_univ z) h

end Scatter

section Entry

variable {s : Shape}

theorem divf_at (a b : FVec Ideal s .f32) (i : s.Idx) {u v : EReal} (hu : a i = u) (hv : b i = v) : Host.divf a b i = Ideal.div u v := by
  subst hu hv; rfl

theorem mulf_at (a b : FVec Ideal s .f32) (i : s.Idx) {u v : EReal} (hu : a i = u) (hv : b i = v) : mulf a b i = (u * v : EReal) := by
  subst hu hv; rfl

theorem expsub_at (a b : FVec Ideal s .f32) (i : s.Idx) {u v : ℝ} (hu : a i = (u : EReal)) (hv : b i = (v : EReal)) :
    Host.exp (subf a b) i = ((Real.exp (u - v) : ℝ) : EReal) := by
  change Ideal.exp ((a i : EReal) - b i) = _
  rw [hu, hv, ← EReal.coe_sub]
  rfl

theorem mask_at (p q : IVec s 32) (a b : FVec Ideal s .f32) (i : s.Idx) {u v : EReal} {w w' : BitVec 32} (hp : p i = w) (hq : q i = w')
    (hu : a i = u) (hv : b i = v) : select (cmpi .eq p q) a b i = Scalar.select (IntOp.cmpi .eq w w') u v := by
  subst hp hq hu hv; rfl

/-- A real number passes the test for being finite. -/
theorem finite_at (a b z : FVec Ideal s .f32) (i : s.Idx) {μ : ℝ} (ha : a i = (μ : EReal)) (hb : b i = (⊤ : EReal)) :
    select (cmpf .olt (Host.absf a) b) a z i = ((μ : ℝ) : EReal) := by
  change Scalar.select (BitVec.ofBool (decide (max (a i : EReal) (-(a i : EReal)) < (b i : EReal)))) (a i) (z i) = _
  rw [ha, hb]
  unfold Scalar.select
  rw [if_pos]
  rw [decide_eq_true]
  · rfl
  · exact max_lt (EReal.coe_lt_top _) (by rw [← EReal.coe_neg]; exact EReal.coe_lt_top _)

theorem inf_bits : Ideal.ofBits .f32 0x7F800000#32 = ⊤ := by simp [Ideal.ofBits, Ideal.ieee]
theorem ninf_bits : Ideal.ofBits .f32 0xFF800000#32 = ⊥ := by simp [Ideal.ofBits, Ideal.ieee]

end Entry

/-- A maximum over a list that starts from `-∞` is below `+∞` when every entry is. -/
theorem foldl_max_lt_top {ι : Type} (l : List ι) (g : ι → EReal) (h : ∀ i ∈ l, g i < ⊤) (a : EReal) (ha : a < ⊤) :
    l.foldl (fun r i => max r (g i)) a < ⊤ := by
  induction l generalizing a with
  | nil => exact ha
  | cons i l ih =>
    exact ih (fun k hk => h k (List.mem_cons_of_mem _ hk)) _ (max_lt ha (h i List.mem_cons_self))

theorem le_foldl_max {ι : Type} (l : List ι) (g : ι → EReal) (a : EReal) : a ≤ l.foldl (fun r i => max r (g i)) a := by
  induction l generalizing a with
  | nil => exact le_refl _
  | cons i l ih => exact le_trans (le_max_left _ _) (ih _)

theorem mem_le_foldl_max {ι : Type} (l : List ι) (g : ι → EReal) (i : ι) (hi : i ∈ l) (a : EReal) :
    g i ≤ l.foldl (fun r i => max r (g i)) a := by
  induction l generalizing a with
  | nil => exact absurd hi (List.not_mem_nil)
  | cons k l ih =>
    rcases List.mem_cons.1 hi with rfl | h
    · exact le_trans (le_max_right _ _) (le_foldl_max l g _)
    · exact ih h _

/-- A sum over the rows below `N` that keeps only those of one run is the sum over the run. -/
theorem sum_run {M : Type} [AddCommMonoid M] {N o b : ℕ} (h : o + b ≤ N) (P : ℕ → Prop) [DecidablePred P]
    (hP : ∀ r, r < N → (P r ↔ o ≤ r ∧ r < o + b)) (f : ℕ → M) :
    (∑ r : Fin N, if P r.val then f r.val else 0) = ∑ n ∈ Finset.range b, f (o + n) := by
  rw [Fin.sum_univ_eq_sum_range (fun r => if P r then f r else 0) N, ← Finset.sum_filter]
  have e : (Finset.range N).filter P = Finset.Ico o (o + b) := by
    ext r
    rw [Finset.mem_filter, Finset.mem_range, Finset.mem_Ico]
    constructor
    · rintro ⟨h1, h2⟩; exact (hP r h1).1 h2
    · intro h2; exact ⟨by omega, (hP r (by omega)).2 h2⟩
  rw [e, Finset.sum_Ico_eq_sum_range, Nat.add_sub_cancel_left]

end Cert.Proof

end
-- ==== Proof.RVal.lean ====
/-
  The reference's result at an entry: a segment's rows weighted by their scores' exponentials and divided by the sum of
  those, as a real number, where the segment sizes are 0, 1, 2, … and the features and the weights are finite.
-/
module

public import proofs.«01_k».proof.Proof.RScat
public import proofs.«01_k».proof.Proof.Gen.ReferenceIdeal.Run

@[expose] public section

set_option maxRecDepth 100000

noncomputable section

namespace Cert.Proof

open Idealize.ShloMosaic Idealize.ShloMosaic.ValueIdx Idealize.ShloMosaic.Routing
open scoped BigOperators

/-- The rows of the segments before `b`. -/
def tri (b : ℕ) : ℕ := ((List.range b).map fun i => i).sum

theorem tri_succ (b : ℕ) : tri (b + 1) = tri b + b := by
  unfold tri
  rw [List.range_succ, List.map_append, List.sum_append]
  simp

theorem tri_mono {a b : ℕ} (h : a ≤ b) : tri a ≤ tri b := by
  induction h with
  | refl => exact le_rfl
  | step _ ih => rw [Nat.succ_eq_add_one, tri_succ]; omega

theorem tri_800 : tri 800 = 319600 := by
  have h : ∀ b, 2 * tri b = b * (b - 1) := by
    intro b
    induction b with
    | zero => rfl
    | succ n ih =>
      rw [tri_succ, Nat.mul_add, ih]
      cases n with
      | zero => rfl
      | succ k => simp only [Nat.add_sub_cancel]; ring
  have := h 800
  omega

/-- Every row lies in a segment. -/
theorem seg_of (n r : ℕ) (h : r < tri n) : ∃ b, b < n ∧ tri b ≤ r ∧ r < tri b + b := by
  induction n with
  | zero => exact absurd h (Nat.not_lt_zero _)
  | succ n ih =>
    by_cases hr : r < tri n
    · obtain ⟨b, h1, h2⟩ := ih hr
      exact ⟨b, by omega, h2⟩
    · exact ⟨n, by omega, by omega, by rw [tri_succ] at h; exact h⟩

theorem seg_unique {r a b : ℕ} (ha : tri a ≤ r) (ha' : r < tri a + a) (hb : tri b ≤ r) (hb' : r < tri b + b) : a = b := by
  rw [← tri_succ] at ha' hb'
  rcases Nat.lt_trichotomy a b with h | h | h
  · have := tri_mono (Nat.succ_le_of_lt h); rw [Nat.succ_eq_add_one] at this; omega
  · exact h
  · have := tri_mono (Nat.succ_le_of_lt h); rw [Nat.succ_eq_add_one] at this; omega

theorem count_lt {b n : ℕ} (h : b ≤ n) : Nat.count (fun q => q < b) n = b := by
  rw [Nat.count_eq_card_filter_range]
  have e : (Finset.range n).filter (fun q => q < b) = Finset.range b := by
    ext q; rw [Finset.mem_filter, Finset.mem_range, Finset.mem_range]; omega
  rw [e, Finset.card_range]

/-- The leaky score, as the programs compute it. -/
def lk (s : Ideal .f32) : Ideal .f32 :=
  Scalar.select (FloatOps.cmpf .oge s (FloatOps.ofBits .f32 0x00000000#32)) s
    (FloatOps.mulf (FloatOps.ofBits .f32 0x3E4CCCCD#32 : Ideal .f32) s)

/-- The slope of the leaky score on the negative side. -/
def slope : ℝ := (Ideal.ofBits .f32 0x3E4CCCCD#32).toReal

theorem slope_eq : Ideal.ofBits .f32 0x3E4CCCCD#32 = ((slope : ℝ) : EReal) := by
  have h : ∃ a : ℝ, Ideal.ofBits .f32 0x3E4CCCCD#32 = (a : EReal) := by
    unfold Ideal.ofBits Ideal.ieee
    dsimp only
    rw [if_neg (by decide), if_neg (by decide)]
    exact ⟨_, rfl⟩
  obtain ⟨a, ha⟩ := h
  unfold slope
  rw [ha, EReal.toReal_coe]

/-- The leaky score of a real score. -/
def lkr (s : ℝ) : ℝ := if 0 ≤ s then s else slope * s

theorem lk_real (s : ℝ) : lk ((s : EReal) : Ideal .f32) = ((lkr s : ℝ) : EReal) := by
  unfold lk lkr Scalar.select
  change (if BitVec.ofBool (decide (Ideal.ofBits .f32 0x00000000#32 ≤ (s : EReal))) = 1#1 then (s : EReal)
    else Ideal.ofBits .f32 0x3E4CCCCD#32 * (s : EReal)) = _
  rw [Ideal.ofBits_zero_f32, slope_eq]
  by_cases h : 0 ≤ s
  · rw [if_pos h, if_pos]
    rw [decide_eq_true (by exact_mod_cast h)]; rfl
  · rw [if_neg h, if_neg, EReal.coe_mul]
    rw [decide_eq_false (by exact_mod_cast h)]; decide

/-- The leaky score of row `r`. -/
def tau (x w : ℕ → ℝ) (r : ℕ) : ℝ := lkr (∑ k ∈ Finset.range 128, x (r * 128 + k) * w k)

/-- Entry `y` of the result row of a segment whose `b` rows start at row `f`. -/
def val (x w : ℕ → ℝ) (f b y : ℕ) : ℝ :=
  (∑ n ∈ Finset.range b, Real.exp (tau x w (f + n)) * x ((f + n) * 128 + y)) / ∑ n ∈ Finset.range b, Real.exp (tau x w (f + n))

/-- Shifting the scores by a constant changes nothing. -/
theorem val_shift (x w : ℕ → ℝ) (f b y : ℕ) (μ : ℝ) :
    (∑ n ∈ Finset.range b, x ((f + n) * 128 + y) * (Real.exp (tau x w (f + n) - μ) * (∑ k ∈ Finset.range b, Real.exp (tau x w (f + k) - μ))⁻¹))
      = val x w f b y := by
  have e : (∑ k ∈ Finset.range b, Real.exp (tau x w (f + k) - μ)) = (∑ k ∈ Finset.range b, Real.exp (tau x w (f + k))) * Real.exp (-μ) := by
    rw [Finset.sum_mul]
    exact Finset.sum_congr rfl fun k _ => by rw [sub_eq_add_neg, Real.exp_add]
  unfold val
  rw [e, Finset.sum_div]
  refine Finset.sum_congr rfl fun n _ => ?_
  have hμ := Real.exp_ne_zero (-μ)
  rw [sub_eq_add_neg, Real.exp_add, mul_inv, div_eq_mul_inv]
  field_simp

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section Reference

open Cert.ReferenceIdeal Cert.ReferenceIdeal.Facts₀

variable (X : FVec Ideal S319600x128 .f32) (Z : IVec S800 32) (Wt : FVec Ideal S128x1 .f32)

/-- The segments' ends. -/
def ends : IVec S800 32 :=
  Host.reduceWindow IntOp.addi ![800] ![1] ![799] ![0] Z (broadcastInDim S_ ![] bcast_S_S_ (constantI S_ 32 0#32))
    reduceWindows_S800_S800_w800s1p799_0 h_S_

/-- Each row's segment. -/
def segs : IVec S319600 32 :=
  Host.reduce IntOp.addi
    (extui 32 (cmpi .sle (broadcastInDim S319600x800 ![0, 1] bcast_S1x800_S319600x800_0_1 (broadcastInDim S1x800 ![1] bcast_S800_S1x800_1 (ends Z)))
      (broadcastInDim S319600x800 ![0, 1] bcast_S319600x1_S319600x800_0_1 (broadcastInDim S319600x1 ![0] bcast_S319600_S319600x1_0 (iotaInDim S319600 32 0)))) natLt_1_32)
    (constantI S_ 32 0#32) reducesTo_S319600x800_S319600_d1 h_S_

/-- Each row's product with the weights. -/
def dots : FVec Ideal S319600x1 .f32 := Host.dotGeneral dot_S319600x128_S128x1_S319600x1_1_0_0_1_n_n none X Wt

/-- Each row's leaky score. -/
def scores : FVec Ideal S319600x1 .f32 :=
  select (cmpf .oge (dots X Wt) (broadcastInDim S319600x1 ![] bcast_S_S319600x1 (constant S_ .f32 0x00000000#32))) (dots X Wt)
    (mulf (broadcastInDim S319600x1 ![] bcast_S_S319600x1 (constant S_ .f32 0x3E4CCCCD#32)) (dots X Wt))

/-- The scores of a segment's rows, minus infinity at the other rows. -/
def masked : FVec Ideal S800x319600 .f32 :=
  select (cmpi .eq (broadcastInDim S800x319600 ![0, 1] bcast_S1x319600_S800x319600_0_1 (broadcastInDim S1x319600 ![1] bcast_S319600_S1x319600_1 (segs Z)))
      (broadcastInDim S800x319600 ![0, 1] bcast_S800x1_S800x319600_0_1 (broadcastInDim S800x1 ![0] bcast_S800_S800x1_0 (iotaInDim S800 32 0))))
    (broadcastInDim S800x319600 ![0, 1] bcast_S1x319600_S800x319600_0_1
      (broadcastInDim S1x319600 ![1] bcast_S319600_S1x319600_1 (shapeCast S319600 (scores X Wt) shapeCasts_S319600x1_S319600)))
    (broadcastInDim S800x319600 ![] bcast_S_S800x319600 (id (constant S_ .f32 0xFF800000#32)))

/-- Each segment's largest score. -/
def tops : FVec Ideal S800 .f32 :=
  Host.reduce FloatOps.maximumf (masked X Z Wt) (constant S_ .f32 0xFF800000#32) reducesTo_S800x319600_S800_d1 h_S_

/-- The same, zero where it is not finite. -/
def tops0 : FVec Ideal S800x1 .f32 :=
  select (cmpf .olt (Host.absf (broadcastInDim S800x1 ![0] bcast_S800_S800x1_0 (tops X Z Wt)))
      (broadcastInDim S800x1 ![] bcast_S_S800x1 (constant S_ .f32 0x7F800000#32)))
    (broadcastInDim S800x1 ![0] bcast_S800_S800x1_0 (tops X Z Wt)) (broadcastInDim S800x1 ![] bcast_S_S800x1 (id (constant S_ .f32 0x00000000#32)))

/-- Each row's segment as the gathers take it. -/
def cols : IVec S319600x1 32 :=
  broadcastInDim S319600x1 ![0] bcast_S319600_S319600x1_0
    (select (cmpi .slt (segs Z) (broadcastInDim S319600 ![] bcast_S_S319600 (constantI S_ 32 0#32)))
      (addi (segs Z) (broadcastInDim S319600 ![] bcast_S_S319600 (constantI S_ 32 800#32))) (segs Z))

/-- Each row's exponential. -/
def exps : FVec Ideal S319600x1 .f32 :=
  Host.exp (subf (scores X Wt) (Host.gather gather_S800x1_S319600x1_S319600x1_1_0_n_n_0_1_11 (tops0 X Z Wt) (cols Z)))

/-- Each segment's sum of exponentials. -/
def dens : FVec Ideal S800x1 .f32 :=
  Host.scatterAdd scatter_S800x1_S319600x1_S319600x1_1_0_0_1 (broadcastInDim S800x1 ![] bcast_S_S800x1 (constant S_ .f32 0x00000000#32))
    (broadcastInDim S319600x1 ![0] bcast_S319600_S319600x1_0 (segs Z)) (exps X Z Wt)

/-- Each row's share. -/
def alphas : FVec Ideal S319600x1 .f32 :=
  Host.divf (exps X Z Wt) (Host.gather gather_S800x1_S319600x1_S319600x1_1_0_n_n_0_1_11 (dens X Z Wt) (cols Z))

/-- The reference's result. -/
def outR : FVec Ideal S800x128 .f32 :=
  Host.scatterAdd scatter_S800x128_S319600x1_S319600x128_1_0_0_1 (broadcastInDim S800x128 ![] bcast_S_S800x128 (constant S_ .f32 0x00000000#32))
    (broadcastInDim S319600x1 ![0] bcast_S319600_S319600x1_0 (segs Z))
    (mulf X (broadcastInDim S319600x128 ![0, 1] bcast_S319600x1_S319600x128_0_1 (alphas X Z Wt)))

theorem res_eq (m : (ℓ : Loc nD τ sig) → Buf (Elt Ideal) ℓ) (c : Dev nD) :
    Cert.ReferenceIdeal.Value.res_main_v54 m c
      = outR (m ((c.tc : Thread nD τ).loc main_arg0)) (m ((c.tc : Thread nD τ).loc main_arg1)) (m ((c.tc : Thread nD τ).loc main_arg2)) := rfl

variable (hZ : ∀ i : Fin 800, Z (ix1 i) = BitVec.ofNat 32 i.val)
include hZ

theorem ends_at (j : Fin 800) : ends Z (ix1 j) = BitVec.ofNat 32 (tri (j.val + 1)) :=
  cumsum1 (N := 800) (Nm1 := 799) rfl Z (fun i => i) hZ _ (bc0 _ _ _) _ _ j

theorem segs_at (r : Fin 319600) (b : ℕ) (hb : b < 800) (h1 : tri b ≤ r.val) (h2 : r.val < tri b + b) :
    segs Z (ix1 r) = BitVec.ofNat 32 b := by
  have hr := r.isLt
  refine (reduce_count (n := 319600) (m := 800) (by norm_num) _ _ _ _ r (fun q => q < b) fun q => ?_).trans
    (congrArg (BitVec.ofNat 32) (count_lt hb.le))
  have hq := q.isLt
  have e1 := (bcCols (n := 319600) (m := 800) bcast_S800_S1x800_1 bcast_S1x800_S319600x800_0_1 (ends Z) r q).trans (ends_at Z hZ q)
  have e2 := bcRows (n := 319600) (m := 800) bcast_S319600_S319600x1_0 bcast_S319600x1_S319600x800_0_1 (iotaInDim S319600 32 0) r q
  have e3 : iotaInDim S319600 32 0 (ix1 r) = BitVec.ofNat 32 r.val := rfl
  have hq' : tri (q.val + 1) ≤ 319600 := tri_800 ▸ tri_mono (by omega)
  change IntOp.cmpi .sle _ _ = 1#1 ↔ _
  rw [e1, e2, e3]
  refine (StableHlo.Predicate.sle_ofNat_iff _ _ (by omega) (by omega)).trans ?_
  constructor
  · intro h
    by_contra hlt
    have := tri_mono (show b + 1 ≤ q.val + 1 by omega)
    rw [tri_succ b] at this
    omega
  · intro h
    exact le_trans (tri_mono (by omega)) h1

/-- A row's segment word is `b` exactly when the row is among those of segment `b`. -/
theorem segs_iff (r : Fin 319600) (b : ℕ) (hb : b < 800) :
    (segs Z (ix1 r)).toInt = (b : ℤ) ↔ tri b ≤ r.val ∧ r.val < tri b + b := by
  have hr := r.isLt
  obtain ⟨a, ha, h1, h2⟩ := seg_of 800 r.val (by rw [tri_800]; exact hr)
  rw [segs_at Z hZ r a ha h1 h2, StableHlo.Predicate.toInt_ofNat_small a (by omega)]
  constructor
  · intro h
    have : a = b := by omega
    subst this
    exact ⟨h1, h2⟩
  · rintro ⟨h3, h4⟩
    rw [seg_unique h1 h2 h3 h4]

theorem cols_at (r : Fin 319600) (b : ℕ) (hb : b < 800) (h1 : tri b ≤ r.val) (h2 : r.val < tri b + b) :
    cols Z (ix2 r (0 : Fin 1)) = BitVec.ofNat 32 b := by
  refine (bcCol (n := 319600) bcast_S319600_S319600x1_0 _ r).trans ?_
  have e := segs_at Z hZ r b hb h1 h2
  change Scalar.select (IntOp.cmpi .slt (segs Z (ix1 r)) (0#32)) (segs Z (ix1 r) + 800#32) (segs Z (ix1 r)) = _
  rw [e]
  unfold Scalar.select
  rw [if_neg]
  intro h
  have := (StableHlo.Predicate.slt_ofNat_iff b 0 (by omega) (by omega)).1 h
  omega

omit hZ

variable (x w : ℕ → ℝ) (hX : ∀ (r : Fin 319600) (k : Fin 128), X (ix2 r k) = ((x (r.val * 128 + k.val) : ℝ) : EReal))
  (hW : ∀ k : Fin 128, Wt (ix2 k (0 : Fin 1)) = ((w k.val : ℝ) : EReal))
include hX hW

theorem scores_at (r : Fin 319600) : scores X Wt (ix2 r (0 : Fin 1)) = ((tau x w r.val : ℝ) : EReal) := by
  have e : dots X Wt (ix2 r (0 : Fin 1)) = ((∑ k ∈ Finset.range 128, x (r.val * 128 + k) * w k : ℝ) : EReal) := by
    refine (Ideal.matmul_plain_apply (M := 319600) (K := 128) (N := 1) none X Wt (fun _ => 0) r 0).trans ?_
    rw [zero_add, coe_sum, ← Fin.sum_univ_eq_sum_range (fun k => ((x (r.val * 128 + k) * w k : ℝ) : EReal)) 128]
    exact Finset.sum_congr rfl fun k _ => by rw [hX, hW, EReal.coe_mul]
  change lk (dots X Wt (ix2 r (0 : Fin 1))) = _
  rw [e]
  exact lk_real _

include hZ

/-- The largest score of a segment with a row is a real number. -/
theorem tops_at (b : Fin 800) (hb : 0 < b.val) : ∃ μ : ℝ, tops X Z Wt (ix1 b) = ((μ : ℝ) : EReal) := by
  have hb' := b.isLt
  have ht : tri b.val + b.val ≤ 319600 := by rw [← tri_succ, ← tri_800]; exact tri_mono (by omega)
  have hm : ∀ (a : Fin 800) (r : Fin 319600), masked X Z Wt (ix2 a r)
      = Scalar.select (IntOp.cmpi .eq (segs Z (ix1 r)) (BitVec.ofNat 32 a.val)) ((tau x w r.val : ℝ) : EReal) (⊥ : EReal) := by
    intro a r
    have e1 := bcCols (n := 800) (m := 319600) bcast_S319600_S1x319600_1 bcast_S1x319600_S800x319600_0_1 (segs Z) a r
    have e2 := bcRows (n := 800) (m := 319600) bcast_S800_S800x1_0 bcast_S800x1_S800x319600_0_1 (iotaInDim S800 32 0) a r
    have e3 := bcCols (n := 800) (m := 319600) bcast_S319600_S1x319600_1 bcast_S1x319600_S800x319600_0_1
      (shapeCast S319600 (scores X Wt) shapeCasts_S319600x1_S319600) a r
    have e4 := cast21 (a := 319600) (b := 1) (n := 319600) (scores X Wt) shapeCasts_S319600x1_S319600 r 0 r (by simp)
    have e6 := e3.trans (e4.trans (scores_at X Wt x w hX hW r))
    unfold masked
    exact mask_at _ _ _ _ _ e1 e2 e6 ninf_bits
  have hlt : tops X Z Wt (ix1 b) < (⊤ : EReal) := by
    unfold tops Host.reduce
    refine foldl_max_lt_top _ _ (fun n _ => ?_) _ ?_
    · obtain ⟨a, r, e⟩ : ∃ (a : Fin 800) (r : Fin 319600), S800x319600.rowMajor.symm n = ix2 a r := ⟨_, _, eq_ix2 _⟩
      refine lt_of_eq_of_lt ((congrArg (masked X Z Wt) e).trans (hm a r)) ?_
      unfold Scalar.select
      split
      · exact EReal.coe_lt_top _
      · exact bot_lt_top
    · exact lt_of_eq_of_lt ninf_bits bot_lt_top
  have hge : ((tau x w (tri b.val) : ℝ) : EReal) ≤ tops X Z Wt (ix1 b) := by
    have e := hm b ⟨tri b.val, by omega⟩
    rw [segs_at Z hZ ⟨tri b.val, by omega⟩ b.val hb' le_rfl (by dsimp only; omega)] at e
    have e' : masked X Z Wt (ix2 b ⟨tri b.val, by omega⟩) = ((tau x w (tri b.val) : ℝ) : EReal) := by
      rw [e]
      unfold Scalar.select
      rw [if_pos]
      exact StableHlo.Predicate.cmpi_eq_iff.2 rfl
    rw [← e']
    unfold tops Host.reduce
    have hn : masked X Z Wt (ix2 b ⟨tri b.val, by omega⟩)
        = masked X Z Wt (S800x319600.rowMajor.symm (S800x319600.rowMajor (ix2 b ⟨tri b.val, by omega⟩))) := by
      rw [Equiv.symm_apply_apply]
    rw [hn]
    refine mem_le_foldl_max _ (fun n => masked X Z Wt (S800x319600.rowMajor.symm n)) _ (List.mem_filter.2 ⟨List.mem_finRange _, ?_⟩) _
    rw [Equiv.symm_apply_apply]
    refine decide_eq_true (funext fun a => ?_)
    obtain rfl : a = 0 := Subsingleton.elim _ _
    exact Fin.ext (Shape.ReducesTo.drop_apply_val _ _ 0)
  refine ⟨(tops X Z Wt (ix1 b)).toReal, (EReal.coe_toReal hlt.ne fun h => ?_).symm⟩
  rw [h] at hge
  exact absurd hge (not_le.2 (EReal.bot_lt_coe _))

theorem tops0_at (b : Fin 800) (hb : 0 < b.val) : ∃ μ : ℝ, tops0 X Z Wt (ix2 b (0 : Fin 1)) = ((μ : ℝ) : EReal) := by
  obtain ⟨μ, h⟩ := tops_at X Z Wt hZ x w hX hW b hb
  refine ⟨μ, ?_⟩
  have e := (bcCol (n := 800) bcast_S800_S800x1_0 (tops X Z Wt) b).trans h
  unfold tops0
  exact finite_at _ _ _ _ e inf_bits

theorem exps_at (b : Fin 800) (μ : ℝ) (hμ : tops0 X Z Wt (ix2 b (0 : Fin 1)) = ((μ : ℝ) : EReal)) (r : Fin 319600)
    (h1 : tri b.val ≤ r.val) (h2 : r.val < tri b.val + b.val) :
    exps X Z Wt (ix2 r (0 : Fin 1)) = ((Real.exp (tau x w r.val - μ) : ℝ) : EReal) := by
  have g := (gather_row (nb := 800) (B := 1) (n := 319600) gather_S800x1_S319600x1_S319600x1_1_0_n_n_0_1_11 rfl rfl rfl rfl rfl
    (tops0 X Z Wt) (cols Z) r 0 b (cols_at Z hZ r b.val b.isLt h1 h2) (by norm_num)).trans hμ
  unfold exps
  exact expsub_at _ _ _ (scores_at X Wt x w hX hW r) g

theorem dens_at (b : Fin 800) (μ : ℝ) (hμ : tops0 X Z Wt (ix2 b (0 : Fin 1)) = ((μ : ℝ) : EReal)) :
    dens X Z Wt (ix2 b (0 : Fin 1)) = ((∑ n ∈ Finset.range b.val, Real.exp (tau x w (tri b.val + n) - μ) : ℝ) : EReal) := by
  have hb := b.isLt
  have ht : tri b.val + b.val ≤ 319600 := by rw [← tri_succ, ← tri_800]; exact tri_mono (by omega)
  have h := scatter_rows (nb := 800) (B := 1) (n := 319600) scatter_S800x1_S319600x1_S319600x1_1_0_0_1 rfl rfl rfl rfl
    (broadcastInDim S319600x1 ![0] bcast_S319600_S319600x1_0 (segs Z))
    (broadcastInDim S800x1 ![] bcast_S_S800x1 (constant S_ .f32 0x00000000#32)) (exps X Z Wt) b 0
  refine h.trans ?_
  clear h
  have e0 : broadcastInDim S800x1 ![] bcast_S_S800x1 (constant S_ .f32 0x00000000#32 : FVec Ideal S_ .f32) (ix2 b (0 : Fin 1)) = (0 : EReal) :=
    Ideal.ofBits_zero_f32
  rw [e0, zero_add, coe_sum]
  refine Eq.trans (Finset.sum_congr rfl fun r _ => ?_)
    (sum_run ht (fun r => tri b.val ≤ r ∧ r < tri b.val + b.val) (fun _ _ => Iff.rfl) (fun r => ((Real.exp (tau x w r - μ) : ℝ) : EReal)))
  have e1 : broadcastInDim S319600x1 ![0] bcast_S319600_S319600x1_0 (segs Z) (ix2 r (0 : Fin 1)) = segs Z (ix1 r) := bcCol _ _ _
  rw [e1]
  by_cases h : tri b.val ≤ r.val ∧ r.val < tri b.val + b.val
  · rw [if_pos h, if_pos ((segs_iff Z hZ r b.val hb).2 h), exps_at X Z Wt hZ x w hX hW b μ hμ r h.1 h.2]
  · rw [if_neg h, if_neg fun k => h ((segs_iff Z hZ r b.val hb).1 k)]

theorem alphas_at (b : Fin 800) (μ : ℝ) (hμ : tops0 X Z Wt (ix2 b (0 : Fin 1)) = ((μ : ℝ) : EReal)) (r : Fin 319600)
    (h1 : tri b.val ≤ r.val) (h2 : r.val < tri b.val + b.val) :
    alphas X Z Wt (ix2 r (0 : Fin 1))
      = ((Real.exp (tau x w r.val - μ) * (∑ n ∈ Finset.range b.val, Real.exp (tau x w (tri b.val + n) - μ))⁻¹ : ℝ) : EReal) := by
  have g := (gather_row (nb := 800) (B := 1) (n := 319600) gather_S800x1_S319600x1_S319600x1_1_0_n_n_0_1_11 rfl rfl rfl rfl rfl
    (dens X Z Wt) (cols Z) r 0 b (cols_at Z hZ r b.val b.isLt h1 h2) (by norm_num)).trans (dens_at X Z Wt hZ x w hX hW b μ hμ)
  have hp : 0 < ∑ n ∈ Finset.range b.val, Real.exp (tau x w (tri b.val + n) - μ) :=
    Finset.sum_pos (fun _ _ => Real.exp_pos _) ⟨0, Finset.mem_range.2 (by omega)⟩
  unfold alphas
  refine (divf_at _ _ _ (exps_at X Z Wt hZ x w hX hW b μ hμ r h1 h2) g).trans ?_
  unfold Ideal.div
  rw [if_neg (by exact_mod_cast hp.ne'), ← EReal.coe_inv, ← EReal.coe_mul]

/-- The reference's result at an entry. -/
theorem outR_at (b : Fin 800) (y : Fin 128) : outR X Z Wt (ix2 b y) = ((val x w (tri b.val) b.val y.val : ℝ) : EReal) := by
  have hb := b.isLt
  have ht : tri b.val + b.val ≤ 319600 := by rw [← tri_succ, ← tri_800]; exact tri_mono (by omega)
  have e0 : broadcastInDim S800x128 ![] bcast_S_S800x128 (constant S_ .f32 0x00000000#32 : FVec Ideal S_ .f32) (ix2 b y) = (0 : EReal) :=
    Ideal.ofBits_zero_f32
  have h := scatter_rows (nb := 800) (B := 128) (n := 319600) scatter_S800x128_S319600x1_S319600x128_1_0_0_1 rfl rfl rfl rfl
    (broadcastInDim S319600x1 ![0] bcast_S319600_S319600x1_0 (segs Z))
    (broadcastInDim S800x128 ![] bcast_S_S800x128 (constant S_ .f32 0x00000000#32))
    (mulf X (broadcastInDim S319600x128 ![0, 1] bcast_S319600x1_S319600x128_0_1 (alphas X Z Wt))) b y
  refine h.trans ?_
  clear h
  rw [e0, zero_add]
  have hμ : ∃ μ : ℝ, 0 < b.val → tops0 X Z Wt (ix2 b (0 : Fin 1)) = ((μ : ℝ) : EReal) := by
    by_cases h : 0 < b.val
    · obtain ⟨μ, e⟩ := tops0_at X Z Wt hZ x w hX hW b h
      exact ⟨μ, fun _ => e⟩
    · exact ⟨0, fun k => absurd k h⟩
  obtain ⟨μ, hμ⟩ := hμ
  rw [← val_shift x w (tri b.val) b.val y.val μ, coe_sum]
  refine Eq.trans (Finset.sum_congr rfl fun r _ => ?_)
    (sum_run ht (fun r => tri b.val ≤ r ∧ r < tri b.val + b.val) (fun _ _ => Iff.rfl)
      (fun r => ((x (r * 128 + y.val) * (Real.exp (tau x w r - μ) * (∑ k ∈ Finset.range b.val, Real.exp (tau x w (tri b.val + k) - μ))⁻¹) : ℝ) : EReal)))
  have e1 : broadcastInDim S319600x1 ![0] bcast_S319600_S319600x1_0 (segs Z) (ix2 r (0 : Fin 1)) = segs Z (ix1 r) := bcCol _ _ _
  rw [e1]
  by_cases h : tri b.val ≤ r.val ∧ r.val < tri b.val + b.val
  · rw [if_pos h, if_pos ((segs_iff Z hZ r b.val hb).2 h)]
    have e2 : broadcastInDim S319600x128 ![0, 1] bcast_S319600x1_S319600x128_0_1 (alphas X Z Wt) (ix2 r y) = alphas X Z Wt (ix2 r (0 : Fin 1)) := by
      refine broadcastInDim_apply _ _ _ _ _ fun a => ?_
      match a with
      | ⟨0, _⟩ => rfl
      | ⟨1, _⟩ => rfl
    refine (mulf_at _ _ _ (hX r y) (e2.trans (alphas_at X Z Wt hZ x w hX hW b μ (hμ (by omega)) r h.1 h.2))).trans ?_
    rw [← EReal.coe_mul]
  · rw [if_neg h, if_neg fun k => h ((segs_iff Z hZ r b.val hb).1 k)]

end Reference

end Cert.Proof

end
-- ==== Proof.KVal.lean ====
/-
  The kernel's result at a place, where the features and the weights are real numbers: the sum over the lanes gives every
  lane the row's product with the weights, and a finished segment holds its weighted sum over the sum of its weights.
-/
module

public import proofs.«01_k».proof.Proof.Body
public import proofs.«01_k».proof.Proof.RVal

@[expose] public section

set_option maxRecDepth 100000

noncomputable section

namespace Cert.Proof

open Cert.KernelIdeal Cert.KernelIdeal.Gen
open Idealize.ShloMosaic Idealize.ShloMosaic.ValueIdx
open scoped BigOperators

theorem o_tri (b : ℕ) : o b = tri b := by
  induction b with
  | zero => rfl
  | succ n ih => rw [o_succ, tri_succ, ih]

/-- A vector put together from two runs of another one's lanes, the second from its first lane on. -/
theorem cat_at {m k a : ℕ} (v : FVec Ideal S16 .f32) (h1 : S16.Slices (![a] : Fin 1 → ℕ) ⟨1, ![m]⟩) (h2 : S16.Slices (![0] : Fin 1 → ℕ) ⟨1, ![k]⟩)
    (hc : Shape.Concatenates [⟨1, ![m]⟩, ⟨1, ![k]⟩] S16 0) (hm : m + k = 16) (i j : Fin 16)
    (hl : i.val < m → j.val = a + i.val) (hr : m ≤ i.val → j.val = i.val - m) :
    concatenate S16 0 [⟨⟨1, ![m]⟩, extractStridedSlice ⟨1, ![m]⟩ ![a] v h1⟩, ⟨⟨1, ![k]⟩, extractStridedSlice ⟨1, ![k]⟩ ![0] v h2⟩] hc (ValueIdx.ix1 i) = v (ValueIdx.ix1 j) := by
  have hi := i.isLt
  by_cases h : i.val < m
  · refine (concatenate_pair_apply_left (t := S16) (s₁ := ⟨1, ![m]⟩) (s₂ := ⟨1, ![k]⟩) 0 _ _ hc (ValueIdx.ix1 i) rfl (ValueIdx.ix1 ⟨i.val, h⟩) fun b => ?_).trans ?_
    · obtain rfl : b = 0 := Subsingleton.elim _ _
      rfl
    · refine extractStridedSlice_apply _ v h1 _ _ fun b => ?_
      obtain rfl : b = 0 := Subsingleton.elim _ _
      exact hl h
  · refine (concatenate_pair_apply_right (t := S16) (s₁ := ⟨1, ![m]⟩) (s₂ := ⟨1, ![k]⟩) 0 _ _ hc (ValueIdx.ix1 i) rfl rfl (ValueIdx.ix1 ⟨i.val - m, by omega⟩)
      (fun b hb => absurd (Subsingleton.elim _ _) hb) ?_).trans ?_
    · show i.val - m + m = i.val
      omega
    · refine extractStridedSlice_apply _ v h2 _ _ fun b => ?_
      obtain rfl : b = 0 := Subsingleton.elim _ _
      show j.val = 0 + (i.val - m)
      rw [hr (by omega), Nat.zero_add]

/-- The lane one, two, four and eight away. -/
def fl1 : Fin 16 → Fin 16 := ![1, 0, 3, 2, 5, 4, 7, 6, 9, 8, 11, 10, 13, 12, 15, 14]
def fl2 : Fin 16 → Fin 16 := ![2, 3, 0, 1, 6, 7, 4, 5, 10, 11, 8, 9, 14, 15, 12, 13]
def fl4 : Fin 16 → Fin 16 := ![4, 5, 6, 7, 0, 1, 2, 3, 12, 13, 14, 15, 8, 9, 10, 11]
def fl8 : Fin 16 → Fin 16 := ![8, 9, 10, 11, 12, 13, 14, 15, 0, 1, 2, 3, 4, 5, 6, 7]

theorem lane1 : ∀ i : Fin 16, (lane 1#32 (ValueIdx.ix1 i) = 1#1 ∧ i.val < 15 ∧ (fl1 i).val = 1 + i.val) ∨ (¬ lane 1#32 (ValueIdx.ix1 i) = 1#1 ∧ 1 ≤ i.val ∧ (fl1 i).val = i.val - 1) := by decide
theorem lane2 : ∀ i : Fin 16, (lane 2#32 (ValueIdx.ix1 i) = 1#1 ∧ i.val < 14 ∧ (fl2 i).val = 2 + i.val) ∨ (¬ lane 2#32 (ValueIdx.ix1 i) = 1#1 ∧ 2 ≤ i.val ∧ (fl2 i).val = i.val - 2) := by decide
theorem lane4 : ∀ i : Fin 16, (lane 4#32 (ValueIdx.ix1 i) = 1#1 ∧ i.val < 12 ∧ (fl4 i).val = 4 + i.val) ∨ (¬ lane 4#32 (ValueIdx.ix1 i) = 1#1 ∧ 4 ≤ i.val ∧ (fl4 i).val = i.val - 4) := by decide
theorem lane8 : ∀ i : Fin 16, (lane 8#32 (ValueIdx.ix1 i) = 1#1 ∧ i.val < 8 ∧ (fl8 i).val = 8 + i.val) ∨ (¬ lane 8#32 (ValueIdx.ix1 i) = 1#1 ∧ 8 ≤ i.val ∧ (fl8 i).val = i.val - 8) := by decide

/-- A lane added to the chosen one of two vectors' lanes. -/
theorem addsel_at (l : IVec S16 1) (v a b : FVec Ideal S16 .f32) (i j : Fin 16) (h1 : l (ValueIdx.ix1 i) = 1#1 → a (ValueIdx.ix1 i) = v (ValueIdx.ix1 j))
    (h0 : ¬ l (ValueIdx.ix1 i) = 1#1 → b (ValueIdx.ix1 i) = v (ValueIdx.ix1 j)) : addf v (select l a b) (ValueIdx.ix1 i) = (v (ValueIdx.ix1 i) + v (ValueIdx.ix1 j) : EReal) := by
  change (v (ValueIdx.ix1 i) + Scalar.select (l (ValueIdx.ix1 i)) (a (ValueIdx.ix1 i)) (b (ValueIdx.ix1 i)) : EReal) = _
  unfold Scalar.select
  by_cases h : l (ValueIdx.ix1 i) = 1#1
  · exact congrArg (fun a : EReal => (v (ValueIdx.ix1 i) : EReal) + a) ((if_pos h).trans (h1 h))
  · exact congrArg (fun a : EReal => (v (ValueIdx.ix1 i) : EReal) + a) ((if_neg h).trans (h0 h))

theorem bf1_at (v : FVec Ideal S16 .f32) (i : Fin 16) : bf1 (lane 1#32) v (ValueIdx.ix1 i) = (v (ValueIdx.ix1 i) + v (ValueIdx.ix1 (fl1 i)) : EReal) := by
  unfold bf1
  rcases lane1 i with ⟨h, h1, h2⟩ | ⟨h, h1, h2⟩
  · exact addsel_at _ _ _ _ i _ (fun _ => cat_at (m := 15) (k := 1) (a := 1) v _ _ _ rfl i _ (fun _ => h2) (fun k => by omega)) (fun k => absurd h k)
  · exact addsel_at _ _ _ _ i _ (fun k => absurd k h) (fun _ => cat_at (m := 1) (k := 15) (a := 15) v _ _ _ rfl i _ (fun k => by omega) (fun _ => h2))

theorem bf2_at (v : FVec Ideal S16 .f32) (i : Fin 16) : bf2 (lane 2#32) v (ValueIdx.ix1 i) = (v (ValueIdx.ix1 i) + v (ValueIdx.ix1 (fl2 i)) : EReal) := by
  unfold bf2
  rcases lane2 i with ⟨h, h1, h2⟩ | ⟨h, h1, h2⟩
  · exact addsel_at _ _ _ _ i _ (fun _ => cat_at (m := 14) (k := 2) (a := 2) v _ _ _ rfl i _ (fun _ => h2) (fun k => by omega)) (fun k => absurd h k)
  · exact addsel_at _ _ _ _ i _ (fun k => absurd k h) (fun _ => cat_at (m := 2) (k := 14) (a := 14) v _ _ _ rfl i _ (fun k => by omega) (fun _ => h2))

theorem bf4_at (v : FVec Ideal S16 .f32) (i : Fin 16) : bf4 (lane 4#32) v (ValueIdx.ix1 i) = (v (ValueIdx.ix1 i) + v (ValueIdx.ix1 (fl4 i)) : EReal) := by
  unfold bf4
  rcases lane4 i with ⟨h, h1, h2⟩ | ⟨h, h1, h2⟩
  · exact addsel_at _ _ _ _ i _ (fun _ => cat_at (m := 12) (k := 4) (a := 4) v _ _ _ rfl i _ (fun _ => h2) (fun k => by omega)) (fun k => absurd h k)
  · exact addsel_at _ _ _ _ i _ (fun k => absurd k h) (fun _ => cat_at (m := 4) (k := 12) (a := 12) v _ _ _ rfl i _ (fun k => by omega) (fun _ => h2))

theorem bf8_at (v : FVec Ideal S16 .f32) (i : Fin 16) : bf8 (lane 8#32) v (ValueIdx.ix1 i) = (v (ValueIdx.ix1 i) + v (ValueIdx.ix1 (fl8 i)) : EReal) := by
  unfold bf8
  rcases lane8 i with ⟨h, h1, h2⟩ | ⟨h, h1, h2⟩
  · exact addsel_at _ _ _ _ i _ (fun _ => cat_at (m := 8) (k := 8) (a := 8) v _ _ _ rfl i _ (fun _ => h2) (fun k => by omega)) (fun k => absurd h k)
  · exact addsel_at _ _ _ _ i _ (fun k => absurd k h) (fun _ => cat_at (m := 8) (k := 8) (a := 8) v _ _ _ rfl i _ (fun k => by omega) (fun _ => h2))

/-- Four exchanges leave in every lane the sum of the sixteen. -/
theorem exch_sum {M : Type} [AddCommMonoid M] (u : Fin 16 → M) (i : Fin 16) :
    (((u i + u (fl1 i)) + (u (fl2 i) + u (fl1 (fl2 i)))) + ((u (fl4 i) + u (fl1 (fl4 i))) + (u (fl2 (fl4 i)) + u (fl1 (fl2 (fl4 i))))))
      + (((u (fl8 i) + u (fl1 (fl8 i))) + (u (fl2 (fl8 i)) + u (fl1 (fl2 (fl8 i))))) + ((u (fl4 (fl8 i)) + u (fl1 (fl4 (fl8 i)))) + (u (fl2 (fl4 (fl8 i))) + u (fl1 (fl2 (fl4 (fl8 i)))))))
      = ∑ j : Fin 16, u j := by
  have e : ∀ i : Fin 16, Finset.univ = ({i, fl1 i, fl2 i, fl1 (fl2 i), fl4 i, fl1 (fl4 i), fl2 (fl4 i), fl1 (fl2 (fl4 i)),
      fl8 i, fl1 (fl8 i), fl2 (fl8 i), fl1 (fl2 (fl8 i)), fl4 (fl8 i), fl1 (fl4 (fl8 i)), fl2 (fl4 (fl8 i)), fl1 (fl2 (fl4 (fl8 i)))} : Multiset (Fin 16)).toFinset := by decide
  have e' : ∀ i : Fin 16, ({i, fl1 i, fl2 i, fl1 (fl2 i), fl4 i, fl1 (fl4 i), fl2 (fl4 i), fl1 (fl2 (fl4 i)),
      fl8 i, fl1 (fl8 i), fl2 (fl8 i), fl1 (fl2 (fl8 i)), fl4 (fl8 i), fl1 (fl4 (fl8 i)), fl2 (fl4 (fl8 i)), fl1 (fl2 (fl4 (fl8 i)))} : Multiset (Fin 16)) = Finset.univ.val := by decide
  change _ = (Finset.univ.val.map u).sum
  rw [← e' i]
  simp only [Multiset.insert_eq_cons, Multiset.map_cons, Multiset.map_singleton, Multiset.sum_cons, Multiset.sum_singleton]
  simp only [add_assoc]

theorem sum16 (v : FVec Ideal S16 .f32) (i : Fin 16) :
    bf8 (lane 8#32) (bf4 (lane 4#32) (bf2 (lane 2#32) (bf1 (lane 1#32) v))) (ValueIdx.ix1 i) = (∑ j : Fin 16, (v (ValueIdx.ix1 j) : EReal) : EReal) := by
  refine Eq.trans ?_ (exch_sum (fun j => (v (ValueIdx.ix1 j) : EReal)) i)
  rw [bf8_at, bf4_at, bf4_at, bf2_at, bf2_at, bf2_at, bf2_at, bf1_at, bf1_at, bf1_at, bf1_at, bf1_at, bf1_at, bf1_at, bf1_at]

theorem sum_blocks {M : Type} [AddCommMonoid M] (g : ℕ → M) (m : ℕ) :
    ∑ k ∈ Finset.range (m * 16), g k = ∑ j ∈ Finset.range m, ∑ n ∈ Finset.range 16, g (16 * j + n) := by
  induction m with
  | zero => simp
  | succ m ih => rw [Nat.succ_mul, Finset.sum_range_add, ih, Finset.sum_range_succ (fun j => ∑ n ∈ Finset.range 16, g (16 * j + n)) m, Nat.mul_comm m 16]

section Real

variable (Wv X : ℕ → Ideal .f32) (x w : ℕ → ℝ) (hX : ∀ n, X n = ((x n : ℝ) : EReal)) (hW : ∀ k, k < 128 → Wv k = ((w k : ℝ) : EReal))
include hX hW

theorem dot8_at (r : ℕ) (n : Fin 16) :
    dot8 (rowv X r) (wvecs Wv) (ValueIdx.ix1 n) = ((∑ j ∈ Finset.range 8, x (r * 128 + (16 * j + n.val)) * w (16 * j + n.val) : ℝ) : EReal) := by
  have hn := n.isLt
  have hp : ∀ j : Fin 8, mulf (rowv X r j) (wvec Wv j.val) (ValueIdx.ix1 n) = ((x (r * 128 + (16 * j.val + n.val)) * w (16 * j.val + n.val) : ℝ) : EReal) := by
    intro j
    have hj := j.isLt
    have e1 : rowv X r j (ValueIdx.ix1 n) = ((x (r * 128 + (16 * j.val + n.val)) : ℝ) : EReal) := by
      rw [← Nat.add_assoc]; exact hX _
    have e2 : wvec Wv j.val (ValueIdx.ix1 n) = ((w (16 * j.val + n.val) : ℝ) : EReal) := hW (16 * j.val + n.val) (by omega)
    rw [EReal.coe_mul]
    exact mulf_at _ _ _ e1 e2
  have h0 := hp 0
  have h1 := hp 1
  have h2 := hp 2
  have h3 := hp 3
  have h4 := hp 4
  have h5 := hp 5
  have h6 := hp 6
  have h7 := hp 7
  change (((mulf (rowv X r 0) (wvec Wv (0 : Fin 8).val) (ValueIdx.ix1 n) + mulf (rowv X r 1) (wvec Wv (1 : Fin 8).val) (ValueIdx.ix1 n) : EReal)
      + (mulf (rowv X r 2) (wvec Wv (2 : Fin 8).val) (ValueIdx.ix1 n) + mulf (rowv X r 3) (wvec Wv (3 : Fin 8).val) (ValueIdx.ix1 n) : EReal))
    + ((mulf (rowv X r 4) (wvec Wv (4 : Fin 8).val) (ValueIdx.ix1 n) + mulf (rowv X r 5) (wvec Wv (5 : Fin 8).val) (ValueIdx.ix1 n) : EReal)
      + (mulf (rowv X r 6) (wvec Wv (6 : Fin 8).val) (ValueIdx.ix1 n) + mulf (rowv X r 7) (wvec Wv (7 : Fin 8).val) (ValueIdx.ix1 n) : EReal)) : EReal) = _
  rw [h0, h1, h2, h3, h4, h5, h6, h7]
  simp only [← EReal.coe_add]
  refine congrArg (fun a : ℝ => (a : EReal)) ?_
  simp only [Finset.sum_range_succ, Finset.sum_range_zero, zero_add]
  simp only [add_assoc]
  rfl

/-- Every lane holds the exponential of the row's leaky score. -/
theorem expw_at (r : ℕ) (i : Fin 16) : expw lanes (wvecs Wv) (rowv X r) (ValueIdx.ix1 i) = ((Real.exp (tau x w r) : ℝ) : EReal) := by
  have e : bf8 (lane 8#32) (bf4 (lane 4#32) (bf2 (lane 2#32) (bf1 (lane 1#32) (dot8 (rowv X r) (wvecs Wv))))) (ValueIdx.ix1 i)
      = ((∑ k ∈ Finset.range 128, x (r * 128 + k) * w k : ℝ) : EReal) := by
    refine (sum16 _ i).trans ?_
    rw [Finset.sum_congr rfl fun (j : Fin 16) _ => dot8_at Wv X x w hX hW r j, ← coe_sum,
      Fin.sum_univ_eq_sum_range (fun n => ∑ j ∈ Finset.range 8, x (r * 128 + (16 * j + n)) * w (16 * j + n)) 16, Finset.sum_comm]
    exact congrArg (fun a : ℝ => (a : EReal)) (sum_blocks (fun k => x (r * 128 + k) * w k) 8).symm
  change Ideal.exp (lk (bf8 (lane 8#32) (bf4 (lane 4#32) (bf2 (lane 2#32) (bf1 (lane 1#32) (dot8 (rowv X r) (wvecs Wv))))) (ValueIdx.ix1 i))) = _
  rw [e, lk_real]
  rfl

theorem sacc_succ (l : Fin 4 → IVec S16 1) (v : Fin 8 → FVec Ideal S16 .f32) (b n : ℕ) (j : Fin 8) :
    Sacc (accSt l v X b (n + 1)) j = addf (Sacc (accSt l v X b n) j) (mulf (expw l v (rowv X (o b + n))) (rowv X (o b + n) j)) := by
  match j with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

theorem sacc_at (b n : ℕ) (j : Fin 8) (i : Fin 16) :
    Sacc (accSt lanes (wvecs Wv) X b n) j (ValueIdx.ix1 i)
      = ((∑ t ∈ Finset.range n, Real.exp (tau x w (o b + t)) * x ((o b + t) * 128 + (16 * j.val + i.val)) : ℝ) : EReal) := by
  induction n with
  | zero =>
    have e : Sacc (accSt lanes (wvecs Wv) X b 0) j = zv := by
      match j with
      | ⟨0, _⟩ => rfl
      | ⟨1, _⟩ => rfl
      | ⟨2, _⟩ => rfl
      | ⟨3, _⟩ => rfl
      | ⟨4, _⟩ => rfl
      | ⟨5, _⟩ => rfl
      | ⟨6, _⟩ => rfl
      | ⟨7, _⟩ => rfl
    rw [e, Finset.sum_range_zero]
    exact Ideal.ofBits_zero_f32
  | succ n ih =>
    rw [sacc_succ Wv X x w hX hW, Finset.sum_range_succ, EReal.coe_add, EReal.coe_mul]
    have e1 : rowv X (o b + n) j (ValueIdx.ix1 i) = ((x ((o b + n) * 128 + (16 * j.val + i.val)) : ℝ) : EReal) := by
      rw [← Nat.add_assoc]; exact hX _
    have e2 := mulf_at _ _ _ (expw_at Wv X x w hX hW (o b + n) i) e1
    change (Sacc (accSt lanes (wvecs Wv) X b n) j (ValueIdx.ix1 i) + mulf (expw lanes (wvecs Wv) (rowv X (o b + n))) (rowv X (o b + n) j) (ValueIdx.ix1 i) : EReal) = _
    rw [ih, e2]

theorem sden_at (b n : ℕ) (i : Fin 16) :
    Sden (accSt lanes (wvecs Wv) X b n) (ValueIdx.ix1 i) = ((∑ t ∈ Finset.range n, Real.exp (tau x w (o b + t)) : ℝ) : EReal) := by
  induction n with
  | zero =>
    rw [Finset.sum_range_zero]
    exact Ideal.ofBits_zero_f32
  | succ n ih =>
    rw [Finset.sum_range_succ, EReal.coe_add]
    change (Sden (accSt lanes (wvecs Wv) X b n) (ValueIdx.ix1 i) + expw lanes (wvecs Wv) (rowv X (o b + n)) (ValueIdx.ix1 i) : EReal) = _
    rw [ih, expw_at Wv X x w hX hW]

omit hX hW

theorem rcp_at (den : FVec Ideal S16 .f32) (i : Fin 16) (D : ℝ) (h0 : 0 ≤ D) (h : den (ValueIdx.ix1 i) = ((D : ℝ) : EReal)) :
    rcp den (ValueIdx.ix1 i) = ((D⁻¹ : ℝ) : EReal) := by
  unfold rcp
  change Scalar.select (BitVec.ofBool (decide (Ideal.ofBits .f32 0x00000000#32 < (den (ValueIdx.ix1 i) : EReal))))
    (Ideal.div (Ideal.ofBits .f32 0x3F800000#32) (den (ValueIdx.ix1 i))) (Ideal.ofBits .f32 0x00000000#32) = _
  rw [h, Ideal.ofBits_zero_f32, Ideal.ofBits_one_f32]
  unfold Scalar.select
  by_cases hD : 0 < D
  · rw [if_pos (by rw [decide_eq_true (by exact_mod_cast hD)]; rfl)]
    unfold Ideal.div
    rw [if_neg (by exact_mod_cast hD.ne'), one_mul, ← EReal.coe_inv]
  · rw [if_neg (by rw [decide_eq_false (by exact_mod_cast hD)]; decide)]
    obtain rfl : D = 0 := le_antisymm (not_lt.1 hD) h0
    rw [inv_zero]; rfl

include hX hW

/-- The kernel's word for entry `y` of segment `b`. -/
theorem outw_val (b y : ℕ) (hy : y < 128) : outw Wv X (b * 128 + y) = ((val x w (tri b) b y : ℝ) : EReal) := by
  have hj : y / 16 < 8 := by omega
  have hi : y % 16 < 16 := by omega
  rw [outw_at Wv X b ⟨y / 16, hj⟩ (ValueIdx.ix1 ⟨y % 16, hi⟩) (by show b * 128 + y = b * 128 + 16 * (y / 16) + y % 16; omega)]
  have ey : 16 * (y / 16) + y % 16 = y := by omega
  have e1 := sacc_at Wv X x w hX hW b b ⟨y / 16, hj⟩ ⟨y % 16, hi⟩
  dsimp only at e1
  rw [ey] at e1
  have e2 := rcp_at _ ⟨y % 16, hi⟩ _ (Finset.sum_nonneg fun _ _ => (Real.exp_pos _).le) (sden_at Wv X x w hX hW b b ⟨y % 16, hi⟩)
  unfold rowOut
  refine (mulf_at _ _ _ e1 e2).trans ?_
  rw [← EReal.coe_mul, o_tri]
  rfl

end Real

end Cert.Proof

end
-- ==== Proof.Meet.lean ====
/-
  The kernel's result is the reference's, where the segment sizes are 0, 1, 2, … and the features and the weights are finite.
-/
module

public import proofs.«01_k».proof.Proof.Launch
public import proofs.«01_k».proof.Proof.KVal

@[expose] public section

set_option maxRecDepth 100000

noncomputable section

namespace Cert.Proof

open Cert.KernelIdeal Cert.KernelIdeal.Gen
open Idealize.ShloMosaic Idealize.ShloMosaic.ValueIdx

variable (m : (ℓ : Loc nD τ sig) → Buf (Elt Ideal) ℓ) (d : Dev nD)

/-- The features, the sizes and the weights as the kernel's arguments hold them. -/
abbrev argX : FVec Ideal S319600x128 .f32 := m ((SparseCore.T d).loc main_arg0)
abbrev argZ : IVec S800 32 := m ((SparseCore.T d).loc main_arg1)
abbrev argW : FVec Ideal S128x1 .f32 := m ((SparseCore.T d).loc main_arg2)

/-- The kernel's words of the features and of the weights. -/
abbrev featN : ℕ → Ideal .f32 := words (s := 40908800) (by norm_num) (featW m d)
abbrev weigN : ℕ → Ideal .f32 := words (s := 128) (by norm_num) (weigW m d)

theorem featN_at (r : Fin 319600) (k : Fin 128) (n : ℕ) (h : n % 40908800 = r.val * 128 + k.val) : featN m d n = argX m d (ValueIdx.ix2 r k) := by
  refine Eq.trans ?_ (Routing.cast21 (a := 319600) (b := 128) (n := 40908800) (argX m d) shapeCasts_S319600x128_S40908800 r k
    ⟨n % 40908800, Nat.mod_lt _ (by norm_num)⟩ h)
  refine congrArg (featW m d) (funext fun a => Fin.ext ?_)
  obtain rfl : a = 0 := Subsingleton.elim _ _
  rfl

theorem weigN_at (k : Fin 128) (n : ℕ) (h : n % 128 = k.val) : weigN m d n = argW m d (ValueIdx.ix2 k (0 : Fin 1)) := by
  refine Eq.trans ?_ (Routing.cast21 (a := 128) (b := 1) (n := 128) (argW m d) shapeCasts_S128x1_S128 k 0
    ⟨n % 128, Nat.mod_lt _ (by norm_num)⟩ (by show n % 128 = k.val * 1 + 0; omega))
  refine congrArg (weigW m d) (funext fun a => Fin.ext ?_)
  obtain rfl : a = 0 := Subsingleton.elim _ _
  rfl

/-- The kernel's result array is the reference's function of the kernel's arguments. -/
theorem meet (hZ : ∀ i : Fin 800, argZ m d (ValueIdx.ix1 i) = BitVec.ofNat 32 i.val)
    (hX : ∀ (r : Fin 319600) (k : Fin 128), ∃ a : ℝ, argX m d (ValueIdx.ix2 r k) = (a : EReal))
    (hW : ∀ k : Fin 128, ∃ a : ℝ, argW m d (ValueIdx.ix2 k (0 : Fin 1)) = (a : EReal)) :
    (res m d : FVec Ideal S800x128 .f32) = outR (argX m d) (argZ m d) (argW m d) := by
  let x : ℕ → ℝ := fun n => (featN m d n : EReal).toReal
  let w : ℕ → ℝ := fun n => (weigN m d n : EReal).toReal
  have hx : ∀ n, featN m d n = ((x n : ℝ) : EReal) := by
    intro n
    have hn : n % 40908800 < 40908800 := Nat.mod_lt _ (by norm_num)
    obtain ⟨a, ha⟩ := hX ⟨n % 40908800 / 128, by omega⟩ ⟨n % 40908800 % 128, by omega⟩
    have e := (featN_at m d ⟨n % 40908800 / 128, by omega⟩ ⟨n % 40908800 % 128, by omega⟩ n (by dsimp only; omega)).trans ha
    show featN m d n = (((featN m d n : EReal).toReal : ℝ) : EReal)
    rw [e, EReal.toReal_coe]
  have hw : ∀ n, weigN m d n = ((w n : ℝ) : EReal) := by
    intro n
    obtain ⟨a, ha⟩ := hW ⟨n % 128, by omega⟩
    have e := (weigN_at m d ⟨n % 128, by omega⟩ n rfl).trans ha
    show weigN m d n = (((weigN m d n : EReal).toReal : ℝ) : EReal)
    rw [e, EReal.toReal_coe]
  have hX' : ∀ (r : Fin 319600) (k : Fin 128), argX m d (ValueIdx.ix2 r k) = ((x (r.val * 128 + k.val) : ℝ) : EReal) := by
    intro r k
    have hr := r.isLt
    have hk := k.isLt
    rw [← hx]
    exact (featN_at m d r k _ (by omega)).symm
  have hW' : ∀ k : Fin 128, argW m d (ValueIdx.ix2 k (0 : Fin 1)) = ((w k.val : ℝ) : EReal) := by
    intro k
    have hk := k.isLt
    rw [← hw]
    exact (weigN_at m d k _ (by omega)).symm
  funext i
  obtain ⟨b, y, rfl⟩ : ∃ (b : Fin 800) (y : Fin 128), i = ValueIdx.ix2 b y := ⟨_, _, ValueIdx.eq_ix2 _⟩
  have hb := b.isLt
  have hy := y.isLt
  refine Eq.trans ?_ (outR_at (argX m d) (argZ m d) (argW m d) hZ x w hX' hW' b y).symm
  refine (Routing.cast12 (a := 800) (b := 128) (n := 102400) (resW m d) shapeCasts_S102400_S800x128 b y ⟨b.val * 128 + y.val, by omega⟩ rfl).trans ?_
  exact outw_val (weigN m d) (featN m d) x w hx (fun k _ => hw k) b.val y.val hy

end Cert.Proof

end
-- ==== Proof.Pre.lean ====
/-
  What the precondition says of the arguments: the segment sizes are 0, 1, 2, … and the features and the weights are finite.
-/
module

public import proofs.«01_k».proof.Pre_arange_sizes_finite
public import proofs.«01_k».proof.Proof.RScat
public import Idealize.ShloMosaic.Lib.ReduceAll
public import Idealize.ShloMosaic.Lib.ValueIdx

@[expose] public section

set_option maxRecDepth 100000

noncomputable section

namespace Cert.Proof

open Cert.Pre_arange_sizes_finite
open Idealize.ShloMosaic

/-- The shape relations of the precondition. -/
instance preFacts : Cert.Pre_arange_sizes_finite.Facts where
  reducesTo_S800_S_d0 := by decide
  h_S_ := by decide
  bcast_S_S319600x128 := by decide
  reducesTo_S319600x128_S_d0_1 := by decide
  bcast_S_S128x1 := by decide
  reducesTo_S128x1_S_d0_1 := by decide

theorem and_one {a b : BitVec 1} (h : IntOp.andi a b = 1#1) : a = 1#1 ∧ b = 1#1 := by
  revert h
  revert a b
  decide

/-- An extended real whose magnitude is below `+∞` is a real number. -/
theorem real_of_abs {s : Shape} (a b : FVec Ideal s .f32) (i : s.Idx) (hb : b i = (⊤ : EReal))
    (h : cmpf .olt (Host.absf a) b i = 1#1) : ∃ μ : ℝ, a i = (μ : EReal) := by
  change BitVec.ofBool (decide (max (a i : EReal) (-(a i : EReal)) < (b i : EReal))) = 1#1 at h
  rw [hb] at h
  have h1 : max (a i : EReal) (-(a i : EReal)) < ⊤ := by
    by_contra hn
    rw [decide_eq_false hn] at h
    exact absurd h (by decide)
  obtain ⟨h2, h3⟩ := max_lt_iff.1 h1
  refine ⟨(a i : EReal).toReal, (EReal.coe_toReal h2.ne ?_).symm⟩
  intro hbot
  rw [hbot, EReal.neg_bot] at h3
  exact lt_irrefl _ h3

theorem word_of_eq {s : Shape} (a b : IVec s 32) (i : s.Idx) (h : cmpi .eq a b i = 1#1) : a i = b i :=
  StableHlo.Predicate.cmpi_eq_iff.1 h

variable (X : FVec Ideal S319600x128 .f32) (Z : IVec S800 32) (Wt : FVec Ideal S128x1 .f32)

instance : Subsingleton S_.Idx := ⟨fun a b => funext fun k => k.elim0⟩

/-- The precondition as three statements on the arguments' elements. -/
theorem pre_open (h : fn (F := Ideal) X Z Wt = fun _ => 1#1) :
    (∀ i : Fin 800, Z (ValueIdx.ix1 i) = BitVec.ofNat 32 i.val)
      ∧ (∀ (r : Fin 319600) (k : Fin 128), ∃ a : ℝ, X (ValueIdx.ix2 r k) = (a : EReal))
      ∧ (∀ k : Fin 128, ∃ a : ℝ, Wt (ValueIdx.ix2 k (0 : Fin 1)) = (a : EReal)) := by
  have h0 := congrFun h (fun k => k.elim0)
  obtain ⟨h1, hw⟩ := and_one h0
  obtain ⟨hz, hx⟩ := and_one h1
  refine ⟨fun i => ?_, fun r k => ?_, fun k => ?_⟩
  · exact word_of_eq _ _ _ (Host.reduce_andi_all _ _ _ _ _ hz (ValueIdx.ix1 i))
  · exact real_of_abs _ _ _ inf_bits (Host.reduce_andi_all _ _ _ _ _ hx (ValueIdx.ix2 r k))
  · exact real_of_abs _ _ _ inf_bits (Host.reduce_andi_all _ _ _ _ _ hw (ValueIdx.ix2 k 0))

end Cert.Proof

end
-- ==== Proof.Alg.lean ====
/-
  The value claim: from arguments that satisfy the precondition the kernel and the reference end with one result.
-/
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.Meet
public import proofs.«01_k».proof.Proof.Pre

@[expose] public section

set_option maxHeartbeats 1000000
set_option maxRecDepth 100000

noncomputable section

namespace Cert.Proof

open Idealize.ShloMosaic Idealize.SL.Sem

/-- The reference's result, from arguments that are the kernel's, is the kernel's result. -/
theorem res_meet (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hp : Cert.Pre_arange_sizes_finite.fn (F := Ideal) (argX m c) (argZ m c) (argW m c) = fun _ => 1#1)
    (h0 : m' ((c.tc : Thread Cert.ReferenceIdeal.nD Cert.ReferenceIdeal.τ).loc Cert.ReferenceIdeal.main_arg0) = argX m c)
    (h1 : m' ((c.tc : Thread Cert.ReferenceIdeal.nD Cert.ReferenceIdeal.τ).loc Cert.ReferenceIdeal.main_arg1) = argZ m c)
    (h2 : m' ((c.tc : Thread Cert.ReferenceIdeal.nD Cert.ReferenceIdeal.τ).loc Cert.ReferenceIdeal.main_arg2) = argW m c) :
    Cert.ReferenceIdeal.Value.res_main_v54 m' c = (res m c : FVec Ideal Cert.KernelIdeal.S800x128 .f32) := by
  obtain ⟨hZ, hX, hW⟩ := pre_open (argX m c) (argZ m c) (argW m c) hp
  refine (res_eq m' c).trans ?_
  rw [h0, h1, h2]
  exact (meet m c hZ hX hW).symm

theorem algebraic_claim : Cert.algebraic_KernelIdeal_ReferenceIdeal_pre_arange_sizes_finite := fun m ρ m' ρ' hp hm =>
  ⟨fun c => res m c,
    (θ_run Cert.KernelIdeal.defs _ _).mono (fun _ h c => h.1 c) (run_main (F := Ideal) m ρ),
    (θ_run Cert.ReferenceIdeal.defs _ _).mono
      (fun r h c => ⟨(h c).1.trans (res_meet m m' c (hp c) (hm c).1 (hm c).2.1 (hm c).2.2), (h c).2⟩)
      (Cert.ReferenceIdeal.Value.run m' ρ')⟩

end Cert.Proof

end
-- ==== Proof.lean ====
/-
  The proof of the claim: every program runs to the end, keeps its arguments and leaves its semaphores at zero, and the
  kernel's result is the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Launch
public import proofs.«01_k».proof.Proof.Alg

@[expose] public section

set_option maxHeartbeats 4000000
set_option maxRecDepth 100000

noncomputable section

namespace Cert.Proof

open Idealize.ShloMosaic Idealize.SL.Sem

/-- The kernel over bits runs as over any scalar type. -/
theorem frame_kernel : Cert.quiescent_Kernel := fun m ρ _ =>
  (θ_run Cert.KernelIdeal.defs _ _).mono (fun _ h => ⟨fun c => (h.1 c).2, h.2⟩) (run_main (F := Bits) m ρ)

theorem frame_kernelIdeal : Cert.quiescent_KernelIdeal := fun m ρ _ =>
  (θ_run Cert.KernelIdeal.defs _ _).mono (fun _ h => ⟨fun c => (h.1 c).2, h.2⟩) (run_main (F := Ideal) m ρ)

theorem frame_kernelIdeal_pre : Cert.quiescent_KernelIdeal_pre_arange_sizes_finite := fun m ρ _ => frame_kernelIdeal m ρ trivial

/-- The reference has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem frame_reference_pre : Cert.quiescent_ReferenceIdeal_pre_arange_sizes_finite := fun m ρ _ => frame_reference m ρ trivial

theorem claim : Cert.Claim := ⟨Cert.Kernel.Gen.facts, Cert.KernelIdeal.Gen.facts, Cert.ReferenceIdeal.Gen.facts, preFacts,
  frame_kernel, frame_kernelIdeal, frame_kernelIdeal_pre, frame_reference, frame_reference_pre, trivial, algebraic_claim⟩

end Cert.Proof

end
